-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1Ideal_norm1_finite [hPre_norm1_finite : Cert.Pre_norm1_finite.Facts] (m : (ℓ : Loc Cert.Norm1Ideal.nD Cert.Norm1Ideal.τ Cert.Norm1Ideal.sig) → Buf (Elt Ideal) ℓ) : Prop :=
  ∀ c : Dev Cert.Norm1Ideal.nD,
    (Cert.Pre_norm1_finite.fn (F := Ideal) (m ((c.tc : Thread Cert.Norm1Ideal.nD Cert.Norm1Ideal.τ).loc Cert.Norm1Ideal.main_arg0)) (m ((c.tc : Thread Cert.Norm1Ideal.nD Cert.Norm1Ideal.τ).loc Cert.Norm1Ideal.main_arg1)) (m ((c.tc : Thread Cert.Norm1Ideal.nD Cert.Norm1Ideal.τ).loc Cert.Norm1Ideal.main_arg2)) (m ((c.tc : Thread Cert.Norm1Ideal.nD Cert.Norm1Ideal.τ).loc Cert.Norm1Ideal.main_arg3)) (m ((c.tc : Thread Cert.Norm1Ideal.nD Cert.Norm1Ideal.τ).loc Cert.Norm1Ideal.main_arg4)) (m ((c.tc : Thread Cert.Norm1Ideal.nD Cert.Norm1Ideal.τ).loc Cert.Norm1Ideal.main_arg5))) = (fun _ => 1#1)

def Pre_Norm1RefIdeal (m : (ℓ : Loc Cert.Norm1RefIdeal.nD Cert.Norm1RefIdeal.τ Cert.Norm1RefIdeal.sig) → Buf (Elt Ideal) ℓ) : Prop :=
  True

def Pre_Norm1RefIdeal_norm1_finite [hPre_norm1_finite : Cert.Pre_norm1_finite.Facts] (m : (ℓ : Loc Cert.Norm1RefIdeal.nD Cert.Norm1RefIdeal.τ Cert.Norm1RefIdeal.sig) → Buf (Elt Ideal) ℓ) : Prop :=
  ∀ c : Dev Cert.Norm1RefIdeal.nD,
    (Cert.Pre_norm1_finite.fn (F := Ideal) (m ((c.tc : Thread Cert.Norm1RefIdeal.nD Cert.Norm1RefIdeal.τ).loc Cert.Norm1RefIdeal.main_arg0)) (m ((c.tc : Thread Cert.Norm1RefIdeal.nD Cert.Norm1RefIdeal.τ).loc Cert.Norm1RefIdeal.main_arg1)) (m ((c.tc : Thread Cert.Norm1RefIdeal.nD Cert.Norm1RefIdeal.τ).loc Cert.Norm1RefIdeal.main_arg2)) (m ((c.tc : Thread Cert.Norm1RefIdeal.nD Cert.Norm1RefIdeal.τ).loc Cert.Norm1RefIdeal.main_arg3)) (m ((c.tc : Thread Cert.Norm1RefIdeal.nD Cert.Norm1RefIdeal.τ).loc Cert.Norm1RefIdeal.main_arg4)) (m ((c.tc : Thread Cert.Norm1RefIdeal.nD Cert.Norm1RefIdeal.τ).loc Cert.Norm1RefIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_fwd_finite [hPre_fwd_finite : Cert.Pre_fwd_finite.Facts] (m : (ℓ : Loc Cert.FwdIdeal.nD Cert.FwdIdeal.τ Cert.FwdIdeal.sig) → Buf (Elt Ideal) ℓ) : Prop :=
  ∀ c : Dev Cert.FwdIdeal.nD,
    (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_fwd_finite [hPre_fwd_finite : Cert.Pre_fwd_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4))) = (fun _ => 1#1)

def Pre_Rmsf (m : (ℓ : Loc Cert.Rmsf.nD Cert.Rmsf.τ Cert.Rmsf.sig) → Buf (Elt Bits) ℓ) : Prop :=
  True

def Pre_RmsfIdeal (m : (ℓ : Loc Cert.RmsfIdeal.nD Cert.RmsfIdeal.τ Cert.RmsfIdeal.sig) → Buf (Elt Ideal) ℓ) : Prop :=
  True

def Pre_RmsfRefIdeal (m : (ℓ : Loc Cert.RmsfRefIdeal.nD Cert.RmsfRefIdeal.τ Cert.RmsfRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Pmix (m : (ℓ : Loc Cert.Pmix.nD Cert.Pmix.τ Cert.Pmix.sig) → Buf (Elt Bits) ℓ) : Prop :=
  True

def Pre_PmixIdeal (m : (ℓ : Loc Cert.PmixIdeal.nD Cert.PmixIdeal.τ Cert.PmixIdeal.sig) → Buf (Elt Ideal) ℓ) : Prop :=
  True

def Pre_PmixRefIdeal (m : (ℓ : Loc Cert.PmixRefIdeal.nD Cert.PmixRefIdeal.τ Cert.PmixRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_win_finite [hPre_win_finite : Cert.Pre_win_finite.Facts] (m : (ℓ : Loc Cert.WinIdeal.nD Cert.WinIdeal.τ Cert.WinIdeal.sig) → Buf (Elt Ideal) ℓ) : Prop :=
  ∀ c : Dev Cert.WinIdeal.nD,
    (Cert.Pre_win_finite.fn (F := Ideal) (m ((c.tc : Thread Cert.WinIdeal.nD Cert.WinIdeal.τ).loc Cert.WinIdeal.main_arg0))) = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_win_finite [hPre_win_finite : Cert.Pre_win_finite.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_win_finite.fn (F := Ideal) (m ((c.tc : Thread Cert.WinRefIdeal.nD Cert.WinRefIdeal.τ).loc Cert.WinRefIdeal.main_arg0))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Zin (m : (ℓ : Loc Cert.Zin.nD Cert.Zin.τ Cert.Zin.sig) → Buf (Elt Bits) ℓ) : Prop :=
  True

def Pre_ZinIdeal (m : (ℓ : Loc Cert.ZinIdeal.nD Cert.ZinIdeal.τ Cert.ZinIdeal.sig) → Buf (Elt Ideal) ℓ) : Prop :=
  True

def Pre_ZinRefIdeal (m : (ℓ : Loc Cert.ZinRefIdeal.nD Cert.ZinRefIdeal.τ Cert.ZinRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Upt (m : (ℓ : Loc Cert.Upt.nD Cert.Upt.τ Cert.Upt.sig) → Buf (Elt Bits) ℓ) : Prop :=
  True

def Pre_UptIdeal (m : (ℓ : Loc Cert.UptIdeal.nD Cert.UptIdeal.τ Cert.UptIdeal.sig) → Buf (Elt Ideal) ℓ) : Prop :=
  True

def Pre_UptRefIdeal (m : (ℓ : Loc Cert.UptRefIdeal.nD Cert.UptRefIdeal.τ Cert.UptRefIdeal.sig) → Buf (Elt Ideal) ℓ) : Prop :=
  True

def Pre_Dwgu (m : (ℓ : Loc Cert.Dwgu.nD Cert.Dwgu.τ Cert.Dwgu.sig) → Buf (Elt Bits) ℓ) : Prop :=
  True

def Pre_DwguIdeal (m : (ℓ : Loc Cert.DwguIdeal.nD Cert.DwguIdeal.τ Cert.DwguIdeal.sig) → Buf (Elt Ideal) ℓ) : Prop :=
  True

def Pre_DwguRefIdeal (m : (ℓ : Loc Cert.DwguRefIdeal.nD Cert.DwguRefIdeal.τ Cert.DwguRefIdeal.sig) → Buf (Elt Ideal) ℓ) : Prop :=
  True

def Pre_Tn (m : (ℓ : Loc Cert.Tn.nD Cert.Tn.τ Cert.Tn.sig) → Buf (Elt Bits) ℓ) : Prop :=
  True

def Pre_TnIdeal (m : (ℓ : Loc Cert.TnIdeal.nD Cert.TnIdeal.τ Cert.TnIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def Pre_Updw (m : (ℓ : Loc Cert.Updw.nD Cert.Updw.τ Cert.Updw.sig) → Buf (Elt Bits) ℓ) : Prop :=
  True

def Pre_UpdwIdeal (m : (ℓ : Loc Cert.UpdwIdeal.nD Cert.UpdwIdeal.τ Cert.UpdwIdeal.sig) → Buf (Elt Ideal) ℓ) : Prop :=
  True

def Pre_UpdwRefIdeal (m : (ℓ : Loc Cert.UpdwRefIdeal.nD Cert.UpdwRefIdeal.τ Cert.UpdwRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Wada (m : (ℓ : Loc Cert.Wada.nD Cert.Wada.τ Cert.Wada.sig) → Buf (Elt Bits) ℓ) : Prop :=
  True

def Pre_WadaIdeal (m : (ℓ : Loc Cert.WadaIdeal.nD Cert.WadaIdeal.τ Cert.WadaIdeal.sig) → Buf (Elt Ideal) ℓ) : Prop :=
  True

def Pre_WadaRefIdeal (m : (ℓ : Loc Cert.WadaRefIdeal.nD Cert.WadaRefIdeal.τ Cert.WadaRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1)
      ∧ r.2.mem ((c.tc : Thread Cert.Norm1.nD Cert.Norm1.τ).loc Cert.Norm1.main_arg2) = m ((c.tc : Thread Cert.Norm1.nD Cert.Norm1.τ).loc Cert.Norm1.main_arg2)
      ∧ r.2.mem ((c.tc : Thread Cert.Norm1.nD Cert.Norm1.τ).loc Cert.Norm1.main_arg3) = m ((c.tc : Thread Cert.Norm1.nD Cert.Norm1.τ).loc Cert.Norm1.main_arg3)
      ∧ r.2.mem ((c.tc : Thread Cert.Norm1.nD Cert.Norm1.τ).loc Cert.Norm1.main_arg4) = m ((c.tc : Thread Cert.Norm1.nD Cert.Norm1.τ).loc Cert.Norm1.main_arg4)
      ∧ r.2.mem ((c.tc : Thread Cert.Norm1.nD Cert.Norm1.τ).loc Cert.Norm1.main_arg5) = m ((c.tc : Thread Cert.Norm1.nD Cert.Norm1.τ).loc Cert.Norm1.main_arg5))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
      ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5))
      ∧ r.2.sem = fun _ => 0)

def quiescent_Norm1Ideal_pre_norm1_finite [hNorm1Ideal : Cert.Norm1Ideal.Facts] [hPre_norm1_finite : Cert.Pre_norm1_finite.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal_norm1_finite m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
      ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
      ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
      ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
      ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4)
      ∧ r.2.mem ((c.tc : Thread Cert.Norm1RefIdeal.nD Cert.Norm1RefIdeal.τ).loc Cert.Norm1RefIdeal.main_arg5) = m ((c.tc : Thread Cert.Norm1RefIdeal.nD Cert.Norm1RefIdeal.τ).loc Cert.Norm1RefIdeal.main_arg5))
      ∧ r.2.sem = fun _ => 0)

def quiescent_Norm1RefIdeal_pre_norm1_finite [hNorm1RefIdeal : Cert.Norm1RefIdeal.Facts] [hPre_norm1_finite : Cert.Pre_norm1_finite.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal_norm1_finite m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1)
      ∧ r.2.mem ((c.tc : Thread Cert.Norm1RefIdeal.nD Cert.Norm1RefIdeal.τ).loc Cert.Norm1RefIdeal.main_arg2) = m ((c.tc : Thread Cert.Norm1RefIdeal.nD Cert.Norm1RefIdeal.τ).loc Cert.Norm1RefIdeal.main_arg2)
      ∧ r.2.mem ((c.tc : Thread Cert.Norm1RefIdeal.nD Cert.Norm1RefIdeal.τ).loc Cert.Norm1RefIdeal.main_arg3) = m ((c.tc : Thread Cert.Norm1RefIdeal.nD Cert.Norm1RefIdeal.τ).loc Cert.Norm1RefIdeal.main_arg3)
      ∧ r.2.mem ((c.tc : Thread Cert.Norm1RefIdeal.nD Cert.Norm1RefIdeal.τ).loc Cert.Norm1RefIdeal.main_arg4) = m ((c.tc : Thread Cert.Norm1RefIdeal.nD Cert.Norm1RefIdeal.τ).loc Cert.Norm1RefIdeal.main_arg4)
      ∧ r.2.mem ((c.tc : Thread Cert.Norm1RefIdeal.nD Cert.Norm1RefIdeal.τ).loc Cert.Norm1RefIdeal.main_arg5) = m ((c.tc : Thread Cert.Norm1RefIdeal.nD Cert.Norm1RefIdeal.τ).loc Cert.Norm1RefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdIdeal_pre_fwd_finite [hFwdIdeal : Cert.FwdIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_fwd_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_FwdRefIdeal_pre_fwd_finite [hFwdRefIdeal : Cert.FwdRefIdeal.Facts] [hPre_fwd_finite : Cert.Pre_fwd_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_fwd_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_Rmsf [hRmsf : Cert.Rmsf.Facts] : Prop :=
  ∀ (m : (ℓ : Loc Cert.Rmsf.nD Cert.Rmsf.τ Cert.Rmsf.sig) → Buf (Elt Bits) ℓ) (g : Dev Cert.Rmsf.nD → PrngReg), Pre_Rmsf m →
    θ_run (Cert.Rmsf.defs (F := Bits)) (onTc (τ := Cert.Rmsf.τ) (Cert.Rmsf.main (F := Bits))) ⟨m, fun _ => 0, g⟩ (fun r => (∀ c : Dev Cert.Rmsf.nD,
      r.2.mem ((c.tc : Thread Cert.Rmsf.nD Cert.Rmsf.τ).loc Cert.Rmsf.main_arg0) = m ((c.tc : Thread Cert.Rmsf.nD Cert.Rmsf.τ).loc Cert.Rmsf.main_arg0)
      ∧ r.2.mem ((c.tc : Thread Cert.Rmsf.nD Cert.Rmsf.τ).loc Cert.Rmsf.main_arg1) = m ((c.tc : Thread Cert.Rmsf.nD Cert.Rmsf.τ).loc Cert.Rmsf.main_arg1)
      ∧ r.2.mem ((c.tc : Thread Cert.Rmsf.nD Cert.Rmsf.τ).loc Cert.Rmsf.main_arg2) = m ((c.tc : Thread Cert.Rmsf.nD Cert.Rmsf.τ).loc Cert.Rmsf.main_arg2)
      ∧ r.2.mem ((c.tc : Thread Cert.Rmsf.nD Cert.Rmsf.τ).loc Cert.Rmsf.main_arg3) = m ((c.tc : Thread Cert.Rmsf.nD Cert.Rmsf.τ).loc Cert.Rmsf.main_arg3))
      ∧ r.2.sem = fun _ => 0)

def quiescent_RmsfIdeal [hRmsfIdeal : Cert.RmsfIdeal.Facts] : Prop :=
  ∀ (m : (ℓ : Loc Cert.RmsfIdeal.nD Cert.RmsfIdeal.τ Cert.RmsfIdeal.sig) → Buf (Elt Ideal) ℓ) (g : Dev Cert.RmsfIdeal.nD → PrngReg), Pre_RmsfIdeal m →
    θ_run (Cert.RmsfIdeal.defs (F := Ideal)) (onTc (τ := Cert.RmsfIdeal.τ) (Cert.RmsfIdeal.main (F := Ideal))) ⟨m, fun _ => 0, g⟩ (fun r => (∀ c : Dev Cert.RmsfIdeal.nD,
      r.2.mem ((c.tc : Thread Cert.RmsfIdeal.nD Cert.RmsfIdeal.τ).loc Cert.RmsfIdeal.main_arg0) = m ((c.tc : Thread Cert.RmsfIdeal.nD Cert.RmsfIdeal.τ).loc Cert.RmsfIdeal.main_arg0)
      ∧ r.2.mem ((c.tc : Thread Cert.RmsfIdeal.nD Cert.RmsfIdeal.τ).loc Cert.RmsfIdeal.main_arg1) = m ((c.tc : Thread Cert.RmsfIdeal.nD Cert.RmsfIdeal.τ).loc Cert.RmsfIdeal.main_arg1)
      ∧ r.2.mem ((c.tc : Thread Cert.RmsfIdeal.nD Cert.RmsfIdeal.τ).loc Cert.RmsfIdeal.main_arg2) = m ((c.tc : Thread Cert.RmsfIdeal.nD Cert.RmsfIdeal.τ).loc Cert.RmsfIdeal.main_arg2)
      ∧ r.2.mem ((c.tc : Thread Cert.RmsfIdeal.nD Cert.RmsfIdeal.τ).loc Cert.RmsfIdeal.main_arg3) = m ((c.tc : Thread Cert.RmsfIdeal.nD Cert.RmsfIdeal.τ).loc Cert.RmsfIdeal.main_arg3))
      ∧ r.2.sem = fun _ => 0)

def quiescent_RmsfRefIdeal [hRmsfRefIdeal : Cert.RmsfRefIdeal.Facts] : Prop :=
  ∀ (m : (ℓ : Loc Cert.RmsfRefIdeal.nD Cert.RmsfRefIdeal.τ Cert.RmsfRefIdeal.sig) → Buf (Elt Ideal) ℓ) (g : Dev Cert.RmsfRefIdeal.nD → PrngReg), Pre_RmsfRefIdeal m →
    θ_run (Cert.RmsfRefIdeal.defs (F := Ideal)) (onTc (τ := Cert.RmsfRefIdeal.τ) (Cert.RmsfRefIdeal.main (F := Ideal))) ⟨m, fun _ => 0, g⟩ (fun r => (∀ c : Dev Cert.RmsfRefIdeal.nD,
      r.2.mem ((c.tc : Thread Cert.RmsfRefIdeal.nD Cert.RmsfRefIdeal.τ).loc Cert.RmsfRefIdeal.main_arg0) = m ((c.tc : Thread Cert.RmsfRefIdeal.nD Cert.RmsfRefIdeal.τ).loc Cert.RmsfRefIdeal.main_arg0)
      ∧ r.2.mem ((c.tc : Thread Cert.RmsfRefIdeal.nD Cert.RmsfRefIdeal.τ).loc Cert.RmsfRefIdeal.main_arg1) = m ((c.tc : Thread Cert.RmsfRefIdeal.nD Cert.RmsfRefIdeal.τ).loc Cert.RmsfRefIdeal.main_arg1)
      ∧ r.2.mem ((c.tc : Thread Cert.RmsfRefIdeal.nD Cert.RmsfRefIdeal.τ).loc Cert.RmsfRefIdeal.main_arg2) = m ((c.tc : Thread Cert.RmsfRefIdeal.nD Cert.RmsfRefIdeal.τ).loc Cert.RmsfRefIdeal.main_arg2)
      ∧ r.2.mem ((c.tc : Thread Cert.RmsfRefIdeal.nD Cert.RmsfRefIdeal.τ).loc Cert.RmsfRefIdeal.main_arg3) = m ((c.tc : Thread Cert.RmsfRefIdeal.nD Cert.RmsfRefIdeal.τ).loc Cert.RmsfRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Pmix [hPmix : Cert.Pmix.Facts] : Prop :=
  ∀ (m : (ℓ : Loc Cert.Pmix.nD Cert.Pmix.τ Cert.Pmix.sig) → Buf (Elt Bits) ℓ) (g : Dev Cert.Pmix.nD → PrngReg), Pre_Pmix m →
    θ_run (Cert.Pmix.defs (F := Bits)) (onTc (τ := Cert.Pmix.τ) (Cert.Pmix.main (F := Bits))) ⟨m, fun _ => 0, g⟩ (fun r => (∀ c : Dev Cert.Pmix.nD,
      r.2.mem ((c.tc : Thread Cert.Pmix.nD Cert.Pmix.τ).loc Cert.Pmix.main_arg0) = m ((c.tc : Thread Cert.Pmix.nD Cert.Pmix.τ).loc Cert.Pmix.main_arg0)
      ∧ r.2.mem ((c.tc : Thread Cert.Pmix.nD Cert.Pmix.τ).loc Cert.Pmix.main_arg1) = m ((c.tc : Thread Cert.Pmix.nD Cert.Pmix.τ).loc Cert.Pmix.main_arg1)
      ∧ r.2.mem ((c.tc : Thread Cert.Pmix.nD Cert.Pmix.τ).loc Cert.Pmix.main_arg2) = m ((c.tc : Thread Cert.Pmix.nD Cert.Pmix.τ).loc Cert.Pmix.main_arg2))
      ∧ r.2.sem = fun _ => 0)

def quiescent_PmixIdeal [hPmixIdeal : Cert.PmixIdeal.Facts] : Prop :=
  ∀ (m : (ℓ : Loc Cert.PmixIdeal.nD Cert.PmixIdeal.τ Cert.PmixIdeal.sig) → Buf (Elt Ideal) ℓ) (g : Dev Cert.PmixIdeal.nD → PrngReg), Pre_PmixIdeal m →
    θ_run (Cert.PmixIdeal.defs (F := Ideal)) (onTc (τ := Cert.PmixIdeal.τ) (Cert.PmixIdeal.main (F := Ideal))) ⟨m, fun _ => 0, g⟩ (fun r => (∀ c : Dev Cert.PmixIdeal.nD,
      r.2.mem ((c.tc : Thread Cert.PmixIdeal.nD Cert.PmixIdeal.τ).loc Cert.PmixIdeal.main_arg0) = m ((c.tc : Thread Cert.PmixIdeal.nD Cert.PmixIdeal.τ).loc Cert.PmixIdeal.main_arg0)
      ∧ r.2.mem ((c.tc : Thread Cert.PmixIdeal.nD Cert.PmixIdeal.τ).loc Cert.PmixIdeal.main_arg1) = m ((c.tc : Thread Cert.PmixIdeal.nD Cert.PmixIdeal.τ).loc Cert.PmixIdeal.main_arg1)
      ∧ r.2.mem ((c.tc : Thread Cert.PmixIdeal.nD Cert.PmixIdeal.τ).loc Cert.PmixIdeal.main_arg2) = m ((c.tc : Thread Cert.PmixIdeal.nD Cert.PmixIdeal.τ).loc Cert.PmixIdeal.main_arg2))
      ∧ r.2.sem = fun _ => 0)

def quiescent_PmixRefIdeal [hPmixRefIdeal : Cert.PmixRefIdeal.Facts] : Prop :=
  ∀ (m : (ℓ : Loc Cert.PmixRefIdeal.nD Cert.PmixRefIdeal.τ Cert.PmixRefIdeal.sig) → Buf (Elt Ideal) ℓ) (g : Dev Cert.PmixRefIdeal.nD → PrngReg), Pre_PmixRefIdeal m →
    θ_run (Cert.PmixRefIdeal.defs (F := Ideal)) (onTc (τ := Cert.PmixRefIdeal.τ) (Cert.PmixRefIdeal.main (F := Ideal))) ⟨m, fun _ => 0, g⟩ (fun r => (∀ c : Dev Cert.PmixRefIdeal.nD,
      r.2.mem ((c.tc : Thread Cert.PmixRefIdeal.nD Cert.PmixRefIdeal.τ).loc Cert.PmixRefIdeal.main_arg0) = m ((c.tc : Thread Cert.PmixRefIdeal.nD Cert.PmixRefIdeal.τ).loc Cert.PmixRefIdeal.main_arg0)
      ∧ r.2.mem ((c.tc : Thread Cert.PmixRefIdeal.nD Cert.PmixRefIdeal.τ).loc Cert.PmixRefIdeal.main_arg1) = m ((c.tc : Thread Cert.PmixRefIdeal.nD Cert.PmixRefIdeal.τ).loc Cert.PmixRefIdeal.main_arg1)
      ∧ r.2.mem ((c.tc : Thread Cert.PmixRefIdeal.nD Cert.PmixRefIdeal.τ).loc Cert.PmixRefIdeal.main_arg2) = m ((c.tc : Thread Cert.PmixRefIdeal.nD Cert.PmixRefIdeal.τ).loc Cert.PmixRefIdeal.main_arg2))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0))
      ∧ r.2.sem = fun _ => 0)

def quiescent_WinIdeal_pre_win_finite [hWinIdeal : Cert.WinIdeal.Facts] [hPre_win_finite : Cert.Pre_win_finite.Facts] : Prop :=
  ∀ (m : (ℓ : Loc Cert.WinIdeal.nD Cert.WinIdeal.τ Cert.WinIdeal.sig) → Buf (Elt Ideal) ℓ) (g : Dev Cert.WinIdeal.nD → PrngReg), Pre_WinIdeal_win_finite m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0))
      ∧ r.2.sem = fun _ => 0)

def quiescent_WinRefIdeal_pre_win_finite [hWinRefIdeal : Cert.WinRefIdeal.Facts] [hPre_win_finite : Cert.Pre_win_finite.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_win_finite m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Zin [hZin : Cert.Zin.Facts] : Prop :=
  ∀ (m : (ℓ : Loc Cert.Zin.nD Cert.Zin.τ Cert.Zin.sig) → Buf (Elt Bits) ℓ) (g : Dev Cert.Zin.nD → PrngReg), Pre_Zin m →
    θ_run (Cert.Zin.defs (F := Bits)) (onTc (τ := Cert.Zin.τ) (Cert.Zin.main (F := Bits))) ⟨m, fun _ => 0, g⟩ (fun r => (∀ c : Dev Cert.Zin.nD,
      r.2.mem ((c.tc : Thread Cert.Zin.nD Cert.Zin.τ).loc Cert.Zin.main_arg0) = m ((c.tc : Thread Cert.Zin.nD Cert.Zin.τ).loc Cert.Zin.main_arg0)
      ∧ r.2.mem ((c.tc : Thread Cert.Zin.nD Cert.Zin.τ).loc Cert.Zin.main_arg1) = m ((c.tc : Thread Cert.Zin.nD Cert.Zin.τ).loc Cert.Zin.main_arg1))
      ∧ r.2.sem = fun _ => 0)

def quiescent_ZinIdeal [hZinIdeal : Cert.ZinIdeal.Facts] : Prop :=
  ∀ (m : (ℓ : Loc Cert.ZinIdeal.nD Cert.ZinIdeal.τ Cert.ZinIdeal.sig) → Buf (Elt Ideal) ℓ) (g : Dev Cert.ZinIdeal.nD → PrngReg), Pre_ZinIdeal m →
    θ_run (Cert.ZinIdeal.defs (F := Ideal)) (onTc (τ := Cert.ZinIdeal.τ) (Cert.ZinIdeal.main (F := Ideal))) ⟨m, fun _ => 0, g⟩ (fun r => (∀ c : Dev Cert.ZinIdeal.nD,
      r.2.mem ((c.tc : Thread Cert.ZinIdeal.nD Cert.ZinIdeal.τ).loc Cert.ZinIdeal.main_arg0) = m ((c.tc : Thread Cert.ZinIdeal.nD Cert.ZinIdeal.τ).loc Cert.ZinIdeal.main_arg0)
      ∧ r.2.mem ((c.tc : Thread Cert.ZinIdeal.nD Cert.ZinIdeal.τ).loc Cert.ZinIdeal.main_arg1) = m ((c.tc : Thread Cert.ZinIdeal.nD Cert.ZinIdeal.τ).loc Cert.ZinIdeal.main_arg1))
      ∧ r.2.sem = fun _ => 0)

def quiescent_ZinRefIdeal [hZinRefIdeal : Cert.ZinRefIdeal.Facts] : Prop :=
  ∀ (m : (ℓ : Loc Cert.ZinRefIdeal.nD Cert.ZinRefIdeal.τ Cert.ZinRefIdeal.sig) → Buf (Elt Ideal) ℓ) (g : Dev Cert.ZinRefIdeal.nD → PrngReg), Pre_ZinRefIdeal m →
    θ_run (Cert.ZinRefIdeal.defs (F := Ideal)) (onTc (τ := Cert.ZinRefIdeal.τ) (Cert.ZinRefIdeal.main (F := Ideal))) ⟨m, fun _ => 0, g⟩ (fun r => (∀ c : Dev Cert.ZinRefIdeal.nD,
      r.2.mem ((c.tc : Thread Cert.ZinRefIdeal.nD Cert.ZinRefIdeal.τ).loc Cert.ZinRefIdeal.main_arg0) = m ((c.tc : Thread Cert.ZinRefIdeal.nD Cert.ZinRefIdeal.τ).loc Cert.ZinRefIdeal.main_arg0)
      ∧ r.2.mem ((c.tc : Thread Cert.ZinRefIdeal.nD Cert.ZinRefIdeal.τ).loc Cert.ZinRefIdeal.main_arg1) = m ((c.tc : Thread Cert.ZinRefIdeal.nD Cert.ZinRefIdeal.τ).loc Cert.ZinRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Upt [hUpt : Cert.Upt.Facts] : Prop :=
  ∀ (m : (ℓ : Loc Cert.Upt.nD Cert.Upt.τ Cert.Upt.sig) → Buf (Elt Bits) ℓ) (g : Dev Cert.Upt.nD → PrngReg), Pre_Upt m →
    θ_run (Cert.Upt.defs (F := Bits)) (onTc (τ := Cert.Upt.τ) (Cert.Upt.main (F := Bits))) ⟨m, fun _ => 0, g⟩ (fun r => (∀ c : Dev Cert.Upt.nD,
      r.2.mem ((c.tc : Thread Cert.Upt.nD Cert.Upt.τ).loc Cert.Upt.main_arg0) = m ((c.tc : Thread Cert.Upt.nD Cert.Upt.τ).loc Cert.Upt.main_arg0)
      ∧ r.2.mem ((c.tc : Thread Cert.Upt.nD Cert.Upt.τ).loc Cert.Upt.main_arg1) = m ((c.tc : Thread Cert.Upt.nD Cert.Upt.τ).loc Cert.Upt.main_arg1))
      ∧ r.2.sem = fun _ => 0)

def quiescent_UptIdeal [hUptIdeal : Cert.UptIdeal.Facts] : Prop :=
  ∀ (m : (ℓ : Loc Cert.UptIdeal.nD Cert.UptIdeal.τ Cert.UptIdeal.sig) → Buf (Elt Ideal) ℓ) (g : Dev Cert.UptIdeal.nD → PrngReg), Pre_UptIdeal m →
    θ_run (Cert.UptIdeal.defs (F := Ideal)) (onTc (τ := Cert.UptIdeal.τ) (Cert.UptIdeal.main (F := Ideal))) ⟨m, fun _ => 0, g⟩ (fun r => (∀ c : Dev Cert.UptIdeal.nD,
      r.2.mem ((c.tc : Thread Cert.UptIdeal.nD Cert.UptIdeal.τ).loc Cert.UptIdeal.main_arg0) = m ((c.tc : Thread Cert.UptIdeal.nD Cert.UptIdeal.τ).loc Cert.UptIdeal.main_arg0)
      ∧ r.2.mem ((c.tc : Thread Cert.UptIdeal.nD Cert.UptIdeal.τ).loc Cert.UptIdeal.main_arg1) = m ((c.tc : Thread Cert.UptIdeal.nD Cert.UptIdeal.τ).loc Cert.UptIdeal.main_arg1))
      ∧ r.2.sem = fun _ => 0)

def quiescent_UptRefIdeal [hUptRefIdeal : Cert.UptRefIdeal.Facts] : Prop :=
  ∀ (m : (ℓ : Loc Cert.UptRefIdeal.nD Cert.UptRefIdeal.τ Cert.UptRefIdeal.sig) → Buf (Elt Ideal) ℓ) (g : Dev Cert.UptRefIdeal.nD → PrngReg), Pre_UptRefIdeal m →
    θ_run (Cert.UptRefIdeal.defs (F := Ideal)) (onTc (τ := Cert.UptRefIdeal.τ) (Cert.UptRefIdeal.main (F := Ideal))) ⟨m, fun _ => 0, g⟩ (fun r => (∀ c : Dev Cert.UptRefIdeal.nD,
      r.2.mem ((c.tc : Thread Cert.UptRefIdeal.nD Cert.UptRefIdeal.τ).loc Cert.UptRefIdeal.main_arg0) = m ((c.tc : Thread Cert.UptRefIdeal.nD Cert.UptRefIdeal.τ).loc Cert.UptRefIdeal.main_arg0)
      ∧ r.2.mem ((c.tc : Thread Cert.UptRefIdeal.nD Cert.UptRefIdeal.τ).loc Cert.UptRefIdeal.main_arg1) = m ((c.tc : Thread Cert.UptRefIdeal.nD Cert.UptRefIdeal.τ).loc Cert.UptRefIdeal.main_arg1))
      ∧ r.2.sem = fun _ => 0)

def quiescent_Dwgu [hDwgu : Cert.Dwgu.Facts] : Prop :=
  ∀ (m : (ℓ : Loc Cert.Dwgu.nD Cert.Dwgu.τ Cert.Dwgu.sig) → Buf (Elt Bits) ℓ) (g : Dev Cert.Dwgu.nD → PrngReg), Pre_Dwgu m →
    θ_run (Cert.Dwgu.defs (F := Bits)) (onTc (τ := Cert.Dwgu.τ) (Cert.Dwgu.main (F := Bits))) ⟨m, fun _ => 0, g⟩ (fun r => (∀ c : Dev Cert.Dwgu.nD,
      r.2.mem ((c.tc : Thread Cert.Dwgu.nD Cert.Dwgu.τ).loc Cert.Dwgu.main_arg0) = m ((c.tc : Thread Cert.Dwgu.nD Cert.Dwgu.τ).loc Cert.Dwgu.main_arg0)
      ∧ r.2.mem ((c.tc : Thread Cert.Dwgu.nD Cert.Dwgu.τ).loc Cert.Dwgu.main_arg1) = m ((c.tc : Thread Cert.Dwgu.nD Cert.Dwgu.τ).loc Cert.Dwgu.main_arg1))
      ∧ r.2.sem = fun _ => 0)

def quiescent_DwguIdeal [hDwguIdeal : Cert.DwguIdeal.Facts] : Prop :=
  ∀ (m : (ℓ : Loc Cert.DwguIdeal.nD Cert.DwguIdeal.τ Cert.DwguIdeal.sig) → Buf (Elt Ideal) ℓ) (g : Dev Cert.DwguIdeal.nD → PrngReg), Pre_DwguIdeal m →
    θ_run (Cert.DwguIdeal.defs (F := Ideal)) (onTc (τ := Cert.DwguIdeal.τ) (Cert.DwguIdeal.main (F := Ideal))) ⟨m, fun _ => 0, g⟩ (fun r => (∀ c : Dev Cert.DwguIdeal.nD,
      r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
      ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ r.2.sem = fun _ => 0)

def quiescent_DwguRefIdeal [hDwguRefIdeal : Cert.DwguRefIdeal.Facts] : Prop :=
  ∀ (m : (ℓ : Loc Cert.DwguRefIdeal.nD Cert.DwguRefIdeal.τ Cert.DwguRefIdeal.sig) → Buf (Elt Ideal) ℓ) (g : Dev Cert.DwguRefIdeal.nD → PrngReg), Pre_DwguRefIdeal m →
    θ_run (Cert.DwguRefIdeal.defs (F := Ideal)) (onTc (τ := Cert.DwguRefIdeal.τ) (Cert.DwguRefIdeal.main (F := Ideal))) ⟨m, fun _ => 0, g⟩ (fun r => (∀ c : Dev Cert.DwguRefIdeal.nD,
      r.2.mem ((c.tc : Thread Cert.DwguRefIdeal.nD Cert.DwguRefIdeal.τ).loc Cert.DwguRefIdeal.main_arg0) = m ((c.tc : Thread Cert.DwguRefIdeal.nD Cert.DwguRefIdeal.τ).loc Cert.DwguRefIdeal.main_arg0)
      ∧ r.2.mem ((c.tc : Thread Cert.DwguRefIdeal.nD Cert.DwguRefIdeal.τ).loc Cert.DwguRefIdeal.main_arg1) = m ((c.tc : Thread Cert.DwguRefIdeal.nD Cert.DwguRefIdeal.τ).loc Cert.DwguRefIdeal.main_arg1))
      ∧ r.2.sem = fun _ => 0)

def quiescent_Tn [hTn : Cert.Tn.Facts] : Prop :=
  ∀ (m : (ℓ : Loc Cert.Tn.nD Cert.Tn.τ Cert.Tn.sig) → Buf (Elt Bits) ℓ) (g : Dev Cert.Tn.nD → PrngReg), Pre_Tn m →
    θ_run (Cert.Tn.defs (F := Bits)) (onTc (τ := Cert.Tn.τ) (Cert.Tn.main (F := Bits))) ⟨m, fun _ => 0, g⟩ (fun r => (∀ c : Dev Cert.Tn.nD,
      r.2.mem ((c.tc : Thread Cert.Tn.nD Cert.Tn.τ).loc Cert.Tn.main_arg0) = m ((c.tc : Thread Cert.Tn.nD Cert.Tn.τ).loc Cert.Tn.main_arg0)
      ∧ r.2.mem ((c.tc : Thread Cert.Tn.nD Cert.Tn.τ).loc Cert.Tn.main_arg1) = m ((c.tc : Thread Cert.Tn.nD Cert.Tn.τ).loc Cert.Tn.main_arg1))
      ∧ r.2.sem = fun _ => 0)

def quiescent_TnIdeal [hTnIdeal : Cert.TnIdeal.Facts] : Prop :=
  ∀ (m : (ℓ : Loc Cert.TnIdeal.nD Cert.TnIdeal.τ Cert.TnIdeal.sig) → Buf (Elt Ideal) ℓ) (g : Dev Cert.TnIdeal.nD → PrngReg), Pre_TnIdeal m →
    θ_run (Cert.TnIdeal.defs (F := Ideal)) (onTc (τ := Cert.TnIdeal.τ) (Cert.TnIdeal.main (F := Ideal))) ⟨m, fun _ => 0, g⟩ (fun r => (∀ c : Dev Cert.TnIdeal.nD,
      r.2.mem ((c.tc : Thread Cert.TnIdeal.nD Cert.TnIdeal.τ).loc Cert.TnIdeal.main_arg0) = m ((c.tc : Thread Cert.TnIdeal.nD Cert.TnIdeal.τ).loc Cert.TnIdeal.main_arg0)
      ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1))
      ∧ r.2.sem = fun _ => 0)

def quiescent_Updw [hUpdw : Cert.Updw.Facts] : Prop :=
  ∀ (m : (ℓ : Loc Cert.Updw.nD Cert.Updw.τ Cert.Updw.sig) → Buf (Elt Bits) ℓ) (g : Dev Cert.Updw.nD → PrngReg), Pre_Updw m →
    θ_run (Cert.Updw.defs (F := Bits)) (onTc (τ := Cert.Updw.τ) (Cert.Updw.main (F := Bits))) ⟨m, fun _ => 0, g⟩ (fun r => (∀ c : Dev Cert.Updw.nD,
      r.2.mem ((c.tc : Thread Cert.Updw.nD Cert.Updw.τ).loc Cert.Updw.main_arg0) = m ((c.tc : Thread Cert.Updw.nD Cert.Updw.τ).loc Cert.Updw.main_arg0)
      ∧ r.2.mem ((c.tc : Thread Cert.Updw.nD Cert.Updw.τ).loc Cert.Updw.main_arg1) = m ((c.tc : Thread Cert.Updw.nD Cert.Updw.τ).loc Cert.Updw.main_arg1))
      ∧ r.2.sem = fun _ => 0)

def quiescent_UpdwIdeal [hUpdwIdeal : Cert.UpdwIdeal.Facts] : Prop :=
  ∀ (m : (ℓ : Loc Cert.UpdwIdeal.nD Cert.UpdwIdeal.τ Cert.UpdwIdeal.sig) → Buf (Elt Ideal) ℓ) (g : Dev Cert.UpdwIdeal.nD → PrngReg), Pre_UpdwIdeal m →
    θ_run (Cert.UpdwIdeal.defs (F := Ideal)) (onTc (τ := Cert.UpdwIdeal.τ) (Cert.UpdwIdeal.main (F := Ideal))) ⟨m, fun _ => 0, g⟩ (fun r => (∀ c : Dev Cert.UpdwIdeal.nD,
      r.2.mem ((c.tc : Thread Cert.UpdwIdeal.nD Cert.UpdwIdeal.τ).loc Cert.UpdwIdeal.main_arg0) = m ((c.tc : Thread Cert.UpdwIdeal.nD Cert.UpdwIdeal.τ).loc Cert.UpdwIdeal.main_arg0)
      ∧ r.2.mem ((c.tc : Thread Cert.UpdwIdeal.nD Cert.UpdwIdeal.τ).loc Cert.UpdwIdeal.main_arg1) = m ((c.tc : Thread Cert.UpdwIdeal.nD Cert.UpdwIdeal.τ).loc Cert.UpdwIdeal.main_arg1))
      ∧ r.2.sem = fun _ => 0)

def quiescent_UpdwRefIdeal [hUpdwRefIdeal : Cert.UpdwRefIdeal.Facts] : Prop :=
  ∀ (m : (ℓ : Loc Cert.UpdwRefIdeal.nD Cert.UpdwRefIdeal.τ Cert.UpdwRefIdeal.sig) → Buf (Elt Ideal) ℓ) (g : Dev Cert.UpdwRefIdeal.nD → PrngReg), Pre_UpdwRefIdeal m →
    θ_run (Cert.UpdwRefIdeal.defs (F := Ideal)) (onTc (τ := Cert.UpdwRefIdeal.τ) (Cert.UpdwRefIdeal.main (F := Ideal))) ⟨m, fun _ => 0, g⟩ (fun r => (∀ c : Dev Cert.UpdwRefIdeal.nD,
      r.2.mem ((c.tc : Thread Cert.UpdwRefIdeal.nD Cert.UpdwRefIdeal.τ).loc Cert.UpdwRefIdeal.main_arg0) = m ((c.tc : Thread Cert.UpdwRefIdeal.nD Cert.UpdwRefIdeal.τ).loc Cert.UpdwRefIdeal.main_arg0)
      ∧ r.2.mem ((c.tc : Thread Cert.UpdwRefIdeal.nD Cert.UpdwRefIdeal.τ).loc Cert.UpdwRefIdeal.main_arg1) = m ((c.tc : Thread Cert.UpdwRefIdeal.nD Cert.UpdwRefIdeal.τ).loc Cert.UpdwRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Wada [hWada : Cert.Wada.Facts] : Prop :=
  ∀ (m : (ℓ : Loc Cert.Wada.nD Cert.Wada.τ Cert.Wada.sig) → Buf (Elt Bits) ℓ) (g : Dev Cert.Wada.nD → PrngReg), Pre_Wada m →
    θ_run (Cert.Wada.defs (F := Bits)) (onTc (τ := Cert.Wada.τ) (Cert.Wada.main (F := Bits))) ⟨m, fun _ => 0, g⟩ (fun r => (∀ c : Dev Cert.Wada.nD,
      r.2.mem ((c.tc : Thread Cert.Wada.nD Cert.Wada.τ).loc Cert.Wada.main_arg0) = m ((c.tc : Thread Cert.Wada.nD Cert.Wada.τ).loc Cert.Wada.main_arg0)
      ∧ r.2.mem ((c.tc : Thread Cert.Wada.nD Cert.Wada.τ).loc Cert.Wada.main_arg1) = m ((c.tc : Thread Cert.Wada.nD Cert.Wada.τ).loc Cert.Wada.main_arg1)
      ∧ r.2.mem ((c.tc : Thread Cert.Wada.nD Cert.Wada.τ).loc Cert.Wada.main_arg2) = m ((c.tc : Thread Cert.Wada.nD Cert.Wada.τ).loc Cert.Wada.main_arg2)
      ∧ r.2.mem ((c.tc : Thread Cert.Wada.nD Cert.Wada.τ).loc Cert.Wada.main_arg3) = m ((c.tc : Thread Cert.Wada.nD Cert.Wada.τ).loc Cert.Wada.main_arg3)
      ∧ r.2.mem ((c.tc : Thread Cert.Wada.nD Cert.Wada.τ).loc Cert.Wada.main_arg4) = m ((c.tc : Thread Cert.Wada.nD Cert.Wada.τ).loc Cert.Wada.main_arg4))
      ∧ r.2.sem = fun _ => 0)

def quiescent_WadaIdeal [hWadaIdeal : Cert.WadaIdeal.Facts] : Prop :=
  ∀ (m : (ℓ : Loc Cert.WadaIdeal.nD Cert.WadaIdeal.τ Cert.WadaIdeal.sig) → Buf (Elt Ideal) ℓ) (g : Dev Cert.WadaIdeal.nD → PrngReg), Pre_WadaIdeal m →
    θ_run (Cert.WadaIdeal.defs (F := Ideal)) (onTc (τ := Cert.WadaIdeal.τ) (Cert.WadaIdeal.main (F := Ideal))) ⟨m, fun _ => 0, g⟩ (fun r => (∀ c : Dev Cert.WadaIdeal.nD,
      r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
      ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1)
      ∧ r.2.mem ((c.tc : Thread Cert.WadaIdeal.nD Cert.WadaIdeal.τ).loc Cert.WadaIdeal.main_arg2) = m ((c.tc : Thread Cert.WadaIdeal.nD Cert.WadaIdeal.τ).loc Cert.WadaIdeal.main_arg2)
      ∧ r.2.mem ((c.tc : Thread Cert.WadaIdeal.nD Cert.WadaIdeal.τ).loc Cert.WadaIdeal.main_arg3) = m ((c.tc : Thread Cert.WadaIdeal.nD Cert.WadaIdeal.τ).loc Cert.WadaIdeal.main_arg3)
      ∧ r.2.mem ((c.tc : Thread Cert.WadaIdeal.nD Cert.WadaIdeal.τ).loc Cert.WadaIdeal.main_arg4) = m ((c.tc : Thread Cert.WadaIdeal.nD Cert.WadaIdeal.τ).loc Cert.WadaIdeal.main_arg4))
      ∧ r.2.sem = fun _ => 0)

def quiescent_WadaRefIdeal [hWadaRefIdeal : Cert.WadaRefIdeal.Facts] : Prop :=
  ∀ (m : (ℓ : Loc Cert.WadaRefIdeal.nD Cert.WadaRefIdeal.τ Cert.WadaRefIdeal.sig) → Buf (Elt Ideal) ℓ) (g : Dev Cert.WadaRefIdeal.nD → PrngReg), Pre_WadaRefIdeal m →
    θ_run (Cert.WadaRefIdeal.defs (F := Ideal)) (onTc (τ := Cert.WadaRefIdeal.τ) (Cert.WadaRefIdeal.main (F := Ideal))) ⟨m, fun _ => 0, g⟩ (fun r => (∀ c : Dev Cert.WadaRefIdeal.nD,
      r.2.mem ((c.tc : Thread Cert.WadaRefIdeal.nD Cert.WadaRefIdeal.τ).loc Cert.WadaRefIdeal.main_arg0) = m ((c.tc : Thread Cert.WadaRefIdeal.nD Cert.WadaRefIdeal.τ).loc Cert.WadaRefIdeal.main_arg0)
      ∧ r.2.mem ((c.tc : Thread Cert.WadaRefIdeal.nD Cert.WadaRefIdeal.τ).loc Cert.WadaRefIdeal.main_arg1) = m ((c.tc : Thread Cert.WadaRefIdeal.nD Cert.WadaRefIdeal.τ).loc Cert.WadaRefIdeal.main_arg1)
      ∧ r.2.mem ((c.tc : Thread Cert.WadaRefIdeal.nD Cert.WadaRefIdeal.τ).loc Cert.WadaRefIdeal.main_arg2) = m ((c.tc : Thread Cert.WadaRefIdeal.nD Cert.WadaRefIdeal.τ).loc Cert.WadaRefIdeal.main_arg2)
      ∧ r.2.mem ((c.tc : Thread Cert.WadaRefIdeal.nD Cert.WadaRefIdeal.τ).loc Cert.WadaRefIdeal.main_arg3) = m ((c.tc : Thread Cert.WadaRefIdeal.nD Cert.WadaRefIdeal.τ).loc Cert.WadaRefIdeal.main_arg3)
      ∧ r.2.mem ((c.tc : Thread Cert.WadaRefIdeal.nD Cert.WadaRefIdeal.τ).loc Cert.WadaRefIdeal.main_arg4) = m ((c.tc : Thread Cert.WadaRefIdeal.nD Cert.WadaRefIdeal.τ).loc Cert.WadaRefIdeal.main_arg4))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v34) = v0 c
          ∧ r.2.mem ((c.tc : Thread Cert.MergeRefIdeal.nD Cert.MergeRefIdeal.τ).loc Cert.MergeRefIdeal.main_v38) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v8)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v8) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v15) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)) (v2 : (c : Dev Cert.MixIdeal.nD) → Buf (Elt Ideal) ((c.tc : Thread Cert.MixIdeal.nD Cert.MixIdeal.τ).loc Cert.MixIdeal.main_v2_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_v2_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v17) = v0 c
          ∧ r.2.mem ((c.tc : Thread Cert.MixRefIdeal.nD Cert.MixRefIdeal.τ).loc Cert.MixRefIdeal.main_v16) = v1 c
          ∧ r.2.mem ((c.tc : Thread Cert.MixRefIdeal.nD Cert.MixRefIdeal.τ).loc Cert.MixRefIdeal.main_v19) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3))

def preserves_Norm1_Norm1Ideal : Prop :=
  True

def algebraic_Norm1Ideal_Norm1RefIdeal_pre_norm1_finite [hNorm1Ideal : Cert.Norm1Ideal.Facts] [hNorm1RefIdeal : Cert.Norm1RefIdeal.Facts] [hPre_norm1_finite : Cert.Pre_norm1_finite.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal_norm1_finite m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)
      ∧ m' ((c.tc : Thread Cert.Norm1RefIdeal.nD Cert.Norm1RefIdeal.τ).loc Cert.Norm1RefIdeal.main_arg2) = m ((c.tc : Thread Cert.Norm1Ideal.nD Cert.Norm1Ideal.τ).loc Cert.Norm1Ideal.main_arg2)
      ∧ m' ((c.tc : Thread Cert.Norm1RefIdeal.nD Cert.Norm1RefIdeal.τ).loc Cert.Norm1RefIdeal.main_arg3) = m ((c.tc : Thread Cert.Norm1Ideal.nD Cert.Norm1Ideal.τ).loc Cert.Norm1Ideal.main_arg3)
      ∧ m' ((c.tc : Thread Cert.Norm1RefIdeal.nD Cert.Norm1RefIdeal.τ).loc Cert.Norm1RefIdeal.main_arg4) = m ((c.tc : Thread Cert.Norm1Ideal.nD Cert.Norm1Ideal.τ).loc Cert.Norm1Ideal.main_arg4)
      ∧ m' ((c.tc : Thread Cert.Norm1RefIdeal.nD Cert.Norm1RefIdeal.τ).loc Cert.Norm1RefIdeal.main_arg5) = m ((c.tc : Thread Cert.Norm1Ideal.nD Cert.Norm1Ideal.τ).loc Cert.Norm1Ideal.main_arg5)) →
    ∃ (v0 : (c : Dev Cert.Norm1Ideal.nD) → Buf (Elt Ideal) ((c.tc : Thread Cert.Norm1Ideal.nD Cert.Norm1Ideal.τ).loc Cert.Norm1Ideal.main_v0_0)) (v1 : (c : Dev Cert.Norm1Ideal.nD) → Buf (Elt Ideal) ((c.tc : Thread Cert.Norm1Ideal.nD Cert.Norm1Ideal.τ).loc Cert.Norm1Ideal.main_v0_1)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0_0) = v0 c
          ∧ r.2.mem ((c.tc : Thread Cert.Norm1Ideal.nD Cert.Norm1Ideal.τ).loc Cert.Norm1Ideal.main_v0_1) = v1 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1)
          ∧ r.2.mem ((c.tc : Thread Cert.Norm1Ideal.nD Cert.Norm1Ideal.τ).loc Cert.Norm1Ideal.main_arg2) = m ((c.tc : Thread Cert.Norm1Ideal.nD Cert.Norm1Ideal.τ).loc Cert.Norm1Ideal.main_arg2)
          ∧ r.2.mem ((c.tc : Thread Cert.Norm1Ideal.nD Cert.Norm1Ideal.τ).loc Cert.Norm1Ideal.main_arg3) = m ((c.tc : Thread Cert.Norm1Ideal.nD Cert.Norm1Ideal.τ).loc Cert.Norm1Ideal.main_arg3)
          ∧ r.2.mem ((c.tc : Thread Cert.Norm1Ideal.nD Cert.Norm1Ideal.τ).loc Cert.Norm1Ideal.main_arg4) = m ((c.tc : Thread Cert.Norm1Ideal.nD Cert.Norm1Ideal.τ).loc Cert.Norm1Ideal.main_arg4)
          ∧ r.2.mem ((c.tc : Thread Cert.Norm1Ideal.nD Cert.Norm1Ideal.τ).loc Cert.Norm1Ideal.main_arg5) = m ((c.tc : Thread Cert.Norm1Ideal.nD Cert.Norm1Ideal.τ).loc Cert.Norm1Ideal.main_arg5))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v48) = v0 c
          ∧ r.2.mem ((c.tc : Thread Cert.Norm1RefIdeal.nD Cert.Norm1RefIdeal.τ).loc Cert.Norm1RefIdeal.main_v50) = v1 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1)
          ∧ r.2.mem ((c.tc : Thread Cert.Norm1RefIdeal.nD Cert.Norm1RefIdeal.τ).loc Cert.Norm1RefIdeal.main_arg2) = m' ((c.tc : Thread Cert.Norm1RefIdeal.nD Cert.Norm1RefIdeal.τ).loc Cert.Norm1RefIdeal.main_arg2)
          ∧ r.2.mem ((c.tc : Thread Cert.Norm1RefIdeal.nD Cert.Norm1RefIdeal.τ).loc Cert.Norm1RefIdeal.main_arg3) = m' ((c.tc : Thread Cert.Norm1RefIdeal.nD Cert.Norm1RefIdeal.τ).loc Cert.Norm1RefIdeal.main_arg3)
          ∧ r.2.mem ((c.tc : Thread Cert.Norm1RefIdeal.nD Cert.Norm1RefIdeal.τ).loc Cert.Norm1RefIdeal.main_arg4) = m' ((c.tc : Thread Cert.Norm1RefIdeal.nD Cert.Norm1RefIdeal.τ).loc Cert.Norm1RefIdeal.main_arg4)
          ∧ r.2.mem ((c.tc : Thread Cert.Norm1RefIdeal.nD Cert.Norm1RefIdeal.τ).loc Cert.Norm1RefIdeal.main_arg5) = m' ((c.tc : Thread Cert.Norm1RefIdeal.nD Cert.Norm1RefIdeal.τ).loc Cert.Norm1RefIdeal.main_arg5))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)) →
    ∃ (v0 : (c : Dev Cert.NormIdeal.nD) → Buf (Elt Ideal) ((c.tc : Thread Cert.NormIdeal.nD Cert.NormIdeal.τ).loc Cert.NormIdeal.main_v4_0)) (v1 : (c : Dev Cert.NormIdeal.nD) → Buf (Elt Ideal) ((c.tc : Thread Cert.NormIdeal.nD Cert.NormIdeal.τ).loc Cert.NormIdeal.main_v4_1)) (v2 : (c : Dev Cert.NormIdeal.nD) → Buf (Elt Ideal) ((c.tc : Thread Cert.NormIdeal.nD Cert.NormIdeal.τ).loc Cert.NormIdeal.main_v4_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4_0) = v0 c
          ∧ r.2.mem ((c.tc : Thread Cert.NormIdeal.nD Cert.NormIdeal.τ).loc Cert.NormIdeal.main_v4_1) = v1 c
          ∧ r.2.mem ((c.tc : Thread Cert.NormIdeal.nD Cert.NormIdeal.τ).loc Cert.NormIdeal.main_v4_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v51) = v0 c
          ∧ r.2.mem ((c.tc : Thread Cert.NormRefIdeal.nD Cert.NormRefIdeal.τ).loc Cert.NormRefIdeal.main_v58) = v1 c
          ∧ r.2.mem ((c.tc : Thread Cert.NormRefIdeal.nD Cert.NormRefIdeal.τ).loc Cert.NormRefIdeal.main_v60) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v6_0)) (v1 : (c : Dev Cert.LossIdeal.nD) → Buf (Elt Ideal) ((c.tc : Thread Cert.LossIdeal.nD Cert.LossIdeal.τ).loc Cert.LossIdeal.main_v6_1)) (v2 : (c : Dev Cert.LossIdeal.nD) → Buf (Elt Ideal) ((c.tc : Thread Cert.LossIdeal.nD Cert.LossIdeal.τ).loc Cert.LossIdeal.main_v9)) (v3 : (c : Dev Cert.LossIdeal.nD) → Buf (Elt Ideal) ((c.tc : Thread Cert.LossIdeal.nD Cert.LossIdeal.τ).loc Cert.LossIdeal.main_v12)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6_0) = v0 c
          ∧ r.2.mem ((c.tc : Thread Cert.LossIdeal.nD Cert.LossIdeal.τ).loc Cert.LossIdeal.main_v6_1) = v1 c
          ∧ r.2.mem ((c.tc : Thread Cert.LossIdeal.nD Cert.LossIdeal.τ).loc Cert.LossIdeal.main_v9) = v2 c
          ∧ r.2.mem ((c.tc : Thread Cert.LossIdeal.nD Cert.LossIdeal.τ).loc Cert.LossIdeal.main_v12) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v19) = v0 c
          ∧ r.2.mem ((c.tc : Thread Cert.LossRefIdeal.nD Cert.LossRefIdeal.τ).loc Cert.LossRefIdeal.main_v27) = v1 c
          ∧ r.2.mem ((c.tc : Thread Cert.LossRefIdeal.nD Cert.LossRefIdeal.τ).loc Cert.LossRefIdeal.main_v26) = v2 c
          ∧ r.2.mem ((c.tc : Thread Cert.LossRefIdeal.nD Cert.LossRefIdeal.τ).loc Cert.LossRefIdeal.main_v13) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v60_0)) (v1 : (c : Dev Cert.AttnIdeal.nD) → Buf (Elt Ideal) ((c.tc : Thread Cert.AttnIdeal.nD Cert.AttnIdeal.τ).loc Cert.AttnIdeal.main_v61_0)) (v2 : (c : Dev Cert.AttnIdeal.nD) → Buf (Elt Ideal) ((c.tc : Thread Cert.AttnIdeal.nD Cert.AttnIdeal.τ).loc Cert.AttnIdeal.main_v61_1)) (v3 : (c : Dev Cert.AttnIdeal.nD) → Buf (Elt Ideal) ((c.tc : Thread Cert.AttnIdeal.nD Cert.AttnIdeal.τ).loc Cert.AttnIdeal.main_v119)) (v4 : (c : Dev Cert.AttnIdeal.nD) → Buf (Elt Ideal) ((c.tc : Thread Cert.AttnIdeal.nD Cert.AttnIdeal.τ).loc Cert.AttnIdeal.main_v123)) (v5 : (c : Dev Cert.AttnIdeal.nD) → Buf (Elt Ideal) ((c.tc : Thread Cert.AttnIdeal.nD Cert.AttnIdeal.τ).loc Cert.AttnIdeal.main_v126)) (v6 : (c : Dev Cert.AttnIdeal.nD) → Buf (Elt Ideal) ((c.tc : Thread Cert.AttnIdeal.nD Cert.AttnIdeal.τ).loc Cert.AttnIdeal.main_v115)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v60_0) = v0 c
          ∧ r.2.mem ((c.tc : Thread Cert.AttnIdeal.nD Cert.AttnIdeal.τ).loc Cert.AttnIdeal.main_v61_0) = v1 c
          ∧ r.2.mem ((c.tc : Thread Cert.AttnIdeal.nD Cert.AttnIdeal.τ).loc Cert.AttnIdeal.main_v61_1) = v2 c
          ∧ r.2.mem ((c.tc : Thread Cert.AttnIdeal.nD Cert.AttnIdeal.τ).loc Cert.AttnIdeal.main_v119) = v3 c
          ∧ r.2.mem ((c.tc : Thread Cert.AttnIdeal.nD Cert.AttnIdeal.τ).loc Cert.AttnIdeal.main_v123) = v4 c
          ∧ r.2.mem ((c.tc : Thread Cert.AttnIdeal.nD Cert.AttnIdeal.τ).loc Cert.AttnIdeal.main_v126) = v5 c
          ∧ r.2.mem ((c.tc : Thread Cert.AttnIdeal.nD Cert.AttnIdeal.τ).loc Cert.AttnIdeal.main_v115) = v6 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v294) = v0 c
          ∧ r.2.mem ((c.tc : Thread Cert.AttnRefIdeal.nD Cert.AttnRefIdeal.τ).loc Cert.AttnRefIdeal.main_v295) = v1 c
          ∧ r.2.mem ((c.tc : Thread Cert.AttnRefIdeal.nD Cert.AttnRefIdeal.τ).loc Cert.AttnRefIdeal.main_v296) = v2 c
          ∧ r.2.mem ((c.tc : Thread Cert.AttnRefIdeal.nD Cert.AttnRefIdeal.τ).loc Cert.AttnRefIdeal.main_v290) = v3 c
          ∧ r.2.mem ((c.tc : Thread Cert.AttnRefIdeal.nD Cert.AttnRefIdeal.τ).loc Cert.AttnRefIdeal.main_v289) = v4 c
          ∧ r.2.mem ((c.tc : Thread Cert.AttnRefIdeal.nD Cert.AttnRefIdeal.τ).loc Cert.AttnRefIdeal.main_v288) = v5 c
          ∧ r.2.mem ((c.tc : Thread Cert.AttnRefIdeal.nD Cert.AttnRefIdeal.τ).loc Cert.AttnRefIdeal.main_v287) = v6 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v186) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1))

def preserves_Fwd_FwdIdeal : Prop :=
  IdealRules.named_const.Statement Cert.FwdIdeal.κ "mask" .f32 0xF149F2CA#32 ⊥

def algebraic_FwdIdeal_FwdRefIdeal_pre_fwd_finite [hFwdIdeal : Cert.FwdIdeal.Facts] [hFwdRefIdeal : Cert.FwdRefIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_fwd_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v60)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v60) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v159) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def preserves_Rmsf_RmsfIdeal : Prop :=
  True

def algebraic_RmsfIdeal_RmsfRefIdeal [hRmsfIdeal : Cert.RmsfIdeal.Facts] [hRmsfRefIdeal : Cert.RmsfRefIdeal.Facts] : Prop :=
  ∀ (m : (ℓ : Loc Cert.RmsfIdeal.nD Cert.RmsfIdeal.τ Cert.RmsfIdeal.sig) → Buf (Elt Ideal) ℓ) (g : Dev Cert.RmsfIdeal.nD → PrngReg)
    (m' : (ℓ : Loc Cert.RmsfRefIdeal.nD Cert.RmsfRefIdeal.τ Cert.RmsfRefIdeal.sig) → Buf (Elt Ideal) ℓ) (g' : Dev Cert.RmsfRefIdeal.nD → PrngReg), Pre_RmsfIdeal m →
    (∀ c : Dev Cert.RmsfIdeal.nD,
      m' ((c.tc : Thread Cert.RmsfRefIdeal.nD Cert.RmsfRefIdeal.τ).loc Cert.RmsfRefIdeal.main_arg0) = m ((c.tc : Thread Cert.RmsfIdeal.nD Cert.RmsfIdeal.τ).loc Cert.RmsfIdeal.main_arg0)
      ∧ m' ((c.tc : Thread Cert.RmsfRefIdeal.nD Cert.RmsfRefIdeal.τ).loc Cert.RmsfRefIdeal.main_arg1) = m ((c.tc : Thread Cert.RmsfIdeal.nD Cert.RmsfIdeal.τ).loc Cert.RmsfIdeal.main_arg1)
      ∧ m' ((c.tc : Thread Cert.RmsfRefIdeal.nD Cert.RmsfRefIdeal.τ).loc Cert.RmsfRefIdeal.main_arg2) = m ((c.tc : Thread Cert.RmsfIdeal.nD Cert.RmsfIdeal.τ).loc Cert.RmsfIdeal.main_arg2)
      ∧ m' ((c.tc : Thread Cert.RmsfRefIdeal.nD Cert.RmsfRefIdeal.τ).loc Cert.RmsfRefIdeal.main_arg3) = m ((c.tc : Thread Cert.RmsfIdeal.nD Cert.RmsfIdeal.τ).loc Cert.RmsfIdeal.main_arg3)) →
    ∃ (v0 : (c : Dev Cert.RmsfIdeal.nD) → Buf (Elt Ideal) ((c.tc : Thread Cert.RmsfIdeal.nD Cert.RmsfIdeal.τ).loc Cert.RmsfIdeal.main_v0)),
      θ_run (Cert.RmsfIdeal.defs (F := Ideal)) (onTc (τ := Cert.RmsfIdeal.τ) (Cert.RmsfIdeal.main (F := Ideal))) ⟨m, fun _ => 0, g⟩ (fun r => ∀ c : Dev Cert.RmsfIdeal.nD,
          r.2.mem ((c.tc : Thread Cert.RmsfIdeal.nD Cert.RmsfIdeal.τ).loc Cert.RmsfIdeal.main_v0) = v0 c
          ∧ r.2.mem ((c.tc : Thread Cert.RmsfIdeal.nD Cert.RmsfIdeal.τ).loc Cert.RmsfIdeal.main_arg0) = m ((c.tc : Thread Cert.RmsfIdeal.nD Cert.RmsfIdeal.τ).loc Cert.RmsfIdeal.main_arg0)
          ∧ r.2.mem ((c.tc : Thread Cert.RmsfIdeal.nD Cert.RmsfIdeal.τ).loc Cert.RmsfIdeal.main_arg1) = m ((c.tc : Thread Cert.RmsfIdeal.nD Cert.RmsfIdeal.τ).loc Cert.RmsfIdeal.main_arg1)
          ∧ r.2.mem ((c.tc : Thread Cert.RmsfIdeal.nD Cert.RmsfIdeal.τ).loc Cert.RmsfIdeal.main_arg2) = m ((c.tc : Thread Cert.RmsfIdeal.nD Cert.RmsfIdeal.τ).loc Cert.RmsfIdeal.main_arg2)
          ∧ r.2.mem ((c.tc : Thread Cert.RmsfIdeal.nD Cert.RmsfIdeal.τ).loc Cert.RmsfIdeal.main_arg3) = m ((c.tc : Thread Cert.RmsfIdeal.nD Cert.RmsfIdeal.τ).loc Cert.RmsfIdeal.main_arg3))
      ∧ θ_run (Cert.RmsfRefIdeal.defs (F := Ideal)) (onTc (τ := Cert.RmsfRefIdeal.τ) (Cert.RmsfRefIdeal.main (F := Ideal))) ⟨m', fun _ => 0, g'⟩ (fun r => ∀ c : Dev Cert.RmsfRefIdeal.nD,
          r.2.mem ((c.tc : Thread Cert.RmsfRefIdeal.nD Cert.RmsfRefIdeal.τ).loc Cert.RmsfRefIdeal.main_v18) = v0 c
          ∧ r.2.mem ((c.tc : Thread Cert.RmsfRefIdeal.nD Cert.RmsfRefIdeal.τ).loc Cert.RmsfRefIdeal.main_arg0) = m' ((c.tc : Thread Cert.RmsfRefIdeal.nD Cert.RmsfRefIdeal.τ).loc Cert.RmsfRefIdeal.main_arg0)
          ∧ r.2.mem ((c.tc : Thread Cert.RmsfRefIdeal.nD Cert.RmsfRefIdeal.τ).loc Cert.RmsfRefIdeal.main_arg1) = m' ((c.tc : Thread Cert.RmsfRefIdeal.nD Cert.RmsfRefIdeal.τ).loc Cert.RmsfRefIdeal.main_arg1)
          ∧ r.2.mem ((c.tc : Thread Cert.RmsfRefIdeal.nD Cert.RmsfRefIdeal.τ).loc Cert.RmsfRefIdeal.main_arg2) = m' ((c.tc : Thread Cert.RmsfRefIdeal.nD Cert.RmsfRefIdeal.τ).loc Cert.RmsfRefIdeal.main_arg2)
          ∧ r.2.mem ((c.tc : Thread Cert.RmsfRefIdeal.nD Cert.RmsfRefIdeal.τ).loc Cert.RmsfRefIdeal.main_arg3) = m' ((c.tc : Thread Cert.RmsfRefIdeal.nD Cert.RmsfRefIdeal.τ).loc Cert.RmsfRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_v9) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v8_0)) (v1 : (c : Dev Cert.GateIdeal.nD) → Buf (Elt Ideal) ((c.tc : Thread Cert.GateIdeal.nD Cert.GateIdeal.τ).loc Cert.GateIdeal.main_v8_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v8_0) = v0 c
          ∧ r.2.mem ((c.tc : Thread Cert.GateIdeal.nD Cert.GateIdeal.τ).loc Cert.GateIdeal.main_v8_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v19) = v0 c
          ∧ r.2.mem ((c.tc : Thread Cert.GateRefIdeal.nD Cert.GateRefIdeal.τ).loc Cert.GateRefIdeal.main_v23) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Pmix_PmixIdeal : Prop :=
  True

def algebraic_PmixIdeal_PmixRefIdeal [hPmixIdeal : Cert.PmixIdeal.Facts] [hPmixRefIdeal : Cert.PmixRefIdeal.Facts] : Prop :=
  ∀ (m : (ℓ : Loc Cert.PmixIdeal.nD Cert.PmixIdeal.τ Cert.PmixIdeal.sig) → Buf (Elt Ideal) ℓ) (g : Dev Cert.PmixIdeal.nD → PrngReg)
    (m' : (ℓ : Loc Cert.PmixRefIdeal.nD Cert.PmixRefIdeal.τ Cert.PmixRefIdeal.sig) → Buf (Elt Ideal) ℓ) (g' : Dev Cert.PmixRefIdeal.nD → PrngReg), Pre_PmixIdeal m →
    (∀ c : Dev Cert.PmixIdeal.nD,
      m' ((c.tc : Thread Cert.PmixRefIdeal.nD Cert.PmixRefIdeal.τ).loc Cert.PmixRefIdeal.main_arg0) = m ((c.tc : Thread Cert.PmixIdeal.nD Cert.PmixIdeal.τ).loc Cert.PmixIdeal.main_arg0)
      ∧ m' ((c.tc : Thread Cert.PmixRefIdeal.nD Cert.PmixRefIdeal.τ).loc Cert.PmixRefIdeal.main_arg1) = m ((c.tc : Thread Cert.PmixIdeal.nD Cert.PmixIdeal.τ).loc Cert.PmixIdeal.main_arg1)
      ∧ m' ((c.tc : Thread Cert.PmixRefIdeal.nD Cert.PmixRefIdeal.τ).loc Cert.PmixRefIdeal.main_arg2) = m ((c.tc : Thread Cert.PmixIdeal.nD Cert.PmixIdeal.τ).loc Cert.PmixIdeal.main_arg2)) →
    ∃ (v0 : (c : Dev Cert.PmixIdeal.nD) → Buf (Elt Ideal) ((c.tc : Thread Cert.PmixIdeal.nD Cert.PmixIdeal.τ).loc Cert.PmixIdeal.main_v2)),
      θ_run (Cert.PmixIdeal.defs (F := Ideal)) (onTc (τ := Cert.PmixIdeal.τ) (Cert.PmixIdeal.main (F := Ideal))) ⟨m, fun _ => 0, g⟩ (fun r => ∀ c : Dev Cert.PmixIdeal.nD,
          r.2.mem ((c.tc : Thread Cert.PmixIdeal.nD Cert.PmixIdeal.τ).loc Cert.PmixIdeal.main_v2) = v0 c
          ∧ r.2.mem ((c.tc : Thread Cert.PmixIdeal.nD Cert.PmixIdeal.τ).loc Cert.PmixIdeal.main_arg0) = m ((c.tc : Thread Cert.PmixIdeal.nD Cert.PmixIdeal.τ).loc Cert.PmixIdeal.main_arg0)
          ∧ r.2.mem ((c.tc : Thread Cert.PmixIdeal.nD Cert.PmixIdeal.τ).loc Cert.PmixIdeal.main_arg1) = m ((c.tc : Thread Cert.PmixIdeal.nD Cert.PmixIdeal.τ).loc Cert.PmixIdeal.main_arg1)
          ∧ r.2.mem ((c.tc : Thread Cert.PmixIdeal.nD Cert.PmixIdeal.τ).loc Cert.PmixIdeal.main_arg2) = m ((c.tc : Thread Cert.PmixIdeal.nD Cert.PmixIdeal.τ).loc Cert.PmixIdeal.main_arg2))
      ∧ θ_run (Cert.PmixRefIdeal.defs (F := Ideal)) (onTc (τ := Cert.PmixRefIdeal.τ) (Cert.PmixRefIdeal.main (F := Ideal))) ⟨m', fun _ => 0, g'⟩ (fun r => ∀ c : Dev Cert.PmixRefIdeal.nD,
          r.2.mem ((c.tc : Thread Cert.PmixRefIdeal.nD Cert.PmixRefIdeal.τ).loc Cert.PmixRefIdeal.main_v8) = v0 c
          ∧ r.2.mem ((c.tc : Thread Cert.PmixRefIdeal.nD Cert.PmixRefIdeal.τ).loc Cert.PmixRefIdeal.main_arg0) = m' ((c.tc : Thread Cert.PmixRefIdeal.nD Cert.PmixRefIdeal.τ).loc Cert.PmixRefIdeal.main_arg0)
          ∧ r.2.mem ((c.tc : Thread Cert.PmixRefIdeal.nD Cert.PmixRefIdeal.τ).loc Cert.PmixRefIdeal.main_arg1) = m' ((c.tc : Thread Cert.PmixRefIdeal.nD Cert.PmixRefIdeal.τ).loc Cert.PmixRefIdeal.main_arg1)
          ∧ r.2.mem ((c.tc : Thread Cert.PmixRefIdeal.nD Cert.PmixRefIdeal.τ).loc Cert.PmixRefIdeal.main_arg2) = m' ((c.tc : Thread Cert.PmixRefIdeal.nD Cert.PmixRefIdeal.τ).loc Cert.PmixRefIdeal.main_arg2))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)) →
    ∃ (v0 : (c : Dev Cert.ResIdeal.nD) → Buf (Elt Ideal) ((c.tc : Thread Cert.ResIdeal.nD Cert.ResIdeal.τ).loc Cert.ResIdeal.main_v4_0)) (v1 : (c : Dev Cert.ResIdeal.nD) → Buf (Elt Ideal) ((c.tc : Thread Cert.ResIdeal.nD Cert.ResIdeal.τ).loc Cert.ResIdeal.main_v4_1)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v4_0) = v0 c
          ∧ r.2.mem ((c.tc : Thread Cert.ResIdeal.nD Cert.ResIdeal.τ).loc Cert.ResIdeal.main_v4_1) = v1 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v5) = v0 c
          ∧ r.2.mem ((c.tc : Thread Cert.ResRefIdeal.nD Cert.ResRefIdeal.τ).loc Cert.ResRefIdeal.main_v6) = v1 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3))

def preserves_Win_WinIdeal : Prop :=
  True

def algebraic_WinIdeal_WinRefIdeal_pre_win_finite [hWinIdeal : Cert.WinIdeal.Facts] [hWinRefIdeal : Cert.WinRefIdeal.Facts] [hPre_win_finite : Cert.Pre_win_finite.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_win_finite m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v122) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v0)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v0) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v3) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Zin_ZinIdeal : Prop :=
  True

def algebraic_ZinIdeal_ZinRefIdeal [hZinIdeal : Cert.ZinIdeal.Facts] [hZinRefIdeal : Cert.ZinRefIdeal.Facts] : Prop :=
  ∀ (m : (ℓ : Loc Cert.ZinIdeal.nD Cert.ZinIdeal.τ Cert.ZinIdeal.sig) → Buf (Elt Ideal) ℓ) (g : Dev Cert.ZinIdeal.nD → PrngReg)
    (m' : (ℓ : Loc Cert.ZinRefIdeal.nD Cert.ZinRefIdeal.τ Cert.ZinRefIdeal.sig) → Buf (Elt Ideal) ℓ) (g' : Dev Cert.ZinRefIdeal.nD → PrngReg), Pre_ZinIdeal m →
    (∀ c : Dev Cert.ZinIdeal.nD,
      m' ((c.tc : Thread Cert.ZinRefIdeal.nD Cert.ZinRefIdeal.τ).loc Cert.ZinRefIdeal.main_arg0) = m ((c.tc : Thread Cert.ZinIdeal.nD Cert.ZinIdeal.τ).loc Cert.ZinIdeal.main_arg0)
      ∧ m' ((c.tc : Thread Cert.ZinRefIdeal.nD Cert.ZinRefIdeal.τ).loc Cert.ZinRefIdeal.main_arg1) = m ((c.tc : Thread Cert.ZinIdeal.nD Cert.ZinIdeal.τ).loc Cert.ZinIdeal.main_arg1)) →
    ∃ (v0 : (c : Dev Cert.ZinIdeal.nD) → Buf (Elt Ideal) ((c.tc : Thread Cert.ZinIdeal.nD Cert.ZinIdeal.τ).loc Cert.ZinIdeal.main_v3)),
      θ_run (Cert.ZinIdeal.defs (F := Ideal)) (onTc (τ := Cert.ZinIdeal.τ) (Cert.ZinIdeal.main (F := Ideal))) ⟨m, fun _ => 0, g⟩ (fun r => ∀ c : Dev Cert.ZinIdeal.nD,
          r.2.mem ((c.tc : Thread Cert.ZinIdeal.nD Cert.ZinIdeal.τ).loc Cert.ZinIdeal.main_v3) = v0 c
          ∧ r.2.mem ((c.tc : Thread Cert.ZinIdeal.nD Cert.ZinIdeal.τ).loc Cert.ZinIdeal.main_arg0) = m ((c.tc : Thread Cert.ZinIdeal.nD Cert.ZinIdeal.τ).loc Cert.ZinIdeal.main_arg0)
          ∧ r.2.mem ((c.tc : Thread Cert.ZinIdeal.nD Cert.ZinIdeal.τ).loc Cert.ZinIdeal.main_arg1) = m ((c.tc : Thread Cert.ZinIdeal.nD Cert.ZinIdeal.τ).loc Cert.ZinIdeal.main_arg1))
      ∧ θ_run (Cert.ZinRefIdeal.defs (F := Ideal)) (onTc (τ := Cert.ZinRefIdeal.τ) (Cert.ZinRefIdeal.main (F := Ideal))) ⟨m', fun _ => 0, g'⟩ (fun r => ∀ c : Dev Cert.ZinRefIdeal.nD,
          r.2.mem ((c.tc : Thread Cert.ZinRefIdeal.nD Cert.ZinRefIdeal.τ).loc Cert.ZinRefIdeal.main_v0) = v0 c
          ∧ r.2.mem ((c.tc : Thread Cert.ZinRefIdeal.nD Cert.ZinRefIdeal.τ).loc Cert.ZinRefIdeal.main_arg0) = m' ((c.tc : Thread Cert.ZinRefIdeal.nD Cert.ZinRefIdeal.τ).loc Cert.ZinRefIdeal.main_arg0)
          ∧ r.2.mem ((c.tc : Thread Cert.ZinRefIdeal.nD Cert.ZinRefIdeal.τ).loc Cert.ZinRefIdeal.main_arg1) = m' ((c.tc : Thread Cert.ZinRefIdeal.nD Cert.ZinRefIdeal.τ).loc Cert.ZinRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v6)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v6) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v1) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Upt_UptIdeal : Prop :=
  True

def algebraic_UptIdeal_UptRefIdeal [hUptIdeal : Cert.UptIdeal.Facts] [hUptRefIdeal : Cert.UptRefIdeal.Facts] : Prop :=
  ∀ (m : (ℓ : Loc Cert.UptIdeal.nD Cert.UptIdeal.τ Cert.UptIdeal.sig) → Buf (Elt Ideal) ℓ) (g : Dev Cert.UptIdeal.nD → PrngReg)
    (m' : (ℓ : Loc Cert.UptRefIdeal.nD Cert.UptRefIdeal.τ Cert.UptRefIdeal.sig) → Buf (Elt Ideal) ℓ) (g' : Dev Cert.UptRefIdeal.nD → PrngReg), Pre_UptIdeal m →
    (∀ c : Dev Cert.UptIdeal.nD,
      m' ((c.tc : Thread Cert.UptRefIdeal.nD Cert.UptRefIdeal.τ).loc Cert.UptRefIdeal.main_arg0) = m ((c.tc : Thread Cert.UptIdeal.nD Cert.UptIdeal.τ).loc Cert.UptIdeal.main_arg0)
      ∧ m' ((c.tc : Thread Cert.UptRefIdeal.nD Cert.UptRefIdeal.τ).loc Cert.UptRefIdeal.main_arg1) = m ((c.tc : Thread Cert.UptIdeal.nD Cert.UptIdeal.τ).loc Cert.UptIdeal.main_arg1)) →
    ∃ (v0 : (c : Dev Cert.UptIdeal.nD) → Buf (Elt Ideal) ((c.tc : Thread Cert.UptIdeal.nD Cert.UptIdeal.τ).loc Cert.UptIdeal.main_v4)),
      θ_run (Cert.UptIdeal.defs (F := Ideal)) (onTc (τ := Cert.UptIdeal.τ) (Cert.UptIdeal.main (F := Ideal))) ⟨m, fun _ => 0, g⟩ (fun r => ∀ c : Dev Cert.UptIdeal.nD,
          r.2.mem ((c.tc : Thread Cert.UptIdeal.nD Cert.UptIdeal.τ).loc Cert.UptIdeal.main_v4) = v0 c
          ∧ r.2.mem ((c.tc : Thread Cert.UptIdeal.nD Cert.UptIdeal.τ).loc Cert.UptIdeal.main_arg0) = m ((c.tc : Thread Cert.UptIdeal.nD Cert.UptIdeal.τ).loc Cert.UptIdeal.main_arg0)
          ∧ r.2.mem ((c.tc : Thread Cert.UptIdeal.nD Cert.UptIdeal.τ).loc Cert.UptIdeal.main_arg1) = m ((c.tc : Thread Cert.UptIdeal.nD Cert.UptIdeal.τ).loc Cert.UptIdeal.main_arg1))
      ∧ θ_run (Cert.UptRefIdeal.defs (F := Ideal)) (onTc (τ := Cert.UptRefIdeal.τ) (Cert.UptRefIdeal.main (F := Ideal))) ⟨m', fun _ => 0, g'⟩ (fun r => ∀ c : Dev Cert.UptRefIdeal.nD,
          r.2.mem ((c.tc : Thread Cert.UptRefIdeal.nD Cert.UptRefIdeal.τ).loc Cert.UptRefIdeal.main_v3) = v0 c
          ∧ r.2.mem ((c.tc : Thread Cert.UptRefIdeal.nD Cert.UptRefIdeal.τ).loc Cert.UptRefIdeal.main_arg0) = m' ((c.tc : Thread Cert.UptRefIdeal.nD Cert.UptRefIdeal.τ).loc Cert.UptRefIdeal.main_arg0)
          ∧ r.2.mem ((c.tc : Thread Cert.UptRefIdeal.nD Cert.UptRefIdeal.τ).loc Cert.UptRefIdeal.main_arg1) = m' ((c.tc : Thread Cert.UptRefIdeal.nD Cert.UptRefIdeal.τ).loc Cert.UptRefIdeal.main_arg1))

def preserves_Dwgu_DwguIdeal : Prop :=
  True

def algebraic_DwguIdeal_DwguRefIdeal [hDwguIdeal : Cert.DwguIdeal.Facts] [hDwguRefIdeal : Cert.DwguRefIdeal.Facts] : Prop :=
  ∀ (m : (ℓ : Loc Cert.DwguIdeal.nD Cert.DwguIdeal.τ Cert.DwguIdeal.sig) → Buf (Elt Ideal) ℓ) (g : Dev Cert.DwguIdeal.nD → PrngReg)
    (m' : (ℓ : Loc Cert.DwguRefIdeal.nD Cert.DwguRefIdeal.τ Cert.DwguRefIdeal.sig) → Buf (Elt Ideal) ℓ) (g' : Dev Cert.DwguRefIdeal.nD → PrngReg), Pre_DwguIdeal m →
    (∀ c : Dev Cert.DwguIdeal.nD,
      m' ((c.tc : Thread Cert.DwguRefIdeal.nD Cert.DwguRefIdeal.τ).loc Cert.DwguRefIdeal.main_arg0) = m ((c.tc : Thread Cert.DwguIdeal.nD Cert.DwguIdeal.τ).loc Cert.DwguIdeal.main_arg0)
      ∧ m' ((c.tc : Thread Cert.DwguRefIdeal.nD Cert.DwguRefIdeal.τ).loc Cert.DwguRefIdeal.main_arg1) = m ((c.tc : Thread Cert.DwguIdeal.nD Cert.DwguIdeal.τ).loc Cert.DwguIdeal.main_arg1)) →
    ∃ (v0 : (c : Dev Cert.DwguIdeal.nD) → Buf (Elt Ideal) ((c.tc : Thread Cert.DwguIdeal.nD Cert.DwguIdeal.τ).loc Cert.DwguIdeal.main_v4)),
      θ_run (Cert.DwguIdeal.defs (F := Ideal)) (onTc (τ := Cert.DwguIdeal.τ) (Cert.DwguIdeal.main (F := Ideal))) ⟨m, fun _ => 0, g⟩ (fun r => ∀ c : Dev Cert.DwguIdeal.nD,
          r.2.mem ((c.tc : Thread Cert.DwguIdeal.nD Cert.DwguIdeal.τ).loc Cert.DwguIdeal.main_v4) = v0 c
          ∧ r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
          ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ θ_run (Cert.DwguRefIdeal.defs (F := Ideal)) (onTc (τ := Cert.DwguRefIdeal.τ) (Cert.DwguRefIdeal.main (F := Ideal))) ⟨m', fun _ => 0, g'⟩ (fun r => ∀ c : Dev Cert.DwguRefIdeal.nD,
          r.2.mem ((c.tc : Thread Cert.DwguRefIdeal.nD Cert.DwguRefIdeal.τ).loc Cert.DwguRefIdeal.main_v4) = v0 c
          ∧ r.2.mem ((c.tc : Thread Cert.DwguRefIdeal.nD Cert.DwguRefIdeal.τ).loc Cert.DwguRefIdeal.main_arg0) = m' ((c.tc : Thread Cert.DwguRefIdeal.nD Cert.DwguRefIdeal.τ).loc Cert.DwguRefIdeal.main_arg0)
          ∧ r.2.mem ((c.tc : Thread Cert.DwguRefIdeal.nD Cert.DwguRefIdeal.τ).loc Cert.DwguRefIdeal.main_arg1) = m' ((c.tc : Thread Cert.DwguRefIdeal.nD Cert.DwguRefIdeal.τ).loc Cert.DwguRefIdeal.main_arg1))

def preserves_Tn_TnIdeal : Prop :=
  True

def algebraic_TnIdeal_TnRefIdeal [hTnIdeal : Cert.TnIdeal.Facts] [hTnRefIdeal : Cert.TnRefIdeal.Facts] : Prop :=
  ∀ (m : (ℓ : Loc Cert.TnIdeal.nD Cert.TnIdeal.τ Cert.TnIdeal.sig) → Buf (Elt Ideal) ℓ) (g : Dev Cert.TnIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnIdeal m →
    (∀ c : Dev Cert.TnIdeal.nD,
      m' ((c.tc : Thread Cert.TnRefIdeal.nD Cert.TnRefIdeal.τ).loc Cert.TnRefIdeal.main_arg0) = m ((c.tc : Thread Cert.TnIdeal.nD Cert.TnIdeal.τ).loc Cert.TnIdeal.main_arg0)
      ∧ m' ((c.tc : Thread Cert.TnRefIdeal.nD Cert.TnRefIdeal.τ).loc Cert.TnRefIdeal.main_arg1) = m ((c.tc : Thread Cert.TnIdeal.nD Cert.TnIdeal.τ).loc Cert.TnIdeal.main_arg1)) →
    ∃ (v0 : (c : Dev Cert.TnIdeal.nD) → Buf (Elt Ideal) ((c.tc : Thread Cert.TnIdeal.nD Cert.TnIdeal.τ).loc Cert.TnIdeal.main_v2)),
      θ_run (Cert.TnIdeal.defs (F := Ideal)) (onTc (τ := Cert.TnIdeal.τ) (Cert.TnIdeal.main (F := Ideal))) ⟨m, fun _ => 0, g⟩ (fun r => ∀ c : Dev Cert.TnIdeal.nD,
          r.2.mem ((c.tc : Thread Cert.TnIdeal.nD Cert.TnIdeal.τ).loc Cert.TnIdeal.main_v2) = v0 c
          ∧ r.2.mem ((c.tc : Thread Cert.TnIdeal.nD Cert.TnIdeal.τ).loc Cert.TnIdeal.main_arg0) = m ((c.tc : Thread Cert.TnIdeal.nD Cert.TnIdeal.τ).loc Cert.TnIdeal.main_arg0)
          ∧ r.2.mem ((c.tc : Thread Cert.TnIdeal.nD Cert.TnIdeal.τ).loc Cert.TnIdeal.main_arg1) = m ((c.tc : Thread Cert.TnIdeal.nD Cert.TnIdeal.τ).loc Cert.TnIdeal.main_arg1))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v2) = v0 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1))

def preserves_Updw_UpdwIdeal : Prop :=
  True

def algebraic_UpdwIdeal_UpdwRefIdeal [hUpdwIdeal : Cert.UpdwIdeal.Facts] [hUpdwRefIdeal : Cert.UpdwRefIdeal.Facts] : Prop :=
  ∀ (m : (ℓ : Loc Cert.UpdwIdeal.nD Cert.UpdwIdeal.τ Cert.UpdwIdeal.sig) → Buf (Elt Ideal) ℓ) (g : Dev Cert.UpdwIdeal.nD → PrngReg)
    (m' : (ℓ : Loc Cert.UpdwRefIdeal.nD Cert.UpdwRefIdeal.τ Cert.UpdwRefIdeal.sig) → Buf (Elt Ideal) ℓ) (g' : Dev Cert.UpdwRefIdeal.nD → PrngReg), Pre_UpdwIdeal m →
    (∀ c : Dev Cert.UpdwIdeal.nD,
      m' ((c.tc : Thread Cert.UpdwRefIdeal.nD Cert.UpdwRefIdeal.τ).loc Cert.UpdwRefIdeal.main_arg0) = m ((c.tc : Thread Cert.UpdwIdeal.nD Cert.UpdwIdeal.τ).loc Cert.UpdwIdeal.main_arg0)
      ∧ m' ((c.tc : Thread Cert.UpdwRefIdeal.nD Cert.UpdwRefIdeal.τ).loc Cert.UpdwRefIdeal.main_arg1) = m ((c.tc : Thread Cert.UpdwIdeal.nD Cert.UpdwIdeal.τ).loc Cert.UpdwIdeal.main_arg1)) →
    ∃ (v0 : (c : Dev Cert.UpdwIdeal.nD) → Buf (Elt Ideal) ((c.tc : Thread Cert.UpdwIdeal.nD Cert.UpdwIdeal.τ).loc Cert.UpdwIdeal.main_v2)),
      θ_run (Cert.UpdwIdeal.defs (F := Ideal)) (onTc (τ := Cert.UpdwIdeal.τ) (Cert.UpdwIdeal.main (F := Ideal))) ⟨m, fun _ => 0, g⟩ (fun r => ∀ c : Dev Cert.UpdwIdeal.nD,
          r.2.mem ((c.tc : Thread Cert.UpdwIdeal.nD Cert.UpdwIdeal.τ).loc Cert.UpdwIdeal.main_v2) = v0 c
          ∧ r.2.mem ((c.tc : Thread Cert.UpdwIdeal.nD Cert.UpdwIdeal.τ).loc Cert.UpdwIdeal.main_arg0) = m ((c.tc : Thread Cert.UpdwIdeal.nD Cert.UpdwIdeal.τ).loc Cert.UpdwIdeal.main_arg0)
          ∧ r.2.mem ((c.tc : Thread Cert.UpdwIdeal.nD Cert.UpdwIdeal.τ).loc Cert.UpdwIdeal.main_arg1) = m ((c.tc : Thread Cert.UpdwIdeal.nD Cert.UpdwIdeal.τ).loc Cert.UpdwIdeal.main_arg1))
      ∧ θ_run (Cert.UpdwRefIdeal.defs (F := Ideal)) (onTc (τ := Cert.UpdwRefIdeal.τ) (Cert.UpdwRefIdeal.main (F := Ideal))) ⟨m', fun _ => 0, g'⟩ (fun r => ∀ c : Dev Cert.UpdwRefIdeal.nD,
          r.2.mem ((c.tc : Thread Cert.UpdwRefIdeal.nD Cert.UpdwRefIdeal.τ).loc Cert.UpdwRefIdeal.main_v6) = v0 c
          ∧ r.2.mem ((c.tc : Thread Cert.UpdwRefIdeal.nD Cert.UpdwRefIdeal.τ).loc Cert.UpdwRefIdeal.main_arg0) = m' ((c.tc : Thread Cert.UpdwRefIdeal.nD Cert.UpdwRefIdeal.τ).loc Cert.UpdwRefIdeal.main_arg0)
          ∧ r.2.mem ((c.tc : Thread Cert.UpdwRefIdeal.nD Cert.UpdwRefIdeal.τ).loc Cert.UpdwRefIdeal.main_arg1) = m' ((c.tc : Thread Cert.UpdwRefIdeal.nD Cert.UpdwRefIdeal.τ).loc Cert.UpdwRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Wada_WadaIdeal : Prop :=
  True

def algebraic_WadaIdeal_WadaRefIdeal [hWadaIdeal : Cert.WadaIdeal.Facts] [hWadaRefIdeal : Cert.WadaRefIdeal.Facts] : Prop :=
  ∀ (m : (ℓ : Loc Cert.WadaIdeal.nD Cert.WadaIdeal.τ Cert.WadaIdeal.sig) → Buf (Elt Ideal) ℓ) (g : Dev Cert.WadaIdeal.nD → PrngReg)
    (m' : (ℓ : Loc Cert.WadaRefIdeal.nD Cert.WadaRefIdeal.τ Cert.WadaRefIdeal.sig) → Buf (Elt Ideal) ℓ) (g' : Dev Cert.WadaRefIdeal.nD → PrngReg), Pre_WadaIdeal m →
    (∀ c : Dev Cert.WadaIdeal.nD,
      m' ((c.tc : Thread Cert.WadaRefIdeal.nD Cert.WadaRefIdeal.τ).loc Cert.WadaRefIdeal.main_arg0) = m ((c.tc : Thread Cert.WadaIdeal.nD Cert.WadaIdeal.τ).loc Cert.WadaIdeal.main_arg0)
      ∧ m' ((c.tc : Thread Cert.WadaRefIdeal.nD Cert.WadaRefIdeal.τ).loc Cert.WadaRefIdeal.main_arg1) = m ((c.tc : Thread Cert.WadaIdeal.nD Cert.WadaIdeal.τ).loc Cert.WadaIdeal.main_arg1)
      ∧ m' ((c.tc : Thread Cert.WadaRefIdeal.nD Cert.WadaRefIdeal.τ).loc Cert.WadaRefIdeal.main_arg2) = m ((c.tc : Thread Cert.WadaIdeal.nD Cert.WadaIdeal.τ).loc Cert.WadaIdeal.main_arg2)
      ∧ m' ((c.tc : Thread Cert.WadaRefIdeal.nD Cert.WadaRefIdeal.τ).loc Cert.WadaRefIdeal.main_arg3) = m ((c.tc : Thread Cert.WadaIdeal.nD Cert.WadaIdeal.τ).loc Cert.WadaIdeal.main_arg3)
      ∧ m' ((c.tc : Thread Cert.WadaRefIdeal.nD Cert.WadaRefIdeal.τ).loc Cert.WadaRefIdeal.main_arg4) = m ((c.tc : Thread Cert.WadaIdeal.nD Cert.WadaIdeal.τ).loc Cert.WadaIdeal.main_arg4)) →
    ∃ (v0 : (c : Dev Cert.WadaIdeal.nD) → Buf (Elt Ideal) ((c.tc : Thread Cert.WadaIdeal.nD Cert.WadaIdeal.τ).loc Cert.WadaIdeal.main_v0_0)) (v1 : (c : Dev Cert.WadaIdeal.nD) → Buf (Elt Ideal) ((c.tc : Thread Cert.WadaIdeal.nD Cert.WadaIdeal.τ).loc Cert.WadaIdeal.main_v0_1)) (v2 : (c : Dev Cert.WadaIdeal.nD) → Buf (Elt Ideal) ((c.tc : Thread Cert.WadaIdeal.nD Cert.WadaIdeal.τ).loc Cert.WadaIdeal.main_v0_2)) (v3 : (c : Dev Cert.WadaIdeal.nD) → Buf (Elt Ideal) ((c.tc : Thread Cert.WadaIdeal.nD Cert.WadaIdeal.τ).loc Cert.WadaIdeal.main_v0_3)),
      θ_run (Cert.WadaIdeal.defs (F := Ideal)) (onTc (τ := Cert.WadaIdeal.τ) (Cert.WadaIdeal.main (F := Ideal))) ⟨m, fun _ => 0, g⟩ (fun r => ∀ c : Dev Cert.WadaIdeal.nD,
          r.2.mem ((c.tc : Thread Cert.WadaIdeal.nD Cert.WadaIdeal.τ).loc Cert.WadaIdeal.main_v0_0) = v0 c
          ∧ r.2.mem ((c.tc : Thread Cert.WadaIdeal.nD Cert.WadaIdeal.τ).loc Cert.WadaIdeal.main_v0_1) = v1 c
          ∧ r.2.mem ((c.tc : Thread Cert.WadaIdeal.nD Cert.WadaIdeal.τ).loc Cert.WadaIdeal.main_v0_2) = v2 c
          ∧ r.2.mem ((c.tc : Thread Cert.WadaIdeal.nD Cert.WadaIdeal.τ).loc Cert.WadaIdeal.main_v0_3) = v3 c
          ∧ r.2.mem ((c.tc : Thread Cert.WadaIdeal.nD Cert.WadaIdeal.τ).loc Cert.WadaIdeal.main_arg0) = m ((c.tc : Thread Cert.WadaIdeal.nD Cert.WadaIdeal.τ).loc Cert.WadaIdeal.main_arg0)
          ∧ r.2.mem ((c.tc : Thread Cert.WadaIdeal.nD Cert.WadaIdeal.τ).loc Cert.WadaIdeal.main_arg1) = m ((c.tc : Thread Cert.WadaIdeal.nD Cert.WadaIdeal.τ).loc Cert.WadaIdeal.main_arg1)
          ∧ r.2.mem ((c.tc : Thread Cert.WadaIdeal.nD Cert.WadaIdeal.τ).loc Cert.WadaIdeal.main_arg2) = m ((c.tc : Thread Cert.WadaIdeal.nD Cert.WadaIdeal.τ).loc Cert.WadaIdeal.main_arg2)
          ∧ r.2.mem ((c.tc : Thread Cert.WadaIdeal.nD Cert.WadaIdeal.τ).loc Cert.WadaIdeal.main_arg3) = m ((c.tc : Thread Cert.WadaIdeal.nD Cert.WadaIdeal.τ).loc Cert.WadaIdeal.main_arg3)
          ∧ r.2.mem ((c.tc : Thread Cert.WadaIdeal.nD Cert.WadaIdeal.τ).loc Cert.WadaIdeal.main_arg4) = m ((c.tc : Thread Cert.WadaIdeal.nD Cert.WadaIdeal.τ).loc Cert.WadaIdeal.main_arg4))
      ∧ θ_run (Cert.WadaRefIdeal.defs (F := Ideal)) (onTc (τ := Cert.WadaRefIdeal.τ) (Cert.WadaRefIdeal.main (F := Ideal))) ⟨m', fun _ => 0, g'⟩ (fun r => ∀ c : Dev Cert.WadaRefIdeal.nD,
          r.2.mem ((c.tc : Thread Cert.WadaRefIdeal.nD Cert.WadaRefIdeal.τ).loc Cert.WadaRefIdeal.main_v2) = v0 c
          ∧ r.2.mem ((c.tc : Thread Cert.WadaRefIdeal.nD Cert.WadaRefIdeal.τ).loc Cert.WadaRefIdeal.main_v26) = v1 c
          ∧ r.2.mem ((c.tc : Thread Cert.WadaRefIdeal.nD Cert.WadaRefIdeal.τ).loc Cert.WadaRefIdeal.main_v7) = v2 c
          ∧ r.2.mem ((c.tc : Thread Cert.WadaRefIdeal.nD Cert.WadaRefIdeal.τ).loc Cert.WadaRefIdeal.main_v13) = v3 c
          ∧ r.2.mem ((c.tc : Thread Cert.WadaRefIdeal.nD Cert.WadaRefIdeal.τ).loc Cert.WadaRefIdeal.main_arg0) = m' ((c.tc : Thread Cert.WadaRefIdeal.nD Cert.WadaRefIdeal.τ).loc Cert.WadaRefIdeal.main_arg0)
          ∧ r.2.mem ((c.tc : Thread Cert.WadaRefIdeal.nD Cert.WadaRefIdeal.τ).loc Cert.WadaRefIdeal.main_arg1) = m' ((c.tc : Thread Cert.WadaRefIdeal.nD Cert.WadaRefIdeal.τ).loc Cert.WadaRefIdeal.main_arg1)
          ∧ r.2.mem ((c.tc : Thread Cert.WadaRefIdeal.nD Cert.WadaRefIdeal.τ).loc Cert.WadaRefIdeal.main_arg2) = m' ((c.tc : Thread Cert.WadaRefIdeal.nD Cert.WadaRefIdeal.τ).loc Cert.WadaRefIdeal.main_arg2)
          ∧ r.2.mem ((c.tc : Thread Cert.WadaRefIdeal.nD Cert.WadaRefIdeal.τ).loc Cert.WadaRefIdeal.main_arg3) = m' ((c.tc : Thread Cert.WadaRefIdeal.nD Cert.WadaRefIdeal.τ).loc Cert.WadaRefIdeal.main_arg3)
          ∧ r.2.mem ((c.tc : Thread Cert.WadaRefIdeal.nD Cert.WadaRefIdeal.τ).loc Cert.WadaRefIdeal.main_arg4) = m' ((c.tc : Thread Cert.WadaRefIdeal.nD Cert.WadaRefIdeal.τ).loc Cert.WadaRefIdeal.main_arg4))

def Claim : Prop :=
  ∃ (hMerge : Cert.Merge.Facts) (hMergeIdeal : Cert.MergeIdeal.Facts) (hMergeRefIdeal : Cert.MergeRefIdeal.Facts) (hAct : Cert.Act.Facts) (hActIdeal : Cert.ActIdeal.Facts) (hActRefIdeal : Cert.ActRefIdeal.Facts) (hMix : Cert.Mix.Facts) (hMixIdeal : Cert.MixIdeal.Facts) (hMixRefIdeal : Cert.MixRefIdeal.Facts) (hNorm1 : Cert.Norm1.Facts) (hNorm1Ideal : Cert.Norm1Ideal.Facts) (hNorm1RefIdeal : Cert.Norm1RefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hPool : Cert.Pool.Facts) (hPoolIdeal : Cert.PoolIdeal.Facts) (hPoolRefIdeal : Cert.PoolRefIdeal.Facts) (hFwd : Cert.Fwd.Facts) (hFwdIdeal : Cert.FwdIdeal.Facts) (hFwdRefIdeal : Cert.FwdRefIdeal.Facts) (hRmsf : Cert.Rmsf.Facts) (hRmsfIdeal : Cert.RmsfIdeal.Facts) (hRmsfRefIdeal : Cert.RmsfRefIdeal.Facts) (hUp : Cert.Up.Facts) (hUpIdeal : Cert.UpIdeal.Facts) (hUpRefIdeal : Cert.UpRefIdeal.Facts) (hGate : Cert.Gate.Facts) (hGateIdeal : Cert.GateIdeal.Facts) (hGateRefIdeal : Cert.GateRefIdeal.Facts) (hPmix : Cert.Pmix.Facts) (hPmixIdeal : Cert.PmixIdeal.Facts) (hPmixRefIdeal : Cert.PmixRefIdeal.Facts) (hRes : Cert.Res.Facts) (hResIdeal : Cert.ResIdeal.Facts) (hResRefIdeal : Cert.ResRefIdeal.Facts) (hWin : Cert.Win.Facts) (hWinIdeal : Cert.WinIdeal.Facts) (hWinRefIdeal : Cert.WinRefIdeal.Facts) (hMod : Cert.Mod.Facts) (hModIdeal : Cert.ModIdeal.Facts) (hModRefIdeal : Cert.ModRefIdeal.Facts) (hZin : Cert.Zin.Facts) (hZinIdeal : Cert.ZinIdeal.Facts) (hZinRefIdeal : Cert.ZinRefIdeal.Facts) (hDh : Cert.Dh.Facts) (hDhIdeal : Cert.DhIdeal.Facts) (hDhRefIdeal : Cert.DhRefIdeal.Facts) (hUpt : Cert.Upt.Facts) (hUptIdeal : Cert.UptIdeal.Facts) (hUptRefIdeal : Cert.UptRefIdeal.Facts) (hDwgu : Cert.Dwgu.Facts) (hDwguIdeal : Cert.DwguIdeal.Facts) (hDwguRefIdeal : Cert.DwguRefIdeal.Facts) (hTn : Cert.Tn.Facts) (hTnIdeal : Cert.TnIdeal.Facts) (hTnRefIdeal : Cert.TnRefIdeal.Facts) (hUpdw : Cert.Updw.Facts) (hUpdwIdeal : Cert.UpdwIdeal.Facts) (hUpdwRefIdeal : Cert.UpdwRefIdeal.Facts) (hAdam : Cert.Adam.Facts) (hAdamIdeal : Cert.AdamIdeal.Facts) (hAdamRefIdeal : Cert.AdamRefIdeal.Facts) (hWada : Cert.Wada.Facts) (hWadaIdeal : Cert.WadaIdeal.Facts) (hWadaRefIdeal : Cert.WadaRefIdeal.Facts) (hPre_act_finite : Cert.Pre_act_finite.Facts) (hPre_norm1_finite : Cert.Pre_norm1_finite.Facts) (hPre_norm_finite : Cert.Pre_norm_finite.Facts) (hPre_attn_finite : Cert.Pre_attn_finite.Facts) (hPre_pool_finite : Cert.Pre_pool_finite.Facts) (hPre_fwd_finite : Cert.Pre_fwd_finite.Facts) (hPre_win_finite : Cert.Pre_win_finite.Facts),
    quiescent_Merge (hMerge := hMerge)
    ∧ quiescent_MergeIdeal (hMergeIdeal := hMergeIdeal)
    ∧ quiescent_MergeRefIdeal (hMergeRefIdeal := hMergeRefIdeal)
    ∧ quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_Mix (hMix := hMix)
    ∧ quiescent_MixIdeal (hMixIdeal := hMixIdeal)
    ∧ quiescent_MixRefIdeal (hMixRefIdeal := hMixRefIdeal)
    ∧ quiescent_Norm1 (hNorm1 := hNorm1)
    ∧ quiescent_Norm1Ideal (hNorm1Ideal := hNorm1Ideal)
    ∧ quiescent_Norm1Ideal_pre_norm1_finite (hNorm1Ideal := hNorm1Ideal) (hPre_norm1_finite := hPre_norm1_finite)
    ∧ quiescent_Norm1RefIdeal (hNorm1RefIdeal := hNorm1RefIdeal)
    ∧ quiescent_Norm1RefIdeal_pre_norm1_finite (hNorm1RefIdeal := hNorm1RefIdeal) (hPre_norm1_finite := hPre_norm1_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Loss (hLoss := hLoss)
    ∧ quiescent_LossIdeal (hLossIdeal := hLossIdeal)
    ∧ quiescent_LossRefIdeal (hLossRefIdeal := hLossRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Fwd (hFwd := hFwd)
    ∧ quiescent_FwdIdeal (hFwdIdeal := hFwdIdeal)
    ∧ quiescent_FwdIdeal_pre_fwd_finite (hFwdIdeal := hFwdIdeal) (hPre_fwd_finite := hPre_fwd_finite)
    ∧ quiescent_FwdRefIdeal (hFwdRefIdeal := hFwdRefIdeal)
    ∧ quiescent_FwdRefIdeal_pre_fwd_finite (hFwdRefIdeal := hFwdRefIdeal) (hPre_fwd_finite := hPre_fwd_finite)
    ∧ quiescent_Rmsf (hRmsf := hRmsf)
    ∧ quiescent_RmsfIdeal (hRmsfIdeal := hRmsfIdeal)
    ∧ quiescent_RmsfRefIdeal (hRmsfRefIdeal := hRmsfRefIdeal)
    ∧ quiescent_Up (hUp := hUp)
    ∧ quiescent_UpIdeal (hUpIdeal := hUpIdeal)
    ∧ quiescent_UpRefIdeal (hUpRefIdeal := hUpRefIdeal)
    ∧ quiescent_Gate (hGate := hGate)
    ∧ quiescent_GateIdeal (hGateIdeal := hGateIdeal)
    ∧ quiescent_GateRefIdeal (hGateRefIdeal := hGateRefIdeal)
    ∧ quiescent_Pmix (hPmix := hPmix)
    ∧ quiescent_PmixIdeal (hPmixIdeal := hPmixIdeal)
    ∧ quiescent_PmixRefIdeal (hPmixRefIdeal := hPmixRefIdeal)
    ∧ quiescent_Res (hRes := hRes)
    ∧ quiescent_ResIdeal (hResIdeal := hResIdeal)
    ∧ quiescent_ResRefIdeal (hResRefIdeal := hResRefIdeal)
    ∧ quiescent_Win (hWin := hWin)
    ∧ quiescent_WinIdeal (hWinIdeal := hWinIdeal)
    ∧ quiescent_WinIdeal_pre_win_finite (hWinIdeal := hWinIdeal) (hPre_win_finite := hPre_win_finite)
    ∧ quiescent_WinRefIdeal (hWinRefIdeal := hWinRefIdeal)
    ∧ quiescent_WinRefIdeal_pre_win_finite (hWinRefIdeal := hWinRefIdeal) (hPre_win_finite := hPre_win_finite)
    ∧ quiescent_Mod (hMod := hMod)
    ∧ quiescent_ModIdeal (hModIdeal := hModIdeal)
    ∧ quiescent_ModRefIdeal (hModRefIdeal := hModRefIdeal)
    ∧ quiescent_Zin (hZin := hZin)
    ∧ quiescent_ZinIdeal (hZinIdeal := hZinIdeal)
    ∧ quiescent_ZinRefIdeal (hZinRefIdeal := hZinRefIdeal)
    ∧ quiescent_Dh (hDh := hDh)
    ∧ quiescent_DhIdeal (hDhIdeal := hDhIdeal)
    ∧ quiescent_DhRefIdeal (hDhRefIdeal := hDhRefIdeal)
    ∧ quiescent_Upt (hUpt := hUpt)
    ∧ quiescent_UptIdeal (hUptIdeal := hUptIdeal)
    ∧ quiescent_UptRefIdeal (hUptRefIdeal := hUptRefIdeal)
    ∧ quiescent_Dwgu (hDwgu := hDwgu)
    ∧ quiescent_DwguIdeal (hDwguIdeal := hDwguIdeal)
    ∧ quiescent_DwguRefIdeal (hDwguRefIdeal := hDwguRefIdeal)
    ∧ quiescent_Tn (hTn := hTn)
    ∧ quiescent_TnIdeal (hTnIdeal := hTnIdeal)
    ∧ quiescent_TnRefIdeal (hTnRefIdeal := hTnRefIdeal)
    ∧ quiescent_Updw (hUpdw := hUpdw)
    ∧ quiescent_UpdwIdeal (hUpdwIdeal := hUpdwIdeal)
    ∧ quiescent_UpdwRefIdeal (hUpdwRefIdeal := hUpdwRefIdeal)
    ∧ quiescent_Adam (hAdam := hAdam)
    ∧ quiescent_AdamIdeal (hAdamIdeal := hAdamIdeal)
    ∧ quiescent_AdamRefIdeal (hAdamRefIdeal := hAdamRefIdeal)
    ∧ quiescent_Wada (hWada := hWada)
    ∧ quiescent_WadaIdeal (hWadaIdeal := hWadaIdeal)
    ∧ quiescent_WadaRefIdeal (hWadaRefIdeal := hWadaRefIdeal)
    ∧ preserves_Merge_MergeIdeal
    ∧ algebraic_MergeIdeal_MergeRefIdeal (hMergeIdeal := hMergeIdeal) (hMergeRefIdeal := hMergeRefIdeal)
    ∧ preserves_Act_ActIdeal
    ∧ algebraic_ActIdeal_ActRefIdeal_pre_act_finite (hActIdeal := hActIdeal) (hActRefIdeal := hActRefIdeal) (hPre_act_finite := hPre_act_finite)
    ∧ preserves_Mix_MixIdeal
    ∧ algebraic_MixIdeal_MixRefIdeal (hMixIdeal := hMixIdeal) (hMixRefIdeal := hMixRefIdeal)
    ∧ preserves_Norm1_Norm1Ideal
    ∧ algebraic_Norm1Ideal_Norm1RefIdeal_pre_norm1_finite (hNorm1Ideal := hNorm1Ideal) (hNorm1RefIdeal := hNorm1RefIdeal) (hPre_norm1_finite := hPre_norm1_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Loss_LossIdeal
    ∧ algebraic_LossIdeal_LossRefIdeal (hLossIdeal := hLossIdeal) (hLossRefIdeal := hLossRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Fwd_FwdIdeal
    ∧ algebraic_FwdIdeal_FwdRefIdeal_pre_fwd_finite (hFwdIdeal := hFwdIdeal) (hFwdRefIdeal := hFwdRefIdeal) (hPre_fwd_finite := hPre_fwd_finite)
    ∧ preserves_Rmsf_RmsfIdeal
    ∧ algebraic_RmsfIdeal_RmsfRefIdeal (hRmsfIdeal := hRmsfIdeal) (hRmsfRefIdeal := hRmsfRefIdeal)
    ∧ preserves_Up_UpIdeal
    ∧ algebraic_UpIdeal_UpRefIdeal (hUpIdeal := hUpIdeal) (hUpRefIdeal := hUpRefIdeal)
    ∧ preserves_Gate_GateIdeal
    ∧ algebraic_GateIdeal_GateRefIdeal (hGateIdeal := hGateIdeal) (hGateRefIdeal := hGateRefIdeal)
    ∧ preserves_Pmix_PmixIdeal
    ∧ algebraic_PmixIdeal_PmixRefIdeal (hPmixIdeal := hPmixIdeal) (hPmixRefIdeal := hPmixRefIdeal)
    ∧ preserves_Res_ResIdeal
    ∧ algebraic_ResIdeal_ResRefIdeal (hResIdeal := hResIdeal) (hResRefIdeal := hResRefIdeal)
    ∧ preserves_Win_WinIdeal
    ∧ algebraic_WinIdeal_WinRefIdeal_pre_win_finite (hWinIdeal := hWinIdeal) (hWinRefIdeal := hWinRefIdeal) (hPre_win_finite := hPre_win_finite)
    ∧ preserves_Mod_ModIdeal
    ∧ algebraic_ModIdeal_ModRefIdeal (hModIdeal := hModIdeal) (hModRefIdeal := hModRefIdeal)
    ∧ preserves_Zin_ZinIdeal
    ∧ algebraic_ZinIdeal_ZinRefIdeal (hZinIdeal := hZinIdeal) (hZinRefIdeal := hZinRefIdeal)
    ∧ preserves_Dh_DhIdeal
    ∧ algebraic_DhIdeal_DhRefIdeal (hDhIdeal := hDhIdeal) (hDhRefIdeal := hDhRefIdeal)
    ∧ preserves_Upt_UptIdeal
    ∧ algebraic_UptIdeal_UptRefIdeal (hUptIdeal := hUptIdeal) (hUptRefIdeal := hUptRefIdeal)
    ∧ preserves_Dwgu_DwguIdeal
    ∧ algebraic_DwguIdeal_DwguRefIdeal (hDwguIdeal := hDwguIdeal) (hDwguRefIdeal := hDwguRefIdeal)
    ∧ preserves_Tn_TnIdeal
    ∧ algebraic_TnIdeal_TnRefIdeal (hTnIdeal := hTnIdeal) (hTnRefIdeal := hTnRefIdeal)
    ∧ preserves_Updw_UpdwIdeal
    ∧ algebraic_UpdwIdeal_UpdwRefIdeal (hUpdwIdeal := hUpdwIdeal) (hUpdwRefIdeal := hUpdwRefIdeal)
    ∧ preserves_Adam_AdamIdeal
    ∧ algebraic_AdamIdeal_AdamRefIdeal (hAdamIdeal := hAdamIdeal) (hAdamRefIdeal := hAdamRefIdeal)
    ∧ preserves_Wada_WadaIdeal
    ∧ algebraic_WadaIdeal_WadaRefIdeal (hWadaIdeal := hWadaIdeal) (hWadaRefIdeal := hWadaRefIdeal)
-- ==== Pre_act_finite.lean ====
abbrev S8192x2048 : Shape := ⟨2, ![8192, 2048]⟩
abbrev S5632x2048 : Shape := ⟨2, ![5632, 2048]⟩
abbrev S8192x11264 : Shape := ⟨2, ![8192, 11264]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x11264 : S_.BroadcastsInDim S8192x11264 (![] : Fin 0 → Fin S8192x11264.rank)
  reducesTo_S8192x11264_S_d0_1 : S8192x11264.ReducesTo [0, 1] S_

variable [Facts]

def fn {F : FTy → Type} [FloatOps F] (main_arg0 : FVec F S8192x2048 .f32) (main_arg1 : FVec F S5632x2048 .f32) (main_arg2 : FVec F S8192x11264 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S8192x11264 .f32 := Host.absf main_arg2
  let main_cst_2 : FVec F S_ .f32 := constant S_ .f32 0x7F800000#32
  let main_v10 : FVec F S8192x11264 .f32 := broadcastInDim S8192x11264 ![] bcast_S_S8192x11264 main_cst_2
  let main_v11 : IVec S8192x11264 1 := cmpf .olt main_v9 main_v10
  let main_c_3 : IVec S_ 1 := constantI S_ 1 1#1
  let main_v12 : IVec S_ 1 := (fun x v => Host.reduce IntOp.andi x v reducesTo_S8192x11264_S_d0_1 h_S_) main_v11 main_c_3
  let main_v13 : IVec S_ 1 := andi main_v8 main_v12
  main_v13
-- ==== Pre_attn_finite.lean ====
abbrev S8192x6400 : Shape := ⟨2, ![8192, 6400]⟩
abbrev S1x64 : Shape := ⟨2, ![1, 64]⟩
abbrev S1x16 : Shape := ⟨2, ![1, 16]⟩
abbrev S32x16 : Shape := ⟨2, ![32, 16]⟩
abbrev S8192x1024 : Shape := ⟨2, ![8192, 1024]⟩
abbrev S_ : Shape := ⟨0, ![]⟩

class Facts : Prop where
  bcast_S_S8192x6400 : S_.BroadcastsInDim S8192x6400 (![] : Fin 0 → Fin S8192x6400.rank)
  reducesTo_S8192x6400_S_d0_1 : S8192x6400.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S1x16 : S_.BroadcastsInDim S1x16 (![] : Fin 0 → Fin S1x16.rank)
  reducesTo_S1x16_S_d0_1 : S1x16.ReducesTo [0, 1] S_
  bcast_S_S32x16 : S_.BroadcastsInDim S32x16 (![] : Fin 0 → Fin S32x16.rank)
  reducesTo_S32x16_S_d0_1 : S32x16.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S32x16 .f32) (main_arg5 : FVec F S8192x1024 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x6400 .f32) (main_arg1 : FVec F S1x64 .f32) (main_arg2 : FVec F S1x64 .f32) (main_arg3 : FVec F S1x16 .f32) (main_arg4 : FVec F S32x16 .f32) (main_arg5 : FVec F S8192x1024 .f32) : IVec S_ 1 :=
  let main_v0 : FVec F S8192x6400 .f32 := Host.absf main_arg0
  let main_cst : FVec F S_ .f32 := constant S_ .f32 0x7F800000#32
  let main_v1 : FVec F S8192x6400 .f32 := broadcastInDim S8192x6400 ![] bcast_S_S8192x6400 main_cst
  let main_v2 : IVec S8192x6400 1 := cmpf .olt main_v0 main_v1
  let main_c : IVec S_ 1 := constantI S_ 1 1#1
  let main_v3 : IVec S_ 1 := (fun x v => Host.reduce IntOp.andi x v reducesTo_S8192x6400_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg4 main_arg5 main_v13 main_v16
-- ==== Pre_fwd_finite.lean ====
abbrev S8192x6400 : Shape := ⟨2, ![8192, 6400]⟩
abbrev S1x64 : Shape := ⟨2, ![1, 64]⟩
abbrev S1x16 : Shape := ⟨2, ![1, 16]⟩
abbrev S32x16 : Shape := ⟨2, ![32, 16]⟩
abbrev S_ : Shape := ⟨0, ![]⟩

class Facts : Prop where
  bcast_S_S8192x6400 : S_.BroadcastsInDim S8192x6400 (![] : Fin 0 → Fin S8192x6400.rank)
  reducesTo_S8192x6400_S_d0_1 : S8192x6400.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S1x16 : S_.BroadcastsInDim S1x16 (![] : Fin 0 → Fin S1x16.rank)
  reducesTo_S1x16_S_d0_1 : S1x16.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  main_v23

def fn {F : FTy → Type} [FloatOps F] (main_arg0 : FVec F S8192x6400 .f32) (main_arg1 : FVec F S1x64 .f32) (main_arg2 : FVec F S1x64 .f32) (main_arg3 : FVec F S1x16 .f32) (main_arg4 : FVec F S32x16 .f32) : IVec S_ 1 :=
  let main_v0 : FVec F S8192x6400 .f32 := Host.absf main_arg0
  let main_cst : FVec F S_ .f32 := constant S_ .f32 0x7F800000#32
  let main_v1 : FVec F S8192x6400 .f32 := broadcastInDim S8192x6400 ![] bcast_S_S8192x6400 main_cst
  let main_v2 : IVec S8192x6400 1 := cmpf .olt main_v0 main_v1
  let main_c : IVec S_ 1 := constantI S_ 1 1#1
  let main_v3 : IVec S_ 1 := (fun x v => Host.reduce IntOp.andi x v reducesTo_S8192x6400_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg4 main_v13 main_v16
-- ==== Pre_norm1_finite.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S1x2048 .f32) (main_arg2 : FVec F S1x2048 .f32) (main_arg3 : FVec F S1x2048 .f32) (main_arg4 : FVec F S8192x2048 .f32) (main_arg5 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S8192x2048 .f32 := Host.absf main_arg5
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Pre_norm_finite.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg5 : FVec F S1x2048 .f32) (main_arg7 : FVec F S8192x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048 .f32 := Host.absf main_arg5
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S8192x2048 .f32 := Host.absf main_arg7
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  main_v28

def fn {F : FTy → Type} [FloatOps F] (main_arg0 : FVec F S8192x2048 .f32) (main_arg1 : FVec F S8192x2048 .f32) (main_arg2 : FVec F S1x2048 .f32) (main_arg3 : FVec F S1x2048 .f32) (main_arg4 : FVec F S1x2048 .f32) (main_arg5 : FVec F S1x2048 .f32) (main_arg6 : FVec F S8192x2048 .f32) (main_arg7 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg5 main_arg7 main_v13 main_v16
-- ==== Pre_pool_finite.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Pre_win_finite.lean ====
abbrev S8192x6400 : Shape := ⟨2, ![8192, 6400]⟩
abbrev S_ : Shape := ⟨0, ![]⟩

class Facts : Prop where
  bcast_S_S8192x6400 : S_.BroadcastsInDim S8192x6400 (![] : Fin 0 → Fin S8192x6400.rank)
  reducesTo_S8192x6400_S_d0_1 : S8192x6400.ReducesTo [0, 1] S_
  h_S_ : 0 < S_.numel

variable [Facts]

def fn {F : FTy → Type} [FloatOps F] (main_arg0 : FVec F S8192x6400 .f32) : IVec S_ 1 :=
  let main_v0 : FVec F S8192x6400 .f32 := Host.absf main_arg0
  let main_cst : FVec F S_ .f32 := constant S_ .f32 0x7F800000#32
  let main_v1 : FVec F S8192x6400 .f32 := broadcastInDim S8192x6400 ![] bcast_S_S8192x6400 main_cst
  let main_v2 : IVec S8192x6400 1 := cmpf .olt main_v0 main_v1
  let main_c : IVec S_ 1 := constantI S_ 1 1#1
  let main_v3 : IVec S_ 1 := (fun x v => Host.reduce IntOp.andi x v reducesTo_S8192x6400_S_d0_1 h_S_) main_v2 main_c
  main_v3
-- ==== Merge.lean ====
abbrev S8192x6400 : Shape := ⟨2, ![8192, 6400]⟩
abbrev S8192x2048 : Shape := ⟨2, ![8192, 2048]⟩
abbrev S2048x2048 : Shape := ⟨2, ![2048, 2048]⟩
abbrev S1x8192x2048 : Shape := ⟨3, ![1, 8192, 2048]⟩
abbrev S2x8192x2048 : Shape := ⟨3, ![2, 8192, 2048]⟩
abbrev S1024x2048 : Shape := ⟨2, ![1024, 2048]⟩
abbrev S256x2048 : Shape := ⟨2, ![256, 2048]⟩
abbrev S1024x256 : Shape := ⟨2, ![1024, 256]⟩
abbrev S2x1024x256 : Shape := ⟨3, ![2, 1024, 256]⟩
abbrev S1x1024x256 : Shape := ⟨3, ![1, 1024, 256]⟩

abbrev nBuf : Space → Nat
  | .hbm => 13
  | .vmem => 14
  | .smem => 0
  | _ => 0

abbrev bufTy : (tb : Table) → Fin (tcTables nBuf tb) → BufTy
  | .hbm, ⟨0, _⟩ => ⟨S8192x6400, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | .hbm, ⟨6, _⟩ => ⟨S2048x2048, .bf16⟩
  | .hbm, ⟨7, _⟩ => ⟨S1x8192x2048, .f32⟩
  | .hbm, ⟨8, _⟩ => ⟨S1x8192x2048, .f32⟩
  | .hbm, ⟨9, _⟩ => ⟨S2x8192x2048, .f32⟩
  | .hbm, ⟨10, _⟩ => ⟨S2x8192x2048, .bf16⟩
  | .hbm, ⟨11, _⟩ => ⟨S2x8192x2048, .bf16⟩
  | .hbm, ⟨12, _⟩ => ⟨S2x8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S2x1024x256, .bf16⟩
  | .local _ .vmem, ⟨9, _⟩ => ⟨S2x1024x256, .bf16⟩
  | .local _ .vmem, ⟨10, _⟩ => ⟨S2x1024x256, .bf16⟩
  | .local _ .vmem, ⟨11, _⟩ => ⟨S2x1024x256, .bf16⟩
  | .local _ .vmem, ⟨12, _⟩ => ⟨S2x1024x256, .bf16⟩
  | .local _ .vmem, ⟨13, _⟩ => ⟨S2x1024x256, .bf16⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi c9_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.addi c17_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MergeRefIdeal.lean ====
abbrev S8192x6400 : Shape := ⟨2, ![8192, 6400]⟩
abbrev S8192x2048 : Shape := ⟨2, ![8192, 2048]⟩
abbrev S2048x2048 : Shape := ⟨2, ![2048, 2048]⟩
abbrev S_ : Shape := ⟨0, ![]⟩
abbrev S1x8192x2048 : Shape := ⟨3, ![1, 8192, 2048]⟩
abbrev S2x8192x2048 : Shape := ⟨3, ![2, 8192, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x6400, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S1x8192x2048, .f32⟩
  | .hbm, ⟨43, _⟩ => ⟨S1x8192x2048, .f32⟩
  | .hbm, ⟨44, _⟩ => ⟨S2x8192x2048, .f32⟩
  | .hbm, ⟨45, _⟩ => ⟨S2x8192x2048, .bf16⟩
  | .hbm, ⟨46, _⟩ => ⟨S1x8192x2048, .f32⟩
  | .hbm, ⟨47, _⟩ => ⟨S1x8192x2048, .f32⟩
  | .hbm, ⟨48, _⟩ => ⟨S2x8192x2048, .f32⟩
  | .hbm, ⟨49, _⟩ => ⟨S2x8192x2048, .bf16⟩
  | _, _ => ⟨S8192x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Act.lean ====
abbrev S8192x2048 : Shape := ⟨2, ![8192, 2048]⟩
abbrev S5632x2048 : Shape := ⟨2, ![5632, 2048]⟩
abbrev S8192x11264 : Shape := ⟨2, ![8192, 11264]⟩
abbrev S8192x5632 : Shape := ⟨2, ![8192, 5632]⟩
abbrev S1x8192x5632 : Shape := ⟨3, ![1, 8192, 5632]⟩
abbrev S2x8192x5632 : Shape := ⟨3, ![2, 8192, 5632]⟩
abbrev S512x2048 : Shape := ⟨2, ![512, 2048]⟩
abbrev S1408x2048 : Shape := ⟨2, ![1408, 2048]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 12
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x11264, .f32⟩
  | .hbm, ⟨3, _⟩ => ⟨S8192x2048, .bf16⟩
  | .hbm, ⟨4, _⟩ => ⟨S5632x2048, .bf16⟩
  | .hbm, ⟨5, _⟩ => ⟨S8192x5632, .f32⟩
  | .hbm, ⟨6, _⟩ => ⟨S8192x5632, .f32⟩
  | .hbm, ⟨7, _⟩ => ⟨S1x8192x5632, .f32⟩
  | .hbm, ⟨8, _⟩ => ⟨S1x8192x5632, .f32⟩
  | .hbm, ⟨9, _⟩ => ⟨S2x8192x5632, .f32⟩
  | .hbm, ⟨10, _⟩ => ⟨S2x8192x5632, .bf16⟩
  | .hbm, ⟨11, _⟩ => ⟨S2x8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActRefIdeal.lean ====
abbrev S8192x2048 : Shape := ⟨2, ![8192, 2048]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩
abbrev S1x8192x5632 : Shape := ⟨3, ![1, 8192, 5632]⟩
abbrev S2x8192x5632 : Shape := ⟨3, ![2, 8192, 5632]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x11264, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x2048, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x11264, .f32⟩
  | .hbm, ⟨28, _⟩ => ⟨S8192x5632, .f32⟩
  | .hbm, ⟨29, _⟩ => ⟨S8192x5632, .f32⟩
  | .hbm, ⟨30, _⟩ => ⟨S1x8192x5632, .f32⟩
  | .hbm, ⟨31, _⟩ => ⟨S1x8192x5632, .f32⟩
  | .hbm, ⟨32, _⟩ => ⟨S2x8192x5632, .f32⟩
  | .hbm, ⟨33, _⟩ => ⟨S2x8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Mix.lean ====
abbrev S8192x1024 : Shape := ⟨2, ![8192, 1024]⟩
abbrev S4x256x256 : Shape := ⟨3, ![4, 256, 256]⟩
abbrev S1x1024 : Shape := ⟨2, ![1, 1024]⟩
abbrev S8x1024 : Shape := ⟨2, ![8, 1024]⟩
abbrev S1024x256 : Shape := ⟨2, ![1024, 256]⟩
abbrev S1x256x256 : Shape := ⟨3, ![1, 256, 256]⟩
abbrev S1x256 : Shape := ⟨2, ![1, 256]⟩
abbrev S8x256 : Shape := ⟨2, ![8, 256]⟩
abbrev S256x256 : Shape := ⟨2, ![256, 256]⟩
abbrev S256 : Shape := ⟨1, ![256]⟩
abbrev S7x256 : Shape := ⟨2, ![7, 256]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S1x1024, .f32⟩
  | .hbm, ⟨3, _⟩ => ⟨S8192x1024, .f32⟩
  | .hbm, ⟨4, _⟩ => ⟨S8192x1024, .bf16⟩
  | .hbm, ⟨5, _⟩ => ⟨S4x256x256, .bf16⟩
  | .hbm, ⟨6, _⟩ => ⟨S8192x1024, .f32⟩
  | .hbm, ⟨7, _⟩ => ⟨S4x256x256, .f32⟩
  | .hbm, ⟨8, _⟩ => ⟨S8x1024, .f32⟩
  | .local _ .vmem, ⟨0, _⟩ => ⟨S1024x256, .bf16⟩
  | .local _ .vmem, ⟨1, _⟩ => ⟨S1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1x256x256, .f32⟩
  | .local _ .vmem, ⟨11, _⟩ => ⟨S1x256x256, .f32⟩
  | .local _ .vmem, ⟨12, _⟩ => ⟨S8x256, .f32⟩
  | .local _ .vmem, ⟨13, _⟩ => ⟨S8x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_14 : BitVec 32 := 0#32
  let v20 : BitVec 1 := Scalar.cmpi .ne v19 c0_i32_14
  v20

def k0_cond2 (i : grid0.Coords) : BitVec 1 :=
  let arg1 : BitVec 32 := BitVec.ofNat 32 (i 1).val
  let c0_i32 : BitVec 32 := 0#32
  let v18 : BitVec 1 := Scalar.cmpi .eq arg1 c0_i32
  let v_true : BitVec 1 := 1#1
  let v21 : BitVec 1 := Scalar.xori v18 v_true
  let v22 : BitVec 32 := Scalar.extui v21
  let c0_i32_15 : BitVec 32 := 0#32
  let v23 : BitVec 1 := Scalar.cmpi .ne v22 c0_i32_15
  v23

def k0_cond3 (i : grid0.Coords) : BitVec 1 :=
  let arg1 : BitVec 32 := BitVec.ofNat 32 (i 1).val
  let c0_i32_16 : BitVec 32 := 0#32
  let v24 : BitVec 1 := Scalar.cmpi .eq arg1 c0_i32_16
  let v25 : BitVec 32 := Scalar.extui v24
  let c0_i32_17 : BitVec 32 := 0#32
  let v26 : BitVec 1 := Scalar.cmpi .ne v25 c0_i32_17
  v26

def k0_cond4 (i : grid0.Coords) : BitVec 1 :=
  let arg1 : BitVec 32 := BitVec.ofNat 32 (i 1).val
  let c0_i32_16 : BitVec 32 := 0#32
  let v24 : BitVec 1 := Scalar.cmpi .eq arg1 c0_i32_16
  let true_18 : BitVec 1 := 1#1
  let v27 : BitVec 1 := Scalar.xori v24 true_18
  let v28 : BitVec 32 := Scalar.extui v27
  let c0_i32_19 : BitVec 32 := 0#32
  let v29 : BitVec 1 := Scalar.cmpi .ne v28 c0_i32_19
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MixRefIdeal.lean ====
abbrev S8192x1024 : Shape := ⟨2, ![8192, 1024]⟩
abbrev S4x256x256 : Shape := ⟨3, ![4, 256, 256]⟩
abbrev S1x1024 : Shape := ⟨2, ![1, 1024]⟩
abbrev S8192x4x256 : Shape := ⟨3, ![8192, 4, 256]⟩
abbrev S4x256x8192 : Shape := ⟨3, ![4, 256, 8192]⟩
abbrev S_ : Shape := ⟨0, ![]⟩
abbrev S1024 : Shape := ⟨1, ![1024]⟩
abbrev S4x8192x256 : Shape := ⟨3, ![4, 8192, 256]⟩
abbrev S7x1024 : Shape := ⟨2, ![7, 1024]⟩
abbrev S8x1024 : Shape := ⟨2, ![8, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S1x1024, .f32⟩
  | .hbm, ⟨3, _⟩ => ⟨S8192x1024, .f32⟩
  | .hbm, ⟨4, _⟩ => ⟨S8192x4x256, .f32⟩
  | .hbm, ⟨5, _⟩ => ⟨S4x256x8192, .f32⟩
  | .hbm, ⟨6, _⟩ => ⟨S8192x4x256, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x4x256, .f32⟩
  | .hbm, ⟨17, _⟩ => ⟨S4x256x8192, .f32⟩
  | .hbm, ⟨18, _⟩ => ⟨S4x8192x256, .f32⟩
  | .hbm, ⟨19, _⟩ => ⟨S8192x4x256, .f32⟩
  | .hbm, ⟨20, _⟩ => ⟨S4x256x256, .f32⟩
  | .hbm, ⟨21, _⟩ => ⟨S4x256x256, .f32⟩
  | .hbm, ⟨22, _⟩ => ⟨S8192x1024, .f32⟩
  | .hbm, ⟨23, _⟩ => ⟨S_, .f32⟩
  | .hbm, ⟨24, _⟩ => ⟨S7x1024, .f32⟩
  | .hbm, ⟨25, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Norm1.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S5x2048 : Shape := ⟨2, ![5, 2048]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v46 : BitVec 32 := Scalar.extui v43
  let c0_i32_20 : BitVec 32 := 0#32
  let v47 : BitVec 1 := Scalar.cmpi .ne v46 c0_i32_20
  v47

def k0_cond2 (i : grid0.Coords) : BitVec 1 :=
  let arg0 : BitVec 32 := BitVec.ofNat 32 (i 0).val
  let c0_i32 : BitVec 32 := 0#32
  let v43 : BitVec 1 := Scalar.cmpi .eq arg0 c0_i32
  let v_true : BitVec 1 := 1#1
  let v48 : BitVec 1 := Scalar.xori v43 v_true
  let v49 : BitVec 32 := Scalar.extui v48
  let c0_i32_21 : BitVec 32 := 0#32
  let v50 : BitVec 1 := Scalar.cmpi .ne v49 c0_i32_21
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Norm1RefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S5x2048 : Shape := ⟨2, ![5, 2048]⟩
abbrev S8x2048 : Shape := ⟨2, ![8, 2048]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S5x2048, .f32⟩
  | .hbm, ⟨68, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S4x2048 : Shape := ⟨2, ![4, 2048]⟩

abbrev nBuf : Space → Nat
  | .hbm => 15
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S8192x2048, .bf16⟩
  | .hbm, ⟨14, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v58 : BitVec 32 := Scalar.extui v55
  let c0_i32_27 : BitVec 32 := 0#32
  let v59 : BitVec 1 := Scalar.cmpi .ne v58 c0_i32_27
  v59

def k0_cond2 (i : grid0.Coords) : BitVec 1 :=
  let arg0 : BitVec 32 := BitVec.ofNat 32 (i 0).val
  let c0_i32 : BitVec 32 := 0#32
  let v55 : BitVec 1 := Scalar.cmpi .eq arg0 c0_i32
  let v_true : BitVec 1 := 1#1
  let v60 : BitVec 1 := Scalar.xori v55 v_true
  let v61 : BitVec 32 := Scalar.extui v60
  let c0_i32_28 : BitVec 32 := 0#32
  let v62 : BitVec 1 := Scalar.cmpi .ne v61 c0_i32_28
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S4x2048 : Shape := ⟨2, ![4, 2048]⟩
abbrev S8x2048 : Shape := ⟨2, ![8, 2048]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S8192x2048, .bf16⟩
  | .hbm, ⟨79, _⟩ => ⟨S_, .f32⟩
  | .hbm, ⟨80, _⟩ => ⟨S4x2048, .f32⟩
  | .hbm, ⟨81, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Loss.lean ====
abbrev S8192x2048 : Shape := ⟨2, ![8192, 2048]⟩
abbrev S1x2048 : Shape := ⟨2, ![1, 2048]⟩
abbrev S_ : Shape := ⟨0, ![]⟩
abbrev S8x2048 : Shape := ⟨2, ![8, 2048]⟩
abbrev S512x2048 : Shape := ⟨2, ![512, 2048]⟩
abbrev S2048 : Shape := ⟨1, ![2048]⟩
abbrev S6x2048 : Shape := ⟨2, ![6, 2048]⟩

abbrev nBuf : Space → Nat
  | .hbm => 23
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .bf16⟩
  | .hbm, ⟨11, _⟩ => ⟨S8192x2048, .f32⟩
  | .hbm, ⟨12, _⟩ => ⟨S8192x2048, .bf16⟩
  | .hbm, ⟨13, _⟩ => ⟨S8x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_14 : BitVec 32 := 0#32
  let v26 : BitVec 1 := Scalar.cmpi .ne v25 c0_i32_14
  v26

def k0_cond2 (i : grid0.Coords) : BitVec 1 :=
  let arg0 : BitVec 32 := BitVec.ofNat 32 (i 0).val
  let c0_i32 : BitVec 32 := 0#32
  let v24 : BitVec 1 := Scalar.cmpi .eq arg0 c0_i32
  let v_true : BitVec 1 := 1#1
  let v27 : BitVec 1 := Scalar.xori v24 v_true
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S2048 : Shape := ⟨1, ![2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S_, .f32⟩
  | .hbm, ⟨40, _⟩ => ⟨S1x2048, .f32⟩
  | .hbm, ⟨41, _⟩ => ⟨S1x2048, .f32⟩
  | .hbm, ⟨42, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_cst_5 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Attn.lean ====
abbrev S8192x6400 : Shape := ⟨2, ![8192, 6400]⟩
abbrev S1x64 : Shape := ⟨2, ![1, 64]⟩
abbrev S1x16 : Shape := ⟨2, ![1, 16]⟩
abbrev S32x16 : Shape := ⟨2, ![32, 16]⟩
abbrev S8192x1024 : Shape := ⟨2, ![8192, 1024]⟩
abbrev S1x128 : Shape := ⟨2, ![1, 128]⟩
abbrev S2x1x8x1 : Shape := ⟨4, ![2, 1, 8, 1]⟩
abbrev S2x1x8x128 : Shape := ⟨4, ![2, 1, 8, 128]⟩
abbrev S2x1x1024 : Shape := ⟨3, ![2, 1, 1024]⟩
abbrev S_ : Shape := ⟨0, ![]⟩
abbrev S3 : Shape := ⟨1, ![3]⟩
abbrev S2 : Shape := ⟨1, ![2]⟩
abbrev S4 : Shape := ⟨1, ![4]⟩
abbrev S5 : Shape := ⟨1, ![5]⟩
abbrev S6 : Shape := ⟨1, ![6]⟩
abbrev S7 : Shape := ⟨1, ![7]⟩
abbrev S8 : Shape := ⟨1, ![8]⟩
abbrev S10 : Shape := ⟨1, ![10]⟩
abbrev S12 : Shape := ⟨1, ![12]⟩
abbrev S14 : Shape := ⟨1, ![14]⟩
abbrev S15 : Shape := ⟨1, ![15]⟩
abbrev S16 : Shape := ⟨1, ![16]⟩
abbrev S46 : Shape := ⟨1, ![46]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S1x32768 : Shape := ⟨2, ![1, 32768]⟩
abbrev S32 : Shape := ⟨1, ![32]⟩
abbrev S32x1 : Shape := ⟨2, ![32, 1]⟩
abbrev S32x32768 : Shape := ⟨2, ![32, 32768]⟩
abbrev S16x32768 : Shape := ⟨2, ![16, 32768]⟩
abbrev S32x4096 : Shape := ⟨2, ![32, 4096]⟩
abbrev S16x4096 : Shape := ⟨2, ![16, 4096]⟩
abbrev S4096 : Shape := ⟨1, ![4096]⟩
abbrev S1x4096 : Shape := ⟨2, ![1, 4096]⟩
abbrev S2x8x128x256 : Shape := ⟨4, ![2, 8, 128, 256]⟩
abbrev S2x256x8x128 : Shape := ⟨4, ![2, 256, 8, 128]⟩
abbrev S2x256x1024 : Shape := ⟨3, ![2, 256, 1024]⟩
abbrev S8192x2560 : Shape := ⟨2, ![8192, 2560]⟩
abbrev S8192x128 : Shape := ⟨2, ![8192, 128]⟩
abbrev S8x128 : Shape := ⟨2, ![8, 128]⟩
abbrev S128x512 : Shape := ⟨2, ![128, 512]⟩
abbrev S128x128 : Shape := ⟨2, ![128, 128]⟩
abbrev S128x1024 : Shape := ⟨2, ![128, 1024]⟩
abbrev S256x128 : Shape := ⟨2, ![256, 128]⟩
abbrev S256x1 : Shape := ⟨2, ![256, 1]⟩
abbrev S512x128 : Shape := ⟨2, ![512, 128]⟩
abbrev S256x512 : Shape := ⟨2, ![256, 512]⟩
abbrev S1x256x512 : Shape := ⟨3, ![1, 256, 512]⟩
abbrev S1x1x512 : Shape := ⟨3, ![1, 1, 512]⟩
abbrev S1x512 : Shape := ⟨2, ![1, 512]⟩
abbrev S512 : Shape := ⟨1, ![512]⟩
abbrev S6x128 : Shape := ⟨2, ![6, 128]⟩
abbrev S16x128 : Shape := ⟨2, ![16, 128]⟩

abbrev nBuf : Space → Nat
  | .hbm => 212
  | .vmem => 53
  | .smem => 0
  | _ => 0

abbrev hbmTy0_0 (i : Nat) : BufTy := match i % 128 with
  | 0 => ⟨S8192x6400, .f32⟩
  | 1 => ⟨S1x64, .f32⟩
  | 2 => ⟨S1x64, .f32⟩
  | 3 => ⟨S1x16, .f32⟩
  | 4 => ⟨S32x16, .f32⟩
  | 5 => ⟨S8192x1024, .f32⟩
  | 6 => ⟨S1x128, .f32⟩
  | 7 => ⟨S1x128, .f32⟩
  | 8 => ⟨S2x1x8x1, .f32⟩
  | 9 => ⟨S2x1x8x128, .f32⟩
  | 10 => ⟨S2x1x1024, .f32⟩
  | 11 => ⟨S_, .i32⟩
  | 12 => ⟨S3, .i32⟩
  | 13 => ⟨S_, .i32⟩
  | 14 => ⟨S2, .i32⟩
  | 15 => ⟨S_, .i32⟩
  | 16 => ⟨S3, .i32⟩
  | 17 => ⟨S_, .i32⟩
  | 18 => ⟨S3, .i32⟩
  | 19 => ⟨S_, .i32⟩
  | 20 => ⟨S4, .i32⟩
  | 21 => ⟨S_, .i32⟩
  | 22 => ⟨S4, .i32⟩
  | 23 => ⟨S_, .i32⟩
  | 24 => ⟨S5, .i32⟩
  | 25 => ⟨S_, .i32⟩
  | 26 => ⟨S6, .i32⟩
  | 27 => ⟨S_, .i32⟩
  | 28 => ⟨S6, .i32⟩
  | 29 => ⟨S_, .i32⟩
  | 30 => ⟨S7, .i32⟩
  | 31 => ⟨S_, .i32⟩
  | 32 => ⟨S8, .i32⟩
  | 33 => ⟨S_, .i32⟩
  | 34 => ⟨S10, .i32⟩
  | 35 => ⟨S_, .i32⟩
  | 36 => ⟨S10, .i32⟩
  | 37 => ⟨S_, .i32⟩
  | 38 => ⟨S12, .i32⟩
  | 39 => ⟨S_, .i32⟩
  | 40 => ⟨S14, .i32⟩
  | 41 => ⟨S_, .i32⟩
  | 42 => ⟨S15, .i32⟩
  | 43 => ⟨S16, .i32⟩
  | 44 => ⟨S46, .i32⟩
  | 45 => ⟨S128, .i32⟩
  | 46 => ⟨S128, .i32⟩
  | 47 => ⟨S128x1, .i32⟩
  | 48 => ⟨S_, .i32⟩
  | 49 => ⟨S128x1, .i32⟩
  | 50 => ⟨S128x1, .i32⟩
  | 51 => ⟨S256, .i32⟩
  | 52 => ⟨S1x256, .i32⟩
  | 53 => ⟨S128x256, .i32⟩
  | 54 => ⟨S128x256, .i32⟩
  | 55 => ⟨S128x256, .i32⟩
  | 56 => ⟨S_, .i32⟩
  | 57 => ⟨S128x256, .i32⟩
  | 58 => ⟨S128x256, .i1⟩
  | 59 => ⟨S_, .i32⟩
  | 60 => ⟨S128x256, .i32⟩
  | 61 => ⟨S128x256, .i1⟩
  | 62 => ⟨S128x256, .i1⟩
  | 63 => ⟨S_, .i32⟩
  | 64 => ⟨S_, .i32⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i32⟩
  | 71 => ⟨S_, .i32⟩
  | 72 => ⟨S128x256, .i32⟩
  | 73 => ⟨S128x256, .i1⟩
  | 74 => ⟨S_, .i32⟩
  | 75 => ⟨S128x256, .i32⟩
  | 76 => ⟨S128x256, .i32⟩
  | 77 => ⟨S128x256, .i32⟩
  | 78 => ⟨S128x256x1, .i32⟩
  | 79 => ⟨S128x256, .i32⟩
  | 80 => ⟨S_, .i32⟩
  | 81 => ⟨S_, .i32⟩
  | 82 => ⟨S128x256, .i32⟩
  | 83 => ⟨S128x256, .i32⟩
  | 84 => ⟨S1x32768, .i32⟩
  | 85 => ⟨S32, .i32⟩
  | 86 => ⟨S32x1, .i32⟩
  | 87 => ⟨S32x32768, .i32⟩
  | 88 => ⟨S32x32768, .i32⟩
  | 89 => ⟨S32x32768, .i1⟩
  | 90 => ⟨S_, .f32⟩
  | 91 => ⟨S_, .f32⟩
  | 92 => ⟨S32x32768, .f32⟩
  | 93 => ⟨S32x32768, .f32⟩
  | 94 => ⟨S32x32768, .f32⟩
  | 95 => ⟨S32x32768, .bf16⟩
  | 96 => ⟨S16x32768, .f32⟩
  | 97 => ⟨S2x8x128x256, .f32⟩
  | 98 => ⟨S2x256x8x128, .f32⟩
  | 99 => ⟨S2x256x1024, .f32⟩
  | 100 => ⟨S8192x2560, .f32⟩
  | 101 => ⟨S8192x1024, .bf16⟩
  | 102 => ⟨S8192x128, .f32⟩
  | 103 => ⟨S8192x128, .f32⟩
  | 104 => ⟨S8192x128, .f32⟩
  | 105 => ⟨S8192x128, .f32⟩
  | 106 => ⟨S2x256x1024, .f32⟩
  | 107 => ⟨S2x1x1024, .f32⟩
  | 108 => ⟨S8x128, .f32⟩
  | 109 => ⟨S8192x128, .bf16⟩
  | 110 => ⟨S8192x128, .bf16⟩
  | 111 => ⟨S2x256x8x128, .f32⟩
  | 112 => ⟨S2x8x128x256, .f32⟩
  | 113 => ⟨S16x32768, .f32⟩
  | 114 => ⟨S_, .i32⟩
  | 115 => ⟨S3, .i32⟩
  | 116 => ⟨S_, .i32⟩
  | 117 => ⟨S2, .i32⟩
  | 118 => ⟨S_, .i32⟩
  | 119 => ⟨S3, .i32⟩
  | 120 => ⟨S_, .i32⟩
  | 121 => ⟨S3, .i32⟩
  | 122 => ⟨S_, .i32⟩
  | 123 => ⟨S4, .i32⟩
  | 124 => ⟨S_, .i32⟩
  | 125 => ⟨S4, .i32⟩
  | 126 => ⟨S_, .i32⟩
  | 127 => ⟨S5, .i32⟩
  | _ => ⟨S8192x6400, .f32⟩

abbrev hbmTy0_1 (i : Nat) : BufTy := match i % 128 with
  | 0 => ⟨S_, .i32⟩
  | 1 => ⟨S6, .i32⟩
  | 2 => ⟨S_, .i32⟩
  | 3 => ⟨S6, .i32⟩
  | 4 => ⟨S_, .i32⟩
  | 5 => ⟨S7, .i32⟩
  | 6 => ⟨S_, .i32⟩
  | 7 => ⟨S8, .i32⟩
  | 8 => ⟨S_, .i32⟩
  | 9 => ⟨S10, .i32⟩
  | 10 => ⟨S_, .i32⟩
  | 11 => ⟨S10, .i32⟩
  | 12 => ⟨S_, .i32⟩
  | 13 => ⟨S12, .i32⟩
  | 14 => ⟨S_, .i32⟩
  | 15 => ⟨S14, .i32⟩
  | 16 => ⟨S_, .i32⟩
  | 17 => ⟨S15, .i32⟩
  | 18 => ⟨S16, .i32⟩
  | 19 => ⟨S46, .i32⟩
  | 20 => ⟨S128, .i32⟩
  | 21 => ⟨S128, .i32⟩
  | 22 => ⟨S128x1, .i32⟩
  | 23 => ⟨S_, .i32⟩
  | 24 => ⟨S128x1, .i32⟩
  | 25 => ⟨S128x1, .i32⟩
  | 26 => ⟨S256, .i32⟩
  | 27 => ⟨S1x256, .i32⟩
  | 28 => ⟨S128x256, .i32⟩
  | 29 => ⟨S128x256, .i32⟩
  | 30 => ⟨S128x256, .i32⟩
  | 31 => ⟨S_, .i32⟩
  | 32 => ⟨S128x256, .i32⟩
  | 33 => ⟨S128x256, .i1⟩
  | 34 => ⟨S_, .i32⟩
  | 35 => ⟨S128x256, .i32⟩
  | 36 => ⟨S128x256, .i1⟩
  | 37 => ⟨S128x256, .i1⟩
  | 38 => ⟨S_, .i32⟩
  | 39 => ⟨S_, .i32⟩
  | 40 => ⟨S_, .i32⟩
  | 41 => ⟨S128x256, .i32⟩
  | 42 => ⟨S128x256, .i32⟩
  | 43 => ⟨S_, .i32⟩
  | 44 => ⟨S128x256, .i32⟩
  | 45 => ⟨S128x256, .i32⟩
  | 46 => ⟨S_, .i32⟩
  | 47 => ⟨S128x256, .i32⟩
  | 48 => ⟨S128x256, .i1⟩
  | 49 => ⟨S_, .i32⟩
  | 50 => ⟨S128x256, .i32⟩
  | 51 => ⟨S128x256, .i32⟩
  | 52 => ⟨S128x256, .i32⟩
  | 53 => ⟨S128x256x1, .i32⟩
  | 54 => ⟨S128x256, .i32⟩
  | 55 => ⟨S_, .i32⟩
  | 56 => ⟨S_, .i32⟩
  | 57 => ⟨S128x256, .i32⟩
  | 58 => ⟨S128x256, .i32⟩
  | 59 => ⟨S1x32768, .i32⟩
  | 60 => ⟨S32, .i32⟩
  | 61 => ⟨S32x1, .i32⟩
  | 62 => ⟨S32x32768, .i32⟩
  | 63 => ⟨S32x32768, .i32⟩
  | 64 => ⟨S32x32768, .i1⟩
  | 65 => ⟨S_, .f32⟩
  | 66 => ⟨S_, .f32⟩
  | 67 => ⟨S32x32768, .f32⟩
  | 68 => ⟨S32x32768, .f32⟩
  | 69 => ⟨S32x32768, .f32⟩
  | 70 => ⟨S32x32768, .bf16⟩
  | 71 => ⟨S32x16, .f32⟩
  | 72 => ⟨S1x128, .f32⟩
  | 73 => ⟨S1x64, .f32⟩
  | 74 => ⟨S1x64, .f32⟩
  | 75 => ⟨S1x64, .f32⟩
  | 76 => ⟨S1x128, .f32⟩
  | 77 => ⟨S1x64, .f32⟩
  | 78 => ⟨S1x64, .f32⟩
  | 79 => ⟨S1x64, .f32⟩
  | 80 => ⟨S16x128, .f32⟩
  | 81 => ⟨S_, .f32⟩
  | 82 => ⟨S16, .f32⟩
  | 83 => ⟨S1x16, .f32⟩
  | _ => ⟨S8192x6400, .f32⟩

abbrev hbmTy (i : Nat) : BufTy := match i / 128 with
  | 0 => hbmTy0_0 i
  | 1 => hbmTy0_1 i
  | _ => ⟨S8192x6400, .f32⟩

abbrev bufTy : (tb : Table) → Fin (tcTables nBuf tb) → BufTy
  | .hbm, ⟨i, _⟩ => hbmTy i
  | .local _ .vmem, ⟨0, _⟩ => ⟨S32x16, .f32⟩
  | .local _ .vmem, ⟨1, _⟩ => ⟨S32x4096, .bf16⟩
  | .local _ .vmem, ⟨2, _⟩ => ⟨S32x4096, .bf16⟩
  | .local _ .vmem, ⟨3, _⟩ => ⟨S16x4096, .f32⟩
  | .local _ .vmem, ⟨4, _⟩ => ⟨S16x4096, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S2x1x1024, .f32⟩
  | .local _ .vmem, ⟨20, _⟩ => ⟨S2x256x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .bf16⟩
  | .local _ .vmem, ⟨24, _⟩ => ⟨S128x1024, .bf16⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S2x256x1024, .f32⟩
  | .local _ .vmem, ⟨34, _⟩ => ⟨S2x1x1024, .f32⟩
  | .local _ .vmem, ⟨35, _⟩ => ⟨S8x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S128x128, .f32⟩
  | .local _ .vmem, ⟨42, _⟩ => ⟨S128x128, .f32⟩
  | .local _ .vmem, ⟨43, _⟩ => ⟨S128x128, .f32⟩
  | .local _ .vmem, ⟨44, _⟩ => ⟨S128x128, .bf16⟩
  | .local _ .vmem, ⟨45, _⟩ => ⟨S128x128, .bf16⟩
  | .local _ .vmem, ⟨46, _⟩ => ⟨S128x128, .bf16⟩
  | .local _ .vmem, ⟨47, _⟩ => ⟨S128x128, .bf16⟩
  | .local _ .vmem, ⟨48, _⟩ => ⟨S16x4096, .f32⟩
  | .local _ .vmem, ⟨49, _⟩ => ⟨S16x4096, .f32⟩
  | .local _ .vmem, ⟨50, _⟩ => ⟨S32x4096, .bf16⟩
  | .local _ .vmem, ⟨51, _⟩ => ⟨S32x4096, .bf16⟩
  | .local _ .vmem, ⟨52, _⟩ => ⟨S32x16, .f32⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_c_5 : Ref sig .tc := ⟨.hbm, 23, rfl⟩
abbrev main_v11 : Ref sig .tc := ⟨.hbm, 24, rfl⟩
abbrev main_c_6 : Ref sig .tc := ⟨.hbm, 25, rfl⟩
abbrev main_v12 : Ref sig .tc := ⟨.hbm, 26, rfl⟩
abbrev main_c_7 : Ref sig .tc := ⟨.hbm, 27, rfl⟩
abbrev main_v13 : Ref sig .tc := ⟨.hbm, 28, rfl⟩
abbrev main_c_8 : Ref sig .tc := ⟨.hbm, 29, rfl⟩
abbrev main_v14 : Ref sig .tc := ⟨.hbm, 30, rfl⟩
abbrev main_c_9 : Ref sig .tc := ⟨.hbm, 31, rfl⟩
abbrev main_v15 : Ref sig .tc := ⟨.hbm, 32, rfl⟩
abbrev main_c_10 : Ref sig .tc := ⟨.hbm, 33, rfl⟩
abbrev main_v16 : Ref sig .tc := ⟨.hbm, 34, rfl⟩
abbrev main_c_11 : Ref sig .tc := ⟨.hbm, 35, rfl⟩
abbrev main_v17 : Ref sig .tc := ⟨.hbm, 36, rfl⟩
abbrev main_c_12 : Ref sig .tc := ⟨.hbm, 37, rfl⟩
abbrev main_v18 : Ref sig .tc := ⟨.hbm, 38, rfl⟩
abbrev main_c_13 : Ref sig .tc := ⟨.hbm, 39, rfl⟩
abbrev main_v19 : Ref sig .tc := ⟨.hbm, 40, rfl⟩
abbrev main_c_14 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_15 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_16 : Ref sig .tc := ⟨.hbm, 56, rfl⟩
abbrev main_v33 : Ref sig .tc := ⟨.hbm, 57, rfl⟩
abbrev main_v34 : Ref sig .tc := ⟨.hbm, 58, rfl⟩
abbrev main_c_17 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_18 : Ref sig .tc := ⟨.hbm, 63, rfl⟩
abbrev main_c_19 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v38 : Ref sig .tc := ⟨.hbm, 70, rfl⟩
abbrev main_c_20 : Ref sig .tc := ⟨.hbm, 71, rfl⟩
abbrev main_v39 : Ref sig .tc := ⟨.hbm, 72, rfl⟩
abbrev main_v40 : Ref sig .tc := ⟨.hbm, 73, rfl⟩
abbrev main_c_21 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_22 : Ref sig .tc := ⟨.hbm, 80, rfl⟩
abbrev main_call1_v0 : Ref sig .tc := ⟨.hbm, 81, rfl⟩
abbrev main_call1_v1 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst : Ref sig .tc := ⟨.hbm, 90, rfl⟩
abbrev main_cst_23 : Ref sig .tc := ⟨.hbm, 91, rfl⟩
abbrev main_call2_v0 : Ref sig .tc := ⟨.hbm, 92, rfl⟩
abbrev main_call2_v1 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60_0 : Ref sig .tc := ⟨.hbm, 101, rfl⟩
abbrev main_v60_1 : Ref sig .tc := ⟨.hbm, 102, rfl⟩
abbrev main_v60_2 : Ref sig .tc := ⟨.hbm, 103, rfl⟩
abbrev main_v60_3 : Ref sig .tc := ⟨.hbm, 104, rfl⟩
abbrev main_v60_4 : Ref sig .tc := ⟨.hbm, 105, rfl⟩
abbrev main_v60_5 : Ref sig .tc := ⟨.hbm, 106, rfl⟩
abbrev main_v60_6 : Ref sig .tc := ⟨.hbm, 107, rfl⟩
abbrev main_v60_7 : Ref sig .tc := ⟨.hbm, 108, rfl⟩
abbrev main_v61_0 : Ref sig .tc := ⟨.hbm, 109, rfl⟩
abbrev main_v61_1 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_c_24 : Ref sig .tc := ⟨.hbm, 114, rfl⟩
abbrev main_v65 : Ref sig .tc := ⟨.hbm, 115, rfl⟩
abbrev main_c_25 : Ref sig .tc := ⟨.hbm, 116, rfl⟩
abbrev main_v66 : Ref sig .tc := ⟨.hbm, 117, rfl⟩
abbrev main_c_26 : Ref sig .tc := ⟨.hbm, 118, rfl⟩
abbrev main_v67 : Ref sig .tc := ⟨.hbm, 119, rfl⟩
abbrev main_c_27 : Ref sig .tc := ⟨.hbm, 120, rfl⟩
abbrev main_v68 : Ref sig .tc := ⟨.hbm, 121, rfl⟩
abbrev main_c_28 : Ref sig .tc := ⟨.hbm, 122, rfl⟩
abbrev main_v69 : Ref sig .tc := ⟨.hbm, 123, rfl⟩
abbrev main_c_29 : Ref sig .tc := ⟨.hbm, 124, rfl⟩
abbrev main_v70 : Ref sig .tc := ⟨.hbm, 125, rfl⟩
abbrev main_c_30 : Ref sig .tc := ⟨.hbm, 126, rfl⟩
abbrev main_v71 : Ref sig .tc := ⟨.hbm, 127, rfl⟩
abbrev main_c_31 : Ref sig .tc := ⟨.hbm, 128, rfl⟩
abbrev main_v72 : Ref sig .tc := ⟨.hbm, 129, rfl⟩
abbrev main_c_32 : Ref sig .tc := ⟨.hbm, 130, rfl⟩
abbrev main_v73 : Ref sig .tc := ⟨.hbm, 131, rfl⟩
abbrev main_c_33 : Ref sig .tc := ⟨.hbm, 132, rfl⟩
abbrev main_v74 : Ref sig .tc := ⟨.hbm, 133, rfl⟩
abbrev main_c_34 : Ref sig .tc := ⟨.hbm, 134, rfl⟩
abbrev main_v75 : Ref sig .tc := ⟨.hbm, 135, rfl⟩
abbrev main_c_35 : Ref sig .tc := ⟨.hbm, 136, rfl⟩
abbrev main_v76 : Ref sig .tc := ⟨.hbm, 137, rfl⟩
abbrev main_c_36 : Ref sig .tc := ⟨.hbm, 138, rfl⟩
abbrev main_v77 : Ref sig .tc := ⟨.hbm, 139, rfl⟩
abbrev main_c_37 : Ref sig .tc := ⟨.hbm, 140, rfl⟩
abbrev main_v78 : Ref sig .tc := ⟨.hbm, 141, rfl⟩
abbrev main_c_38 : Ref sig .tc := ⟨.hbm, 142, rfl⟩
abbrev main_v79 : Ref sig .tc := ⟨.hbm, 143, rfl⟩
abbrev main_c_39 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_c_40 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_c_41 : Ref sig .tc := ⟨.hbm, 159, rfl⟩
abbrev main_v93 : Ref sig .tc := ⟨.hbm, 160, rfl⟩
abbrev main_v94 : Ref sig .tc := ⟨.hbm, 161, rfl⟩
abbrev main_c_42 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_c_43 : Ref sig .tc := ⟨.hbm, 166, rfl⟩
abbrev main_c_44 : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_v98 : Ref sig .tc := ⟨.hbm, 173, rfl⟩
abbrev main_c_45 : Ref sig .tc := ⟨.hbm, 174, rfl⟩
abbrev main_v99 : Ref sig .tc := ⟨.hbm, 175, rfl⟩
abbrev main_v100 : Ref sig .tc := ⟨.hbm, 176, rfl⟩
abbrev main_c_46 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_c_47 : Ref sig .tc := ⟨.hbm, 183, rfl⟩
abbrev main_call4_v0 : Ref sig .tc := ⟨.hbm, 184, rfl⟩
abbrev main_call4_v1 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_cst_48 : Ref sig .tc := ⟨.hbm, 193, rfl⟩
abbrev main_cst_49 : Ref sig .tc := ⟨.hbm, 194, rfl⟩
abbrev main_call5_v0 : Ref sig .tc := ⟨.hbm, 195, rfl⟩
abbrev main_call5_v1 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_cst_50 : Ref sig .tc := ⟨.hbm, 209, rfl⟩
abbrev main_v125 : Ref sig .tc := ⟨.hbm, 210, rfl⟩
abbrev main_v126 : Ref sig .tc := ⟨.hbm, 211, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc1_stg12_0 : Ref sig .tc := ⟨.vmem, 25, rfl⟩
abbrev cc1_stg12_1 : Ref sig .tc := ⟨.vmem, 26, rfl⟩
abbrev cc1_stg13_0 : Ref sig .tc := ⟨.vmem, 27, rfl⟩
abbrev cc1_stg13_1 : Ref sig .tc := ⟨.vmem, 28, rfl⟩
abbrev cc1_stg14_0 : Ref sig .tc := ⟨.vmem, 29, rfl⟩
abbrev cc1_stg14_1 : Ref sig .tc := ⟨.vmem, 30, rfl⟩
abbrev cc1_stg15_0 : Ref sig .tc := ⟨.vmem, 31, rfl⟩
abbrev cc1_stg15_1 : Ref sig .tc := ⟨.vmem, 32, rfl⟩
abbrev cc1_stg16_0 : Ref sig .tc := ⟨.vmem, 33, rfl⟩
abbrev cc1_stg17_0 : Ref sig .tc := ⟨.vmem, 34, rfl⟩
abbrev cc1_stg18_0 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem10_1 : DmaSem sig := 22
abbrev cc1_sem11_0 : DmaSem sig := 23
abbrev cc1_sem11_1 : DmaSem sig := 24
abbrev cc1_sem12_0 : DmaSem sig := 25
abbrev cc1_sem12_1 : DmaSem sig := 26
abbrev cc1_sem13_0 : DmaSem sig := 27
abbrev cc1_sem13_1 : DmaSem sig := 28
abbrev cc1_sem14_0 : DmaSem sig := 29
abbrev cc1_sem14_1 : DmaSem sig := 30
abbrev cc1_sem15_0 : DmaSem sig := 31
abbrev cc1_sem15_1 : DmaSem sig := 32
abbrev cc1_sem16_0 : DmaSem sig := 33
abbrev cc1_sem17_0 : DmaSem sig := 34
abbrev cc1_sem18_0 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_1 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_2 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  ![v1.toNat, c16_i32.toNat]

def cc1_transform_3 (i : grid1.Coords) : Fin 2 → Nat :=
  let arg0 : BitVec 32 := BitVec.ofNat 32 (i 0).val
  let c16_i32 : BitVec 32 := 16#32
  let c0_i32 : BitVec 32 := 0#32
  ![arg0.toNat, c16_i32.toNat]

def cc1_transform_4 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c17_i32 : BitVec 32 := 17#32
  let c0_i32_0 : BitVec 32 := 0#32
  ![v1.toNat, c17_i32.toNat]

def cc1_transform_5 (i : grid1.Coords) : Fin 2 → Nat :=
  let arg0 : BitVec 32 := BitVec.ofNat 32 (i 0).val
  let c17_i32 : BitVec 32 := 17#32
  let c0_i32 : BitVec 32 := 0#32
  ![arg0.toNat, c17_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2x1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2x256x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S128x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S128x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S128x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S128x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 1 → Memref sig .tc .vmem S2x256x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S2x1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S8x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S16x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S32x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]
-- ==== AttnIdeal.lean ====
variable {F : FTy → Type} [FloatOps F] [Named F]
def κ : String → Option EReal := fun
  | "mask" => some ⊥
  | _ => none
-- ==== AttnRefIdeal.lean ====
abbrev S8192x6400 : Shape := ⟨2, ![8192, 6400]⟩
abbrev S1x64 : Shape := ⟨2, ![1, 64]⟩
abbrev S1x16 : Shape := ⟨2, ![1, 16]⟩
abbrev S32x16 : Shape := ⟨2, ![32, 16]⟩
abbrev S8192x1024 : Shape := ⟨2, ![8192, 1024]⟩
abbrev S8192x128 : Shape := ⟨2, ![8192, 128]⟩
abbrev S1x8192x1024 : Shape := ⟨3, ![1, 8192, 1024]⟩
abbrev S1x8192x128 : Shape := ⟨3, ![1, 8192, 128]⟩
abbrev S64 : Shape := ⟨1, ![64]⟩
abbrev S16 : Shape := ⟨1, ![16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S3 : Shape := ⟨1, ![3]⟩
abbrev S2 : Shape := ⟨1, ![2]⟩
abbrev S4 : Shape := ⟨1, ![4]⟩
abbrev S5 : Shape := ⟨1, ![5]⟩
abbrev S6 : Shape := ⟨1, ![6]⟩
abbrev S7 : Shape := ⟨1, ![7]⟩
abbrev S8 : Shape := ⟨1, ![8]⟩
abbrev S10 : Shape := ⟨1, ![10]⟩
abbrev S12 : Shape := ⟨1, ![12]⟩
abbrev S14 : Shape := ⟨1, ![14]⟩
abbrev S143 : Shape := ⟨1, ![143]⟩
abbrev S46 : Shape := ⟨1, ![46]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S2x8x128x256 : Shape := ⟨4, ![2, 8, 128, 256]⟩
abbrev S1x8192x16x64 : Shape := ⟨4, ![1, 8192, 16, 64]⟩
abbrev S1x8192x16 : Shape := ⟨3, ![1, 8192, 16]⟩
abbrev S1x8192x16x1 : Shape := ⟨4, ![1, 8192, 16, 1]⟩
abbrev S1x1x1x64 : Shape := ⟨4, ![1, 1, 1, 64]⟩
abbrev S1x8192x2x64 : Shape := ⟨4, ![1, 8192, 2, 64]⟩
abbrev S1x8192x2 : Shape := ⟨3, ![1, 8192, 2]⟩
abbrev S1x8192x2x1 : Shape := ⟨4, ![1, 8192, 2, 1]⟩
abbrev S1x64x128x2x8x64 : Shape := ⟨6, ![1, 64, 128, 2, 8, 64]⟩
abbrev S1x64x128x2x64 : Shape := ⟨5, ![1, 64, 128, 2, 64]⟩
abbrev S1x1x128x2x64 : Shape := ⟨5, ![1, 1, 128, 2, 64]⟩
abbrev S1x65x128x2x64 : Shape := ⟨5, ![1, 65, 128, 2, 64]⟩
abbrev S1x64x256x2x64 : Shape := ⟨5, ![1, 64, 256, 2, 64]⟩
abbrev S1x64x2x256x128x8 : Shape := ⟨6, ![1, 64, 2, 256, 128, 8]⟩
abbrev S1x64x2x8x128x256 : Shape := ⟨6, ![1, 64, 2, 8, 128, 256]⟩
abbrev S1x1x2x8x128x256 : Shape := ⟨6, ![1, 1, 2, 8, 128, 256]⟩
abbrev S64x1x1 : Shape := ⟨3, ![64, 1, 1]⟩
abbrev S1x128x1 : Shape := ⟨3, ![1, 128, 1]⟩
abbrev S64x128x1 : Shape := ⟨3, ![64, 128, 1]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S1x1x2x8x1x1 : Shape := ⟨6, ![1, 1, 2, 8, 1, 1]⟩
abbrev S1x64x2x8x128x1 : Shape := ⟨6, ![1, 64, 2, 8, 128, 1]⟩
abbrev S1x64x2x8x128x257 : Shape := ⟨6, ![1, 64, 2, 8, 128, 257]⟩
abbrev S1x64x2x8x128 : Shape := ⟨5, ![1, 64, 2, 8, 128]⟩
abbrev S1x64x2x64x8x128 : Shape := ⟨6, ![1, 64, 2, 64, 8, 128]⟩
abbrev S1x64x2x64x256 : Shape := ⟨5, ![1, 64, 2, 64, 256]⟩
abbrev S64x2x8x128 : Shape := ⟨4, ![64, 2, 8, 128]⟩
abbrev S2x8 : Shape := ⟨2, ![2, 8]⟩
abbrev S1x2x8x128x256 : Shape := ⟨5, ![1, 2, 8, 128, 256]⟩
abbrev S1x64x2x128x8x64 : Shape := ⟨6, ![1, 64, 2, 128, 8, 64]⟩
abbrev S1x64x2x256x64 : Shape := ⟨5, ![1, 64, 2, 256, 64]⟩
abbrev S8192x2 : Shape := ⟨2, ![8192, 2]⟩
abbrev S8192x16 : Shape := ⟨2, ![8192, 16]⟩

abbrev nBuf : Space → Nat
  | .hbm => 382
  | .vmem => 0
  | .smem => 0
  | _ => 0

abbrev hbmTy0_0 (i : Nat) : BufTy := match i % 128 with
  | 0 => ⟨S8192x6400, .f32⟩
  | 1 => ⟨S1x64, .f32⟩
  | 2 => ⟨S1x64, .f32⟩
  | 3 => ⟨S1x16, .f32⟩
  | 4 => ⟨S32x16, .f32⟩
  | 5 => ⟨S8192x1024, .f32⟩
  | 6 => ⟨S8192x1024, .f32⟩
  | 7 => ⟨S8192x128, .f32⟩
  | 8 => ⟨S8192x128, .f32⟩
  | 9 => ⟨S1x8192x1024, .f32⟩
  | 10 => ⟨S1x8192x128, .f32⟩
  | 11 => ⟨S1x8192x128, .f32⟩
  | 12 => ⟨S64, .f32⟩
  | 13 => ⟨S64, .f32⟩
  | 14 => ⟨S16, .f32⟩
  | 15 => ⟨S128, .i32⟩
  | 16 => ⟨S128x1, .i32⟩
  | 17 => ⟨S256, .i32⟩
  | 18 => ⟨S1x256, .i32⟩
  | 19 => ⟨S_, .i32⟩
  | 20 => ⟨S3, .i32⟩
  | 21 => ⟨S_, .i32⟩
  | 22 => ⟨S2, .i32⟩
  | 23 => ⟨S_, .i32⟩
  | 24 => ⟨S3, .i32⟩
  | 25 => ⟨S_, .i32⟩
  | 26 => ⟨S3, .i32⟩
  | 27 => ⟨S_, .i32⟩
  | 28 => ⟨S4, .i32⟩
  | 29 => ⟨S_, .i32⟩
  | 30 => ⟨S4, .i32⟩
  | 31 => ⟨S_, .i32⟩
  | 32 => ⟨S5, .i32⟩
  | 33 => ⟨S_, .i32⟩
  | 34 => ⟨S6, .i32⟩
  | 35 => ⟨S_, .i32⟩
  | 36 => ⟨S6, .i32⟩
  | 37 => ⟨S_, .i32⟩
  | 38 => ⟨S7, .i32⟩
  | 39 => ⟨S_, .i32⟩
  | 40 => ⟨S8, .i32⟩
  | 41 => ⟨S_, .i32⟩
  | 42 => ⟨S10, .i32⟩
  | 43 => ⟨S_, .i32⟩
  | 44 => ⟨S10, .i32⟩
  | 45 => ⟨S_, .i32⟩
  | 46 => ⟨S12, .i32⟩
  | 47 => ⟨S_, .i32⟩
  | 48 => ⟨S14, .i32⟩
  | 49 => ⟨S_, .i32⟩
  | 50 => ⟨S143, .i32⟩
  | 51 => ⟨S16, .i32⟩
  | 52 => ⟨S46, .i32⟩
  | 53 => ⟨S256, .i32⟩
  | 54 => ⟨S_, .i32⟩
  | 55 => ⟨S128x1, .i32⟩
  | 56 => ⟨S128x1, .i32⟩
  | 57 => ⟨S128x256, .i32⟩
  | 58 => ⟨S128x256, .i32⟩
  | 59 => ⟨S128x256, .i32⟩
  | 60 => ⟨S_, .i32⟩
  | 61 => ⟨S128x256, .i32⟩
  | 62 => ⟨S128x256, .i32⟩
  | 63 => ⟨S_, .i32⟩
  | 64 => ⟨S128x256, .i32⟩
  | 65 => ⟨S128x256, .i1⟩
  | 66 => ⟨S_, .i32⟩
  | 67 => ⟨S128x256, .i32⟩
  | 68 => ⟨S128x256, .i32⟩
  | 69 => ⟨S128x256, .i32⟩
  | 70 => ⟨S128x256x1, .i32⟩
  | 71 => ⟨S128x256, .i32⟩
  | 72 => ⟨S_, .i32⟩
  | 73 => ⟨S128x256, .i32⟩
  | 74 => ⟨S128x256, .i1⟩
  | 75 => ⟨S_, .i32⟩
  | 76 => ⟨S128x256, .i32⟩
  | 77 => ⟨S128x256, .i32⟩
  | 78 => ⟨S128x256, .i32⟩
  | 79 => ⟨S128x256x1, .i32⟩
  | 80 => ⟨S128x256x16, .f32⟩
  | 81 => ⟨S16x128x256, .f32⟩
  | 82 => ⟨S2x8x128x256, .f32⟩
  | 83 => ⟨S1x8192x16x64, .f32⟩
  | 84 => ⟨S1x8192x16x64, .f32⟩
  | 85 => ⟨S_, .f32⟩
  | 86 => ⟨S1x8192x16, .f32⟩
  | 87 => ⟨S1x8192x16x1, .f32⟩
  | 88 => ⟨S_, .f32⟩
  | 89 => ⟨S1x8192x16x1, .f32⟩
  | 90 => ⟨S1x8192x16x1, .f32⟩
  | 91 => ⟨S_, .f32⟩
  | 92 => ⟨S1x8192x16x1, .f32⟩
  | 93 => ⟨S1x8192x16x1, .f32⟩
  | 94 => ⟨S1x8192x16x1, .f32⟩
  | 95 => ⟨S1x8192x16x1, .f32⟩
  | 96 => ⟨S_, .f32⟩
  | 97 => ⟨S1x8192x16x1, .f32⟩
  | 98 => ⟨S1x8192x16x1, .f32⟩
  | 99 => ⟨S1x8192x16x64, .f32⟩
  | 100 => ⟨S1x8192x16x64, .f32⟩
  | 101 => ⟨S1x1x1x64, .f32⟩
  | 102 => ⟨S1x8192x16x64, .f32⟩
  | 103 => ⟨S1x8192x16x64, .f32⟩
  | 104 => ⟨S1x8192x2x64, .f32⟩
  | 105 => ⟨S1x8192x2x64, .f32⟩
  | 106 => ⟨S_, .f32⟩
  | 107 => ⟨S1x8192x2, .f32⟩
  | 108 => ⟨S1x8192x2x1, .f32⟩
  | 109 => ⟨S_, .f32⟩
  | 110 => ⟨S1x8192x2x1, .f32⟩
  | 111 => ⟨S1x8192x2x1, .f32⟩
  | 112 => ⟨S_, .f32⟩
  | 113 => ⟨S1x8192x2x1, .f32⟩
  | 114 => ⟨S1x8192x2x1, .f32⟩
  | 115 => ⟨S1x8192x2x1, .f32⟩
  | 116 => ⟨S1x8192x2x1, .f32⟩
  | 117 => ⟨S_, .f32⟩
  | 118 => ⟨S1x8192x2x1, .f32⟩
  | 119 => ⟨S1x8192x2x1, .f32⟩
  | 120 => ⟨S1x8192x2x64, .f32⟩
  | 121 => ⟨S1x8192x2x64, .f32⟩
  | 122 => ⟨S1x1x1x64, .f32⟩
  | 123 => ⟨S1x8192x2x64, .f32⟩
  | 124 => ⟨S1x8192x2x64, .f32⟩
  | 125 => ⟨S1x8192x2x64, .f32⟩
  | 126 => ⟨S1x64x128x2x8x64, .f32⟩
  | 127 => ⟨S1x64x128x2x64, .f32⟩
  | _ => ⟨S8192x6400, .f32⟩

abbrev hbmTy0_1 (i : Nat) : BufTy := match i % 128 with
  | 0 => ⟨S_, .f32⟩
  | 1 => ⟨S1x1x128x2x64, .f32⟩
  | 2 => ⟨S1x65x128x2x64, .f32⟩
  | 3 => ⟨S_, .f32⟩
  | 4 => ⟨S1x1x128x2x64, .f32⟩
  | 5 => ⟨S1x64x128x2x64, .f32⟩
  | 6 => ⟨S1x64x256x2x64, .f32⟩
  | 7 => ⟨S1x64x128x2x64, .f32⟩
  | 8 => ⟨S_, .f32⟩
  | 9 => ⟨S1x1x128x2x64, .f32⟩
  | 10 => ⟨S1x65x128x2x64, .f32⟩
  | 11 => ⟨S_, .f32⟩
  | 12 => ⟨S1x1x128x2x64, .f32⟩
  | 13 => ⟨S1x64x128x2x64, .f32⟩
  | 14 => ⟨S1x64x256x2x64, .f32⟩
  | 15 => ⟨S1x64x2x256x128x8, .f32⟩
  | 16 => ⟨S1x64x2x8x128x256, .f32⟩
  | 17 => ⟨S_, .f32⟩
  | 18 => ⟨S1x64x2x8x128x256, .f32⟩
  | 19 => ⟨S1x64x2x8x128x256, .f32⟩
  | 20 => ⟨S1x1x2x8x128x256, .f32⟩
  | 21 => ⟨S1x64x2x8x128x256, .f32⟩
  | 22 => ⟨S1x64x2x8x128x256, .f32⟩
  | 23 => ⟨S64, .i32⟩
  | 24 => ⟨S64x1x1, .i32⟩
  | 25 => ⟨S_, .i32⟩
  | 26 => ⟨S64x1x1, .i32⟩
  | 27 => ⟨S64x1x1, .i32⟩
  | 28 => ⟨S128, .i32⟩
  | 29 => ⟨S1x128x1, .i32⟩
  | 30 => ⟨S64x128x1, .i32⟩
  | 31 => ⟨S64x128x1, .i32⟩
  | 32 => ⟨S64x128x1, .i32⟩
  | 33 => ⟨S64, .i32⟩
  | 34 => ⟨S64x1x1, .i32⟩
  | 35 => ⟨S_, .i32⟩
  | 36 => ⟨S64x1x1, .i32⟩
  | 37 => ⟨S64x1x1, .i32⟩
  | 38 => ⟨S_, .i32⟩
  | 39 => ⟨S64x1x1, .i32⟩
  | 40 => ⟨S64x1x1, .i32⟩
  | 41 => ⟨S256, .i32⟩
  | 42 => ⟨S1x1x256, .i32⟩
  | 43 => ⟨S64x1x256, .i32⟩
  | 44 => ⟨S64x1x256, .i32⟩
  | 45 => ⟨S64x1x256, .i32⟩
  | 46 => ⟨S64x128x256, .i32⟩
  | 47 => ⟨S64x128x256, .i32⟩
  | 48 => ⟨S64x128x256, .i32⟩
  | 49 => ⟨S_, .i32⟩
  | 50 => ⟨S64x128x256, .i32⟩
  | 51 => ⟨S64x128x256, .i1⟩
  | 52 => ⟨S_, .i32⟩
  | 53 => ⟨S64x128x256, .i32⟩
  | 54 => ⟨S64x128x256, .i1⟩
  | 55 => ⟨S64x128x256, .i1⟩
  | 56 => ⟨S_, .i32⟩
  | 57 => ⟨S64x1x256, .i32⟩
  | 58 => ⟨S64x1x256, .i1⟩
  | 59 => ⟨S64x128x256, .i1⟩
  | 60 => ⟨S64x128x256, .i1⟩
  | 61 => ⟨S1x64x1x1x128x256, .i1⟩
  | 62 => ⟨S1x64x2x8x128x256, .i1⟩
  | 63 => ⟨S_, .f32⟩
  | 64 => ⟨S1x64x2x8x128x256, .f32⟩
  | 65 => ⟨S1x64x2x8x128x256, .f32⟩
  | 66 => ⟨S_, .f32⟩
  | 67 => ⟨S1x64x2x8x128x256, .f32⟩
  | 68 => ⟨S1x1x2x8x1x1, .f32⟩
  | 69 => ⟨S1x64x2x8x128x1, .f32⟩
  | 70 => ⟨S_, .f32⟩
  | 71 => ⟨S1x64x2x8x128x256, .f32⟩
  | 72 => ⟨S1x64x2x8x128x256, .f32⟩
  | 73 => ⟨S1x64x2x8x128x257, .f32⟩
  | 74 => ⟨S_, .f32⟩
  | 75 => ⟨S1x64x2x8x128, .f32⟩
  | 76 => ⟨S1x64x2x8x128x1, .f32⟩
  | 77 => ⟨S1x64x2x8x128x257, .f32⟩
  | 78 => ⟨S1x64x2x8x128x257, .i1⟩
  | 79 => ⟨S1x64x2x8x128x257, .f32⟩
  | 80 => ⟨S_, .f32⟩
  | 81 => ⟨S1x64x2x8x128, .f32⟩
  | 82 => ⟨S_, .f32⟩
  | 83 => ⟨S1x64x2x8x128, .f32⟩
  | 84 => ⟨S1x64x2x8x128, .f32⟩
  | 85 => ⟨S_, .f32⟩
  | 86 => ⟨S1x64x2x8x128, .f32⟩
  | 87 => ⟨S1x64x2x8x128, .i1⟩
  | 88 => ⟨S_, .f32⟩
  | 89 => ⟨S1x64x2x8x128, .f32⟩
  | 90 => ⟨S1x64x2x8x128, .i1⟩
  | 91 => ⟨S_, .f32⟩
  | 92 => ⟨S1x64x2x8x128, .f32⟩
  | 93 => ⟨S_, .f32⟩
  | 94 => ⟨S1x64x2x8x128, .f32⟩
  | 95 => ⟨S_, .f32⟩
  | 96 => ⟨S1x64x2x8x128, .f32⟩
  | 97 => ⟨S1x64x2x8x128, .f32⟩
  | 98 => ⟨S1x64x2x8x128, .f32⟩
  | 99 => ⟨S1x64x2x8x128x1, .f32⟩
  | 100 => ⟨S1x64x2x8x128x257, .f32⟩
  | 101 => ⟨S1x64x2x8x128x257, .f32⟩
  | 102 => ⟨S1x64x2x8x128x257, .f32⟩
  | 103 => ⟨S_, .f32⟩
  | 104 => ⟨S1x64x2x8x128, .f32⟩
  | 105 => ⟨S1x64x2x8x128x1, .f32⟩
  | 106 => ⟨S1x64x2x8x128x257, .f32⟩
  | 107 => ⟨S1x64x2x8x128x257, .f32⟩
  | 108 => ⟨S1x64x2x8x128x1, .f32⟩
  | 109 => ⟨S_, .f32⟩
  | 110 => ⟨S1x64x2x8x128x1, .f32⟩
  | 111 => ⟨S1x64x2x8x128x1, .f32⟩
  | 112 => ⟨S1x64x2x8x128x256, .f32⟩
  | 113 => ⟨S1x64x2x64x8x128, .f32⟩
  | 114 => ⟨S1x64x128x2x8x64, .f32⟩
  | 115 => ⟨S1x8192x1024, .f32⟩
  | 116 => ⟨S8192x1024, .f32⟩
  | 117 => ⟨S1x8192x1024, .f32⟩
  | 118 => ⟨S1x64x128x2x8x64, .f32⟩
  | 119 => ⟨S1x64x2x64x8x128, .f32⟩
  | 120 => ⟨S1x64x2x8x128x256, .f32⟩
  | 121 => ⟨S1x64x2x64x256, .f32⟩
  | 122 => ⟨S1x64x256x2x64, .f32⟩
  | 123 => ⟨S_, .f32⟩
  | 124 => ⟨S1x64x2x8x128x257, .f32⟩
  | 125 => ⟨S1x64x2x8x128x257, .f32⟩
  | 126 => ⟨S1x64x2x8x128x257, .f32⟩
  | 127 => ⟨S1x64x2x8x128x257, .f32⟩
  | _ => ⟨S8192x6400, .f32⟩

abbrev hbmTy0_2 (i : Nat) : BufTy := match i % 128 with
  | 0 => ⟨S_, .f32⟩
  | 1 => ⟨S1x64x2x8x128, .f32⟩
  | 2 => ⟨S1x64x2x8x128x1, .f32⟩
  | 3 => ⟨S1x64x2x8x128x1, .f32⟩
  | 4 => ⟨S1x64x2x8x128x257, .f32⟩
  | 5 => ⟨S1x64x2x8x128x257, .f32⟩
  | 6 => ⟨S_, .f32⟩
  | 7 => ⟨S64x2x8x128, .f32⟩
  | 8 => ⟨S1x64x2x8x128, .f32⟩
  | 9 => ⟨S1x64x2x8x128x257, .f32⟩
  | 10 => ⟨S1x64x2x8x128x257, .f32⟩
  | 11 => ⟨S1x64x2x8x128x257, .f32⟩
  | 12 => ⟨S1x64x2x8x128x256, .f32⟩
  | 13 => ⟨S1x64x2x8x128x1, .f32⟩
  | 14 => ⟨S_, .f32⟩
  | 15 => ⟨S1x64x2x8x128x256, .f32⟩
  | 16 => ⟨S1x64x2x8x128x256, .f32⟩
  | 17 => ⟨S_, .f32⟩
  | 18 => ⟨S2x8, .f32⟩
  | 19 => ⟨S1x1x2x8x1x1, .f32⟩
  | 20 => ⟨S16, .f32⟩
  | 21 => ⟨S_, .f32⟩
  | 22 => ⟨S1x64x2x8x128x256, .f32⟩
  | 23 => ⟨S1x64x2x8x128x256, .f32⟩
  | 24 => ⟨S_, .f32⟩
  | 25 => ⟨S1x2x8x128x256, .f32⟩
  | 26 => ⟨S1x1x2x8x128x256, .f32⟩
  | 27 => ⟨S_, .f32⟩
  | 28 => ⟨S2x8x128x256, .f32⟩
  | 29 => ⟨S_, .f32⟩
  | 30 => ⟨S1x64x2x8x128x256, .f32⟩
  | 31 => ⟨S1x64x2x8x128x256, .f32⟩
  | 32 => ⟨S1x64x2x256x128x8, .f32⟩
  | 33 => ⟨S1x64x2x128x8x64, .f32⟩
  | 34 => ⟨S1x64x128x2x8x64, .f32⟩
  | 35 => ⟨S1x64x2x256x64, .f32⟩
  | 36 => ⟨S1x64x256x2x64, .f32⟩
  | 37 => ⟨S1x64x128x2x64, .f32⟩
  | 38 => ⟨S1x64x128x2x64, .f32⟩
  | 39 => ⟨S_, .f32⟩
  | 40 => ⟨S1x65x128x2x64, .f32⟩
  | 41 => ⟨S1x1x128x2x64, .f32⟩
  | 42 => ⟨S1x64x128x2x64, .f32⟩
  | 43 => ⟨S1x64x128x2x64, .f32⟩
  | 44 => ⟨S1x8192x2x64, .f32⟩
  | 45 => ⟨S1x64x128x2x64, .f32⟩
  | 46 => ⟨S1x64x128x2x64, .f32⟩
  | 47 => ⟨S_, .f32⟩
  | 48 => ⟨S1x65x128x2x64, .f32⟩
  | 49 => ⟨S1x1x128x2x64, .f32⟩
  | 50 => ⟨S1x64x128x2x64, .f32⟩
  | 51 => ⟨S1x64x128x2x64, .f32⟩
  | 52 => ⟨S1x8192x2x64, .f32⟩
  | 53 => ⟨S1x8192x16x64, .f32⟩
  | 54 => ⟨S1x8192x128, .f32⟩
  | 55 => ⟨S1x8192x2x64, .f32⟩
  | 56 => ⟨S_, .f32⟩
  | 57 => ⟨S1x64, .f32⟩
  | 58 => ⟨S1x1x1x64, .f32⟩
  | 59 => ⟨S1x8192x2x64, .f32⟩
  | 60 => ⟨S1x8192x2x64, .f32⟩
  | 61 => ⟨S_, .f32⟩
  | 62 => ⟨S64, .f32⟩
  | 63 => ⟨S1x8192x2x64, .f32⟩
  | 64 => ⟨S_, .f32⟩
  | 65 => ⟨S1x8192x2, .f32⟩
  | 66 => ⟨S1x8192x2x1, .f32⟩
  | 67 => ⟨S1x8192x2x64, .f32⟩
  | 68 => ⟨S1x8192x2x64, .f32⟩
  | 69 => ⟨S1x8192x2x1, .f32⟩
  | 70 => ⟨S_, .f32⟩
  | 71 => ⟨S1x8192x2x1, .f32⟩
  | 72 => ⟨S1x8192x2x1, .f32⟩
  | 73 => ⟨S_, .f32⟩
  | 74 => ⟨S8192x2, .f32⟩
  | 75 => ⟨S1x8192x2, .f32⟩
  | 76 => ⟨S1x8192x2x64, .f32⟩
  | 77 => ⟨S1x8192x2x64, .f32⟩
  | 78 => ⟨S1x8192x2x64, .f32⟩
  | 79 => ⟨S1x8192x2x64, .f32⟩
  | 80 => ⟨S1x8192x2x64, .f32⟩
  | 81 => ⟨S1x8192x128, .f32⟩
  | 82 => ⟨S1x8192x16x64, .f32⟩
  | 83 => ⟨S_, .f32⟩
  | 84 => ⟨S1x64, .f32⟩
  | 85 => ⟨S1x1x1x64, .f32⟩
  | 86 => ⟨S1x8192x16x64, .f32⟩
  | 87 => ⟨S1x8192x16x64, .f32⟩
  | 88 => ⟨S_, .f32⟩
  | 89 => ⟨S64, .f32⟩
  | 90 => ⟨S1x8192x16x64, .f32⟩
  | 91 => ⟨S_, .f32⟩
  | 92 => ⟨S1x8192x16, .f32⟩
  | 93 => ⟨S1x8192x16x1, .f32⟩
  | 94 => ⟨S1x8192x16x64, .f32⟩
  | 95 => ⟨S1x8192x16x64, .f32⟩
  | 96 => ⟨S1x8192x16x1, .f32⟩
  | 97 => ⟨S_, .f32⟩
  | 98 => ⟨S1x8192x16x1, .f32⟩
  | 99 => ⟨S1x8192x16x1, .f32⟩
  | 100 => ⟨S_, .f32⟩
  | 101 => ⟨S8192x16, .f32⟩
  | 102 => ⟨S1x8192x16, .f32⟩
  | 103 => ⟨S1x8192x16x64, .f32⟩
  | 104 => ⟨S1x8192x16x64, .f32⟩
  | 105 => ⟨S1x8192x16x64, .f32⟩
  | 106 => ⟨S1x8192x16x64, .f32⟩
  | 107 => ⟨S1x8192x16x64, .f32⟩
  | 108 => ⟨S1x8192x1024, .f32⟩
  | 109 => ⟨S16x128x256, .f32⟩
  | 110 => ⟨S128x256x16, .f32⟩
  | 111 => ⟨S_, .f32⟩
  | 112 => ⟨S32x16, .f32⟩
  | 113 => ⟨S32x16, .f32⟩
  | 114 => ⟨S1x16, .f32⟩
  | 115 => ⟨S1x64, .f32⟩
  | 116 => ⟨S1x64, .f32⟩
  | 117 => ⟨S_, .f32⟩
  | 118 => ⟨S8192x128, .f32⟩
  | 119 => ⟨S_, .f32⟩
  | 120 => ⟨S8192x128, .f32⟩
  | 121 => ⟨S_, .f32⟩
  | 122 => ⟨S8192x1024, .f32⟩
  | 123 => ⟨S8192x1024, .bf16⟩
  | 124 => ⟨S8192x128, .bf16⟩
  | 125 => ⟨S8192x128, .bf16⟩
  | _ => ⟨S8192x6400, .f32⟩

abbrev hbmTy (i : Nat) : BufTy := match i / 128 with
  | 0 => hbmTy0_0 i
  | 1 => hbmTy0_1 i
  | 2 => hbmTy0_2 i
  | _ => ⟨S8192x6400, .f32⟩

abbrev bufTy : (tb : Table) → Fin (tcTables nBuf tb) → BufTy
  | .hbm, ⟨i, _⟩ => hbmTy i
  | _, _ => ⟨S8192x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_c_7 : Ref sig .tc := ⟨.hbm, 35, rfl⟩
abbrev main_v21 : Ref sig .tc := ⟨.hbm, 36, rfl⟩
abbrev main_c_8 : Ref sig .tc := ⟨.hbm, 37, rfl⟩
abbrev main_v22 : Ref sig .tc := ⟨.hbm, 38, rfl⟩
abbrev main_c_9 : Ref sig .tc := ⟨.hbm, 39, rfl⟩
abbrev main_v23 : Ref sig .tc := ⟨.hbm, 40, rfl⟩
abbrev main_c_10 : Ref sig .tc := ⟨.hbm, 41, rfl⟩
abbrev main_v24 : Ref sig .tc := ⟨.hbm, 42, rfl⟩
abbrev main_c_11 : Ref sig .tc := ⟨.hbm, 43, rfl⟩
abbrev main_v25 : Ref sig .tc := ⟨.hbm, 44, rfl⟩
abbrev main_c_12 : Ref sig .tc := ⟨.hbm, 45, rfl⟩
abbrev main_v26 : Ref sig .tc := ⟨.hbm, 46, rfl⟩
abbrev main_c_13 : Ref sig .tc := ⟨.hbm, 47, rfl⟩
abbrev main_v27 : Ref sig .tc := ⟨.hbm, 48, rfl⟩
abbrev main_c_14 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_15 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_16 : Ref sig .tc := ⟨.hbm, 60, rfl⟩
abbrev main_v37 : Ref sig .tc := ⟨.hbm, 61, rfl⟩
abbrev main_v38 : Ref sig .tc := ⟨.hbm, 62, rfl⟩
abbrev main_c_17 : Ref sig .tc := ⟨.hbm, 63, rfl⟩
abbrev main_v39 : Ref sig .tc := ⟨.hbm, 64, rfl⟩
abbrev main_v40 : Ref sig .tc := ⟨.hbm, 65, rfl⟩
abbrev main_c_18 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_19 : Ref sig .tc := ⟨.hbm, 72, rfl⟩
abbrev main_v46 : Ref sig .tc := ⟨.hbm, 73, rfl⟩
abbrev main_v47 : Ref sig .tc := ⟨.hbm, 74, rfl⟩
abbrev main_c_20 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst : Ref sig .tc := ⟨.hbm, 85, rfl⟩
abbrev main_v57 : Ref sig .tc := ⟨.hbm, 86, rfl⟩
abbrev main_v58 : Ref sig .tc := ⟨.hbm, 87, rfl⟩
abbrev main_cst_21 : Ref sig .tc := ⟨.hbm, 88, rfl⟩
abbrev main_v59 : Ref sig .tc := ⟨.hbm, 89, rfl⟩
abbrev main_v60 : Ref sig .tc := ⟨.hbm, 90, rfl⟩
abbrev main_cst_22 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_23 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_24 : Ref sig .tc := ⟨.hbm, 106, rfl⟩
abbrev main_v74 : Ref sig .tc := ⟨.hbm, 107, rfl⟩
abbrev main_v75 : Ref sig .tc := ⟨.hbm, 108, rfl⟩
abbrev main_cst_25 : Ref sig .tc := ⟨.hbm, 109, rfl⟩
abbrev main_v76 : Ref sig .tc := ⟨.hbm, 110, rfl⟩
abbrev main_v77 : Ref sig .tc := ⟨.hbm, 111, rfl⟩
abbrev main_cst_26 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_27 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_28 : Ref sig .tc := ⟨.hbm, 128, rfl⟩
abbrev main_v92 : Ref sig .tc := ⟨.hbm, 129, rfl⟩
abbrev main_v93 : Ref sig .tc := ⟨.hbm, 130, rfl⟩
abbrev main_cst_29 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_30 : Ref sig .tc := ⟨.hbm, 136, rfl⟩
abbrev main_v98 : Ref sig .tc := ⟨.hbm, 137, rfl⟩
abbrev main_v99 : Ref sig .tc := ⟨.hbm, 138, rfl⟩
abbrev main_cst_31 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_32 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_c_33 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_34 : Ref sig .tc := ⟨.hbm, 163, rfl⟩
abbrev main_v121 : Ref sig .tc := ⟨.hbm, 164, rfl⟩
abbrev main_v122 : Ref sig .tc := ⟨.hbm, 165, rfl⟩
abbrev main_c_35 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_c_36 : Ref sig .tc := ⟨.hbm, 177, rfl⟩
abbrev main_v133 : Ref sig .tc := ⟨.hbm, 178, rfl⟩
abbrev main_v134 : Ref sig .tc := ⟨.hbm, 179, rfl⟩
abbrev main_c_37 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_c_38 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_39 : Ref sig .tc := ⟨.hbm, 191, rfl⟩
abbrev main_v144 : Ref sig .tc := ⟨.hbm, 192, rfl⟩
abbrev main_v145 : Ref sig .tc := ⟨.hbm, 193, rfl⟩
abbrev main_cst_40 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_41 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_42 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_cst_43 : Ref sig .tc := ⟨.hbm, 208, rfl⟩
abbrev main_v157 : Ref sig .tc := ⟨.hbm, 209, rfl⟩
abbrev main_cst_44 : Ref sig .tc := ⟨.hbm, 210, rfl⟩
abbrev main_v158 : Ref sig .tc := ⟨.hbm, 211, rfl⟩
abbrev main_v159 : Ref sig .tc := ⟨.hbm, 212, rfl⟩
abbrev main_cst_45 : Ref sig .tc := ⟨.hbm, 213, rfl⟩
abbrev main_v160 : Ref sig .tc := ⟨.hbm, 214, rfl⟩
abbrev main_v161 : Ref sig .tc := ⟨.hbm, 215, rfl⟩
abbrev main_cst_46 : Ref sig .tc := ⟨.hbm, 216, rfl⟩
abbrev main_v162 : Ref sig .tc := ⟨.hbm, 217, rfl⟩
abbrev main_v163 : Ref sig .tc := ⟨.hbm, 218, rfl⟩
abbrev main_cst_47 : Ref sig .tc := ⟨.hbm, 219, rfl⟩
abbrev main_v164 : Ref sig .tc := ⟨.hbm, 220, rfl⟩
abbrev main_cst_48 : Ref sig .tc := ⟨.hbm, 221, rfl⟩
abbrev main_v165 : Ref sig .tc := ⟨.hbm, 222, rfl⟩
abbrev main_cst_49 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_cst_50 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_cst_51 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_cst_52 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_cst_53 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_cst_54 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_cst_55 : Ref sig .tc := ⟨.hbm, 270, rfl⟩
abbrev main_v207 : Ref sig .tc := ⟨.hbm, 271, rfl⟩
abbrev main_v208 : Ref sig .tc := ⟨.hbm, 272, rfl⟩
abbrev main_cst_56 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_cst_57 : Ref sig .tc := ⟨.hbm, 277, rfl⟩
abbrev main_v212 : Ref sig .tc := ⟨.hbm, 278, rfl⟩
abbrev main_v213 : Ref sig .tc := ⟨.hbm, 279, rfl⟩
abbrev main_cst_58 : Ref sig .tc := ⟨.hbm, 280, rfl⟩
abbrev main_v214 : Ref sig .tc := ⟨.hbm, 281, rfl⟩
abbrev main_v215 : Ref sig .tc := ⟨.hbm, 282, rfl⟩
abbrev main_cst_59 : Ref sig .tc := ⟨.hbm, 283, rfl⟩
abbrev main_v216 : Ref sig .tc := ⟨.hbm, 284, rfl⟩
abbrev main_cst_60 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_cst_61 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_cst_62 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_cst_63 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_cst_64 : Ref sig .tc := ⟨.hbm, 317, rfl⟩
abbrev main_v245 : Ref sig .tc := ⟨.hbm, 318, rfl⟩
abbrev main_v246 : Ref sig .tc := ⟨.hbm, 319, rfl⟩
abbrev main_cst_65 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_cst_66 : Ref sig .tc := ⟨.hbm, 326, rfl⟩
abbrev main_v252 : Ref sig .tc := ⟨.hbm, 327, rfl⟩
abbrev main_v253 : Ref sig .tc := ⟨.hbm, 328, rfl⟩
abbrev main_cst_67 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_cst_68 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_cst_69 : Ref sig .tc := ⟨.hbm, 344, rfl⟩
abbrev main_v267 : Ref sig .tc := ⟨.hbm, 345, rfl⟩
abbrev main_v268 : Ref sig .tc := ⟨.hbm, 346, rfl⟩
abbrev main_cst_70 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_cst_71 : Ref sig .tc := ⟨.hbm, 353, rfl⟩
abbrev main_v274 : Ref sig .tc := ⟨.hbm, 354, rfl⟩
abbrev main_v275 : Ref sig .tc := ⟨.hbm, 355, rfl⟩
abbrev main_cst_72 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_cst_73 : Ref sig .tc := ⟨.hbm, 367, rfl⟩
abbrev main_v286 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_cst_74 : Ref sig .tc := ⟨.hbm, 373, rfl⟩
abbrev main_v291 : Ref sig .tc := ⟨.hbm, 374, rfl⟩
abbrev main_cst_75 : Ref sig .tc := ⟨.hbm, 375, rfl⟩
abbrev main_v292 : Ref sig .tc := ⟨.hbm, 376, rfl⟩
abbrev main_cst_76 : Ref sig .tc := ⟨.hbm, 377, rfl⟩
abbrev main_v293 : Ref sig .tc := ⟨.hbm, 378, rfl⟩
abbrev main_v294 : Ref sig .tc := ⟨.hbm, 379, rfl⟩
abbrev main_v295 : Ref sig .tc := ⟨.hbm, 380, rfl⟩
abbrev main_v296 : Ref sig .tc := ⟨.hbm, 381, rfl⟩

abbrev nD : Nat := 1
abbrev τ : Topo := Topo.v7x

variable {F : FTy → Type} [FloatOps F]
-- ==== Pool.lean ====
abbrev S8192x1024 : Shape := ⟨2, ![8192, 1024]⟩
abbrev S1024x128 : Shape := ⟨2, ![1024, 128]⟩
abbrev S16x128 : Shape := ⟨2, ![16, 128]⟩
abbrev S1040x128 : Shape := ⟨2, ![1040, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .local _ .vmem, ⟨0, _⟩ => ⟨S1024x128, .f32⟩
  | .local _ .vmem, ⟨1, _⟩ => ⟨S1024x128, .f32⟩
  | .local _ .vmem, ⟨2, _⟩ => ⟨S16x128, .f32⟩
  | .local _ .vmem, ⟨3, _⟩ => ⟨S16x128, .f32⟩
  | .local _ .vmem, ⟨4, _⟩ => ⟨S1024x128, .bf16⟩
  | .local _ .vmem, ⟨5, _⟩ => ⟨S1024x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolRefIdeal.lean ====
abbrev S8192x1024 : Shape := ⟨2, ![8192, 1024]⟩
abbrev S1x8192x4x256 : Shape := ⟨4, ![1, 8192, 4, 256]⟩
abbrev S_ : Shape := ⟨0, ![]⟩
abbrev S1x1x4x256 : Shape := ⟨4, ![1, 1, 4, 256]⟩
abbrev S1x8193x4x256 : Shape := ⟨4, ![1, 8193, 4, 256]⟩
abbrev S8192 : Shape := ⟨1, ![8192]⟩
abbrev S1x8192x1 : Shape := ⟨3, ![1, 8192, 1]⟩
abbrev S1x8192x1x256 : Shape := ⟨4, ![1, 8192, 1, 256]⟩
abbrev S1x8192x256 : Shape := ⟨3, ![1, 8192, 256]⟩
abbrev S8192x1 : Shape := ⟨2, ![8192, 1]⟩
abbrev S8192x2 : Shape := ⟨2, ![8192, 2]⟩

abbrev nBuf : Space → Nat
  | .hbm => 232
  | .vmem => 0
  | .smem => 0
  | _ => 0

abbrev hbmTy0_0 (i : Nat) : BufTy := match i % 128 with
  | 0 => ⟨S8192x1024, .f32⟩
  | 1 => ⟨S8192x1024, .f32⟩
  | 2 => ⟨S1x8192x4x256, .f32⟩
  | 3 => ⟨S_, .f32⟩
  | 4 => ⟨S1x1x4x256, .f32⟩
  | 5 => ⟨S_, .f32⟩
  | 6 => ⟨S_, .f32⟩
  | 7 => ⟨S1x8192x4x256, .f32⟩
  | 8 => ⟨S1x8193x4x256, .f32⟩
  | 9 => ⟨S_, .f32⟩
  | 10 => ⟨S1x1x4x256, .f32⟩
  | 11 => ⟨S8192, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S8192, .f32⟩
  | 25 => ⟨S1x8192x1, .f32⟩
  | 26 => ⟨S1x8192x1x256, .f32⟩
  | 27 => ⟨S1x8192x256, .f32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S_, .i32⟩
  | 36 => ⟨S8192, .i32⟩
  | 37 => ⟨S8192, .i32⟩
  | 38 => ⟨S8192x1, .i32⟩
  | 39 => ⟨S8192x1, .i32⟩
  | 40 => ⟨S8192x2, .i32⟩
  | 41 => ⟨S1x8192x256, .f32⟩
  | 42 => ⟨S1x8192x256, .f32⟩
  | 43 => ⟨S1x8192x256, .f32⟩
  | 44 => ⟨S1x8192x256, .f32⟩
  | 45 => ⟨S1x8192x1x256, .f32⟩
  | 46 => ⟨S1x8192x256, .f32⟩
  | 47 => ⟨S1x8192x256, .f32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S_, .i32⟩
  | 55 => ⟨S8192, .i32⟩
  | 56 => ⟨S8192, .i32⟩
  | 57 => ⟨S8192, .f32⟩
  | 58 => ⟨S1x8192x1, .f32⟩
  | 59 => ⟨S1x8192x1x256, .f32⟩
  | 60 => ⟨S1x8192x256, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S_, .i32⟩
  | 69 => ⟨S8192, .i32⟩
  | 70 => ⟨S8192, .i32⟩
  | 71 => ⟨S8192x1, .i32⟩
  | 72 => ⟨S8192x1, .i32⟩
  | 73 => ⟨S8192x2, .i32⟩
  | 74 => ⟨S1x8192x256, .f32⟩
  | 75 => ⟨S1x8192x256, .f32⟩
  | 76 => ⟨S1x8192x256, .f32⟩
  | 77 => ⟨S1x8192x256, .f32⟩
  | 78 => ⟨S1x8192x1x256, .f32⟩
  | 79 => ⟨S1x8192x256, .f32⟩
  | 80 => ⟨S1x8192x256, .f32⟩
  | 81 => ⟨S_, .i32⟩
  | 82 => ⟨S8192, .i32⟩
  | 83 => ⟨S8192, .i32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192, .f32⟩
  | 91 => ⟨S1x8192x1, .f32⟩
  | 92 => ⟨S1x8192x1x256, .f32⟩
  | 93 => ⟨S1x8192x256, .f32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S_, .i32⟩
  | 102 => ⟨S8192, .i32⟩
  | 103 => ⟨S8192, .i32⟩
  | 104 => ⟨S8192x1, .i32⟩
  | 105 => ⟨S8192x1, .i32⟩
  | 106 => ⟨S8192x2, .i32⟩
  | 107 => ⟨S1x8192x256, .f32⟩
  | 108 => ⟨S1x8192x256, .f32⟩
  | 109 => ⟨S1x8192x256, .f32⟩
  | 110 => ⟨S1x8192x256, .f32⟩
  | 111 => ⟨S1x8192x1x256, .f32⟩
  | 112 => ⟨S1x8192x256, .f32⟩
  | 113 => ⟨S1x8192x256, .f32⟩
  | 114 => ⟨S_, .i32⟩
  | 115 => ⟨S8192, .i32⟩
  | 116 => ⟨S8192, .i32⟩
  | 117 => ⟨S_, .i32⟩
  | 118 => ⟨S8192, .i32⟩
  | 119 => ⟨S8192, .i32⟩
  | 120 => ⟨S_, .i32⟩
  | 121 => ⟨S8192, .i32⟩
  | 122 => ⟨S8192, .i32⟩
  | 123 => ⟨S8192, .f32⟩
  | 124 => ⟨S1x8192x1, .f32⟩
  | 125 => ⟨S1x8192x1x256, .f32⟩
  | 126 => ⟨S1x8192x256, .f32⟩
  | 127 => ⟨S_, .i32⟩
  | _ => ⟨S8192x1024, .f32⟩

abbrev hbmTy0_1 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S_, .i32⟩
  | 7 => ⟨S8192, .i32⟩
  | 8 => ⟨S8192, .i32⟩
  | 9 => ⟨S8192x1, .i32⟩
  | 10 => ⟨S8192x1, .i32⟩
  | 11 => ⟨S8192x2, .i32⟩
  | 12 => ⟨S1x8192x256, .f32⟩
  | 13 => ⟨S1x8192x256, .f32⟩
  | 14 => ⟨S1x8192x256, .f32⟩
  | 15 => ⟨S1x8192x256, .f32⟩
  | 16 => ⟨S1x8192x1x256, .f32⟩
  | 17 => ⟨S1x8192x256, .f32⟩
  | 18 => ⟨S1x8192x256, .f32⟩
  | 19 => ⟨S1x8192x1x256, .f32⟩
  | 20 => ⟨S1x8192x1x256, .f32⟩
  | 21 => ⟨S1x8192x1x256, .f32⟩
  | 22 => ⟨S1x8192x1x256, .f32⟩
  | 23 => ⟨S1x8192x4x256, .f32⟩
  | 24 => ⟨S8192x1024, .f32⟩
  | 25 => ⟨S1x8192x4x256, .f32⟩
  | 26 => ⟨S1x8192x1x256, .f32⟩
  | 27 => ⟨S1x8192x256, .f32⟩
  | 28 => ⟨S1x8192x1x256, .f32⟩
  | 29 => ⟨S1x8192x256, .f32⟩
  | 30 => ⟨S1x8192x1x256, .f32⟩
  | 31 => ⟨S1x8192x256, .f32⟩
  | 32 => ⟨S1x8192x1x256, .f32⟩
  | 33 => ⟨S1x8192x256, .f32⟩
  | 34 => ⟨S1x8192x256, .f32⟩
  | 35 => ⟨S1x8192x1x256, .f32⟩
  | 36 => ⟨S_, .f32⟩
  | 37 => ⟨S1x8192x4x256, .f32⟩
  | 38 => ⟨S1x8192x256, .f32⟩
  | 39 => ⟨S1x8192x256, .f32⟩
  | 40 => ⟨S1x8192x256, .f32⟩
  | 41 => ⟨S_, .f32⟩
  | 42 => ⟨S1x8193x4x256, .f32⟩
  | 43 => ⟨S1x8193x4x256, .f32⟩
  | 44 => ⟨S1x8192x1x256, .f32⟩
  | 45 => ⟨S_, .f32⟩
  | 46 => ⟨S1x8193x4x256, .f32⟩
  | 47 => ⟨S1x8193x4x256, .f32⟩
  | 48 => ⟨S1x8192x256, .f32⟩
  | 49 => ⟨S1x8192x1x256, .f32⟩
  | 50 => ⟨S_, .f32⟩
  | 51 => ⟨S1x8192x4x256, .f32⟩
  | 52 => ⟨S1x8192x4x256, .f32⟩
  | 53 => ⟨S1x8192x256, .f32⟩
  | 54 => ⟨S1x8192x256, .f32⟩
  | 55 => ⟨S1x8192x256, .f32⟩
  | 56 => ⟨S_, .f32⟩
  | 57 => ⟨S1x8193x4x256, .f32⟩
  | 58 => ⟨S1x8193x4x256, .f32⟩
  | 59 => ⟨S1x8193x4x256, .f32⟩
  | 60 => ⟨S1x8192x1x256, .f32⟩
  | 61 => ⟨S_, .f32⟩
  | 62 => ⟨S1x8193x4x256, .f32⟩
  | 63 => ⟨S1x8193x4x256, .f32⟩
  | 64 => ⟨S1x8192x256, .f32⟩
  | 65 => ⟨S1x8192x1x256, .f32⟩
  | 66 => ⟨S_, .f32⟩
  | 67 => ⟨S1x8192x4x256, .f32⟩
  | 68 => ⟨S1x8192x4x256, .f32⟩
  | 69 => ⟨S1x8192x256, .f32⟩
  | 70 => ⟨S1x8192x256, .f32⟩
  | 71 => ⟨S1x8192x256, .f32⟩
  | 72 => ⟨S_, .f32⟩
  | 73 => ⟨S1x8193x4x256, .f32⟩
  | 74 => ⟨S1x8193x4x256, .f32⟩
  | 75 => ⟨S1x8193x4x256, .f32⟩
  | 76 => ⟨S1x8192x1x256, .f32⟩
  | 77 => ⟨S_, .f32⟩
  | 78 => ⟨S1x8193x4x256, .f32⟩
  | 79 => ⟨S1x8193x4x256, .f32⟩
  | 80 => ⟨S1x8192x256, .f32⟩
  | 81 => ⟨S1x8192x1x256, .f32⟩
  | 82 => ⟨S_, .f32⟩
  | 83 => ⟨S1x8192x4x256, .f32⟩
  | 84 => ⟨S1x8192x4x256, .f32⟩
  | 85 => ⟨S1x8192x256, .f32⟩
  | 86 => ⟨S1x8192x256, .f32⟩
  | 87 => ⟨S1x8192x256, .f32⟩
  | 88 => ⟨S_, .f32⟩
  | 89 => ⟨S1x8193x4x256, .f32⟩
  | 90 => ⟨S1x8193x4x256, .f32⟩
  | 91 => ⟨S1x8193x4x256, .f32⟩
  | 92 => ⟨S1x8192x1x256, .f32⟩
  | 93 => ⟨S_, .f32⟩
  | 94 => ⟨S1x8193x4x256, .f32⟩
  | 95 => ⟨S1x8193x4x256, .f32⟩
  | 96 => ⟨S1x1x4x256, .f32⟩
  | 97 => ⟨S1x8192x4x256, .f32⟩
  | 98 => ⟨S_, .f32⟩
  | 99 => ⟨S_, .f32⟩
  | 100 => ⟨S1x8192x4x256, .f32⟩
  | 101 => ⟨S1x8192x4x256, .f32⟩
  | 102 => ⟨S8192x1024, .f32⟩
  | 103 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_c_8 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_10 : Ref sig .tc := ⟨.hbm, 61, rfl⟩
abbrev main_v45 : Ref sig .tc := ⟨.hbm, 62, rfl⟩
abbrev main_v46 : Ref sig .tc := ⟨.hbm, 63, rfl⟩
abbrev main_c_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_13 : Ref sig .tc := ⟨.hbm, 81, rfl⟩
abbrev main_v62 : Ref sig .tc := ⟨.hbm, 82, rfl⟩
abbrev main_v63 : Ref sig .tc := ⟨.hbm, 83, rfl⟩
abbrev main_c_14 : Ref sig .tc := ⟨.hbm, 84, rfl⟩
abbrev main_v64 : Ref sig .tc := ⟨.hbm, 85, rfl⟩
abbrev main_v65 : Ref sig .tc := ⟨.hbm, 86, rfl⟩
abbrev main_c_15 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c_16 : Ref sig .tc := ⟨.hbm, 94, rfl⟩
abbrev main_v72 : Ref sig .tc := ⟨.hbm, 95, rfl⟩
abbrev main_v73 : Ref sig .tc := ⟨.hbm, 96, rfl⟩
abbrev main_c_17 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_18 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_19 : Ref sig .tc := ⟨.hbm, 114, rfl⟩
abbrev main_v89 : Ref sig .tc := ⟨.hbm, 115, rfl⟩
abbrev main_v90 : Ref sig .tc := ⟨.hbm, 116, rfl⟩
abbrev main_c_20 : Ref sig .tc := ⟨.hbm, 117, rfl⟩
abbrev main_v91 : Ref sig .tc := ⟨.hbm, 118, rfl⟩
abbrev main_v92 : Ref sig .tc := ⟨.hbm, 119, rfl⟩
abbrev main_c_21 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_c_22 : Ref sig .tc := ⟨.hbm, 127, rfl⟩
abbrev main_v99 : Ref sig .tc := ⟨.hbm, 128, rfl⟩
abbrev main_v100 : Ref sig .tc := ⟨.hbm, 129, rfl⟩
abbrev main_c_23 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_c_24 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_25 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_cst_26 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_27 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_28 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_29 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_30 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_cst_31 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_cst_32 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_cst_33 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_cst_34 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_cst_35 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_cst_36 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_call1_call0_cst : Ref sig .tc := ⟨.hbm, 226, rfl⟩
abbrev main_call1_call0_v0 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩

abbrev nD : Nat := 1
abbrev τ : Topo := Topo.v7x

variable {F : FTy → Type} [FloatOps F]
-- ==== Fwd.lean ====
abbrev S8192x6400 : Shape := ⟨2, ![8192, 6400]⟩
abbrev S1x64 : Shape := ⟨2, ![1, 64]⟩
abbrev S1x16 : Shape := ⟨2, ![1, 16]⟩
abbrev S32x16 : Shape := ⟨2, ![32, 16]⟩
abbrev S1x128 : Shape := ⟨2, ![1, 128]⟩
abbrev S2x1x8x1 : Shape := ⟨4, ![2, 1, 8, 1]⟩
abbrev S2x1x8x128 : Shape := ⟨4, ![2, 1, 8, 128]⟩
abbrev S2x1x1024 : Shape := ⟨3, ![2, 1, 1024]⟩
abbrev S_ : Shape := ⟨0, ![]⟩
abbrev S3 : Shape := ⟨1, ![3]⟩
abbrev S2 : Shape := ⟨1, ![2]⟩
abbrev S4 : Shape := ⟨1, ![4]⟩
abbrev S5 : Shape := ⟨1, ![5]⟩
abbrev S6 : Shape := ⟨1, ![6]⟩
abbrev S7 : Shape := ⟨1, ![7]⟩
abbrev S8 : Shape := ⟨1, ![8]⟩
abbrev S10 : Shape := ⟨1, ![10]⟩
abbrev S12 : Shape := ⟨1, ![12]⟩
abbrev S14 : Shape := ⟨1, ![14]⟩
abbrev S15 : Shape := ⟨1, ![15]⟩
abbrev S16 : Shape := ⟨1, ![16]⟩
abbrev S46 : Shape := ⟨1, ![46]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S1x32768 : Shape := ⟨2, ![1, 32768]⟩
abbrev S32 : Shape := ⟨1, ![32]⟩
abbrev S32x1 : Shape := ⟨2, ![32, 1]⟩
abbrev S32x32768 : Shape := ⟨2, ![32, 32768]⟩
abbrev S16x32768 : Shape := ⟨2, ![16, 32768]⟩
abbrev S32x4096 : Shape := ⟨2, ![32, 4096]⟩
abbrev S16x4096 : Shape := ⟨2, ![16, 4096]⟩
abbrev S4096 : Shape := ⟨1, ![4096]⟩
abbrev S1x4096 : Shape := ⟨2, ![1, 4096]⟩
abbrev S2x8x128x256 : Shape := ⟨4, ![2, 8, 128, 256]⟩
abbrev S2x256x8x128 : Shape := ⟨4, ![2, 256, 8, 128]⟩
abbrev S2x256x1024 : Shape := ⟨3, ![2, 256, 1024]⟩
abbrev S8192x2560 : Shape := ⟨2, ![8192, 2560]⟩
abbrev S8192x1024 : Shape := ⟨2, ![8192, 1024]⟩
abbrev S128x512 : Shape := ⟨2, ![128, 512]⟩
abbrev S128x128 : Shape := ⟨2, ![128, 128]⟩
abbrev S128x1024 : Shape := ⟨2, ![128, 1024]⟩
abbrev S256x128 : Shape := ⟨2, ![256, 128]⟩
abbrev S256x1 : Shape := ⟨2, ![256, 1]⟩
abbrev S256x256 : Shape := ⟨2, ![256, 256]⟩
abbrev S1x256x256 : Shape := ⟨3, ![1, 256, 256]⟩
abbrev S1x1x256 : Shape := ⟨3, ![1, 1, 256]⟩

abbrev nBuf : Space → Nat
  | .hbm => 101
  | .vmem => 23
  | .smem => 0
  | _ => 0

abbrev bufTy : (tb : Table) → Fin (tcTables nBuf tb) → BufTy
  | .hbm, ⟨0, _⟩ => ⟨S8192x6400, .f32⟩
  | .hbm, ⟨1, _⟩ => ⟨S1x64, .f32⟩
  | .hbm, ⟨2, _⟩ => ⟨S1x64, .f32⟩
  | .hbm, ⟨3, _⟩ => ⟨S1x16, .f32⟩
  | .hbm, ⟨4, _⟩ => ⟨S32x16, .f32⟩
  | .hbm, ⟨5, _⟩ => ⟨S1x128, .f32⟩
  | .hbm, ⟨6, _⟩ => ⟨S1x128, .f32⟩
  | .hbm, ⟨7, _⟩ => ⟨S2x1x8x1, .f32⟩
  | .hbm, ⟨8, _⟩ => ⟨S2x1x8x128, .f32⟩
  | .hbm, ⟨9, _⟩ => ⟨S2x1x1024, .f32⟩
  | .hbm, ⟨10, _⟩ => ⟨S_, .i32⟩
  | .hbm, ⟨11, _⟩ => ⟨S3, .i32⟩
  | .hbm, ⟨12, _⟩ => ⟨S_, .i32⟩
  | .hbm, ⟨13, _⟩ => ⟨S2, .i32⟩
  | .hbm, ⟨14, _⟩ => ⟨S_, .i32⟩
  | .hbm, ⟨15, _⟩ => ⟨S3, .i32⟩
  | .hbm, ⟨16, _⟩ => ⟨S_, .i32⟩
  | .hbm, ⟨17, _⟩ => ⟨S3, .i32⟩
  | .hbm, ⟨18, _⟩ => ⟨S_, .i32⟩
  | .hbm, ⟨19, _⟩ => ⟨S4, .i32⟩
  | .hbm, ⟨20, _⟩ => ⟨S_, .i32⟩
  | .hbm, ⟨21, _⟩ => ⟨S4, .i32⟩
  | .hbm, ⟨22, _⟩ => ⟨S_, .i32⟩
  | .hbm, ⟨23, _⟩ => ⟨S5, .i32⟩
  | .hbm, ⟨24, _⟩ => ⟨S_, .i32⟩
  | .hbm, ⟨25, _⟩ => ⟨S6, .i32⟩
  | .hbm, ⟨26, _⟩ => ⟨S_, .i32⟩
  | .hbm, ⟨27, _⟩ => ⟨S6, .i32⟩
  | .hbm, ⟨28, _⟩ => ⟨S_, .i32⟩
  | .hbm, ⟨29, _⟩ => ⟨S7, .i32⟩
  | .hbm, ⟨30, _⟩ => ⟨S_, .i32⟩
  | .hbm, ⟨31, _⟩ => ⟨S8, .i32⟩
  | .hbm, ⟨32, _⟩ => ⟨S_, .i32⟩
  | .hbm, ⟨33, _⟩ => ⟨S10, .i32⟩
  | .hbm, ⟨34, _⟩ => ⟨S_, .i32⟩
  | .hbm, ⟨35, _⟩ => ⟨S10, .i32⟩
  | .hbm, ⟨36, _⟩ => ⟨S_, .i32⟩
  | .hbm, ⟨37, _⟩ => ⟨S12, .i32⟩
  | .hbm, ⟨38, _⟩ => ⟨S_, .i32⟩
  | .hbm, ⟨39, _⟩ => ⟨S14, .i32⟩
  | .hbm, ⟨40, _⟩ => ⟨S_, .i32⟩
  | .hbm, ⟨41, _⟩ => ⟨S15, .i32⟩
  | .hbm, ⟨42, _⟩ => ⟨S16, .i32⟩
  | .hbm, ⟨43, _⟩ => ⟨S46, .i32⟩
  | .hbm, ⟨44, _⟩ => ⟨S128, .i32⟩
  | .hbm, ⟨45, _⟩ => ⟨S128, .i32⟩
  | .hbm, ⟨46, _⟩ => ⟨S128x1, .i32⟩
  | .hbm, ⟨47, _⟩ => ⟨S_, .i32⟩
  | .hbm, ⟨48, _⟩ => ⟨S128x1, .i32⟩
  | .hbm, ⟨49, _⟩ => ⟨S128x1, .i32⟩
  | .hbm, ⟨50, _⟩ => ⟨S256, .i32⟩
  | .hbm, ⟨51, _⟩ => ⟨S1x256, .i32⟩
  | .hbm, ⟨52, _⟩ => ⟨S128x256, .i32⟩
  | .hbm, ⟨53, _⟩ => ⟨S128x256, .i32⟩
  | .hbm, ⟨54, _⟩ => ⟨S128x256, .i32⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S_, .i32⟩
  | .hbm, ⟨59, _⟩ => ⟨S128x256, .i32⟩
  | .hbm, ⟨60, _⟩ => ⟨S128x256, .i1⟩
  | .hbm, ⟨61, _⟩ => ⟨S128x256, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S128x256, .i32⟩
  | .hbm, ⟨66, _⟩ => ⟨S128x256, .i32⟩
  | .hbm, ⟨67, _⟩ => ⟨S_, .i32⟩
  | .hbm, ⟨68, _⟩ => ⟨S128x256, .i32⟩
  | .hbm, ⟨69, _⟩ => ⟨S128x256, .i32⟩
  | .hbm, ⟨70, _⟩ => ⟨S_, .i32⟩
  | .hbm, ⟨71, _⟩ => ⟨S128x256, .i32⟩
  | .hbm, ⟨72, _⟩ => ⟨S128x256, .i1⟩
  | .hbm, ⟨73, _⟩ => ⟨S_, .i32⟩
  | .hbm, ⟨74, _⟩ => ⟨S128x256, .i32⟩
  | .hbm, ⟨75, _⟩ => ⟨S128x256, .i32⟩
  | .hbm, ⟨76, _⟩ => ⟨S128x256, .i32⟩
  | .hbm, ⟨77, _⟩ => ⟨S128x256x1, .i32⟩
  | .hbm, ⟨78, _⟩ => ⟨S128x256, .i32⟩
  | .hbm, ⟨79, _⟩ => ⟨S_, .i32⟩
  | .hbm, ⟨80, _⟩ => ⟨S_, .i32⟩
  | .hbm, ⟨81, _⟩ => ⟨S128x256, .i32⟩
  | .hbm, ⟨82, _⟩ => ⟨S128x256, .i32⟩
  | .hbm, ⟨83, _⟩ => ⟨S1x32768, .i32⟩
  | .hbm, ⟨84, _⟩ => ⟨S32, .i32⟩
  | .hbm, ⟨85, _⟩ => ⟨S32x1, .i32⟩
  | .hbm, ⟨86, _⟩ => ⟨S32x32768, .i32⟩
  | .hbm, ⟨87, _⟩ => ⟨S32x32768, .i32⟩
  | .hbm, ⟨88, _⟩ => ⟨S32x32768, .i1⟩
  | .hbm, ⟨89, _⟩ => ⟨S_, .f32⟩
  | .hbm, ⟨90, _⟩ => ⟨S_, .f32⟩
  | .hbm, ⟨91, _⟩ => ⟨S32x32768, .f32⟩
  | .hbm, ⟨92, _⟩ => ⟨S32x32768, .f32⟩
  | .hbm, ⟨93, _⟩ => ⟨S32x32768, .f32⟩
  | .hbm, ⟨94, _⟩ => ⟨S32x32768, .bf16⟩
  | .hbm, ⟨95, _⟩ => ⟨S16x32768, .f32⟩
  | .hbm, ⟨96, _⟩ => ⟨S2x8x128x256, .f32⟩
  | .hbm, ⟨97, _⟩ => ⟨S2x256x8x128, .f32⟩
  | .hbm, ⟨98, _⟩ => ⟨S2x256x1024, .f32⟩
  | .hbm, ⟨99, _⟩ => ⟨S8192x2560, .f32⟩
  | .hbm, ⟨100, _⟩ => ⟨S8192x1024, .bf16⟩
  | .local _ .vmem, ⟨0, _⟩ => ⟨S32x16, .f32⟩
  | .local _ .vmem, ⟨1, _⟩ => ⟨S32x4096, .bf16⟩
  | .local _ .vmem, ⟨2, _⟩ => ⟨S32x4096, .bf16⟩
  | .local _ .vmem, ⟨3, _⟩ => ⟨S16x4096, .f32⟩
  | .local _ .vmem, ⟨4, _⟩ => ⟨S16x4096, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S2x1x1024, .f32⟩
  | .local _ .vmem, ⟨20, _⟩ => ⟨S2x256x1024, .f32⟩
  | .local _ .vmem, ⟨21, _⟩ => ⟨S128x1024, .bf16⟩
  | .local _ .vmem, ⟨22, _⟩ => ⟨S128x1024, .bf16⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_c_5 : Ref sig .tc := ⟨.hbm, 22, rfl⟩
abbrev main_v11 : Ref sig .tc := ⟨.hbm, 23, rfl⟩
abbrev main_c_6 : Ref sig .tc := ⟨.hbm, 24, rfl⟩
abbrev main_v12 : Ref sig .tc := ⟨.hbm, 25, rfl⟩
abbrev main_c_7 : Ref sig .tc := ⟨.hbm, 26, rfl⟩
abbrev main_v13 : Ref sig .tc := ⟨.hbm, 27, rfl⟩
abbrev main_c_8 : Ref sig .tc := ⟨.hbm, 28, rfl⟩
abbrev main_v14 : Ref sig .tc := ⟨.hbm, 29, rfl⟩
abbrev main_c_9 : Ref sig .tc := ⟨.hbm, 30, rfl⟩
abbrev main_v15 : Ref sig .tc := ⟨.hbm, 31, rfl⟩
abbrev main_c_10 : Ref sig .tc := ⟨.hbm, 32, rfl⟩
abbrev main_v16 : Ref sig .tc := ⟨.hbm, 33, rfl⟩
abbrev main_c_11 : Ref sig .tc := ⟨.hbm, 34, rfl⟩
abbrev main_v17 : Ref sig .tc := ⟨.hbm, 35, rfl⟩
abbrev main_c_12 : Ref sig .tc := ⟨.hbm, 36, rfl⟩
abbrev main_v18 : Ref sig .tc := ⟨.hbm, 37, rfl⟩
abbrev main_c_13 : Ref sig .tc := ⟨.hbm, 38, rfl⟩
abbrev main_v19 : Ref sig .tc := ⟨.hbm, 39, rfl⟩
abbrev main_c_14 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_15 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_16 : Ref sig .tc := ⟨.hbm, 55, rfl⟩
abbrev main_v33 : Ref sig .tc := ⟨.hbm, 56, rfl⟩
abbrev main_v34 : Ref sig .tc := ⟨.hbm, 57, rfl⟩
abbrev main_c_17 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_18 : Ref sig .tc := ⟨.hbm, 62, rfl⟩
abbrev main_c_19 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v38 : Ref sig .tc := ⟨.hbm, 69, rfl⟩
abbrev main_c_20 : Ref sig .tc := ⟨.hbm, 70, rfl⟩
abbrev main_v39 : Ref sig .tc := ⟨.hbm, 71, rfl⟩
abbrev main_v40 : Ref sig .tc := ⟨.hbm, 72, rfl⟩
abbrev main_c_21 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_22 : Ref sig .tc := ⟨.hbm, 79, rfl⟩
abbrev main_call1_v0 : Ref sig .tc := ⟨.hbm, 80, rfl⟩
abbrev main_call1_v1 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst : Ref sig .tc := ⟨.hbm, 89, rfl⟩
abbrev main_cst_23 : Ref sig .tc := ⟨.hbm, 90, rfl⟩
abbrev main_call2_v0 : Ref sig .tc := ⟨.hbm, 91, rfl⟩
abbrev main_call2_v1 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem10_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_1 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_2 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  ![v1.toNat, c16_i32.toNat]

def cc1_transform_3 (i : grid1.Coords) : Fin 2 → Nat :=
  let arg0 : BitVec 32 := BitVec.ofNat 32 (i 0).val
  let c16_i32 : BitVec 32 := 16#32
  let c0_i32 : BitVec 32 := 0#32
  ![arg0.toNat, c16_i32.toNat]

def cc1_transform_4 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c17_i32 : BitVec 32 := 17#32
  let c0_i32_0 : BitVec 32 := 0#32
  ![v1.toNat, c17_i32.toNat]

def cc1_transform_5 (i : grid1.Coords) : Fin 2 → Nat :=
  let arg0 : BitVec 32 := BitVec.ofNat 32 (i 0).val
  let c17_i32 : BitVec 32 := 17#32
  let c0_i32 : BitVec 32 := 0#32
  ![arg0.toNat, c17_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S2x1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S2x256x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S128x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== FwdIdeal.lean ====
variable {F : FTy → Type} [FloatOps F] [Named F]
def κ : String → Option EReal := fun
  | "mask" => some ⊥
  | _ => none
-- ==== FwdRefIdeal.lean ====
abbrev S8192x6400 : Shape := ⟨2, ![8192, 6400]⟩
abbrev S1x64 : Shape := ⟨2, ![1, 64]⟩
abbrev S1x16 : Shape := ⟨2, ![1, 16]⟩
abbrev S32x16 : Shape := ⟨2, ![32, 16]⟩
abbrev S8192x1024 : Shape := ⟨2, ![8192, 1024]⟩
abbrev S8192x128 : Shape := ⟨2, ![8192, 128]⟩
abbrev S1x8192x1024 : Shape := ⟨3, ![1, 8192, 1024]⟩
abbrev S1x8192x128 : Shape := ⟨3, ![1, 8192, 128]⟩
abbrev S64 : Shape := ⟨1, ![64]⟩
abbrev S16 : Shape := ⟨1, ![16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S3 : Shape := ⟨1, ![3]⟩
abbrev S2 : Shape := ⟨1, ![2]⟩
abbrev S4 : Shape := ⟨1, ![4]⟩
abbrev S5 : Shape := ⟨1, ![5]⟩
abbrev S6 : Shape := ⟨1, ![6]⟩
abbrev S7 : Shape := ⟨1, ![7]⟩
abbrev S8 : Shape := ⟨1, ![8]⟩
abbrev S10 : Shape := ⟨1, ![10]⟩
abbrev S12 : Shape := ⟨1, ![12]⟩
abbrev S14 : Shape := ⟨1, ![14]⟩
abbrev S143 : Shape := ⟨1, ![143]⟩
abbrev S46 : Shape := ⟨1, ![46]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S2x8x128x256 : Shape := ⟨4, ![2, 8, 128, 256]⟩
abbrev S1x8192x16x64 : Shape := ⟨4, ![1, 8192, 16, 64]⟩
abbrev S1x8192x16 : Shape := ⟨3, ![1, 8192, 16]⟩
abbrev S1x8192x16x1 : Shape := ⟨4, ![1, 8192, 16, 1]⟩
abbrev S1x1x1x64 : Shape := ⟨4, ![1, 1, 1, 64]⟩
abbrev S1x8192x2x64 : Shape := ⟨4, ![1, 8192, 2, 64]⟩
abbrev S1x8192x2 : Shape := ⟨3, ![1, 8192, 2]⟩
abbrev S1x8192x2x1 : Shape := ⟨4, ![1, 8192, 2, 1]⟩
abbrev S1x64x128x2x8x64 : Shape := ⟨6, ![1, 64, 128, 2, 8, 64]⟩
abbrev S1x64x128x2x64 : Shape := ⟨5, ![1, 64, 128, 2, 64]⟩
abbrev S1x1x128x2x64 : Shape := ⟨5, ![1, 1, 128, 2, 64]⟩
abbrev S1x65x128x2x64 : Shape := ⟨5, ![1, 65, 128, 2, 64]⟩
abbrev S1x64x256x2x64 : Shape := ⟨5, ![1, 64, 256, 2, 64]⟩
abbrev S1x64x2x256x128x8 : Shape := ⟨6, ![1, 64, 2, 256, 128, 8]⟩
abbrev S1x64x2x8x128x256 : Shape := ⟨6, ![1, 64, 2, 8, 128, 256]⟩
abbrev S1x1x2x8x128x256 : Shape := ⟨6, ![1, 1, 2, 8, 128, 256]⟩
abbrev S64x1x1 : Shape := ⟨3, ![64, 1, 1]⟩
abbrev S1x128x1 : Shape := ⟨3, ![1, 128, 1]⟩
abbrev S64x128x1 : Shape := ⟨3, ![64, 128, 1]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S1x1x2x8x1x1 : Shape := ⟨6, ![1, 1, 2, 8, 1, 1]⟩
abbrev S1x64x2x8x128x1 : Shape := ⟨6, ![1, 64, 2, 8, 128, 1]⟩
abbrev S1x64x2x8x128x257 : Shape := ⟨6, ![1, 64, 2, 8, 128, 257]⟩
abbrev S1x64x2x8x128 : Shape := ⟨5, ![1, 64, 2, 8, 128]⟩
abbrev S1x64x2x64x8x128 : Shape := ⟨6, ![1, 64, 2, 64, 8, 128]⟩

abbrev nBuf : Space → Nat
  | .hbm => 207
  | .vmem => 0
  | .smem => 0
  | _ => 0

abbrev hbmTy0_0 (i : Nat) : BufTy := match i % 128 with
  | 0 => ⟨S8192x6400, .f32⟩
  | 1 => ⟨S1x64, .f32⟩
  | 2 => ⟨S1x64, .f32⟩
  | 3 => ⟨S1x16, .f32⟩
  | 4 => ⟨S32x16, .f32⟩
  | 5 => ⟨S8192x1024, .f32⟩
  | 6 => ⟨S8192x128, .f32⟩
  | 7 => ⟨S8192x128, .f32⟩
  | 8 => ⟨S1x8192x1024, .f32⟩
  | 9 => ⟨S1x8192x128, .f32⟩
  | 10 => ⟨S1x8192x128, .f32⟩
  | 11 => ⟨S64, .f32⟩
  | 12 => ⟨S64, .f32⟩
  | 13 => ⟨S16, .f32⟩
  | 14 => ⟨S128, .i32⟩
  | 15 => ⟨S128x1, .i32⟩
  | 16 => ⟨S256, .i32⟩
  | 17 => ⟨S1x256, .i32⟩
  | 18 => ⟨S_, .i32⟩
  | 19 => ⟨S3, .i32⟩
  | 20 => ⟨S_, .i32⟩
  | 21 => ⟨S2, .i32⟩
  | 22 => ⟨S_, .i32⟩
  | 23 => ⟨S3, .i32⟩
  | 24 => ⟨S_, .i32⟩
  | 25 => ⟨S3, .i32⟩
  | 26 => ⟨S_, .i32⟩
  | 27 => ⟨S4, .i32⟩
  | 28 => ⟨S_, .i32⟩
  | 29 => ⟨S4, .i32⟩
  | 30 => ⟨S_, .i32⟩
  | 31 => ⟨S5, .i32⟩
  | 32 => ⟨S_, .i32⟩
  | 33 => ⟨S6, .i32⟩
  | 34 => ⟨S_, .i32⟩
  | 35 => ⟨S6, .i32⟩
  | 36 => ⟨S_, .i32⟩
  | 37 => ⟨S7, .i32⟩
  | 38 => ⟨S_, .i32⟩
  | 39 => ⟨S8, .i32⟩
  | 40 => ⟨S_, .i32⟩
  | 41 => ⟨S10, .i32⟩
  | 42 => ⟨S_, .i32⟩
  | 43 => ⟨S10, .i32⟩
  | 44 => ⟨S_, .i32⟩
  | 45 => ⟨S12, .i32⟩
  | 46 => ⟨S_, .i32⟩
  | 47 => ⟨S14, .i32⟩
  | 48 => ⟨S_, .i32⟩
  | 49 => ⟨S143, .i32⟩
  | 50 => ⟨S16, .i32⟩
  | 51 => ⟨S46, .i32⟩
  | 52 => ⟨S256, .i32⟩
  | 53 => ⟨S_, .i32⟩
  | 54 => ⟨S128x1, .i32⟩
  | 55 => ⟨S128x1, .i32⟩
  | 56 => ⟨S128x256, .i32⟩
  | 57 => ⟨S128x256, .i32⟩
  | 58 => ⟨S128x256, .i32⟩
  | 59 => ⟨S_, .i32⟩
  | 60 => ⟨S128x256, .i32⟩
  | 61 => ⟨S128x256, .i32⟩
  | 62 => ⟨S_, .i32⟩
  | 63 => ⟨S128x256, .i32⟩
  | 64 => ⟨S128x256, .i1⟩
  | 65 => ⟨S_, .i32⟩
  | 66 => ⟨S128x256, .i32⟩
  | 67 => ⟨S128x256, .i32⟩
  | 68 => ⟨S128x256, .i32⟩
  | 69 => ⟨S128x256x1, .i32⟩
  | 70 => ⟨S128x256, .i32⟩
  | 71 => ⟨S_, .i32⟩
  | 72 => ⟨S128x256, .i32⟩
  | 73 => ⟨S128x256, .i1⟩
  | 74 => ⟨S_, .i32⟩
  | 75 => ⟨S128x256, .i32⟩
  | 76 => ⟨S128x256, .i32⟩
  | 77 => ⟨S128x256, .i32⟩
  | 78 => ⟨S128x256x1, .i32⟩
  | 79 => ⟨S128x256x16, .f32⟩
  | 80 => ⟨S16x128x256, .f32⟩
  | 81 => ⟨S2x8x128x256, .f32⟩
  | 82 => ⟨S1x8192x16x64, .f32⟩
  | 83 => ⟨S1x8192x16x64, .f32⟩
  | 84 => ⟨S_, .f32⟩
  | 85 => ⟨S1x8192x16, .f32⟩
  | 86 => ⟨S1x8192x16x1, .f32⟩
  | 87 => ⟨S_, .f32⟩
  | 88 => ⟨S1x8192x16x1, .f32⟩
  | 89 => ⟨S1x8192x16x1, .f32⟩
  | 90 => ⟨S_, .f32⟩
  | 91 => ⟨S1x8192x16x1, .f32⟩
  | 92 => ⟨S1x8192x16x1, .f32⟩
  | 93 => ⟨S1x8192x16x1, .f32⟩
  | 94 => ⟨S1x8192x16x64, .f32⟩
  | 95 => ⟨S1x8192x16x64, .f32⟩
  | 96 => ⟨S1x1x1x64, .f32⟩
  | 97 => ⟨S1x8192x16x64, .f32⟩
  | 98 => ⟨S1x8192x16x64, .f32⟩
  | 99 => ⟨S1x8192x2x64, .f32⟩
  | 100 => ⟨S1x8192x2x64, .f32⟩
  | 101 => ⟨S_, .f32⟩
  | 102 => ⟨S1x8192x2, .f32⟩
  | 103 => ⟨S1x8192x2x1, .f32⟩
  | 104 => ⟨S_, .f32⟩
  | 105 => ⟨S1x8192x2x1, .f32⟩
  | 106 => ⟨S1x8192x2x1, .f32⟩
  | 107 => ⟨S_, .f32⟩
  | 108 => ⟨S1x8192x2x1, .f32⟩
  | 109 => ⟨S1x8192x2x1, .f32⟩
  | 110 => ⟨S1x8192x2x1, .f32⟩
  | 111 => ⟨S1x8192x2x64, .f32⟩
  | 112 => ⟨S1x8192x2x64, .f32⟩
  | 113 => ⟨S1x1x1x64, .f32⟩
  | 114 => ⟨S1x8192x2x64, .f32⟩
  | 115 => ⟨S1x8192x2x64, .f32⟩
  | 116 => ⟨S1x8192x2x64, .f32⟩
  | 117 => ⟨S1x64x128x2x8x64, .f32⟩
  | 118 => ⟨S1x64x128x2x64, .f32⟩
  | 119 => ⟨S_, .f32⟩
  | 120 => ⟨S1x1x128x2x64, .f32⟩
  | 121 => ⟨S1x65x128x2x64, .f32⟩
  | 122 => ⟨S1x64x128x2x64, .f32⟩
  | 123 => ⟨S1x64x256x2x64, .f32⟩
  | 124 => ⟨S1x64x128x2x64, .f32⟩
  | 125 => ⟨S_, .f32⟩
  | 126 => ⟨S1x1x128x2x64, .f32⟩
  | 127 => ⟨S1x65x128x2x64, .f32⟩
  | _ => ⟨S8192x6400, .f32⟩

abbrev hbmTy0_1 (i : Nat) : BufTy := match i % 128 with
  | 0 => ⟨S1x64x128x2x64, .f32⟩
  | 1 => ⟨S1x64x256x2x64, .f32⟩
  | 2 => ⟨S1x64x2x256x128x8, .f32⟩
  | 3 => ⟨S1x64x2x8x128x256, .f32⟩
  | 4 => ⟨S_, .f32⟩
  | 5 => ⟨S1x64x2x8x128x256, .f32⟩
  | 6 => ⟨S1x64x2x8x128x256, .f32⟩
  | 7 => ⟨S1x1x2x8x128x256, .f32⟩
  | 8 => ⟨S1x64x2x8x128x256, .f32⟩
  | 9 => ⟨S1x64x2x8x128x256, .f32⟩
  | 10 => ⟨S64, .i32⟩
  | 11 => ⟨S64x1x1, .i32⟩
  | 12 => ⟨S_, .i32⟩
  | 13 => ⟨S64x1x1, .i32⟩
  | 14 => ⟨S64x1x1, .i32⟩
  | 15 => ⟨S128, .i32⟩
  | 16 => ⟨S1x128x1, .i32⟩
  | 17 => ⟨S64x128x1, .i32⟩
  | 18 => ⟨S64x128x1, .i32⟩
  | 19 => ⟨S64x128x1, .i32⟩
  | 20 => ⟨S64, .i32⟩
  | 21 => ⟨S64x1x1, .i32⟩
  | 22 => ⟨S_, .i32⟩
  | 23 => ⟨S64x1x1, .i32⟩
  | 24 => ⟨S64x1x1, .i32⟩
  | 25 => ⟨S_, .i32⟩
  | 26 => ⟨S64x1x1, .i32⟩
  | 27 => ⟨S64x1x1, .i32⟩
  | 28 => ⟨S256, .i32⟩
  | 29 => ⟨S1x1x256, .i32⟩
  | 30 => ⟨S64x1x256, .i32⟩
  | 31 => ⟨S64x1x256, .i32⟩
  | 32 => ⟨S64x1x256, .i32⟩
  | 33 => ⟨S64x128x256, .i32⟩
  | 34 => ⟨S64x128x256, .i32⟩
  | 35 => ⟨S64x128x256, .i32⟩
  | 36 => ⟨S_, .i32⟩
  | 37 => ⟨S64x128x256, .i32⟩
  | 38 => ⟨S64x128x256, .i1⟩
  | 39 => ⟨S_, .i32⟩
  | 40 => ⟨S64x128x256, .i32⟩
  | 41 => ⟨S64x128x256, .i1⟩
  | 42 => ⟨S64x128x256, .i1⟩
  | 43 => ⟨S_, .i32⟩
  | 44 => ⟨S64x1x256, .i32⟩
  | 45 => ⟨S64x1x256, .i1⟩
  | 46 => ⟨S64x128x256, .i1⟩
  | 47 => ⟨S64x128x256, .i1⟩
  | 48 => ⟨S1x64x1x1x128x256, .i1⟩
  | 49 => ⟨S1x64x2x8x128x256, .i1⟩
  | 50 => ⟨S_, .f32⟩
  | 51 => ⟨S1x64x2x8x128x256, .f32⟩
  | 52 => ⟨S1x64x2x8x128x256, .f32⟩
  | 53 => ⟨S1x1x2x8x1x1, .f32⟩
  | 54 => ⟨S1x64x2x8x128x1, .f32⟩
  | 55 => ⟨S_, .f32⟩
  | 56 => ⟨S1x64x2x8x128x256, .f32⟩
  | 57 => ⟨S1x64x2x8x128x256, .f32⟩
  | 58 => ⟨S1x64x2x8x128x257, .f32⟩
  | 59 => ⟨S_, .f32⟩
  | 60 => ⟨S1x64x2x8x128, .f32⟩
  | 61 => ⟨S_, .f32⟩
  | 62 => ⟨S1x64x2x8x128, .f32⟩
  | 63 => ⟨S1x64x2x8x128, .f32⟩
  | 64 => ⟨S1x64x2x8x128x1, .f32⟩
  | 65 => ⟨S1x64x2x8x128x257, .f32⟩
  | 66 => ⟨S1x64x2x8x128x257, .f32⟩
  | 67 => ⟨S1x64x2x8x128x257, .f32⟩
  | 68 => ⟨S_, .f32⟩
  | 69 => ⟨S1x64x2x8x128, .f32⟩
  | 70 => ⟨S1x64x2x8x128x1, .f32⟩
  | 71 => ⟨S1x64x2x8x128x257, .f32⟩
  | 72 => ⟨S1x64x2x8x128x257, .f32⟩
  | 73 => ⟨S1x64x2x8x128x256, .f32⟩
  | 74 => ⟨S1x64x2x64x8x128, .f32⟩
  | 75 => ⟨S1x64x128x2x8x64, .f32⟩
  | 76 => ⟨S1x8192x1024, .f32⟩
  | 77 => ⟨S8192x1024, .f32⟩
  | 78 => ⟨S8192x1024, .bf16⟩
  | _ => ⟨S8192x6400, .f32⟩

abbrev hbmTy (i : Nat) : BufTy := match i / 128 with
  | 0 => hbmTy0_0 i
  | 1 => hbmTy0_1 i
  | _ => ⟨S8192x6400, .f32⟩

abbrev bufTy : (tb : Table) → Fin (tcTables nBuf tb) → BufTy
  | .hbm, ⟨i, _⟩ => hbmTy i
  | _, _ => ⟨S8192x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_c_5 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_c_7 : Ref sig .tc := ⟨.hbm, 34, rfl⟩
abbrev main_v21 : Ref sig .tc := ⟨.hbm, 35, rfl⟩
abbrev main_c_8 : Ref sig .tc := ⟨.hbm, 36, rfl⟩
abbrev main_v22 : Ref sig .tc := ⟨.hbm, 37, rfl⟩
abbrev main_c_9 : Ref sig .tc := ⟨.hbm, 38, rfl⟩
abbrev main_v23 : Ref sig .tc := ⟨.hbm, 39, rfl⟩
abbrev main_c_10 : Ref sig .tc := ⟨.hbm, 40, rfl⟩
abbrev main_v24 : Ref sig .tc := ⟨.hbm, 41, rfl⟩
abbrev main_c_11 : Ref sig .tc := ⟨.hbm, 42, rfl⟩
abbrev main_v25 : Ref sig .tc := ⟨.hbm, 43, rfl⟩
abbrev main_c_12 : Ref sig .tc := ⟨.hbm, 44, rfl⟩
abbrev main_v26 : Ref sig .tc := ⟨.hbm, 45, rfl⟩
abbrev main_c_13 : Ref sig .tc := ⟨.hbm, 46, rfl⟩
abbrev main_v27 : Ref sig .tc := ⟨.hbm, 47, rfl⟩
abbrev main_c_14 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_15 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_16 : Ref sig .tc := ⟨.hbm, 59, rfl⟩
abbrev main_v37 : Ref sig .tc := ⟨.hbm, 60, rfl⟩
abbrev main_v38 : Ref sig .tc := ⟨.hbm, 61, rfl⟩
abbrev main_c_17 : Ref sig .tc := ⟨.hbm, 62, rfl⟩
abbrev main_v39 : Ref sig .tc := ⟨.hbm, 63, rfl⟩
abbrev main_v40 : Ref sig .tc := ⟨.hbm, 64, rfl⟩
abbrev main_c_18 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_19 : Ref sig .tc := ⟨.hbm, 71, rfl⟩
abbrev main_v46 : Ref sig .tc := ⟨.hbm, 72, rfl⟩
abbrev main_v47 : Ref sig .tc := ⟨.hbm, 73, rfl⟩
abbrev main_c_20 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst : Ref sig .tc := ⟨.hbm, 84, rfl⟩
abbrev main_v57 : Ref sig .tc := ⟨.hbm, 85, rfl⟩
abbrev main_v58 : Ref sig .tc := ⟨.hbm, 86, rfl⟩
abbrev main_cst_21 : Ref sig .tc := ⟨.hbm, 87, rfl⟩
abbrev main_v59 : Ref sig .tc := ⟨.hbm, 88, rfl⟩
abbrev main_v60 : Ref sig .tc := ⟨.hbm, 89, rfl⟩
abbrev main_cst_22 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_23 : Ref sig .tc := ⟨.hbm, 101, rfl⟩
abbrev main_v71 : Ref sig .tc := ⟨.hbm, 102, rfl⟩
abbrev main_v72 : Ref sig .tc := ⟨.hbm, 103, rfl⟩
abbrev main_cst_24 : Ref sig .tc := ⟨.hbm, 104, rfl⟩
abbrev main_v73 : Ref sig .tc := ⟨.hbm, 105, rfl⟩
abbrev main_v74 : Ref sig .tc := ⟨.hbm, 106, rfl⟩
abbrev main_cst_25 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_26 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_27 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_28 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_29 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_c_30 : Ref sig .tc := ⟨.hbm, 150, rfl⟩
abbrev main_v113 : Ref sig .tc := ⟨.hbm, 151, rfl⟩
abbrev main_v114 : Ref sig .tc := ⟨.hbm, 152, rfl⟩
abbrev main_c_31 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_c_32 : Ref sig .tc := ⟨.hbm, 164, rfl⟩
abbrev main_v125 : Ref sig .tc := ⟨.hbm, 165, rfl⟩
abbrev main_v126 : Ref sig .tc := ⟨.hbm, 166, rfl⟩
abbrev main_c_33 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_c_34 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_cst_35 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_36 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_37 : Ref sig .tc := ⟨.hbm, 187, rfl⟩
abbrev main_v143 : Ref sig .tc := ⟨.hbm, 188, rfl⟩
abbrev main_cst_38 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_39 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩

abbrev nD : Nat := 1
abbrev τ : Topo := Topo.v7x

variable {F : FTy → Type} [FloatOps F]
-- ==== Rmsf.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RmsfRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Up.lean ====
abbrev S8192x2048 : Shape := ⟨2, ![8192, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S2x8192x5632 : Shape := ⟨3, ![2, 8192, 5632]⟩
abbrev S8192x5632 : Shape := ⟨2, ![8192, 5632]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S2048x1408 : Shape := ⟨2, ![2048, 1408]⟩
abbrev S1x512x1408 : Shape := ⟨3, ![1, 512, 1408]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x2048, .bf16⟩
  | .hbm, ⟨3, _⟩ => ⟨S2048x4x2816, .f32⟩
  | .hbm, ⟨4, _⟩ => ⟨S4x2048x2816, .f32⟩
  | .hbm, ⟨5, _⟩ => ⟨S4x2048x2816, .bf16⟩
  | .hbm, ⟨6, _⟩ => ⟨S2x8192x5632, .bf16⟩
  | .hbm, ⟨7, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S1x8192x5632 : Shape := ⟨3, ![1, 8192, 5632]⟩
abbrev S2x8192x5632 : Shape := ⟨3, ![2, 8192, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x5632, .f32⟩
  | .hbm, ⟨4, _⟩ => ⟨S8192x5632, .f32⟩
  | .hbm, ⟨5, _⟩ => ⟨S1x8192x5632, .f32⟩
  | .hbm, ⟨6, _⟩ => ⟨S1x8192x5632, .f32⟩
  | .hbm, ⟨7, _⟩ => ⟨S2x8192x5632, .f32⟩
  | .hbm, ⟨8, _⟩ => ⟨S2x8192x5632, .bf16⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Gate.lean ====
abbrev S8192x1024 : Shape := ⟨2, ![8192, 1024]⟩
abbrev S1024x2048 : Shape := ⟨2, ![1024, 2048]⟩
abbrev S8192x6400 : Shape := ⟨2, ![8192, 6400]⟩
abbrev S1024x4x512 : Shape := ⟨3, ![1024, 4, 512]⟩
abbrev S4x1024x512 : Shape := ⟨3, ![4, 1024, 512]⟩
abbrev S8192x2048 : Shape := ⟨2, ![8192, 2048]⟩
abbrev S2x8192x2048 : Shape := ⟨3, ![2, 8192, 2048]⟩
abbrev S1024x1024 : Shape := ⟨2, ![1024, 1024]⟩
abbrev S1x1024x256 : Shape := ⟨3, ![1, 1024, 256]⟩
abbrev S1024x256 : Shape := ⟨2, ![1024, 256]⟩
abbrev S2x1024x256 : Shape := ⟨3, ![2, 1024, 256]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024x2048, .f32⟩
  | .hbm, ⟨4, _⟩ => ⟨S8192x6400, .f32⟩
  | .hbm, ⟨5, _⟩ => ⟨S8192x1024, .bf16⟩
  | .hbm, ⟨6, _⟩ => ⟨S8192x1024, .bf16⟩
  | .hbm, ⟨7, _⟩ => ⟨S1024x4x512, .f32⟩
  | .hbm, ⟨8, _⟩ => ⟨S4x1024x512, .f32⟩
  | .hbm, ⟨9, _⟩ => ⟨S4x1024x512, .bf16⟩
  | .hbm, ⟨10, _⟩ => ⟨S1024x4x512, .f32⟩
  | .hbm, ⟨11, _⟩ => ⟨S4x1024x512, .f32⟩
  | .hbm, ⟨12, _⟩ => ⟨S4x1024x512, .bf16⟩
  | .hbm, ⟨13, _⟩ => ⟨S8192x2048, .bf16⟩
  | .hbm, ⟨14, _⟩ => ⟨S2x8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | .local _ .vmem, ⟨14, _⟩ => ⟨S2x1024x256, .bf16⟩
  | .local _ .vmem, ⟨15, _⟩ => ⟨S2x1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GateRefIdeal.lean ====
abbrev S8192x1024 : Shape := ⟨2, ![8192, 1024]⟩
abbrev S1024x2048 : Shape := ⟨2, ![1024, 2048]⟩
abbrev S8192x6400 : Shape := ⟨2, ![8192, 6400]⟩
abbrev S8192x2048 : Shape := ⟨2, ![8192, 2048]⟩
abbrev S_ : Shape := ⟨0, ![]⟩
abbrev S1x8192x2048 : Shape := ⟨3, ![1, 8192, 2048]⟩
abbrev S2x8192x2048 : Shape := ⟨3, ![2, 8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024x2048, .f32⟩
  | .hbm, ⟨4, _⟩ => ⟨S8192x6400, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | .hbm, ⟨29, _⟩ => ⟨S1x8192x2048, .f32⟩
  | .hbm, ⟨30, _⟩ => ⟨S1x8192x2048, .f32⟩
  | .hbm, ⟨31, _⟩ => ⟨S2x8192x2048, .f32⟩
  | .hbm, ⟨32, _⟩ => ⟨S2x8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Pmix.lean ====
abbrev S8192x1024 : Shape := ⟨2, ![8192, 1024]⟩
abbrev S4x256x256 : Shape := ⟨3, ![4, 256, 256]⟩
abbrev S1x1024 : Shape := ⟨2, ![1, 1024]⟩
abbrev S1024x256 : Shape := ⟨2, ![1024, 256]⟩
abbrev S1x256x256 : Shape := ⟨3, ![1, 256, 256]⟩
abbrev S1x256 : Shape := ⟨2, ![1, 256]⟩
abbrev S256x256 : Shape := ⟨2, ![256, 256]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S1x1024, .f32⟩
  | .hbm, ⟨3, _⟩ => ⟨S8192x1024, .bf16⟩
  | .hbm, ⟨4, _⟩ => ⟨S4x256x256, .bf16⟩
  | .hbm, ⟨5, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PmixRefIdeal.lean ====
abbrev S8192x1024 : Shape := ⟨2, ![8192, 1024]⟩
abbrev S4x256x256 : Shape := ⟨3, ![4, 256, 256]⟩
abbrev S1x1024 : Shape := ⟨2, ![1, 1024]⟩
abbrev S1x8192x4x256 : Shape := ⟨4, ![1, 8192, 4, 256]⟩
abbrev S4x256x1x8192 : Shape := ⟨4, ![4, 256, 1, 8192]⟩
abbrev S1x8192x1024 : Shape := ⟨3, ![1, 8192, 1024]⟩
abbrev S1x1x1024 : Shape := ⟨3, ![1, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x256x256, .f32⟩
  | .hbm, ⟨2, _⟩ => ⟨S1x1024, .f32⟩
  | .hbm, ⟨3, _⟩ => ⟨S1x8192x4x256, .f32⟩
  | .hbm, ⟨4, _⟩ => ⟨S4x256x1x8192, .f32⟩
  | .hbm, ⟨5, _⟩ => ⟨S1x8192x4x256, .f32⟩
  | .hbm, ⟨6, _⟩ => ⟨S1x8192x1024, .f32⟩
  | .hbm, ⟨7, _⟩ => ⟨S1x1x1024, .f32⟩
  | .hbm, ⟨8, _⟩ => ⟨S1x8192x1024, .f32⟩
  | .hbm, ⟨9, _⟩ => ⟨S1x8192x1024, .f32⟩
  | .hbm, ⟨10, _⟩ => ⟨S8192x1024, .f32⟩
  | .hbm, ⟨11, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Res.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩
abbrev S1024x5632 : Shape := ⟨2, ![1024, 5632]⟩
abbrev S5632x512 : Shape := ⟨2, ![5632, 512]⟩
abbrev S1024x512 : Shape := ⟨2, ![1024, 512]⟩
abbrev S1x512 : Shape := ⟨2, ![1, 512]⟩

abbrev nBuf : Space → Nat
  | .hbm => 11
  | .vmem => 12
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S8192x5632, .bf16⟩
  | .hbm, ⟨5, _⟩ => ⟨S5632x2048, .bf16⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .bf16⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ResRefIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Win.lean ====
abbrev S8192x6400 : Shape := ⟨2, ![8192, 6400]⟩
abbrev S8192x1024 : Shape := ⟨2, ![8192, 1024]⟩
abbrev S16x128 : Shape := ⟨2, ![16, 128]⟩
abbrev S1024x128 : Shape := ⟨2, ![1024, 128]⟩
abbrev S1040x128 : Shape := ⟨2, ![1040, 128]⟩

abbrev nBuf : Space → Nat
  | .hbm => 2
  | .vmem => 6
  | .smem => 0
  | _ => 0

abbrev bufTy : (tb : Table) → Fin (tcTables nBuf tb) → BufTy
  | .hbm, ⟨0, _⟩ => ⟨S8192x6400, .f32⟩
  | .hbm, ⟨1, _⟩ => ⟨S8192x1024, .bf16⟩
  | .local _ .vmem, ⟨0, _⟩ => ⟨S16x128, .f32⟩
  | .local _ .vmem, ⟨1, _⟩ => ⟨S16x128, .f32⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .bf16⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinRefIdeal.lean ====
abbrev S8192x6400 : Shape := ⟨2, ![8192, 6400]⟩
abbrev S8192x1024 : Shape := ⟨2, ![8192, 1024]⟩
abbrev S1x8192x4x256 : Shape := ⟨4, ![1, 8192, 4, 256]⟩
abbrev S_ : Shape := ⟨0, ![]⟩
abbrev S1x1x4x256 : Shape := ⟨4, ![1, 1, 4, 256]⟩
abbrev S1x8193x4x256 : Shape := ⟨4, ![1, 8193, 4, 256]⟩
abbrev S8192 : Shape := ⟨1, ![8192]⟩
abbrev S1x8192x1 : Shape := ⟨3, ![1, 8192, 1]⟩
abbrev S1x8192x1x256 : Shape := ⟨4, ![1, 8192, 1, 256]⟩
abbrev S1x8192x256 : Shape := ⟨3, ![1, 8192, 256]⟩
abbrev S8192x1 : Shape := ⟨2, ![8192, 1]⟩
abbrev S8192x2 : Shape := ⟨2, ![8192, 2]⟩

abbrev nBuf : Space → Nat
  | .hbm => 152
  | .vmem => 0
  | .smem => 0
  | _ => 0

abbrev hbmTy0_0 (i : Nat) : BufTy := match i % 128 with
  | 0 => ⟨S8192x6400, .f32⟩
  | 1 => ⟨S8192x1024, .f32⟩
  | 2 => ⟨S1x8192x4x256, .f32⟩
  | 3 => ⟨S_, .f32⟩
  | 4 => ⟨S1x1x4x256, .f32⟩
  | 5 => ⟨S_, .f32⟩
  | 6 => ⟨S_, .f32⟩
  | 7 => ⟨S1x8192x4x256, .f32⟩
  | 8 => ⟨S1x8193x4x256, .f32⟩
  | 9 => ⟨S8192, .i32⟩
  | 10 => ⟨S_, .i32⟩
  | 11 => ⟨S8192, .i32⟩
  | 12 => ⟨S8192, .i32⟩
  | 13 => ⟨S_, .i32⟩
  | 14 => ⟨S8192, .i32⟩
  | 15 => ⟨S8192, .i32⟩
  | 16 => ⟨S_, .i32⟩
  | 17 => ⟨S8192, .i32⟩
  | 18 => ⟨S8192, .i32⟩
  | 19 => ⟨S_, .i32⟩
  | 20 => ⟨S8192, .i32⟩
  | 21 => ⟨S8192, .i32⟩
  | 22 => ⟨S8192, .f32⟩
  | 23 => ⟨S1x8192x1, .f32⟩
  | 24 => ⟨S1x8192x1x256, .f32⟩
  | 25 => ⟨S1x8192x256, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192x1, .i32⟩
  | 37 => ⟨S8192x1, .i32⟩
  | 38 => ⟨S8192x2, .i32⟩
  | 39 => ⟨S1x8192x256, .f32⟩
  | 40 => ⟨S1x8192x256, .f32⟩
  | 41 => ⟨S1x8192x256, .f32⟩
  | 42 => ⟨S1x8192x256, .f32⟩
  | 43 => ⟨S1x8192x1x256, .f32⟩
  | 44 => ⟨S1x8192x256, .f32⟩
  | 45 => ⟨S1x8192x256, .f32⟩
  | 46 => ⟨S_, .i32⟩
  | 47 => ⟨S8192, .i32⟩
  | 48 => ⟨S8192, .i32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192, .f32⟩
  | 56 => ⟨S1x8192x1, .f32⟩
  | 57 => ⟨S1x8192x1x256, .f32⟩
  | 58 => ⟨S1x8192x256, .f32⟩
  | 59 => ⟨S_, .i32⟩
  | 60 => ⟨S8192, .i32⟩
  | 61 => ⟨S8192, .i1⟩
  | 62 => ⟨S_, .i32⟩
  | 63 => ⟨S8192, .i32⟩
  | 64 => ⟨S8192, .i32⟩
  | 65 => ⟨S8192, .i32⟩
  | 66 => ⟨S_, .i32⟩
  | 67 => ⟨S8192, .i32⟩
  | 68 => ⟨S8192, .i32⟩
  | 69 => ⟨S8192x1, .i32⟩
  | 70 => ⟨S8192x1, .i32⟩
  | 71 => ⟨S8192x2, .i32⟩
  | 72 => ⟨S1x8192x256, .f32⟩
  | 73 => ⟨S1x8192x256, .f32⟩
  | 74 => ⟨S1x8192x256, .f32⟩
  | 75 => ⟨S1x8192x256, .f32⟩
  | 76 => ⟨S1x8192x1x256, .f32⟩
  | 77 => ⟨S1x8192x256, .f32⟩
  | 78 => ⟨S1x8192x256, .f32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .f32⟩
  | 89 => ⟨S1x8192x1, .f32⟩
  | 90 => ⟨S1x8192x1x256, .f32⟩
  | 91 => ⟨S1x8192x256, .f32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S_, .i32⟩
  | 100 => ⟨S8192, .i32⟩
  | 101 => ⟨S8192, .i32⟩
  | 102 => ⟨S8192x1, .i32⟩
  | 103 => ⟨S8192x1, .i32⟩
  | 104 => ⟨S8192x2, .i32⟩
  | 105 => ⟨S1x8192x256, .f32⟩
  | 106 => ⟨S1x8192x256, .f32⟩
  | 107 => ⟨S1x8192x256, .f32⟩
  | 108 => ⟨S1x8192x256, .f32⟩
  | 109 => ⟨S1x8192x1x256, .f32⟩
  | 110 => ⟨S1x8192x256, .f32⟩
  | 111 => ⟨S1x8192x256, .f32⟩
  | 112 => ⟨S_, .i32⟩
  | 113 => ⟨S8192, .i32⟩
  | 114 => ⟨S8192, .i32⟩
  | 115 => ⟨S_, .i32⟩
  | 116 => ⟨S8192, .i32⟩
  | 117 => ⟨S8192, .i32⟩
  | 118 => ⟨S_, .i32⟩
  | 119 => ⟨S8192, .i32⟩
  | 120 => ⟨S8192, .i32⟩
  | 121 => ⟨S8192, .f32⟩
  | 122 => ⟨S1x8192x1, .f32⟩
  | 123 => ⟨S1x8192x1x256, .f32⟩
  | 124 => ⟨S1x8192x256, .f32⟩
  | 125 => ⟨S_, .i32⟩
  | 126 => ⟨S8192, .i32⟩
  | 127 => ⟨S8192, .i1⟩
  | _ => ⟨S8192x6400, .f32⟩

abbrev hbmTy0_1 (i : Nat) : BufTy := match i % 128 with
  | 0 => ⟨S_, .i32⟩
  | 1 => ⟨S8192, .i32⟩
  | 2 => ⟨S8192, .i32⟩
  | 3 => ⟨S8192, .i32⟩
  | 4 => ⟨S_, .i32⟩
  | 5 => ⟨S8192, .i32⟩
  | 6 => ⟨S8192, .i32⟩
  | 7 => ⟨S8192x1, .i32⟩
  | 8 => ⟨S8192x1, .i32⟩
  | 9 => ⟨S8192x2, .i32⟩
  | 10 => ⟨S1x8192x256, .f32⟩
  | 11 => ⟨S1x8192x256, .f32⟩
  | 12 => ⟨S1x8192x256, .f32⟩
  | 13 => ⟨S1x8192x256, .f32⟩
  | 14 => ⟨S1x8192x1x256, .f32⟩
  | 15 => ⟨S1x8192x256, .f32⟩
  | 16 => ⟨S1x8192x256, .f32⟩
  | 17 => ⟨S1x8192x1x256, .f32⟩
  | 18 => ⟨S1x8192x1x256, .f32⟩
  | 19 => ⟨S1x8192x1x256, .f32⟩
  | 20 => ⟨S1x8192x1x256, .f32⟩
  | 21 => ⟨S1x8192x4x256, .f32⟩
  | 22 => ⟨S8192x1024, .f32⟩
  | 23 => ⟨S8192x1024, .bf16⟩
  | _ => ⟨S8192x6400, .f32⟩

abbrev hbmTy (i : Nat) : BufTy := match i / 128 with
  | 0 => hbmTy0_0 i
  | 1 => hbmTy0_1 i
  | _ => ⟨S8192x6400, .f32⟩

abbrev bufTy : (tb : Table) → Fin (tcTables nBuf tb) → BufTy
  | .hbm, ⟨i, _⟩ => hbmTy i
  | _, _ => ⟨S8192x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_call0_call0_cst : Ref sig .tc := ⟨.hbm, 5, rfl⟩
abbrev main_call0_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_v35 : Ref sig .tc := ⟨.hbm, 47, rfl⟩
abbrev main_v36 : Ref sig .tc := ⟨.hbm, 48, rfl⟩
abbrev main_c_7 : Ref sig .tc := ⟨.hbm, 49, rfl⟩
abbrev main_v37 : Ref sig .tc := ⟨.hbm, 50, rfl⟩
abbrev main_v38 : Ref sig .tc := ⟨.hbm, 51, rfl⟩
abbrev main_c_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_9 : Ref sig .tc := ⟨.hbm, 59, rfl⟩
abbrev main_v45 : Ref sig .tc := ⟨.hbm, 60, rfl⟩
abbrev main_v46 : Ref sig .tc := ⟨.hbm, 61, rfl⟩
abbrev main_c_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_12 : Ref sig .tc := ⟨.hbm, 79, rfl⟩
abbrev main_v62 : Ref sig .tc := ⟨.hbm, 80, rfl⟩
abbrev main_v63 : Ref sig .tc := ⟨.hbm, 81, rfl⟩
abbrev main_c_13 : Ref sig .tc := ⟨.hbm, 82, rfl⟩
abbrev main_v64 : Ref sig .tc := ⟨.hbm, 83, rfl⟩
abbrev main_v65 : Ref sig .tc := ⟨.hbm, 84, rfl⟩
abbrev main_c_14 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_15 : Ref sig .tc := ⟨.hbm, 92, rfl⟩
abbrev main_v72 : Ref sig .tc := ⟨.hbm, 93, rfl⟩
abbrev main_v73 : Ref sig .tc := ⟨.hbm, 94, rfl⟩
abbrev main_c_16 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_17 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_c_18 : Ref sig .tc := ⟨.hbm, 112, rfl⟩
abbrev main_v89 : Ref sig .tc := ⟨.hbm, 113, rfl⟩
abbrev main_v90 : Ref sig .tc := ⟨.hbm, 114, rfl⟩
abbrev main_c_19 : Ref sig .tc := ⟨.hbm, 115, rfl⟩
abbrev main_v91 : Ref sig .tc := ⟨.hbm, 116, rfl⟩
abbrev main_v92 : Ref sig .tc := ⟨.hbm, 117, rfl⟩
abbrev main_c_20 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_c_21 : Ref sig .tc := ⟨.hbm, 125, rfl⟩
abbrev main_v99 : Ref sig .tc := ⟨.hbm, 126, rfl⟩
abbrev main_v100 : Ref sig .tc := ⟨.hbm, 127, rfl⟩
abbrev main_c_22 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_c_23 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩

abbrev nD : Nat := 1
abbrev τ : Topo := Topo.v7x

variable {F : FTy → Type} [FloatOps F]
-- ==== Mod.lean ====
abbrev S8x2048 : Shape := ⟨2, ![8, 2048]⟩
abbrev S2048x4608 : Shape := ⟨2, ![2048, 4608]⟩
abbrev S1x4608 : Shape := ⟨2, ![1, 4608]⟩
abbrev S8x4608 : Shape := ⟨2, ![8, 4608]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x4608, .f32⟩
  | .hbm, ⟨2, _⟩ => ⟨S1x4608, .f32⟩
  | .hbm, ⟨3, _⟩ => ⟨S8x4608, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x2048 : Shape := ⟨2, ![8, 2048]⟩
abbrev S2048x4608 : Shape := ⟨2, ![2048, 4608]⟩
abbrev S1x4608 : Shape := ⟨2, ![1, 4608]⟩
abbrev S_ : Shape := ⟨0, ![]⟩
abbrev S8x4608 : Shape := ⟨2, ![8, 4608]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x4608, .f32⟩
  | .hbm, ⟨2, _⟩ => ⟨S1x4608, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x4608, .f32⟩
  | .hbm, ⟨13, _⟩ => ⟨S8x4608, .f32⟩
  | .hbm, ⟨14, _⟩ => ⟨S8x4608, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Zin.lean ====
abbrev S8192x2048 : Shape := ⟨2, ![8192, 2048]⟩
abbrev S2048x6400 : Shape := ⟨2, ![2048, 6400]⟩
abbrev S6400x2048 : Shape := ⟨2, ![6400, 2048]⟩
abbrev S8192x6400 : Shape := ⟨2, ![8192, 6400]⟩
abbrev S1024x2048 : Shape := ⟨2, ![1024, 2048]⟩
abbrev S1280x2048 : Shape := ⟨2, ![1280, 2048]⟩
abbrev S1024x1280 : Shape := ⟨2, ![1024, 1280]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x6400, .f32⟩
  | .hbm, ⟨2, _⟩ => ⟨S6400x2048, .f32⟩
  | .hbm, ⟨3, _⟩ => ⟨S6400x2048, .bf16⟩
  | .hbm, ⟨4, _⟩ => ⟨S8192x2048, .bf16⟩
  | .hbm, ⟨5, _⟩ => ⟨S8192x6400, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZinRefIdeal.lean ====
abbrev S8192x2048 : Shape := ⟨2, ![8192, 2048]⟩
abbrev S2048x6400 : Shape := ⟨2, ![2048, 6400]⟩
abbrev S8192x6400 : Shape := ⟨2, ![8192, 6400]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6400, .f32⟩
  | .hbm, ⟨2, _⟩ => ⟨S8192x6400, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Dh.lean ====
abbrev S8192x11264 : Shape := ⟨2, ![8192, 11264]⟩
abbrev S2048x11264 : Shape := ⟨2, ![2048, 11264]⟩
abbrev S8192x2x5632 : Shape := ⟨3, ![8192, 2, 5632]⟩
abbrev S2x8192x5632 : Shape := ⟨3, ![2, 8192, 5632]⟩
abbrev S2048x4x2816 : Shape := ⟨3, ![2048, 4, 2816]⟩
abbrev S4x2048x2816 : Shape := ⟨3, ![4, 2048, 2816]⟩
abbrev S8192x2048 : Shape := ⟨2, ![8192, 2048]⟩
abbrev S1x1024x5632 : Shape := ⟨3, ![1, 1024, 5632]⟩
abbrev S2x512x2816 : Shape := ⟨3, ![2, 512, 2816]⟩
abbrev S1024x512 : Shape := ⟨2, ![1024, 512]⟩
abbrev S1x1024x2816 : Shape := ⟨3, ![1, 1024, 2816]⟩
abbrev S1024x2816 : Shape := ⟨2, ![1024, 2816]⟩
abbrev S1x512x2816 : Shape := ⟨3, ![1, 512, 2816]⟩
abbrev S512x2816 : Shape := ⟨2, ![512, 2816]⟩

abbrev nBuf : Space → Nat
  | .hbm => 9
  | .vmem => 7
  | .smem => 0
  | _ => 0

abbrev bufTy : (tb : Table) → Fin (tcTables nBuf tb) → BufTy
  | .hbm, ⟨0, _⟩ => ⟨S8192x11264, .f32⟩
  | .hbm, ⟨1, _⟩ => ⟨S2048x11264, .f32⟩
  | .hbm, ⟨2, _⟩ => ⟨S8192x2x5632, .f32⟩
  | .hbm, ⟨3, _⟩ => ⟨S2x8192x5632, .f32⟩
  | .hbm, ⟨4, _⟩ => ⟨S2x8192x5632, .bf16⟩
  | .hbm, ⟨5, _⟩ => ⟨S2048x4x2816, .f32⟩
  | .hbm, ⟨6, _⟩ => ⟨S4x2048x2816, .f32⟩
  | .hbm, ⟨7, _⟩ => ⟨S4x2048x2816, .bf16⟩
  | .hbm, ⟨8, _⟩ => ⟨S8192x2048, .f32⟩
  | .local _ .vmem, ⟨0, _⟩ => ⟨S1x1024x5632, .bf16⟩
  | .local _ .vmem, ⟨1, _⟩ => ⟨S1x1024x5632, .bf16⟩
  | .local _ .vmem, ⟨2, _⟩ => ⟨S2x512x2816, .bf16⟩
  | .local _ .vmem, ⟨3, _⟩ => ⟨S2x512x2816, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_11 : BitVec 32 := 0#32
  let v16 : BitVec 1 := Scalar.cmpi .ne v15 c0_i32_11
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S8192x11264 : Shape := ⟨2, ![8192, 11264]⟩
abbrev S2048x11264 : Shape := ⟨2, ![2048, 11264]⟩
abbrev S11264x2048 : Shape := ⟨2, ![11264, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S2048x11264, .f32⟩
  | .hbm, ⟨2, _⟩ => ⟨S11264x2048, .f32⟩
  | .hbm, ⟨3, _⟩ => ⟨S8192x2048, .f32⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Upt.lean ====
abbrev S2x8192x2048 : Shape := ⟨3, ![2, 8192, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S8192x1024 : Shape := ⟨2, ![8192, 1024]⟩
abbrev S1x1024x2048 : Shape := ⟨3, ![1, 1024, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S1024x2048, .f32⟩
  | .hbm, ⟨2, _⟩ => ⟨S2x8192x2048, .bf16⟩
  | .hbm, ⟨3, _⟩ => ⟨S1024x4x512, .f32⟩
  | .hbm, ⟨4, _⟩ => ⟨S4x1024x512, .f32⟩
  | .hbm, ⟨5, _⟩ => ⟨S4x1024x512, .bf16⟩
  | .hbm, ⟨6, _⟩ => ⟨S8192x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S4x1024x512, .bf16⟩
  | .local _ .vmem, ⟨3, _⟩ => ⟨S1024x1024, .f32⟩
  | .local _ .vmem, ⟨4, _⟩ => ⟨S1024x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UptRefIdeal.lean ====
abbrev S2x8192x2048 : Shape := ⟨3, ![2, 8192, 2048]⟩
abbrev S1024x2048 : Shape := ⟨2, ![1024, 2048]⟩
abbrev S1x8192x2048 : Shape := ⟨3, ![1, 8192, 2048]⟩
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1024x2048, .f32⟩
  | .hbm, ⟨2, _⟩ => ⟨S1x8192x2048, .f32⟩
  | .hbm, ⟨3, _⟩ => ⟨S8192x2048, .f32⟩
  | .hbm, ⟨4, _⟩ => ⟨S2048x1024, .f32⟩
  | .hbm, ⟨5, _⟩ => ⟨S8192x1024, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dwgu.lean ====
abbrev S8192x2048 : Shape := ⟨2, ![8192, 2048]⟩
abbrev S8192x11264 : Shape := ⟨2, ![8192, 11264]⟩
abbrev S8192x2x5632 : Shape := ⟨3, ![8192, 2, 5632]⟩
abbrev S2x8192x5632 : Shape := ⟨3, ![2, 8192, 5632]⟩
abbrev S4x2048x2816 : Shape := ⟨3, ![4, 2048, 2816]⟩
abbrev S4096x512 : Shape := ⟨2, ![4096, 512]⟩
abbrev S1x4096x1408 : Shape := ⟨3, ![1, 4096, 1408]⟩
abbrev S1x512x1408 : Shape := ⟨3, ![1, 512, 1408]⟩
abbrev S512x1408 : Shape := ⟨2, ![512, 1408]⟩
abbrev S4096x1408 : Shape := ⟨2, ![4096, 1408]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S8192x2048, .bf16⟩
  | .hbm, ⟨3, _⟩ => ⟨S8192x2x5632, .f32⟩
  | .hbm, ⟨4, _⟩ => ⟨S2x8192x5632, .f32⟩
  | .hbm, ⟨5, _⟩ => ⟨S2x8192x5632, .bf16⟩
  | .hbm, ⟨6, _⟩ => ⟨S4x2048x2816, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwguRefIdeal.lean ====
abbrev S8192x2048 : Shape := ⟨2, ![8192, 2048]⟩
abbrev S8192x11264 : Shape := ⟨2, ![8192, 11264]⟩
abbrev S2048x8192 : Shape := ⟨2, ![2048, 8192]⟩
abbrev S2048x11264 : Shape := ⟨2, ![2048, 11264]⟩
abbrev S2048x4x2816 : Shape := ⟨3, ![2048, 4, 2816]⟩
abbrev S4x2048x2816 : Shape := ⟨3, ![4, 2048, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S2048x8192, .f32⟩
  | .hbm, ⟨3, _⟩ => ⟨S2048x11264, .f32⟩
  | .hbm, ⟨4, _⟩ => ⟨S2048x4x2816, .f32⟩
  | .hbm, ⟨5, _⟩ => ⟨S4x2048x2816, .f32⟩
  | .hbm, ⟨6, _⟩ => ⟨S4x2048x2816, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Tn.lean ====
abbrev S8192x6400 : Shape := ⟨2, ![8192, 6400]⟩
abbrev S8192x2048 : Shape := ⟨2, ![8192, 2048]⟩
abbrev S6400x2048 : Shape := ⟨2, ![6400, 2048]⟩
abbrev S4096x1280 : Shape := ⟨2, ![4096, 1280]⟩
abbrev S4096x512 : Shape := ⟨2, ![4096, 512]⟩
abbrev S1280x512 : Shape := ⟨2, ![1280, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x6400, .f32⟩
  | .hbm, ⟨1, _⟩ => ⟨S8192x2048, .f32⟩
  | .hbm, ⟨2, _⟩ => ⟨S8192x6400, .bf16⟩
  | .hbm, ⟨3, _⟩ => ⟨S8192x2048, .bf16⟩
  | .hbm, ⟨4, _⟩ => ⟨S6400x2048, .bf16⟩
  | .local _ .vmem, ⟨0, _⟩ => ⟨S4096x1280, .bf16⟩
  | .local _ .vmem, ⟨1, _⟩ => ⟨S4096x1280, .bf16⟩
  | .local _ .vmem, ⟨2, _⟩ => ⟨S4096x512, .bf16⟩
  | .local _ .vmem, ⟨3, _⟩ => ⟨S4096x512, .bf16⟩
  | .local _ .vmem, ⟨4, _⟩ => ⟨S1280x512, .bf16⟩
  | .local _ .vmem, ⟨5, _⟩ => ⟨S1280x512, .bf16⟩
  | .local _ .vmem, ⟨6, _⟩ => ⟨S1280x512, .f32⟩
  | _, _ => ⟨S8192x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== TnRefIdeal.lean ====
abbrev S8192x6400 : Shape := ⟨2, ![8192, 6400]⟩
abbrev S8192x2048 : Shape := ⟨2, ![8192, 2048]⟩
abbrev S6400x8192 : Shape := ⟨2, ![6400, 8192]⟩
abbrev S6400x2048 : Shape := ⟨2, ![6400, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x6400, .f32⟩
  | .hbm, ⟨1, _⟩ => ⟨S8192x2048, .f32⟩
  | .hbm, ⟨2, _⟩ => ⟨S6400x8192, .f32⟩
  | .hbm, ⟨3, _⟩ => ⟨S6400x2048, .f32⟩
  | .hbm, ⟨4, _⟩ => ⟨S6400x2048, .bf16⟩
  | _, _ => ⟨S8192x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Updw.lean ====
abbrev S8192x1024 : Shape := ⟨2, ![8192, 1024]⟩
abbrev S2x8192x2048 : Shape := ⟨3, ![2, 8192, 2048]⟩
abbrev S4x1024x512 : Shape := ⟨3, ![4, 1024, 512]⟩
abbrev S4096x1024 : Shape := ⟨2, ![4096, 1024]⟩
abbrev S1x4096x512 : Shape := ⟨3, ![1, 4096, 512]⟩
abbrev S1x1024x512 : Shape := ⟨3, ![1, 1024, 512]⟩
abbrev S1024x512 : Shape := ⟨2, ![1024, 512]⟩
abbrev S4096x512 : Shape := ⟨2, ![4096, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2x8192x2048, .f32⟩
  | .hbm, ⟨2, _⟩ => ⟨S8192x1024, .bf16⟩
  | .hbm, ⟨3, _⟩ => ⟨S2x8192x2048, .bf16⟩
  | .hbm, ⟨4, _⟩ => ⟨S4x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpdwRefIdeal.lean ====
abbrev S8192x1024 : Shape := ⟨2, ![8192, 1024]⟩
abbrev S2x8192x2048 : Shape := ⟨3, ![2, 8192, 2048]⟩
abbrev S1024x8192 : Shape := ⟨2, ![1024, 8192]⟩
abbrev S1x8192x2048 : Shape := ⟨3, ![1, 8192, 2048]⟩
abbrev S8192x2048 : Shape := ⟨2, ![8192, 2048]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8192x2048, .f32⟩
  | .hbm, ⟨2, _⟩ => ⟨S1024x8192, .f32⟩
  | .hbm, ⟨3, _⟩ => ⟨S1x8192x2048, .f32⟩
  | .hbm, ⟨4, _⟩ => ⟨S8192x2048, .f32⟩
  | .hbm, ⟨5, _⟩ => ⟨S1024x2048, .f32⟩
  | .hbm, ⟨6, _⟩ => ⟨S1024x4x512, .f32⟩
  | .hbm, ⟨7, _⟩ => ⟨S4x1024x512, .f32⟩
  | .hbm, ⟨8, _⟩ => ⟨S4x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Adam.lean ====
abbrev S2048x2816 : Shape := ⟨2, ![2048, 2816]⟩
abbrev S256x2816 : Shape := ⟨2, ![256, 2816]⟩

abbrev nBuf : Space → Nat
  | .hbm => 7
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | .local _ .vmem, ⟨7, _⟩ => ⟨S256x2816, .f32⟩
  | .local _ .vmem, ⟨8, _⟩ => ⟨S256x2816, .f32⟩
  | .local _ .vmem, ⟨9, _⟩ => ⟨S256x2816, .f32⟩
  | .local _ .vmem, ⟨10, _⟩ => ⟨S256x2816, .f32⟩
  | .local _ .vmem, ⟨11, _⟩ => ⟨S256x2816, .f32⟩
  | .local _ .vmem, ⟨12, _⟩ => ⟨S256x2816, .f32⟩
  | .local _ .vmem, ⟨13, _⟩ => ⟨S256x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Wada.lean ====
abbrev S8x2048 : Shape := ⟨2, ![8, 2048]⟩
abbrev S8x4608 : Shape := ⟨2, ![8, 4608]⟩
abbrev S2048x4608 : Shape := ⟨2, ![2048, 4608]⟩
abbrev S8x256 : Shape := ⟨2, ![8, 256]⟩
abbrev S2048x256 : Shape := ⟨2, ![2048, 256]⟩

abbrev nBuf : Space → Nat
  | .hbm => 9
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S8x4608, .f32⟩
  | .hbm, ⟨2, _⟩ => ⟨S2048x4608, .f32⟩
  | .hbm, ⟨3, _⟩ => ⟨S2048x4608, .f32⟩
  | .hbm, ⟨4, _⟩ => ⟨S2048x4608, .f32⟩
  | .hbm, ⟨5, _⟩ => ⟨S2048x4608, .f32⟩
  | .hbm, ⟨6, _⟩ => ⟨S2048x4608, .f32⟩
  | .hbm, ⟨7, _⟩ => ⟨S2048x4608, .f32⟩
  | .hbm, ⟨8, _⟩ => ⟨S2048x4608, .f32⟩
  | .local _ .vmem, ⟨0, _⟩ => ⟨S8x2048, .f32⟩
  | .local _ .vmem, ⟨1, _⟩ => ⟨S8x256, .f32⟩
  | .local _ .vmem, ⟨2, _⟩ => ⟨S8x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== WadaRefIdeal.lean ====
abbrev S8x2048 : Shape := ⟨2, ![8, 2048]⟩
abbrev S8x4608 : Shape := ⟨2, ![8, 4608]⟩
abbrev S2048x4608 : Shape := ⟨2, ![2048, 4608]⟩
abbrev S_ : Shape := ⟨0, ![]⟩
abbrev S2048x8 : Shape := ⟨2, ![2048, 8]⟩

abbrev nBuf : Space → Nat
  | .hbm => 49
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x4608, .f32⟩
  | .hbm, ⟨2, _⟩ => ⟨S2048x4608, .f32⟩
  | .hbm, ⟨3, _⟩ => ⟨S2048x4608, .f32⟩
  | .hbm, ⟨4, _⟩ => ⟨S2048x4608, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S2048x8, .f32⟩
  | .hbm, ⟨15, _⟩ => ⟨S2048x4608, .f32⟩
  | .hbm, ⟨16, _⟩ => ⟨S_, .f32⟩
  | .hbm, ⟨17, _⟩ => ⟨S2048x4608, .f32⟩
  | .hbm, ⟨18, _⟩ => ⟨S2048x4608, .f32⟩
  | .hbm, ⟨19, _⟩ => ⟨S_, .f32⟩
  | .hbm, ⟨20, _⟩ => ⟨S2048x4608, .f32⟩
  | .hbm, ⟨21, _⟩ => ⟨S2048x4608, .f32⟩
  | .hbm, ⟨22, _⟩ => ⟨S2048x4608, .f32⟩
  | .hbm, ⟨23, _⟩ => ⟨S_, .f32⟩
  | .hbm, ⟨24, _⟩ => ⟨S2048x4608, .f32⟩
  | .hbm, ⟨25, _⟩ => ⟨S2048x4608, .f32⟩
  | .hbm, ⟨26, _⟩ => ⟨S2048x4608, .f32⟩
  | .hbm, ⟨27, _⟩ => ⟨S_, .f32⟩
  | .hbm, ⟨28, _⟩ => ⟨S2048x4608, .f32⟩
  | .hbm, ⟨29, _⟩ => ⟨S2048x4608, .f32⟩
  | .hbm, ⟨30, _⟩ => ⟨S2048x4608, .f32⟩
  | .hbm, ⟨31, _⟩ => ⟨S_, .f32⟩
  | .hbm, ⟨32, _⟩ => ⟨S2048x4608, .f32⟩
  | .hbm, ⟨33, _⟩ => ⟨S2048x4608, .f32⟩
  | .hbm, ⟨34, _⟩ => ⟨S_, .f32⟩
  | .hbm, ⟨35, _⟩ => ⟨S2048x4608, .f32⟩
  | .hbm, ⟨36, _⟩ => ⟨S2048x4608, .f32⟩
  | .hbm, ⟨37, _⟩ => ⟨S2048x4608, .f32⟩
  | .hbm, ⟨38, _⟩ => ⟨S_, .f32⟩
  | .hbm, ⟨39, _⟩ => ⟨S2048x4608, .f32⟩
  | .hbm, ⟨40, _⟩ => ⟨S2048x4608, .f32⟩
  | .hbm, ⟨41, _⟩ => ⟨S2048x4608, .f32⟩
  | .hbm, ⟨42, _⟩ => ⟨S_, .f32⟩
  | .hbm, ⟨43, _⟩ => ⟨S2048x4608, .f32⟩
  | .hbm, ⟨44, _⟩ => ⟨S2048x4608, .f32⟩
  | .hbm, ⟨45, _⟩ => ⟨S2048x4608, .f32⟩
  | .hbm, ⟨46, _⟩ => ⟨S_, .f32⟩
  | .hbm, ⟨47, _⟩ => ⟨S2048x4608, .f32⟩
  | .hbm, ⟨48, _⟩ => ⟨S2048x4608, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== Proof.Merge.lean ====
/- The gated merge's gradient: each block the kernel stores is the reference's gradient there. -/
module

public import proofs.«01_k».proof.Proof.Gen.MergeIdeal.Frame
public import proofs.«01_k».proof.Proof.Gen.MergeRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Grad
open Cert.MergeIdeal Cert.MergeIdeal.Gen

variable (m : (ℓ : Loc nD τ sig) → Buf (Elt Ideal) ℓ)

theorem idx : ∀ t : Fin cfg0.N, win0_0.index t = ![t.val / 8, 0] ∧ win0_1.index t = ![t.val % 8, 0] ∧ win0_2.index t = ![t.val / 8, 9 + t.val % 8]
    ∧ win0_3.index t = ![t.val / 8, 17 + t.val % 8] ∧ win0_4.index t = ![0, t.val / 8, t.val % 8]
    ∧ win0_5.index t = ![0, t.val / 8, t.val % 8] ∧ win0_6.index t = ![0, t.val / 8, t.val % 8] :=
  (by decide +kernel : ∀ t : Fin grid0.N, _)

/-- The stacked forward products: layer 0 is the pool's, layer 1 the attention's. -/
theorem saved (c : Dev nD) (i : S2x8192x2048.Idx) : V m c main_v5 i
    = if (i 0 : ℕ) < 1 then m ((c : Thread nD τ).loc main_arg1) (ix2 (i 1) (i 2)) else m ((c : Thread nD τ).loc main_arg2) (ix2 (i 1) (i 2)) := by
  entry_read
  pointwise
  rfl

open Cert.MergeRefIdeal.Read in
theorem point5 (c : Dev nD) (t : Fin cfg0.N) (y) : out0_5 (iblk m c 0 t) (iblk m c 1 t) (iblk m c 2 t) (iblk m c 3 t) (iblk m c 4 t) y
    = val_main_v34 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).blk t).view.emb y) := by
  unfold out0_5
  canon_tiles x h
  · pointwise [k0_pay3, k0_pay5, k0_pay7, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38]
    blk_simp [idx t]
    pointwise [h0, h1, h2]
    rw [← mul_assoc]
    simp only [Ideal.logistic]
    blk_point [iblk, V, idx t, h1, h2]
    rw [saved, if_neg (by blk_simp [idx t]; decide)]
    blk_ext [idx t, h1, h2]
  · pointwise [k0_pay3, k0_pay4, k0_pay6, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38]
    blk_simp [idx t]
    pointwise [h0, h1, h2]
    rw [← mul_assoc]
    simp only [Ideal.logistic]
    blk_point [iblk, V, idx t, h1, h2]
    rw [saved, if_pos (by blk_simp [idx t]; decide)]
    blk_ext [idx t, h1, h2]

open Cert.MergeRefIdeal.Read in
theorem point6 (c : Dev nD) (t : Fin cfg0.N) (y) : out0_6 (iblk m c 0 t) (iblk m c 1 t) (iblk m c 2 t) (iblk m c 3 t) (iblk m c 4 t) y
    = val_main_v38 (F := Ideal) (m ((c : Thread nD τ).loc main_arg0))
      (m ((c : Thread nD τ).loc main_arg3)) (m ((c : Thread nD τ).loc main_arg4)) (((cfg0.win 6).blk t).view.emb y) := by
  unfold out0_6
  canon_tiles x h
  · pointwise [k0_pay1, k0_pay3, k0_pay5, k0_pay8, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38]
    blk_simp [idx t]
    pointwise [h0, h1, h2]
    rw [mul_comm]
    blk_point [iblk, V, idx t, h1, h2]
    simp only [Ideal.logistic]
    blk_point [iblk, V, idx t, h1, h2]
  · pointwise [k0_pay2, k0_pay3, k0_pay4, k0_pay8, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_cst_2, val_main_v14, val_main_v15, val_main_cst_3, val_main_v16, val_main_v17, val_main_cst_4, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38]
    blk_simp [idx t]
    pointwise [h0, h1, h2]
    rw [mul_comm]
    blk_point [iblk, V, idx t, h1, h2]
    simp only [Ideal.logistic]
    blk_point [iblk, V, idx t, h1, h2]

open Cert.MergeRefIdeal.Read in
theorem final5 (c : Dev nD) : (dats m 0 c).arrAt 5 cfg0.N
    = val_main_v34 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  exact point5 m c t y

open Cert.MergeRefIdeal.Read in
theorem final6 (c : Dev nD) : (dats m 0 c).arrAt 6 cfg0.N
    = val_main_v38 (F := Ideal) (m ((c : Thread nD τ).loc main_arg0))
      (m ((c : Thread nD τ).loc main_arg3)) (m ((c : Thread nD τ).loc main_arg4)) := by
  refine (dats m 0 c).arrAt_eq_of_covers 6 _ (by decide +kernel) fun t _ y => ?_
  blk_simp
  rw [after0_6]
  exact point6 m c t y

end Cert.MergeIdeal.Grad
-- ==== Proof.Real.lean ====
/- Extended reals that are real: what a finiteness precondition says, and how the operations act on reals. -/
module

public import Idealize.ShloMosaic.Lib.Pointwise
public import Idealize.ShloMosaic.Lib.ReduceAll
public import Idealize.ShloMosaic.Lib.Pipeline.ValueKit
public import Idealize.ShloMosaic.PureOps.Ideal
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reals
open Idealize.ShloMosaic

/-- An array whose absolute values are all below infinity holds reals. -/
theorem of_all_lt {s : Shape} {hb : (⟨0, ![]⟩ : Shape).BroadcastsInDim s (![] : Fin 0 → Fin s.rank)} {axes : List (Fin s.rank)}
    {hr : s.ReducesTo axes ⟨0, ![]⟩} {hu : 0 < (⟨0, ![]⟩ : Shape).numel} (x : FVec Ideal s .f32) (j : (⟨0, ![]⟩ : Shape).Idx)
    (e : Host.reduce IntOp.andi (cmpf .olt (Host.absf x) (broadcastInDim s ![] hb (constant ⟨0, ![]⟩ .f32 0x7F800000#32)))
      (constantI ⟨0, ![]⟩ 1 1#1) hr hu j = 1#1) : ∃ r : s.Idx → ℝ, x = fun i => (r i : EReal) := by
  haveI : Subsingleton (⟨0, ![]⟩ : Shape).Idx := ⟨fun a b => funext fun i => i.elim0⟩
  have key : ∀ i, ∃ r : ℝ, x i = (r : EReal) := fun i => by
    have h := Host.reduce_andi_all _ _ hr hu j e i
    have h' : max (x i) (-(x i)) < Ideal.ofBits .f32 0x7F800000#32 := by
      have h2 : BitVec.ofBool (decide (max (x i) (-(x i)) < Ideal.ofBits .f32 0x7F800000#32)) = 1#1 := h
      by_contra hn
      rw [decide_eq_false hn] at h2
      exact absurd h2 (by decide)
    have ht : Ideal.ofBits .f32 0x7F800000#32 = ⊤ := by simp [Ideal.ofBits, Ideal.ieee]
    rw [ht] at h'
    obtain ⟨v, hv⟩ : ∃ v : EReal, v = x i := ⟨_, rfl⟩
    rw [← hv] at h' ⊢
    induction v using EReal.rec with
    | bot => simp at h'
    | top => simp at h'
    | coe r => exact ⟨r, rfl⟩
  choose r hr' using key
  exact ⟨r, funext hr'⟩

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A value is real. -/
abbrev Real1 (x : EReal) : Prop := ∃ r : ℝ, x = (r : EReal)

theorem real_mul {x y : EReal} : Real1 x → Real1 y → Real1 (x * y) := by
  rintro ⟨a, rfl⟩ ⟨b, rfl⟩; exact ⟨a * b, (EReal.coe_mul a b).symm⟩

theorem real_add {x y : EReal} : Real1 x → Real1 y → Real1 (x + y) := by
  rintro ⟨a, rfl⟩ ⟨b, rfl⟩; exact ⟨a + b, (EReal.coe_add a b).symm⟩

theorem real_sub {x y : EReal} : Real1 x → Real1 y → Real1 (x - y) := by
  rintro ⟨a, rfl⟩ ⟨b, rfl⟩; exact ⟨a - b, (EReal.coe_sub a b).symm⟩

theorem real_sum {ι : Type*} (s : Finset ι) {f : ι → EReal} (h : ∀ i, Real1 (f i)) : Real1 (∑ i ∈ s, f i) := by
  choose r hr using h
  exact ⟨∑ i ∈ s, r i, by simp only [hr, coe_sum]⟩

theorem real_at {s : Shape} {x : FVec Ideal s .f32} (h : ∃ r : s.Idx → ℝ, x = fun i => (r i : EReal)) (i : s.Idx) : Real1 (x i) := by
  obtain ⟨r, rfl⟩ := h; exact ⟨r i, rfl⟩

/-- The logistic function written out, of a real. -/
theorem logistic_real (r : ℝ) : Ideal.div 1 (1 + Ideal.exp (-(r : EReal))) = (((1 + Real.exp (-r))⁻¹ : ℝ) : EReal) :=
  Ideal.logistic_coe r

end Cert.Reals
-- ==== Proof.Act.lean ====
/- The gated FFN's activation gradient: each block the kernel stores is the reference's gradient there. -/
module

public import proofs.«01_k».proof.Proof.Gen.ActIdeal.Frame
public import proofs.«01_k».proof.Proof.Gen.ActRefIdeal.Read
public import proofs.«01_k».proof.Proof.Gen.Pre_act_finite
public import proofs.«01_k».proof.Proof.Real
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ActIdeal.Grad
open Cert.Reals Cert.ActIdeal Cert.ActIdeal.Gen

variable (m : (ℓ : Loc nD τ sig) → Buf (Elt Ideal) ℓ)

theorem finite (hpre : ∀ c : Dev nD, Cert.Pre_act_finite.fn (F := Ideal) (m ((c.tc : Thread nD τ).loc main_arg0)) (m ((c.tc : Thread nD τ).loc main_arg1))
      (m ((c.tc : Thread nD τ).loc main_arg2)) = (fun _ => 1#1)) (c : Dev nD) :
    (∃ r : S8192x2048.Idx → ℝ, m ((c : Thread nD τ).loc main_arg0) = fun i => (r i : EReal))
    ∧ (∃ r : S5632x2048.Idx → ℝ, m ((c : Thread nD τ).loc main_arg1) = fun i => (r i : EReal))
    ∧ ∃ r : S8192x11264.Idx → ℝ, m ((c : Thread nD τ).loc main_arg2) = fun i => (r i : EReal) := by
  have h := congrFun (hpre c) (fun i => i.elim0)
  obtain ⟨h01, h2⟩ := IntOp.andi_eq_one.1 h
  obtain ⟨h0, h1⟩ := IntOp.andi_eq_one.1 h01
  exact ⟨of_all_lt _ _ h0, of_all_lt _ _ h1, of_all_lt _ _ h2⟩

theorem idx : ∀ t : Fin cfg0.N, win0_0.index t = ![t.val / 4, 0] ∧ win0_1.index t = ![t.val % 4, 0] ∧ win0_2.index t = ![0, t.val / 4, t.val % 4]
    ∧ win0_3.index t = ![0, t.val / 4, t.val % 4] :=
  (by decide +kernel : ∀ t : Fin grid0.N, _)

/-- The stacked halves: layer 0 is the gate, layer 1 the linear part. -/
theorem halves (c : Dev nD) (i : S2x8192x5632.Idx) : V m c main_v7 i
    = if (i 0 : ℕ) < 1 then m ((c : Thread nD τ).loc main_arg2) (ix2 (i 1) ⟨(i 2 : ℕ), by have := (i 2).isLt; simp at this; omega⟩)
      else m ((c : Thread nD τ).loc main_arg2) (ix2 (i 1) ⟨5632 + (i 2 : ℕ), by have := (i 2).isLt; simp at this; omega⟩) := by
  entry_read
  pointwise
  rfl

/-- The gradient of `g * logistic g * u` in `g`, the kernel's product against the sum of the two terms of the product rule. -/
theorem gate_grad {P P' U U' G G' : EReal} (hP : P = P') (hU : U = U') (hG : G = G') (rP : Real1 P') (rU : Real1 U') (rG : Real1 G') :
    P * U * (Ideal.logistic G * (1 + G * (1 - Ideal.logistic G)))
      = P' * U' * Ideal.div 1 (1 + Ideal.exp (-G'))
        + G' * (P' * U') * (Ideal.div 1 (1 + Ideal.exp (-G')) * (1 - Ideal.div 1 (1 + Ideal.exp (-G')))) := by
  subst hP hU hG
  obtain ⟨p, rfl⟩ := rP; obtain ⟨u, rfl⟩ := rU; obtain ⟨g, rfl⟩ := rG
  rw [logistic_real, Ideal.logistic_coe]
  generalize (1 + Real.exp (-g))⁻¹ = s
  norm_cast
  ring

/-- The other factor's gradient. -/
theorem lin_grad {P P' G G' : EReal} (hP : P = P') (hG : G = G') :
    P * (G * Ideal.logistic G) = G' * Ideal.div 1 (1 + Ideal.exp (-G')) * P' := by
  subst hP hG; rw [mul_comm]; rfl

open Cert.ActRefIdeal.Read in
theorem point (c : Dev nD) (t : Fin cfg0.N) (y) (h0r : ∃ r : S8192x2048.Idx → ℝ, m ((c : Thread nD τ).loc main_arg0) = fun i => (r i : EReal))
    (h1r : ∃ r : S5632x2048.Idx → ℝ, m ((c : Thread nD τ).loc main_arg1) = fun i => (r i : EReal))
    (h2r : ∃ r : S8192x11264.Idx → ℝ, m ((c : Thread nD τ).loc main_arg2) = fun i => (r i : EReal)) :
    out0_3 (iblk m c 0 t) (iblk m c 1 t) (iblk m c 2 t) y
    = val_main_v15 (F := Ideal) (m ((c : Thread nD τ).loc main_arg0)) (m ((c : Thread nD τ).loc main_arg1)) (m ((c : Thread nD τ).loc main_arg2))
      (((cfg0.win 3).blk t).view.emb y) := by
  unfold out0_3
  canon_tiles x h
  · pointwise [k0_pay1, k0_pay2, k0_pay3, k0_pay5, val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_v6, val_main_v7, val_main_call1_v0, val_main_call1_v1, val_main_call1_v2, val_main_v8, val_main_v9, val_main_v10, val_main_v11, val_main_v12, val_main_v13, val_main_v14, val_main_v15]
    blk_simp [idx t]
    pointwise [h0, h1, h2]
    refine lin_grad ?_ ?_
    · blk_point [iblk, V, idx t, h1, h2]
    · show V m c main_v7 _ = _
      rw [halves, if_pos (by blk_simp [idx t]; decide)]
      blk_ext [idx t, h1, h2]
  · pointwise [k0_pay1, k0_pay2, k0_pay3, k0_pay4, val_main_v0, val_main_v1, val_main_call0_v0, val_main_call0_v1, val_main_call0_cst, val_main_call0_v2, val_main_call0_v3, val_main_call0_cst_0, val_main_call0_v4, val_main_v2_2, val_main_call0_cst_1, val_main_call0_v6, val_main_call0_v7, val_main_v2_1, val_main_v2_0, val_main_v3, val_main_v4, val_main_v5, val_main_v6, val_main_v7, val_main_call1_v0, val_main_call1_v1, val_main_call1_v2, val_main_v8, val_main_v9, val_main_v10, val_main_v11, val_main_v12, val_main_v13, val_main_v14, val_main_v15]
    blk_simp [idx t]
    pointwise [h0, h1, h2]
    refine gate_grad ?_ ?_ ?_ (real_sum _ fun k => real_mul (real_at h0r _) (real_at h1r _)) (real_at h2r _) (real_at h2r _)
    · blk_point [iblk, V, idx t, h1, h2]
    · show V m c main_v7 _ = _
      rw [halves, if_neg (by blk_simp [idx t]; decide)]
      blk_ext [idx t, h1, h2]
    · show V m c main_v7 _ = _
      rw [halves, if_pos (by blk_simp [idx t]; decide)]
      blk_ext [idx t, h1, h2]

open Cert.ActRefIdeal.Read in
theorem final (c : Dev nD) (h0r : ∃ r : S8192x2048.Idx → ℝ, m ((c : Thread nD τ).loc main_arg0) = fun i => (r i : EReal))
    (h1r : ∃ r : S5632x2048.Idx → ℝ, m ((c : Thread nD τ).loc main_arg1) = fun i => (r i : EReal))
    (h2r : ∃ r : S8192x11264.Idx → ℝ, m ((c : Thread nD τ).loc main_arg2) = fun i => (r i : EReal)) : (dats m 0 c).arrAt 3 cfg0.N
    = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y h0r h1r h2r

end Cert.ActIdeal.Grad
-- ==== Proof.Mix.lean ====
/- The gradients of the pool's group map and scale: the blocks written once, and the two accumulated over the row blocks. -/
module

public import proofs.«01_k».proof.Proof.Gen.MixIdeal.Frame
public import proofs.«01_k».proof.Proof.Gen.MixRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixIdeal.Grad
open Cert.MixIdeal Cert.MixIdeal.Gen

variable (m : (ℓ : Loc nD τ sig) → Buf (Elt Ideal) ℓ)

theorem idx : ∀ t : Fin cfg0.N, win0_0.index t = ![t.val % 8, t.val / 8] ∧ win0_1.index t = ![t.val / 8, 0, 0] ∧ win0_2.index t = ![0, t.val / 8]
    ∧ win0_3.index t = ![t.val % 8, t.val / 8] ∧ win0_4.index t = ![t.val % 8, t.val / 8] ∧ win0_5.index t = ![t.val / 8, 0, 0] ∧ win0_6.index t = ![0, t.val / 8] :=
  (by decide +kernel : ∀ t : Fin grid0.N, _)

/-- The map's gradient at one block of rows, at the first and at a later block of a group. -/
theorem map_first (v0 : Vec Ideal S1024x256 .bf16) (v4 : Vec Ideal S1024x256 .f32) (v6 : Vec Ideal S1x256 .f32) (j : S1x256x256.Idx) :
    k0_pay8 v0 v4 v6 j = (0 : EReal) + ∑ k : Fin 1024, v0 (ix2 k (j 1)) * (v4 (ix2 k (j 2)) * v6 (ix2 0 (j 2))) := by
  pointwise [k0_pay8, k0_pay6, k0_pay2, k0_pay4]
theorem map_next (acc : Vec Ideal S1x256x256 .f32) (v0 : Vec Ideal S1024x256 .bf16) (v4 : Vec Ideal S1024x256 .f32) (v6 : Vec Ideal S1x256 .f32) (j : S1x256x256.Idx) :
    k0_pay9 v0 v4 v6 acc j = acc j + ∑ k : Fin 1024, v0 (ix2 k (j 1)) * (v4 (ix2 k (j 2)) * v6 (ix2 0 (j 2))) := by
  pointwise [k0_pay9, k0_pay6, k0_pay2, k0_pay4]

/-- The scale's gradient at one block of rows: its first row, and seven rows of zeros. -/
theorem scale_first (v0 : Vec Ideal S1024x256 .bf16) (v2 : Vec Ideal S1x256x256 .bf16) (v4 : Vec Ideal S1024x256 .f32) (j : S8x256.Idx) :
    k0_pay7 v0 v2 v4 j = (0 : EReal) + if (j 0 : ℕ) < 1 then ∑ k : Fin 1024, v4 (ix2 k (j 1)) * ∑ l : Fin 256, v0 (ix2 k l) * v2 (ix3 0 l (j 1)) else 0 := by
  pointwise [k0_pay7, k0_pay2, k0_pay3]
  split <;> simp
theorem scale_next (acc : Vec Ideal S8x256 .f32) (v0 : Vec Ideal S1024x256 .bf16) (v2 : Vec Ideal S1x256x256 .bf16) (v4 : Vec Ideal S1024x256 .f32) (j : S8x256.Idx) :
    k0_pay1 (k0_pay7 v0 v2 v4) acc j = acc j + if (j 0 : ℕ) < 1 then ∑ k : Fin 1024, v4 (ix2 k (j 1)) * ∑ l : Fin 256, v0 (ix2 k l) * v2 (ix3 0 l (j 1)) else 0 := by
  pointwise [k0_pay1]
  rw [scale_first, zero_add]

open Cert.MixRefIdeal.Read in
theorem point4 (c : Dev nD) (t : Fin cfg0.N) (y) : k0_pay5 (iblk m c 1 t) (iblk m c 3 t) (iblk m c 2 t) y
    = val_main_v17 (F := Ideal) (m ((c : Thread nD τ).loc main_arg1)) (m ((c : Thread nD τ).loc main_arg2)) (m ((c : Thread nD τ).loc main_arg3))
      (((cfg0.win 4).blk t).view.emb y) := by
  pointwise [k0_pay5, k0_pay3, k0_pay4, val_main_v0, val_main_v1, val_main_v2, val_main_v3, val_main_v4, val_main_v5, val_main_v6, val_main_cst, val_main_v7, val_main_v8, val_main_v9, val_main_v10, val_main_v11, val_main_v12, val_main_v13, val_main_v14, val_main_v15, val_main_v16, val_main_v17, val_main_cst_0, val_main_v18, val_main_v19]
  blk_point [iblk, V, idx t]

open Cert.MixRefIdeal.Read in
theorem final4 (c : Dev nD) : (dats m 0 c).arrAt 4 cfg0.N
    = val_main_v17 (F := Ideal) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 8 = 0
  · rw [outsAt0_A m c t h (by omega) h (by omega)]; frame_out; exact point4 m c t y
  · rw [outsAt0_B m c t h (by omega) h (by omega)]; frame_out; exact point4 m c t y

open Cert.MixRefIdeal.Read in
theorem final5 (c : Dev nD) : (dats m 0 c).arrAt 5 cfg0.N
    = val_main_v16 (F := Ideal) (m ((c : Thread nD τ).loc main_arg0)) (m ((c : Thread nD τ).loc main_arg2)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2.1) 8 (fun _ => 0) _
    (fun t h j => by rw [outsAt0_A m c t h (by omega) h (by omega)]; frame_out; rw [map_first])
    (fun t h j => by rw [outsAt0_B m c t h (by omega) h (by omega)]; frame_out; rw [map_next])
    t ((flush0_5 t).mp hf) _, zero_add]
  pointwise [val_main_v0, val_main_v1, val_main_v2, val_main_v3, val_main_v4, val_main_v5, val_main_v6, val_main_cst, val_main_v7, val_main_v8, val_main_v9, val_main_v10, val_main_v11, val_main_v12, val_main_v13, val_main_v14, val_main_v15, val_main_v16, val_main_v17, val_main_cst_0, val_main_v18, val_main_v19]
  refine Fin.sum_mul_add_congr fun s k hl => ?_
  rw [mul_comm]
  blk_point [iblk, V, idx t, idx ⟨_, Pipeline.run_point_lt_of_flush t ((flush0_5 t).mp hf) s⟩]

open Cert.MixRefIdeal.Read in
theorem final6 (c : Dev nD) : (dats m 0 c).arrAt 6 cfg0.N
    = val_main_v19 (F := Ideal) (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0) _
    (fun t h j => by rw [outsAt0_A m c t h (by omega) h (by omega)]; frame_out; rw [scale_first])
    (fun t h j => by rw [outsAt0_B m c t h (by omega) h (by omega)]; frame_out; rw [scale_next])
    t ((flush0_6 t).mp hf) _, zero_add]
  pointwise [val_main_v0, val_main_v1, val_main_v2, val_main_v3, val_main_v4, val_main_v5, val_main_v6, val_main_cst, val_main_v7, val_main_v8, val_main_v9, val_main_v10, val_main_v11, val_main_v12, val_main_v13, val_main_v14, val_main_v15, val_main_v16, val_main_v17, val_main_cst_0, val_main_v18, val_main_v19]
  blk_simp [idx t]
  by_cases hy : (y 0 : ℕ) < 1
  · simp only [if_pos hy, dif_pos hy, zero_add]
    refine Fin.sum_mul_add_congr fun s k hl => ?_
    rw [Finset.sum_congr rfl fun l _ => mul_comm _ _]
    blk_point [iblk, V, idx t, idx ⟨_, Pipeline.run_point_lt_of_flush t ((flush0_6 t).mp hf) s⟩]
  · simp only [if_neg hy, dif_neg hy, Finset.sum_const_zero]

end Cert.MixIdeal.Grad
-- ==== Proof.Rms.lean ====
/- The gradient of root-mean-square normalisation, over the extended reals: the closed form a kernel writes, and what reverse differentiation of `x * rsqrt (mean (x * x) + e)` gives; the two agree at reals. -/
module

public import proofs.«01_k».proof.Proof.Real

@[expose] public section

set_option maxRecDepth 16384

noncomputable section

open Idealize.ShloMosaic Idealize.ShloMosaic.TcCoe Idealize.SL.Sem
open Idealize.ShloMosaic.Pipeline (Dat)

namespace Cert.Rms
open Cert.Reals

/-- The mean of squares plus the small constant, and its inverse root. -/
def ms {n : ℕ} (N E : EReal) (x : Fin n → EReal) : EReal := Ideal.div (∑ k, x k * x k) N + E
def rs {n : ℕ} (N E : EReal) (x : Fin n → EReal) : EReal := Ideal.rsqrt (ms N E x)

/-- The closed form: `a` is the gradient at the normalised value, `d` what reaches `x` beside the norm. -/
def closed {n : ℕ} (N E : EReal) (x a : Fin n → EReal) (d : EReal) (i : Fin n) : EReal :=
  d + rs N E x * (a i - x i * rs N E x * Ideal.div (∑ k, a k * (x k * rs N E x)) N)

/-- The gradient reaching the mean of squares, halved. -/
def back {n : ℕ} (N E H : EReal) (x a : Fin n → EReal) : EReal :=
  Ideal.div ((∑ k, x k * a k) * (H * Ideal.div (rs N E x) (ms N E x))) N

/-- The two uses of `x` in its square, differentiated one at a time. -/
def reverse {n : ℕ} (N E H : EReal) (x a : Fin n → EReal) (d : EReal) (i : Fin n) : EReal :=
  d + a i * rs N E x + x i * (∑ _k : Fin 1, back N E H x a) + (∑ _k : Fin 1, back N E H x a) * x i

theorem rs_real {n : ℕ} {N E : EReal} {x : Fin n → EReal} (hN : ∃ r : ℝ, 0 < r ∧ N = r) (hE : ∃ r : ℝ, 0 < r ∧ E = r) (X : Fin n → ℝ) (hx : ∀ k, x k = X k) :
    ∃ M : ℝ, 0 < M ∧ ms N E x = M ∧ rs N E x = (((Real.sqrt M)⁻¹ : ℝ) : EReal) := by
  obtain ⟨r, hr, rfl⟩ := hN
  obtain ⟨e, he, rfl⟩ := hE
  have hM : 0 < (∑ k, X k * X k) * (1 / r) + e := by
    have : 0 ≤ ∑ k, X k * X k := Finset.sum_nonneg fun k _ => mul_self_nonneg _
    positivity
  have h : ms (r : EReal) (e : EReal) x = (((∑ k, X k * X k) * (1 / r) + e : ℝ) : EReal) := by
    unfold ms
    rw [Ideal.div_coe hr.ne']
    simp only [hx, ← EReal.coe_mul, coe_sum, ← EReal.coe_add]
  refine ⟨_, hM, h, ?_⟩
  unfold rs
  rw [h, Ideal.rsqrt_coe, if_neg (not_lt.2 hM.le), if_neg hM.ne']

theorem closed_eq_reverse {n : ℕ} {N E H : EReal} (hN : ∃ r : ℝ, 0 < r ∧ N = r) (hE : ∃ r : ℝ, 0 < r ∧ E = r) (hH : H = ((-(1 / 2) : ℝ) : EReal))
    {x a : Fin n → EReal} (hx : ∀ k, Real1 (x k)) (ha : ∀ k, Real1 (a k)) (d : EReal) (i : Fin n) :
    closed N E x a d i = reverse N E H x a d i := by
  choose X hX using hx
  choose A hA using ha
  obtain ⟨M, hM, h1, h2⟩ := rs_real hN hE X hX
  obtain ⟨r, hr, rfl⟩ := hN
  unfold closed reverse back
  rw [Fin.sum_univ_one, h1, h2, hH, Ideal.div_coe hr.ne', Ideal.div_coe hr.ne', Ideal.div_coe hM.ne']
  have hs : (Real.sqrt M)⁻¹ * (Real.sqrt M)⁻¹ = 1 / M := by
    rw [← mul_inv, Real.mul_self_sqrt hM.le, one_div]
  generalize (Real.sqrt M)⁻¹ = s at hs
  simp only [hX, hA, ← EReal.coe_mul, coe_sum, ← EReal.coe_add, ← EReal.coe_sub]
  rw [add_assoc, add_assoc, ← EReal.coe_add, ← EReal.coe_add]
  congr 2
  have e1 : ∑ k, A k * (X k * s) = (∑ k, X k * A k) * s := by
    rw [Finset.sum_mul]; exact Finset.sum_congr rfl fun k _ => by ring
  rw [e1, ← hs]
  ring

/-- The words the programs hold. -/
theorem n2048 : ∃ r : ℝ, 0 < r ∧ Ideal.ofBits .f32 1157627904#32 = r := ⟨2048, by norm_num, by simp [Ideal.ofBits, Ideal.ieee]; rw [← EReal.coe_mul]; norm_num⟩
theorem eps : ∃ r : ℝ, 0 < r ∧ Ideal.ofBits .f32 897988541#32 = r := by
  refine ⟨_, ?_, by simp only [Ideal.ofBits, Ideal.ieee]; simp; rfl⟩
  norm_num
theorem half : Ideal.ofBits .f32 3204448256#32 = ((-(1 / 2) : ℝ) : EReal) := by simp [Ideal.ofBits, Ideal.ieee]; rw [← EReal.coe_mul]; norm_num

end Cert.Rms
-- ==== Proof.Norm1.lean ====
/- The gradients of the first norm and modulation: the row blocks of the input's gradient, and the rows accumulated over them. -/
module

public import proofs.«01_k».proof.Proof.Gen.Norm1Ideal.Frame
public import proofs.«01_k».proof.Proof.Gen.Norm1RefIdeal.Read
public import proofs.«01_k».proof.Proof.Gen.Pre_norm1_finite
public import proofs.«01_k».proof.Proof.Rms
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Norm1Ideal.Grad
open Cert.Reals Cert.Norm1Ideal Cert.Norm1Ideal.Gen

variable (m : (ℓ : Loc nD τ sig) → Buf (Elt Ideal) ℓ)

theorem finite (hpre : ∀ c : Dev nD, Cert.Pre_norm1_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5))
      = (fun _ => 1#1)) (c : Dev nD) :
    (∃ r : S8192x2048.Idx → ℝ, m ((c : Thread nD τ).loc main_arg0) = fun i => (r i : EReal))
    ∧ (∃ r : S1x2048.Idx → ℝ, m ((c : Thread nD τ).loc main_arg1) = fun i => (r i : EReal))
    ∧ (∃ r : S1x2048.Idx → ℝ, m ((c : Thread nD τ).loc main_arg3) = fun i => (r i : EReal))
    ∧ ∃ r : S8192x2048.Idx → ℝ, m ((c : Thread nD τ).loc main_arg5) = fun i => (r i : EReal) := by
  have h := congrFun (hpre c) (fun i => i.elim0)
  obtain ⟨h012, h3⟩ := IntOp.andi_eq_one.1 h
  obtain ⟨h01, h2⟩ := IntOp.andi_eq_one.1 h012
  obtain ⟨h0, h1⟩ := IntOp.andi_eq_one.1 h01
  exact ⟨of_all_lt _ _ h0, of_all_lt _ _ h1, of_all_lt _ _ h2, of_all_lt _ _ h3⟩

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] :=
  (by decide +kernel : ∀ t : Fin grid0.N, _)

/-- The rows of the parameters' gradients at one block of rows, added to what the blocks before left. -/
theorem rows_next (acc : Vec Ideal S8x2048 .f32) (v33 v38 : FVec Ideal S1x2048 .f32) (v39 : FVec Ideal S256x2048 .f32) (j : S8x2048.Idx) :
    k0_pay2 v33 v38 v39 acc j = acc j + k0_pay1 v33 v38 v39 j := by
  pointwise [k0_pay2]

/-- The arguments, as arrays of extended reals. -/
abbrev ax (c : Dev nD) : FVec Ideal S8192x2048 .f32 := m ((c : Thread nD τ).loc main_arg0)
abbrev ag (c : Dev nD) : FVec Ideal S1x2048 .f32 := m ((c : Thread nD τ).loc main_arg1)
abbrev asc (c : Dev nD) : FVec Ideal S1x2048 .f32 := m ((c : Thread nD τ).loc main_arg3)
abbrev adr (c : Dev nD) : FVec Ideal S8192x2048 .f32 := m ((c : Thread nD τ).loc main_arg4)
abbrev adh (c : Dev nD) : FVec Ideal S8192x2048 .f32 := m ((c : Thread nD τ).loc main_arg5)

/-- The words of the mean's length and of the small constant. -/
abbrev N : EReal := Ideal.ofBits .f32 1157627904#32
abbrev E : EReal := Ideal.ofBits .f32 897988541#32

/-- The rows of the parameters' gradients over one block of rows: the shift's, the scale's, the gain's, and zeros. -/
theorem rows_at (x dh : Vec Ideal S256x2048 .f32) (g sc : Vec Ideal S1x2048 .f32) (j : S8x2048.Idx) :
    k0_pay1 (k0_pay7 dh) (k0_pay8 x dh g) (k0_pay9 x dh sc) j
      = if (j 0 : ℕ) < 1 then ∑ s : Fin 256, dh (ix2 s (j 1))
        else if (j 0 : ℕ) - 1 < 1 then ∑ s : Fin 256, dh (ix2 s (j 1)) * (x (ix2 s (j 1)) * Rms.rs N E (fun k => x (ix2 s k)) * g (ix2 0 (j 1)))
        else if (j 0 : ℕ) - 1 - 1 < 1 then ∑ s : Fin 256, dh (ix2 s (j 1)) * ((1 : EReal) + sc (ix2 0 (j 1))) * (x (ix2 s (j 1)) * Rms.rs N E (fun k => x (ix2 s k)))
        else (0 : EReal) := by
  pointwise [k0_pay1, k0_pay3, k0_pay4, k0_pay5, k0_pay7, k0_pay8, k0_pay9, Rms.rs, Rms.ms]
  rfl

/-- The reference's rows. -/
theorem ref_rows (X DH : FVec Ideal S8192x2048 .f32) (G SC : FVec Ideal S1x2048 .f32) (j : S8x2048.Idx) :
    Cert.Norm1RefIdeal.Read.val_main_v50 (F := Ideal) X G SC DH j
      = if (j 0 : ℕ) < 1 then ∑ s : Fin 8192, DH (ix2 s (j 1))
        else if (j 0 : ℕ) - 1 < 1 then ∑ s : Fin 8192, DH (ix2 s (j 1)) * (X (ix2 s (j 1)) * Rms.rs N E (fun k => X (ix2 s k)) * G (ix2 0 (j 1)))
        else if (j 0 : ℕ) - 1 - 1 < 1 then ∑ s : Fin 8192, DH (ix2 s (j 1)) * ((1 : EReal) + SC (ix2 0 (j 1))) * (X (ix2 s (j 1)) * Rms.rs N E (fun k => X (ix2 s k)))
        else (0 : EReal) := by
  pointwise [Cert.Norm1RefIdeal.Read.val_main_v0, Cert.Norm1RefIdeal.Read.val_main_cst, Cert.Norm1RefIdeal.Read.val_main_v1, Cert.Norm1RefIdeal.Read.val_main_v2, Cert.Norm1RefIdeal.Read.val_main_cst_0, Cert.Norm1RefIdeal.Read.val_main_v3, Cert.Norm1RefIdeal.Read.val_main_v4, Cert.Norm1RefIdeal.Read.val_main_cst_1, Cert.Norm1RefIdeal.Read.val_main_v5, Cert.Norm1RefIdeal.Read.val_main_v6, Cert.Norm1RefIdeal.Read.val_main_v7, Cert.Norm1RefIdeal.Read.val_main_v8, Cert.Norm1RefIdeal.Read.val_main_cst_2, Cert.Norm1RefIdeal.Read.val_main_v9, Cert.Norm1RefIdeal.Read.val_main_v10, Cert.Norm1RefIdeal.Read.val_main_v11, Cert.Norm1RefIdeal.Read.val_main_v12, Cert.Norm1RefIdeal.Read.val_main_v13, Cert.Norm1RefIdeal.Read.val_main_v14, Cert.Norm1RefIdeal.Read.val_main_cst_3, Cert.Norm1RefIdeal.Read.val_main_v15, Cert.Norm1RefIdeal.Read.val_main_v16, Cert.Norm1RefIdeal.Read.val_main_v17, Cert.Norm1RefIdeal.Read.val_main_v18, Cert.Norm1RefIdeal.Read.val_main_v19, Cert.Norm1RefIdeal.Read.val_main_v20, Cert.Norm1RefIdeal.Read.val_main_v21, Cert.Norm1RefIdeal.Read.val_main_cst_4, Cert.Norm1RefIdeal.Read.val_main_v22, Cert.Norm1RefIdeal.Read.val_main_v23, Cert.Norm1RefIdeal.Read.val_main_v24, Cert.Norm1RefIdeal.Read.val_main_cst_5, Cert.Norm1RefIdeal.Read.val_main_v25, Cert.Norm1RefIdeal.Read.val_main_v26, Cert.Norm1RefIdeal.Read.val_main_v27, Cert.Norm1RefIdeal.Read.val_main_v28, Cert.Norm1RefIdeal.Read.val_main_v29, Cert.Norm1RefIdeal.Read.val_main_cst_6, Cert.Norm1RefIdeal.Read.val_main_v30, Cert.Norm1RefIdeal.Read.val_main_v31, Cert.Norm1RefIdeal.Read.val_main_v32, Cert.Norm1RefIdeal.Read.val_main_v33, Cert.Norm1RefIdeal.Read.val_main_v34, Cert.Norm1RefIdeal.Read.val_main_cst_7, Cert.Norm1RefIdeal.Read.val_main_v35, Cert.Norm1RefIdeal.Read.val_main_v36, Cert.Norm1RefIdeal.Read.val_main_v37, Cert.Norm1RefIdeal.Read.val_main_v38, Cert.Norm1RefIdeal.Read.val_main_v39, Cert.Norm1RefIdeal.Read.val_main_v40, Cert.Norm1RefIdeal.Read.val_main_cst_8, Cert.Norm1RefIdeal.Read.val_main_v41, Cert.Norm1RefIdeal.Read.val_main_v42, Cert.Norm1RefIdeal.Read.val_main_cst_9, Cert.Norm1RefIdeal.Read.val_main_v43, Cert.Norm1RefIdeal.Read.val_main_v44, Cert.Norm1RefIdeal.Read.val_main_v45, Cert.Norm1RefIdeal.Read.val_main_v46, Cert.Norm1RefIdeal.Read.val_main_v47, Cert.Norm1RefIdeal.Read.val_main_v48, Cert.Norm1RefIdeal.Read.val_main_cst_10, Cert.Norm1RefIdeal.Read.val_main_v49, Cert.Norm1RefIdeal.Read.val_main_v50, Rms.rs, Rms.ms]
  split
  · rfl
  split
  · exact Finset.sum_congr rfl fun _ _ => mul_comm _ _
  split
  · exact Finset.sum_congr rfl fun _ _ => mul_comm _ _
  · rfl

open Cert.Norm1RefIdeal.Read in
theorem point5 (c : Dev nD) (t : Fin cfg0.N) (y) (h0 : ∃ r : S8192x2048.Idx → ℝ, ax m c = fun i => (r i : EReal))
    (h1 : ∃ r : S1x2048.Idx → ℝ, ag m c = fun i => (r i : EReal)) (h3 : ∃ r : S1x2048.Idx → ℝ, asc m c = fun i => (r i : EReal))
    (h5 : ∃ r : S8192x2048.Idx → ℝ, adh m c = fun i => (r i : EReal)) :
    k0_pay6 (iblk m c 1 t) (iblk m c 0 t) (iblk m c 3 t) (iblk m c 4 t) (iblk m c 2 t) y
    = val_main_v48 (F := Ideal) (ax m c) (ag m c) (asc m c) (adr m c) (adh m c) (((cfg0.win 5).blk t).view.emb y) := by
  generalize hj : ((cfg0.win 5).blk t).view.emb y = j
  refine Eq.trans ?_ ((Rms.closed_eq_reverse (N := Ideal.ofBits .f32 1157627904#32) (E := Ideal.ofBits .f32 897988541#32) Rms.n2048 Rms.eps Rms.half
    (x := fun k => ax m c (ix2 (j 0) k)) (a := fun k => adh m c (ix2 (j 0) k) * ((1 : EReal) + asc m c (ix2 0 k)) * ag m c (ix2 0 k))
    (fun k => real_at h0 _) (fun k => real_mul (real_mul (real_at h5 _) (real_add ⟨1, rfl⟩ (real_at h3 _))) (real_at h1 _))
    (adr m c j) (j 1)).trans ?_)
  · subst hj
    pointwise [k0_pay6, k0_pay5, k0_pay4, k0_pay3, Rms.closed, Rms.rs, Rms.ms]
    blk_point [iblk, V, idx t]
  · pointwise [Rms.reverse, Rms.back, Rms.rs, Rms.ms, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_cst_4, val_main_v22, val_main_v23, val_main_v24, val_main_cst_5, val_main_v25, val_main_v26, val_main_v27, val_main_v28, val_main_v29, val_main_cst_6, val_main_v30, val_main_v31, val_main_v32, val_main_v33, val_main_v34, val_main_cst_7, val_main_v35, val_main_v36, val_main_v37, val_main_v38, val_main_v39, val_main_v40, val_main_cst_8, val_main_v41, val_main_v42, val_main_cst_9, val_main_v43, val_main_v44, val_main_v45, val_main_v46, val_main_v47, val_main_v48, val_main_cst_10, val_main_v49, val_main_v50]

open Cert.Norm1RefIdeal.Read in
theorem final5 (c : Dev nD) (h0 : ∃ r : S8192x2048.Idx → ℝ, ax m c = fun i => (r i : EReal))
    (h1 : ∃ r : S1x2048.Idx → ℝ, ag m c = fun i => (r i : EReal)) (h3 : ∃ r : S1x2048.Idx → ℝ, asc m c = fun i => (r i : EReal))
    (h5 : ∃ r : S8192x2048.Idx → ℝ, adh m c = fun i => (r i : EReal)) :
    (dats m 0 c).arrAt 5 cfg0.N = val_main_v48 (F := Ideal) (ax m c) (ag m c) (asc m c) (adr m c) (adh m c) := by
  refine (dats m 0 c).arrAt_eq_of_covers 5 _ (by decide +kernel) fun t _ y => ?_
  blk_simp
  rw [after0_5]
  by_cases h : t.val % 32 = 0
  · rw [outsAt0_A m c t h (by have := lt_of_lt_of_eq t.isLt N_0; omega)]; frame_out; exact point5 m c t y h0 h1 h3 h5
  · rw [outsAt0_B m c t h (by omega)]; frame_out; exact point5 m c t y h0 h1 h3 h5

open Cert.Norm1RefIdeal.Read in
theorem final6 (c : Dev nD) : (dats m 0 c).arrAt 6 cfg0.N = val_main_v50 (F := Ideal) (ax m c) (ag m c) (asc m c) (adh m c) := by
  refine (dats m 0 c).arrAt_eq_of_covers 6 _ (by decide +kernel) fun t hf y => ?_
  blk_simp
  rw [after0_6, Pipeline.eq_sum_fin_of_reset_step_apply_of_flush (fun n h => (outsAt0 m c n h).2) 32 (fun _ => 0) _
    (fun t h j => by rw [outsAt0_A m c t h (by have := lt_of_lt_of_eq t.isLt N_0; omega)]; frame_out; rw [zero_add])
    (fun t h j => by rw [outsAt0_B m c t h (by omega)]; frame_out; rw [rows_next])
    t ((flush0_6 t).mp hf) _, zero_add]
  have ht : t.val / 32 = 0 := by have := lt_of_lt_of_eq t.isLt N_0; omega
  rw [ref_rows]
  refine (Fin.sum_fin_congr fun s => rows_at _ _ _ _ _).trans ?_
  have e : (((cfg0.win 6).blk t).view.emb y) = y := by blk_ext [idx t]
  rw [e]
  by_cases hy : (y 0 : ℕ) < 1
  · simp only [if_pos hy]
    refine Fin.sum_mul_add_congr fun s k hl => ?_
    blk_point [iblk, V, idx ⟨_, Pipeline.run_point_lt_of_flush t ((flush0_6 t).mp hf) s⟩]
  by_cases hy1 : (y 0 : ℕ) - 1 < 1
  · simp only [if_neg hy, if_pos hy1]
    refine Fin.sum_mul_add_congr fun s k hl => ?_
    pointwise [Rms.rs, Rms.ms]
    blk_point [iblk, V, idx ⟨_, Pipeline.run_point_lt_of_flush t ((flush0_6 t).mp hf) s⟩]
  by_cases hy2 : (y 0 : ℕ) - 1 - 1 < 1
  · simp only [if_neg hy, if_neg hy1, if_pos hy2]
    refine Fin.sum_mul_add_congr fun s k hl => ?_
    pointwise [Rms.rs, Rms.ms]
    blk_point [iblk, V, idx ⟨_, Pipeline.run_point_lt_of_flush t ((flush0_6 t).mp hf) s⟩]
  · simp only [if_neg hy, if_neg hy1, if_neg hy2, Finset.sum_const_zero]

end Cert.Norm1Ideal.Grad
-- ==== Proof.Norm.lean ====
/- The gradients of a gated residual with the norm and modulation that follow it: the row blocks of the two inputs' gradients, and the rows accumulated over them. -/
module

public import proofs.«01_k».proof.Proof.Gen.NormIdeal.Frame
public import proofs.«01_k».proof.Proof.Gen.NormRefIdeal.Read
public import proofs.«01_k».proof.Proof.Gen.Pre_norm_finite
public import proofs.«01_k».proof.Proof.Rms
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Grad
open Cert.Reals Cert.NormIdeal Cert.NormIdeal.Gen

variable (m : (ℓ : Loc nD τ sig) → Buf (Elt Ideal) ℓ)

/-- The arguments, as arrays of extended reals. -/
abbrev ax (c : Dev nD) : FVec Ideal S8192x2048 .f32 := m ((c : Thread nD τ).loc main_arg0)
abbrev afo (c : Dev nD) : FVec Ideal S8192x2048 .f32 := m ((c : Thread nD τ).loc main_arg1)
abbrev aco (c : Dev nD) : FVec Ideal S1x2048 .f32 := m ((c : Thread nD τ).loc main_arg2)
abbrev ag (c : Dev nD) : FVec Ideal S1x2048 .f32 := m ((c : Thread nD τ).loc main_arg3)
abbrev asc (c : Dev nD) : FVec Ideal S1x2048 .f32 := m ((c : Thread nD τ).loc main_arg5)
abbrev adr (c : Dev nD) : FVec Ideal S8192x2048 .f32 := m ((c : Thread nD τ).loc main_arg6)
abbrev adh (c : Dev nD) : FVec Ideal S8192x2048 .f32 := m ((c : Thread nD τ).loc main_arg7)

/-- The arrays the formulas divide by or distribute over hold reals. -/
structure Fin' (c : Dev nD) : Prop where
  x : ∃ r : S8192x2048.Idx → ℝ, ax m c = fun i => (r i : EReal)
  fo : ∃ r : S8192x2048.Idx → ℝ, afo m c = fun i => (r i : EReal)
  co : ∃ r : S1x2048.Idx → ℝ, aco m c = fun i => (r i : EReal)
  g : ∃ r : S1x2048.Idx → ℝ, ag m c = fun i => (r i : EReal)
  sc : ∃ r : S1x2048.Idx → ℝ, asc m c = fun i => (r i : EReal)
  dh : ∃ r : S8192x2048.Idx → ℝ, adh m c = fun i => (r i : EReal)

theorem finite (hpre : ∀ c : Dev nD, Cert.Pre_norm_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) = (fun _ => 1#1)) (c : Dev nD) : Fin' m c := by
  have h := congrFun (hpre c) (fun i => i.elim0)
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨of_all_lt _ _ h0, of_all_lt _ _ h1, of_all_lt _ _ h2, of_all_lt _ _ h3, of_all_lt _ _ h4, of_all_lt _ _ h5⟩

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![t.val, 0] ∧ win0_8.index t = ![t.val, 0] ∧ win0_9.index t = ![0, 0] :=
  (by decide +kernel : ∀ t : Fin grid0.N, _)

/-- The gated residual, which the host computes for the kernel. -/
def resid (c : Dev nD) : FVec Ideal S8192x2048 .f32 := fun i => ax m c i + aco m c (ix2 0 (i 1)) * afo m c i

theorem resid_real (c : Dev nD) (hf : Fin' m c) (i) : Real1 (resid m c i) := real_add (real_at hf.x _) (real_mul (real_at hf.co _) (real_at hf.fo _))

theorem read_resid (c : Dev nD) (t : Fin cfg0.N) (i) : (iblk m c 1 t) i = resid m c (((cfg0.win 1).blk t).view.emb i) := by
  have h : ∀ j, V m c main_v2 j = resid m c j := fun j => by entry_read; pointwise [resid]
  exact h _

theorem read_fo (c : Dev nD) (t : Fin cfg0.N) (i) : (iblk m c 5 t) i = afo m c (((cfg0.win 5).blk t).view.emb i) := by
  have h : ∀ j, V m c main_v3 j = afo m c j := fun j => by entry_read; pointwise
  exact h _

/-- The words of the mean's length and of the small constant. -/
abbrev N : EReal := Ideal.ofBits .f32 1157627904#32
abbrev E : EReal := Ideal.ofBits .f32 897988541#32

/-- The residual's gradient in closed form, at a row and a column. -/
def dresid (c : Dev nD) (i : S8192x2048.Idx) : EReal :=
  Rms.closed N E (fun k => resid m c (ix2 (i 0) k)) (fun k => adh m c (ix2 (i 0) k) * ((1 : EReal) + asc m c (ix2 0 k)) * ag m c (ix2 0 k)) (adr m c i) (i 1)

theorem dresid_kernel (c : Dev nD) (t : Fin cfg0.N) (y : S256x2048.Idx) :
    k0_pay8 (iblk m c 1 t) (iblk m c 0 t) (iblk m c 3 t) (iblk m c 4 t) (iblk m c 2 t) y = dresid m c (((cfg0.win 7).blk t).view.emb y) := by
  pointwise [k0_pay8, k0_pay7, k0_pay6, k0_pay5, k0_pay4, dresid, Rms.closed, Rms.rs, Rms.ms]
  simp only [read_resid]
  blk_point [iblk, V, idx t]

open Cert.NormRefIdeal.Read in
theorem dresid_ref (c : Dev nD) (hf : Fin' m c) (j : S8192x2048.Idx) :
    val_main_v51 (F := Ideal) (ax m c) (afo m c) (aco m c) (ag m c) (asc m c) (adr m c) (adh m c) j = dresid m c j := by
  refine Eq.trans ?_ (Rms.closed_eq_reverse Rms.n2048 Rms.eps Rms.half
    (x := fun k => resid m c (ix2 (j 0) k)) (a := fun k => adh m c (ix2 (j 0) k) * ((1 : EReal) + asc m c (ix2 0 k)) * ag m c (ix2 0 k)) (fun k => resid_real m c hf _)
    (fun k => real_mul (real_mul (real_at hf.dh _) (real_add ⟨1, rfl⟩ (real_at hf.sc _))) (real_at hf.g _)) _ _).symm
  pointwise [Rms.reverse, Rms.back, Rms.rs, Rms.ms, resid, val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_cst_3, val_main_v18, val_main_v19, val_main_v20, val_main_v21, val_main_v22, val_main_v23, val_main_v24, val_main_cst_4, val_main_v25, val_main_v26, val_main_v27, val_main_cst_5, val_main_v28, val_main_v29, val_main_v30, val_main_v31, val_main_v32, val_main_cst_6, val_main_v33, val_main_v34, val_main_v35, val_main_v36, val_main_v37, val_main_cst_7, val_main_v38, val_main_v39, val_main_v40, val_main_v41, val_main_v42, val_main_v43, val_main_cst_8, val_main_v44, val_main_v45, val_main_cst_9, val_main_v46, val_main_v47, val_main_v48, val_main_v49, val_main_v50, val_main_v51, val_main_v52, val_main_v53, val_main_v54, val_main_v55, val_main_cst_10, val_main_v56, val_main_v57, val_main_v58, val_main_cst_11, val_main_v59, val_main_v60]

/-- The rows of the parameters' gradients over one block of rows: the shift's, the scale's, the gain's, the gate's, and zeros. -/
theorem rows_at (u : FVec Ideal S256x2048 .f32) (x dh : Vec Ideal S256x2048 .f32) (g sc : Vec Ideal S1x2048 .f32) (f : Vec Ideal S256x2048 .bf16) (j : S8x2048.Idx) :
    k0_pay2 u (k0_pay9 dh) (k0_pay10 x dh g) (k0_pay11 x dh sc) f j
      = if (j 0 : ℕ) < 1 then ∑ s : Fin 256, dh (ix2 s (j 1))
        else if (j 0 : ℕ) - 1 < 1 then ∑ s : Fin 256, dh (ix2 s (j 1)) * (x (ix2 s (j 1)) * Rms.rs N E (fun k => x (ix2 s k)) * g (ix2 0 (j 1)))
        else if (j 0 : ℕ) - 1 - 1 < 1 then ∑ s : Fin 256, dh (ix2 s (j 1)) * ((1 : EReal) + sc (ix2 0 (j 1))) * (x (ix2 s (j 1)) * Rms.rs N E (fun k => x (ix2 s k)))
        else if (j 0 : ℕ) - 1 - 1 - 1 < 1 then ∑ s : Fin 256, u (ix2 s (j 1)) * f (ix2 s (j 1))
        else (0 : EReal) := by
  pointwise [k0_pay2, k0_pay4, k0_pay5, k0_pay6, k0_pay7, k0_pay9, k0_pay10, k0_pay11, Rms.rs, Rms.ms]
  rfl

theorem rows_next (acc : Vec Ideal S8x2048 .f32) (u : FVec Ideal S256x2048 .f32) (v34 v39 : FVec Ideal S1x2048 .f32) (v40 : FVec Ideal S256x2048 .f32) (f : Vec Ideal S256x2048 .bf16)
    (j : S8x2048.Idx) : k0_pay3 u v34 v39 v40 f acc j = acc j + k0_pay2 u v34 v39 v40 f j := by
  pointwise [k0_pay3]

/-- The reference's rows. -/
theorem ref_rows (c : Dev nD) (hf : Fin' m c) (j : S8x2048.Idx) :
    Cert.NormRefIdeal.Read.val_main_v60 (F := Ideal) (ax m c) (afo m c) (aco m c) (ag m c) (asc m c) (adr m c) (adh m c) j
      = if (j 0 : ℕ) < 1 then ∑ s : Fin 8192, adh m c (ix2 s (j 1))
        else if (j 0 : ℕ) - 1 < 1 then ∑ s : Fin 8192, adh m c (ix2 s (j 1)) * (resid m c (ix2 s (j 1)) * Rms.rs N E (fun k => resid m c (ix2 s k)) * ag m c (ix2 0 (j 1)))
        else if (j 0 : ℕ) - 1 - 1 < 1 then ∑ s : Fin 8192, adh m c (ix2 s (j 1)) * ((1 : EReal) + asc m c (ix2 0 (j 1))) * (resid m c (ix2 s (j 1)) * Rms.rs N E (fun k => resid m c (ix2 s k)))
        else if (j 0 : ℕ) - 1 - 1 - 1 < 1 then ∑ s : Fin 8192, dresid m c (ix2 s (j 1)) * afo m c (ix2 s (j 1))
        else (0 : EReal) := by
  pointwise [Cert.NormRefIdeal.Read.val_main_v25, Cert.NormRefIdeal.Read.val_main_v26, Cert.NormRefIdeal.Read.val_main_v28, Cert.NormRefIdeal.Read.val_main_v29, Cert.NormRefIdeal.Read.val_main_v33, Cert.NormRefIdeal.Read.val_main_v34, Cert.NormRefIdeal.Read.val_main_v27, Cert.NormRefIdeal.Read.val_main_v32, Cert.NormRefIdeal.Read.val_main_v31, Cert.NormRefIdeal.Read.val_main_v24, Cert.NormRefIdeal.Read.val_main_v52, Cert.NormRefIdeal.Read.val_main_v54, Cert.NormRefIdeal.Read.val_main_v55, Cert.NormRefIdeal.Read.val_main_v56, Cert.NormRefIdeal.Read.val_main_v57, Cert.NormRefIdeal.Read.val_main_v59, Cert.NormRefIdeal.Read.val_main_v60, Cert.NormRefIdeal.Read.val_main_cst_10, Cert.NormRefIdeal.Read.val_main_cst_11, Cert.NormRefIdeal.Read.val_main_cst_4, Cert.NormRefIdeal.Read.val_main_cst_5, Cert.NormRefIdeal.Read.val_main_cst_6, Rms.rs, Rms.ms]
  split
  · rfl
  split
  · pointwise [Cert.NormRefIdeal.Read.val_main_v17, Cert.NormRefIdeal.Read.val_main_v15, Cert.NormRefIdeal.Read.val_main_v16, Cert.NormRefIdeal.Read.val_main_v14, Cert.NormRefIdeal.Read.val_main_v19, Cert.NormRefIdeal.Read.val_main_v20, Cert.NormRefIdeal.Read.val_main_v30, Cert.NormRefIdeal.Read.val_main_v18, Cert.NormRefIdeal.Read.val_main_cst_3, Cert.NormRefIdeal.Read.val_main_v0, Cert.NormRefIdeal.Read.val_main_v1, Cert.NormRefIdeal.Read.val_main_v2, Cert.NormRefIdeal.Read.val_main_v3, Cert.NormRefIdeal.Read.val_main_v4, Cert.NormRefIdeal.Read.val_main_v5, Cert.NormRefIdeal.Read.val_main_v6, Cert.NormRefIdeal.Read.val_main_v7, Cert.NormRefIdeal.Read.val_main_v8, Cert.NormRefIdeal.Read.val_main_v9, Cert.NormRefIdeal.Read.val_main_v10, Cert.NormRefIdeal.Read.val_main_cst, Cert.NormRefIdeal.Read.val_main_cst_0, Cert.NormRefIdeal.Read.val_main_cst_1, resid]; exact Finset.sum_congr rfl fun _ _ => mul_comm _ _
  split
  · pointwise [Cert.NormRefIdeal.Read.val_main_v17, Cert.NormRefIdeal.Read.val_main_v15, Cert.NormRefIdeal.Read.val_main_v16, Cert.NormRefIdeal.Read.val_main_v14, Cert.NormRefIdeal.Read.val_main_v19, Cert.NormRefIdeal.Read.val_main_v20, Cert.NormRefIdeal.Read.val_main_v30, Cert.NormRefIdeal.Read.val_main_v18, Cert.NormRefIdeal.Read.val_main_cst_3, Cert.NormRefIdeal.Read.val_main_v0, Cert.NormRefIdeal.Read.val_main_v1, Cert.NormRefIdeal.Read.val_main_v2, Cert.NormRefIdeal.Read.val_main_v3, Cert.NormRefIdeal.Read.val_main_v4, Cert.NormRefIdeal.Read.val_main_v5, Cert.NormRefIdeal.Read.val_main_v6, Cert.NormRefIdeal.Read.val_main_v7, Cert.NormRefIdeal.Read.val_main_v8, Cert.NormRefIdeal.Read.val_main_v9, Cert.NormRefIdeal.Read.val_main_v10, Cert.NormRefIdeal.Read.val_main_cst, Cert.NormRefIdeal.Read.val_main_cst_0, Cert.NormRefIdeal.Read.val_main_cst_1, resid]; exact Finset.sum_congr rfl fun _ _ => mul_comm _ _
  split
  · refine Finset.sum_congr rfl fun s _ => ?_
    rw [dresid_ref m c hf]
  · rfl

open Cert.NormRefIdeal.Read in
theorem point7 (c : Dev nD) (hf : Fin' m c) (t : Fin cfg0.N) (y) :
    k0_pay8 (iblk m c 1 t) (iblk m c 0 t) (iblk m c 3 t) (iblk m c 4 t) (iblk m c 2 t) y
    = val_main_v51 (F := Ideal) (ax m c) (afo m c) (aco m c) (ag m c) (asc m c) (adr m c) (adh m c) (((cfg0.win 7).blk t).view.emb y) := by
  rw [dresid_ref m c hf]
  exact dresid_kernel m c t y

open Cert.NormRefIdeal.Read in
theorem point8 (c : Dev nD) (hf : Fin' m c) (t : Fin cfg0.N) (y) :
    k0_pay1 (k0_pay8 (iblk m c 1 t) (iblk m c 0 t) (iblk m c 3 t) (iblk m c 4 t) (iblk m c 2 t)) (iblk m c 6 t) y
    = val_main_v58 (F := Ideal) (ax m c) (afo m c) (aco m c) (ag m c) (asc m c) (adr m c) (adh m c) (((cfg0.win 8).blk t).view.emb y) := by
  pointwise [k0_pay1, val_main_v58, val_main_v54, val_main_v53, val_main_v52]
  rw [dresid_ref m c hf, dresid_kernel m c t y, mul_comm]
  have e : (((cfg0.win 7).blk t).view.emb y : S8192x2048.Idx) = ((cfg0.win 8).blk t).view.emb y := by blk_ext [idx t]
  rw [e]
  blk_point [iblk, V, idx t]

theorem final7 (c : Dev nD) (hf : Fin' m c) : (dats m 0 c).arrAt 7 cfg0.N
    = Cert.NormRefIdeal.Read.val_main_v51 (F := Ideal) (ax m c) (afo m c) (aco m c) (ag m c) (asc m c) (adr m c) (adh m c) := by
  refine (dats m 0 c).arrAt_eq_of_covers 7 _ (by decide +kernel) fun t _ y => ?_
  blk_simp
  rw [after0_7]
  by_cases h : t.val % 32 = 0
  · rw [outsAt0_A m c t h (by have := lt_of_lt_of_eq t.isLt N_0; omega)]; frame_out; exact point7 m c hf t y
  · rw [outsAt0_B m c t h (by omega)]; frame_out; exact point7 m c hf t y

theorem final8 (c : Dev nD) (hf : Fin' m c) : (dats m 0 c).arrAt 8 cfg0.N
    = Cert.NormRefIdeal.Read.val_main_v58 (F := Ideal) (ax m c) (afo m c) (aco m c) (ag m c) (asc m c) (adr m c) (adh m c) := by
  refine (dats m 0 c).arrAt_eq_of_covers 8 _ (by decide +kernel) fun t _ y => ?_
  blk_simp
  rw [after0_8]
  by_cases h : t.val % 32 = 0
  · rw [outsAt0_A m c t h (by have := lt_of_lt_of_eq t.isLt N_0; omega)]; frame_out; exact point8 m c hf t y
  · rw [outsAt0_B m c t h (by omega)]; frame_out; exact point8 m c hf t y

theorem final9 (c : Dev nD) (hf : Fin' m c) : (dats m 0 c).arrAt 9 cfg0.N
    = Cert.NormRefIdeal.Read.val_main_v60 (F := Ideal) (ax m c) (afo m c) (aco m c) (ag m c) (asc m c) (adr m c) (adh m c) := by
  refine (dats m 0 c).arrAt_eq_of_covers 9 _ (by decide +kernel) fun t hf' y => ?_
  blk_simp
  rw [after0_9, Pipeline.eq_sum_fin_of_reset_step_apply_of_flush (fun n h => (outsAt0 m c n h).2.2) 32 (fun _ => 0) _
    (fun t h j => by rw [outsAt0_A m c t h (by have := lt_of_lt_of_eq t.isLt N_0; omega)]; frame_out; rw [zero_add])
    (fun t h j => by rw [outsAt0_B m c t h (by omega)]; frame_out; rw [rows_next])
    t ((flush0_9 t).mp hf') _, zero_add]
  have ht : t.val / 32 = 0 := by have := lt_of_lt_of_eq t.isLt N_0; omega
  have e : (((cfg0.win 9).blk t).view.emb y) = y := by blk_ext [idx t]
  rw [ref_rows m c hf, e]
  refine (Fin.sum_fin_congr fun s => rows_at _ _ _ _ _ _ _).trans ?_
  by_cases hy : (y 0 : ℕ) < 1
  · simp only [if_pos hy]
    refine Fin.sum_mul_add_congr fun s k hl => ?_
    blk_point [iblk, V, idx ⟨_, Pipeline.run_point_lt_of_flush t ((flush0_9 t).mp hf') s⟩]
  by_cases hy1 : (y 0 : ℕ) - 1 < 1
  · simp only [if_neg hy, if_pos hy1]
    refine Fin.sum_mul_add_congr fun s k hl => ?_
    pointwise [Rms.rs, Rms.ms]
    simp only [read_resid]
    blk_point [iblk, V, idx ⟨_, Pipeline.run_point_lt_of_flush t ((flush0_9 t).mp hf') s⟩]
  by_cases hy2 : (y 0 : ℕ) - 1 - 1 < 1
  · simp only [if_neg hy, if_neg hy1, if_pos hy2]
    refine Fin.sum_mul_add_congr fun s k hl => ?_
    pointwise [Rms.rs, Rms.ms]
    simp only [read_resid]
    blk_point [iblk, V, idx ⟨_, Pipeline.run_point_lt_of_flush t ((flush0_9 t).mp hf') s⟩]
  by_cases hy3 : (y 0 : ℕ) - 1 - 1 - 1 < 1
  · simp only [if_neg hy, if_neg hy1, if_neg hy2, if_pos hy3]
    refine Fin.sum_mul_add_congr fun s k hl => ?_
    rw [dresid_kernel, read_fo]
    blk_point [idx ⟨_, Pipeline.run_point_lt_of_flush t ((flush0_9 t).mp hf') s⟩]
  · simp only [if_neg hy, if_neg hy1, if_neg hy2, if_neg hy3, Finset.sum_const_zero]

end Cert.NormIdeal.Grad
-- ==== Proof.Loss.lean ====
/- The loss and the gradients of the last gated residual: the row blocks of the two inputs' gradients, the rows accumulated over them, and the host's last factors. -/
module

public import proofs.«01_k».proof.Proof.Gen.LossIdeal.Frame
public import proofs.«01_k».proof.Proof.Gen.LossRefIdeal.Read
public import proofs.«01_k».proof.Proof.Real
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossIdeal.Grad
open Cert.LossIdeal Cert.LossIdeal.Gen Cert.Reals

variable (m : (ℓ : Loc nD τ sig) → Buf (Elt Ideal) ℓ)

/-- The arguments, as arrays of extended reals. -/
abbrev ax (c : Dev nD) : FVec Ideal S8192x2048 .f32 := m ((c : Thread nD τ).loc main_arg0)
abbrev af (c : Dev nD) : FVec Ideal S8192x2048 .f32 := m ((c : Thread nD τ).loc main_arg1)
abbrev ag (c : Dev nD) : FVec Ideal S1x2048 .f32 := m ((c : Thread nD τ).loc main_arg2)
abbrev atg (c : Dev nD) : FVec Ideal S8192x2048 .f32 := m ((c : Thread nD τ).loc main_arg3)

/-- The words of a half, of two, of the row's length and of its inverse. -/
abbrev H : EReal := Ideal.ofBits .f32 1056964608#32
abbrev T : EReal := Ideal.ofBits .f32 1073741824#32
abbrev N : EReal := Ideal.ofBits .f32 1157627904#32
abbrev I : EReal := Ideal.ofBits .f32 973078528#32
abbrev I2 : EReal := Ideal.ofBits .f32 964689920#32

theorem eH : H = ((1 / 2 : ℝ) : EReal) := by simp [Ideal.ofBits, Ideal.ieee]; rw [← EReal.coe_mul]; norm_num
theorem eT : T = ((2 : ℝ) : EReal) := by simp [Ideal.ofBits, Ideal.ieee]; rw [← EReal.coe_mul]; norm_num
theorem eN : N = ((2048 : ℝ) : EReal) := by simp [Ideal.ofBits, Ideal.ieee]; rw [← EReal.coe_mul]; norm_num
theorem eI : I = ((1 / 2048 : ℝ) : EReal) := by simp [Ideal.ofBits, Ideal.ieee]; rw [← EReal.coe_mul]; norm_num
theorem eI2 : I2 = ((1 / 4096 : ℝ) : EReal) := by simp [Ideal.ofBits, Ideal.ieee]; rw [← EReal.coe_mul]; norm_num

/-- The factors of the squared error's derivative. -/
theorem factors : Ideal.div H N * T = I := by
  rw [eH, eT, eN, eI, Ideal.div_coe (by norm_num), ← EReal.coe_mul, ← EReal.coe_mul]; norm_num

/-- A positive factor goes through a sum of extended reals. -/
theorem sum_factor {n : ℕ} {r : ℝ} (hr : 0 < r) (f : Fin n → EReal) : ∑ k, f k * (r : EReal) = (∑ k, f k) * (r : EReal) := by
  induction n with
  | zero => simp
  | succ n ih => rw [Fin.sum_univ_succ, Fin.sum_univ_succ, ih, EReal.right_distrib_of_nonneg_of_ne_top (by exact_mod_cast hr.le) (EReal.coe_ne_top r)]

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- What the host prepares: the gate's half, the gated residual, the branch cast down. -/
def coef (c : Dev nD) : FVec Ideal S1x2048 .f32 := fun i => H * ag m c i
def out (c : Dev nD) : FVec Ideal S8192x2048 .f32 := fun i => ax m c i + coef m c (ix2 0 (i 1)) * af m c i
def err (c : Dev nD) : FVec Ideal S8192x2048 .f32 := fun i => out m c i - atg m c i

theorem read_out (c : Dev nD) (t : Fin cfg0.N) (i) : (iblk m c 0 t) i = out m c (((cfg0.win 0).blk t).view.emb i) := by
  have h : ∀ j, V m c main_v4 j = out m c j := fun j => by
    change StableHlo.after (List.flatten [hostOps0]) _ _ _ = _
    rw [List.flatten_cons, List.flatten_nil, List.append_nil]
    entry_read
    pointwise [out, coef]
  exact h _
theorem read_f (c : Dev nD) (t : Fin cfg0.N) (i) : (iblk m c 2 t) i = af m c (((cfg0.win 2).blk t).view.emb i) := by
  have h : ∀ j, V m c main_v5 j = af m c j := fun j => by
    change StableHlo.after (List.flatten [hostOps0]) _ _ _ = _
    rw [List.flatten_cons, List.flatten_nil, List.append_nil]
    entry_read
    pointwise
  exact h _
theorem read_coef (c : Dev nD) (t : Fin cfg0.N) (i) : (iblk m c 3 t) i = coef m c (((cfg0.win 3).blk t).view.emb i) := by
  have h : ∀ j, V m c main_v1 j = coef m c j := fun j => by
    change StableHlo.after (List.flatten [hostOps0]) _ _ _ = _
    rw [List.flatten_cons, List.flatten_nil, List.append_nil]
    entry_read
    pointwise [coef]
  exact h _

theorem err_kernel (c : Dev nD) (t : Fin cfg0.N) (y) : k0_pay1 (iblk m c 0 t) (iblk m c 1 t) y = err m c (((cfg0.win 4).blk t).view.emb y) := by
  pointwise [k0_pay1, err]
  rw [read_out]
  blk_point [iblk, V, idx t]

open Cert.LossRefIdeal.Read in
theorem dx_ref (c : Dev nD) (j : S8192x2048.Idx) :
    val_main_v19 (F := Ideal) (ax m c) (af m c) (ag m c) (atg m c) j = err m c j * I := by
  rw [mul_comm, ← factors, mul_assoc]
  pointwise [err, out, coef, val_main_cst, val_main_v0, val_main_v1, val_main_v2, val_main_v3, val_main_v4, val_main_v5, val_main_v6, val_main_cst_0, val_main_v7, val_main_v8, val_main_cst_1, val_main_v9, val_main_cst_2, val_main_v10, val_main_v11, val_main_cst_3, val_main_v12, val_main_cst_4, val_main_v13, val_main_cst_5, val_main_cst_6, val_main_v14, val_main_v15, val_main_cst_7, val_main_v16, val_main_v17, val_main_v18, val_main_v19, val_main_v20, val_main_v21, val_main_v22, val_main_cst_8, val_main_v23, val_main_v24, val_main_cst_9, val_main_v25, val_main_v26, val_main_v27]

open Cert.LossRefIdeal.Read in
theorem point4 (c : Dev nD) (t : Fin cfg0.N) (y) : k0_pay2 (iblk m c 0 t) (iblk m c 1 t) y
    = val_main_v19 (F := Ideal) (ax m c) (af m c) (ag m c) (atg m c) (((cfg0.win 4).blk t).view.emb y) := by
  rw [dx_ref, ← err_kernel]
  pointwise [k0_pay2]

open Cert.LossRefIdeal.Read in
theorem point5 (c : Dev nD) (t : Fin cfg0.N) (y) : k0_pay3 (iblk m c 0 t) (iblk m c 1 t) (iblk m c 3 t) y
    = val_main_v27 (F := Ideal) (ax m c) (af m c) (ag m c) (atg m c) (((cfg0.win 5).blk t).view.emb y) := by
  pointwise [k0_pay3, val_main_v27, val_main_v21, val_main_v20, val_main_v1, val_main_v0, val_main_cst]
  rw [point4, read_coef, mul_comm]
  pointwise [coef]
  blk_point [idx t]

/-- The two accumulated rows over one block of rows: the squared errors, and the gate's gradient before its half. -/
theorem rows_at (x tg : Vec Ideal S512x2048 .f32) (f : Vec Ideal S512x2048 .bf16) (j : S8x2048.Idx) :
    k0_pay4 x tg f j = if (j 0 : ℕ) < 1 then ∑ s : Fin 512, k0_pay1 x tg (ix2 s (j 1)) * k0_pay1 x tg (ix2 s (j 1))
        else if (j 0 : ℕ) - 1 < 1 then ∑ s : Fin 512, k0_pay2 x tg (ix2 s (j 1)) * f (ix2 s (j 1)) else (0 : EReal) := by
  pointwise [k0_pay4]
  rfl
theorem rows_next (acc : Vec Ideal S8x2048 .f32) (x tg : Vec Ideal S512x2048 .f32) (f : Vec Ideal S512x2048 .bf16) (j : S8x2048.Idx) :
    k0_pay5 x tg f acc j = acc j + k0_pay4 x tg f j := by
  pointwise [k0_pay5]

/-- The rows over the whole arrays. -/
def rows (c : Dev nD) : FVec Ideal S8x2048 .f32 := fun j =>
  if (j 0 : ℕ) < 1 then ∑ s : Fin 8192, err m c (ix2 s (j 1)) * err m c (ix2 s (j 1))
  else if (j 0 : ℕ) - 1 < 1 then ∑ s : Fin 8192, err m c (ix2 s (j 1)) * I * af m c (ix2 s (j 1)) else (0 : EReal)

open Cert.LossRefIdeal.Read in
theorem final4 (c : Dev nD) : (dats m 0 c).arrAt 4 cfg0.N = val_main_v19 (F := Ideal) (ax m c) (af m c) (ag m c) (atg m c) := by
  refine (dats m 0 c).arrAt_eq_of_covers 4 _ (by decide +kernel) fun t _ y => ?_
  blk_simp
  rw [after0_4]
  by_cases h : t.val % 16 = 0
  · rw [outsAt0_A m c t h (by have := lt_of_lt_of_eq t.isLt N_0; omega)]; frame_out; exact point4 m c t y
  · rw [outsAt0_B m c t h (by omega)]; frame_out; exact point4 m c t y

open Cert.LossRefIdeal.Read in
theorem final5 (c : Dev nD) : (dats m 0 c).arrAt 5 cfg0.N = val_main_v27 (F := Ideal) (ax m c) (af m c) (ag m c) (atg m c) := by
  refine (dats m 0 c).arrAt_eq_of_covers 5 _ (by decide +kernel) fun t _ y => ?_
  blk_simp
  rw [after0_5]
  by_cases h : t.val % 16 = 0
  · rw [outsAt0_A m c t h (by have := lt_of_lt_of_eq t.isLt N_0; omega)]; frame_out; exact point5 m c t y
  · rw [outsAt0_B m c t h (by omega)]; frame_out; exact point5 m c t y

theorem final6 (c : Dev nD) : (dats m 0 c).arrAt 6 cfg0.N = rows m c := by
  refine (dats m 0 c).arrAt_eq_of_covers 6 _ (by decide +kernel) fun t hf y => ?_
  blk_simp
  rw [after0_6, Pipeline.eq_sum_fin_of_reset_step_apply_of_flush (fun n h => (outsAt0 m c n h).2.2) 16 (fun _ => 0) _
    (fun t h j => by rw [outsAt0_A m c t h (by have := lt_of_lt_of_eq t.isLt N_0; omega)]; frame_out; rw [zero_add])
    (fun t h j => by rw [outsAt0_B m c t h (by omega)]; frame_out; rw [rows_next])
    t ((flush0_6 t).mp hf) _, zero_add]
  have ht : t.val / 16 = 0 := by have := lt_of_lt_of_eq t.isLt N_0; omega
  have e : (((cfg0.win 6).blk t).view.emb y) = y := by blk_ext [idx t]
  rw [e]
  refine (Fin.sum_fin_congr fun s => rows_at _ _ _ _).trans ?_
  unfold rows
  by_cases hy : (y 0 : ℕ) < 1
  · simp only [if_pos hy]
    refine Fin.sum_mul_add_congr fun s k hl => ?_
    rw [err_kernel]
    blk_point [idx ⟨_, Pipeline.run_point_lt_of_flush t ((flush0_6 t).mp hf) s⟩]
  by_cases hy1 : (y 0 : ℕ) - 1 < 1
  · simp only [if_neg hy, if_pos hy1]
    refine Fin.sum_mul_add_congr fun s k hl => ?_
    rw [point4, dx_ref, read_f]
    blk_point [idx ⟨_, Pipeline.run_point_lt_of_flush t ((flush0_6 t).mp hf) s⟩]
  · simp only [if_neg hy, if_neg hy1, Finset.sum_const_zero]

/-- The host's half of the gate's row. -/
def half (A : FVec Ideal S8x2048 .f32) : FVec Ideal S1x2048 .f32 :=
  mulf (broadcastInDim S1x2048 ![] bcast_S_S1x2048 (constant S_ .f32 0x3F000000#32)) (extractStridedSlice S1x2048 ![1, 0] A slices_S8x2048_S1x2048_1_0)
/-- The host's sum of the squared errors' row, with its factor. -/
def total (A : FVec Ideal S8x2048 .f32) : FVec Ideal S_ .f32 :=
  mulf (constant S_ .f32 0x39800000#32) (Host.reduceAdd (extractStridedSlice S1x2048 ![0, 0] A slices_S8x2048_S1x2048_0_0) (constant S_ .f32 0x00000000#32) reducesTo_S1x2048_S_d0_1 h_S_)

open Cert.LossRefIdeal.Read in
theorem gate (c : Dev nD) : half (rows m c) = val_main_v26 (F := Ideal) (ax m c) (af m c) (ag m c) (atg m c) := by
  funext j
  pointwise [half, val_main_v26, val_main_v25, val_main_cst_9, val_main_v24, val_main_v23, val_main_cst_8, val_main_v22]
  simp only [dx_ref]
  unfold rows
  pointwise

open Cert.LossRefIdeal.Read in
theorem loss (c : Dev nD) : total (rows m c) = val_main_v13 (F := Ideal) (ax m c) (af m c) (ag m c) (atg m c) := by
  funext j
  have h : val_main_v13 (F := Ideal) (ax m c) (af m c) (ag m c) (atg m c) j = H * ∑ s : Fin 8192, Ideal.div (∑ d : Fin 2048, err m c (ix2 s d) * err m c (ix2 s d)) N := by
    pointwise [err, out, coef, val_main_cst, val_main_v0, val_main_v1, val_main_v2, val_main_v3, val_main_v4, val_main_v5, val_main_v6, val_main_cst_0, val_main_v7, val_main_v8, val_main_cst_1, val_main_v9, val_main_cst_2, val_main_v10, val_main_v11, val_main_cst_3, val_main_v12, val_main_cst_4, val_main_v13, val_main_cst_5, val_main_cst_6, val_main_v14, val_main_v15, val_main_cst_7, val_main_v16, val_main_v17, val_main_v18, val_main_v19, val_main_v20, val_main_v21, val_main_v22, val_main_cst_8, val_main_v23, val_main_v24, val_main_cst_9, val_main_v25, val_main_v26, val_main_v27]
  rw [h, eN]
  simp only [Ideal.div_coe (show (2048 : ℝ) ≠ 0 by norm_num)]
  rw [sum_factor (by norm_num), Finset.sum_comm, ← mul_assoc, mul_right_comm, eH, ← EReal.coe_mul]
  pointwise [total]
  unfold rows
  pointwise
  rw [Fin.sum_univ_one, show Ideal.ofBits .f32 964689920#32 = _ from eI2]
  norm_num

theorem arrs_inj : Function.Injective (Pipeline.arrRef spec0) := by decide

theorem tail_gate (c : Dev nD) : Pipeline.afterTail₀ cfgs (dats m) 0 (V0 m) [hostOps1] c main_v9 = half ((dats m 0 c).arrAt 6 cfg0.N) := by
  unfold Pipeline.afterTail₀
  rw [List.flatten_cons, List.flatten_nil, List.append_nil]
  after_results
  exact congrArg half (Pipeline.withArrays_arr spec0 arrs_inj c (V0 m c) (fun w => (dats m 0 c).arrAt w cfg0.N) 6)
theorem tail_loss (c : Dev nD) : Pipeline.afterTail₀ cfgs (dats m) 0 (V0 m) [hostOps1] c main_v12 = total ((dats m 0 c).arrAt 6 cfg0.N) := by
  unfold Pipeline.afterTail₀
  rw [List.flatten_cons, List.flatten_nil, List.append_nil]
  after_results
  exact congrArg total (Pipeline.withArrays_arr spec0 arrs_inj c (V0 m c) (fun w => (dats m 0 c).arrAt w cfg0.N) 6)

open Cert.LossRefIdeal.Read in
/-- The kernel's run: the four results, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v6_0) = val_main_v19 (F := Ideal) (ax m c) (af m c) (ag m c) (atg m c)
      ∧ r.2.mem ((c.tc : Thread nD τ).loc main_v6_1) = val_main_v27 (F := Ideal) (ax m c) (af m c) (ag m c) (atg m c)
      ∧ r.2.mem ((c.tc : Thread nD τ).loc main_v9) = val_main_v26 (F := Ideal) (ax m c) (af m c) (ag m c) (atg m c)
      ∧ r.2.mem ((c.tc : Thread nD τ).loc main_v12) = val_main_v13 (F := Ideal) (ax m c) (af m c) (ag m c) (atg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final4 m c), ((h c).1 5).trans (final5 m c),
      ((h c).2 main_v9 (Pipeline.mem_restRefs_of main_v9 (by decide) (by decide))).trans ((tail_gate m c).trans ((congrArg half (final6 m c)).trans (gate m c))),
      ((h c).2 main_v12 (Pipeline.mem_restRefs_of main_v12 (by decide) (by decide))).trans ((tail_loss m c).trans ((congrArg total (final6 m c)).trans (loss m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c)))⟩) (run_main m ρ)

end Cert.LossIdeal.Grad
-- ==== Proof.AttnKer.lean ====
/- One grid point of the attention's backward kernel as a chain of arrays: what the point loads (`Ld`), and each quantity of a group of four heads by its key head and pair of columns. -/
module

public import proofs.«01_k».proof.Proof.Gen.AttnIdeal.Skeleton

@[expose] public section

noncomputable section

namespace Cert.AttnKer

open Idealize.ShloMosaic Cert.AttnIdeal Cert.AttnIdeal.Gen

variable {F : FTy → Type} [FloatOps F] [Named F]

/-- What one grid point loads. A group is named by its key head `b` and its half `p`; the two column tiles of a group by `e`. -/
structure Ld (F : FTy → Type) where
  n : BitVec 32
  q : Bool → Bool → Bool → Vec F S128x128 .f32
  g : Bool → Bool → Bool → Vec F S128x128 .f32
  k0 : Vec F S128x128 .f32
  k1 : Vec F S128x128 .f32
  v0 : Vec F S128x128 .f32
  v1 : Vec F S128x128 .f32
  qg : Vec F S1x128 .f32
  kg : Vec F S1x128 .f32
  bias : Bool → Bool → Vec F S1x256x512 .f32
  sink : Bool → Bool → Vec F S1x1x512 .f32

/-- The lanes of one key head. -/
def half (b : Bool) : IVec S256x128 1 := if b then k1_pay97 k1_pay2 else k1_pay2

def zero2 : FVec F S256x128 .f32 := broadcast S256x128 (Scalar.ofBits .f32 0x00000000#32)

def pick (b : Bool) (x : FVec F S256x128 .f32) : FVec F S256x128 .f32 := select (half b) x zero2

def rot (x : FVec F S128x128 .f32) : FVec F S128x128 .f32 := dynamicRotate 1 64#32 none x rotates_S128x128_d1

/-- A tile and the tile with its halves exchanged, one under the other. -/
def rows (b : Bool) (x : FVec F S128x128 .f32) : FVec F S256x128 .f32 :=
  if b then concatenate S256x128 0 [⟨S128x128, rot x⟩, ⟨S128x128, x⟩] concatenates_S128x128_S128x128_S256x128_d0
  else concatenate S256x128 0 [⟨S128x128, x⟩, ⟨S128x128, rot x⟩] concatenates_S128x128_S128x128_S256x128_d0

def rows2 (b : Bool) (x y : FVec F S128x128 .f32) : FVec F S512x128 .bf16 :=
  truncf .bf16 (concatenate S512x128 0 [⟨S256x128, rows b x⟩, ⟨S256x128, rows b y⟩] concatenates_S256x128_S256x128_S512x128_d0) bitsLt_bf16_f32

/-- A tile's normalised columns under the gain and the scale. -/
def scaled (g : Vec F S1x128 .f32) (x : Vec F S128x128 .f32) : FVec F S128x128 .f32 :=
  mulf (k1_pay24 (k1_pay4 g) x) (broadcast S128x128 (Scalar.ofBits .f32 0x3E000000#32))

/-- The norm's gradient on two halves of lanes. -/
def back (r h d : FVec F S128x128 .f32) : FVec F S128x128 .f32 :=
  let o : FVec F S128x128 .f32 := broadcast S128x128 (Scalar.ofBits .f32 0x00000000#32)
  let a := shapeCast S128x1 (multiReduction .add [1] S128 (select k1_pay3 (mulf d h) o) 0x00000000#32 reduces_S128x128_S128 (.inl rfl) rfl) shapeCasts_S128_S128x1
  let a' := shapeCast S128x1 (multiReduction .add [1] S128 (select k1_pay3 o (mulf d h)) 0x00000000#32 reduces_S128x128_S128 (.inl rfl) rfl) shapeCasts_S128_S128x1
  let s := select k1_pay3 (broadcastTo S128x128 (shapeCast S128x1 a shapeCasts_S128x1_S128x1) broadcasts_S128x1_S128x128)
    (broadcastTo S128x128 (shapeCast S128x1 a' shapeCasts_S128x1_S128x1) broadcasts_S128x1_S128x128)
  mulf r (subf d (mulf h (mulf s (broadcast S128x128 (Scalar.ofBits .f32 0x3C800000#32)))))

variable (W : Ld F) (b p e : Bool)

def kN : FVec F S256x128 .f32 := k1_pay9 W.kg W.k0 W.k1
def vC : FVec F S256x128 .f32 := k1_pay11 (k1_pay10 W.v0) W.v1
def K : FVec F S256x128 .bf16 := truncf .bf16 (pick b (kN W)) bitsLt_bf16_f32
def V : FVec F S256x128 .bf16 := truncf .bf16 (pick b (vC W)) bitsLt_bf16_f32
def Q : FVec F S512x128 .bf16 := rows2 b (scaled W.qg (W.q b p false)) (scaled W.qg (W.q b p true))
def G : FVec F S512x128 .bf16 := rows2 b (W.g b p false) (W.g b p true)

/-- The logits before the first block's mask, then under it. -/
def raw : FVec F S256x512 .f32 :=
  addf (matmul dot_S256x128_S512x128_S256x512_1_1_0_0_n_n none (K W b) (Q W b p) (constant S256x512 .f32 0x00000000#32))
    (shapeCast S256x512 (W.bias b p) shapeCasts_S1x256x512_S256x512)
def lg : FVec F S256x512 .f32 :=
  concatenate S256x512 0 [⟨S128x512, Scalar.select (Scalar.cmpi .eq W.n 0#32) (broadcast S128x512 (Named.named κ "mask" 0xF149F2CA#32))
    (extractStridedSlice S128x512 ![0, 0] (raw W b p) slices_S256x512_o0_0_S128x512)⟩,
    ⟨S128x512, extractStridedSlice S128x512 ![128, 0] (raw W b p) slices_S256x512_o128_0_S128x512⟩] concatenates_S128x512_S128x512_S256x512_d0

def snk : FVec F S1x512 .f32 := shapeCast S1x512 (W.sink b p) shapeCasts_S1x1x512_S1x512
def top : FVec F S1x512 .f32 :=
  maximumf (shapeCast S1x512 (multiReduction .maximumf [0] S512 (lg W b p) 0xFF800000#32 reduces_S256x512_S512 (.inl rfl) rfl) shapeCasts_S512_S1x512) (snk W b p)
def ex : FVec F S256x512 .f32 := exp (subf (lg W b p) (broadcastTo S256x512 (top W b p) broadcasts_S1x512_S256x512))
def es : FVec F S1x512 .f32 := exp (subf (snk W b p) (top W b p))
def iv : FVec F S1x512 .f32 :=
  divf (broadcast S1x512 (Scalar.ofBits .f32 0x3F800000#32))
    (addf (shapeCast S1x512 (multiReduction .add [0] S512 (ex W b p) 0x00000000#32 reduces_S256x512_S512 (.inl rfl) rfl) shapeCasts_S512_S1x512) (es W b p))
def pr : FVec F S256x512 .f32 := mulf (ex W b p) (broadcastTo S256x512 (iv W b p) broadcasts_S1x512_S256x512)
def dP : FVec F S256x512 .f32 := matmul dot_S256x128_S512x128_S256x512_1_1_0_0_n_n none (V W b) (G W b p) (constant S256x512 .f32 0x00000000#32)
def dl : FVec F S1x512 .f32 :=
  shapeCast S1x512 (multiReduction .add [0] S512 (mulf (pr W b p) (dP W b p)) 0x00000000#32 reduces_S256x512_S512 (.inl rfl) rfl) shapeCasts_S512_S1x512
def dS : FVec F S256x512 .f32 := mulf (pr W b p) (subf (dP W b p) (broadcastTo S256x512 (dl W b p) broadcasts_S1x512_S256x512))
/-- A group's part of the sinks' gradient. -/
def sk : FVec F S1x512 .f32 :=
  mulf (subf (broadcast S1x512 (Scalar.ofBits .f32 0x00000000#32)) (mulf (es W b p) (iv W b p))) (dl W b p)

/-- A group's part of the values' and of the keys' gradient, and all four groups'. -/
def vPart : FVec F S256x128 .f32 :=
  pick b (matmul dot_S256x512_S512x128_S256x128_1_0_0_1_n_n none (truncf .bf16 (pr W b p) bitsLt_bf16_f32) (G W b p) (constant S256x128 .f32 0x00000000#32))
def kPart : FVec F S256x128 .f32 :=
  pick b (matmul dot_S256x512_S512x128_S256x128_1_0_0_1_n_n none (truncf .bf16 (dS W b p) bitsLt_bf16_f32) (Q W b p) (constant S256x128 .f32 0x00000000#32))
def vAll : FVec F S256x128 .f32 := addf (addf (addf (addf zero2 (vPart W false false)) (vPart W false true)) (vPart W true false)) (vPart W true true)
def kAll : FVec F S256x128 .f32 := addf (addf (addf (addf zero2 (kPart W false false)) (kPart W false true)) (kPart W true false)) (kPart W true true)

def dQ : FVec F S512x128 .f32 :=
  mulf (matmul dot_S256x512_S256x128_S512x128_0_0_1_1_n_n none (truncf .bf16 (dS W b p) bitsLt_bf16_f32) (K W b) (constant S512x128 .f32 0x00000000#32))
    (broadcast S512x128 (Scalar.ofBits .f32 0x3E000000#32))
def tile0 (x : FVec F S512x128 .f32) : FVec F S128x128 .f32 := extractStridedSlice S128x128 ![0, 0] x slices_S512x128_o0_0_S128x128
def tile1 (x : FVec F S512x128 .f32) : FVec F S128x128 .f32 := extractStridedSlice S128x128 ![128, 0] x slices_S512x128_o128_0_S128x128
def tile2 (x : FVec F S512x128 .f32) : FVec F S128x128 .f32 := extractStridedSlice S128x128 ![256, 0] x slices_S512x128_o256_0_S128x128
def tile3 (x : FVec F S512x128 .f32) : FVec F S128x128 .f32 := extractStridedSlice S128x128 ![384, 0] x slices_S512x128_o384_0_S128x128
def join (x y : FVec F S128x128 .f32) : FVec F S128x128 .f32 := if b then addf (rot x) y else addf x (rot y)

/-- What reaches a tile's normalised and gained columns. -/
def dy : FVec F S128x128 .f32 :=
  if e then join b (tile2 (dQ W b p)) (tile3 (dQ W b p)) else join b (tile0 (dQ W b p)) (tile1 (dQ W b p))

def qOut : FVec F S128x128 .bf16 :=
  truncf .bf16 (back (k1_pay22 (W.q b p e)) (k1_pay23 (W.q b p e)) (mulf (dy W b p e) (broadcastTo S128x128 (k1_pay4 W.qg) broadcasts_S1x128_S128x128))) bitsLt_bf16_f32

/-- A tile's part of the query gain's gradient, and all eight tiles'. -/
def gPart : FVec F S1x128 .f32 :=
  shapeCast S1x128 (multiReduction .add [0] S128 (mulf (dy W b p e) (k1_pay23 (W.q b p e))) 0x00000000#32 reduces_S128x128_S128_2 (.inl rfl) rfl) shapeCasts_S128_S1x128
def gAdd (a : FVec F S1x128 .f32) : FVec F S1x128 .f32 := addf (addf a (gPart W b p false)) (gPart W b p true)
def gAll : FVec F S1x128 .f32 :=
  gAdd W true true (gAdd W true false (gAdd W false true (gAdd W false false (broadcast S1x128 (Scalar.ofBits .f32 0x00000000#32)))))

/-- The keys' gradient through their norm, and what it and the gains add up to. -/
def kIn : FVec F S256x128 .f32 := k1_pay176 (k1_pay5 W.kg) (kAll W)
def kOut0 : FVec F S128x128 .f32 := k1_pay180 k1_pay2 (k1_pay7 W.k0 W.k1) (k1_pay8 W.k0 W.k1) (kIn W) (k1_pay177 (k1_pay5 W.kg) (k1_pay8 W.k0 W.k1) (kAll W))
def kOut1 : FVec F S128x128 .f32 := k1_pay181 k1_pay2 (k1_pay7 W.k0 W.k1) (k1_pay8 W.k0 W.k1) (kIn W) (k1_pay177 (k1_pay5 W.kg) (k1_pay8 W.k0 W.k1) (kAll W))
def vOut0 : FVec F S128x128 .f32 := k1_pay182 (vAll W)
def vOut1 : FVec F S128x128 .f32 := k1_pay183 (vAll W)
def gains (acc : Vec F S8x128 .f32) : FVec F S8x128 .f32 := k1_pay1 (gAll W) (k1_pay179 (k1_pay8 W.k0 W.k1) (kAll W)) acc

end Cert.AttnKer
-- ==== Proof.AttnMath.lean ====
/- The gradient of a banded attention with sinks, over the reals: every quantity by its row, head and column, as natural numbers. -/
module

public import proofs.«01_k».proof.Proof.Rms

@[expose] public section

set_option maxRecDepth 16384

noncomputable section

open Idealize.ShloMosaic

namespace Cert.AttnMath
open Cert.Reals

/-- The small constant of the norms. -/
def eps : ℝ := (Ideal.ofBits .f32 897988541#32).toReal

theorem eps_coe : Ideal.ofBits .f32 897988541#32 = ((eps : ℝ) : EReal) := by
  obtain ⟨r, _, h⟩ := Rms.eps
  rw [eps, h, EReal.toReal_coe]

theorem eps_pos : 0 < eps := by
  obtain ⟨r, hr, h⟩ := Rms.eps
  rw [eps, h, EReal.toReal_coe]; exact hr

/-- The inverse root of the mean of squares of 64 numbers, the normalised numbers, and the norm's gradient. -/
def rr (f : ℕ → ℝ) : ℝ := (Real.sqrt ((∑ d : Fin 64, f d * f d) * (1 / 64) + eps))⁻¹
def hat (f : ℕ → ℝ) (d : ℕ) : ℝ := f d * rr f
def nb (f a : ℕ → ℝ) (d : ℕ) : ℝ := rr f * (a d - hat f d * ((∑ k : Fin 64, a k * hat f k) * (1 / 64)))

/-- The norm's gradient is linear in what reaches it. -/
theorem nb_add (f a b : ℕ → ℝ) (d : ℕ) : nb f (fun k => a k + b k) d = nb f a d + nb f b d := by
  unfold nb
  have e : ∑ k : Fin 64, (a k + b k) * hat f k = ∑ k : Fin 64, a k * hat f k + ∑ k : Fin 64, b k * hat f k := by
    rw [← Finset.sum_add_distrib]; exact Finset.sum_congr rfl fun k _ => by ring
  rw [e]; ring

theorem nb_zero (f : ℕ → ℝ) (d : ℕ) : nb f (fun _ => 0) d = 0 := by unfold nb; simp

/-- The part's inputs: the projected rows, the two gains, the sinks, the bias by bucket and head, the cotangent, and the bucket of a distance. -/
structure In where
  z : ℕ → ℕ → ℝ
  qg : ℕ → ℝ
  kg : ℕ → ℝ
  sk : ℕ → ℝ
  rb : ℕ → ℕ → ℝ
  ct : ℕ → ℕ → ℝ
  bk : ℕ → ℕ

variable (I : In)

def zq (s h d : ℕ) : ℝ := I.z s (1024 + 64 * h + d)
def zk (s k d : ℕ) : ℝ := I.z s (2048 + 64 * k + d)
def zv (s k d : ℕ) : ℝ := I.z s (2176 + 64 * k + d)
def qn (s h d : ℕ) : ℝ := hat (zq I s h) d * I.qg d
def kn (s k d : ℕ) : ℝ := hat (zk I s k) d * I.kg d

/-- The row of the keys that column `j` of block `n` names: the block before, then the block itself. -/
def pos (n j : ℕ) : ℕ := if j < 128 then 128 * (n - 1) + j else 128 * n + (j - 128)

/-- Row `r` of block `n` sees column `j`. -/
abbrev on (n r j : ℕ) : Prop := (j ≤ 128 + r ∧ r < j) ∧ (128 ≤ j ∨ 0 < n)

def logit (n h r j : ℕ) : ℝ := (∑ d : Fin 64, kn I (pos n j) (h / 8) d * qn I (128 * n + r) h d) * (1 / 8) + I.rb (I.bk (128 + r - j)) h
def w (n h r j : ℕ) : ℝ := if on n r j then Real.exp (logit I n h r j) else 0
def den (n h r : ℕ) : ℝ := ∑ j : Fin 256, w I n h r j + Real.exp (I.sk h)
def p (n h r j : ℕ) : ℝ := w I n h r j / den I n h r
def ps (n h r : ℕ) : ℝ := Real.exp (I.sk h) / den I n h r
def dP (n h r j : ℕ) : ℝ := ∑ d : Fin 64, zv I (pos n j) (h / 8) d * I.ct (128 * n + r) (64 * h + d)
def dl (n h r : ℕ) : ℝ := ∑ j : Fin 256, p I n h r j * dP I n h r j
def dS (n h r j : ℕ) : ℝ := p I n h r j * (dP I n h r j - dl I n h r)
def dqn (s h d : ℕ) : ℝ := (∑ j : Fin 256, dS I (s / 128) h (s % 128) j * kn I (pos (s / 128) j) (h / 8) d) * (1 / 8)
def dq (s h d : ℕ) : ℝ := nb (zq I s h) (fun d => dqn I s h d * I.qg d) d
def dkb (n k j d : ℕ) : ℝ := ∑ g : Fin 8, ∑ r : Fin 128, dS I n (8 * k + g) r j * (qn I (128 * n + r) (8 * k + g) d * (1 / 8))
def dvb (n k j d : ℕ) : ℝ := ∑ g : Fin 8, ∑ r : Fin 128, p I n (8 * k + g) r j * I.ct (128 * n + r) (64 * (8 * k + g) + d)

/-- A key row gathers its own block's part and the next block's. -/
def join (b : ℕ → ℕ → ℕ → ℕ → ℝ) (s k d : ℕ) : ℝ :=
  b (s / 128) k (128 + s % 128) d + if s / 128 < 63 then b (s / 128 + 1) k (s % 128) d else 0

def dk (s k d : ℕ) : ℝ := nb (zk I s k) (fun d => join (dkb I) s k d * I.kg d) d
def dv (s k d : ℕ) : ℝ := join (dvb I) s k d
def dqg (d : ℕ) : ℝ := ∑ s : Fin 8192, ∑ h : Fin 16, dqn I s h d * hat (zq I s h) d
def dkg (d : ℕ) : ℝ := ∑ s : Fin 8192, ∑ k : Fin 2, join (dkb I) s k d * hat (zk I s k) d
def dsk (h : ℕ) : ℝ := ∑ n : Fin 64, ∑ r : Fin 128, -(ps I n h r) * dl I n h r
def drb (b h : ℕ) : ℝ := ∑ r : Fin 128, ∑ j : Fin 256, if ((j : ℕ) ≤ 128 + r ∧ (r : ℕ) < j) ∧ I.bk (128 + r - j) = b then ∑ n : Fin 64, dS I n h r j else 0

theorem p_off {n r j : ℕ} (h : ℕ) (hn : ¬ on n r j) : p I n h r j = 0 := by unfold p w; rw [if_neg hn, zero_div]
theorem dS_off {n r j : ℕ} (h : ℕ) (hn : ¬ on n r j) : dS I n h r j = 0 := by unfold dS; rw [p_off I h hn, zero_mul]

theorem den_pos (n h r : ℕ) : 0 < den I n h r := by
  unfold den
  have : 0 ≤ ∑ j : Fin 256, w I n h r j := Finset.sum_nonneg fun j _ => by unfold w; split <;> positivity
  positivity

/-- The logit as the programs hold it: minus infinity off the band. -/
def L (n h r j : ℕ) : EReal := if on n r j then ((logit I n h r j : ℝ) : EReal) else ⊥

/-- Its exponential, shifted by a real. -/
theorem exp_L (n h r j : ℕ) (M : ℝ) : Ideal.exp (L I n h r j - (M : EReal)) = ((w I n h r j * Real.exp (-M) : ℝ) : EReal) := by
  unfold L w
  split
  · rw [← EReal.coe_sub, Ideal.exp_coe, ← Real.exp_add, sub_eq_add_neg]
  · rw [EReal.bot_sub, zero_mul]; rfl

theorem den_shift (n h r : ℕ) (M : ℝ) : ∑ j : Fin 256, w I n h r j * Real.exp (-M) + Real.exp (I.sk h - M) = den I n h r * Real.exp (-M) := by
  rw [den, add_mul, Finset.sum_mul, ← Real.exp_add, sub_eq_add_neg]

theorem p_shift (n h r j : ℕ) (M : ℝ) : w I n h r j * Real.exp (-M) * (1 / (den I n h r * Real.exp (-M))) = p I n h r j := by
  have := (den_pos I n h r).ne'
  have := (Real.exp_pos (-M)).ne'
  unfold p; field_simp

theorem ps_shift (n h r : ℕ) (M : ℝ) : Real.exp (I.sk h - M) * (1 / (den I n h r * Real.exp (-M))) = ps I n h r := by
  have := (den_pos I n h r).ne'
  have := (Real.exp_pos (-M)).ne'
  rw [sub_eq_add_neg, Real.exp_add]
  unfold ps; field_simp

end Cert.AttnMath
-- ==== Proof.AttnOps.lean ====
/- The arrays of one grid point of the attention's backward kernel, read as arrays of reals. -/
module

public import proofs.«01_k».proof.Proof.AttnKer
public import proofs.«01_k».proof.Proof.AttnMath
public import Idealize.ShloMosaic.Lib.Pointwise
public import Idealize.ShloMosaic.Lib.Pipeline.ValueKit

@[expose] public section

set_option maxRecDepth 16384

noncomputable section

open Idealize.ShloMosaic

namespace Cert.AttnKer
open Cert.Reals Cert.AttnMath Cert.AttnIdeal Cert.AttnIdeal.Gen

/-- An array of two axes holds the reals `f`. -/
def A2 {m n : ℕ} (x : (⟨2, ![m, n]⟩ : Shape).Idx → EReal) (f : ℕ → ℕ → ℝ) : Prop := ∀ (a : Fin m) (b : Fin n), x (ix2 a b) = ((f a b : ℝ) : EReal)

theorem A2.congr {m n : ℕ} {x : (⟨2, ![m, n]⟩ : Shape).Idx → EReal} {f g : ℕ → ℕ → ℝ} (h : A2 x f) (e : ∀ a b, a < m → b < n → f a b = g a b) : A2 x g :=
  fun a b => by rw [h a b, e a b a.isLt b.isLt]

/-- The 64 lanes that lane `l` of row `r` belongs to. -/
def ln (f : ℕ → ℕ → ℝ) (r l : ℕ) : ℕ → ℝ := fun d => f r (64 * (l / 64) + d)

theorem lane (k : Fin 128) : IntOp.cmpi .slt (BitVec.ofNat 32 (k : ℕ)) 64#32 = if (k : ℕ) < 64 then 1#1 else 0#1 := by
  revert k; decide

theorem lane_not (k : Fin 128) : IntOp.xori (IntOp.cmpi .slt (BitVec.ofNat 32 (k : ℕ)) 64#32) 1#1 = if (k : ℕ) < 64 then 0#1 else 1#1 := by
  revert k; decide

theorem sel_lane (k : Fin 128) (a b : EReal) : Scalar.select (IntOp.cmpi .slt (BitVec.ofNat 32 (k : ℕ)) 64#32) a b = if (k : ℕ) < 64 then a else b := by
  rw [lane]; split <;> rfl

theorem sel_lane_not (k : Fin 128) (a b : EReal) : Scalar.select (IntOp.xori (IntOp.cmpi .slt (BitVec.ofNat 32 (k : ℕ)) 64#32) 1#1) a b = if (k : ℕ) < 64 then b else a := by
  rw [lane_not]; split <;> rfl

/-- The sum over 128 lanes of one half's values. -/
theorem sum_lo (u : ℕ → ℝ) : ∑ k : Fin 128, (if (k : ℕ) < 64 then u k else 0) = ∑ d : Fin 64, u d := by
  rw [Fin.sum_univ_add (a := 64) (b := 64) (f := fun k : Fin 128 => if (k : ℕ) < 64 then u k else 0)]
  simp

theorem sum_hi (u : ℕ → ℝ) : ∑ k : Fin 128, (if (k : ℕ) < 64 then 0 else u k) = ∑ d : Fin 64, u (64 + d) := by
  rw [Fin.sum_univ_add (a := 64) (b := 64) (f := fun k : Fin 128 => if (k : ℕ) < 64 then 0 else u k)]
  simp
  exact Finset.sum_congr rfl fun d _ => by rw [Nat.add_comm]

theorem esum_lo (u : ℕ → ℝ) : ∑ k : Fin 128, (if (k : ℕ) < 64 then ((u k : ℝ) : EReal) else 0) = ((∑ d : Fin 64, u d : ℝ) : EReal) := by
  rw [← sum_lo, ← coe_sum]; exact Finset.sum_congr rfl fun k _ => by split <;> rfl

theorem esum_hi (u : ℕ → ℝ) : ∑ k : Fin 128, (if (k : ℕ) < 64 then 0 else ((u k : ℝ) : EReal)) = ((∑ d : Fin 64, u (64 + d) : ℝ) : EReal) := by
  rw [← sum_hi, ← coe_sum]; exact Finset.sum_congr rfl fun k _ => by split <;> rfl

theorem half_sum (l : Fin 128) (u : ℕ → ℝ) :
    (if (l : ℕ) < 64 then ((∑ d : Fin 64, u d : ℝ) : EReal) else ((∑ d : Fin 64, u (64 + d) : ℝ) : EReal)) = ((∑ d : Fin 64, u (64 * (l / 64) + d) : ℝ) : EReal) := by
  by_cases h : (l : ℕ) < 64
  · rw [if_pos h, Nat.div_eq_of_lt h]; simp
  · rw [if_neg h, show (l : ℕ) / 64 = 1 by omega]

theorem c64 : Ideal.ofBits .f32 1015021568#32 = ((1 / 64 : ℝ) : EReal) := by
  simp [Ideal.ofBits, Ideal.ieee]; rw [← EReal.coe_mul]; norm_num
theorem c8 : Ideal.ofBits .f32 1040187392#32 = ((1 / 8 : ℝ) : EReal) := by
  simp [Ideal.ofBits, Ideal.ieee]; rw [← EReal.coe_mul]; norm_num

theorem split64 (l : ℕ) : 64 * (l / 64) + l % 64 = l := Nat.div_add_mod l 64

theorem rsqrt_rr (f : ℕ → ℝ) : Ideal.rsqrt ((((∑ d : Fin 64, f d * f d) * (1 / 64) : ℝ) : EReal) + ((eps : ℝ) : EReal)) = ((rr f : ℝ) : EReal) := by
  have h : 0 < (∑ d : Fin 64, f d * f d) * (1 / 64) + eps := by
    have : 0 ≤ ∑ d : Fin 64, f d * f d := Finset.sum_nonneg fun d _ => mul_self_nonneg _
    have := eps_pos; positivity
  rw [← EReal.coe_add, Ideal.rsqrt_coe]; unfold rr; rw [if_neg (not_lt.2 h.le), if_neg h.ne']

/-- The inverse roots of a tile, its normalised columns, and those under the gain and the scale. -/
theorem rs_real {x : FVec Ideal S128x128 .f32} {f} (h : A2 x f) : A2 (k1_pay22 (F := Ideal) x) (fun r l => rr (ln f r l)) := fun r l => by
  pointwise [k1_pay22, k1_pay21, k1_pay20]
  simp only [sel_lane, h r, ← EReal.coe_mul, esum_lo (fun k => f r k * f r k), esum_hi (fun k => f r k * f r k), half_sum l (fun k => f r k * f r k), c64, eps_coe]
  exact rsqrt_rr (ln f r l)

theorem hat_real {x : FVec Ideal S128x128 .f32} {f} (h : A2 x f) : A2 (k1_pay23 (F := Ideal) x) (fun r l => hat (ln f r l) (l % 64)) := fun r l => by
  pointwise [k1_pay23, k1_pay21]
  rw [rs_real h, h, ← EReal.coe_mul]; unfold hat; rw [ln, split64]

theorem scaled_real {x : FVec Ideal S128x128 .f32} {g : FVec Ideal S1x128 .f32} {f γ} (h : A2 x f) (hg : A2 g γ) :
    A2 (scaled (F := Ideal) g x) (fun r l => hat (ln f r l) (l % 64) * γ 0 l * (1 / 8)) := fun r l => by
  pointwise [scaled, k1_pay24, k1_pay4]
  rw [hat_real h, hg, c8, ← EReal.coe_mul, ← EReal.coe_mul, Fin.val_zero]

/-- Two tiles one under the other. -/
def cat (f0 f1 : ℕ → ℕ → ℝ) (r l : ℕ) : ℝ := if r < 128 then f0 r l else f1 (r - 128) l

theorem cat_real {x y : FVec Ideal S128x128 .f32} {f0 f1} (h0 : A2 x f0) (h1 : A2 y f1) : A2 (k1_pay6 (F := Ideal) x y) (cat f0 f1) := fun r l => by
  pointwise [k1_pay6]
  unfold cat
  by_cases h : (r : ℕ) < 128
  · rw [dif_pos h, if_pos h]; exact h0 ⟨r, h⟩ l
  · rw [dif_neg h, if_neg h]; exact h1 ⟨r - 128, _⟩ l

theorem rs2_real {x y : FVec Ideal S128x128 .f32} {f} (h : A2 (k1_pay6 (F := Ideal) x y) f) : A2 (k1_pay7 (F := Ideal) x y) (fun r l => rr (ln f r l)) := fun r l => by
  pointwise [k1_pay7, k1_pay2]
  simp only [sel_lane, h r, ← EReal.coe_mul, esum_lo (fun k => f r k * f r k), esum_hi (fun k => f r k * f r k), half_sum l (fun k => f r k * f r k), c64, eps_coe]
  exact rsqrt_rr (ln f r l)

theorem hat2_real {x y : FVec Ideal S128x128 .f32} {f} (h : A2 (k1_pay6 (F := Ideal) x y) f) : A2 (k1_pay8 (F := Ideal) x y) (fun r l => hat (ln f r l) (l % 64)) := fun r l => by
  pointwise [k1_pay8]
  rw [rs2_real h, h, ← EReal.coe_mul]; unfold hat; rw [ln, split64]

/-- One half's lanes, the rest zero. -/
theorem pick_at (X : FVec Ideal S256x128 .f32) (b : Bool) (r : Fin 256) (l : Fin 128) : pick (F := Ideal) b X (ix2 r l) = if (l : ℕ) / 64 = b.toNat then X (ix2 r l) else 0 := by
  have hl := l.isLt
  cases b
  · simp only [pick, half, zero2, Bool.false_eq_true, if_false]
    pointwise [k1_pay2]
    rw [sel_lane]
    by_cases hh : (l : ℕ) < 64
    · rw [if_pos hh, if_pos (by simp; omega)]
    · rw [if_neg hh, if_neg (by simp; omega)]
  · simp only [pick, half, zero2, if_true]
    pointwise [k1_pay2, k1_pay97]
    rw [sel_lane_not]
    by_cases hh : (l : ℕ) < 64
    · rw [if_pos hh, if_neg (by simp; omega)]
    · rw [if_neg hh, if_pos (by simp; omega)]

theorem pick_real {x : FVec Ideal S256x128 .f32} {f} (b : Bool) (h : A2 x f) : A2 (pick (F := Ideal) b x) (fun r l => if l / 64 = b.toNat then f r l else 0) := fun r l => by
  rw [pick_at, h]; split <;> simp_all

theorem rot_real {x : FVec Ideal S128x128 .f32} {f} (h : A2 x f) : A2 (rot (F := Ideal) x) (fun r l => f r ((l + 64) % 128)) := fun r l => by
  pointwise [rot]
  rw [h]; congr 2

/-- A tile's rows and the exchanged ones, on the lanes of the half they are used on. -/
theorem rows_real {x : FVec Ideal S128x128 .f32} {f} (b : Bool) (h : A2 x f) (r : Fin 256) (l : Fin 128) (hl : (l : ℕ) / 64 = b.toNat) :
    rows (F := Ideal) b x (ix2 r l) = ((f (r % 128) (64 * (r / 128) + l % 64) : ℝ) : EReal) := by
  have hr := r.isLt
  have hl' := l.isLt
  cases b <;> simp only [rows, Bool.false_eq_true, if_false, if_true, Bool.toNat_false, Bool.toNat_true] at hl ⊢ <;> pointwise <;>
    by_cases hh : (r : ℕ) < 128
  · rw [dif_pos hh, h]; (try dsimp only); congr 2 <;> omega
  · rw [dif_neg hh, rot_real h]; (try dsimp only); congr 2 <;> omega
  · rw [dif_pos hh, rot_real h]; (try dsimp only); congr 2 <;> omega
  · rw [dif_neg hh, h]; (try dsimp only); congr 2 <;> omega

theorem rows2_real {x y : FVec Ideal S128x128 .f32} {f} (b : Bool) (hx : A2 x f) (hy : A2 y (fun r l => f r (128 + l))) (c : Fin 512) (l : Fin 128) (hl : (l : ℕ) / 64 = b.toNat) :
    rows2 (F := Ideal) b x y (ix2 c l) = ((f (c % 128) (64 * (c / 128) + l % 64) : ℝ) : EReal) := by
  have hc := c.isLt
  pointwise [rows2]
  by_cases hh : (c : ℕ) < 256
  · rw [dif_pos hh, rows_real b hx _ _ hl]
  · rw [dif_neg hh, rows_real b hy _ _ hl]; (try dsimp only); congr 2 <;> omega

/-- The norm's gradient on both halves of the lanes. -/
theorem back_real {f α : ℕ → ℕ → ℝ} {x d : FVec Ideal S128x128 .f32} (hx : A2 x f) (hd : A2 d α) :
    A2 (back (F := Ideal) (k1_pay22 x) (k1_pay23 x) d) (fun r l => nb (ln f r l) (ln α r l) (l % 64)) := fun r l => by
  pointwise [back, k1_pay3]
  simp only [sel_lane, hd r, hat_real hx r, rs_real hx r, ← EReal.coe_mul, esum_lo (fun k => α r k * hat (ln f r k) (k % 64)), esum_hi (fun k => α r k * hat (ln f r k) (k % 64))]
  rw [half_sum l (fun k : ℕ => α r k * hat (ln f r k) (k % 64)), c64, ← EReal.coe_mul, ← EReal.coe_mul, ← EReal.coe_sub, ← EReal.coe_mul]
  congr 1
  unfold nb
  have e1 : ln α r l (l % 64) = α r l := by unfold ln; rw [split64]
  have e2 : ∀ k : Fin 64, hat (ln f r (64 * (l / 64) + k)) ((64 * (l / 64) + k) % 64) = hat (ln f r l) k := fun k => by
    have h1 : (64 * ((l : ℕ) / 64) + (k : ℕ)) / 64 = l / 64 := by omega
    have h2 : (64 * ((l : ℕ) / 64) + (k : ℕ)) % 64 = k := by omega
    rw [h2]; unfold ln; rw [h1]
  rw [e1]; simp only [e2]; rfl

end Cert.AttnKer
-- ==== Proof.AttnVal.lean ====
/- One grid point of the attention's backward kernel over the reals: each of its arrays, against the part's formulas. -/
module

public import proofs.«01_k».proof.Proof.AttnOps

@[expose] public section

set_option maxRecDepth 16384

noncomputable section

open Idealize.ShloMosaic

namespace Cert.AttnKer
open Cert.Reals Cert.AttnMath Cert.AttnIdeal Cert.AttnIdeal.Gen

/-- The head of a group's column. -/
def hd (b p : Bool) (c : ℕ) : ℕ := 8 * b.toNat + 4 * p.toNat + c / 128

/-- What a point loads, as the part's inputs. -/
structure Holds (I : In) (n : ℕ) (W : Ld Ideal) : Prop where
  first : Scalar.cmpi .eq W.n 0#32 = if n = 0 then 1#1 else 0#1
  q : ∀ b p e, A2 (W.q b p e) fun r l => I.z (128 * n + r) (1024 + (512 * b.toNat + 256 * p.toNat + (128 * e.toNat + l)))
  g : ∀ b p e, A2 (W.g b p e) fun r l => I.ct (128 * n + r) (512 * b.toNat + 256 * p.toNat + (128 * e.toNat + l))
  k0 : A2 W.k0 fun r l => I.z (128 * (n - 1) + r) (2048 + l)
  k1 : A2 W.k1 fun r l => I.z (128 * n + r) (2048 + l)
  v0 : A2 W.v0 fun r l => I.z (128 * (n - 1) + r) (2176 + l)
  v1 : A2 W.v1 fun r l => I.z (128 * n + r) (2176 + l)
  qg : A2 W.qg fun _ l => I.qg (l % 64)
  kg : A2 W.kg fun _ l => I.kg (l % 64)
  bias : ∀ b p (j : Fin 256) (c : Fin 512), W.bias b p (ix3 0 j c) = if (j : ℕ) ≤ 128 + c % 128 ∧ (c : ℕ) % 128 < j then ((I.rb (I.bk (128 + c % 128 - j)) (hd b p c) : ℝ) : EReal) else ⊥
  sink : ∀ b p (c : Fin 512), W.sink b p (ix3 0 0 c) = ((I.sk (hd b p c) : ℝ) : EReal)

variable {I : In} {n : ℕ} {W : Ld Ideal} (H : Holds I n W) (b p : Bool)
include H

theorem k_cat : A2 (k1_pay6 (F := Ideal) W.k0 W.k1) (fun j l => I.z (pos n j) (2048 + l)) :=
  (cat_real H.k0 H.k1).congr fun j l _ _ => by unfold cat pos; split <;> rfl

omit H in
theorem zk_ln (j l : ℕ) : ln (fun j l => I.z (pos n j) (2048 + l)) j l = zk I (pos n j) (l / 64) := by
  funext d; unfold ln zk; dsimp only; rw [← Nat.add_assoc]

theorem k_hat : A2 (k1_pay8 (F := Ideal) W.k0 W.k1) (fun j l => hat (zk I (pos n j) (l / 64)) (l % 64)) :=
  (hat2_real (k_cat H)).congr fun j l _ _ => by rw [zk_ln]

theorem k_rr : A2 (k1_pay7 (F := Ideal) W.k0 W.k1) (fun j l => rr (zk I (pos n j) (l / 64))) :=
  (rs2_real (k_cat H)).congr fun j l _ _ => by rw [zk_ln]

theorem kN_real : A2 (kN W) (fun j l => kn I (pos n j) (l / 64) (l % 64)) := fun j l => by
  pointwise [kN, k1_pay9, k1_pay5]
  rw [k_hat H, H.kg, ← EReal.coe_mul]; rfl

theorem vC_real : A2 (vC W) (fun j l => zv I (pos n j) (l / 64) (l % 64)) := by
  refine A2.congr (f := cat (fun r l => I.z (128 * (n - 1) + r) (2176 + l)) (fun r l => I.z (128 * n + r) (2176 + l))) (fun j l => ?_) fun j l _ _ => ?_
  · pointwise [vC, k1_pay11, k1_pay10]
    unfold cat
    by_cases h : (j : ℕ) < 128
    · rw [dif_pos h, if_pos h]; exact H.v0 ⟨j, h⟩ l
    · rw [dif_neg h, if_neg h]; exact H.v1 ⟨j - 128, _⟩ l
  · unfold cat pos zv; rw [Nat.add_assoc, split64]; split <;> rfl

theorem K_real : A2 (K W b) (fun j l => if l / 64 = b.toNat then kn I (pos n j) (l / 64) (l % 64) else 0) := fun j l => by
  pointwise [K]; exact pick_real b (kN_real H) j l

theorem V_real : A2 (V W b) (fun j l => if l / 64 = b.toNat then zv I (pos n j) (l / 64) (l % 64) else 0) := fun j l => by
  pointwise [V]; exact pick_real b (vC_real H) j l

/-- The queries of a group, and the cotangents, on their half of the lanes. -/
theorem q_hat (e : Bool) : A2 (k1_pay23 (F := Ideal) (W.q b p e)) (fun r l => hat (zq I (128 * n + r) (8 * b.toNat + 4 * p.toNat + 2 * e.toNat + l / 64)) (l % 64)) :=
  (hat_real (H.q b p e)).congr fun r l _ _ => by
    have h : ln (fun r l => I.z (128 * n + r) (1024 + (512 * b.toNat + 256 * p.toNat + (128 * e.toNat + l)))) r l = zq I (128 * n + r) (8 * b.toNat + 4 * p.toNat + 2 * e.toNat + l / 64) := by
      funext d; unfold ln zq; dsimp only; congr 1; omega
    rw [h]

theorem Q_real (c : Fin 512) (l : Fin 128) (hl : (l : ℕ) / 64 = b.toNat) :
    Q W b p (ix2 c l) = ((qn I (128 * n + c % 128) (hd b p c) (l % 64) * (1 / 8) : ℝ) : EReal) := by
  unfold Q
  rw [rows2_real (f := fun r l => qn I (128 * n + r) (8 * b.toNat + 4 * p.toNat + l / 64) (l % 64) * (1 / 8)) b _ _ c l hl]
  · have e1 : 8 * b.toNat + 4 * p.toNat + (64 * ((c : ℕ) / 128) + l % 64) / 64 = hd b p c := by unfold hd; omega
    have e2 : (64 * ((c : ℕ) / 128) + l % 64) % 64 = l % 64 := by omega
    rw [e1, e2]
  · refine (scaled_real (H.q b p false) H.qg).congr fun r l _ _ => ?_
    unfold qn
    have e : ln (fun r l => I.z (128 * n + r) (1024 + (512 * b.toNat + 256 * p.toNat + (128 * Bool.toNat false + l)))) r l = zq I (128 * n + r) (8 * b.toNat + 4 * p.toNat + l / 64) := by
      funext d; unfold ln zq; dsimp only [Bool.toNat_false]; congr 1; omega
    rw [e]
  · refine (scaled_real (H.q b p true) H.qg).congr fun r l _ _ => ?_
    unfold qn
    have e : ln (fun r l => I.z (128 * n + r) (1024 + (512 * b.toNat + 256 * p.toNat + (128 * Bool.toNat true + l)))) r l = zq I (128 * n + r) (8 * b.toNat + 4 * p.toNat + (128 + l) / 64) := by
      funext d; unfold ln zq; dsimp only [Bool.toNat_true]; congr 1; omega
    have e2 : (128 + l) % 64 = l % 64 := by omega
    rw [e, e2]

theorem G_real (c : Fin 512) (l : Fin 128) (hl : (l : ℕ) / 64 = b.toNat) :
    G W b p (ix2 c l) = ((I.ct (128 * n + c % 128) (64 * hd b p c + l % 64) : ℝ) : EReal) := by
  unfold G
  rw [rows2_real (f := fun r l => I.ct (128 * n + r) (512 * b.toNat + 256 * p.toNat + l)) b _ _ c l hl]
  · congr 2; unfold hd; omega
  · exact (H.g b p false).congr fun r l _ _ => by simp
  · exact (H.g b p true).congr fun r l _ _ => by simp

omit H in
/-- A product over the lanes of one half. -/
theorem half_dot {k q : Fin 128 → EReal} (u v : ℕ → ℝ) (b : Bool) (hk : ∀ l, k l = (((if (l : ℕ) / 64 = b.toNat then u (l % 64) else 0) : ℝ) : EReal))
    (hq : ∀ l : Fin 128, (l : ℕ) / 64 = b.toNat → q l = ((v (l % 64) : ℝ) : EReal)) : ∑ l, k l * q l = ((∑ d : Fin 64, u d * v d : ℝ) : EReal) := by
  cases b
  · rw [← esum_lo (fun d => u d * v d)]
    refine Finset.sum_congr rfl fun l _ => ?_
    rw [hk]
    by_cases h : (l : ℕ) < 64
    · rw [if_pos (by simp; omega), if_pos h, hq l (by simp; omega), ← EReal.coe_mul, Nat.mod_eq_of_lt h]
    · rw [if_neg (by simp; omega), if_neg h, EReal.coe_zero, zero_mul]
  · have e : ∑ d : Fin 64, u d * v d = ∑ d : Fin 64, (fun l => u (l - 64) * v (l - 64)) (64 + (d : ℕ)) := by simp
    rw [e, ← esum_hi (fun l => u (l - 64) * v (l - 64))]
    refine Finset.sum_congr rfl fun l _ => ?_
    rw [hk]
    by_cases h : (l : ℕ) < 64
    · rw [if_neg (by simp; omega), if_pos h, EReal.coe_zero, zero_mul]
    · have e2 : (l : ℕ) % 64 = l - 64 := by omega
      rw [if_pos (by simp; omega), if_neg h, hq l (by simp; omega), ← EReal.coe_mul, e2]

omit H in
theorem hd_div (b p : Bool) (c : Fin 512) : hd b p c / 8 = b.toNat := by unfold hd; cases p <;> simp <;> omega

theorem raw_real (j : Fin 256) (c : Fin 512) :
    raw W b p (ix2 j c) = if (j : ℕ) ≤ 128 + c % 128 ∧ (c : ℕ) % 128 < j then ((logit I n (hd b p c) (c % 128) j : ℝ) : EReal) else ⊥ := by
  pointwise [raw]
  rw [H.bias, half_dot (fun d => kn I (pos n j) b.toNat d) (fun d => qn I (128 * n + c % 128) (hd b p c) d * (1 / 8)) b
    (fun l => by rw [K_real H]; congr 1; split <;> simp_all) (fun l hl => Q_real H b p c l hl)]
  split
  · rw [← EReal.coe_add]; congr 1; unfold logit; rw [hd_div, Finset.sum_mul]; congr 1
    exact Finset.sum_congr rfl fun d _ => by ring
  · exact EReal.add_bot _

theorem lg_real (j : Fin 256) (c : Fin 512) : lg W b p (ix2 j c) = L I n (hd b p c) (c % 128) j := by
  pointwise [lg]
  unfold L AttnMath.on
  by_cases h : (j : ℕ) < 128
  · rw [dif_pos h, H.first]
    have e : raw W b p (ix2 ⟨j, by omega⟩ c) = _ := raw_real H b p j c
    by_cases hn : n = 0
    · rw [if_pos hn, if_neg (by omega)]; rfl
    · rw [if_neg hn]; refine Eq.trans (b := raw W b p (ix2 ⟨j, by omega⟩ c)) rfl (e.trans ?_)
      have : (128 ≤ (j : ℕ) ∨ 0 < n) := by omega
      simp only [this, and_true]
  · rw [dif_neg h]
    have e : raw W b p (ix2 j c) = _ := raw_real H b p j c
    have e2 : (⟨128 + ((j : ℕ) - 128), by omega⟩ : Fin 256) = j := Fin.ext (by dsimp only; omega)
    rw [e2]; refine e.trans ?_
    have : (128 ≤ (j : ℕ) ∨ 0 < n) := by omega
    simp only [this, and_true]

theorem snk_real (c : Fin 512) : snk W b p (ix2 0 c) = ((I.sk (hd b p c) : ℝ) : EReal) := by
  pointwise [snk]; exact H.sink b p c

theorem top_real (c : Fin 512) : ∃ M : ℝ, top W b p (ix2 0 c) = (M : EReal) := by
  pointwise [top]
  rw [snk_real H]
  have hlt : Finset.fold max (Ideal.ofBits .f32 4286578688#32) (fun x => lg W b p (ix2 x c)) Finset.univ < ⊤ := by
    rw [Finset.fold_max_lt]
    refine ⟨?_, fun x _ => ?_⟩
    · simp [Ideal.ofBits, Ideal.ieee]
    · rw [lg_real H]; unfold L; split
      · exact EReal.coe_lt_top _
      · exact bot_lt_top
  refine ⟨(max (Finset.fold max (Ideal.ofBits .f32 4286578688#32) (fun x => lg W b p (ix2 x c)) Finset.univ) ((I.sk (hd b p c) : ℝ) : EReal)).toReal, (EReal.coe_toReal ?_ ?_).symm⟩
  · exact (max_lt hlt (EReal.coe_lt_top _)).ne
  · exact (lt_of_lt_of_le (EReal.bot_lt_coe _) (le_max_right _ _)).ne'

/-- The weights, the sink's share and what the point makes of them. -/
theorem soft (c : Fin 512) : (∀ j : Fin 256, pr W b p (ix2 j c) = ((AttnMath.p I n (hd b p c) (c % 128) j : ℝ) : EReal)) ∧
    es W b p (ix2 0 c) * iv W b p (ix2 0 c) = ((ps I n (hd b p c) (c % 128) : ℝ) : EReal) := by
  obtain ⟨M, hM⟩ := top_real H b p c
  have hex : ∀ j : Fin 256, ex W b p (ix2 j c) = ((AttnMath.w I n (hd b p c) (c % 128) j * Real.exp (-M) : ℝ) : EReal) := fun j => by
    pointwise [ex]; rw [lg_real H, hM]; exact exp_L I _ _ _ _ M
  have hes : es W b p (ix2 0 c) = ((Real.exp (I.sk (hd b p c) - M) : ℝ) : EReal) := by
    pointwise [es]; rw [snk_real H, hM, ← EReal.coe_sub, Ideal.exp_coe]
  have hiv : iv W b p (ix2 0 c) = ((1 / (den I n (hd b p c) (c % 128) * Real.exp (-M)) : ℝ) : EReal) := by
    pointwise [iv]
    simp only [hex, hes, coe_sum, ← EReal.coe_add, den_shift]
    rw [Ideal.div_coe (mul_pos (den_pos I _ _ _) (Real.exp_pos _)).ne', one_mul]
  refine ⟨fun j => ?_, ?_⟩
  · pointwise [pr]; rw [hex, hiv, ← EReal.coe_mul, p_shift]
  · rw [hes, hiv, ← EReal.coe_mul, ps_shift]

theorem pr_real : A2 (pr W b p) (fun j c => AttnMath.p I n (hd b p c) (c % 128) j) := fun j c => (soft H b p c).1 j

theorem dP_real : A2 (dP W b p) (fun j c => AttnMath.dP I n (hd b p c) (c % 128) j) := fun j c => by
  pointwise [dP]
  rw [half_dot (fun d => zv I (pos n j) b.toNat d) (fun d => I.ct (128 * n + c % 128) (64 * hd b p c + d)) b
    (fun l => by rw [V_real H]; congr 1; split <;> simp_all) (fun l hl => G_real H b p c l hl)]
  unfold AttnMath.dP; rw [hd_div]

theorem dl_real : A2 (dl W b p) (fun _ c => AttnMath.dl I n (hd b p c) (c % 128)) := fun i c => by
  pointwise [dl]
  simp only [pr_real H b p _ c, dP_real H b p _ c, ← EReal.coe_mul, coe_sum]; rfl

theorem dS_real : A2 (dS W b p) (fun j c => AttnMath.dS I n (hd b p c) (c % 128) j) := fun j c => by
  pointwise [dS]
  rw [pr_real H, dP_real H, dl_real H, ← EReal.coe_sub, ← EReal.coe_mul]; rfl

theorem sk_real : A2 (sk W b p) (fun _ c => -(ps I n (hd b p c) (c % 128)) * AttnMath.dl I n (hd b p c) (c % 128)) := fun i c => by
  have hi : i = 0 := Subsingleton.elim _ _
  subst hi
  pointwise [sk]
  rw [(soft H b p c).2, dl_real H, ← EReal.coe_zero, ← EReal.coe_sub, ← EReal.coe_mul]
  congr 1; ring

omit H in
/-- A product over a group's columns. -/
theorem col_dot {x y : Fin 512 → EReal} (u v : ℕ → ℝ) (hx : ∀ c : Fin 512, x c = ((u c : ℝ) : EReal)) (hy : ∀ c : Fin 512, y c = ((v c : ℝ) : EReal)) :
    ∑ c, x c * y c = ((∑ c : Fin 512, u c * v c : ℝ) : EReal) := by
  simp only [hx, hy, ← EReal.coe_mul, coe_sum]

theorem vPart_real : A2 (vPart W b p) (fun j l => if l / 64 = b.toNat then ∑ c : Fin 512, AttnMath.p I n (hd b p c) (c % 128) j * I.ct (128 * n + c % 128) (64 * hd b p c + l % 64) else 0) := fun j l => by
  unfold vPart
  rw [pick_at]
  by_cases h : (l : ℕ) / 64 = b.toNat
  · simp only [if_pos h]
    pointwise
    exact col_dot (fun c => AttnMath.p I n (hd b p c) (c % 128) j) (fun c => I.ct (128 * n + c % 128) (64 * hd b p c + l % 64)) (fun c => pr_real H b p j c) (fun c => G_real H b p c l h)
  · simp only [if_neg h]; rfl

theorem kPart_real : A2 (kPart W b p) (fun j l => if l / 64 = b.toNat then ∑ c : Fin 512, AttnMath.dS I n (hd b p c) (c % 128) j * (qn I (128 * n + c % 128) (hd b p c) (l % 64) * (1 / 8)) else 0) := fun j l => by
  unfold kPart
  rw [pick_at]
  by_cases h : (l : ℕ) / 64 = b.toNat
  · simp only [if_pos h]
    pointwise
    exact col_dot (fun c => AttnMath.dS I n (hd b p c) (c % 128) j) (fun c => qn I (128 * n + c % 128) (hd b p c) (l % 64) * (1 / 8)) (fun c => dS_real H b p j c) (fun c => Q_real H b p c l h)
  · simp only [if_neg h]; rfl

omit H in
/-- The columns of a key head's two groups are its eight heads' rows. -/
theorem groups (k : ℕ) (F : ℕ → ℕ → ℝ) :
    ∑ c : Fin 512, F (8 * k + 4 * Bool.toNat false + c / 128) (c % 128) + ∑ c : Fin 512, F (8 * k + 4 * Bool.toNat true + c / 128) (c % 128) = ∑ g : Fin 8, ∑ r : Fin 128, F (8 * k + g) r := by
  have h : ∀ a : ℕ, ∑ c : Fin 512, F (a + c / 128) (c % 128) = ∑ g : Fin 4, ∑ r : Fin 128, F (a + g) r := fun a => by
    rw [← Fintype.sum_prod_type' (f := fun (g : Fin 4) (r : Fin 128) => F (a + g) r)]
    refine (Fintype.sum_equiv (finProdFinEquiv (m := 4) (n := 128)) _ _ fun x => ?_).symm
    have h2 := x.2.isLt
    simp only [finProdFinEquiv_apply_val]
    congr 1
    · omega
    · omega
  rw [h, h, Fin.sum_univ_add (a := 4) (b := 4)]
  simp only [Fin.val_castAdd, Fin.val_natAdd, Bool.toNat_false, Bool.toNat_true, Nat.mul_zero, Nat.mul_one, Nat.add_zero, Nat.add_assoc]

theorem vAll_real : A2 (vAll W) (fun j l => dvb I n (l / 64) j (l % 64)) := fun j l => by
  have hl := l.isLt
  pointwise [vAll, zero2]
  simp only [vPart_real H _ _ j l]
  have g := groups (l / 64) (fun h r => AttnMath.p I n h r j * I.ct (128 * n + r) (64 * h + l % 64))
  rcases (by omega : (l : ℕ) / 64 = 0 ∨ (l : ℕ) / 64 = 1) with h | h
  · simp only [h, Bool.toNat_false, Bool.toNat_true, if_true, zero_ne_one, if_false, EReal.coe_zero, zero_add, add_zero, ← EReal.coe_add]
    rw [h] at g; unfold dvb hd; exact congrArg _ g
  · simp only [h, Bool.toNat_false, Bool.toNat_true, if_true, one_ne_zero, if_false, EReal.coe_zero, zero_add, add_zero, ← EReal.coe_add]
    rw [h] at g; unfold dvb hd; exact congrArg _ g

theorem kAll_real : A2 (kAll W) (fun j l => dkb I n (l / 64) j (l % 64)) := fun j l => by
  have hl := l.isLt
  pointwise [kAll, zero2]
  simp only [kPart_real H _ _ j l]
  have g := groups (l / 64) (fun h r => AttnMath.dS I n h r j * (qn I (128 * n + r) h (l % 64) * (1 / 8)))
  rcases (by omega : (l : ℕ) / 64 = 0 ∨ (l : ℕ) / 64 = 1) with h | h
  · simp only [h, Bool.toNat_false, Bool.toNat_true, if_true, zero_ne_one, if_false, EReal.coe_zero, zero_add, add_zero, ← EReal.coe_add]
    rw [h] at g; unfold dkb hd; exact congrArg _ g
  · simp only [h, Bool.toNat_false, Bool.toNat_true, if_true, one_ne_zero, if_false, EReal.coe_zero, zero_add, add_zero, ← EReal.coe_add]
    rw [h] at g; unfold dkb hd; exact congrArg _ g

theorem dQ_real : A2 (dQ W b p) (fun c l => if l / 64 = b.toNat then (∑ j : Fin 256, AttnMath.dS I n (hd b p c) (c % 128) j * kn I (pos n j) b.toNat (l % 64)) * (1 / 8) else 0) := fun c l => by
  pointwise [dQ]
  simp only [dS_real H b p _ c, K_real H b _ l, ← EReal.coe_mul, coe_sum, c8]
  by_cases h : (l : ℕ) / 64 = b.toNat
  · simp only [if_pos h]; rw [h]
  · simp only [if_neg h, mul_zero, Finset.sum_const_zero, zero_mul]

omit H in
theorem dqn_at (I : In) (n h r d : ℕ) (hr : r < 128) : dqn I (128 * n + r) h d = (∑ j : Fin 256, AttnMath.dS I n h r j * kn I (pos n j) (h / 8) d) * (1 / 8) := by
  unfold dqn
  have e1 : (128 * n + r) / 128 = n := by omega
  have e2 : (128 * n + r) % 128 = r := by omega
  rw [e1, e2]

/-- Rows of a group's columns, one head's tile each: the tile on the lanes of its half, zero on the others. -/
theorem tile_real (a : ℕ) (ha : a < 4) (r l : Fin 128) : dQ W b p (ix2 ⟨128 * a + r, by omega⟩ l) =
    (((if (l : ℕ) / 64 = b.toNat then dqn I (128 * n + r) (8 * b.toNat + 4 * p.toNat + a) (l % 64) else 0) : ℝ) : EReal) := by
  have hr := r.isLt
  rw [dQ_real H]
  have e1 : (128 * a + (r : ℕ)) % 128 = r := by omega
  have e2 : hd b p (128 * a + r) = 8 * b.toNat + 4 * p.toNat + a := by unfold hd; omega
  have e3 : (8 * b.toNat + 4 * p.toNat + a) / 8 = b.toNat := by cases p <;> simp <;> omega
  dsimp only
  rw [e1, e2, dqn_at I n _ r _ hr, e3]

omit H in
/-- Two tiles that hold one half each, put on both halves. -/
theorem join_real (b : Bool) {x y : FVec Ideal S128x128 .f32} {u v : ℕ → ℕ → ℝ} (hx : ∀ r l : Fin 128, x (ix2 r l) = (((if (l : ℕ) / 64 = b.toNat then u r (l % 64) else 0) : ℝ) : EReal))
    (hy : ∀ r l : Fin 128, y (ix2 r l) = (((if (l : ℕ) / 64 = b.toNat then v r (l % 64) else 0) : ℝ) : EReal)) :
    A2 (join (F := Ideal) b x y) (fun r l => if l / 64 = 0 then u r (l % 64) else v r (l % 64)) := fun r l => by
  have hl := l.isLt
  have hX : A2 x (fun r l => if l / 64 = b.toNat then u r (l % 64) else 0) := hx
  have hY : A2 y (fun r l => if l / 64 = b.toNat then v r (l % 64) else 0) := hy
  have e : ((l : ℕ) + 64) % 128 % 64 = l % 64 := by omega
  cases b <;> simp only [join, Bool.false_eq_true, if_false, if_true, Bool.toNat_false, Bool.toNat_true] at hX hY ⊢ <;> pointwise
  · rw [hX, rot_real hY, ← EReal.coe_add]
    congr 1; dsimp only; rw [e]
    by_cases h : (l : ℕ) / 64 = 0
    · rw [if_pos h, if_pos h, if_neg (by omega), add_zero]
    · rw [if_neg h, if_neg h, if_pos (by omega), zero_add]
  · rw [rot_real hX, hY, ← EReal.coe_add]
    congr 1; dsimp only; rw [e]
    by_cases h : (l : ℕ) / 64 = 0
    · rw [if_pos h, if_pos (by omega), if_neg (by omega), add_zero]
    · rw [if_neg h, if_neg (by omega), if_pos (by omega), zero_add]

theorem dy_real (e : Bool) : A2 (dy W b p e) (fun r l => dqn I (128 * n + r) (8 * b.toNat + 4 * p.toNat + 2 * e.toNat + l / 64) (l % 64)) := by
  cases e <;> simp only [dy, Bool.false_eq_true, if_false, if_true]
  · refine (join_real b (u := fun r d => dqn I (128 * n + r) (8 * b.toNat + 4 * p.toNat + 0) d) (v := fun r d => dqn I (128 * n + r) (8 * b.toNat + 4 * p.toNat + 1) d)
      (fun r l => ?_) (fun r l => ?_)).congr fun r l _ hl => ?_
    · pointwise [tile0]; have := tile_real H b p 0 (by decide) r l; refine Eq.trans ?_ this; congr 2; simp
    · pointwise [tile1]; have := tile_real H b p 1 (by decide) r l; rw [← this]
    · simp only [Bool.toNat_false]
      rcases (by omega : l / 64 = 0 ∨ l / 64 = 1) with h | h <;> simp [h]
  · refine (join_real b (u := fun r d => dqn I (128 * n + r) (8 * b.toNat + 4 * p.toNat + 2) d) (v := fun r d => dqn I (128 * n + r) (8 * b.toNat + 4 * p.toNat + 3) d)
      (fun r l => ?_) (fun r l => ?_)).congr fun r l _ hl => ?_
    · pointwise [tile2]; have := tile_real H b p 2 (by decide) r l; rw [← this]
    · pointwise [tile3]; have := tile_real H b p 3 (by decide) r l; rw [← this]
    · simp only [Bool.toNat_true]
      rcases (by omega : l / 64 = 0 ∨ l / 64 = 1) with h | h <;> simp [h]

omit H in
theorem nb_congr (f : ℕ → ℝ) {a c : ℕ → ℝ} (h : ∀ d < 64, a d = c d) (d : ℕ) (hd : d < 64) : nb f a d = nb f c d := by
  unfold nb
  rw [h d hd]
  congr 4
  exact Finset.sum_congr rfl fun k _ => by rw [h k k.isLt]

omit H in
theorem ln_at (g : ℕ → ℕ → ℕ → ℝ) (r l d : ℕ) (hd : d < 64) : ln (fun r l => g r (l / 64) (l % 64)) r l d = g r (l / 64) d := by
  unfold ln; dsimp only
  have a1 : (64 * (l / 64) + d) / 64 = l / 64 := by omega
  have a2 : (64 * (l / 64) + d) % 64 = d := by omega
  rw [a1, a2]

theorem qOut_real (e : Bool) : A2 (qOut W b p e) (fun r l => dq I (128 * n + r) (8 * b.toNat + 4 * p.toNat + 2 * e.toNat + l / 64) (l % 64)) := fun r l => by
  pointwise [qOut]
  have hd' : A2 (mulf (F := Ideal) (dy W b p e) (broadcastTo S128x128 (k1_pay4 W.qg) broadcasts_S1x128_S128x128))
      (fun r l => dqn I (128 * n + r) (8 * b.toNat + 4 * p.toNat + 2 * e.toNat + l / 64) (l % 64) * I.qg (l % 64)) := fun r l => by
    pointwise [k1_pay4]
    rw [dy_real H, H.qg, ← EReal.coe_mul]
  rw [back_real (H.q b p e) hd' r l]
  have e1 : ln (fun r l => I.z (128 * n + r) (1024 + (512 * b.toNat + 256 * p.toNat + (128 * e.toNat + l)))) r l = zq I (128 * n + r) (8 * b.toNat + 4 * p.toNat + 2 * e.toNat + l / 64) := by
    funext d; unfold ln zq; dsimp only; congr 1; omega
  dsimp only
  rw [e1]; unfold dq
  congr 1
  exact nb_congr _ (fun d hd => ln_at (fun r h d => dqn I (128 * n + r) (8 * b.toNat + 4 * p.toNat + 2 * e.toNat + h) d * I.qg d) _ _ _ hd) _ (Nat.mod_lt _ (by decide))

theorem gPart_real (e : Bool) : A2 (gPart W b p e) (fun _ l => ∑ r : Fin 128, dqn I (128 * n + r) (8 * b.toNat + 4 * p.toNat + 2 * e.toNat + l / 64) (l % 64) *
    hat (zq I (128 * n + r) (8 * b.toNat + 4 * p.toNat + 2 * e.toNat + l / 64)) (l % 64)) := fun i l => by
  pointwise [gPart]
  simp only [dy_real H b p e _ l, q_hat H b p e _ l, ← EReal.coe_mul, coe_sum]

/-- A point's part of the query gain's gradient, on both halves of the lanes. -/
theorem gAll_real : A2 (gAll W) (fun _ l => ∑ t : Fin 8, ∑ r : Fin 128, dqn I (128 * n + r) (2 * t + l / 64) (l % 64) * hat (zq I (128 * n + r) (2 * t + l / 64)) (l % 64)) := fun i l => by
  pointwise [gAll, gAdd]
  simp only [gPart_real H _ _ _ i l, ← EReal.coe_add, zero_add, Fin.sum_univ_eight]
  rfl

/-- The keys' gradient through their norm. -/
theorem kDot (j : Fin 256) (l : Fin 128) : k1_pay176 (F := Ideal) (k1_pay5 W.kg) (kAll W) (ix2 j l) = ((dkb I n (l / 64) j (l % 64) * I.kg (l % 64) : ℝ) : EReal) := by
  pointwise [k1_pay176, k1_pay5]
  rw [kAll_real H, H.kg, ← EReal.coe_mul]

theorem kBack (j : Fin 256) (l : Fin 128) :
    k1_pay178 (F := Ideal) k1_pay2 (k1_pay7 W.k0 W.k1) (k1_pay8 W.k0 W.k1) (kIn W) (k1_pay177 (k1_pay5 W.kg) (k1_pay8 W.k0 W.k1) (kAll W)) (ix2 j l) =
      ((nb (zk I (pos n j) (l / 64)) (fun d => dkb I n (l / 64) j d * I.kg d) (l % 64) : ℝ) : EReal) := by
  have e : ∀ k : Fin 128, kAll W (ix2 j k) * k1_pay5 W.kg (ix2 0 k) = ((dkb I n (k / 64) j (k % 64) * I.kg (k % 64) : ℝ) : EReal) := fun k => by
    have h := kDot H j k
    pointwise [k1_pay176] at h
    exact h
  pointwise [k1_pay178, k1_pay177, k1_pay176, kIn, k1_pay2]
  simp only [sel_lane, e, k_hat H j, k_rr H j, ← EReal.coe_mul,
    esum_lo (fun k => dkb I n (k / 64) j (k % 64) * I.kg (k % 64) * hat (zk I (pos n j) (k / 64)) (k % 64)),
    esum_hi (fun k => dkb I n (k / 64) j (k % 64) * I.kg (k % 64) * hat (zk I (pos n j) (k / 64)) (k % 64))]
  rw [half_sum l (fun k => dkb I n (k / 64) j (k % 64) * I.kg (k % 64) * hat (zk I (pos n j) (k / 64)) (k % 64)), c64, ← EReal.coe_mul, ← EReal.coe_mul, ← EReal.coe_sub, ← EReal.coe_mul]
  congr 1
  unfold nb
  congr 4
  refine Finset.sum_congr rfl fun k _ => ?_
  have a1 : (64 * ((l : ℕ) / 64) + (k : ℕ)) / 64 = l / 64 := by omega
  have a2 : (64 * ((l : ℕ) / 64) + (k : ℕ)) % 64 = k := by omega
  rw [a1, a2]

theorem kOut0_real : A2 (kOut0 W) (fun j l => nb (zk I (pos n j) (l / 64)) (fun d => dkb I n (l / 64) j d * I.kg d) (l % 64)) := fun j l => by
  pointwise [kOut0, k1_pay180]; exact kBack H ⟨j, by omega⟩ l

theorem kOut1_real : A2 (kOut1 W) (fun j l => nb (zk I (pos n (128 + j)) (l / 64)) (fun d => dkb I n (l / 64) (128 + j) d * I.kg d) (l % 64)) := fun j l => by
  pointwise [kOut1, k1_pay181]; exact kBack H ⟨128 + j, by omega⟩ l

theorem vOut0_real : A2 (vOut0 W) (fun j l => dvb I n (l / 64) j (l % 64)) := fun j l => by
  pointwise [vOut0, k1_pay182]; exact vAll_real H ⟨j, by omega⟩ l

theorem vOut1_real : A2 (vOut1 W) (fun j l => dvb I n (l / 64) (128 + j) (l % 64)) := fun j l => by
  pointwise [vOut1, k1_pay183]; exact vAll_real H ⟨128 + j, by omega⟩ l

omit H in
/-- What a point adds to the two gains' rows. -/
def gainPart (I : In) (n i l : ℕ) : ℝ :=
  if i < 1 then ∑ t : Fin 8, ∑ r : Fin 128, dqn I (128 * n + r) (2 * t + l / 64) (l % 64) * hat (zq I (128 * n + r) (2 * t + l / 64)) (l % 64)
  else if i < 2 then ∑ j : Fin 256, dkb I n (l / 64) j (l % 64) * hat (zk I (pos n j) (l / 64)) (l % 64) else 0

theorem gains_real (acc : Vec Ideal S8x128 .f32) (i : Fin 8) (l : Fin 128) : gains W acc (ix2 i l) = acc (ix2 i l) + ((gainPart I n i l : ℝ) : EReal) := by
  have g := fun a : Fin 1 => gAll_real H a l
  have k := fun j => kAll_real H j l
  have kh := fun j => k_hat H j l
  unfold gains
  generalize gAll W = G at g ⊢
  generalize kAll W = A at k ⊢
  generalize k1_pay8 W.k0 W.k1 = B at kh ⊢
  pointwise [k1_pay1, k1_pay179]
  congr 1
  unfold gainPart
  by_cases h : (i : ℕ) < 1
  · rw [dif_pos h, if_pos h]; exact g _
  · rw [dif_neg h, if_neg h]
    by_cases h2 : (i : ℕ) < 2
    · rw [if_pos h2, dif_pos (by omega)]
      simp only [k, kh, ← EReal.coe_mul, coe_sum]
    · rw [if_neg h2, dif_neg (by omega)]; rfl

end Cert.AttnKer
-- ==== Proof.AttnOut.lean ====
/- What one grid point of the attention's backward kernel stores, by the chain of arrays over what it loads. -/
module

public import proofs.«01_k».proof.Proof.AttnKer
public import proofs.«01_k».proof.Proof.Gen.AttnIdeal.Frame.Region1
public import Idealize.ShloMosaic.Lib.Pipeline.ValueKit

@[expose] public section

set_option maxRecDepth 16384

noncomputable section

namespace Cert.AttnKer

open Idealize.ShloMosaic Cert.AttnIdeal Cert.AttnIdeal.Gen Idealize.ShloMosaic.Tactic Idealize.ShloMosaic.TcCoe

variable {F : FTy → Type} [FloatOps F] [Named F]
variable (V : (c : Dev nD) → (b : Ref sig .tc) → Buf (Elt F) ((c : Thread nD τ).loc b)) (c : Dev nD) (t : Fin cfg1.N)

abbrev at' (p e : Bool) : ℕ := 256 * p.toNat + 128 * e.toNat

theorem inq (p e : Bool) : ∀ d, (![0, at' p e] : Fin 2 → ℕ) d + S128x128.size d ≤ S128x512.size d := by cases p <;> cases e <;> decide
theorem ing (b p e : Bool) : ∀ d, (![0, 512 * b.toNat + at' p e] : Fin 2 → ℕ) d + S128x128.size d ≤ S128x1024.size d := by cases b <;> cases p <;> cases e <;> decide
theorem inb (b p : Bool) : ∀ d, (![b.toNat, 0, 512 * p.toNat] : Fin 3 → ℕ) d + S1x256x512.size d ≤ S2x256x1024.size d := by cases b <;> cases p <;> decide
theorem ins (b p : Bool) : ∀ d, (![b.toNat, 0, 512 * p.toNat] : Fin 3 → ℕ) d + S1x1x512.size d ≤ S2x1x1024.size d := by cases b <;> cases p <;> decide
theorem in0 (s : Shape) : ∀ d, (![0, 0] : Fin 2 → ℕ) d + S128x128.size d ≤ S128x128.size d := by decide
theorem in1 : ∀ d, (![0, 0] : Fin 2 → ℕ) d + S1x128.size d ≤ S1x128.size d := by decide

theorem in8 : ∀ d, (![0, 0] : Fin 2 → ℕ) d + S8x128.size d ≤ S8x128.size d := by decide
theorem in16 : ∀ d, (![0, 0, 0] : Fin 3 → ℕ) d + S2x256x1024.size d ≤ S2x256x1024.size d := by decide
theorem in17 : ∀ d, (![0, 0, 0] : Fin 3 → ℕ) d + S2x1x1024.size d ≤ S2x1x1024.size d := by decide

/-- What point `t` loads from the blocks of the windows. -/
def ld : Ld F where
  n := BitVec.ofNat 32 ((grid1.coords t) 0).val
  q b p e := if b then View.readAt (Elt F) (ms1_1 t).view (Rect.unit (s := S128x512) ![0, at' p e] S128x128.size (inq p e)).toLoadRect ((hs1_1 t).unread (iblk1 V c 1 t))
    else View.readAt (Elt F) (ms1_0 t).view (Rect.unit (s := S128x512) ![0, at' p e] S128x128.size (inq p e)).toLoadRect ((hs1_0 t).unread (iblk1 V c 0 t))
  g b p e := View.readAt (Elt F) (ms1_10 t).view (Rect.unit (s := S128x1024) ![0, 512 * b.toNat + at' p e] S128x128.size (ing b p e)).toLoadRect ((hs1_10 t).unread (iblk1 V c 10 t))
  k0 := View.readAt (Elt F) (ms1_2 t).view (Rect.unit (s := S128x128) ![0, 0] S128x128.size (in0 S128x128)).toLoadRect ((hs1_2 t).unread (iblk1 V c 2 t))
  k1 := View.readAt (Elt F) (ms1_3 t).view (Rect.unit (s := S128x128) ![0, 0] S128x128.size (in0 S128x128)).toLoadRect ((hs1_3 t).unread (iblk1 V c 3 t))
  v0 := View.readAt (Elt F) (ms1_4 t).view (Rect.unit (s := S128x128) ![0, 0] S128x128.size (in0 S128x128)).toLoadRect ((hs1_4 t).unread (iblk1 V c 4 t))
  v1 := View.readAt (Elt F) (ms1_5 t).view (Rect.unit (s := S128x128) ![0, 0] S128x128.size (in0 S128x128)).toLoadRect ((hs1_5 t).unread (iblk1 V c 5 t))
  qg := View.readAt (Elt F) (ms1_6 t).view (Rect.unit (s := S1x128) ![0, 0] S1x128.size in1).toLoadRect ((hs1_6 t).unread (iblk1 V c 6 t))
  kg := View.readAt (Elt F) (ms1_7 t).view (Rect.unit (s := S1x128) ![0, 0] S1x128.size in1).toLoadRect ((hs1_7 t).unread (iblk1 V c 7 t))
  bias b p := View.readAt (Elt F) (ms1_9 t).view (Rect.unit (s := S2x256x1024) ![b.toNat, 0, 512 * p.toNat] S1x256x512.size (inb b p)).toLoadRect ((hs1_9 t).unread (iblk1 V c 9 t))
  sink b p := View.readAt (Elt F) (ms1_8 t).view (Rect.unit (s := S2x1x1024) ![b.toNat, 0, 512 * p.toNat] S1x1x512.size (ins b p)).toLoadRect ((hs1_8 t).unread (iblk1 V c 8 t))

abbrev whole : Rect S128x128 := Rect.unit (s := S128x128) ![0, 0] S128x128.size (in0 S128x128)
abbrev whole8 : Rect S8x128 := Rect.unit (s := S8x128) ![0, 0] S8x128.size in8
abbrev whole16 : Rect S2x256x1024 := Rect.unit (s := S2x256x1024) ![0, 0, 0] S2x256x1024.size in16
abbrev whole17 : Rect S2x1x1024 := Rect.unit (s := S2x1x1024) ![0, 0, 0] S2x1x1024.size in17
abbrev rg (b p e : Bool) : Rect S128x1024 := Rect.unit (s := S128x1024) ![0, 512 * b.toNat + at' p e] S128x128.size (ing b p e)
abbrev rb (b p : Bool) : Rect S2x256x1024 := Rect.unit (s := S2x256x1024) ![b.toNat, 0, 512 * p.toNat] S1x256x512.size (inb b p)
abbrev rs (b p : Bool) : Rect S2x1x1024 := Rect.unit (s := S2x1x1024) ![b.toNat, 0, 512 * p.toNat] S1x1x512.size (ins b p)

/-- The contents two accumulated outputs had before the point. -/
abbrev prev16 : Vec F S2x256x1024 .f32 := (outsAt1 V c (t.val - 1) (Nat.lt_of_le_of_lt (Nat.sub_le _ _) t.isLt)).2.2.2.2.2.1
abbrev prev17 : Vec F S2x1x1024 .f32 := (outsAt1 V c (t.val - 1) (Nat.lt_of_le_of_lt (Nat.sub_le _ _) t.isLt)).2.2.2.2.2.2.1
abbrev prev18 : Vec F S8x128 .f32 := (outsAt1 V c (t.val - 1) (Nat.lt_of_le_of_lt (Nat.sub_le _ _) t.isLt)).2.2.2.2.2.2.2

/-- One store of the logits' gradient, and of the sinks', over what was loaded. -/
def st16 (W : Ld F) (b p : Bool) (a : Vec F S1x256x512 .f32) : View.Piece (Elt F) S2x256x1024 .f32 := ⟨rb b p, k1_pay45 (dS W b p) a⟩
def st17 (W : Ld F) (b p : Bool) (a : Vec F S1x1x512 .f32) : View.Piece (Elt F) S2x1x1024 .f32 :=
  ⟨rs b p, k1_pay44 (addf (shapeCast S1x512 a shapeCasts_S1x1x512_S1x512) (sk W b p))⟩

/-- The stores of the first point: over the zeros that it stored before. -/
def add16 (W : Ld F) (b p : Bool) (L : List (View.Piece (Elt F) S2x256x1024 .f32)) : List (View.Piece (Elt F) S2x256x1024 .f32) :=
  st16 W b p ((ms1_16 t).view.readCov L (rb b p).toLoadRect) :: L
def add17 (W : Ld F) (b p : Bool) (L : List (View.Piece (Elt F) S2x1x1024 .f32)) : List (View.Piece (Elt F) S2x1x1024 .f32) :=
  st17 W b p ((ms1_17 t).view.readCov L (rs b p).toLoadRect) :: L

/-- A load of what an accumulated output held before the point. -/
def old16 (b p : Bool) : Vec F S1x256x512 .f32 := View.readAt (Elt F) (ms1_16 t).view (rb b p).toLoadRect ((hs1_16 t).unread (prev16 V c t))
def old17 (b p : Bool) : Vec F S1x1x512 .f32 := View.readAt (Elt F) (ms1_17 t).view (rs b p).toLoadRect ((hs1_17 t).unread (prev17 V c t))
def old18 : Vec F S8x128 .f32 := View.readAt (Elt F) (ms1_18 t).view (Rect.unit (s := S8x128) ![0, 0] S8x128.size in8).toLoadRect ((hs1_18 t).unread (prev18 V c t))

/-- The eight stores of the queries' gradient. -/
def pieces (W : Ld F) : List (View.Piece (Elt F) S128x1024 .bf16) :=
  [⟨rg true true true, qOut W true true true⟩, ⟨rg true true false, qOut W true true false⟩,
   ⟨rg true false true, qOut W true false true⟩, ⟨rg true false false, qOut W true false false⟩,
   ⟨rg false true true, qOut W false true true⟩, ⟨rg false true false, qOut W false true false⟩,
   ⟨rg false false true, qOut W false false true⟩, ⟨rg false false false, qOut W false false false⟩]

theorem out12 : (outsAt1 V c t.val t.isLt).2.1 = kOut0 (ld V c t) := by
  by_cases h0 : t.val % 64 = 0
  · rw [outsAt1_A V c t h0]; dsimp only; unfold out1_A_12; rw [View.read_writes_junk_eq_canon]
    refine Eq.trans (b := View.canon [(⟨whole, kOut0 (ld V c t)⟩ : View.Piece (Elt F) S128x128 .f32)]) (congrArg View.canon ?_) (View.canon_cons_unit_lit' _ _ _ (by decide))
    sl_kernel_rfl
  · rw [outsAt1_B V c t h0]; dsimp only; unfold out1_B_12; rw [View.read_writes_junk_eq_canon]
    refine Eq.trans (b := View.canon [(⟨whole, kOut0 (ld V c t)⟩ : View.Piece (Elt F) S128x128 .f32)]) (congrArg View.canon ?_) (View.canon_cons_unit_lit' _ _ _ (by decide))
    sl_kernel_rfl

theorem out13 : (outsAt1 V c t.val t.isLt).2.2.1 = kOut1 (ld V c t) := by
  by_cases h0 : t.val % 64 = 0
  · rw [outsAt1_A V c t h0]; dsimp only; unfold out1_A_13; rw [View.read_writes_junk_eq_canon]
    refine Eq.trans (b := View.canon [(⟨whole, kOut1 (ld V c t)⟩ : View.Piece (Elt F) S128x128 .f32)]) (congrArg View.canon ?_) (View.canon_cons_unit_lit' _ _ _ (by decide))
    sl_kernel_rfl
  · rw [outsAt1_B V c t h0]; dsimp only; unfold out1_B_13; rw [View.read_writes_junk_eq_canon]
    refine Eq.trans (b := View.canon [(⟨whole, kOut1 (ld V c t)⟩ : View.Piece (Elt F) S128x128 .f32)]) (congrArg View.canon ?_) (View.canon_cons_unit_lit' _ _ _ (by decide))
    sl_kernel_rfl

theorem out14 : (outsAt1 V c t.val t.isLt).2.2.2.1 = vOut0 (ld V c t) := by
  by_cases h0 : t.val % 64 = 0
  · rw [outsAt1_A V c t h0]; dsimp only; unfold out1_A_14; rw [View.read_writes_junk_eq_canon]
    refine Eq.trans (b := View.canon [(⟨whole, vOut0 (ld V c t)⟩ : View.Piece (Elt F) S128x128 .f32)]) (congrArg View.canon ?_) (View.canon_cons_unit_lit' _ _ _ (by decide))
    sl_kernel_rfl
  · rw [outsAt1_B V c t h0]; dsimp only; unfold out1_B_14; rw [View.read_writes_junk_eq_canon]
    refine Eq.trans (b := View.canon [(⟨whole, vOut0 (ld V c t)⟩ : View.Piece (Elt F) S128x128 .f32)]) (congrArg View.canon ?_) (View.canon_cons_unit_lit' _ _ _ (by decide))
    sl_kernel_rfl

theorem out15 : (outsAt1 V c t.val t.isLt).2.2.2.2.1 = vOut1 (ld V c t) := by
  by_cases h0 : t.val % 64 = 0
  · rw [outsAt1_A V c t h0]; dsimp only; unfold out1_A_15; rw [View.read_writes_junk_eq_canon]
    refine Eq.trans (b := View.canon [(⟨whole, vOut1 (ld V c t)⟩ : View.Piece (Elt F) S128x128 .f32)]) (congrArg View.canon ?_) (View.canon_cons_unit_lit' _ _ _ (by decide))
    sl_kernel_rfl
  · rw [outsAt1_B V c t h0]; dsimp only; unfold out1_B_15; rw [View.read_writes_junk_eq_canon]
    refine Eq.trans (b := View.canon [(⟨whole, vOut1 (ld V c t)⟩ : View.Piece (Elt F) S128x128 .f32)]) (congrArg View.canon ?_) (View.canon_cons_unit_lit' _ _ _ (by decide))
    sl_kernel_rfl

theorem out11 : (outsAt1 V c t.val t.isLt).1 = View.canon (pieces (ld V c t)) := by
  by_cases h0 : t.val % 64 = 0
  · rw [outsAt1_A V c t h0]; dsimp only; unfold out1_A_11; rw [View.read_writes_junk_eq_canon]
    refine congrArg View.canon ?_
    sl_kernel_rfl
  · rw [outsAt1_B V c t h0]; dsimp only; unfold out1_B_11; rw [View.read_writes_junk_eq_canon]
    refine congrArg View.canon ?_
    sl_kernel_rfl

theorem out16_A (h0 : t.val % 64 = 0) : (outsAt1 V c t.val t.isLt).2.2.2.2.2.1
    = View.canon (add16 t (ld V c t) true true (add16 t (ld V c t) true false (add16 t (ld V c t) false true (add16 t (ld V c t) false false [⟨whole16, k1_pay12⟩])))) := by
  rw [outsAt1_A V c t h0]; dsimp only; unfold out1_A_16; rw [View.read_writes_junk_eq_canon]
  refine congrArg View.canon ?_
  sl_kernel_rfl

theorem out16_B (h0 : ¬ t.val % 64 = 0) : (outsAt1 V c t.val t.isLt).2.2.2.2.2.1
    = View.canon [st16 (ld V c t) true true (old16 V c t true true), st16 (ld V c t) true false (old16 V c t true false),
        st16 (ld V c t) false true (old16 V c t false true), st16 (ld V c t) false false (old16 V c t false false)] := by
  rw [outsAt1_B V c t h0]; dsimp only; unfold out1_B_16; rw [View.read_writes_junk_eq_canon]
  refine congrArg View.canon ?_
  sl_kernel_rfl

theorem out17_A (h0 : t.val % 64 = 0) : (outsAt1 V c t.val t.isLt).2.2.2.2.2.2.1
    = View.canon (add17 t (ld V c t) true true (add17 t (ld V c t) true false (add17 t (ld V c t) false true (add17 t (ld V c t) false false [⟨whole17, k1_pay13⟩])))) := by
  rw [outsAt1_A V c t h0]; dsimp only; unfold out1_A_17; rw [View.read_writes_junk_eq_canon]
  refine congrArg View.canon ?_
  sl_kernel_rfl

theorem out17_B (h0 : ¬ t.val % 64 = 0) : (outsAt1 V c t.val t.isLt).2.2.2.2.2.2.1
    = View.canon [st17 (ld V c t) true true (old17 V c t true true), st17 (ld V c t) true false (old17 V c t true false),
        st17 (ld V c t) false true (old17 V c t false true), st17 (ld V c t) false false (old17 V c t false false)] := by
  rw [outsAt1_B V c t h0]; dsimp only; unfold out1_B_17; rw [View.read_writes_junk_eq_canon]
  refine congrArg View.canon ?_
  sl_kernel_rfl

theorem canon8 (w : Vec F S8x128 .f32) (L : List (View.Piece (Elt F) S8x128 .f32)) : View.canon ((⟨whole8, w⟩ : View.Piece (Elt F) S8x128 .f32) :: L) = w :=
  View.canon_cons_unit_lit' in8 w L (by decide)

/-- The zeros the first point stores, and their load. -/
def zero8 : List (View.Piece (Elt F) S8x128 .f32) := [⟨whole8, (k1_pay14 : FVec F S8x128 .f32)⟩]
def old18_A : Vec F S8x128 .f32 := (ms1_18 t).view.readCov (zero8 (F := F)) whole8.toLoadRect

theorem out18_A (h0 : t.val % 64 = 0) : (outsAt1 V c t.val t.isLt).2.2.2.2.2.2.2 = gains (ld V c t) (old18_A t) := by
  rw [outsAt1_A V c t h0]; dsimp only; unfold out1_A_18; rw [View.read_writes_junk_eq_canon]
  refine Eq.trans (b := View.canon ((⟨whole8, gains (ld V c t) (old18_A t)⟩ : View.Piece (Elt F) S8x128 .f32) :: zero8)) (congrArg View.canon ?_) ?_
  · sl_kernel_rfl
  · exact canon8 _ _

theorem out18_B (h0 : ¬ t.val % 64 = 0) : (outsAt1 V c t.val t.isLt).2.2.2.2.2.2.2 = gains (ld V c t) (old18 V c t) := by
  rw [outsAt1_B V c t h0]; dsimp only; unfold out1_B_18; rw [View.read_writes_junk_eq_canon]
  refine Eq.trans (b := View.canon [(⟨whole8, gains (ld V c t) (old18 V c t)⟩ : View.Piece (Elt F) S8x128 .f32)]) (congrArg View.canon ?_) (canon8 _ _)
  sl_kernel_rfl

end Cert.AttnKer
-- ==== Proof.AttnReg.lean ====
/- The attention's backward kernel over its whole grid: what its eight output arrays hold, by the part's formulas, when its inputs hold the part's inputs. -/
module

public import proofs.«01_k».proof.Proof.AttnVal
public import proofs.«01_k».proof.Proof.AttnOut
public import Idealize.ShloMosaic.Lib.Pipeline.ReadBack

@[expose] public section

set_option maxRecDepth 16384

noncomputable section

open Idealize.ShloMosaic Idealize.ShloMosaic.TcCoe

namespace Cert.AttnKer
open Cert.Reals Cert.AttnMath Cert.AttnIdeal Cert.AttnIdeal.Gen

variable (V : (c : Dev nD) → (b : Ref sig .tc) → Buf (Elt Ideal) ((c : Thread nD τ).loc b)) (c : Dev nD)

/-- The arrays the kernel is called with hold the part's inputs. -/
structure Ent (I : In) : Prop where
  z : A2 (V c main_v59 : FVec Ideal S8192x2560 .f32) I.z
  ct : A2 (V c main_arg5 : FVec Ideal S8192x1024 .f32) I.ct
  qg : A2 (V c main_v0 : FVec Ideal S1x128 .f32) fun _ l => I.qg (l % 64)
  kg : A2 (V c main_v1 : FVec Ideal S1x128 .f32) fun _ l => I.kg (l % 64)
  sink : ∀ (a : Fin 2) (k : Fin 1024), (V c main_v4 : FVec Ideal S2x1x1024 .f32) (ix3 a 0 k) = ((I.sk (8 * a + k / 128) : ℝ) : EReal)
  bias : ∀ (a : Fin 2) (j : Fin 256) (k : Fin 1024), (V c main_v58 : FVec Ideal S2x256x1024 .f32) (ix3 a j k) =
    if (j : ℕ) ≤ 128 + k % 128 ∧ (k : ℕ) % 128 < j then ((I.rb (I.bk (128 + k % 128 - j)) (8 * a + k / 128) : ℝ) : EReal) else ⊥

theorem idx1 : ∀ t : Fin cfg1.N, (win1_0.index t = ![t.val, 2] ∧ win1_1.index t = ![t.val, 3] ∧ win1_2.index t = ![t.val - 1, 16] ∧ win1_3.index t = ![t.val, 16]
    ∧ win1_4.index t = ![t.val - 1, 17] ∧ win1_5.index t = ![t.val, 17] ∧ win1_6.index t = ![0, 0] ∧ win1_7.index t = ![0, 0] ∧ win1_8.index t = ![0, 0, 0] ∧ win1_9.index t = ![0, 0, 0]
    ∧ win1_10.index t = ![t.val, 0]) ∧ win1_11.index t = ![t.val, 0] ∧ win1_12.index t = ![t.val, 0] ∧ win1_13.index t = ![t.val, 0] ∧ win1_14.index t = ![t.val, 0] ∧ win1_15.index t = ![t.val, 0]
    ∧ win1_16.index t = ![0, 0, 0] ∧ win1_17.index t = ![0, 0, 0] ∧ win1_18.index t = ![0, 0] :=
  (by decide +kernel : ∀ t : Fin grid1.N, _)

theorem first1 : ∀ t : Fin cfg1.N, Scalar.cmpi .eq (BitVec.ofNat 32 ((grid1.coords t) 0).val) 0#32 = if t.val = 0 then 1#1 else 0#1 :=
  (by decide +kernel : ∀ t : Fin grid1.N, _)

/-- A load of a rectangle of a block, at an index. -/
theorem rd {s : Shape} {φ : EltTy} (M : Memref sig .tc .vmem s φ) (h : M.IsWhole) (X : Vec Ideal s φ) (off size : Fin s.rank → ℕ) (inb : ∀ a, off a + size a ≤ s.size a)
    (x : (Rect.unit off size inb).shape.Idx) (i : s.Idx) (hi : ∀ a, (i a : ℕ) = off a + x a) :
    View.readAt (Elt Ideal) M.view (Rect.unit off size inb).toLoadRect (h.unread X) x = X i := by
  rw [View.readAt_eq_ld, Memref.IsWhole.read_unread]
  exact View.ld_unit_apply_of X off size inb x i hi

theorem t_lt (t : Fin cfg1.N) : t.val < 64 := lt_of_lt_of_eq t.isLt N_1

theorem at_lt (p e : Bool) (l : Fin 128) : at' p e + (l : ℕ) < 512 := by cases p <;> cases e <;> simp [at'] <;> omega

theorem z_block {I : In} (H : Ent V c I) (b : Bool) (t : Fin cfg1.N) (r : Fin 128) (k : Fin 512) :
    (if b then iblk1 V c 1 t (ix2 r k) else iblk1 V c 0 t (ix2 r k) : EReal) = ((I.z (128 * t.val + r) (1024 + (512 * b.toNat + k)) : ℝ) : EReal) := by
  have ht := t_lt t
  have e := H.z ⟨128 * t.val + r, by omega⟩ ⟨1024 + (512 * b.toNat + k), by cases b <;> simp <;> omega⟩
  refine Eq.trans ?_ e
  cases b
  · exact congrArg (V c main_v59) (by blk_ext [idx1 t]; simp only [Bool.toNat_false]; omega)
  · exact congrArg (V c main_v59) (by blk_ext [idx1 t]; simp only [Bool.toNat_true]; omega)

theorem block2 {I : In} (H : Ent V c I) (t : Fin cfg1.N) (r l : Fin 128) : (iblk1 V c 2 t (ix2 r l) : EReal) = ((I.z (128 * (t.val - 1) + r) (2048 + l) : ℝ) : EReal) := by
  have ht := t_lt t
  have e : ((cfg1.win 2).blk t).view.emb (ix2 r l) = ix2 (⟨128 * (t.val - 1) + r, by omega⟩ : Fin 8192) (⟨2048 + l, by omega⟩ : Fin 2560) := by blk_ext [idx1 t]
  exact (congrArg (V c main_v59) e).trans (H.z _ _)

theorem block3 {I : In} (H : Ent V c I) (t : Fin cfg1.N) (r l : Fin 128) : (iblk1 V c 3 t (ix2 r l) : EReal) = ((I.z (128 * t.val + r) (2048 + l) : ℝ) : EReal) := by
  have ht := t_lt t
  have e : ((cfg1.win 3).blk t).view.emb (ix2 r l) = ix2 (⟨128 * t.val + r, by omega⟩ : Fin 8192) (⟨2048 + l, by omega⟩ : Fin 2560) := by blk_ext [idx1 t]
  exact (congrArg (V c main_v59) e).trans (H.z _ _)

theorem block4 {I : In} (H : Ent V c I) (t : Fin cfg1.N) (r l : Fin 128) : (iblk1 V c 4 t (ix2 r l) : EReal) = ((I.z (128 * (t.val - 1) + r) (2176 + l) : ℝ) : EReal) := by
  have ht := t_lt t
  have e : ((cfg1.win 4).blk t).view.emb (ix2 r l) = ix2 (⟨128 * (t.val - 1) + r, by omega⟩ : Fin 8192) (⟨2176 + l, by omega⟩ : Fin 2560) := by blk_ext [idx1 t]
  exact (congrArg (V c main_v59) e).trans (H.z _ _)

theorem block5 {I : In} (H : Ent V c I) (t : Fin cfg1.N) (r l : Fin 128) : (iblk1 V c 5 t (ix2 r l) : EReal) = ((I.z (128 * t.val + r) (2176 + l) : ℝ) : EReal) := by
  have ht := t_lt t
  have e : ((cfg1.win 5).blk t).view.emb (ix2 r l) = ix2 (⟨128 * t.val + r, by omega⟩ : Fin 8192) (⟨2176 + l, by omega⟩ : Fin 2560) := by blk_ext [idx1 t]
  exact (congrArg (V c main_v59) e).trans (H.z _ _)

theorem ct_block {I : In} (H : Ent V c I) (t : Fin cfg1.N) (r : Fin 128) (k : Fin 1024) :
    (iblk1 V c 10 t (ix2 r k) : EReal) = ((I.ct (128 * t.val + r) k : ℝ) : EReal) := by
  have ht := t_lt t
  refine Eq.trans ?_ (H.ct ⟨128 * t.val + r, by omega⟩ k)
  exact congrArg (V c main_arg5) (by blk_ext [idx1 t])

theorem small_block {I : In} (H : Ent V c I) (t : Fin cfg1.N) :
    (∀ a l, (iblk1 V c 6 t (ix2 a l) : EReal) = ((I.qg ((l : Fin 128) % 64) : ℝ) : EReal)) ∧ (∀ a l, (iblk1 V c 7 t (ix2 a l) : EReal) = ((I.kg ((l : Fin 128) % 64) : ℝ) : EReal)) ∧
    (∀ (a : Fin 2) (k : Fin 1024), (iblk1 V c 8 t (ix3 a 0 k) : EReal) = ((I.sk (8 * a + k / 128) : ℝ) : EReal)) ∧
    (∀ (a : Fin 2) (j : Fin 256) (k : Fin 1024), (iblk1 V c 9 t (ix3 a j k) : EReal) =
      if (j : ℕ) ≤ 128 + k % 128 ∧ (k : ℕ) % 128 < j then ((I.rb (I.bk (128 + k % 128 - j)) (8 * a + k / 128) : ℝ) : EReal) else ⊥) := by
  refine ⟨fun a l => Eq.trans ?_ (H.qg a l), fun a l => Eq.trans ?_ (H.kg a l), fun a k => Eq.trans ?_ (H.sink a k), fun a j k => Eq.trans ?_ (H.bias a j k)⟩
  · exact congrArg (V c main_v0) (by blk_ext [idx1 t])
  · exact congrArg (V c main_v1) (by blk_ext [idx1 t])
  · exact congrArg (V c main_v4) (by blk_ext [idx1 t])
  · exact congrArg (V c main_v58) (by blk_ext [idx1 t])

theorem ld_q (t : Fin cfg1.N) (b p e : Bool) (r l : Fin 128) :
    (ld V c t).q b p e (ix2 r l) = if b then iblk1 V c 1 t (ix2 r ⟨at' p e + l, at_lt p e l⟩) else iblk1 V c 0 t (ix2 r ⟨at' p e + l, at_lt p e l⟩) := by
  cases b
  · exact rd (ms1_0 t) (hs1_0 t) (iblk1 V c 0 t) ![0, at' p e] S128x128.size (inq p e) (ix2 r l) (ix2 r ⟨at' p e + l, at_lt p e l⟩) (fun a => by fin_cases a <;> simp)
  · exact rd (ms1_1 t) (hs1_1 t) (iblk1 V c 1 t) ![0, at' p e] S128x128.size (inq p e) (ix2 r l) (ix2 r ⟨at' p e + l, at_lt p e l⟩) (fun a => by fin_cases a <;> simp)

theorem gt_lt (b p e : Bool) (l : Fin 128) : 512 * b.toNat + at' p e + (l : ℕ) < 1024 := by have := at_lt p e l; cases b <;> simp <;> omega

theorem ld_g (t : Fin cfg1.N) (b p e : Bool) (r l : Fin 128) : (ld V c t).g b p e (ix2 r l) = iblk1 V c 10 t (ix2 r ⟨512 * b.toNat + at' p e + l, gt_lt b p e l⟩) :=
  rd (ms1_10 t) (hs1_10 t) (iblk1 V c 10 t) ![0, 512 * b.toNat + at' p e] S128x128.size (ing b p e) (ix2 r l) (ix2 r ⟨512 * b.toNat + at' p e + l, gt_lt b p e l⟩)
    (fun a => by fin_cases a <;> simp)

theorem b_lt (b : Bool) : b.toNat < 2 := by cases b <;> decide
theorem p_lt (p : Bool) (k : Fin 512) : 512 * p.toNat + (k : ℕ) < 1024 := by cases p <;> simp <;> omega

theorem ld_bias (t : Fin cfg1.N) (b p : Bool) (j : Fin 256) (k : Fin 512) : (ld V c t).bias b p (ix3 0 j k) = iblk1 V c 9 t (ix3 ⟨b.toNat, b_lt b⟩ j ⟨512 * p.toNat + k, p_lt p k⟩) :=
  rd (ms1_9 t) (hs1_9 t) (iblk1 V c 9 t) ![b.toNat, 0, 512 * p.toNat] S1x256x512.size (inb b p) (ix3 0 j k) (ix3 ⟨b.toNat, b_lt b⟩ j ⟨512 * p.toNat + k, p_lt p k⟩)
    (fun a => by fin_cases a <;> simp)

theorem ld_sink (t : Fin cfg1.N) (b p : Bool) (k : Fin 512) : (ld V c t).sink b p (ix3 0 0 k) = iblk1 V c 8 t (ix3 ⟨b.toNat, b_lt b⟩ 0 ⟨512 * p.toNat + k, p_lt p k⟩) :=
  rd (ms1_8 t) (hs1_8 t) (iblk1 V c 8 t) ![b.toNat, 0, 512 * p.toNat] S1x1x512.size (ins b p) (ix3 0 0 k) (ix3 ⟨b.toNat, b_lt b⟩ 0 ⟨512 * p.toNat + k, p_lt p k⟩)
    (fun a => by fin_cases a <;> simp)

theorem ld_k0 (t : Fin cfg1.N) (r : Fin 128) (l : Fin 128) : (ld V c t).k0 (ix2 r l) = iblk1 V c 2 t (ix2 r l) :=
  rd (ms1_2 t) (hs1_2 t) (iblk1 V c 2 t) ![0, 0] S128x128.size (in0 S128x128) (ix2 r l) (ix2 r l) (fun a => by fin_cases a <;> simp)
theorem ld_k1 (t : Fin cfg1.N) (r : Fin 128) (l : Fin 128) : (ld V c t).k1 (ix2 r l) = iblk1 V c 3 t (ix2 r l) :=
  rd (ms1_3 t) (hs1_3 t) (iblk1 V c 3 t) ![0, 0] S128x128.size (in0 S128x128) (ix2 r l) (ix2 r l) (fun a => by fin_cases a <;> simp)
theorem ld_v0 (t : Fin cfg1.N) (r : Fin 128) (l : Fin 128) : (ld V c t).v0 (ix2 r l) = iblk1 V c 4 t (ix2 r l) :=
  rd (ms1_4 t) (hs1_4 t) (iblk1 V c 4 t) ![0, 0] S128x128.size (in0 S128x128) (ix2 r l) (ix2 r l) (fun a => by fin_cases a <;> simp)
theorem ld_v1 (t : Fin cfg1.N) (r : Fin 128) (l : Fin 128) : (ld V c t).v1 (ix2 r l) = iblk1 V c 5 t (ix2 r l) :=
  rd (ms1_5 t) (hs1_5 t) (iblk1 V c 5 t) ![0, 0] S128x128.size (in0 S128x128) (ix2 r l) (ix2 r l) (fun a => by fin_cases a <;> simp)
theorem ld_qg (t : Fin cfg1.N) (r : Fin 1) (l : Fin 128) : (ld V c t).qg (ix2 r l) = iblk1 V c 6 t (ix2 r l) :=
  rd (ms1_6 t) (hs1_6 t) (iblk1 V c 6 t) ![0, 0] S1x128.size in1 (ix2 r l) (ix2 r l) (fun a => by fin_cases a <;> simp)
theorem ld_kg (t : Fin cfg1.N) (r : Fin 1) (l : Fin 128) : (ld V c t).kg (ix2 r l) = iblk1 V c 7 t (ix2 r l) :=
  rd (ms1_7 t) (hs1_7 t) (iblk1 V c 7 t) ![0, 0] S1x128.size in1 (ix2 r l) (ix2 r l) (fun a => by fin_cases a <;> simp)

theorem holds {I : In} (H : Ent V c I) (t : Fin cfg1.N) : Holds I t.val (ld V c t) where
  first := first1 t
  q b p e r l := by
    have h := z_block V c H b t r ⟨at' p e + l, at_lt p e l⟩
    have e3 : 512 * b.toNat + (at' p e + (l : ℕ)) = 512 * b.toNat + 256 * p.toNat + (128 * e.toNat + l) := by unfold at'; omega
    rw [ld_q]
    dsimp only at h ⊢
    rw [e3] at h
    exact h
  g b p e r l := by
    have h := ct_block V c H t r ⟨512 * b.toNat + at' p e + l, gt_lt b p e l⟩
    have e3 : 512 * b.toNat + at' p e + (l : ℕ) = 512 * b.toNat + 256 * p.toNat + (128 * e.toNat + l) := by unfold at'; omega
    rw [ld_g]
    dsimp only at h ⊢
    rw [← e3]
    exact h
  k0 r l := (ld_k0 V c t r l).trans (block2 V c H t r l)
  k1 r l := (ld_k1 V c t r l).trans (block3 V c H t r l)
  v0 r l := (ld_v0 V c t r l).trans (block4 V c H t r l)
  v1 r l := (ld_v1 V c t r l).trans (block5 V c H t r l)
  qg a l := (ld_qg V c t a l).trans ((small_block V c H t).1 a l)
  kg a l := (ld_kg V c t a l).trans ((small_block V c H t).2.1 a l)
  bias b p j k := by
    rw [ld_bias]
    refine ((small_block V c H t).2.2.2 _ _ _).trans ?_
    have e1 : (512 * p.toNat + (k : ℕ)) % 128 = k % 128 := by omega
    have e2 : 8 * b.toNat + (512 * p.toNat + (k : ℕ)) / 128 = hd b p k := by unfold hd; omega
    dsimp only; rw [e1, e2]
  sink b p k := by
    rw [ld_sink]
    refine ((small_block V c H t).2.2.1 _ _).trans ?_
    have e2 : 8 * b.toNat + (512 * p.toNat + (k : ℕ)) / 128 = hd b p k := by unfold hd; omega
    dsimp only; rw [e2]

end Cert.AttnKer
-- ==== Proof.AttnRun.lean ====
/- The run of the attention gradient's host program and its four Pallas calls: it ends with every array of the device
   at the contents the program's steps, taken one after the other from the launch memory, leave in it. -/
module

public import proofs.«01_k».proof.Proof.Gen.AttnIdeal.Frame

@[expose] public section

set_option maxRecDepth 16384

noncomputable section

namespace Cert.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each array at its contents after the last step, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W20 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h hz => ⟨h, funext fun g => hz g (.inr (no_unscoped g.2))⟩)

/-- The seven results and the six arguments at the end of a run. -/
theorem run_main : θ_run defs (onTc (τ := τ) (main (F := F))) ⟨m, fun _ => 0, ρ⟩ (fun r => ∀ c : Dev nD,
      r.2.mem ((c.tc : Thread nD τ).loc main_v60_0) = W20 m ρ c (Proc.devRef .tc main_v60_0)
      ∧ r.2.mem ((c.tc : Thread nD τ).loc main_v61_0) = W20 m ρ c (Proc.devRef .tc main_v61_0)
      ∧ r.2.mem ((c.tc : Thread nD τ).loc main_v61_1) = W20 m ρ c (Proc.devRef .tc main_v61_1)
      ∧ r.2.mem ((c.tc : Thread nD τ).loc main_v119) = W20 m ρ c (Proc.devRef .tc main_v119)
      ∧ r.2.mem ((c.tc : Thread nD τ).loc main_v123) = W20 m ρ c (Proc.devRef .tc main_v123)
      ∧ r.2.mem ((c.tc : Thread nD τ).loc main_v126) = W20 m ρ c (Proc.devRef .tc main_v126)
      ∧ r.2.mem ((c.tc : Thread nD τ).loc main_v115) = W20 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h.1 c _ (mem_uc main_v60_0 (by decide)), h.1 c _ (mem_uc main_v61_0 (by decide)),
     h.1 c _ (mem_uc main_v61_1 (by decide)), h.1 c _ (mem_uc main_v119 (by decide)),
     h.1 c _ (mem_uc main_v123 (by decide)), h.1 c _ (mem_uc main_v126 (by decide)),
     h.1 c _ (mem_uc main_v115 (by decide)),
     (h.1 c _ (mem_uc main_arg0 (by decide))).trans (W20_main_arg0 m ρ c),
     (h.1 c _ (mem_uc main_arg1 (by decide))).trans (W20_main_arg1 m ρ c),
     (h.1 c _ (mem_uc main_arg2 (by decide))).trans (W20_main_arg2 m ρ c),
     (h.1 c _ (mem_uc main_arg3 (by decide))).trans (W20_main_arg3 m ρ c),
     (h.1 c _ (mem_uc main_arg4 (by decide))).trans (W20_main_arg4 m ρ c),
     (h.1 c _ (mem_uc main_arg5 (by decide))).trans (W20_main_arg5 m ρ c)⟩) (run_all m ρ)

end Cert.AttnRun

end
-- ==== Proof.AttnBand.lean ====
/- The relative positions inside a band of two blocks of keys, and the bucket of each distance, as machine words. -/
module

public import proofs.«01_k».proof.Proof.AttnRun
import Idealize.ShloMosaic.Lib.Pipeline.ValueKit
public import Idealize.ShloMosaic.Lib.Pointwise.Index

@[expose] public section

set_option maxRecDepth 16384

noncomputable section

namespace Cert.AttnBand

open Idealize.ShloMosaic Idealize.ShloMosaic.TcCoe Idealize.ShloMosaic.ValueKit Idealize.ShloMosaic.Tactic
open Cert.AttnIdeal Cert.AttnIdeal.Gen

/-- The bucket of a distance: itself below sixteen, then by the runs of the table. -/
def bucket (d : ℕ) : ℕ := if d < 16 then d else 16 + [19, 21, 24, 27, 31, 35, 40, 46, 52, 59, 67, 77, 87, 99, 113].countP (· ≤ d)

/-- Key `j` of the band is at a distance below 128 behind query `r`. -/
abbrev near (r j : ℕ) : Prop := j ≤ 128 + r ∧ r < j

/-- The word of the distance `128 + r − j`. -/
def word (r j : ℕ) : BitVec 32 := IntOp.subi (IntOp.addi 128#32 (BitVec.ofNat 32 r)) (BitVec.ofNat 32 j)

theorem word_eq (r j : ℕ) : word r j = BitVec.ofInt 32 ((128 + r : ℤ) - j) := by
  refine BitVec.eq_of_toNat_eq ?_
  rw [word, IntOp.subi, IntOp.addi, BitVec.toNat_sub, BitVec.toNat_add, BitVec.toNat_ofNat, BitVec.toNat_ofNat, BitVec.toNat_ofInt]
  simp only [BitVec.toNat_ofNat]
  omega

/-- What holds of the word of each distance from −127 to 255 holds of every distance in the band. -/
theorem word_all {P : ℤ → BitVec 32 → Prop} (h : ∀ d : Fin 383, P ((d : ℤ) - 127) (BitVec.ofInt 32 ((d : ℤ) - 127))) (r : Fin 128) (j : Fin 256) :
    P ((128 + r : ℤ) - j) (word r j) := by
  have e := h ⟨(255 + r - j : ℕ), by omega⟩
  have : (((⟨(255 + r - j : ℕ), by omega⟩ : Fin 383) : ℕ) : ℤ) - 127 = (128 + r : ℤ) - j := by
    show ((255 + r - j : ℕ) : ℤ) - 127 = _
    omega
  rw [this] at e; rw [word_eq]; exact e

/-- The comparison of a distance with 0 and with 128. -/
theorem near_word (r : Fin 128) (j : Fin 256) :
    IntOp.andi (IntOp.cmpi .sge (word r j) 0#32) (IntOp.cmpi .slt (word r j) 128#32) = if near r j then 1#1 else 0#1 := by
  have e := word_all (P := fun d w => IntOp.andi (IntOp.cmpi .sge w 0#32) (IntOp.cmpi .slt w 128#32) = if 0 ≤ d ∧ d < 128 then 1#1 else 0#1)
    (by decide +kernel) r j
  rw [e]; refine if_congr ?_ rfl rfl
  unfold near; omega

/-- A distance held between 0 and 127. -/
def held (x : BitVec 32) : BitVec 32 :=
  Scalar.select (IntOp.cmpi .slt (IntOp.minsi 127#32 (IntOp.maxsi 0#32 x)) 0#32) (IntOp.addi (IntOp.minsi 127#32 (IntOp.maxsi 0#32 x)) 128#32)
    (IntOp.minsi 127#32 (IntOp.maxsi 0#32 x))

theorem held_word (r : Fin 128) (j : Fin 256) (h : near r j) : min (held (word r j)).toInt.toNat 127 = 128 + r - j := by
  have e := word_all (P := fun d w => 0 ≤ d → d < 128 → (min (held w).toInt.toNat 127 : ℤ) = d) (by decide +kernel) r j
    (by have := h.1; omega) (by have := h.2; omega)
  have := h.1; omega

/-- The first 46 buckets. -/
def low : S46.Idx → BitVec 32 :=
  concatenate S46 0 [⟨S16, iotaInDim S16 32 0⟩, ⟨S3, fun _ => 16#32⟩, ⟨S2, fun _ => 17#32⟩, ⟨S3, fun _ => 18#32⟩, ⟨S3, fun _ => 19#32⟩,
    ⟨S4, fun _ => 20#32⟩, ⟨S4, fun _ => 21#32⟩, ⟨S5, fun _ => 22#32⟩, ⟨S6, fun _ => 23#32⟩] concatenates_S16_S3_S2_S3_S3_S4_S4_S5_S6_S46_d0

/-- The table of the buckets of the distances below 128. -/
def tab : S128.Idx → BitVec 32 :=
  concatenate S128 0 [⟨S46, low⟩,
    ⟨S6, fun _ => 24#32⟩, ⟨S7, fun _ => 25#32⟩, ⟨S8, fun _ => 26#32⟩, ⟨S10, fun _ => 27#32⟩, ⟨S10, fun _ => 28#32⟩, ⟨S12, fun _ => 29#32⟩,
    ⟨S14, fun _ => 30#32⟩, ⟨S15, fun _ => 31#32⟩] concatenates_S46_S6_S7_S8_S10_S10_S12_S14_S15_S128_d0

theorem tab_at (d : Fin 128) : tab (ix1 d) = BitVec.ofNat 32 (bucket d) := by
  revert d; decide +kernel

/-- Reading the table at a word for every place of the band. -/
theorem take_at (x : S128.Idx → BitVec 32) (idx : IVec S128x256x1 32) (r : Fin 128) (j : Fin 256) :
    Host.gather gather_S128_S128x256x1_S128x256_n_0_n_n_0_2_1 x idx (ix2 r j) = x (ix1 ⟨min (idx (ix3 r j 0)).toInt.toNat 127, by omega⟩) := by
  refine congrArg x (funext fun a => ?_)
  obtain rfl : a = 0 := Subsingleton.elim _ _
  refine Fin.ext ?_
  have e : (GatherDims.siIdx gather_S128_S128x256x1_S128x256_n_0_n_n_0_2_1 (ix2 r j) ⟨0, by decide⟩ : S128x256x1.Idx) = ix3 r j 0 := by
    funext b; match b with
    | ⟨0, _⟩ => rfl
    | ⟨1, _⟩ => rfl
    | ⟨2, _⟩ => rfl
  exact Eq.trans rfl (congrArg (fun x => min (idx x).toInt.toNat 127) e)

/-- The one-hot entry of bucket `b` at place `i` of the flattened band. -/
def hot (b i : ℕ) : ℝ := if near (i / 256) (i % 256) ∧ bucket (128 + i / 256 - i % 256) = b then 1 else 0

theorem bucket_lt (d : ℕ) : bucket d < 32 := by
  unfold bucket; split
  · omega
  · have := List.countP_le_length (p := fun x => decide (x ≤ d)) (l := [19, 21, 24, 27, 31, 35, 40, 46, 52, 59, 67, 77, 87, 99, 113])
    simp only [List.length_cons, List.length_nil] at this; omega

/-- The bucket's word, −1 off the band. -/
def mark (r j : ℕ) : BitVec 32 := if near r j then BitVec.ofNat 32 (bucket (128 + r - j)) else 4294967295#32

theorem pick_word (x y : BitVec 32) (p q : EReal) : Scalar.select (IntOp.cmpi .eq x y) p q = if x = y then p else q := by
  by_cases h : x = y
  · simp [Scalar.select, IntOp.cmpi, h]
  · simp [Scalar.select, IntOp.cmpi, h, beq_eq_false_iff_ne.2 h]

theorem small_inj {a b : ℕ} (ha : a < 32) (hb : b < 32) : BitVec.ofNat 32 a = BitVec.ofNat 32 b ↔ a = b := by
  refine ⟨fun x => ?_, fun x => by rw [x]⟩
  have h := congrArg BitVec.toNat x
  simp only [BitVec.toNat_ofNat] at h
  omega

theorem mark_eq (r j : ℕ) {b : ℕ} (hb : b < 32) : mark r j = BitVec.ofNat 32 b ↔ near r j ∧ bucket (128 + r - j) = b := by
  unfold mark
  by_cases h : near r j
  · rw [if_pos h, small_inj (bucket_lt _) hb]; exact ⟨fun e => ⟨h, e⟩, And.right⟩
  · rw [if_neg h]
    refine ⟨fun x => ?_, fun x => absurd x.1 h⟩
    have := congrArg BitVec.toNat x
    simp only [BitVec.toNat_ofNat] at this
    omega

theorem hot_word (b : Fin 32) (i : ℕ) (p q : EReal) (hp : p = 1) (hq : q = 0) :
    Scalar.select (IntOp.cmpi .eq (mark (i / 256) (i % 256)) (BitVec.ofNat 32 b)) p q = ((hot b i : ℝ) : EReal) := by
  rw [pick_word, hp, hq, hot]
  simp only [mark_eq _ _ b.isLt]
  split <;> rfl

end Cert.AttnBand

end
-- ==== Proof.AttnPay.lean ====
/- The three small kernels beside the attention's backward one: what each leaves at one grid point. -/
module

public import proofs.«01_k».proof.Proof.AttnOps
public import proofs.«01_k».proof.Proof.AttnBand

@[expose] public section

set_option maxRecDepth 16384

noncomputable section

open Idealize.ShloMosaic

namespace Cert.AttnKer
open Cert.Reals Cert.AttnIdeal Cert.AttnIdeal.Gen

theorem c2 : Ideal.ofBits .f32 0x3F000000#32 = ((1 / 2 : ℝ) : EReal) := by
  simp [Ideal.ofBits, Ideal.ieee]; rw [← EReal.coe_mul]; norm_num

theorem pay0 {v0 : FVec Ideal S32x4096 .bf16} {v2 : FVec Ideal S32x16 .f32} {hot rb : ℕ → ℕ → ℝ} (h0 : A2 v0 hot) (h2 : A2 v2 rb) (h : Fin 16) (i : Fin 4096) :
    (k0_pay1 (F := Ideal) v0 v2 (ix2 h i) : EReal) = if (1 / 2 : ℝ) < ∑ b : Fin 32, hot b i then ((∑ b : Fin 32, rb b h * hot b i : ℝ) : EReal) else ⊥ := by
  pointwise [k0_pay1]
  simp only [h0 _ _, h2 _ _, ← EReal.coe_sub, ← EReal.coe_mul, coe_sum, ← EReal.coe_add, sub_self, zero_mul, Finset.sum_const_zero, add_zero]
  rw [c2]
  simp only [EReal.coe_lt_coe_iff]
  rfl

theorem pay3 {v0 : FVec Ideal S32x4096 .bf16} {v2 : FVec Ideal S16x4096 .f32} {hot dl : ℕ → ℕ → ℝ} (h0 : A2 v0 hot) (h2 : A2 v2 dl) (v19 : FVec Ideal S32x16 .f32) (b : Fin 32) (h : Fin 16) :
    (k3_pay2 (F := Ideal) v0 v2 v19 (ix2 b h) : EReal) = v19 (ix2 b h) + ((∑ i : Fin 4096, hot b i * dl h i : ℝ) : EReal) := by
  pointwise [k3_pay2]
  simp only [h0 _ _, h2 _ _, ← EReal.coe_sub, ← EReal.coe_mul, coe_sum, ← EReal.coe_add, sub_self, mul_zero, Finset.sum_const_zero, add_zero]

theorem pay2 (i : grid2.Coords) (v1 v3 : FVec Ideal S128x128 .f32) (r l : Fin 128) :
    (k2_pay1 (F := Ideal) i v1 v3 (ix2 r l) : EReal) = v1 (ix2 r l) + if (i 0 : ℕ) < 63 then v3 (ix2 r l) else 0 := by
  have e : ∀ n : Fin 64, IntOp.cmpi .slt (BitVec.ofNat 32 (n : ℕ)) 63#32 = if (n : ℕ) < 63 then 1#1 else 0#1 := by decide
  pointwise [k2_pay1]
  refine congrArg (v1 (ix2 r l) + ·) ((congrArg (fun w => Scalar.select w (v3 (ix2 r l)) (0 : EReal)) (e (i 0))).trans ?_)
  show Scalar.select (if (i 0 : ℕ) < 63 then 1#1 else 0#1) _ _ = _
  split <;> rfl

theorem pay2' (i : grid2.Coords) (v1 v3 : FVec Ideal S128x128 .f32) : k2_pay2 (F := Ideal) i v1 v3 = k2_pay1 (F := Ideal) i v1 v3 := rfl

end Cert.AttnKer
end
-- ==== Proof.AttnTab.lean ====
/- The bias table, the joining of the keys' and the values' gradients over neighbouring blocks and the gradient of the bias table, each over its whole grid. -/
module

public import proofs.«01_k».proof.Proof.AttnReg
public import proofs.«01_k».proof.Proof.AttnPay

@[expose] public section

set_option maxRecDepth 16384

noncomputable section

open Idealize.ShloMosaic Idealize.ShloMosaic.TcCoe

namespace Cert.AttnKer
open Cert.Reals Cert.AttnBand Cert.AttnIdeal Cert.AttnIdeal.Gen

variable (V : (c : Dev nD) → (b : Ref sig .tc) → Buf (Elt Ideal) ((c : Thread nD τ).loc b)) (c : Dev nD)

/-- A column of the one-hot matrix picks the row of the place's bucket, and nothing off the band. -/
theorem hot_pick (f : ℕ → ℝ) (i : ℕ) : ∑ b : Fin 32, f b * hot b i = if near (i / 256) (i % 256) then f (bucket (128 + i / 256 - i % 256)) else 0 := by
  unfold hot
  by_cases h : near (i / 256) (i % 256)
  · rw [if_pos h, Finset.sum_eq_single (⟨bucket (128 + i / 256 - i % 256), bucket_lt _⟩ : Fin 32)]
    · rw [if_pos ⟨h, rfl⟩, mul_one]
    · intro b _ hb; rw [if_neg fun e => hb (Fin.ext e.2.symm), mul_zero]
    · intro h; exact absurd (Finset.mem_univ _) h
  · rw [if_neg h]; exact Finset.sum_eq_zero fun b _ => by rw [if_neg fun e => h e.1, mul_zero]

theorem hot_count (i : ℕ) : ∑ b : Fin 32, hot b i = if near (i / 256) (i % 256) then 1 else 0 := by
  have h := hot_pick (fun _ => 1) i
  simpa only [one_mul] using h

theorem idx0 : ∀ t : Fin cfg0.N, win0_0.index t = ![0, 0] ∧ win0_1.index t = ![0, t.val] ∧ win0_2.index t = ![0, t.val] :=
  (by decide +kernel : ∀ t : Fin grid0.N, _)
theorem idx2 : ∀ t : Fin cfg2.N, win2_0.index t = ![min (t.val + 1) 63, 0] ∧ win2_1.index t = ![t.val, 0] ∧ win2_2.index t = ![min (t.val + 1) 63, 0] ∧ win2_3.index t = ![t.val, 0]
    ∧ win2_4.index t = ![t.val, 0] ∧ win2_5.index t = ![t.val, 0] ∧ ((grid2.coords t) 0).val = t.val :=
  (by decide +kernel : ∀ t : Fin grid2.N, _)
theorem idx3 : ∀ t : Fin cfg3.N, win3_0.index t = ![0, t.val] ∧ win3_1.index t = ![0, t.val] ∧ win3_2.index t = ![0, 0] :=
  (by decide +kernel : ∀ t : Fin grid3.N, _)

theorem t_lt0 (t : Fin cfg0.N) : t.val < 8 := lt_of_lt_of_eq t.isLt N_0
theorem t_lt2 (t : Fin cfg2.N) : t.val < 64 := lt_of_lt_of_eq t.isLt N_2
theorem t_lt3 (t : Fin cfg3.N) : t.val < 8 := lt_of_lt_of_eq t.isLt N_3

/-- The bias table. -/
theorem table {rb : ℕ → ℕ → ℝ} (hr : A2 (V c main_arg4 : FVec Ideal S32x16 .f32) rb) (hh : A2 (V c main_v54 : FVec Ideal S32x32768 .bf16) hot) :
    (dat0 V c).arrAt 2 cfg0.N = fun y : S16x32768.Idx => if near ((y 1 : ℕ) / 256) ((y 1 : ℕ) % 256) then ((rb (bucket (128 + (y 1 : ℕ) / 256 - (y 1 : ℕ) % 256)) (y 0) : ℝ) : EReal) else ⊥ := by
  refine (dat0 V c).arrAt_eq_of_covers 2 _ (by decide +kernel) fun t hf y => ?_
  have ht := t_lt0 t
  blk_simp
  rw [after0_2]
  have e0 : win0_2.index t 0 = 0 := congrFun (idx0 t).2.2 0
  have e1 : win0_2.index t 1 = t.val := congrFun (idx0 t).2.2 1
  rw [e0, e1, Nat.zero_mul, Nat.zero_add, Nat.mul_comm t.val]
  frame_out
  have h1 : A2 (iblk0 V c 1 t : FVec Ideal S32x4096 .bf16) fun b i => hot b (4096 * t.val + i) := fun b i => by
    refine Eq.trans ?_ (hh b ⟨4096 * t.val + i, by omega⟩)
    exact congrArg (V c main_v54) (by blk_ext [idx0 t])
  have h0 : A2 (iblk0 V c 0 t : FVec Ideal S32x16 .f32) rb := fun b h => by
    refine Eq.trans ?_ (hr b h)
    exact congrArg (V c main_arg4) (by blk_ext [idx0 t])
  refine (congrArg _ (eq_ix2 y)).trans ((pay0 h1 h0 (y 0) (y 1)).trans ?_)
  rw [hot_count, hot_pick fun b => rb b (y 0)]
  split <;> norm_num

/-- One of the two joined gradients: a block's own part and the next block's. -/
theorem joined_point (t : Fin cfg2.N) {fp fc : ℕ → ℕ → ℝ} {vp vc : FVec Ideal S128x128 .f32}
    (hp : A2 vp fun r l => fp (128 * min (t.val + 1) 63 + r) l) (hc : A2 vc fun r l => fc (128 * t.val + r) l) (r l : Fin 128) :
    (k2_pay1 (F := Ideal) (grid2.coords t) vc vp (ix2 r l) : EReal)
      = ((fc (128 * t.val + r) l + (if (128 * t.val + r) / 128 < 63 then fp (128 * t.val + r + 128) l else 0) : ℝ) : EReal) := by
  have ht := t_lt2 t
  rw [pay2, hp, hc, (idx2 t).2.2.2.2.2.2, show (128 * t.val + (r : ℕ)) / 128 = t.val by omega, EReal.coe_add]
  refine congrArg _ ?_
  split
  · exact congrArg (fun k => ((fp k l : ℝ) : EReal)) (by omega)
  · rfl

theorem joined4 {fp fc : ℕ → ℕ → ℝ} (hp : A2 (V c main_v60_1 : FVec Ideal S8192x128 .f32) fp) (hc : A2 (V c main_v60_2 : FVec Ideal S8192x128 .f32) fc) :
    (dat2 V c).arrAt 4 cfg2.N = fun y : S8192x128.Idx => ((fc (y 0) (y 1) + (if (y 0 : ℕ) / 128 < 63 then fp ((y 0) + 128) (y 1) else 0) : ℝ) : EReal) := by
  refine (dat2 V c).arrAt_eq_of_covers 4 _ (by decide +kernel) fun t hf y => ?_
  have ht := t_lt2 t
  blk_simp
  rw [after2_4]
  have e0 : win2_4.index t 0 = t.val := congrFun (idx2 t).2.2.2.2.1 0
  have e1 : win2_4.index t 1 = 0 := congrFun (idx2 t).2.2.2.2.1 1
  rw [e0, e1, Nat.zero_mul, Nat.zero_add, Nat.mul_comm t.val]
  frame_out
  refine (congrArg _ (eq_ix2 y)).trans (joined_point t (fun r l => ?_) (fun r l => ?_) (y 0) (y 1))
  · refine Eq.trans ?_ (hp ⟨128 * min (t.val + 1) 63 + r, by omega⟩ l)
    exact congrArg (V c main_v60_1) (by blk_ext [idx2 t])
  · refine Eq.trans ?_ (hc ⟨128 * t.val + r, by omega⟩ l)
    exact congrArg (V c main_v60_2) (by blk_ext [idx2 t])

theorem joined5 {fp fc : ℕ → ℕ → ℝ} (hp : A2 (V c main_v60_3 : FVec Ideal S8192x128 .f32) fp) (hc : A2 (V c main_v60_4 : FVec Ideal S8192x128 .f32) fc) :
    (dat2 V c).arrAt 5 cfg2.N = fun y : S8192x128.Idx => ((fc (y 0) (y 1) + (if (y 0 : ℕ) / 128 < 63 then fp ((y 0) + 128) (y 1) else 0) : ℝ) : EReal) := by
  refine (dat2 V c).arrAt_eq_of_covers 5 _ (by decide +kernel) fun t hf y => ?_
  have ht := t_lt2 t
  blk_simp
  rw [after2_5]
  have e0 : win2_5.index t 0 = t.val := congrFun (idx2 t).2.2.2.2.2.1 0
  have e1 : win2_5.index t 1 = 0 := congrFun (idx2 t).2.2.2.2.2.1 1
  rw [e0, e1, Nat.zero_mul, Nat.zero_add, Nat.mul_comm t.val]
  frame_out
  rw [pay2']
  refine (congrArg _ (eq_ix2 y)).trans (joined_point t (fun r l => ?_) (fun r l => ?_) (y 0) (y 1))
  · refine Eq.trans ?_ (hp ⟨128 * min (t.val + 1) 63 + r, by omega⟩ l)
    exact congrArg (V c main_v60_3) (by blk_ext [idx2 t])
  · refine Eq.trans ?_ (hc ⟨128 * t.val + r, by omega⟩ l)
    exact congrArg (V c main_v60_4) (by blk_ext [idx2 t])

/-- What one point adds to the bias table's gradient. -/
def part3 (dl : ℕ → ℕ → ℝ) (n : ℕ) (b h : ℕ) : ℝ := ∑ i : Fin 4096, hot b (4096 * n + i) * dl h (4096 * n + i)

theorem add3 {dl : ℕ → ℕ → ℝ} (hd : A2 (V c main_v64 : FVec Ideal S16x32768 .f32) dl) (hh : A2 (V c main_v114 : FVec Ideal S32x32768 .bf16) hot) (t : Fin cfg3.N) (v : FVec Ideal S32x16 .f32) (y : S32x16.Idx) :
    (k3_pay2 (F := Ideal) (iblk3 V c 1 t) (iblk3 V c 0 t) v y : EReal) = v y + ((part3 dl t.val (y 0) (y 1) : ℝ) : EReal) := by
  have ht := t_lt3 t
  have h1 : A2 (iblk3 V c 1 t : FVec Ideal S32x4096 .bf16) fun b i => hot b (4096 * t.val + i) := fun b i => by
    refine Eq.trans ?_ (hh b ⟨4096 * t.val + i, by omega⟩)
    exact congrArg (V c main_v114) (by blk_ext [idx3 t])
  have h0 : A2 (iblk3 V c 0 t : FVec Ideal S16x4096 .f32) fun h i => dl h (4096 * t.val + i) := fun h i => by
    refine Eq.trans ?_ (hd h ⟨4096 * t.val + i, by omega⟩)
    exact congrArg (V c main_v64) (by blk_ext [idx3 t])
  exact (congrArg _ (eq_ix2 y)).trans ((pay3 h1 h0 v (y 0) (y 1)).trans (congrArg (fun w : S32x16.Idx => v w + _) (eq_ix2 y).symm))

theorem zero3 (y : S32x16.Idx) : (k3_pay1 (F := Ideal) y : EReal) = 0 := by pointwise [k3_pay1]

theorem sum8 {k : ℕ} (h : k = 0) (f : ℕ → ℝ) : ∑ s : Fin 8, ((f (8 * k + s) : ℝ) : EReal) = ((∑ s : Fin 8, f s : ℝ) : EReal) := by
  rw [coe_sum, h]; simp only [Nat.mul_zero, Nat.zero_add]

/-- The bias table's gradient. -/
theorem grad3 {dl : ℕ → ℕ → ℝ} (hd : A2 (V c main_v64 : FVec Ideal S16x32768 .f32) dl) (hh : A2 (V c main_v114 : FVec Ideal S32x32768 .bf16) hot) :
    (dat3 V c).arrAt 2 cfg3.N = fun y : S32x16.Idx => ((∑ s : Fin 8, part3 dl s (y 0) (y 1) : ℝ) : EReal) := by
  refine (dat3 V c).arrAt_eq_of_covers 2 _ (by decide +kernel) fun t hf y => ?_
  blk_simp
  rw [after3_2, Pipeline.eq_sum_fin_of_reset_step_apply_of_flush (M := EReal) (fun n h => outsAt3 V c n h) 8 (fun _ => (0 : EReal))
    (fun (s : Fin cfg3.N) (y : S32x16.Idx) => ((part3 dl s.val (y 0) (y 1) : ℝ) : EReal))
    (fun t h j => by rw [outsAt3_A V c t h]; frame_out; rw [add3 V c hd hh t, zero3])
    (fun t h j => by rw [outsAt3_B V c t h]; frame_out; rw [add3 V c hd hh t])
    t ((flush3_2 t).mp hf) _, zero_add]
  have ht : t.val / 8 = 0 := by have := t_lt3 t; omega
  have e0 : win3_2.index t 0 = 0 := congrFun (idx3 t).2.2 0
  have e1 : win3_2.index t 1 = 0 := congrFun (idx3 t).2.2 1
  rw [e0, e1, Nat.zero_mul, Nat.zero_add, Nat.zero_add]
  exact sum8 ht fun s => part3 dl s (y 0) (y 1)

end Cert.AttnKer
end
-- ==== Proof.AttnHot.lean ====
/- The bucket table, the bucket of every place in the band and its one-hot matrix, as the kernel's host lines make them. -/
module

public import proofs.«01_k».proof.Proof.AttnBand
import Idealize.ShloMosaic.Lib.Pipeline.ValueKit
public import Idealize.ShloMosaic.Lib.StableHlo.RunRead

@[expose] public section

set_option maxRecDepth 16384

noncomputable section

namespace Cert.AttnHot

open Idealize.ShloMosaic Idealize.ShloMosaic.TcCoe Idealize.ShloMosaic.ValueKit Idealize.ShloMosaic.Tactic
open Cert.AttnIdeal Cert.AttnIdeal.Gen Cert.AttnBand

variable (V : Valuation τ sig (Elt Ideal))

theorem joined (l₁ l₂ : List (HloOp τ sig (Elt Ideal))) : StableHlo.after (l₁ ++ l₂) V = StableHlo.after l₂ (StableHlo.after l₁ V) := by
  induction l₁ generalizing V with
  | nil => rfl
  | cons op l ih => exact ih _

/-- What a line's first `n` operations leave in an array which the others do not write. -/
theorem keep {ops : List (HloOp τ sig (Elt Ideal))} (n : ℕ) {r : Ref sig .tc} (W : List (Ref sig .tc))
    (h : (ops.drop n).map HloOp.writes = W.map fun w => {Proc.devRef (τ := τ) .tc w}) (hr : r ∉ W) :
    StableHlo.upto ops V n (Proc.devRef .tc r) = StableHlo.after ops V (Proc.devRef .tc r) := by
  have e := StableHlo.after_of_writes_sub (ops.drop n) (StableHlo.upto ops V n) (StableHlo.forall_writes_sub_of_map h) hr
  rw [← e, StableHlo.upto, ← joined, List.take_append_drop]

theorem low_congr {x0 y0 : S16.Idx → BitVec 32} {x1 y1 : S3.Idx → BitVec 32} {x2 y2 : S2.Idx → BitVec 32} {x3 y3 x4 y4 : S3.Idx → BitVec 32}
    {x5 y5 x6 y6 : S4.Idx → BitVec 32} {x7 y7 : S5.Idx → BitVec 32} {x8 y8 : S6.Idx → BitVec 32}
    (h0 : x0 = y0) (h1 : x1 = y1) (h2 : x2 = y2) (h3 : x3 = y3) (h4 : x4 = y4) (h5 : x5 = y5) (h6 : x6 = y6) (h7 : x7 = y7) (h8 : x8 = y8) :
    concatenate S46 0 [⟨S16, x0⟩, ⟨S3, x1⟩, ⟨S2, x2⟩, ⟨S3, x3⟩, ⟨S3, x4⟩, ⟨S4, x5⟩, ⟨S4, x6⟩, ⟨S5, x7⟩, ⟨S6, x8⟩] concatenates_S16_S3_S2_S3_S3_S4_S4_S5_S6_S46_d0
      = concatenate S46 0 [⟨S16, y0⟩, ⟨S3, y1⟩, ⟨S2, y2⟩, ⟨S3, y3⟩, ⟨S3, y4⟩, ⟨S4, y5⟩, ⟨S4, y6⟩, ⟨S5, y7⟩, ⟨S6, y8⟩] concatenates_S16_S3_S2_S3_S3_S4_S4_S5_S6_S46_d0 := by
  rw [h0, h1, h2, h3, h4, h5, h6, h7, h8]

theorem high_congr {x0 y0 : S46.Idx → BitVec 32} {x1 y1 : S6.Idx → BitVec 32} {x2 y2 : S7.Idx → BitVec 32} {x3 y3 : S8.Idx → BitVec 32}
    {x4 y4 x5 y5 : S10.Idx → BitVec 32} {x6 y6 : S12.Idx → BitVec 32} {x7 y7 : S14.Idx → BitVec 32} {x8 y8 : S15.Idx → BitVec 32}
    (h0 : x0 = y0) (h1 : x1 = y1) (h2 : x2 = y2) (h3 : x3 = y3) (h4 : x4 = y4) (h5 : x5 = y5) (h6 : x6 = y6) (h7 : x7 = y7) (h8 : x8 = y8) :
    concatenate S128 0 [⟨S46, x0⟩, ⟨S6, x1⟩, ⟨S7, x2⟩, ⟨S8, x3⟩, ⟨S10, x4⟩, ⟨S10, x5⟩, ⟨S12, x6⟩, ⟨S14, x7⟩, ⟨S15, x8⟩] concatenates_S46_S6_S7_S8_S10_S10_S12_S14_S15_S128_d0
      = concatenate S128 0 [⟨S46, y0⟩, ⟨S6, y1⟩, ⟨S7, y2⟩, ⟨S8, y3⟩, ⟨S10, y4⟩, ⟨S10, y5⟩, ⟨S12, y6⟩, ⟨S14, y7⟩, ⟨S15, y8⟩] concatenates_S46_S6_S7_S8_S10_S10_S12_S14_S15_S128_d0 := by
  rw [h0, h1, h2, h3, h4, h5, h6, h7, h8]

/-- The bucket read at a distance held in the table, and −1 off the band. -/
theorem mark_at (r : Fin 128) (j : Fin 256) {t : S128.Idx → BitVec 32} (ht : t = tab) {b : BitVec 1} (hb : b = if near r j then 1#1 else 0#1)
    {w q : BitVec 32} (hw : w = word r j) (hq : q = 4294967295#32) (hlt : min (held w).toInt.toNat 127 < 128) :
    Scalar.select b (t (ix1 ⟨min (held w).toInt.toNat 127, hlt⟩)) q = mark r j := by
  subst ht hb hw hq
  unfold mark
  by_cases h : near r j
  · rw [if_pos h, if_pos h]
    have e := held_word r j h
    refine (if_pos rfl).trans ((tab_at _).trans ?_)
    rw [show ((⟨min (held (word r j)).toInt.toNat 127, hlt⟩ : Fin 128) : ℕ) = 128 + r - j from e]
  · rw [if_neg h, if_neg h]; exact if_neg (by decide)

/-! ## The one-hot matrix of the bias -/

theorem s0_0 : StableHlo.after hostOps0 V (Proc.devRef .tc main_v5) = fun _ => 16#32 := by
  funext i; entry_read; rfl
theorem s0_1 : StableHlo.after hostOps0 V (Proc.devRef .tc main_v6) = fun _ => 17#32 := by
  funext i; entry_read; rfl
theorem s0_2 : StableHlo.after hostOps0 V (Proc.devRef .tc main_v7) = fun _ => 18#32 := by
  funext i; entry_read; rfl
theorem s0_3 : StableHlo.after hostOps0 V (Proc.devRef .tc main_v8) = fun _ => 19#32 := by
  funext i; entry_read; rfl
theorem s0_4 : StableHlo.after hostOps0 V (Proc.devRef .tc main_v9) = fun _ => 20#32 := by
  funext i; entry_read; rfl
theorem s0_5 : StableHlo.after hostOps0 V (Proc.devRef .tc main_v10) = fun _ => 21#32 := by
  funext i; entry_read; rfl
theorem s0_6 : StableHlo.after hostOps0 V (Proc.devRef .tc main_v11) = fun _ => 22#32 := by
  funext i; entry_read; rfl
theorem s0_7 : StableHlo.after hostOps0 V (Proc.devRef .tc main_v12) = fun _ => 23#32 := by
  funext i; entry_read; rfl
theorem s0_8 : StableHlo.after hostOps0 V (Proc.devRef .tc main_v13) = fun _ => 24#32 := by
  funext i; entry_read; rfl
theorem s0_9 : StableHlo.after hostOps0 V (Proc.devRef .tc main_v14) = fun _ => 25#32 := by
  funext i; entry_read; rfl
theorem s0_10 : StableHlo.after hostOps0 V (Proc.devRef .tc main_v15) = fun _ => 26#32 := by
  funext i; entry_read; rfl
theorem s0_11 : StableHlo.after hostOps0 V (Proc.devRef .tc main_v16) = fun _ => 27#32 := by
  funext i; entry_read; rfl
theorem s0_12 : StableHlo.after hostOps0 V (Proc.devRef .tc main_v17) = fun _ => 28#32 := by
  funext i; entry_read; rfl
theorem s0_13 : StableHlo.after hostOps0 V (Proc.devRef .tc main_v18) = fun _ => 29#32 := by
  funext i; entry_read; rfl
theorem s0_14 : StableHlo.after hostOps0 V (Proc.devRef .tc main_v19) = fun _ => 30#32 := by
  funext i; entry_read; rfl
theorem s0_15 : StableHlo.after hostOps0 V (Proc.devRef .tc main_v20) = fun _ => 31#32 := by
  funext i; entry_read; rfl
theorem s0_16 : StableHlo.after hostOps0 V (Proc.devRef .tc main_v21) = iotaInDim S16 32 0 := by
  funext i; entry_read; rfl
theorem low0 : StableHlo.after hostOps0 V (Proc.devRef .tc main_v22) = low := by
  rw [StableHlo.after_last_write (i := 38) (hostOps0_W.drop 39) rfl rfl (by decide), StableHlo.nary_result']
  exact low_congr ((keep V 38 (hostOps0_W.drop 38) rfl (by decide)).trans (s0_16 V)) ((keep V 38 (hostOps0_W.drop 38) rfl (by decide)).trans (s0_0 V)) ((keep V 38 (hostOps0_W.drop 38) rfl (by decide)).trans (s0_1 V)) ((keep V 38 (hostOps0_W.drop 38) rfl (by decide)).trans (s0_2 V)) ((keep V 38 (hostOps0_W.drop 38) rfl (by decide)).trans (s0_3 V)) ((keep V 38 (hostOps0_W.drop 38) rfl (by decide)).trans (s0_4 V)) ((keep V 38 (hostOps0_W.drop 38) rfl (by decide)).trans (s0_5 V)) ((keep V 38 (hostOps0_W.drop 38) rfl (by decide)).trans (s0_6 V)) ((keep V 38 (hostOps0_W.drop 38) rfl (by decide)).trans (s0_7 V))
theorem tab0 : StableHlo.after hostOps0 V (Proc.devRef .tc main_v23) = tab := by
  rw [StableHlo.after_last_write (i := 39) (hostOps0_W.drop 40) rfl rfl (by decide), StableHlo.nary_result']
  exact high_congr ((keep V 39 (hostOps0_W.drop 39) rfl (by decide)).trans (low0 V)) ((keep V 39 (hostOps0_W.drop 39) rfl (by decide)).trans (s0_8 V)) ((keep V 39 (hostOps0_W.drop 39) rfl (by decide)).trans (s0_9 V)) ((keep V 39 (hostOps0_W.drop 39) rfl (by decide)).trans (s0_10 V)) ((keep V 39 (hostOps0_W.drop 39) rfl (by decide)).trans (s0_11 V)) ((keep V 39 (hostOps0_W.drop 39) rfl (by decide)).trans (s0_12 V)) ((keep V 39 (hostOps0_W.drop 39) rfl (by decide)).trans (s0_13 V)) ((keep V 39 (hostOps0_W.drop 39) rfl (by decide)).trans (s0_14 V)) ((keep V 39 (hostOps0_W.drop 39) rfl (by decide)).trans (s0_15 V))
theorem word0 (r : Fin 128) (j : Fin 256) : StableHlo.after hostOps0 V (Proc.devRef .tc main_v32) (ix2 r j) = word r j := by
  entry_read; pointwise [word]
theorem near0 (r : Fin 128) (j : Fin 256) : StableHlo.after hostOps0 V (Proc.devRef .tc main_v37) (ix2 r j) = if near r j then 1#1 else 0#1 := by
  rw [← near_word]; entry_read; pointwise [word]
theorem zero0 : StableHlo.after hostOps0 V (Proc.devRef .tc main_c_18) ix0 = 0#32 := by
  entry_read; rfl
theorem top0 : StableHlo.after hostOps0 V (Proc.devRef .tc main_c_19) ix0 = 127#32 := by
  entry_read; rfl
theorem clip0 (r : Fin 128) (j : Fin 256) : StableHlo.after hostOps0_1 V (Proc.devRef .tc main_v38) (ix2 r j)
    = IntOp.minsi (V (Proc.devRef .tc main_c_19) ix0) (IntOp.maxsi (V (Proc.devRef .tc main_c_18) ix0) (V (Proc.devRef .tc main_v32) (ix2 r j))) := by
  entry_read
  simp only [StableHlo.TRef.toBuf, StableHlo.TRef.ofBuf, cast_eq]
  pointwise
theorem read0 (r : Fin 128) (j : Fin 256) (w : BitVec 32) (hw : V (Proc.devRef .tc main_v38) (ix2 r j) = IntOp.minsi 127#32 (IntOp.maxsi 0#32 w)) :
    StableHlo.after hostOps0_2 V (Proc.devRef .tc main_v45) (ix2 r j) = (V (Proc.devRef .tc main_v23) : S128.Idx → BitVec 32) (ix1 ⟨min (held w).toInt.toNat 127, by omega⟩) := by
  entry_read
  rw [take_at]
  refine congrArg (V (Proc.devRef .tc main_v23) : S128.Idx → BitVec 32) (congrArg ix1 (Fin.ext ?_))
  refine congrArg (fun x : BitVec 32 => min x.toInt.toNat 127) ?_
  pointwise [held]
  rw [hw]
theorem off0 : StableHlo.after hostOps0_2 V (Proc.devRef .tc main_c_22) ix0 = 4294967295#32 := by
  entry_read; rfl
theorem sel0 (r : Fin 128) (j : Fin 256) : StableHlo.after hostOps0_3 V (Proc.devRef .tc main_v46) (ix2 r j)
    = Scalar.select (V (Proc.devRef .tc main_v37) (ix2 r j)) (V (Proc.devRef .tc main_v45) (ix2 r j) : BitVec 32) (V (Proc.devRef .tc main_c_22) ix0) := by
  entry_read
  simp only [StableHlo.TRef.toBuf, StableHlo.TRef.ofBuf, cast_eq]
  pointwise
theorem eq0 (b : Fin 32) (i : Fin 32768) : StableHlo.after hostOps0_4 V (Proc.devRef .tc main_v52) (ix2 b i)
    = IntOp.cmpi .eq (V (Proc.devRef .tc main_v46) (ix2 ⟨i / 256, by omega⟩ ⟨i % 256, by omega⟩) : BitVec 32) (BitVec.ofNat 32 b) := by
  entry_read; pointwise
theorem one0 : StableHlo.after hostOps0_4 V (Proc.devRef .tc main_cst) ix0 = (1 : EReal) := by
  entry_read
  show Ideal.ofBits .f32 0x3F800000#32 = _
  simp [Ideal.ofBits, Ideal.ieee]; rw [← EReal.coe_mul]; norm_num
theorem nil0 : StableHlo.after hostOps0_4 V (Proc.devRef .tc main_cst_23) ix0 = (0 : EReal) := by
  entry_read
  show Ideal.ofBits .f32 0x00000000#32 = _
  simp [Ideal.ofBits, Ideal.ieee]
theorem put0 (b : Fin 32) (i : Fin 32768) : StableHlo.after hostOps0_6 (StableHlo.after hostOps0_5 V) (Proc.devRef .tc main_v54) (ix2 b i)
    = Scalar.select (V (Proc.devRef .tc main_v52) (ix2 b i)) (V (Proc.devRef .tc main_cst) ix0 : EReal) (V (Proc.devRef .tc main_cst_23) ix0) := by
  entry_read
  simp only [StableHlo.TRef.toBuf, StableHlo.TRef.ofBuf, cast_eq]
  pointwise
/-- The one-hot matrix after its seven lines. -/
theorem hot0 (b : Fin 32) (i : Fin 32768) :
    StableHlo.after hostOps0_6 (StableHlo.after hostOps0_5 (StableHlo.after hostOps0_4 (StableHlo.after hostOps0_3 (StableHlo.after hostOps0_2 (StableHlo.after hostOps0_1 (StableHlo.after hostOps0 V))))))
      (Proc.devRef .tc main_v54) (ix2 b i) = ((hot b i : ℝ) : EReal) := by
  have k1 (U : Valuation τ sig (Elt Ideal)) (r : Ref sig .tc) (h : r ∉ hostOps0_1_W) := StableHlo.after_of_writes_sub hostOps0_1 U hostOps0_1_writes h
  have k2 (U : Valuation τ sig (Elt Ideal)) (r : Ref sig .tc) (h : r ∉ hostOps0_2_W) := StableHlo.after_of_writes_sub hostOps0_2 U hostOps0_2_writes h
  rw [put0, one0, nil0, eq0, sel0]
  rw [k2 _ main_v37 (by decide), k1 _ main_v37 (by decide), near0, off0]
  rw [read0 _ _ _ (word (⟨i / 256, by omega⟩ : Fin 128) (⟨i % 256, by omega⟩ : Fin 256)) (by rw [clip0, top0, zero0, word0]), k1 _ main_v23 (by decide), tab0]
  rw [mark_at _ _ rfl rfl rfl rfl]
  exact hot_word b i _ _ rfl rfl

/-! ## The one-hot matrix of the gradient -/

theorem s3_0 : StableHlo.after hostOps3 V (Proc.devRef .tc main_v65) = fun _ => 16#32 := by
  funext i; entry_read; rfl
theorem s3_1 : StableHlo.after hostOps3 V (Proc.devRef .tc main_v66) = fun _ => 17#32 := by
  funext i; entry_read; rfl
theorem s3_2 : StableHlo.after hostOps3 V (Proc.devRef .tc main_v67) = fun _ => 18#32 := by
  funext i; entry_read; rfl
theorem s3_3 : StableHlo.after hostOps3 V (Proc.devRef .tc main_v68) = fun _ => 19#32 := by
  funext i; entry_read; rfl
theorem s3_4 : StableHlo.after hostOps3 V (Proc.devRef .tc main_v69) = fun _ => 20#32 := by
  funext i; entry_read; rfl
theorem s3_5 : StableHlo.after hostOps3 V (Proc.devRef .tc main_v70) = fun _ => 21#32 := by
  funext i; entry_read; rfl
theorem s3_6 : StableHlo.after hostOps3 V (Proc.devRef .tc main_v71) = fun _ => 22#32 := by
  funext i; entry_read; rfl
theorem s3_7 : StableHlo.after hostOps3 V (Proc.devRef .tc main_v72) = fun _ => 23#32 := by
  funext i; entry_read; rfl
theorem s3_8 : StableHlo.after hostOps3 V (Proc.devRef .tc main_v73) = fun _ => 24#32 := by
  funext i; entry_read; rfl
theorem s3_9 : StableHlo.after hostOps3 V (Proc.devRef .tc main_v74) = fun _ => 25#32 := by
  funext i; entry_read; rfl
theorem s3_10 : StableHlo.after hostOps3 V (Proc.devRef .tc main_v75) = fun _ => 26#32 := by
  funext i; entry_read; rfl
theorem s3_11 : StableHlo.after hostOps3 V (Proc.devRef .tc main_v76) = fun _ => 27#32 := by
  funext i; entry_read; rfl
theorem s3_12 : StableHlo.after hostOps3 V (Proc.devRef .tc main_v77) = fun _ => 28#32 := by
  funext i; entry_read; rfl
theorem s3_13 : StableHlo.after hostOps3 V (Proc.devRef .tc main_v78) = fun _ => 29#32 := by
  funext i; entry_read; rfl
theorem s3_14 : StableHlo.after hostOps3 V (Proc.devRef .tc main_v79) = fun _ => 30#32 := by
  funext i; entry_read; rfl
theorem s3_15 : StableHlo.after hostOps3 V (Proc.devRef .tc main_v80) = fun _ => 31#32 := by
  funext i; entry_read; rfl
theorem s3_16 : StableHlo.after hostOps3 V (Proc.devRef .tc main_v81) = iotaInDim S16 32 0 := by
  funext i; entry_read; rfl
theorem low3 : StableHlo.after hostOps3 V (Proc.devRef .tc main_v82) = low := by
  rw [StableHlo.after_last_write (i := 36) (hostOps3_W.drop 37) rfl rfl (by decide), StableHlo.nary_result']
  exact low_congr ((keep V 36 (hostOps3_W.drop 36) rfl (by decide)).trans (s3_16 V)) ((keep V 36 (hostOps3_W.drop 36) rfl (by decide)).trans (s3_0 V)) ((keep V 36 (hostOps3_W.drop 36) rfl (by decide)).trans (s3_1 V)) ((keep V 36 (hostOps3_W.drop 36) rfl (by decide)).trans (s3_2 V)) ((keep V 36 (hostOps3_W.drop 36) rfl (by decide)).trans (s3_3 V)) ((keep V 36 (hostOps3_W.drop 36) rfl (by decide)).trans (s3_4 V)) ((keep V 36 (hostOps3_W.drop 36) rfl (by decide)).trans (s3_5 V)) ((keep V 36 (hostOps3_W.drop 36) rfl (by decide)).trans (s3_6 V)) ((keep V 36 (hostOps3_W.drop 36) rfl (by decide)).trans (s3_7 V))
theorem tab3 : StableHlo.after hostOps3 V (Proc.devRef .tc main_v83) = tab := by
  rw [StableHlo.after_last_write (i := 37) (hostOps3_W.drop 38) rfl rfl (by decide), StableHlo.nary_result']
  exact high_congr ((keep V 37 (hostOps3_W.drop 37) rfl (by decide)).trans (low3 V)) ((keep V 37 (hostOps3_W.drop 37) rfl (by decide)).trans (s3_8 V)) ((keep V 37 (hostOps3_W.drop 37) rfl (by decide)).trans (s3_9 V)) ((keep V 37 (hostOps3_W.drop 37) rfl (by decide)).trans (s3_10 V)) ((keep V 37 (hostOps3_W.drop 37) rfl (by decide)).trans (s3_11 V)) ((keep V 37 (hostOps3_W.drop 37) rfl (by decide)).trans (s3_12 V)) ((keep V 37 (hostOps3_W.drop 37) rfl (by decide)).trans (s3_13 V)) ((keep V 37 (hostOps3_W.drop 37) rfl (by decide)).trans (s3_14 V)) ((keep V 37 (hostOps3_W.drop 37) rfl (by decide)).trans (s3_15 V))
theorem word3 (r : Fin 128) (j : Fin 256) : StableHlo.after hostOps3 V (Proc.devRef .tc main_v92) (ix2 r j) = word r j := by
  entry_read; pointwise [word]
theorem near3 (r : Fin 128) (j : Fin 256) : StableHlo.after hostOps3 V (Proc.devRef .tc main_v97) (ix2 r j) = if near r j then 1#1 else 0#1 := by
  rw [← near_word]; entry_read; pointwise [word]
theorem zero3 : StableHlo.after hostOps3 V (Proc.devRef .tc main_c_43) ix0 = 0#32 := by
  entry_read; rfl
theorem top3 : StableHlo.after hostOps3 V (Proc.devRef .tc main_c_44) ix0 = 127#32 := by
  entry_read; rfl
theorem clip3 (r : Fin 128) (j : Fin 256) : StableHlo.after hostOps3_1 V (Proc.devRef .tc main_v98) (ix2 r j)
    = IntOp.minsi (V (Proc.devRef .tc main_c_44) ix0) (IntOp.maxsi (V (Proc.devRef .tc main_c_43) ix0) (V (Proc.devRef .tc main_v92) (ix2 r j))) := by
  entry_read
  simp only [StableHlo.TRef.toBuf, StableHlo.TRef.ofBuf, cast_eq]
  pointwise
theorem read3 (r : Fin 128) (j : Fin 256) (w : BitVec 32) (hw : V (Proc.devRef .tc main_v98) (ix2 r j) = IntOp.minsi 127#32 (IntOp.maxsi 0#32 w)) :
    StableHlo.after hostOps3_2 V (Proc.devRef .tc main_v105) (ix2 r j) = (V (Proc.devRef .tc main_v83) : S128.Idx → BitVec 32) (ix1 ⟨min (held w).toInt.toNat 127, by omega⟩) := by
  entry_read
  rw [take_at]
  refine congrArg (V (Proc.devRef .tc main_v83) : S128.Idx → BitVec 32) (congrArg ix1 (Fin.ext ?_))
  refine congrArg (fun x : BitVec 32 => min x.toInt.toNat 127) ?_
  pointwise [held]
  rw [hw]
theorem off3 : StableHlo.after hostOps3_2 V (Proc.devRef .tc main_c_47) ix0 = 4294967295#32 := by
  entry_read; rfl
theorem sel3 (r : Fin 128) (j : Fin 256) : StableHlo.after hostOps3_3 V (Proc.devRef .tc main_v106) (ix2 r j)
    = Scalar.select (V (Proc.devRef .tc main_v97) (ix2 r j)) (V (Proc.devRef .tc main_v105) (ix2 r j) : BitVec 32) (V (Proc.devRef .tc main_c_47) ix0) := by
  entry_read
  simp only [StableHlo.TRef.toBuf, StableHlo.TRef.ofBuf, cast_eq]
  pointwise
theorem eq3 (b : Fin 32) (i : Fin 32768) : StableHlo.after hostOps3_4 V (Proc.devRef .tc main_v112) (ix2 b i)
    = IntOp.cmpi .eq (V (Proc.devRef .tc main_v106) (ix2 ⟨i / 256, by omega⟩ ⟨i % 256, by omega⟩) : BitVec 32) (BitVec.ofNat 32 b) := by
  entry_read; pointwise
theorem one3 : StableHlo.after hostOps3_4 V (Proc.devRef .tc main_cst_48) ix0 = (1 : EReal) := by
  entry_read
  show Ideal.ofBits .f32 0x3F800000#32 = _
  simp [Ideal.ofBits, Ideal.ieee]; rw [← EReal.coe_mul]; norm_num
theorem nil3 : StableHlo.after hostOps3_4 V (Proc.devRef .tc main_cst_49) ix0 = (0 : EReal) := by
  entry_read
  show Ideal.ofBits .f32 0x00000000#32 = _
  simp [Ideal.ofBits, Ideal.ieee]
theorem put3 (b : Fin 32) (i : Fin 32768) : StableHlo.after hostOps3_6 (StableHlo.after hostOps3_5 V) (Proc.devRef .tc main_v114) (ix2 b i)
    = Scalar.select (V (Proc.devRef .tc main_v112) (ix2 b i)) (V (Proc.devRef .tc main_cst_48) ix0 : EReal) (V (Proc.devRef .tc main_cst_49) ix0) := by
  entry_read
  simp only [StableHlo.TRef.toBuf, StableHlo.TRef.ofBuf, cast_eq]
  pointwise
/-- The one-hot matrix after its seven lines. -/
theorem hot3 (b : Fin 32) (i : Fin 32768) :
    StableHlo.after hostOps3_6 (StableHlo.after hostOps3_5 (StableHlo.after hostOps3_4 (StableHlo.after hostOps3_3 (StableHlo.after hostOps3_2 (StableHlo.after hostOps3_1 (StableHlo.after hostOps3 V))))))
      (Proc.devRef .tc main_v114) (ix2 b i) = ((hot b i : ℝ) : EReal) := by
  have k1 (U : Valuation τ sig (Elt Ideal)) (r : Ref sig .tc) (h : r ∉ hostOps3_1_W) := StableHlo.after_of_writes_sub hostOps3_1 U hostOps3_1_writes h
  have k2 (U : Valuation τ sig (Elt Ideal)) (r : Ref sig .tc) (h : r ∉ hostOps3_2_W) := StableHlo.after_of_writes_sub hostOps3_2 U hostOps3_2_writes h
  rw [put3, one3, nil3, eq3, sel3]
  rw [k2 _ main_v97 (by decide), k1 _ main_v97 (by decide), near3, off3]
  rw [read3 _ _ _ (word (⟨i / 256, by omega⟩ : Fin 128) (⟨i % 256, by omega⟩ : Fin 256)) (by rw [clip3, top3, zero3, word3]), k1 _ main_v83 (by decide), tab3]
  rw [mark_at _ _ rfl rfl rfl rfl]
  exact hot_word b i _ _ rfl rfl

end Cert.AttnHot

end
-- ==== Proof.AttnEnt.lean ====
/- The arrays the attention's backward kernel is called with, from the arguments: the gains and the sinks by lane, the bias by bucket, the projected rows. -/
module

public import proofs.«01_k».proof.Proof.AttnTab
public import proofs.«01_k».proof.Proof.AttnHot
public import proofs.«01_k».proof.Proof.AttnRun

@[expose] public section

set_option maxRecDepth 16384

noncomputable section

open Idealize.ShloMosaic Idealize.ShloMosaic.TcCoe Idealize.ShloMosaic.ValueKit Idealize.ShloMosaic.Tactic

namespace Cert.AttnKer
open Cert.Reals Cert.AttnBand Cert.AttnMath Cert.AttnIdeal Cert.AttnIdeal.Gen

/-- The six arguments hold the part's inputs. -/
structure Args (x0 : FVec Ideal S8192x6400 .f32) (x1 x2 : FVec Ideal S1x64 .f32) (x3 : FVec Ideal S1x16 .f32) (x4 : FVec Ideal S32x16 .f32) (x5 : FVec Ideal S8192x1024 .f32) (I : In) : Prop where
  z : A2 x0 I.z
  qg : A2 x1 fun _ d => I.qg d
  kg : A2 x2 fun _ d => I.kg d
  sk : A2 x3 fun _ h => I.sk h
  rb : A2 x4 I.rb
  ct : A2 x5 I.ct
  bk : I.bk = bucket

/-- An array of two axes as a function of naturals, nought outside it. -/
def nat2 {m n : ℕ} (r : (⟨2, ![m, n]⟩ : Shape).Idx → ℝ) (a b : ℕ) : ℝ := if h : a < m ∧ b < n then r (ix2 ⟨a, h.1⟩ ⟨b, h.2⟩) else 0

theorem nat2_at {m n : ℕ} (r : (⟨2, ![m, n]⟩ : Shape).Idx → ℝ) (a : Fin m) (b : Fin n) : nat2 r a b = r (ix2 a b) := dif_pos ⟨a.isLt, b.isLt⟩

/-- Finite arguments hold some inputs. -/
theorem args_of_real {x0 x1 x2 x3 x4 x5} (h0 : ∃ r : S8192x6400.Idx → ℝ, x0 = fun i => (r i : EReal)) (h1 : ∃ r : S1x64.Idx → ℝ, x1 = fun i => (r i : EReal))
    (h2 : ∃ r : S1x64.Idx → ℝ, x2 = fun i => (r i : EReal)) (h3 : ∃ r : S1x16.Idx → ℝ, x3 = fun i => (r i : EReal)) (h4 : ∃ r : S32x16.Idx → ℝ, x4 = fun i => (r i : EReal))
    (h5 : ∃ r : S8192x1024.Idx → ℝ, x5 = fun i => (r i : EReal)) : ∃ I, Args x0 x1 x2 x3 x4 x5 I := by
  obtain ⟨r0, rfl⟩ := h0; obtain ⟨r1, rfl⟩ := h1; obtain ⟨r2, rfl⟩ := h2; obtain ⟨r3, rfl⟩ := h3; obtain ⟨r4, rfl⟩ := h4; obtain ⟨r5, rfl⟩ := h5
  have e {n : ℕ} (r : (⟨2, ![1, n]⟩ : Shape).Idx → ℝ) (a : Fin 1) (b : Fin n) : (r (ix2 a b) : EReal) = ((nat2 r 0 b : ℝ) : EReal) := by
    obtain rfl : a = 0 := Subsingleton.elim _ _
    exact congrArg _ (nat2_at r 0 b).symm
  exact ⟨⟨nat2 r0, nat2 r1 0, nat2 r2 0, nat2 r3 0, nat2 r4, nat2 r5, bucket⟩, fun a b => congrArg _ (nat2_at r0 a b).symm, e r1, e r2, e r3, fun a b => congrArg _ (nat2_at r4 a b).symm,
    fun a b => congrArg _ (nat2_at r5 a b).symm, rfl⟩

section
variable (U : Valuation τ sig (Elt Ideal))

theorem qg_line (a : Fin 1) (l : Fin 128) : (StableHlo.after hostOps0 U (Proc.devRef .tc main_v0) (ix2 a l) : EReal) = U (Proc.devRef .tc main_arg1) (ix2 0 ⟨l % 64, by omega⟩) := by
  entry_read
  pointwise
  have hl := l.isLt
  by_cases h : (l : ℕ) < 64
  · rw [dif_pos h]; exact congrArg (U (Proc.devRef .tc main_arg1)) (congrArg (ix2 0) (Fin.ext (Nat.mod_eq_of_lt h).symm))
  · rw [dif_neg h]; exact congrArg (U (Proc.devRef .tc main_arg1)) (congrArg (ix2 0) (Fin.ext (by show (l : ℕ) - 64 = l % 64; omega)))

theorem kg_line (a : Fin 1) (l : Fin 128) : (StableHlo.after hostOps0 U (Proc.devRef .tc main_v1) (ix2 a l) : EReal) = U (Proc.devRef .tc main_arg2) (ix2 0 ⟨l % 64, by omega⟩) := by
  entry_read
  pointwise
  have hl := l.isLt
  by_cases h : (l : ℕ) < 64
  · rw [dif_pos h]; exact congrArg (U (Proc.devRef .tc main_arg2)) (congrArg (ix2 0) (Fin.ext (Nat.mod_eq_of_lt h).symm))
  · rw [dif_neg h]; exact congrArg (U (Proc.devRef .tc main_arg2)) (congrArg (ix2 0) (Fin.ext (by show (l : ℕ) - 64 = l % 64; omega)))

theorem sink_line (a : Fin 2) (k : Fin 1024) : (StableHlo.after hostOps0 U (Proc.devRef .tc main_v4) (ix3 a 0 k) : EReal) = U (Proc.devRef .tc main_arg3) (ix2 0 ⟨8 * a + k / 128, by omega⟩) := by
  entry_read
  pointwise
  simp only [Nat.mul_comm (a : ℕ) 8]

theorem bias_line (a : Fin 2) (j : Fin 256) (k : Fin 1024) :
    (StableHlo.after hostOps1 U (Proc.devRef .tc main_v58) (ix3 a j k) : EReal) = U (Proc.devRef .tc main_v55) (ix2 ⟨8 * a + k / 128, by omega⟩ ⟨256 * (k % 128) + j, by omega⟩) := by
  entry_read
  pointwise
  simp only [Nat.mul_comm (a : ℕ) 8, Nat.mul_comm ((k : ℕ) % 128) 256]

theorem z_line (s : Fin 8192) (l : Fin 2560) :
    (StableHlo.after hostOps1 U (Proc.devRef .tc main_v59) (ix2 s l) : EReal) = U (Proc.devRef .tc main_arg0) (ix2 s ⟨l, by omega⟩) := by
  entry_read
  pointwise
end

variable (m : (ℓ : Loc nD τ sig) → Buf (Elt Ideal) ℓ) (ρ : Dev nD → PrngReg) (c : Dev nD)

/-- The arrays of the arguments. -/
abbrev a0 : FVec Ideal S8192x6400 .f32 := m ((c : Thread nD τ).loc main_arg0)
abbrev a1 : FVec Ideal S1x64 .f32 := m ((c : Thread nD τ).loc main_arg1)
abbrev a2 : FVec Ideal S1x64 .f32 := m ((c : Thread nD τ).loc main_arg2)
abbrev a3 : FVec Ideal S1x16 .f32 := m ((c : Thread nD τ).loc main_arg3)
abbrev a4 : FVec Ideal S32x16 .f32 := m ((c : Thread nD τ).loc main_arg4)
abbrev a5 : FVec Ideal S8192x1024 .f32 := m ((c : Thread nD τ).loc main_arg5)

/-- What the first line leaves stays until the backward kernel. -/
theorem first_line (r : Ref sig .tc) (h : r ∉ hostOps0_1_W ∧ r ∉ hostOps0_2_W ∧ r ∉ hostOps0_3_W ∧ r ∉ hostOps0_4_W ∧ r ∉ hostOps0_5_W ∧ r ∉ hostOps0_6_W ∧ r ∉ hostOps1_W)
    (h0 : ∀ w, Pipeline.arrRef spec0 w ≠ r) : W9 m ρ c (Proc.devRef .tc r) = StableHlo.after hostOps0 (W0 m ρ c) (Proc.devRef .tc r) := by
  rw [W9_of m ρ c r h.2.2.2.2.2.2, W8_of_ne m ρ c r h0, W7_of m ρ c r h.2.2.2.2.2.1, W6_of m ρ c r h.2.2.2.2.1, W5_of m ρ c r h.2.2.2.1, W4_of m ρ c r h.2.2.1, W3_of m ρ c r h.2.1, W2_of m ρ c r h.1]

theorem ent {I : In} (H : Args (a0 m c) (a1 m c) (a2 m c) (a3 m c) (a4 m c) (a5 m c) I) : Ent (V9 m ρ) c I where
  z s l := (z_line (W8 m ρ c) s l).trans ((congrFun (W8_args m ρ c main_arg0 (by decide)) _).trans (H.z s ⟨l, by omega⟩))
  ct s l := (congrFun (W9_args m ρ c main_arg5 (by decide)) _).trans (H.ct s l)
  qg a l := (congrFun (first_line m ρ c main_v0 (by decide) (by decide)) _).trans ((qg_line _ a l).trans (H.qg 0 _))
  kg a l := (congrFun (first_line m ρ c main_v1 (by decide) (by decide)) _).trans ((kg_line _ a l).trans (H.kg 0 _))
  sink a k := (congrFun (first_line m ρ c main_v4 (by decide) (by decide)) _).trans ((sink_line _ a k).trans (H.sk 0 _))
  bias a j k := by
    refine (bias_line (W8 m ρ c) a j k).trans ((congrFun (W8_arr m ρ c 2) _).trans ((congrFun (table (V7 m ρ) c (rb := I.rb) ?_ ?_) _).trans ?_))
    · intro b h; exact (congrFun (W7_args m ρ c main_arg4 (by decide)) _).trans (H.rb b h)
    · intro b i; exact AttnHot.hot0 _ b i
    · have e1 : (256 * ((k : ℕ) % 128) + (j : ℕ)) / 256 = (k : ℕ) % 128 := by omega
      have e2 : (256 * ((k : ℕ) % 128) + (j : ℕ)) % 256 = j := by omega
      show (if near ((256 * ((k : ℕ) % 128) + (j : ℕ)) / 256) ((256 * ((k : ℕ) % 128) + (j : ℕ)) % 256) then
        ((I.rb (bucket (128 + (256 * ((k : ℕ) % 128) + (j : ℕ)) / 256 - (256 * ((k : ℕ) % 128) + (j : ℕ)) % 256)) (8 * (a : ℕ) + (k : ℕ) / 128) : ℝ) : EReal) else ⊥) = _
      rw [e1, e2, H.bk]

end Cert.AttnKer
end
-- ==== Proof.AttnFin.lean ====
/- The attention's backward kernel: its output arrays after the whole grid. -/
module

public import proofs.«01_k».proof.Proof.AttnReg

@[expose] public section

set_option maxRecDepth 16384

noncomputable section

open Idealize.ShloMosaic Idealize.ShloMosaic.TcCoe

namespace Cert.AttnKer
open Cert.Reals Cert.AttnMath Cert.AttnIdeal Cert.AttnIdeal.Gen

variable (V : (c : Dev nD) → (b : Ref sig .tc) → Buf (Elt Ideal) ((c : Thread nD τ).loc b)) (c : Dev nD)
variable {I : In} (H : Ent V c I) (t : Fin cfg1.N)
include H

omit H in
theorem bits8 : ∀ q < 8, ∃ b p e : Bool, q = 4 * b.toNat + 2 * p.toNat + e.toNat := by decide

omit H in
theorem bits2 : ∀ q < 2, ∃ b : Bool, q = b.toNat := by decide

omit H in
theorem cover11 (r : Fin 128) (k : Fin 1024) : ∃ b p e, (ix2 r k : S128x1024.Idx) ∈ (rg b p e).set := by
  have hk := k.isLt
  have hr := r.isLt
  obtain ⟨b, p, e, h⟩ := bits8 (k / 128) (by omega)
  refine ⟨b, p, e, Rect.mem_set_unit.2 (Fin.forall_fin_two.2 ⟨⟨Nat.zero_le _, ?_⟩, ⟨?_, ?_⟩⟩)⟩
  · show (r : ℕ) < 0 + 128; omega
  · show 512 * b.toNat + at' p e ≤ (k : ℕ); unfold at'; omega
  · show (k : ℕ) < 512 * b.toNat + at' p e + 128; unfold at'; omega

theorem dq_point (r : Fin 128) (k : Fin 1024) : (outsAt1 V c t.val t.isLt).1 (ix2 r k) = ((dq I (128 * t.val + r) (k / 64) (k % 64) : ℝ) : EReal) := by
  have hW := holds V c H t
  rw [out11]
  generalize ld V c t = W at hW ⊢
  let G : S128x1024.Idx → EReal := fun y => ((dq I (128 * t.val + (y 0 : ℕ)) ((y 1 : ℕ) / 64) ((y 1 : ℕ) % 64) : ℝ) : EReal)
  have hp : ∀ b p e, ∀ x : (rg b p e).shape.Idx, qOut W b p e x = G ((rg b p e).emb x) := fun b p e x => by
    have h := qOut_real hW b p e (x 0) (x 1)
    have e0 : (((rg b p e).emb x 0 : Fin _) : ℕ) = 0 + x 0 := Rect.idx_unit_val _ _ _ x 0
    have e1 : (((rg b p e).emb x 1 : Fin _) : ℕ) = 512 * b.toNat + at' p e + x 1 := Rect.idx_unit_val _ _ _ x 1
    have a1 : (512 * b.toNat + at' p e + (x 1 : ℕ)) / 64 = 8 * b.toNat + 4 * p.toNat + 2 * e.toNat + x 1 / 64 := by unfold at'; omega
    have a2 : (512 * b.toNat + at' p e + (x 1 : ℕ)) % 64 = x 1 % 64 := by unfold at'; omega
    refine (congrArg (qOut W b p e) (eq_ix2 x)).trans (h.trans ?_)
    dsimp only [G]
    rw [e0, e1, a1, a2, Nat.zero_add]
  have hm : ∀ b p e, (⟨rg b p e, qOut W b p e⟩ : View.Piece (Elt Ideal) S128x1024 .bf16) ∈ pieces W := fun b p e => by
    cases b <;> cases p <;> cases e <;> simp [pieces]
  obtain ⟨b, p, e, hy⟩ := cover11 r k
  have hc := View.canon_append_of_piecesOf G [] (pieces W) ⟨hp _ _ _, hp _ _ _, hp _ _ _, hp _ _ _, hp _ _ _, hp _ _ _, hp _ _ _, hp _ _ _, trivial⟩ (ix2 r k)
    ⟨_, hm b p e, hy⟩
  rw [List.append_nil] at hc
  exact hc

end Cert.AttnKer
-- ==== Proof.AttnSum.lean ====
/- The attention's backward kernel: one point's stores into the accumulated outputs, read at an index. -/
module

public import proofs.«01_k».proof.Proof.AttnFin

@[expose] public section

set_option maxRecDepth 16384

noncomputable section

open Idealize.ShloMosaic Idealize.ShloMosaic.TcCoe

namespace Cert.AttnKer
open Cert.Reals Cert.AttnMath Cert.AttnIdeal Cert.AttnIdeal.Gen

section Stores
variable {I : In} {n : ℕ} {W : Ld Ideal} (hW : Holds I n W)

/-- Every entry of the band's array lies in one of the four stored blocks. -/
theorem cover16 (y : S2x256x1024.Idx) : ∃ b p, y ∈ (rb b p).set := by
  have h0 : ((y 0 : Fin _) : ℕ) < 2 := (y 0).isLt
  have h1 : ((y 1 : Fin _) : ℕ) < 256 := (y 1).isLt
  have h2 : ((y 2 : Fin _) : ℕ) < 1024 := (y 2).isLt
  obtain ⟨b, hb⟩ := bits2 (y 0) h0
  obtain ⟨p, hp⟩ := bits2 ((y 2 : ℕ) / 512) (by omega)
  refine ⟨b, p, Rect.mem_set_unit.2 fun a => ?_⟩
  fin_cases a
  · exact ⟨show b.toNat ≤ (y 0 : ℕ) by omega, show (y 0 : ℕ) < b.toNat + 1 by omega⟩
  · exact ⟨Nat.zero_le _, show (y 1 : ℕ) < 0 + 256 by omega⟩
  · exact ⟨show 512 * p.toNat ≤ (y 2 : ℕ) by omega, show (y 2 : ℕ) < 512 * p.toNat + 512 by omega⟩

theorem cover17 (y : S2x1x1024.Idx) : ∃ b p, y ∈ (rs b p).set := by
  have h0 : ((y 0 : Fin _) : ℕ) < 2 := (y 0).isLt
  have h1 : ((y 1 : Fin _) : ℕ) < 1 := (y 1).isLt
  have h2 : ((y 2 : Fin _) : ℕ) < 1024 := (y 2).isLt
  obtain ⟨b, hb⟩ := bits2 (y 0) h0
  obtain ⟨p, hp⟩ := bits2 ((y 2 : ℕ) / 512) (by omega)
  refine ⟨b, p, Rect.mem_set_unit.2 fun a => ?_⟩
  fin_cases a
  · exact ⟨show b.toNat ≤ (y 0 : ℕ) by omega, show (y 0 : ℕ) < b.toNat + 1 by omega⟩
  · exact ⟨Nat.zero_le _, show (y 1 : ℕ) < 0 + 1 by omega⟩
  · exact ⟨show 512 * p.toNat ≤ (y 2 : ℕ) by omega, show (y 2 : ℕ) < 512 * p.toNat + 512 by omega⟩

/-- What is added at an entry of the band's array, and of the sinks'. -/
def part16 (I : In) (n : ℕ) (y : S2x256x1024.Idx) : ℝ := AttnMath.dS I n (8 * (y 0 : ℕ) + (y 2 : ℕ) / 128) ((y 2 : ℕ) % 128) (y 1)
def part17 (I : In) (n : ℕ) (y : S2x1x1024.Idx) : ℝ :=
  -(ps I n (8 * (y 0 : ℕ) + (y 2 : ℕ) / 128) ((y 2 : ℕ) % 128)) * AttnMath.dl I n (8 * (y 0 : ℕ) + (y 2 : ℕ) / 128) ((y 2 : ℕ) % 128)

theorem pay45_at (v : Vec Ideal S256x512 .f32) (a : Vec Ideal S1x256x512 .f32) (x : S1x256x512.Idx) :
    k1_pay45 v a x = a x + v (ix2 (x 1) (x 2)) := by
  pointwise [k1_pay45]

theorem pay44_at (v : Vec Ideal S1x512 .f32) (a : Vec Ideal S1x1x512 .f32) (x : S1x1x512.Idx) :
    k1_pay44 (F := Ideal) (addf (shapeCast S1x512 a shapeCasts_S1x1x512_S1x512) v) x = a x + v (ix2 (x 1) (x 2)) := by
  have h0 : x 1 = (0 : Fin 1) := Fin.fin_one_eq_zero _
  pointwise [k1_pay44]
  rw [h0]

include hW in
theorem st16_at (b p : Bool) (a : Vec Ideal S1x256x512 .f32) (base : S2x256x1024.Idx → EReal) (ha : ∀ x : (rb b p).shape.Idx, a x = base ((rb b p).emb x)) (x : (rb b p).shape.Idx) :
    k1_pay45 (dS W b p) a x = base ((rb b p).emb x) + ((part16 I n ((rb b p).emb x) : ℝ) : EReal) := by
  have h0 : ((x 0 : Fin _) : ℕ) = 0 := by have := (x 0).isLt; change _ < 1 at this; omega
  have h2 : ((x 2 : Fin _) : ℕ) < 512 := (x 2).isLt
  have e0 : (((rb b p).emb x 0 : Fin _) : ℕ) = b.toNat + x 0 := Rect.idx_unit_val _ _ _ x 0
  have e1 : (((rb b p).emb x 1 : Fin _) : ℕ) = 0 + x 1 := Rect.idx_unit_val _ _ _ x 1
  have e2 : (((rb b p).emb x 2 : Fin _) : ℕ) = 512 * p.toNat + x 2 := Rect.idx_unit_val _ _ _ x 2
  have a1 : 8 * (b.toNat + 0) + (512 * p.toNat + (x 2 : ℕ)) / 128 = hd b p (x 2) := by unfold hd; omega
  have a2 : (512 * p.toNat + (x 2 : ℕ)) % 128 = x 2 % 128 := by omega
  refine (pay45_at _ a x).trans ((congrArg₂ (· + ·) (ha x) (dS_real hW b p (x 1) (x 2))).trans ?_)
  unfold part16
  rw [e0, e1, e2, h0, a1, a2, Nat.zero_add]

include hW in
theorem st17_at (b p : Bool) (a : Vec Ideal S1x1x512 .f32) (base : S2x1x1024.Idx → EReal) (ha : ∀ x : (rs b p).shape.Idx, a x = base ((rs b p).emb x)) (x : (rs b p).shape.Idx) :
    k1_pay44 (F := Ideal) (addf (shapeCast S1x512 a shapeCasts_S1x1x512_S1x512) (sk W b p)) x = base ((rs b p).emb x) + ((part17 I n ((rs b p).emb x) : ℝ) : EReal) := by
  have h0 : ((x 0 : Fin _) : ℕ) = 0 := by have := (x 0).isLt; change _ < 1 at this; omega
  have h2 : ((x 2 : Fin _) : ℕ) < 512 := (x 2).isLt
  have e0 : (((rs b p).emb x 0 : Fin _) : ℕ) = b.toNat + x 0 := Rect.idx_unit_val _ _ _ x 0
  have e2 : (((rs b p).emb x 2 : Fin _) : ℕ) = 512 * p.toNat + x 2 := Rect.idx_unit_val _ _ _ x 2
  have a1 : 8 * (b.toNat + 0) + (512 * p.toNat + (x 2 : ℕ)) / 128 = hd b p (x 2) := by unfold hd; omega
  have a2 : (512 * p.toNat + (x 2 : ℕ)) % 128 = x 2 % 128 := by omega
  refine (pay44_at _ a x).trans ((congrArg₂ (· + ·) (ha x) (sk_real hW b p (x 1) (x 2))).trans ?_)
  unfold part17
  rw [e0, e2, h0, a1, a2]

include hW in
/-- Four stores over loads of one array: that array and the point's part. -/
theorem sum16 (base : S2x256x1024.Idx → EReal) (a11 a10 a01 a00 : Vec Ideal S1x256x512 .f32)
    (h11 : ∀ x : (rb true true).shape.Idx, a11 x = base ((rb true true).emb x)) (h10 : ∀ x : (rb true false).shape.Idx, a10 x = base ((rb true false).emb x))
    (h01 : ∀ x : (rb false true).shape.Idx, a01 x = base ((rb false true).emb x)) (h00 : ∀ x : (rb false false).shape.Idx, a00 x = base ((rb false false).emb x)) (L' : List (View.Piece (Elt Ideal) S2x256x1024 .f32)) (y : S2x256x1024.Idx) :
    View.canon ([st16 W true true a11, st16 W true false a10, st16 W false true a01, st16 W false false a00] ++ L') y = base y + ((part16 I n y : ℝ) : EReal) := by
  let G : S2x256x1024.Idx → EReal := fun y => base y + ((part16 I n y : ℝ) : EReal)
  refine View.canon_append_of_piecesOf (Val := Elt Ideal) (e := .f32) G L'
    [st16 W true true a11, st16 W true false a10, st16 W false true a01, st16 W false false a00]
    ⟨st16_at hW _ _ _ base h11, st16_at hW _ _ _ base h10, st16_at hW _ _ _ base h01, st16_at hW _ _ _ base h00, trivial⟩ y ?_
  obtain ⟨b, p, h⟩ := cover16 y
  cases b <;> cases p
  · exact ⟨_, .tail _ (.tail _ (.tail _ (.head _))), h⟩
  · exact ⟨_, .tail _ (.tail _ (.head _)), h⟩
  · exact ⟨_, .tail _ (.head _), h⟩
  · exact ⟨_, .head _, h⟩

include hW in
theorem sum17 (base : S2x1x1024.Idx → EReal) (a11 a10 a01 a00 : Vec Ideal S1x1x512 .f32)
    (h11 : ∀ x : (rs true true).shape.Idx, a11 x = base ((rs true true).emb x)) (h10 : ∀ x : (rs true false).shape.Idx, a10 x = base ((rs true false).emb x))
    (h01 : ∀ x : (rs false true).shape.Idx, a01 x = base ((rs false true).emb x)) (h00 : ∀ x : (rs false false).shape.Idx, a00 x = base ((rs false false).emb x)) (L' : List (View.Piece (Elt Ideal) S2x1x1024 .f32)) (y : S2x1x1024.Idx) :
    View.canon ([st17 W true true a11, st17 W true false a10, st17 W false true a01, st17 W false false a00] ++ L') y = base y + ((part17 I n y : ℝ) : EReal) := by
  let G : S2x1x1024.Idx → EReal := fun y => base y + ((part17 I n y : ℝ) : EReal)
  refine View.canon_append_of_piecesOf (Val := Elt Ideal) (e := .f32) G L'
    [st17 W true true a11, st17 W true false a10, st17 W false true a01, st17 W false false a00]
    ⟨st17_at hW _ _ _ base h11, st17_at hW _ _ _ base h10, st17_at hW _ _ _ base h01, st17_at hW _ _ _ base h00, trivial⟩ y ?_
  obtain ⟨b, p, h⟩ := cover17 y
  cases b <;> cases p
  · exact ⟨_, .tail _ (.tail _ (.tail _ (.head _))), h⟩
  · exact ⟨_, .tail _ (.tail _ (.head _)), h⟩
  · exact ⟨_, .tail _ (.head _), h⟩
  · exact ⟨_, .head _, h⟩
end Stores

variable (V : (c : Dev nD) → (b : Ref sig .tc) → Buf (Elt Ideal) ((c : Thread nD τ).loc b)) (c : Dev nD)
variable {I : In} (H : Ent V c I) (t : Fin cfg1.N)

theorem fill16 (b p : Bool) (L : List (View.Piece (Elt Ideal) S2x256x1024 .f32)) (h : (ms1_16 t).view.readCov L (rb b p).toLoadRect = (ms1_16 t).view.readCov [⟨whole16, k1_pay12 (F := Ideal)⟩] (rb b p).toLoadRect)
    (x : (rb b p).shape.Idx) : (ms1_16 t).view.readCov L (rb b p).toLoadRect x = (0 : EReal) := by
  have e := View.readCov_fill (Val := Elt Ideal) (ms1_16 t).view in16 (k1_pay12 (F := Ideal)) [] (rb b p) (by decide)
  refine (congrFun (h.trans e) x).trans ?_
  pointwise [k1_pay12]

theorem fill17 (b p : Bool) (L : List (View.Piece (Elt Ideal) S2x1x1024 .f32)) (h : (ms1_17 t).view.readCov L (rs b p).toLoadRect = (ms1_17 t).view.readCov [⟨whole17, k1_pay13 (F := Ideal)⟩] (rs b p).toLoadRect)
    (x : (rs b p).shape.Idx) : (ms1_17 t).view.readCov L (rs b p).toLoadRect x = (0 : EReal) := by
  have e := View.readCov_fill (Val := Elt Ideal) (ms1_17 t).view in17 (k1_pay13 (F := Ideal)) [] (rs b p) (by decide)
  refine (congrFun (h.trans e) x).trans ?_
  pointwise [k1_pay13]

include H in
theorem first16 (h0 : t.val % 64 = 0) (y : S2x256x1024.Idx) : (outsAt1 V c t.val t.isLt).2.2.2.2.2.1 y = 0 + ((part16 I t.val y : ℝ) : EReal) := by
  rw [out16_A V c t h0]
  refine sum16 (holds V c H t) (fun _ => 0) _ _ _ _ (fill16 t true true _ ?_) (fill16 t true false _ ?_) (fill16 t false true _ ?_) (fill16 t false false _ rfl) [⟨whole16, k1_pay12 (F := Ideal)⟩] y
  · unfold add16 st16; rw [View.readCov_skip _ _ _ _ _ (by decide), View.readCov_skip _ _ _ _ _ (by decide), View.readCov_skip _ _ _ _ _ (by decide)]
  · unfold add16 st16; rw [View.readCov_skip _ _ _ _ _ (by decide), View.readCov_skip _ _ _ _ _ (by decide)]
  · unfold add16 st16; rw [View.readCov_skip _ _ _ _ _ (by decide)]

include H in
theorem first17 (h0 : t.val % 64 = 0) (y : S2x1x1024.Idx) : (outsAt1 V c t.val t.isLt).2.2.2.2.2.2.1 y = 0 + ((part17 I t.val y : ℝ) : EReal) := by
  rw [out17_A V c t h0]
  refine sum17 (holds V c H t) (fun _ => 0) _ _ _ _ (fill17 t true true _ ?_) (fill17 t true false _ ?_) (fill17 t false true _ ?_) (fill17 t false false _ rfl) [⟨whole17, k1_pay13 (F := Ideal)⟩] y
  · unfold add17 st17; rw [View.readCov_skip _ _ _ _ _ (by decide), View.readCov_skip _ _ _ _ _ (by decide), View.readCov_skip _ _ _ _ _ (by decide)]
  · unfold add17 st17; rw [View.readCov_skip _ _ _ _ _ (by decide), View.readCov_skip _ _ _ _ _ (by decide)]
  · unfold add17 st17; rw [View.readCov_skip _ _ _ _ _ (by decide)]

theorem old16_at (b p : Bool) (x : (rb b p).shape.Idx) : old16 V c t b p x = prev16 V c t ((rb b p).emb x) :=
  rd (ms1_16 t) (hs1_16 t) (prev16 V c t) ![b.toNat, 0, 512 * p.toNat] S1x256x512.size (inb b p) x ((rb b p).emb x) fun a => Rect.idx_unit_val _ _ _ x a
theorem old17_at (b p : Bool) (x : (rs b p).shape.Idx) : old17 V c t b p x = prev17 V c t ((rs b p).emb x) :=
  rd (ms1_17 t) (hs1_17 t) (prev17 V c t) ![b.toNat, 0, 512 * p.toNat] S1x1x512.size (ins b p) x ((rs b p).emb x) fun a => Rect.idx_unit_val _ _ _ x a

include H in
theorem next16 (h0 : ¬ t.val % 64 = 0) (y : S2x256x1024.Idx) : (outsAt1 V c t.val t.isLt).2.2.2.2.2.1 y = prev16 V c t y + ((part16 I t.val y : ℝ) : EReal) := by
  rw [out16_B V c t h0]
  exact sum16 (holds V c H t) (prev16 V c t) _ _ _ _ (old16_at V c t _ _) (old16_at V c t _ _) (old16_at V c t _ _) (old16_at V c t _ _) [] y

include H in
theorem next17 (h0 : ¬ t.val % 64 = 0) (y : S2x1x1024.Idx) : (outsAt1 V c t.val t.isLt).2.2.2.2.2.2.1 y = prev17 V c t y + ((part17 I t.val y : ℝ) : EReal) := by
  rw [out17_B V c t h0]
  exact sum17 (holds V c H t) (prev17 V c t) _ _ _ _ (old17_at V c t _ _) (old17_at V c t _ _) (old17_at V c t _ _) (old17_at V c t _ _) [] y

theorem old18_A_at (x : S8x128.Idx) : (old18_A (F := Ideal) t) x = (0 : EReal) := by
  have e := View.readCov_fill (Val := Elt Ideal) (ms1_18 t).view in8 (k1_pay14 (F := Ideal)) [] whole8 (by decide)
  refine (congrFun e x).trans ?_
  pointwise [k1_pay14]

theorem old18_at (x : S8x128.Idx) : old18 V c t x = prev18 V c t x :=
  rd (ms1_18 t) (hs1_18 t) (prev18 V c t) ![0, 0] S8x128.size in8 x x fun a => by fin_cases a <;> exact (Nat.zero_add _).symm

include H in
theorem first18 (h0 : t.val % 64 = 0) (y : S8x128.Idx) : (outsAt1 V c t.val t.isLt).2.2.2.2.2.2.2 y = 0 + ((gainPart I t.val (y 0) (y 1) : ℝ) : EReal) := by
  rw [out18_A V c t h0]
  refine (congrArg _ (eq_ix2 y)).trans ((gains_real (holds V c H t) _ _ _).trans ?_)
  rw [old18_A_at]

include H in
theorem next18 (h0 : ¬ t.val % 64 = 0) (y : S8x128.Idx) : (outsAt1 V c t.val t.isLt).2.2.2.2.2.2.2 y = prev18 V c t y + ((gainPart I t.val (y 0) (y 1) : ℝ) : EReal) := by
  rw [out18_B V c t h0]
  refine (congrArg _ (eq_ix2 y)).trans ((gains_real (holds V c H t) _ _ _).trans ?_)
  rw [old18_at]; exact congrArg (prev18 V c t · + _) (eq_ix2 y).symm

end Cert.AttnKer
-- ==== Proof.AttnArr.lean ====
/- The attention's backward kernel: its output arrays after the whole grid. -/
module

public import proofs.«01_k».proof.Proof.AttnSum

@[expose] public section

set_option maxRecDepth 16384

noncomputable section

open Idealize.ShloMosaic Idealize.ShloMosaic.TcCoe

namespace Cert.AttnKer
open Cert.Reals Cert.AttnMath Cert.AttnIdeal Cert.AttnIdeal.Gen

variable (V : (c : Dev nD) → (b : Ref sig .tc) → Buf (Elt Ideal) ((c : Thread nD τ).loc b)) (c : Dev nD)
variable {I : In} (H : Ent V c I) (t : Fin cfg1.N)

/-- What the kernel leaves of the keys' and the values' gradients at a row: the row is `o` and its place in its block, of the two blocks that its block reads. -/
def dkAt (I : In) (o s l : ℕ) : ℝ := nb (zk I (pos (s / 128) (o + s % 128)) (l / 64)) (fun d => dkb I (s / 128) (l / 64) (o + s % 128) d * I.kg d) (l % 64)
def dvAt (I : In) (o s l : ℕ) : ℝ := dvb I (s / 128) (l / 64) (o + s % 128) (l % 64)

omit V c H in
theorem at_row (n j : ℕ) (hj : j < 128) : (128 * n + j) / 128 = n ∧ (128 * n + j) % 128 = j := by omega

omit V c H t in
theorem sum64 {k : ℕ} (h : k = 0) (f : ℕ → ℝ) : ∑ s : Fin 64, ((f (64 * k + s) : ℝ) : EReal) = ((∑ s : Fin 64, f s : ℝ) : EReal) := by
  rw [coe_sum, h]; simp only [Nat.mul_zero, Nat.zero_add]

omit V c in
theorem row_lt {j : ℕ} (hj : j < 128) : 128 * t.val + j < 8192 := by have := lt_of_lt_of_eq t.isLt N_1; omega

include H

theorem k0_point (r : Fin 128) (l : Fin 128) : (outsAt1 V c t.val t.isLt).2.1 (ix2 r l) = ((dkAt I 0 (128 * t.val + r) l : ℝ) : EReal) := by
  rw [out12, kOut0_real (holds V c H t) r l]
  unfold dkAt; rw [(at_row t.val r r.isLt).1, (at_row t.val r r.isLt).2, Nat.zero_add]

theorem k1_point (r : Fin 128) (l : Fin 128) : (outsAt1 V c t.val t.isLt).2.2.1 (ix2 r l) = ((dkAt I 128 (128 * t.val + r) l : ℝ) : EReal) := by
  rw [out13, kOut1_real (holds V c H t) r l]
  unfold dkAt; rw [(at_row t.val r r.isLt).1, (at_row t.val r r.isLt).2]

theorem v0_point (r : Fin 128) (l : Fin 128) : (outsAt1 V c t.val t.isLt).2.2.2.1 (ix2 r l) = ((dvAt I 0 (128 * t.val + r) l : ℝ) : EReal) := by
  rw [out14, vOut0_real (holds V c H t) r l]
  unfold dvAt; rw [(at_row t.val r r.isLt).1, (at_row t.val r r.isLt).2, Nat.zero_add]

theorem v1_point (r : Fin 128) (l : Fin 128) : (outsAt1 V c t.val t.isLt).2.2.2.2.1 (ix2 r l) = ((dvAt I 128 (128 * t.val + r) l : ℝ) : EReal) := by
  rw [out15, vOut1_real (holds V c H t) r l]
  unfold dvAt; rw [(at_row t.val r r.isLt).1, (at_row t.val r r.isLt).2]

theorem arr11 : (dat1 V c).arrAt 11 cfg1.N = fun y : S8192x1024.Idx => ((dq I (y 0) ((y 1 : ℕ) / 64) ((y 1 : ℕ) % 64) : ℝ) : EReal) := by
  refine (dat1 V c).arrAt_eq_of_covers 11 _ (by decide +kernel) fun t hf y => ?_
  blk_simp
  rw [after1_11]
  have e0 : win1_11.index t 0 = t.val := congrFun (idx1 t).2.1 0
  have e1 : win1_11.index t 1 = 0 := congrFun (idx1 t).2.1 1
  rw [e0, e1, Nat.zero_mul, Nat.zero_add, Nat.mul_comm t.val]
  exact (congrArg _ (eq_ix2 y)).trans (dq_point V c H t (y 0) (y 1))

theorem arr12 : (dat1 V c).arrAt 12 cfg1.N = fun y : S8192x128.Idx => ((dkAt I 0 (y 0) (y 1) : ℝ) : EReal) := by
  refine (dat1 V c).arrAt_eq_of_covers 12 _ (by decide +kernel) fun t hf y => ?_
  blk_simp
  rw [after1_12]
  have e0 : win1_12.index t 0 = t.val := congrFun (idx1 t).2.2.1 0
  have e1 : win1_12.index t 1 = 0 := congrFun (idx1 t).2.2.1 1
  rw [e0, e1, Nat.zero_mul, Nat.zero_add, Nat.mul_comm t.val]
  exact (congrArg _ (eq_ix2 y)).trans (k0_point V c H t (y 0) (y 1))

theorem arr13 : (dat1 V c).arrAt 13 cfg1.N = fun y : S8192x128.Idx => ((dkAt I 128 (y 0) (y 1) : ℝ) : EReal) := by
  refine (dat1 V c).arrAt_eq_of_covers 13 _ (by decide +kernel) fun t hf y => ?_
  blk_simp
  rw [after1_13]
  have e0 : win1_13.index t 0 = t.val := congrFun (idx1 t).2.2.2.1 0
  have e1 : win1_13.index t 1 = 0 := congrFun (idx1 t).2.2.2.1 1
  rw [e0, e1, Nat.zero_mul, Nat.zero_add, Nat.mul_comm t.val]
  exact (congrArg _ (eq_ix2 y)).trans (k1_point V c H t (y 0) (y 1))

theorem arr14 : (dat1 V c).arrAt 14 cfg1.N = fun y : S8192x128.Idx => ((dvAt I 0 (y 0) (y 1) : ℝ) : EReal) := by
  refine (dat1 V c).arrAt_eq_of_covers 14 _ (by decide +kernel) fun t hf y => ?_
  blk_simp
  rw [after1_14]
  have e0 : win1_14.index t 0 = t.val := congrFun (idx1 t).2.2.2.2.1 0
  have e1 : win1_14.index t 1 = 0 := congrFun (idx1 t).2.2.2.2.1 1
  rw [e0, e1, Nat.zero_mul, Nat.zero_add, Nat.mul_comm t.val]
  exact (congrArg _ (eq_ix2 y)).trans (v0_point V c H t (y 0) (y 1))

theorem arr15 : (dat1 V c).arrAt 15 cfg1.N = fun y : S8192x128.Idx => ((dvAt I 128 (y 0) (y 1) : ℝ) : EReal) := by
  refine (dat1 V c).arrAt_eq_of_covers 15 _ (by decide +kernel) fun t hf y => ?_
  blk_simp
  rw [after1_15]
  have e0 : win1_15.index t 0 = t.val := congrFun (idx1 t).2.2.2.2.2.1 0
  have e1 : win1_15.index t 1 = 0 := congrFun (idx1 t).2.2.2.2.2.1 1
  rw [e0, e1, Nat.zero_mul, Nat.zero_add, Nat.mul_comm t.val]
  exact (congrArg _ (eq_ix2 y)).trans (v1_point V c H t (y 0) (y 1))

theorem arr16 : (dat1 V c).arrAt 16 cfg1.N = fun y : S2x256x1024.Idx => ((∑ s : Fin 64, part16 I s y : ℝ) : EReal) := by
  refine (dat1 V c).arrAt_eq_of_covers 16 _ (by decide +kernel) fun t hf y => ?_
  blk_simp
  rw [after1_16, Pipeline.eq_sum_fin_of_reset_step_apply_of_flush (M := EReal) (fun n h => (outsAt1 V c n h).2.2.2.2.2.1) 64 (fun _ => (0 : EReal))
    (fun (s : Fin cfg1.N) (y : S2x256x1024.Idx) => ((part16 I s.val y : ℝ) : EReal)) (fun t h j => first16 V c H t h j) (fun t h j => next16 V c H t h j)
    t ((flush1_16 t).mp hf) _, zero_add]
  have ht : t.val / 64 = 0 := by have := lt_of_lt_of_eq t.isLt N_1; omega
  have e : (((cfg1.win 16).blk t).view.emb y) = y := by blk_ext [idx1 t]
  rw [e]
  exact sum64 ht fun s => part16 I s y

theorem arr17 : (dat1 V c).arrAt 17 cfg1.N = fun y : S2x1x1024.Idx => ((∑ s : Fin 64, part17 I s y : ℝ) : EReal) := by
  refine (dat1 V c).arrAt_eq_of_covers 17 _ (by decide +kernel) fun t hf y => ?_
  blk_simp
  rw [after1_17, Pipeline.eq_sum_fin_of_reset_step_apply_of_flush (M := EReal) (fun n h => (outsAt1 V c n h).2.2.2.2.2.2.1) 64 (fun _ => (0 : EReal))
    (fun (s : Fin cfg1.N) (y : S2x1x1024.Idx) => ((part17 I s.val y : ℝ) : EReal)) (fun t h j => first17 V c H t h j) (fun t h j => next17 V c H t h j)
    t ((flush1_17 t).mp hf) _, zero_add]
  have ht : t.val / 64 = 0 := by have := lt_of_lt_of_eq t.isLt N_1; omega
  have e : (((cfg1.win 17).blk t).view.emb y) = y := by blk_ext [idx1 t]
  rw [e]
  exact sum64 ht fun s => part17 I s y

theorem arr18 : (dat1 V c).arrAt 18 cfg1.N = fun y : S8x128.Idx => ((∑ s : Fin 64, gainPart I s (y 0) (y 1) : ℝ) : EReal) := by
  refine (dat1 V c).arrAt_eq_of_covers 18 _ (by decide +kernel) fun t hf y => ?_
  blk_simp
  rw [after1_18, Pipeline.eq_sum_fin_of_reset_step_apply_of_flush (M := EReal) (fun n h => (outsAt1 V c n h).2.2.2.2.2.2.2) 64 (fun _ => (0 : EReal))
    (fun (s : Fin cfg1.N) (y : S8x128.Idx) => ((gainPart I s.val (y 0) (y 1) : ℝ) : EReal)) (fun t h j => first18 V c H t h j) (fun t h j => next18 V c H t h j)
    t ((flush1_18 t).mp hf) _, zero_add]
  have ht : t.val / 64 = 0 := by have := lt_of_lt_of_eq t.isLt N_1; omega
  have e0 : win1_18.index t 0 = 0 := congrFun (idx1 t).2.2.2.2.2.2.2.2 0
  have e1 : win1_18.index t 1 = 0 := congrFun (idx1 t).2.2.2.2.2.2.2.2 1
  rw [e0, e1]; simp only [Nat.zero_mul, Nat.zero_add]
  exact sum64 ht fun s => gainPart I s (y 0) (y 1)

end Cert.AttnKer
-- ==== Proof.AttnFold.lean ====
/- The attention's gradients gathered over blocks: the sums over rows and heads by the blocks, halves and columns the kernel adds them in. -/
module

public import proofs.«01_k».proof.Proof.AttnMath
public import proofs.«01_k».proof.Proof.AttnBand

@[expose] public section

noncomputable section

namespace Cert.AttnMath
open Cert.AttnBand

/-- A sum over rows, by blocks of `k`. -/
theorem by_blocks {N : ℕ} (m k : ℕ) (h : N = m * k) (f : ℕ → ℝ) : ∑ s : Fin N, f s = ∑ a : Fin m, ∑ b : Fin k, f (k * a + b) := by
  subst h
  rw [← Fintype.sum_prod_type']
  refine (Fintype.sum_equiv finProdFinEquiv _ _ fun x => ?_).symm
  rw [finProdFinEquiv_apply_val, Nat.add_comm]

/-- Of neighbouring blocks, each adding to the block before it: the first has none. -/
theorem shift (G : ℕ → ℝ) (h : G 0 = 0) : ∑ n : Fin 64, G n = ∑ n : Fin 64, if (n : ℕ) < 63 then G (n + 1) else 0 := by
  rw [Fin.sum_univ_succ, Fin.sum_univ_castSucc (n := 63) (f := fun n : Fin 64 => if (n : ℕ) < 63 then G (n + 1) else 0)]
  simp only [Fin.val_zero, h, zero_add, Fin.val_last, lt_irrefl, if_false, add_zero, Fin.val_succ]
  exact Finset.sum_congr rfl fun n _ => by rw [Fin.val_castSucc, if_pos n.isLt]

variable (I : In)

theorem dkb_first (k j d : ℕ) (hj : j < 128) : dkb I 0 k j d = 0 := by
  unfold dkb
  refine Finset.sum_eq_zero fun g _ => Finset.sum_eq_zero fun r _ => ?_
  rw [dS_off I _ (by rintro ⟨-, h | h⟩ <;> omega), zero_mul]

theorem dvb_first (k j d : ℕ) (hj : j < 128) : dvb I 0 k j d = 0 := by
  unfold dvb
  refine Finset.sum_eq_zero fun g _ => Finset.sum_eq_zero fun r _ => ?_
  rw [p_off I _ (by rintro ⟨-, h | h⟩ <;> omega), zero_mul]

theorem dqg_blocks (d : ℕ) : ∑ n : Fin 64, ∑ t : Fin 8, ∑ r : Fin 128, dqn I (128 * n + r) (2 * t) d * hat (zq I (128 * n + r) (2 * t)) d
    + ∑ n : Fin 64, ∑ t : Fin 8, ∑ r : Fin 128, dqn I (128 * n + r) (2 * t + 1) d * hat (zq I (128 * n + r) (2 * t + 1)) d = dqg I d := by
  unfold dqg
  rw [by_blocks 64 128 (by norm_num) fun s => ∑ h : Fin 16, dqn I s h d * hat (zq I s h) d, ← Finset.sum_add_distrib]
  refine Finset.sum_congr rfl fun n _ => ?_
  rw [← Finset.sum_add_distrib]
  simp only [← Finset.sum_add_distrib]
  rw [Finset.sum_comm]
  refine Finset.sum_congr rfl fun r _ => ?_
  rw [by_blocks 8 2 (by norm_num) fun h => dqn I (128 * n + r) h d * hat (zq I (128 * n + r) h) d]
  refine Finset.sum_congr rfl fun t _ => ?_
  rw [Fin.sum_univ_two]; rfl

theorem key_blocks (k d : ℕ) : ∑ n : Fin 64, ∑ j : Fin 256, dkb I n k j d * hat (zk I (pos n j) k) d = ∑ s : Fin 8192, join (dkb I) s k d * hat (zk I s k) d := by
  have e (n : ℕ) : ∑ j : Fin 256, dkb I n k j d * hat (zk I (pos n j) k) d = ∑ x : Fin 128, dkb I n k x d * hat (zk I (128 * (n - 1) + x) k) d
      + ∑ x : Fin 128, dkb I n k (128 + x) d * hat (zk I (128 * n + x) k) d := by
    rw [by_blocks 2 128 (by norm_num) fun j => dkb I n k j d * hat (zk I (pos n j) k) d, Fin.sum_univ_two]
    refine congrArg₂ _ (Finset.sum_congr rfl fun x _ => ?_) (Finset.sum_congr rfl fun x _ => ?_)
    · show dkb I n k (128 * 0 + x) d * hat (zk I (pos n (128 * 0 + x)) k) d = _
      rw [Nat.mul_zero, Nat.zero_add, pos, if_pos x.isLt]
    · show dkb I n k (128 * 1 + x) d * hat (zk I (pos n (128 * 1 + x)) k) d = _
      rw [Nat.mul_one, pos, if_neg (by omega), Nat.add_sub_cancel_left]
  simp only [e]
  rw [Finset.sum_add_distrib, shift (fun n => ∑ x : Fin 128, dkb I n k x d * hat (zk I (128 * (n - 1) + x) k) d)
    (Finset.sum_eq_zero fun x _ => by rw [dkb_first I k x d x.isLt, zero_mul]), by_blocks 64 128 (by norm_num) fun s => join (dkb I) s k d * hat (zk I s k) d, ← Finset.sum_add_distrib]
  refine Finset.sum_congr rfl fun n _ => ?_
  have j (x : Fin 128) : join (dkb I) (128 * n + x) k d = dkb I n k (128 + x) d + if (n : ℕ) < 63 then dkb I (n + 1) k x d else 0 := by
    unfold join; rw [show (128 * (n : ℕ) + x) / 128 = n by omega, show (128 * (n : ℕ) + x) % 128 = x by omega]
  simp only [j]
  by_cases h : (n : ℕ) < 63
  · simp only [if_pos h, Nat.add_sub_cancel, add_mul, Finset.sum_add_distrib]
    exact add_comm _ _
  · simp only [if_neg h, add_zero, zero_add]

theorem dkg_blocks (d : ℕ) : ∑ n : Fin 64, ∑ j : Fin 256, dkb I n 0 j d * hat (zk I (pos n j) 0) d + ∑ n : Fin 64, ∑ j : Fin 256, dkb I n 1 j d * hat (zk I (pos n j) 1) d = dkg I d := by
  rw [key_blocks, key_blocks, ← Finset.sum_add_distrib]
  unfold dkg
  exact Finset.sum_congr rfl fun s _ => by rw [Fin.sum_univ_two]; rfl

theorem drb_blocks (hb : I.bk = bucket) (b h : ℕ) (dl : ℕ → ℝ) (hd : ∀ r < 128, ∀ j < 256, dl (256 * r + j) = ∑ n : Fin 64, dS I n h r j) :
    ∑ s : Fin 8, ∑ i : Fin 4096, hot b (4096 * s + i) * dl (4096 * s + i) = drb I b h := by
  rw [← by_blocks (N := 32768) 8 4096 (by norm_num) fun i => hot b i * dl i, by_blocks 128 256 (by norm_num) fun i => hot b i * dl i]
  unfold drb
  refine Finset.sum_congr rfl fun r _ => Finset.sum_congr rfl fun j _ => ?_
  rw [hd r r.isLt j j.isLt]
  unfold hot
  rw [show (256 * (r : ℕ) + j) / 256 = r by omega, show (256 * (r : ℕ) + j) % 256 = j by omega, hb]
  split
  · rw [one_mul]
  · rw [zero_mul]

end Cert.AttnMath
end
-- ==== Proof.AttnHost.lean ====
/- The seven gradients at the end of a run, by the part's formulas: the blocks joined, the accumulated arrays read by head and bucket. -/
module

public import proofs.«01_k».proof.Proof.AttnEnt
public import proofs.«01_k».proof.Proof.AttnArr
public import proofs.«01_k».proof.Proof.AttnFold

@[expose] public section

set_option maxRecDepth 16384

noncomputable section

open Idealize.ShloMosaic Idealize.ShloMosaic.TcCoe Idealize.ShloMosaic.ValueKit Idealize.ShloMosaic.Tactic

namespace Cert.AttnKer
open Cert.Reals Cert.AttnBand Cert.AttnMath Cert.AttnIdeal Cert.AttnIdeal.Gen

section
variable (U : Valuation τ sig (Elt Ideal))

theorem dl_line (h : Fin 16) (i : Fin 32768) :
    (StableHlo.after hostOps3 U (Proc.devRef .tc main_v64) (ix2 h i) : EReal) = U (Proc.devRef .tc main_v60_5) (ix3 ⟨h / 8, by omega⟩ ⟨i % 256, by omega⟩ ⟨128 * (h % 8) + i / 256, by omega⟩) := by
  entry_read
  pointwise
  simp only [Nat.mul_comm ((h : ℕ) % 8) 128]

/-- The accumulated rows of the gains' and of the sinks' gradients. -/
abbrev gRows : FVec Ideal S8x128 .f32 := U (Proc.devRef .tc main_v60_7)
abbrev sRows : FVec Ideal S2x1x1024 .f32 := U (Proc.devRef .tc main_v60_6)

theorem dqg_line (d : Fin 64) :
    (StableHlo.after hostOps4 U (Proc.devRef .tc main_v119) (ix2 0 d) : EReal)
      = gRows U (ix2 0 ⟨d, by omega⟩) + gRows U (ix2 0 ⟨64 + d, by omega⟩) := by
  entry_read
  pointwise

theorem dkg_line (d : Fin 64) :
    (StableHlo.after hostOps4 U (Proc.devRef .tc main_v123) (ix2 0 d) : EReal)
      = gRows U (ix2 1 ⟨d, by omega⟩) + gRows U (ix2 1 ⟨64 + d, by omega⟩) := by
  entry_read
  pointwise

theorem dsk_line (h : Fin 16) :
    (StableHlo.after hostOps4 U (Proc.devRef .tc main_v126) (ix2 0 h) : EReal)
      = ∑ r : Fin 128, sRows U (ix3 ⟨h / 8, by omega⟩ 0 ⟨128 * (h % 8) + r, by omega⟩) := by
  entry_read
  pointwise
  simp only [Nat.mul_comm ((h : ℕ) % 8) 128]
end

variable (m : (ℓ : Loc nD τ sig) → Buf (Elt Ideal) ℓ) (ρ : Dev nD → PrngReg) (c : Dev nD)

/-- What stands after the joining kernel stays through the lines and the kernel of the bias table's gradient. -/
theorem kept18 (r : Ref sig .tc) (h : r ∉ hostOps3_W ∧ r ∉ hostOps3_1_W ∧ r ∉ hostOps3_2_W ∧ r ∉ hostOps3_3_W ∧ r ∉ hostOps3_4_W ∧ r ∉ hostOps3_5_W ∧ r ∉ hostOps3_6_W)
    (h3 : ∀ w, Pipeline.arrRef spec3 w ≠ r) : W19 m ρ c (Proc.devRef .tc r) = W11 m ρ c (Proc.devRef .tc r) := by
  rw [W19_of_ne m ρ c r h3, W18_of m ρ c r h.2.2.2.2.2.2, W17_of m ρ c r h.2.2.2.2.2.1, W16_of m ρ c r h.2.2.2.2.1, W15_of m ρ c r h.2.2.2.1, W14_of m ρ c r h.2.2.1, W13_of m ρ c r h.2.1,
    W12_of m ρ c r h.1]

variable {I : In} (H : Args (a0 m c) (a1 m c) (a2 m c) (a3 m c) (a4 m c) (a5 m c) I)
include H

theorem end_dq : W20 m ρ c (Proc.devRef .tc main_v60_0) = fun y : S8192x1024.Idx => ((AttnMath.dq I (y 0) ((y 1 : ℕ) / 64) ((y 1 : ℕ) % 64) : ℝ) : EReal) := by
  rw [W20_of m ρ c main_v60_0 (by decide), kept18 m ρ c main_v60_0 (by decide) (by decide), W11_of_ne m ρ c main_v60_0 (by decide)]
  exact (W10_arr m ρ c 11).trans (arr11 (V9 m ρ) c (ent m ρ c H))

omit m ρ c H in
theorem dk_join (s l : ℕ) : dkAt I 128 s l + (if s / 128 < 63 then dkAt I 0 (s + 128) l else 0) = AttnMath.dk I s (l / 64) (l % 64) := by
  have e : pos (s / 128) (128 + s % 128) = s := by unfold pos; rw [if_neg (by omega)]; omega
  have e' : pos ((s + 128) / 128) (0 + (s + 128) % 128) = s := by unfold pos; rw [if_pos (by omega)]; omega
  unfold dkAt AttnMath.dk AttnMath.join
  rw [e, e']
  by_cases h : s / 128 < 63
  · simp only [if_pos h, add_mul, nb_add]
    rw [show (s + 128) / 128 = s / 128 + 1 by omega, show 0 + (s + 128) % 128 = s % 128 by omega]
  · simp only [if_neg h, add_zero]

omit m ρ c H in
theorem dv_join (s l : ℕ) : dvAt I 128 s l + (if s / 128 < 63 then dvAt I 0 (s + 128) l else 0) = AttnMath.dv I s (l / 64) (l % 64) := by
  unfold dvAt AttnMath.dv AttnMath.join
  rw [show (s + 128) / 128 = s / 128 + 1 by omega, show 0 + (s + 128) % 128 = s % 128 by omega]

theorem end_dk : W20 m ρ c (Proc.devRef .tc main_v61_0) = fun y : S8192x128.Idx => ((AttnMath.dk I (y 0) ((y 1 : ℕ) / 64) ((y 1 : ℕ) % 64) : ℝ) : EReal) := by
  rw [W20_of m ρ c main_v61_0 (by decide), kept18 m ρ c main_v61_0 (by decide) (by decide)]
  refine (W11_arr m ρ c 4).trans ((joined4 (V10 m ρ) c (fp := dkAt I 0) (fc := dkAt I 128) (fun s l => ?_) fun s l => ?_).trans (funext fun y => congrArg _ (dk_join _ _)))
  · exact congrFun ((W10_arr m ρ c 12).trans (arr12 (V9 m ρ) c (ent m ρ c H))) (ix2 s l)
  · exact congrFun ((W10_arr m ρ c 13).trans (arr13 (V9 m ρ) c (ent m ρ c H))) (ix2 s l)

theorem end_dv : W20 m ρ c (Proc.devRef .tc main_v61_1) = fun y : S8192x128.Idx => ((AttnMath.dv I (y 0) ((y 1 : ℕ) / 64) ((y 1 : ℕ) % 64) : ℝ) : EReal) := by
  rw [W20_of m ρ c main_v61_1 (by decide), kept18 m ρ c main_v61_1 (by decide) (by decide)]
  refine (W11_arr m ρ c 5).trans ((joined5 (V10 m ρ) c (fp := dvAt I 0) (fc := dvAt I 128) (fun s l => ?_) fun s l => ?_).trans (funext fun y => congrArg _ (dv_join _ _)))
  · exact congrFun ((W10_arr m ρ c 14).trans (arr14 (V9 m ρ) c (ent m ρ c H))) (ix2 s l)
  · exact congrFun ((W10_arr m ρ c 15).trans (arr15 (V9 m ρ) c (ent m ρ c H))) (ix2 s l)

theorem gains_end (y : S8x128.Idx) : gRows (W19 m ρ c) y = ((∑ s : Fin 64, gainPart I s (y 0) (y 1) : ℝ) : EReal) := by
  refine (congrFun (kept18 m ρ c main_v60_7 (by decide) (by decide)) y).trans ((congrFun (W11_of_ne m ρ c main_v60_7 (by decide)) y).trans ?_)
  exact congrFun ((W10_arr m ρ c 18).trans (arr18 (V9 m ρ) c (ent m ρ c H))) y

theorem sinks_end (y : S2x1x1024.Idx) : sRows (W19 m ρ c) y = ((∑ s : Fin 64, part17 I s y : ℝ) : EReal) := by
  refine (congrFun (kept18 m ρ c main_v60_6 (by decide) (by decide)) y).trans ((congrFun (W11_of_ne m ρ c main_v60_6 (by decide)) y).trans ?_)
  exact congrFun ((W10_arr m ρ c 17).trans (arr17 (V9 m ρ) c (ent m ρ c H))) y

theorem end_dqg (d : Fin 64) : (W20 m ρ c (Proc.devRef .tc main_v119) (ix2 0 d) : EReal) = ((AttnMath.dqg I d : ℝ) : EReal) := by
  refine (dqg_line (W19 m ρ c) d).trans ?_
  rw [gains_end m ρ c H, gains_end m ρ c H, ← EReal.coe_add, ← dqg_blocks]
  refine congrArg _ (congrArg₂ _ (Finset.sum_congr rfl fun n _ => ?_) (Finset.sum_congr rfl fun n _ => ?_))
  · show gainPart I n 0 d = _
    unfold gainPart
    rw [if_pos (by norm_num), Nat.div_eq_of_lt d.isLt, Nat.mod_eq_of_lt d.isLt]
    simp only [Nat.add_zero]
  · show gainPart I n 0 (64 + d) = _
    unfold gainPart
    rw [if_pos (by norm_num), show (64 + (d : ℕ)) / 64 = 1 by omega, show (64 + (d : ℕ)) % 64 = d by omega]

theorem end_dkg (d : Fin 64) : (W20 m ρ c (Proc.devRef .tc main_v123) (ix2 0 d) : EReal) = ((AttnMath.dkg I d : ℝ) : EReal) := by
  refine (dkg_line (W19 m ρ c) d).trans ?_
  rw [gains_end m ρ c H, gains_end m ρ c H, ← EReal.coe_add, ← dkg_blocks]
  refine congrArg _ (congrArg₂ _ (Finset.sum_congr rfl fun n _ => ?_) (Finset.sum_congr rfl fun n _ => ?_))
  · show gainPart I n 1 d = _
    unfold gainPart
    rw [if_neg (by norm_num), if_pos (by norm_num), Nat.div_eq_of_lt d.isLt, Nat.mod_eq_of_lt d.isLt]
  · show gainPart I n 1 (64 + d) = _
    unfold gainPart
    rw [if_neg (by norm_num), if_pos (by norm_num), show (64 + (d : ℕ)) / 64 = 1 by omega, show (64 + (d : ℕ)) % 64 = d by omega]

theorem end_dsk (h : Fin 16) : (W20 m ρ c (Proc.devRef .tc main_v126) (ix2 0 h) : EReal) = ((AttnMath.dsk I h : ℝ) : EReal) := by
  refine (dsk_line (W19 m ρ c) h).trans ?_
  simp only [sinks_end m ρ c H]
  rw [coe_sum, Finset.sum_comm]
  unfold AttnMath.dsk
  refine congrArg _ (Finset.sum_congr rfl fun n _ => Finset.sum_congr rfl fun r _ => ?_)
  show -(ps I n (8 * ((h : ℕ) / 8) + (128 * ((h : ℕ) % 8) + r) / 128) ((128 * ((h : ℕ) % 8) + r) % 128)) * AttnMath.dl I n (8 * ((h : ℕ) / 8) + (128 * ((h : ℕ) % 8) + r) / 128) ((128 * ((h : ℕ) % 8) + r) % 128) = _
  rw [show 8 * ((h : ℕ) / 8) + (128 * ((h : ℕ) % 8) + r) / 128 = h by omega, show (128 * ((h : ℕ) % 8) + (r : ℕ)) % 128 = r by omega]

theorem end_drb : W20 m ρ c (Proc.devRef .tc main_v115) = fun y : S32x16.Idx => ((AttnMath.drb I (y 0) (y 1) : ℝ) : EReal) := by
  rw [W20_of m ρ c main_v115 (by decide)]
  refine (W19_arr m ρ c 2).trans ((grad3 (V18 m ρ) c (dl := fun h i => ∑ n : Fin 64, AttnMath.dS I n h (i / 256) (i % 256)) (fun h i => ?_) fun b i => AttnHot.hot3 _ b i).trans (funext fun y => congrArg _ ?_))
  · show W18 m ρ c (Proc.devRef .tc main_v64) (ix2 h i) = _
    rw [W18_of m ρ c main_v64 (by decide), W17_of m ρ c main_v64 (by decide), W16_of m ρ c main_v64 (by decide), W15_of m ρ c main_v64 (by decide), W14_of m ρ c main_v64 (by decide), W13_of m ρ c main_v64 (by decide)]
    refine (dl_line (W11 m ρ c) h i).trans ((congrFun (W11_of_ne m ρ c main_v60_5 (by decide)) _).trans ((congrFun ((W10_arr m ρ c 16).trans (arr16 (V9 m ρ) c (ent m ρ c H))) _).trans ?_))
    refine congrArg _ (Finset.sum_congr rfl fun n _ => ?_)
    show AttnMath.dS I n (8 * ((h : ℕ) / 8) + (128 * ((h : ℕ) % 8) + (i : ℕ) / 256) / 128) ((128 * ((h : ℕ) % 8) + (i : ℕ) / 256) % 128) ((i : ℕ) % 256) = _
    rw [show 8 * ((h : ℕ) / 8) + (128 * ((h : ℕ) % 8) + (i : ℕ) / 256) / 128 = h by omega, show (128 * ((h : ℕ) % 8) + (i : ℕ) / 256) % 128 = (i : ℕ) / 256 by omega]
  · unfold part3
    refine drb_blocks I H.bk (y 0) (y 1) (fun i => ∑ n : Fin 64, AttnMath.dS I n (y 1) (i / 256) (i % 256)) fun r _ j hj => ?_
    simp only [show (256 * r + j) / 256 = r by omega, show (256 * r + j) % 256 = j by omega]

end Cert.AttnKer
end
-- ==== Proof.AttnRefOps.lean ====
/- Sums of a host array along several of its axes, at one place of the result: those whose summed axes are all of
   size one, the last of six, and the middle two of four; and the largest entry along the last of six. -/
module

public import Idealize.ShloMosaic.Lib.Pointwise.Reduce
public import Idealize.ShloMosaic.PureOps.Ideal

@[expose] public section

noncomputable section

open Idealize.ShloMosaic

namespace Cert.AttnRef

/-- The places that a sum along these axes adds up. -/
theorem sum6_last_fib {n0 n1 n2 n3 n4 n5 : ℕ} (h : (⟨6, ![n0, n1, n2, n3, n4, n5]⟩ : Shape).ReducesTo [5] ⟨5, ![n0, n1, n2, n3, n4]⟩) (a : Fin n0) (b : Fin n1) (c : Fin n2) (d : Fin n3) (e : Fin n4)
    (i : (⟨6, ![n0, n1, n2, n3, n4, n5]⟩ : Shape).Idx) : h.drop i = ix5 a b c d e ↔ ∃ k : Fin n5, (ix6 a b c d e k : (⟨6, ![n0, n1, n2, n3, n4, n5]⟩ : Shape).Idx) = i := by
  constructor
  · intro e
    refine ⟨i 5, funext fun x => Fin.ext ?_⟩
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    refine funext fun x => Fin.ext ?_
    match x with
    | ⟨0, _⟩ => rfl
    | ⟨1, _⟩ => rfl
    | ⟨2, _⟩ => rfl
    | ⟨3, _⟩ => rfl
    | ⟨4, _⟩ => rfl

/-- A sum along the last of six axes. -/
theorem sum6_last {n0 n1 n2 n3 n4 n5 : ℕ} (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal) (a : Fin n0) (b : Fin n1) (c : Fin n2) (d : Fin n3) (e : Fin n4) :
    Ideal.hostReduceAdd h v init (ix5 a b c d e) = init + ∑ k : Fin n5, v (ix6 a b c d e k) :=
  congrArg (init + ·) ((Finset.sum_filter_eq_sum_of_fiber _ (fun k : Fin n5 => (ix6 a b c d e k : (⟨6, ![n0, n1, n2, n3, n4, n5]⟩ : Shape).Idx))
    (fun _ _ e => congrFun e 5) (sum6_last_fib h a b c d e) v).trans (rfl))

/-- The places that a sum along these axes adds up. -/
theorem sum6_ends_fib {n1 n2 n3 n4 : ℕ} (h : (⟨6, ![1, n1, n2, n3, n4, 1]⟩ : Shape).ReducesTo [0, 5] ⟨4, ![n1, n2, n3, n4]⟩) (b : Fin n1) (c : Fin n2) (d : Fin n3) (e : Fin n4)
    (i : (⟨6, ![1, n1, n2, n3, n4, 1]⟩ : Shape).Idx) : h.drop i = ix4 b c d e ↔ ∃ k : Unit, (ix6 0 b c d e 0 : (⟨6, ![1, n1, n2, n3, n4, 1]⟩ : Shape).Idx) = i := by
  constructor
  · intro e
    refine ⟨(), funext fun x => Fin.ext ?_⟩
    match x with
    | ⟨0, _⟩ => exact (congrArg Fin.val (Subsingleton.elim (α := Fin 1) (i 0) 0)).symm
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (congrArg Fin.val (Subsingleton.elim (α := Fin 1) (i 5) 0)).symm
  · rintro ⟨k, rfl⟩
    refine funext fun x => Fin.ext ?_
    match x with
    | ⟨0, _⟩ => rfl
    | ⟨1, _⟩ => rfl
    | ⟨2, _⟩ => rfl
    | ⟨3, _⟩ => rfl

/-- A sum along the first and last of six axes, both of size one. -/
theorem sum6_ends {n1 n2 n3 n4 : ℕ} (h : (⟨6, ![1, n1, n2, n3, n4, 1]⟩ : Shape).ReducesTo [0, 5] ⟨4, ![n1, n2, n3, n4]⟩)
    (v : (⟨6, ![1, n1, n2, n3, n4, 1]⟩ : Shape).Idx → EReal) (init : EReal) (b : Fin n1) (c : Fin n2) (d : Fin n3) (e : Fin n4) :
    Ideal.hostReduceAdd h v init (ix4 b c d e) = init + v (ix6 0 b c d e 0) :=
  congrArg (init + ·) ((Finset.sum_filter_eq_sum_of_fiber _ (fun k : Unit => (ix6 0 b c d e 0 : (⟨6, ![1, n1, n2, n3, n4, 1]⟩ : Shape).Idx))
    (fun _ _ e => rfl) (sum6_ends_fib h b c d e) v).trans ((Finset.sum_const _).trans (one_smul ℕ _)))

/-- The places that a sum along these axes adds up. -/
theorem sum6_two_fib {n2 n3 n4 n5 : ℕ} (h : (⟨6, ![1, 1, n2, n3, n4, n5]⟩ : Shape).ReducesTo [0, 1] ⟨4, ![n2, n3, n4, n5]⟩) (c : Fin n2) (d : Fin n3) (e : Fin n4) (f : Fin n5)
    (i : (⟨6, ![1, 1, n2, n3, n4, n5]⟩ : Shape).Idx) : h.drop i = ix4 c d e f ↔ ∃ k : Unit, (ix6 0 0 c d e f : (⟨6, ![1, 1, n2, n3, n4, n5]⟩ : Shape).Idx) = i := by
  constructor
  · intro e
    refine ⟨(), funext fun x => Fin.ext ?_⟩
    match x with
    | ⟨0, _⟩ => exact (congrArg Fin.val (Subsingleton.elim (α := Fin 1) (i 0) 0)).symm
    | ⟨1, _⟩ => exact (congrArg Fin.val (Subsingleton.elim (α := Fin 1) (i 1) 0)).symm
    | ⟨2, _⟩ => exact (congrArg Fin.val (congrFun e 0)).symm
    | ⟨3, _⟩ => exact (congrArg Fin.val (congrFun e 1)).symm
    | ⟨4, _⟩ => exact (congrArg Fin.val (congrFun e 2)).symm
    | ⟨5, _⟩ => exact (congrArg Fin.val (congrFun e 3)).symm
  · rintro ⟨k, rfl⟩
    refine funext fun x => Fin.ext ?_
    match x with
    | ⟨0, _⟩ => rfl
    | ⟨1, _⟩ => rfl
    | ⟨2, _⟩ => rfl
    | ⟨3, _⟩ => rfl

/-- A sum along the first two of six axes, both of size one. -/
theorem sum6_two {n2 n3 n4 n5 : ℕ} (h : (⟨6, ![1, 1, n2, n3, n4, n5]⟩ : Shape).ReducesTo [0, 1] ⟨4, ![n2, n3, n4, n5]⟩)
    (v : (⟨6, ![1, 1, n2, n3, n4, n5]⟩ : Shape).Idx → EReal) (init : EReal) (c : Fin n2) (d : Fin n3) (e : Fin n4) (f : Fin n5) :
    Ideal.hostReduceAdd h v init (ix4 c d e f) = init + v (ix6 0 0 c d e f) :=
  congrArg (init + ·) ((Finset.sum_filter_eq_sum_of_fiber _ (fun k : Unit => (ix6 0 0 c d e f : (⟨6, ![1, 1, n2, n3, n4, n5]⟩ : Shape).Idx))
    (fun _ _ e => rfl) (sum6_two_fib h c d e f) v).trans ((Finset.sum_const _).trans (one_smul ℕ _)))

/-- The places that a sum along these axes adds up. -/
theorem sum4_three_fib {n3 : ℕ} (h : (⟨4, ![1, 1, 1, n3]⟩ : Shape).ReducesTo [0, 1, 2] ⟨1, ![n3]⟩) (d : Fin n3)
    (i : (⟨4, ![1, 1, 1, n3]⟩ : Shape).Idx) : h.drop i = ix1 d ↔ ∃ k : Unit, (ix4 0 0 0 d : (⟨4, ![1, 1, 1, n3]⟩ : Shape).Idx) = i := by
  constructor
  · intro e
    refine ⟨(), funext fun x => Fin.ext ?_⟩
    match x with
    | ⟨0, _⟩ => exact (congrArg Fin.val (Subsingleton.elim (α := Fin 1) (i 0) 0)).symm
    | ⟨1, _⟩ => exact (congrArg Fin.val (Subsingleton.elim (α := Fin 1) (i 1) 0)).symm
    | ⟨2, _⟩ => exact (congrArg Fin.val (Subsingleton.elim (α := Fin 1) (i 2) 0)).symm
    | ⟨3, _⟩ => exact (congrArg Fin.val (congrFun e 0)).symm
  · rintro ⟨k, rfl⟩
    refine funext fun x => Fin.ext ?_
    match x with
    | ⟨0, _⟩ => rfl

/-- A sum along the first three of four axes, all of size one. -/
theorem sum4_three {n3 : ℕ} (h : (⟨4, ![1, 1, 1, n3]⟩ : Shape).ReducesTo [0, 1, 2] ⟨1, ![n3]⟩)
    (v : (⟨4, ![1, 1, 1, n3]⟩ : Shape).Idx → EReal) (init : EReal) (d : Fin n3) :
    Ideal.hostReduceAdd h v init (ix1 d) = init + v (ix4 0 0 0 d) :=
  congrArg (init + ·) ((Finset.sum_filter_eq_sum_of_fiber _ (fun k : Unit => (ix4 0 0 0 d : (⟨4, ![1, 1, 1, n3]⟩ : Shape).Idx))
    (fun _ _ e => rfl) (sum4_three_fib h d) v).trans ((Finset.sum_const _).trans (one_smul ℕ _)))

/-- The places that a sum along these axes adds up. -/
theorem sum4_ends_fib {n1 n2 : ℕ} (h : (⟨4, ![1, n1, n2, 1]⟩ : Shape).ReducesTo [0, 3] ⟨2, ![n1, n2]⟩) (b : Fin n1) (c : Fin n2)
    (i : (⟨4, ![1, n1, n2, 1]⟩ : Shape).Idx) : h.drop i = ix2 b c ↔ ∃ k : Unit, (ix4 0 b c 0 : (⟨4, ![1, n1, n2, 1]⟩ : Shape).Idx) = i := by
  constructor
  · intro e
    refine ⟨(), funext fun x => Fin.ext ?_⟩
    match x with
    | ⟨0, _⟩ => exact (congrArg Fin.val (Subsingleton.elim (α := Fin 1) (i 0) 0)).symm
    | ⟨1, _⟩ => exact (congrArg Fin.val (congrFun e 0)).symm
    | ⟨2, _⟩ => exact (congrArg Fin.val (congrFun e 1)).symm
    | ⟨3, _⟩ => exact (congrArg Fin.val (Subsingleton.elim (α := Fin 1) (i 3) 0)).symm
  · rintro ⟨k, rfl⟩
    refine funext fun x => Fin.ext ?_
    match x with
    | ⟨0, _⟩ => rfl
    | ⟨1, _⟩ => rfl

/-- A sum along the first and last of four axes, both of size one. -/
theorem sum4_ends {n1 n2 : ℕ} (h : (⟨4, ![1, n1, n2, 1]⟩ : Shape).ReducesTo [0, 3] ⟨2, ![n1, n2]⟩)
    (v : (⟨4, ![1, n1, n2, 1]⟩ : Shape).Idx → EReal) (init : EReal) (b : Fin n1) (c : Fin n2) :
    Ideal.hostReduceAdd h v init (ix2 b c) = init + v (ix4 0 b c 0) :=
  congrArg (init + ·) ((Finset.sum_filter_eq_sum_of_fiber _ (fun k : Unit => (ix4 0 b c 0 : (⟨4, ![1, n1, n2, 1]⟩ : Shape).Idx))
    (fun _ _ e => rfl) (sum4_ends_fib h b c) v).trans ((Finset.sum_const _).trans (one_smul ℕ _)))

/-- The places that a sum along these axes adds up. -/
theorem sum4_mid_fib {n0 n1 n2 n3 : ℕ} (h : (⟨4, ![n0, n1, n2, n3]⟩ : Shape).ReducesTo [1, 2] ⟨2, ![n0, n3]⟩) (a : Fin n0) (d : Fin n3)
    (i : (⟨4, ![n0, n1, n2, n3]⟩ : Shape).Idx) : h.drop i = ix2 a d ↔ ∃ k : Fin n1 × Fin n2, (ix4 a k.1 k.2 d : (⟨4, ![n0, n1, n2, n3]⟩ : Shape).Idx) = i := by
  constructor
  · intro e
    refine ⟨(i 1, i 2), funext fun x => Fin.ext ?_⟩
    match x with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨k, rfl⟩
    refine funext fun x => Fin.ext ?_
    match x with
    | ⟨0, _⟩ => rfl
    | ⟨1, _⟩ => rfl

/-- A sum along the middle two of four axes. -/
theorem sum4_mid {n0 n1 n2 n3 : ℕ} (h : (⟨4, ![n0, n1, n2, n3]⟩ : Shape).ReducesTo [1, 2] ⟨2, ![n0, n3]⟩)
    (v : (⟨4, ![n0, n1, n2, n3]⟩ : Shape).Idx → EReal) (init : EReal) (a : Fin n0) (d : Fin n3) :
    Ideal.hostReduceAdd h v init (ix2 a d) = init + ∑ p : Fin n1, ∑ q : Fin n2, v (ix4 a p q d) :=
  congrArg (init + ·) ((Finset.sum_filter_eq_sum_of_fiber _ (fun k : Fin n1 × Fin n2 => (ix4 a k.1 k.2 d : (⟨4, ![n0, n1, n2, n3]⟩ : Shape).Idx))
    (fun _ _ e => Prod.ext (congrFun e 1) (congrFun e 2)) (sum4_mid_fib h a d) v).trans (Fintype.sum_prod_type _))

/-- The places that a sum along these axes adds up. -/
theorem sum6_one_fib {n0 n1 n2 n3 n4 n5 : ℕ} (h : (⟨6, ![n0, n1, n2, n3, n4, n5]⟩ : Shape).ReducesTo [1] ⟨5, ![n0, n2, n3, n4, n5]⟩) (a : Fin n0) (c : Fin n2) (d : Fin n3) (e : Fin n4) (f : Fin n5)
    (i : (⟨6, ![n0, n1, n2, n3, n4, n5]⟩ : Shape).Idx) : h.drop i = ix5 a c d e f ↔ ∃ k : Fin n1, (ix6 a k c d e f : (⟨6, ![n0, n1, n2, n3, n4, n5]⟩ : Shape).Idx) = i := by
  constructor
  · intro e
    refine ⟨i 1, funext fun x => Fin.ext ?_⟩
    match x with
    | ⟨0, _⟩ => exact (congrArg Fin.val (congrFun e 0)).symm
    | ⟨1, _⟩ => rfl
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (congrArg Fin.val (congrFun e 4)).symm
  · rintro ⟨k, rfl⟩
    refine funext fun x => Fin.ext ?_
    match x with
    | ⟨0, _⟩ => rfl
    | ⟨1, _⟩ => rfl
    | ⟨2, _⟩ => rfl
    | ⟨3, _⟩ => rfl
    | ⟨4, _⟩ => rfl

/-- A sum along the second of six axes. -/
theorem sum6_one {n0 n1 n2 n3 n4 n5 : ℕ} (h : (⟨6, ![n0, n1, n2, n3, n4, n5]⟩ : Shape).ReducesTo [1] ⟨5, ![n0, n2, n3, n4, n5]⟩)
    (v : (⟨6, ![n0, n1, n2, n3, n4, n5]⟩ : Shape).Idx → EReal) (init : EReal) (a : Fin n0) (c : Fin n2) (d : Fin n3) (e : Fin n4) (f : Fin n5) :
    Ideal.hostReduceAdd h v init (ix5 a c d e f) = init + ∑ k : Fin n1, v (ix6 a k c d e f) :=
  congrArg (init + ·) ((Finset.sum_filter_eq_sum_of_fiber _ (fun k : Fin n1 => (ix6 a k c d e f : (⟨6, ![n0, n1, n2, n3, n4, n5]⟩ : Shape).Idx))
    (fun _ _ e => congrFun e 1) (sum6_one_fib h a c d e f) v).trans (rfl))

/-- The places that a sum along these axes adds up. -/
theorem sum6_four_fib {n1 n2 n3 n4 : ℕ} (h : (⟨6, ![1, n1, n2, n3, n4, 1]⟩ : Shape).ReducesTo [0, 1, 4, 5] ⟨2, ![n2, n3]⟩) (c : Fin n2) (d : Fin n3)
    (i : (⟨6, ![1, n1, n2, n3, n4, 1]⟩ : Shape).Idx) : h.drop i = ix2 c d ↔ ∃ k : Fin n1 × Fin n4, (ix6 0 k.1 c d k.2 0 : (⟨6, ![1, n1, n2, n3, n4, 1]⟩ : Shape).Idx) = i := by
  constructor
  · intro e
    refine ⟨(i 1, i 4), funext fun x => Fin.ext ?_⟩
    match x with
    | ⟨0, _⟩ => exact (congrArg Fin.val (Subsingleton.elim (α := Fin 1) (i 0) 0)).symm
    | ⟨1, _⟩ => rfl
    | ⟨2, _⟩ => exact (congrArg Fin.val (congrFun e 0)).symm
    | ⟨3, _⟩ => exact (congrArg Fin.val (congrFun e 1)).symm
    | ⟨4, _⟩ => rfl
    | ⟨5, _⟩ => exact (congrArg Fin.val (Subsingleton.elim (α := Fin 1) (i 5) 0)).symm
  · rintro ⟨k, rfl⟩
    refine funext fun x => Fin.ext ?_
    match x with
    | ⟨0, _⟩ => rfl
    | ⟨1, _⟩ => rfl

/-- A sum along the outer two and inner two of six axes, the outermost of size one. -/
theorem sum6_four {n1 n2 n3 n4 : ℕ} (h : (⟨6, ![1, n1, n2, n3, n4, 1]⟩ : Shape).ReducesTo [0, 1, 4, 5] ⟨2, ![n2, n3]⟩)
    (v : (⟨6, ![1, n1, n2, n3, n4, 1]⟩ : Shape).Idx → EReal) (init : EReal) (c : Fin n2) (d : Fin n3) :
    Ideal.hostReduceAdd h v init (ix2 c d) = init + ∑ p : Fin n1, ∑ q : Fin n4, v (ix6 0 p c d q 0) :=
  congrArg (init + ·) ((Finset.sum_filter_eq_sum_of_fiber _ (fun k : Fin n1 × Fin n4 => (ix6 0 k.1 c d k.2 0 : (⟨6, ![1, n1, n2, n3, n4, 1]⟩ : Shape).Idx))
    (fun _ _ e => Prod.ext (congrFun e 1) (congrFun e 4)) (sum6_four_fib h c d) v).trans (Fintype.sum_prod_type _))

/-- The largest of a start value and the entries along the last of six axes, as a fold over that axis. -/
theorem max6_last {n0 n1 n2 n3 n4 n5 : ℕ} (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal) (a : Fin n0) (b : Fin n1) (c : Fin n2) (d : Fin n3) (e : Fin n4) :
    (Finset.univ.filter (fun i => h.drop i = ix5 a b c d e)).fold max init v
      = (Finset.univ : Finset (Fin n5)).fold max init fun k => v (ix6 a b c d e k) :=
  Finset.fold_filter_eq_fold_of_fiber max _ (fun k : Fin n5 => (ix6 a b c d e k : (⟨6, ![n0, n1, n2, n3, n4, n5]⟩ : Shape).Idx))
    (fun _ _ e => congrFun e 5) (sum6_last_fib h a b c d e) init v

end Cert.AttnRef

end
-- ==== Proof.AttnRefA.lean ====
/- The reference's queries, keys and values: the norms of the heads, the gains, and the two blocks of keys that a block of queries sees. -/
module

public import proofs.«01_k».proof.Proof.Gen.AttnRefIdeal.Read
public import proofs.«01_k».proof.Proof.AttnEnt
public import proofs.«01_k».proof.Proof.AttnRefOps

@[expose] public section

set_option maxRecDepth 16384

noncomputable section

open Idealize.ShloMosaic

namespace Cert.AttnRef
open Cert.Reals Cert.AttnBand Cert.AttnMath Cert.AttnRefIdeal Cert.AttnRefIdeal.Read
open Cert.AttnKer (Args c8)

variable {x0 : FVec Ideal S8192x6400 .f32} {x1 x2 : FVec Ideal S1x64 .f32} {x3 : FVec Ideal S1x16 .f32} {x4 : FVec Ideal S32x16 .f32} {x5 : FVec Ideal S8192x1024 .f32}
  {I : In} (H : Args x0 x1 x2 x3 x4 x5 I)

theorem d64 : Ideal.ofBits .f32 1115684864#32 = ((64 : ℝ) : EReal) := by
  simp [Ideal.ofBits, Ideal.ieee]; rw [← EReal.coe_mul]; norm_num
theorem zeroc : Ideal.ofBits .f32 0#32 = 0 := by simp [Ideal.ofBits, Ideal.ieee]

/-- A mean of squares under the root, as the reference writes it. -/
theorem rsqrt_mean (f : ℕ → ℝ) : Ideal.rsqrt (Ideal.div ((∑ d : Fin 64, f d * f d : ℝ) : EReal) ((64 : ℝ) : EReal) + ((eps : ℝ) : EReal)) = ((rr f : ℝ) : EReal) := by
  rw [Ideal.div_coe (by norm_num), ← EReal.coe_mul]; exact Cert.AttnKer.rsqrt_rr f

include H

theorem zq_at (s : Fin 8192) (h : Fin 16) (d : Fin 64) (pf) : (x0 (ix2 s ⟨1024 + (↑h * 64 + ↑d), pf⟩) : EReal) = ((zq I s h d : ℝ) : EReal) :=
  (H.z _ _).trans (congrArg (fun k => ((I.z s k : ℝ) : EReal)) (by dsimp only; omega))
theorem zk_at (s : Fin 8192) (h : Fin 2) (d : Fin 64) (pf) : (x0 (ix2 s ⟨2048 + (↑h * 64 + ↑d), pf⟩) : EReal) = ((zk I s h d : ℝ) : EReal) :=
  (H.z _ _).trans (congrArg (fun k => ((I.z s k : ℝ) : EReal)) (by dsimp only; omega))
theorem zv_at (s : Fin 8192) (h : Fin 2) (d : Fin 64) (pf) : (x0 (ix2 s ⟨2176 + (↑h * 64 + ↑d), pf⟩) : EReal) = ((zv I s h d : ℝ) : EReal) :=
  (H.z _ _).trans (congrArg (fun k => ((I.z s k : ℝ) : EReal)) (by dsimp only; omega))

theorem q_x (s : Fin 8192) (h : Fin 16) (d : Fin 64) : (val_main_v55 (F := Ideal) x0 (ix4 0 s h d) : EReal) = ((zq I s h d : ℝ) : EReal) := by
  pointwise [val_main_v0, val_main_v3, val_main_v55]
  exact zq_at H s h d _

theorem q_ms (s : Fin 8192) (h : Fin 16) : (val_main_v62 (F := Ideal) x0 (ix4 0 s h 0) : EReal) = Ideal.div ((∑ d : Fin 64, zq I s h d * zq I s h d : ℝ) : EReal) ((64 : ℝ) : EReal) + ((eps : ℝ) : EReal) := by
  pointwise [val_main_v56, val_main_v57, val_main_v58, val_main_v59, val_main_v60, val_main_v61, val_main_v62, val_main_cst, val_main_cst_21, val_main_cst_22]
  simp only [q_x H, ← EReal.coe_mul, coe_sum]
  rw [d64, eps_coe]

theorem q_rs (s : Fin 8192) (h : Fin 16) : (val_main_v63 (F := Ideal) x0 (ix4 0 s h 0) : EReal) = ((rr (zq I s h) : ℝ) : EReal) := by
  pointwise [val_main_v63]
  rw [q_ms H]; exact rsqrt_mean _

theorem q_hat (s : Fin 8192) (h : Fin 16) (d : Fin 64) : (val_main_v68 (F := Ideal) x0 (ix4 0 s h d) : EReal) = ((hat (zq I s h) d : ℝ) : EReal) := by
  pointwise [val_main_v67, val_main_v68]
  rw [q_x H, q_rs H, ← EReal.coe_mul]; rfl

theorem q_gain (s : Fin 8192) (h : Fin 16) (d : Fin 64) : (val_main_v70 (F := Ideal) x1 (ix4 0 s h d) : EReal) = ((I.qg d : ℝ) : EReal) := by
  pointwise [val_main_v6, val_main_v69, val_main_v70]
  exact H.qg 0 d

theorem q_n (s : Fin 8192) (h : Fin 16) (d : Fin 64) : (val_main_v71 (F := Ideal) x0 x1 (ix4 0 s h d) : EReal) = ((qn I s h d : ℝ) : EReal) := by
  pointwise [val_main_v71]
  rw [q_hat H, q_gain H, ← EReal.coe_mul]; rfl

theorem k_x (s : Fin 8192) (h : Fin 2) (d : Fin 64) : (val_main_v72 (F := Ideal) x0 (ix4 0 s h d) : EReal) = ((zk I s h d : ℝ) : EReal) := by
  pointwise [val_main_v1, val_main_v4, val_main_v72]
  exact zk_at H s h d _

theorem k_ms (s : Fin 8192) (h : Fin 2) : (val_main_v79 (F := Ideal) x0 (ix4 0 s h 0) : EReal) = Ideal.div ((∑ d : Fin 64, zk I s h d * zk I s h d : ℝ) : EReal) ((64 : ℝ) : EReal) + ((eps : ℝ) : EReal) := by
  pointwise [val_main_v73, val_main_v74, val_main_v75, val_main_v76, val_main_v77, val_main_v78, val_main_v79, val_main_cst_24, val_main_cst_25, val_main_cst_26]
  simp only [k_x H, ← EReal.coe_mul, coe_sum]
  rw [d64, eps_coe]

theorem k_rs (s : Fin 8192) (h : Fin 2) : (val_main_v80 (F := Ideal) x0 (ix4 0 s h 0) : EReal) = ((rr (zk I s h) : ℝ) : EReal) := by
  pointwise [val_main_v80]
  rw [k_ms H]; exact rsqrt_mean _

theorem k_hat (s : Fin 8192) (h : Fin 2) (d : Fin 64) : (val_main_v85 (F := Ideal) x0 (ix4 0 s h d) : EReal) = ((hat (zk I s h) d : ℝ) : EReal) := by
  pointwise [val_main_v84, val_main_v85]
  rw [k_x H, k_rs H, ← EReal.coe_mul]; rfl

theorem k_gain (s : Fin 8192) (h : Fin 2) (d : Fin 64) : (val_main_v87 (F := Ideal) x2 (ix4 0 s h d) : EReal) = ((I.kg d : ℝ) : EReal) := by
  pointwise [val_main_v7, val_main_v86, val_main_v87]
  exact H.kg 0 d

theorem k_n (s : Fin 8192) (h : Fin 2) (d : Fin 64) : (val_main_v88 (F := Ideal) x0 x2 (ix4 0 s h d) : EReal) = ((kn I s h d : ℝ) : EReal) := by
  pointwise [val_main_v88]
  rw [k_hat H, k_gain H, ← EReal.coe_mul]; rfl

theorem v_x (s : Fin 8192) (h : Fin 2) (d : Fin 64) : (val_main_v89 (F := Ideal) x0 (ix4 0 s h d) : EReal) = ((zv I s h d : ℝ) : EReal) := by
  pointwise [val_main_v2, val_main_v5, val_main_v89]
  exact zv_at H s h d _

/-- The queries by block, row, and head. -/
theorem q_blk (n : Fin 64) (r : Fin 128) (a : Fin 2) (g : Fin 8) (d : Fin 64) :
    (val_main_v90 (F := Ideal) x0 x1 (ix6 0 n r a g d) : EReal) = ((qn I (128 * n + r) (8 * a + g) d : ℝ) : EReal) := by
  pointwise [val_main_v90]
  rw [q_n H]
  exact congrArg₂ (fun s h => ((qn I s h d : ℝ) : EReal)) (by dsimp only; omega) (by dsimp only; omega)

/-- The keys a block of queries sees: the block before it, nought before the first, and its own. -/
theorem k_band (n : Fin 64) (j : Fin 256) (k : Fin 2) (d : Fin 64) :
    (val_main_v96 (F := Ideal) x0 x2 (ix5 0 n j k d) : EReal) = (((if 128 ≤ (j : ℕ) ∨ 0 < (n : ℕ) then kn I (pos n j) k d else 0) : ℝ) : EReal) := by
  pointwise [val_main_v91, val_main_v92, val_main_v93, val_main_v95, val_main_v96, val_main_cst_28]
  have hj := j.isLt
  have hn := n.isLt
  unfold pos
  by_cases h : (j : ℕ) < 128
  · rw [dif_pos h]
    by_cases h0 : (n : ℕ) < 1
    · rw [dif_pos h0, if_neg (by omega)]; rfl
    · rw [dif_neg h0]
      refine (k_n H _ k d).trans (congrArg (fun y : ℝ => (y : EReal)) ?_)
      rw [if_pos (show 128 ≤ (j : ℕ) ∨ 0 < (n : ℕ) by omega), if_pos h]
      exact congrArg (fun s => kn I s k d) (by dsimp only; omega)
  · rw [dif_neg h]
    refine (k_n H _ k d).trans (congrArg (fun y : ℝ => (y : EReal)) ?_)
    rw [if_pos (show 128 ≤ (j : ℕ) ∨ 0 < (n : ℕ) by omega), if_neg h]
    exact congrArg (fun s => kn I s k d) (by dsimp only; omega)

/-- The values likewise. -/
theorem v_band (n : Fin 64) (j : Fin 256) (k : Fin 2) (d : Fin 64) :
    (val_main_v102 (F := Ideal) x0 (ix5 0 n j k d) : EReal) = (((if 128 ≤ (j : ℕ) ∨ 0 < (n : ℕ) then zv I (pos n j) k d else 0) : ℝ) : EReal) := by
  pointwise [val_main_v97, val_main_v98, val_main_v99, val_main_v101, val_main_v102, val_main_cst_30]
  have hj := j.isLt
  have hn := n.isLt
  unfold pos
  by_cases h : (j : ℕ) < 128
  · rw [dif_pos h]
    by_cases h0 : (n : ℕ) < 1
    · rw [dif_pos h0, if_neg (by omega)]; rfl
    · rw [dif_neg h0]
      refine (v_x H _ k d).trans (congrArg (fun y : ℝ => (y : EReal)) ?_)
      rw [if_pos (show 128 ≤ (j : ℕ) ∨ 0 < (n : ℕ) by omega), if_pos h]
      exact congrArg (fun s => zv I s k d) (by dsimp only; omega)
  · rw [dif_neg h]
    refine (v_x H _ k d).trans (congrArg (fun y : ℝ => (y : EReal)) ?_)
    rw [if_pos (show 128 ≤ (j : ℕ) ∨ 0 < (n : ℕ) by omega), if_neg h]
    exact congrArg (fun s => zv I s k d) (by dsimp only; omega)

end Cert.AttnRef

end
-- ==== Proof.AttnRefB.lean ====
/- The reference's logits: the bias read by the bucket of each distance, the band's mask, and the column of the sink. -/
module

public import proofs.«01_k».proof.Proof.AttnRefA

@[expose] public section

set_option maxRecDepth 16384

noncomputable section

open Idealize.ShloMosaic

namespace Cert.AttnRef
open Cert.Reals Cert.AttnBand Cert.AttnMath Cert.AttnRefIdeal Cert.AttnRefIdeal.Read
open Cert.AttnKer (Args c8)

variable {x0 : FVec Ideal S8192x6400 .f32} {x1 x2 : FVec Ideal S1x64 .f32} {x3 : FVec Ideal S1x16 .f32} {x4 : FVec Ideal S32x16 .f32} {x5 : FVec Ideal S8192x1024 .f32}
  {I : In} (H : Args x0 x1 x2 x3 x4 x5 I)

/-- The table of the buckets of the distances below 256. -/
theorem tab_ref (d : Fin 256) : (val_main_v31 (F := Ideal) (ix1 d) : BitVec 32) = BitVec.ofNat 32 (bucket d) := by
  revert d; decide +kernel

/-- Reading the table at a word for every place of the band. -/
theorem take_ref (x : S256.Idx → BitVec 32) (idx : IVec S128x256x1 32) (r : Fin 128) (j : Fin 256) :
    Host.gather gather_S256_S128x256x1_S128x256_n_0_n_n_0_2_1 x idx (ix2 r j) = x (ix1 ⟨min (idx (ix3 r j 0)).toInt.toNat 255, by omega⟩) := by
  refine congrArg x (funext fun a => ?_)
  obtain rfl : a = 0 := Subsingleton.elim _ _
  refine Fin.ext ?_
  have e : (GatherDims.siIdx gather_S256_S128x256x1_S128x256_n_0_n_n_0_2_1 (ix2 r j) ⟨0, by decide⟩ : S128x256x1.Idx) = ix3 r j 0 := by
    funext b; match b with
    | ⟨0, _⟩ => rfl
    | ⟨1, _⟩ => rfl
    | ⟨2, _⟩ => rfl
  exact Eq.trans rfl (congrArg (fun x => min (idx x).toInt.toNat 255) e)

/-- Reading a row of the bias at a word for every place of the band. -/
theorem row_ref (x : S32x16.Idx → EReal) (idx : IVec S128x256x1 32) (r : Fin 128) (j : Fin 256) (h : Fin 16) :
    Host.gather gather_S32x16_S128x256x1_S128x256x16_2_0_n_n_0_2_116 x idx (ix3 r j h) = x (ix2 ⟨min (idx (ix3 r j 0)).toInt.toNat 31, by omega⟩ h) := by
  refine congrArg x (funext fun a => ?_)
  refine Fin.ext ?_
  have e : (GatherDims.siIdx gather_S32x16_S128x256x1_S128x256x16_2_0_n_n_0_2_116 (ix3 r j h) ⟨0, by decide⟩ : S128x256x1.Idx) = ix3 r j 0 := by
    funext b; match b with
    | ⟨0, _⟩ => rfl
    | ⟨1, _⟩ => rfl
    | ⟨2, _⟩ => rfl
  match a with
  | ⟨0, _⟩ => exact Eq.trans rfl (congrArg (fun x => min (idx x).toInt.toNat 31) e)
  | ⟨1, _⟩ => exact Nat.zero_add _

theorem dist_word (r : Fin 128) (j : Fin 256) : (val_main_v36 (F := Ideal) (ix2 r j) : BitVec 32) = word r j := by
  pointwise [val_main_v36, val_main_v34, val_main_v35, val_main_v33, val_main_v32, val_main_v10, val_main_v12, val_main_v9, val_main_v11, val_main_c_15]
  rfl

/-- A distance, nought where it is negative, as a place of the table. -/
def up (x : BitVec 32) : BitVec 32 :=
  Scalar.select (IntOp.cmpi .slt (IntOp.maxsi x 0#32) 0#32) (IntOp.addi (IntOp.maxsi x 0#32) 256#32) (IntOp.maxsi x 0#32)

theorem up_word (r : Fin 128) (j : Fin 256) : min (up (word r j)).toInt.toNat 255 = 128 + r - j := by
  have e := word_all (P := fun d w => (min (up w).toInt.toNat 255 : ℤ) = max d 0) (by decide +kernel) r j
  omega

theorem place_word (r : Fin 128) (j : Fin 256) : (val_main_v44 (F := Ideal) (ix3 r j 0) : BitVec 32) = up (word r j) := by
  rw [← dist_word]
  generalize hx : val_main_v36 (F := Ideal) (ix2 r j) = x
  pointwise [val_main_v37, val_main_v38, val_main_v39, val_main_v40, val_main_v41, val_main_v42, val_main_v43, val_main_v44, val_main_c_16, val_main_c_17, val_main_c_18]
  rw [hx]; rfl

theorem bucket_word (r : Fin 128) (j : Fin 256) : (val_main_v45 (F := Ideal) (ix2 r j) : BitVec 32) = BitVec.ofNat 32 (bucket (128 + r - j)) := by
  refine (take_ref _ _ r j).trans ((tab_ref _).trans ?_)
  refine congrArg (fun d => BitVec.ofNat 32 (bucket d)) ?_
  dsimp only
  rw [place_word]; exact up_word r j

/-- A bucket as a row of the bias. -/
def rowOf (x : BitVec 32) : BitVec 32 := Scalar.select (IntOp.cmpi .slt x 0#32) (IntOp.addi x 32#32) x

theorem rowOf_bucket (b : Fin 32) : (rowOf (BitVec.ofNat 32 b)).toInt = (b : ℤ) := by
  revert b; decide +kernel

theorem index_word (r : Fin 128) (j : Fin 256) : (val_main_v51 (F := Ideal) (ix3 r j 0) : BitVec 32).toInt = (bucket (128 + r - j) : ℤ) := by
  have e : (val_main_v51 (F := Ideal) (ix3 r j 0) : BitVec 32) = rowOf (val_main_v45 (F := Ideal) (ix2 r j) : BitVec 32) := by
    generalize hx : val_main_v45 (F := Ideal) (ix2 r j) = x
    pointwise [val_main_v46, val_main_v47, val_main_v48, val_main_v49, val_main_v50, val_main_v51, val_main_c_19, val_main_c_20]
    rw [hx]; rfl
  rw [e, bucket_word]
  exact rowOf_bucket ⟨_, bucket_lt _⟩

include H in
/-- The bias of each place of the band, by head. -/
theorem bias_at (a : Fin 2) (g : Fin 8) (r : Fin 128) (j : Fin 256) :
    (val_main_v54 (F := Ideal) x4 (ix4 a g r j) : EReal) = ((I.rb (I.bk (128 + r - j)) (8 * a + g) : ℝ) : EReal) := by
  pointwise [val_main_v53, val_main_v54]
  refine (row_ref x4 _ r j _).trans ((H.rb _ _).trans ?_)
  rw [H.bk]
  refine congrArg₂ (fun b h => ((I.rb b h : ℝ) : EReal)) ?_ (by dsimp only; omega)
  have := bucket_lt (128 + r - j)
  have e := index_word r j
  dsimp only
  rw [e]; omega

theorem query_key_word (n : Fin 64) (r : Fin 128) (j : Fin 256) : (val_main_v132 (F := Ideal) (ix3 n r j) : BitVec 32) = word r j := by
  pointwise [val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_c_33, val_main_c_34, val_main_c_35]
  refine BitVec.eq_of_toNat_eq ?_
  simp only [word, IntOp.subi, IntOp.addi, IntOp.muli, BitVec.toNat_sub, BitVec.toNat_add, BitVec.toNat_mul, BitVec.toNat_ofNat]
  omega

theorem key_word (n : Fin 64) (j : Fin 256) :
    IntOp.cmpi .sge (IntOp.addi (IntOp.muli (IntOp.subi (BitVec.ofNat 32 n) 1#32) 128#32) (BitVec.ofNat 32 j)) 0#32 = if 128 ≤ (j : ℕ) ∨ 0 < (n : ℕ) then 1#1 else 0#1 := by
  revert n j; decide +kernel

/-- The mask is the band. -/
theorem mask_at (n : Fin 64) (a : Fin 2) (g : Fin 8) (r : Fin 128) (j : Fin 256) :
    (val_main_v143 (F := Ideal) (ix6 0 n a g r j) : BitVec 1) = if on n r j then 1#1 else 0#1 := by
  have e : (val_main_v143 (F := Ideal) (ix6 0 n a g r j) : BitVec 1)
      = IntOp.andi (IntOp.andi (IntOp.cmpi .sge (val_main_v132 (F := Ideal) (ix3 n r j)) 0#32) (IntOp.cmpi .slt (val_main_v132 (F := Ideal) (ix3 n r j)) 128#32))
        (IntOp.cmpi .sge (IntOp.addi (IntOp.muli (IntOp.subi (BitVec.ofNat 32 n) 1#32) 128#32) (BitVec.ofNat 32 j)) 0#32) := by
    generalize hx : val_main_v132 (F := Ideal) = x
    pointwise [val_main_v133, val_main_v134, val_main_v135, val_main_v136, val_main_v137, val_main_v138, val_main_v139, val_main_v140, val_main_v141, val_main_v142, val_main_v143, val_main_v119, val_main_v120, val_main_v121, val_main_v122, val_main_v123, val_main_v124, val_main_v125, val_main_v126, val_main_v127, val_main_v128, val_main_v129, val_main_c_34, val_main_c_35, val_main_c_36, val_main_c_37, val_main_c_38]
    rw [hx]
  rw [e, query_key_word, near_word, key_word]
  unfold on
  by_cases h : near r j
  · by_cases h' : 128 ≤ (j : ℕ) ∨ 0 < (n : ℕ)
    · rw [if_pos h, if_pos h', if_pos ⟨h, h'⟩]; rfl
    · rw [if_pos h, if_neg h', if_neg (show ¬(near r j ∧ (128 ≤ (j : ℕ) ∨ 0 < (n : ℕ))) from fun x => h' x.2)]; rfl
  · rw [if_neg h, if_neg (show ¬(near r j ∧ (128 ≤ (j : ℕ) ∨ 0 < (n : ℕ))) from fun x => h x.1)]
    split <;> rfl

include H

theorem logit_at (n : Fin 64) (a : Fin 2) (g : Fin 8) (r : Fin 128) (j : Fin 256) (h : on n r j) :
    (val_main_v109 (F := Ideal) x0 x1 x2 x4 (ix6 0 n a g r j) : EReal) = ((logit I n (8 * a + g) r j : ℝ) : EReal) := by
  pointwise [val_main_v103, val_main_v104, val_main_v105, val_main_v106, val_main_v107, val_main_v108, val_main_v109, val_main_cst_32]
  have e : ((8 * a + g : ℕ)) / 8 = a := by omega
  simp only [k_band H, q_blk H, bias_at H, if_pos h.2, ← EReal.coe_mul, coe_sum]
  rw [c8, ← EReal.coe_mul, ← EReal.coe_add]; unfold logit; rw [e]

theorem masked_at (n : Fin 64) (a : Fin 2) (g : Fin 8) (r : Fin 128) (j : Fin 256) :
    (val_main_v145 (F := Ideal) x0 x1 x2 x4 (ix6 0 n a g r j) : EReal) = L I n (8 * a + g) r j := by
  pointwise [val_main_v145]
  rw [mask_at]; unfold L
  by_cases h : on n r j
  · rw [if_pos h, if_pos h]; exact logit_at H n a g r j h
  · rw [if_neg h, if_neg h]
    show (val_main_v144 (F := Ideal) (ix6 0 n a g r j) : EReal) = ⊥
    pointwise [val_main_v144, val_main_cst_39]
    simp [Ideal.ofBits, Ideal.ieee]

omit H in
/-- A column is a key's or the sink's. -/
theorem col_any (n : Fin 64) (a : Fin 2) (g : Fin 8) (r : Fin 128) (k : Fin 257) :
    (val_main_v151 (F := Ideal) x0 x1 x2 x3 x4 (ix6 0 n a g r k) : EReal)
      = if h : (k : ℕ) < 256 then val_main_v150 (F := Ideal) x0 x1 x2 x4 (ix6 0 n a g r ⟨k, h⟩) else val_main_v148 (F := Ideal) x3 (ix6 0 n a g r 0) := by
  unfold val_main_v151
  generalize val_main_v150 (F := Ideal) x0 x1 x2 x4 = A
  generalize val_main_v148 (F := Ideal) x3 = B
  pointwise
  split
  · rfl
  · exact congrArg (fun z => B (ix6 0 n a g r z)) (Subsingleton.elim (α := Fin 1) _ _)

/-- The columns of the keys. -/
theorem col_key (n : Fin 64) (a : Fin 2) (g : Fin 8) (r : Fin 128) (j : Fin 256) :
    (val_main_v151 (F := Ideal) x0 x1 x2 x3 x4 (ix6 0 n a g r j.castSucc) : EReal) = L I n (8 * a + g) r j := by
  rw [col_any, dif_pos (show ((j.castSucc : Fin 257) : ℕ) < 256 from j.isLt), ← masked_at H]
  pointwise [val_main_v149, val_main_v150, val_main_cst_41]
  rfl

/-- The column of the sink. -/
theorem col_sink (n : Fin 64) (a : Fin 2) (g : Fin 8) (r : Fin 128) :
    (val_main_v151 (F := Ideal) x0 x1 x2 x3 x4 (ix6 0 n a g r (Fin.last 256)) : EReal) = ((I.sk (8 * a + g) : ℝ) : EReal) := by
  rw [col_any, dif_neg (show ¬((Fin.last 256 : Fin 257) : ℕ) < 256 from lt_irrefl 256)]
  pointwise [val_main_v147, val_main_v148, val_main_v8]
  exact (H.sk 0 _).trans (congrArg (fun h => ((I.sk h : ℝ) : EReal)) (by dsimp only; omega))

end Cert.AttnRef

end
-- ==== Proof.AttnRefC.lean ====
/- The reference's softmax with a sink: the largest logit of a row, which is real, the exponentials shifted by it, and the probabilities. -/
module

public import proofs.«01_k».proof.Proof.AttnRefB

@[expose] public section

set_option maxRecDepth 16384

noncomputable section

open Idealize.ShloMosaic

namespace Cert.AttnRef
open Cert.Reals Cert.AttnBand Cert.AttnMath Cert.AttnRefIdeal Cert.AttnRefIdeal.Read
open Cert.AttnKer (Args c8)

variable {x0 : FVec Ideal S8192x6400 .f32} {x1 x2 : FVec Ideal S1x64 .f32} {x3 : FVec Ideal S1x16 .f32} {x4 : FVec Ideal S32x16 .f32} {x5 : FVec Ideal S8192x1024 .f32}
  {I : In} (H : Args x0 x1 x2 x3 x4 x5 I)

/-- The largest of minus infinity and finitely many entries, none infinite upwards and one not minus infinity, is real. -/
theorem max_real {N : ℕ} (f : Fin N → EReal) (h1 : ∀ k, f k ≠ ⊤) (h2 : ∃ k, f k ≠ ⊥) :
    (((Finset.univ.fold max ⊥ f).toReal : ℝ) : EReal) = Finset.univ.fold max ⊥ f := by
  refine EReal.coe_toReal ?_ ?_
  · refine ne_of_lt ((Finset.fold_max_lt _).2 ⟨bot_lt_top, fun k _ => lt_of_le_of_ne le_top (h1 k)⟩)
  · obtain ⟨k, hk⟩ := h2
    exact ne_of_gt ((Finset.lt_fold_max _).2 (Or.inr ⟨k, Finset.mem_univ k, bot_lt_iff_ne_bot.2 hk⟩))

theorem L_ne_top (n h r j : ℕ) : L I n h r j ≠ ⊤ := by
  unfold L; split
  · exact EReal.coe_ne_top _
  · exact bot_ne_top

/-- The largest logit of a row, as a real. -/
def mx (x0 : FVec Ideal S8192x6400 .f32) (x1 x2 : FVec Ideal S1x64 .f32) (x3 : FVec Ideal S1x16 .f32) (x4 : FVec Ideal S32x16 .f32)
    (n : Fin 64) (a : Fin 2) (g : Fin 8) (r : Fin 128) : ℝ := (val_main_v152 (F := Ideal) x0 x1 x2 x3 x4 (ix5 0 n a g r) : EReal).toReal

theorem fold_at (n : Fin 64) (a : Fin 2) (g : Fin 8) (r : Fin 128) : (val_main_v152 (F := Ideal) x0 x1 x2 x3 x4 (ix5 0 n a g r) : EReal)
    = (Finset.univ : Finset (Fin 257)).fold max ⊥ fun k => (val_main_v151 (F := Ideal) x0 x1 x2 x3 x4 (ix6 0 n a g r k) : EReal) := by
  unfold val_main_v152
  generalize val_main_v151 (F := Ideal) x0 x1 x2 x3 x4 = A
  pointwise [val_main_cst_42]
  have e : Ideal.ofBits .f32 4286578688#32 = ⊥ := by simp [Ideal.ofBits, Ideal.ieee]
  rw [e]
  exact max6_last _ A ⊥ 0 n a g r

include H in
theorem mx_coe (n : Fin 64) (a : Fin 2) (g : Fin 8) (r : Fin 128) : (val_main_v152 (F := Ideal) x0 x1 x2 x3 x4 (ix5 0 n a g r) : EReal) = ((mx x0 x1 x2 x3 x4 n a g r : ℝ) : EReal) := by
  unfold mx
  rw [fold_at]
  refine (max_real _ (fun k => ?_) ⟨Fin.last 256, ?_⟩).symm
  · refine Fin.lastCases ?_ (fun j => ?_) k
    · rw [col_sink H]; exact EReal.coe_ne_top _
    · rw [col_key H]; exact L_ne_top _ _ _ _
  · rw [col_sink H]; exact EReal.coe_ne_bot _

/-- Taking the larger of minus infinity and it changes nothing; it is spread over the columns. -/
theorem floor_at (A B : FVec Ideal S1x64x2x8x128 .f32) (i : S1x64x2x8x128.Idx) (hB : (B i : EReal) = ⊥) : (maximumf B A i : EReal) = A i :=
  (congrArg (fun x : EReal => max x (A i)) hB).trans (max_eq_right bot_le)

theorem low_at (i : S1x64x2x8x128.Idx) : (val_main_v158 (F := Ideal) i : EReal) = ⊥ := by
  show Ideal.ofBits .f32 4286578688#32 = ⊥
  simp [Ideal.ofBits, Ideal.ieee]

theorem spread (n : Fin 64) (a : Fin 2) (g : Fin 8) (r : Fin 128) (k : Fin 257) : (val_main_v170 (F := Ideal) x0 x1 x2 x3 x4 (ix6 0 n a g r k) : EReal) = val_main_v152 (F := Ideal) x0 x1 x2 x3 x4 (ix5 0 n a g r) := by
  have e : (val_main_v170 (F := Ideal) x0 x1 x2 x3 x4 (ix6 0 n a g r k) : EReal) = val_main_v159 (F := Ideal) x0 x1 x2 x3 x4 (ix5 0 n a g r) := by
    unfold val_main_v170 val_main_v169
    generalize val_main_v159 (F := Ideal) x0 x1 x2 x3 x4 = A
    pointwise
  refine e.trans ?_
  have hB := low_at (ix5 0 n a g r)
  unfold val_main_v159
  generalize val_main_v152 (F := Ideal) x0 x1 x2 x3 x4 = A
  generalize val_main_v158 (F := Ideal) = B at hB ⊢
  exact floor_at A B _ hB

theorem exp_at (n : Fin 64) (a : Fin 2) (g : Fin 8) (r : Fin 128) (k : Fin 257) : (val_main_v172 (F := Ideal) x0 x1 x2 x3 x4 (ix6 0 n a g r k) : EReal)
    = Ideal.exp ((val_main_v151 (F := Ideal) x0 x1 x2 x3 x4 (ix6 0 n a g r k) : EReal) - val_main_v152 (F := Ideal) x0 x1 x2 x3 x4 (ix5 0 n a g r)) := by
  rw [← spread n a g r k]
  unfold val_main_v172 val_main_v171
  generalize val_main_v151 (F := Ideal) x0 x1 x2 x3 x4 = A
  generalize val_main_v170 (F := Ideal) x0 x1 x2 x3 x4 = B
  pointwise

/-- A sum over the columns: the keys' and the sink's. -/
theorem cols (f : Fin 257 → EReal) : ∑ k, f k = ∑ j : Fin 256, f j.castSucc + f (Fin.last 256) := Fin.sum_univ_castSucc f

theorem over_cols (A : FVec Ideal S1x64x2x8x128x257 .f32) (hr) (hu) (n : Fin 64) (a : Fin 2) (g : Fin 8) (r : Fin 128) :
    (Host.reduceAdd (t := S1x64x2x8x128) (axes := [5]) A (val_main_cst_50 (F := Ideal)) hr hu (ix5 0 n a g r) : EReal) = ∑ k : Fin 257, (A (ix6 0 n a g r k) : EReal) := by
  pointwise [val_main_cst_50]
  rw [sum6_last _ A _ 0 n a g r, zero_add]

include H

theorem exp_key (n : Fin 64) (a : Fin 2) (g : Fin 8) (r : Fin 128) (j : Fin 256) : (val_main_v172 (F := Ideal) x0 x1 x2 x3 x4 (ix6 0 n a g r j.castSucc) : EReal)
    = ((w I n (8 * a + g) r j * Real.exp (-(mx x0 x1 x2 x3 x4 n a g r)) : ℝ) : EReal) := by
  rw [exp_at, mx_coe H, col_key H, exp_L]

theorem exp_sink (n : Fin 64) (a : Fin 2) (g : Fin 8) (r : Fin 128) : (val_main_v172 (F := Ideal) x0 x1 x2 x3 x4 (ix6 0 n a g r (Fin.last 256)) : EReal)
    = ((Real.exp (I.sk (8 * a + g) - mx x0 x1 x2 x3 x4 n a g r) : ℝ) : EReal) := by
  rw [exp_at, mx_coe H, col_sink H, ← EReal.coe_sub, Ideal.exp_coe]

/-- A row's denominator, shifted. -/
def dn (I : In) (x0 : FVec Ideal S8192x6400 .f32) (x1 x2 : FVec Ideal S1x64 .f32) (x3 : FVec Ideal S1x16 .f32) (x4 : FVec Ideal S32x16 .f32)
    (n : Fin 64) (a : Fin 2) (g : Fin 8) (r : Fin 128) : ℝ := den I n (8 * a + g) r * Real.exp (-(mx x0 x1 x2 x3 x4 n a g r))

omit H in
theorem dn_ne (n : Fin 64) (a : Fin 2) (g : Fin 8) (r : Fin 128) : dn I x0 x1 x2 x3 x4 n a g r ≠ 0 := (mul_pos (den_pos I _ _ _) (Real.exp_pos _)).ne'

theorem den_at (n : Fin 64) (a : Fin 2) (g : Fin 8) (r : Fin 128) : (val_main_v174 (F := Ideal) x0 x1 x2 x3 x4 (ix6 0 n a g r 0) : EReal) = ((dn I x0 x1 x2 x3 x4 n a g r : ℝ) : EReal) := by
  have e : (val_main_v174 (F := Ideal) x0 x1 x2 x3 x4 (ix6 0 n a g r 0) : EReal) = val_main_v173 (F := Ideal) x0 x1 x2 x3 x4 (ix5 0 n a g r) := by
    unfold val_main_v174
    generalize val_main_v173 (F := Ideal) x0 x1 x2 x3 x4 = A
    pointwise
  rw [e]
  refine (over_cols _ _ _ n a g r).trans ?_
  rw [cols, exp_sink H]
  simp only [exp_key H, coe_sum]
  rw [← EReal.coe_add, den_shift]; rfl

omit H in
theorem div_at (n : Fin 64) (a : Fin 2) (g : Fin 8) (r : Fin 128) (k : Fin 257) : (val_main_v176 (F := Ideal) x0 x1 x2 x3 x4 (ix6 0 n a g r k) : EReal)
    = Ideal.div (val_main_v172 (F := Ideal) x0 x1 x2 x3 x4 (ix6 0 n a g r k) : EReal) (val_main_v174 (F := Ideal) x0 x1 x2 x3 x4 (ix6 0 n a g r 0)) := by
  unfold val_main_v176 val_main_v175
  generalize val_main_v172 (F := Ideal) x0 x1 x2 x3 x4 = A
  generalize val_main_v174 (F := Ideal) x0 x1 x2 x3 x4 = B
  pointwise

theorem p_at (n : Fin 64) (a : Fin 2) (g : Fin 8) (r : Fin 128) (j : Fin 256) : (val_main_v180 (F := Ideal) x0 x1 x2 x3 x4 (ix6 0 n a g r j) : EReal) = ((p I n (8 * a + g) r j : ℝ) : EReal) := by
  have e : (val_main_v180 (F := Ideal) x0 x1 x2 x3 x4 (ix6 0 n a g r j) : EReal) = val_main_v176 (F := Ideal) x0 x1 x2 x3 x4 (ix6 0 n a g r j.castSucc) := by
    unfold val_main_v180
    generalize val_main_v176 (F := Ideal) x0 x1 x2 x3 x4 = A
    pointwise
    rfl
  rw [e, div_at, exp_key H, den_at H, Ideal.div_coe (dn_ne n a g r), ← EReal.coe_mul]
  exact congrArg (fun y : ℝ => (y : EReal)) (p_shift I n (8 * a + g) r j _)

/-- The inverse square of a row's denominator. -/
theorem inv2_at (n : Fin 64) (a : Fin 2) (g : Fin 8) (r : Fin 128) : (val_main_v179 (F := Ideal) x0 x1 x2 x3 x4 (ix6 0 n a g r 0) : EReal) = ((1 / (dn I x0 x1 x2 x3 x4 n a g r * dn I x0 x1 x2 x3 x4 n a g r) : ℝ) : EReal) := by
  have e : (val_main_v179 (F := Ideal) x0 x1 x2 x3 x4 (ix6 0 n a g r 0) : EReal)
      = Ideal.div 1 ((val_main_v174 (F := Ideal) x0 x1 x2 x3 x4 (ix6 0 n a g r 0) : EReal) * val_main_v174 (F := Ideal) x0 x1 x2 x3 x4 (ix6 0 n a g r 0)) := by
    unfold val_main_v179 val_main_v177
    generalize val_main_v174 (F := Ideal) x0 x1 x2 x3 x4 = A
    pointwise [val_main_v178, val_main_cst_51]
    try simp [Ideal.ofBits, Ideal.ieee]
  rw [e, den_at H, ← EReal.coe_mul, Ideal.div_coe (mul_ne_zero (dn_ne n a g r) (dn_ne n a g r)), one_mul]

end Cert.AttnRef

end
-- ==== Proof.AttnRefD.lean ====
/- The reference's gradient of the softmax: what reaches the probabilities, the row sums, and the gradient of the logits and of the sink. -/
module

public import proofs.«01_k».proof.Proof.AttnRefC

@[expose] public section

set_option maxRecDepth 16384

noncomputable section

open Idealize.ShloMosaic

namespace Cert.AttnRef
open Cert.Reals Cert.AttnBand Cert.AttnMath Cert.AttnRefIdeal Cert.AttnRefIdeal.Read
open Cert.AttnKer (Args c8)

variable {x0 : FVec Ideal S8192x6400 .f32} {x1 x2 : FVec Ideal S1x64 .f32} {x3 : FVec Ideal S1x16 .f32} {x4 : FVec Ideal S32x16 .f32} {x5 : FVec Ideal S8192x1024 .f32}
  {I : In} (H : Args x0 x1 x2 x3 x4 x5 I)

/-- What reaches a probability, nought at a key that is not there. -/
def dPz (I : In) (n h r j : ℕ) : ℝ := if 128 ≤ j ∨ 0 < n then dP I n h r j else 0

/-- The exponential over the denominator, both shifted, times what reaches it. -/
theorem part_shift (n h r j : ℕ) (M : ℝ) : dPz I n h r j * (w I n h r j * Real.exp (-M) * (1 / (den I n h r * Real.exp (-M)))) = p I n h r j * dP I n h r j := by
  rw [p_shift]; unfold dPz
  by_cases h' : 128 ≤ j ∨ 0 < n
  · rw [if_pos h', mul_comm]
  · rw [if_neg h', p_off I h (fun x => h' x.2), zero_mul, zero_mul]

theorem dl_shift (n h r : ℕ) (M : ℝ) {D : ℝ} (hD : D = den I n h r * Real.exp (-M)) :
    ∑ j : Fin 256, dPz I n h r j * (1 / (D * D)) * (w I n h r j * Real.exp (-M)) = dl I n h r * (1 / D) := by
  unfold dl
  rw [Finset.sum_mul]
  refine Finset.sum_congr rfl fun j _ => ?_
  rw [← part_shift n h r j M, ← hD]
  ring

theorem dS_shift (n h r j : ℕ) (M : ℝ) {D : ℝ} (hD : D = den I n h r * Real.exp (-M)) :
    (dPz I n h r j * (1 / D) + -(dl I n h r * (1 / D))) * (w I n h r j * Real.exp (-M)) = dS I n h r j := by
  have e := part_shift (I := I) n h r j M
  have e' := p_shift I n h r j M
  rw [← hD] at e e'
  unfold dS
  rw [mul_sub, ← e, ← e']
  ring

theorem sink_shift (n h r : ℕ) (M : ℝ) {D : ℝ} (hD : D = den I n h r * Real.exp (-M)) :
    (0 * (1 / D) + -(dl I n h r * (1 / D))) * Real.exp (I.sk h - M) = -(ps I n h r) * dl I n h r := by
  have e := ps_shift I n h r M
  rw [← hD] at e
  rw [← e]; ring

include H

theorem ct_at (n : Fin 64) (a : Fin 2) (d : Fin 64) (g : Fin 8) (r : Fin 128) :
    (val_main_v187 (F := Ideal) x5 (ix6 0 n a d g r) : EReal) = ((I.ct (128 * n + r) (64 * (8 * a + g) + d) : ℝ) : EReal) := by
  pointwise [val_main_v185, val_main_v186, val_main_v187]
  exact (H.ct _ _).trans (congrArg₂ (fun s l => ((I.ct s l : ℝ) : EReal)) (by dsimp only; omega) (by dsimp only; omega))

theorem dP_at (n : Fin 64) (a : Fin 2) (g : Fin 8) (r : Fin 128) (j : Fin 256) : (val_main_v188 (F := Ideal) x0 x5 (ix6 0 n a g r j) : EReal) = ((dPz I n (8 * a + g) r j : ℝ) : EReal) := by
  pointwise [val_main_v188]
  have e : ((8 * a + g : ℕ)) / 8 = a := by omega
  simp only [ct_at H, v_band H, ← EReal.coe_mul, coe_sum]
  refine congrArg (fun y : ℝ => (y : EReal)) ?_
  unfold dPz dP
  split
  · rw [e]; exact Finset.sum_congr rfl fun d _ => mul_comm _ _
  · simp only [mul_zero, Finset.sum_const_zero]

/-- The gradient of the values, by block of queries. -/
theorem dvb_at (n : Fin 64) (j : Fin 256) (k : Fin 2) (d : Fin 64) :
    (val_main_v190 (F := Ideal) x0 x1 x2 x3 x4 x5 (ix5 0 n j k d) : EReal) = ((dvb I n k j d : ℝ) : EReal) := by
  pointwise [val_main_v189, val_main_v190]
  simp only [ct_at H, p_at H, ← EReal.coe_mul, coe_sum]
  refine congrArg (fun y : ℝ => (y : EReal)) ?_
  unfold dvb
  exact Finset.sum_congr rfl fun g _ => Finset.sum_congr rfl fun r _ => mul_comm _ _

omit H in
theorem pad_any (n : Fin 64) (a : Fin 2) (g : Fin 8) (r : Fin 128) (k : Fin 257) : (val_main_v191 (F := Ideal) x0 x5 (ix6 0 n a g r k) : EReal)
    = if h : (k : ℕ) < 256 then val_main_v188 (F := Ideal) x0 x5 (ix6 0 n a g r ⟨k, h⟩) else 0 := by
  unfold val_main_v191
  generalize val_main_v188 (F := Ideal) x0 x5 = A
  pointwise [val_main_cst_52]

theorem ctp_key (n : Fin 64) (a : Fin 2) (g : Fin 8) (r : Fin 128) (j : Fin 256) : (val_main_v191 (F := Ideal) x0 x5 (ix6 0 n a g r j.castSucc) : EReal) = ((dPz I n (8 * a + g) r j : ℝ) : EReal) := by
  rw [pad_any, dif_pos (show ((j.castSucc : Fin 257) : ℕ) < 256 from j.isLt), ← dP_at H]; rfl

omit H in
theorem ctp_sink (n : Fin 64) (a : Fin 2) (g : Fin 8) (r : Fin 128) : (val_main_v191 (F := Ideal) x0 x5 (ix6 0 n a g r (Fin.last 256)) : EReal) = ((0 : ℝ) : EReal) := by
  rw [pad_any, dif_neg (show ¬((Fin.last 256 : Fin 257) : ℕ) < 256 from lt_irrefl 256)]; rfl

omit H in
theorem prod_any (n : Fin 64) (a : Fin 2) (g : Fin 8) (r : Fin 128) (k : Fin 257) : (val_main_v194 (F := Ideal) x0 x1 x2 x3 x4 x5 (ix6 0 n a g r k) : EReal)
    = (val_main_v191 (F := Ideal) x0 x5 (ix6 0 n a g r k) : EReal) * val_main_v179 (F := Ideal) x0 x1 x2 x3 x4 (ix6 0 n a g r 0) * val_main_v172 (F := Ideal) x0 x1 x2 x3 x4 (ix6 0 n a g r k) := by
  unfold val_main_v194 val_main_v193 val_main_v192
  generalize val_main_v191 (F := Ideal) x0 x5 = A
  generalize val_main_v179 (F := Ideal) x0 x1 x2 x3 x4 = B
  generalize val_main_v172 (F := Ideal) x0 x1 x2 x3 x4 = C
  pointwise

/-- The row sum of the gradient against the probabilities, over the denominator. -/
theorem rowsum_at (n : Fin 64) (a : Fin 2) (g : Fin 8) (r : Fin 128) : (val_main_v195 (F := Ideal) x0 x1 x2 x3 x4 x5 (ix5 0 n a g r) : EReal)
    = ((dl I n (8 * a + g) r * (1 / dn I x0 x1 x2 x3 x4 n a g r) : ℝ) : EReal) := by
  refine (over_cols _ _ _ n a g r).trans ?_
  rw [cols]
  simp only [prod_any, ctp_key H, ctp_sink, inv2_at H, exp_key H, exp_sink H, ← EReal.coe_mul, coe_sum, ← EReal.coe_add]
  refine congrArg (fun y : ℝ => (y : EReal)) ?_
  rw [zero_mul, zero_mul, add_zero]; exact dl_shift n (8 * a + g) r _ rfl

omit H in
theorem share_any (n : Fin 64) (a : Fin 2) (g : Fin 8) (r : Fin 128) (k : Fin 257) : (val_main_v202 (F := Ideal) x0 x1 x2 x3 x4 x5 (ix6 0 n a g r k) : EReal) = -(val_main_v195 (F := Ideal) x0 x1 x2 x3 x4 x5 (ix5 0 n a g r) : EReal) := by
  have e : (val_main_v202 (F := Ideal) x0 x1 x2 x3 x4 x5 (ix6 0 n a g r k) : EReal) = val_main_v200 (F := Ideal) x0 x1 x2 x3 x4 x5 (ix4 n a g r) := by
    unfold val_main_v202 val_main_v201
    generalize val_main_v200 (F := Ideal) x0 x1 x2 x3 x4 x5 = A
    pointwise
  rw [e]
  unfold val_main_v200 val_main_v197 val_main_v196
  generalize val_main_v195 (F := Ideal) x0 x1 x2 x3 x4 x5 = A
  pointwise [val_main_cst_54]
  refine (sum6_ends _ _ _ n a g r).trans ?_
  rw [zero_add]
  pointwise

omit H in
theorem back_any (n : Fin 64) (a : Fin 2) (g : Fin 8) (r : Fin 128) (k : Fin 257) : (val_main_v204 (F := Ideal) x0 x1 x2 x3 x4 x5 (ix6 0 n a g r k) : EReal)
    = (Ideal.div (val_main_v191 (F := Ideal) x0 x5 (ix6 0 n a g r k) : EReal) (val_main_v174 (F := Ideal) x0 x1 x2 x3 x4 (ix6 0 n a g r 0)) + val_main_v202 (F := Ideal) x0 x1 x2 x3 x4 x5 (ix6 0 n a g r k))
      * val_main_v172 (F := Ideal) x0 x1 x2 x3 x4 (ix6 0 n a g r k) := by
  unfold val_main_v204 val_main_v203 val_main_v199 val_main_v198
  generalize val_main_v191 (F := Ideal) x0 x5 = A
  generalize val_main_v174 (F := Ideal) x0 x1 x2 x3 x4 = B
  generalize val_main_v202 (F := Ideal) x0 x1 x2 x3 x4 x5 = D
  generalize val_main_v172 (F := Ideal) x0 x1 x2 x3 x4 = C
  pointwise

theorem back_key (n : Fin 64) (a : Fin 2) (g : Fin 8) (r : Fin 128) (j : Fin 256) : (val_main_v204 (F := Ideal) x0 x1 x2 x3 x4 x5 (ix6 0 n a g r j.castSucc) : EReal) = ((AttnMath.dS I n (8 * a + g) r j : ℝ) : EReal) := by
  rw [back_any, share_any, rowsum_at H, ctp_key H, den_at H, exp_key H, Ideal.div_coe (dn_ne n a g r), ← EReal.coe_mul, ← EReal.coe_neg, ← EReal.coe_add, ← EReal.coe_mul]
  exact congrArg (fun y : ℝ => (y : EReal)) (dS_shift n (8 * a + g) r j _ rfl)

theorem back_sink (n : Fin 64) (a : Fin 2) (g : Fin 8) (r : Fin 128) : (val_main_v204 (F := Ideal) x0 x1 x2 x3 x4 x5 (ix6 0 n a g r (Fin.last 256)) : EReal) = ((-(ps I n (8 * a + g) r) * AttnMath.dl I n (8 * a + g) r : ℝ) : EReal) := by
  rw [back_any, share_any, rowsum_at H, ctp_sink, den_at H, exp_sink H, Ideal.div_coe (dn_ne n a g r), ← EReal.coe_mul, ← EReal.coe_neg, ← EReal.coe_add, ← EReal.coe_mul]
  exact congrArg (fun y : ℝ => (y : EReal)) (sink_shift n (8 * a + g) r _ rfl)

/-- The gradient of the logits. -/
theorem dS_at (n : Fin 64) (a : Fin 2) (g : Fin 8) (r : Fin 128) (j : Fin 256) : (val_main_v213 (F := Ideal) x0 x1 x2 x3 x4 x5 (ix6 0 n a g r j) : EReal) = ((AttnMath.dS I n (8 * a + g) r j : ℝ) : EReal) := by
  have e : (val_main_v213 (F := Ideal) x0 x1 x2 x3 x4 x5 (ix6 0 n a g r j) : EReal)
      = Scalar.select (val_main_v143 (F := Ideal) (ix6 0 n a g r j) : BitVec 1) (val_main_v204 (F := Ideal) x0 x1 x2 x3 x4 x5 (ix6 0 n a g r j.castSucc) : EReal) 0 := by
    unfold val_main_v213 val_main_v208 val_main_v205
    generalize val_main_v204 (F := Ideal) x0 x1 x2 x3 x4 x5 = A
    generalize val_main_v143 (F := Ideal) = B
    pointwise [val_main_v207, val_main_v212, val_main_cst_55, val_main_cst_57]
    rfl
  rw [e, mask_at, back_key H]
  by_cases h : on n r j
  · rw [if_pos h]; rfl
  · rw [if_neg h, dS_off I _ h]; rfl

/-- The gradient of the sinks. -/
theorem dsk_at (h : Fin 16) : (val_main_v211 (F := Ideal) x0 x1 x2 x3 x4 x5 (ix1 h) : EReal) = ((AttnMath.dsk I h : ℝ) : EReal) := by
  have e : (val_main_v211 (F := Ideal) x0 x1 x2 x3 x4 x5 (ix1 h) : EReal)
      = ∑ n : Fin 64, ∑ r : Fin 128, (val_main_v204 (F := Ideal) x0 x1 x2 x3 x4 x5 (ix6 0 n ⟨h / 8, by omega⟩ ⟨h % 8, by omega⟩ r (Fin.last 256)) : EReal) := by
    unfold val_main_v211 val_main_v210 val_main_v209 val_main_v206
    generalize val_main_v204 (F := Ideal) x0 x1 x2 x3 x4 x5 = A
    pointwise [val_main_cst_56]
    refine (sum6_four _ _ _ _ _).trans ?_
    rw [zero_add]
    refine Finset.sum_congr rfl fun n _ => Finset.sum_congr rfl fun r _ => ?_
    pointwise
    rfl
  rw [e]
  simp only [back_sink H, coe_sum]
  refine congrArg (fun y : ℝ => (y : EReal)) ?_
  unfold AttnMath.dsk
  have e : 8 * ((h : ℕ) / 8) + h % 8 = h := Nat.div_add_mod _ 8
  simp only [e]

/-- The gradient of the bias at a place of the band, summed over the blocks. -/
theorem dband_at (a : Fin 2) (g : Fin 8) (r : Fin 128) (j : Fin 256) :
    (val_main_v216 (F := Ideal) x0 x1 x2 x3 x4 x5 (ix4 a g r j) : EReal) = ((∑ n : Fin 64, AttnMath.dS I n (8 * a + g) r j : ℝ) : EReal) := by
  have e : (val_main_v216 (F := Ideal) x0 x1 x2 x3 x4 x5 (ix4 a g r j) : EReal) = ∑ n : Fin 64, (val_main_v213 (F := Ideal) x0 x1 x2 x3 x4 x5 (ix6 0 n a g r j) : EReal) := by
    have e1 : (val_main_v216 (F := Ideal) x0 x1 x2 x3 x4 x5 (ix4 a g r j) : EReal) = val_main_v214 (F := Ideal) x0 x1 x2 x3 x4 x5 (ix5 0 a g r j) := by
      unfold val_main_v216 val_main_v215
      generalize val_main_v214 (F := Ideal) x0 x1 x2 x3 x4 x5 = A
      pointwise [val_main_cst_59]
      refine (sum6_two _ _ _ a g r j).trans ?_
      rw [zero_add]
      pointwise
    rw [e1]
    unfold val_main_v214
    generalize val_main_v213 (F := Ideal) x0 x1 x2 x3 x4 x5 = A
    pointwise [val_main_cst_58]
    refine (sum6_one _ _ _ 0 a g r j).trans ?_
    rw [zero_add]
  rw [e]; simp only [dS_at H, coe_sum]

/-- The gradient of the normalised queries. -/
theorem dqn_at (n : Fin 64) (r : Fin 128) (a : Fin 2) (g : Fin 8) (d : Fin 64) :
    (val_main_v221 (F := Ideal) x0 x1 x2 x3 x4 x5 (ix6 0 n r a g d) : EReal) = ((AttnMath.dqn I (128 * n + r) (8 * a + g) d : ℝ) : EReal) := by
  pointwise [val_main_v217, val_main_v218, val_main_v219, val_main_v220, val_main_v221, val_main_cst_60]
  simp only [dS_at H, k_band H]
  rw [c8]
  simp only [← EReal.coe_mul, coe_sum]
  refine congrArg (fun y : ℝ => (y : EReal)) ?_
  have e1 : (128 * (n : ℕ) + r) / 128 = n := by omega
  have e2 : (128 * (n : ℕ) + r) % 128 = r := by omega
  have e3 : (8 * (a : ℕ) + g) / 8 = a := by omega
  unfold AttnMath.dqn
  rw [e1, e2, e3, Finset.sum_mul]
  refine Finset.sum_congr rfl fun j _ => ?_
  by_cases h : 128 ≤ (j : ℕ) ∨ 0 < (n : ℕ)
  · rw [if_pos h]; ring
  · rw [if_neg h, dS_off I _ (fun x => h x.2)]; ring

/-- The gradient of the normalised keys, by block of queries. -/
theorem dkb_at (n : Fin 64) (j : Fin 256) (k : Fin 2) (d : Fin 64) :
    (val_main_v223 (F := Ideal) x0 x1 x2 x3 x4 x5 (ix5 0 n j k d) : EReal) = ((dkb I n k j d : ℝ) : EReal) := by
  pointwise [val_main_v217, val_main_v218, val_main_v219, val_main_v222, val_main_v223, val_main_cst_60]
  simp only [dS_at H, q_blk H]
  rw [c8]
  simp only [← EReal.coe_mul, coe_sum]
  refine congrArg (fun y : ℝ => (y : EReal)) ?_
  unfold dkb
  rw [Finset.sum_comm]
  exact Finset.sum_congr rfl fun g _ => Finset.sum_congr rfl fun r _ => by ring

end Cert.AttnRef

end
-- ==== Proof.AttnRefN.lean ====
/- The reference's gradients of the rows and of the gains: the two parts of each key row joined, and the norms' gradients. -/
module

public import proofs.«01_k».proof.Proof.AttnRefD

@[expose] public section

set_option maxRecDepth 16384

noncomputable section

open Idealize.ShloMosaic

namespace Cert.AttnRef
open Cert.Reals Cert.AttnBand Cert.AttnMath Cert.AttnRefIdeal Cert.AttnRefIdeal.Read
open Cert.AttnKer (Args c8)

variable {x0 : FVec Ideal S8192x6400 .f32} {x1 x2 : FVec Ideal S1x64 .f32} {x3 : FVec Ideal S1x16 .f32} {x4 : FVec Ideal S32x16 .f32} {x5 : FVec Ideal S8192x1024 .f32}
  {I : In} (H : Args x0 x1 x2 x3 x4 x5 I)

/-- A key row gathers its own block's part and the next block's, nought after the last. -/
theorem join_blocks (B : FVec Ideal S1x64x256x2x64 .f32) {b : ℕ → ℕ → ℕ → ℕ → ℝ} (hB : ∀ (n : Fin 64) (j : Fin 256) (k : Fin 2) (d : Fin 64), (B (ix5 0 n j k d) : EReal) = ((b n k j d : ℝ) : EReal))
    (s : Fin 8192) (k : Fin 2) (d : Fin 64) (h0) (h1) :
    (B (ix5 0 ⟨s / 128, h0⟩ ⟨128 + s % 128, h1⟩ k d) : EReal)
      + (if h : 1 + (s : ℕ) / 128 < 64 ∧ (s : ℕ) % 128 < 128 then (B (ix5 0 ⟨1 + s / 128, h.1⟩ ⟨s % 128, lt_of_lt_of_le h.2 (by decide)⟩ k d) : EReal) else 0) = ((AttnMath.join b s k d : ℝ) : EReal) := by
  unfold AttnMath.join
  rw [hB]
  by_cases h : (s : ℕ) / 128 < 63
  · rw [dif_pos (⟨by omega, by omega⟩ : 1 + (s : ℕ) / 128 < 64 ∧ (s : ℕ) % 128 < 128), hB, if_pos h, ← EReal.coe_add]
    refine congrArg (fun y : ℝ => ((b (s / 128) k (128 + s % 128) d + y : ℝ) : EReal)) ?_
    exact congrArg (fun n => b n k (s % 128) d) (Nat.add_comm _ _)
  · rw [dif_neg (fun x => h (by have := x.1; omega)), if_neg h, add_zero, add_zero]

theorem rr_sq (f : ℕ → ℝ) : rr f * rr f * ((∑ d : Fin 64, f d * f d) * (1 / 64) + eps) = 1 := by
  have h : 0 < (∑ d : Fin 64, f d * f d) * (1 / 64) + eps := by
    have : 0 ≤ ∑ d : Fin 64, f d * f d := Finset.sum_nonneg fun d _ => mul_self_nonneg _
    have := eps_pos; positivity
  unfold rr
  rw [← mul_inv, Real.mul_self_sqrt h.le, inv_mul_cancel₀ h.ne']

theorem mean_ne (f : ℕ → ℝ) : (∑ d : Fin 64, f d * f d) * (1 / 64) + eps ≠ 0 := by
  have h := rr_sq f
  intro e; rw [e, mul_zero] at h; exact zero_ne_one h

/-- The norm's gradient as the reference computes it: the mean's part through the root, added twice. -/
theorem nb_ref (f a : ℕ → ℝ) (d : ℕ) :
    a d * rr f + f d * ((∑ k : Fin 64, f k * a k) * (-(1 / 2) * (rr f * (1 / ((∑ d : Fin 64, f d * f d) * (1 / 64) + eps)))) * (1 / 64))
      + ((∑ k : Fin 64, f k * a k) * (-(1 / 2) * (rr f * (1 / ((∑ d : Fin 64, f d * f d) * (1 / 64) + eps)))) * (1 / 64)) * f d = nb f a d := by
  have e : 1 / ((∑ d : Fin 64, f d * f d) * (1 / 64) + eps) = rr f * rr f := by
    rw [eq_comm, eq_div_iff (mean_ne f)]; exact rr_sq f
  have e2 : ∑ k : Fin 64, a k * hat f k = (∑ k : Fin 64, f k * a k) * rr f := by
    rw [Finset.sum_mul]; exact Finset.sum_congr rfl fun k _ => by unfold hat; ring
  unfold nb
  rw [e, e2]; unfold hat; ring

theorem minus_half : Ideal.ofBits .f32 3204448256#32 = ((-(1 / 2) : ℝ) : EReal) := by
  simp [Ideal.ofBits, Ideal.ieee]; rw [← EReal.coe_mul]; norm_num

include H

theorem dkj_at (s : Fin 8192) (k : Fin 2) (d : Fin 64) : (val_main_v237 (F := Ideal) x0 x1 x2 x3 x4 x5 (ix4 0 s k d) : EReal) = ((AttnMath.join (dkb I) s k d : ℝ) : EReal) := by
  have h := dkb_at H
  unfold val_main_v237 val_main_v236 val_main_v235 val_main_v233 val_main_v232 val_main_v231
  generalize val_main_v223 (F := Ideal) x0 x1 x2 x3 x4 x5 = B at h ⊢
  pointwise [val_main_cst_62]
  exact join_blocks B h s k d _ _

theorem dvj_at (s : Fin 8192) (k : Fin 2) (d : Fin 64) : (val_main_v230 (F := Ideal) x0 x1 x2 x3 x4 x5 (ix4 0 s k d) : EReal) = ((AttnMath.join (dvb I) s k d : ℝ) : EReal) := by
  have h := dvb_at H
  unfold val_main_v230 val_main_v229 val_main_v228 val_main_v226 val_main_v225 val_main_v224
  generalize val_main_v190 (F := Ideal) x0 x1 x2 x3 x4 x5 = B at h ⊢
  pointwise [val_main_cst_61]
  exact join_blocks B h s k d _ _

theorem dqj_at (s : Fin 8192) (h : Fin 16) (d : Fin 64) : (val_main_v238 (F := Ideal) x0 x1 x2 x3 x4 x5 (ix4 0 s h d) : EReal) = ((AttnMath.dqn I s h d : ℝ) : EReal) := by
  have e := dqn_at H
  unfold val_main_v238
  generalize val_main_v221 (F := Ideal) x0 x1 x2 x3 x4 x5 = B at e ⊢
  pointwise
  refine (e _ _ _ _ _).trans ?_
  have e1 : 128 * ((s : ℕ) / 128) + s % 128 = s := Nat.div_add_mod _ 128
  have e2 : 8 * ((h : ℕ) / 8) + h % 8 = h := Nat.div_add_mod _ 8
  exact congrArg₂ (fun s h => ((AttnMath.dqn I s h d : ℝ) : EReal)) e1 e2

/-- The gain's gradient. -/
theorem k_dgain (d : Fin 64) : (val_main_v245 (F := Ideal) x0 x1 x2 x3 x4 x5 (ix1 d) : EReal) = ((AttnMath.dkg I d : ℝ) : EReal) := by
  have hG := dkj_at H
  have hh : ∀ (s : Fin 8192) (h : Fin 2) (d : Fin 64), (val_main_v85 (F := Ideal) x0 (ix4 0 s h d) : EReal) = ((hat (zk I s h) d : ℝ) : EReal) := k_hat H
  have e : (val_main_v245 (F := Ideal) x0 x1 x2 x3 x4 x5 (ix1 d) : EReal)
      = ∑ s : Fin 8192, ∑ h : Fin 2, (val_main_v85 (F := Ideal) x0 (ix4 0 s h d) : EReal) * val_main_v237 (F := Ideal) x0 x1 x2 x3 x4 x5 (ix4 0 s h d) := by
    unfold val_main_v245 val_main_v242 val_main_v241 val_main_v240
    generalize val_main_v85 (F := Ideal) x0 = A
    generalize val_main_v237 (F := Ideal) x0 x1 x2 x3 x4 x5 = B
    pointwise [val_main_cst_63, val_main_cst_64]
    refine (sum4_three _ _ _ d).trans ?_
    rw [zero_add]
    pointwise
    refine (sum4_mid _ _ _ 0 d).trans ?_
    rw [zero_add]
    pointwise
  rw [e]
  generalize val_main_v85 (F := Ideal) x0 = A at hh ⊢
  generalize val_main_v237 (F := Ideal) x0 x1 x2 x3 x4 x5 = B at hG ⊢
  simp only [hh, hG, ← EReal.coe_mul, coe_sum]
  refine congrArg (fun y : ℝ => (y : EReal)) ?_
  unfold AttnMath.dkg
  exact Finset.sum_congr rfl fun s _ => Finset.sum_congr rfl fun h _ => mul_comm _ _

theorem k_scaled (s : Fin 8192) (h : Fin 2) (d : Fin 64) : (val_main_v244 (F := Ideal) x0 x1 x2 x3 x4 x5 (ix4 0 s h d) : EReal) = ((AttnMath.join (dkb I) s h d * I.kg d : ℝ) : EReal) := by
  have hG := dkj_at H
  have hg := k_gain H
  have e : (val_main_v244 (F := Ideal) x0 x1 x2 x3 x4 x5 (ix4 0 s h d) : EReal) = (val_main_v237 (F := Ideal) x0 x1 x2 x3 x4 x5 (ix4 0 s h d) : EReal) * val_main_v87 (F := Ideal) x2 (ix4 0 s h d) := by
    unfold val_main_v244 val_main_v243 val_main_v87
    generalize val_main_v237 (F := Ideal) x0 x1 x2 x3 x4 x5 = B
    pointwise
  rw [e, hG, hg, ← EReal.coe_mul]

/-- The root's slope at a row. -/
theorem k_slope (s : Fin 8192) (h : Fin 2) : (val_main_v83 (F := Ideal) x0 (ix4 0 s h 0) : EReal)
    = ((-(1 / 2) * (rr (zk I s h) * (1 / ((∑ d : Fin 64, zk I s h d * zk I s h d) * (1 / 64) + eps))) : ℝ) : EReal) := by
  have e1 := k_rs H s h
  have e2 := k_ms H s h
  unfold val_main_v83 val_main_v81
  generalize val_main_v80 (F := Ideal) x0 = A at e1 ⊢
  generalize val_main_v79 (F := Ideal) x0 = B at e2 ⊢
  pointwise [val_main_v82, val_main_cst_27]
  rw [e1, e2, Ideal.div_coe (by norm_num), ← EReal.coe_mul, ← EReal.coe_add, Ideal.div_coe (mean_ne _), minus_half, ← EReal.coe_mul, ← EReal.coe_mul]

theorem k_mean (s : Fin 8192) (h : Fin 2) (d : Fin 64) : (val_main_v256 (F := Ideal) x0 x1 x2 x3 x4 x5 (ix4 0 s h d) : EReal)
    = (((∑ k : Fin 64, zk I s h k * (AttnMath.join (dkb I) s h  k * I.kg k)) * (-(1 / 2) * (rr (zk I s h) * (1 / ((∑ d : Fin 64, zk I s h d * zk I s h d) * (1 / 64) + eps)))) * (1 / 64) : ℝ) : EReal) := by
  have e1 := k_slope H s h
  have e2 := k_scaled H s h
  have e3 := k_x H s h
  unfold val_main_v256 val_main_v255 val_main_v254
  have e : (val_main_v253 (F := Ideal) x0 x1 x2 x3 x4 x5 (ix4 0 s h 0) : EReal)
      = Ideal.div ((∑ k : Fin 64, (val_main_v72 (F := Ideal) x0 (ix4 0 s h k) : EReal) * val_main_v244 (F := Ideal) x0 x1 x2 x3 x4 x5 (ix4 0 s h k)) * val_main_v83 (F := Ideal) x0 (ix4 0 s h 0)) ((64 : ℝ) : EReal) := by
    unfold val_main_v253 val_main_v251 val_main_v248 val_main_v247 val_main_v246
    generalize val_main_v72 (F := Ideal) x0 = A
    generalize val_main_v244 (F := Ideal) x0 x1 x2 x3 x4 x5 = B
    generalize val_main_v83 (F := Ideal) x0 = C
    pointwise [val_main_v252, val_main_cst_65, val_main_cst_66]
    rw [d64]
  simp only [e1, e2, e3, ← EReal.coe_mul, coe_sum] at e
  rw [Ideal.div_coe (by norm_num), ← EReal.coe_mul] at e
  generalize val_main_v253 (F := Ideal) x0 x1 x2 x3 x4 x5 = A at e ⊢
  pointwise [val_main_cst_67]
  refine (sum4_ends _ _ _ s h).trans ?_
  rw [zero_add]; exact e

/-- The rows' gradient through the norm. -/
theorem k_row (s : Fin 8192) (h : Fin 2) (d : Fin 64) : (val_main_v260 (F := Ideal) x0 x1 x2 x3 x4 x5 (ix4 0 s h d) : EReal) = ((AttnMath.dk I s h d : ℝ) : EReal) := by
  have e1 := k_scaled H s h d
  have e2 := k_rs H s h
  have e3 := k_x H s h d
  have e4 := k_mean H s h d
  unfold val_main_v260 val_main_v259 val_main_v258 val_main_v257 val_main_v250 val_main_v249
  generalize val_main_v244 (F := Ideal) x0 x1 x2 x3 x4 x5 = A at e1 ⊢
  generalize val_main_v80 (F := Ideal) x0 = B at e2 ⊢
  generalize val_main_v72 (F := Ideal) x0 = C at e3 ⊢
  generalize val_main_v256 (F := Ideal) x0 x1 x2 x3 x4 x5 = D at e4 ⊢
  pointwise
  rw [e1, e2, e3, e4]
  simp only [← EReal.coe_mul, ← EReal.coe_add]
  exact congrArg (fun y : ℝ => (y : EReal)) (nb_ref (zk I s h) (fun d => AttnMath.join (dkb I) s h d * I.kg d) d)

/-- The gain's gradient. -/
theorem q_dgain (d : Fin 64) : (val_main_v267 (F := Ideal) x0 x1 x2 x3 x4 x5 (ix1 d) : EReal) = ((AttnMath.dqg I d : ℝ) : EReal) := by
  have hG := dqj_at H
  have hh : ∀ (s : Fin 8192) (h : Fin 16) (d : Fin 64), (val_main_v68 (F := Ideal) x0 (ix4 0 s h d) : EReal) = ((hat (zq I s h) d : ℝ) : EReal) := q_hat H
  have e : (val_main_v267 (F := Ideal) x0 x1 x2 x3 x4 x5 (ix1 d) : EReal)
      = ∑ s : Fin 8192, ∑ h : Fin 16, (val_main_v68 (F := Ideal) x0 (ix4 0 s h d) : EReal) * val_main_v238 (F := Ideal) x0 x1 x2 x3 x4 x5 (ix4 0 s h d) := by
    unfold val_main_v267 val_main_v264 val_main_v263 val_main_v262
    generalize val_main_v68 (F := Ideal) x0 = A
    generalize val_main_v238 (F := Ideal) x0 x1 x2 x3 x4 x5 = B
    pointwise [val_main_cst_68, val_main_cst_69]
    refine (sum4_three _ _ _ d).trans ?_
    rw [zero_add]
    pointwise
    refine (sum4_mid _ _ _ 0 d).trans ?_
    rw [zero_add]
    pointwise
  rw [e]
  generalize val_main_v68 (F := Ideal) x0 = A at hh ⊢
  generalize val_main_v238 (F := Ideal) x0 x1 x2 x3 x4 x5 = B at hG ⊢
  simp only [hh, hG, ← EReal.coe_mul, coe_sum]
  refine congrArg (fun y : ℝ => (y : EReal)) ?_
  unfold AttnMath.dqg
  exact Finset.sum_congr rfl fun s _ => Finset.sum_congr rfl fun h _ => mul_comm _ _

theorem q_scaled (s : Fin 8192) (h : Fin 16) (d : Fin 64) : (val_main_v266 (F := Ideal) x0 x1 x2 x3 x4 x5 (ix4 0 s h d) : EReal) = ((AttnMath.dqn I s h d * I.qg d : ℝ) : EReal) := by
  have hG := dqj_at H
  have hg := q_gain H
  have e : (val_main_v266 (F := Ideal) x0 x1 x2 x3 x4 x5 (ix4 0 s h d) : EReal) = (val_main_v238 (F := Ideal) x0 x1 x2 x3 x4 x5 (ix4 0 s h d) : EReal) * val_main_v70 (F := Ideal) x1 (ix4 0 s h d) := by
    unfold val_main_v266 val_main_v265 val_main_v70
    generalize val_main_v238 (F := Ideal) x0 x1 x2 x3 x4 x5 = B
    pointwise
  rw [e, hG, hg, ← EReal.coe_mul]

/-- The root's slope at a row. -/
theorem q_slope (s : Fin 8192) (h : Fin 16) : (val_main_v66 (F := Ideal) x0 (ix4 0 s h 0) : EReal)
    = ((-(1 / 2) * (rr (zq I s h) * (1 / ((∑ d : Fin 64, zq I s h d * zq I s h d) * (1 / 64) + eps))) : ℝ) : EReal) := by
  have e1 := q_rs H s h
  have e2 := q_ms H s h
  unfold val_main_v66 val_main_v64
  generalize val_main_v63 (F := Ideal) x0 = A at e1 ⊢
  generalize val_main_v62 (F := Ideal) x0 = B at e2 ⊢
  pointwise [val_main_v65, val_main_cst_23]
  rw [e1, e2, Ideal.div_coe (by norm_num), ← EReal.coe_mul, ← EReal.coe_add, Ideal.div_coe (mean_ne _), minus_half, ← EReal.coe_mul, ← EReal.coe_mul]

theorem q_mean (s : Fin 8192) (h : Fin 16) (d : Fin 64) : (val_main_v278 (F := Ideal) x0 x1 x2 x3 x4 x5 (ix4 0 s h d) : EReal)
    = (((∑ k : Fin 64, zq I s h k * (AttnMath.dqn I s h  k * I.qg k)) * (-(1 / 2) * (rr (zq I s h) * (1 / ((∑ d : Fin 64, zq I s h d * zq I s h d) * (1 / 64) + eps)))) * (1 / 64) : ℝ) : EReal) := by
  have e1 := q_slope H s h
  have e2 := q_scaled H s h
  have e3 := q_x H s h
  unfold val_main_v278 val_main_v277 val_main_v276
  have e : (val_main_v275 (F := Ideal) x0 x1 x2 x3 x4 x5 (ix4 0 s h 0) : EReal)
      = Ideal.div ((∑ k : Fin 64, (val_main_v55 (F := Ideal) x0 (ix4 0 s h k) : EReal) * val_main_v266 (F := Ideal) x0 x1 x2 x3 x4 x5 (ix4 0 s h k)) * val_main_v66 (F := Ideal) x0 (ix4 0 s h 0)) ((64 : ℝ) : EReal) := by
    unfold val_main_v275 val_main_v273 val_main_v270 val_main_v269 val_main_v268
    generalize val_main_v55 (F := Ideal) x0 = A
    generalize val_main_v266 (F := Ideal) x0 x1 x2 x3 x4 x5 = B
    generalize val_main_v66 (F := Ideal) x0 = C
    pointwise [val_main_v274, val_main_cst_70, val_main_cst_71]
    rw [d64]
  simp only [e1, e2, e3, ← EReal.coe_mul, coe_sum] at e
  rw [Ideal.div_coe (by norm_num), ← EReal.coe_mul] at e
  generalize val_main_v275 (F := Ideal) x0 x1 x2 x3 x4 x5 = A at e ⊢
  pointwise [val_main_cst_72]
  refine (sum4_ends _ _ _ s h).trans ?_
  rw [zero_add]; exact e

/-- The rows' gradient through the norm. -/
theorem q_row (s : Fin 8192) (h : Fin 16) (d : Fin 64) : (val_main_v282 (F := Ideal) x0 x1 x2 x3 x4 x5 (ix4 0 s h d) : EReal) = ((AttnMath.dq I s h d : ℝ) : EReal) := by
  have e1 := q_scaled H s h d
  have e2 := q_rs H s h
  have e3 := q_x H s h d
  have e4 := q_mean H s h d
  unfold val_main_v282 val_main_v281 val_main_v280 val_main_v279 val_main_v272 val_main_v271
  generalize val_main_v266 (F := Ideal) x0 x1 x2 x3 x4 x5 = A at e1 ⊢
  generalize val_main_v63 (F := Ideal) x0 = B at e2 ⊢
  generalize val_main_v55 (F := Ideal) x0 = C at e3 ⊢
  generalize val_main_v278 (F := Ideal) x0 x1 x2 x3 x4 x5 = D at e4 ⊢
  pointwise
  rw [e1, e2, e3, e4]
  simp only [← EReal.coe_mul, ← EReal.coe_add]
  exact congrArg (fun y : ℝ => (y : EReal)) (nb_ref (zq I s h) (fun d => AttnMath.dqn I s h d * I.qg d) d)

theorem ref_dq (s : Fin 8192) (l : Fin 1024) : (val_main_v294 (F := Ideal) x0 x1 x2 x3 x4 x5 (ix2 s l) : EReal) = ((AttnMath.dq I s (l / 64) (l % 64) : ℝ) : EReal) := by
  have e := q_row H
  unfold val_main_v294 val_main_v293 val_main_v283
  generalize val_main_v282 (F := Ideal) x0 x1 x2 x3 x4 x5 = A at e ⊢
  pointwise [val_main_cst_76]
  refine (Fin.sum_univ_one _).trans ?_
  exact e s ⟨l / 64, by omega⟩ ⟨l % 64, by omega⟩

theorem ref_dk (s : Fin 8192) (l : Fin 128) : (val_main_v295 (F := Ideal) x0 x1 x2 x3 x4 x5 (ix2 s l) : EReal) = ((AttnMath.dk I s (l / 64) (l % 64) : ℝ) : EReal) := by
  have e := k_row H
  unfold val_main_v295 val_main_v292 val_main_v261
  generalize val_main_v260 (F := Ideal) x0 x1 x2 x3 x4 x5 = A at e ⊢
  pointwise [val_main_cst_75]
  refine (Fin.sum_univ_one _).trans ?_
  exact e s ⟨l / 64, by omega⟩ ⟨l % 64, by omega⟩

theorem ref_dv (s : Fin 8192) (l : Fin 128) : (val_main_v296 (F := Ideal) x0 x1 x2 x3 x4 x5 (ix2 s l) : EReal) = ((AttnMath.dv I s (l / 64) (l % 64) : ℝ) : EReal) := by
  have e := dvj_at H
  unfold val_main_v296 val_main_v291 val_main_v239
  generalize val_main_v230 (F := Ideal) x0 x1 x2 x3 x4 x5 = A at e ⊢
  pointwise [val_main_cst_74]
  refine (Fin.sum_univ_one _).trans ?_
  exact e s ⟨l / 64, by omega⟩ ⟨l % 64, by omega⟩

theorem ref_dqg (l : Fin 64) : (val_main_v290 (F := Ideal) x0 x1 x2 x3 x4 x5 (ix2 0 l) : EReal) = ((AttnMath.dqg I l : ℝ) : EReal) := by
  have e := q_dgain H
  unfold val_main_v290
  generalize val_main_v267 (F := Ideal) x0 x1 x2 x3 x4 x5 = A at e ⊢
  pointwise
  exact e _

theorem ref_dkg (l : Fin 64) : (val_main_v289 (F := Ideal) x0 x1 x2 x3 x4 x5 (ix2 0 l) : EReal) = ((AttnMath.dkg I l : ℝ) : EReal) := by
  have e := k_dgain H
  unfold val_main_v289
  generalize val_main_v245 (F := Ideal) x0 x1 x2 x3 x4 x5 = A at e ⊢
  pointwise
  exact e _

theorem ref_dsk (l : Fin 16) : (val_main_v288 (F := Ideal) x0 x1 x2 x3 x4 x5 (ix2 0 l) : EReal) = ((AttnMath.dsk I l : ℝ) : EReal) := by
  have e := dsk_at H
  unfold val_main_v288
  generalize val_main_v211 (F := Ideal) x0 x1 x2 x3 x4 x5 = A at e ⊢
  pointwise
  exact e _

end Cert.AttnRef

end
-- ==== Proof.AttnRefS.lean ====
/- The reference's gradient of the bias: each place of the band added to the row of its bucket. -/
module

public import proofs.«01_k».proof.Proof.AttnRefD

@[expose] public section

set_option maxRecDepth 16384

noncomputable section

open Idealize.ShloMosaic

namespace Cert.AttnRef
open Cert.Reals Cert.AttnBand Cert.AttnMath Cert.AttnRefIdeal Cert.AttnRefIdeal.Read
open Cert.AttnKer (Args c8)

variable {x0 : FVec Ideal S8192x6400 .f32} {x1 x2 : FVec Ideal S1x64 .f32} {x3 : FVec Ideal S1x16 .f32} {x4 : FVec Ideal S32x16 .f32} {x5 : FVec Ideal S8192x1024 .f32}
  {I : In} (H : Args x0 x1 x2 x3 x4 x5 I)

/-- Where an update lands: the row its word names, its own column. -/
theorem lands (idx : IVec S128x256x1 32) (r : Fin 128) (j : Fin 256) (h' : Fin 16) (b : Fin 32) (h : Fin 16) :
    scatter_S32x16_S128x256x1_S128x256x16_2_0_0_2.resultIdx? (ix3 r j h') idx = some (ix2 b h) ↔ (idx (ix3 r j 0)).toInt = (b : ℤ) ∧ h' = h := by
  have e : (ScatterDims.siIdx scatter_S32x16_S128x256x1_S128x256x16_2_0_0_2 (ix3 r j h') ⟨0, by decide⟩ : S128x256x1.Idx) = ix3 r j 0 := by
    funext b; match b with
    | ⟨0, _⟩ => rfl
    | ⟨1, _⟩ => rfl
    | ⟨2, _⟩ => rfl
  have s0 : scatter_S32x16_S128x256x1_S128x256x16_2_0_0_2.start (ix3 r j h') idx 0 = (idx (ix3 r j 0)).toInt :=
    Eq.trans rfl (congrArg (fun x => (idx x).toInt) e)
  have s1 : scatter_S32x16_S128x256x1_S128x256x16_2_0_0_2.start (ix3 r j h') idx 1 = 0 := rfl
  have w0 : scatter_S32x16_S128x256x1_S128x256x16_2_0_0_2.window (ix3 r j h') 0 = 0 := rfl
  have w1 : scatter_S32x16_S128x256x1_S128x256x16_2_0_0_2.window (ix3 r j h') 1 = h' := rfl
  have hb := b.isLt
  have hh := h'.isLt
  have z0 : S32x16.size 0 = 32 := rfl
  have z1 : S32x16.size 1 = 16 := rfl
  unfold ScatterDims.resultIdx?
  constructor
  · intro q
    split at q
    · rename_i hc
      have q := Option.some.inj q
      have q0 := congrArg Fin.val (congrFun q 0)
      have q1 := congrArg Fin.val (congrFun q 1)
      have c0 := hc 0
      have q0' : (scatter_S32x16_S128x256x1_S128x256x16_2_0_0_2.start (ix3 r j h') idx 0 + scatter_S32x16_S128x256x1_S128x256x16_2_0_0_2.window (ix3 r j h') 0).toNat = b := q0
      have q1' : (scatter_S32x16_S128x256x1_S128x256x16_2_0_0_2.start (ix3 r j h') idx 1 + scatter_S32x16_S128x256x1_S128x256x16_2_0_0_2.window (ix3 r j h') 1).toNat = h := q1
      rw [s0, w0] at q0' c0
      rw [s1, w1] at q1'
      refine ⟨by omega, Fin.ext (by omega)⟩
    · exact absurd q (by simp)
  · rintro ⟨q, rfl⟩
    have hc : ∀ a, 0 ≤ scatter_S32x16_S128x256x1_S128x256x16_2_0_0_2.start (ix3 r j h') idx a + scatter_S32x16_S128x256x1_S128x256x16_2_0_0_2.window (ix3 r j h') a
        ∧ scatter_S32x16_S128x256x1_S128x256x16_2_0_0_2.start (ix3 r j h') idx a + scatter_S32x16_S128x256x1_S128x256x16_2_0_0_2.window (ix3 r j h') a < S32x16.size a := fun a => by
      match a with
      | ⟨0, _⟩ => show 0 ≤ scatter_S32x16_S128x256x1_S128x256x16_2_0_0_2.start (ix3 r j h') idx 0 + scatter_S32x16_S128x256x1_S128x256x16_2_0_0_2.window (ix3 r j h') 0
                    ∧ scatter_S32x16_S128x256x1_S128x256x16_2_0_0_2.start (ix3 r j h') idx 0 + scatter_S32x16_S128x256x1_S128x256x16_2_0_0_2.window (ix3 r j h') 0 < S32x16.size 0
                  rw [s0, w0, z0]; omega
      | ⟨1, _⟩ => show 0 ≤ scatter_S32x16_S128x256x1_S128x256x16_2_0_0_2.start (ix3 r j h') idx 1 + scatter_S32x16_S128x256x1_S128x256x16_2_0_0_2.window (ix3 r j h') 1
                    ∧ scatter_S32x16_S128x256x1_S128x256x16_2_0_0_2.start (ix3 r j h') idx 1 + scatter_S32x16_S128x256x1_S128x256x16_2_0_0_2.window (ix3 r j h') 1 < S32x16.size 1
                  rw [s1, w1, z1]; omega
    rw [dif_pos hc]
    refine congrArg some (funext fun a => Fin.ext ?_)
    match a with
    | ⟨0, _⟩ => show (scatter_S32x16_S128x256x1_S128x256x16_2_0_0_2.start (ix3 r j h') idx 0 + scatter_S32x16_S128x256x1_S128x256x16_2_0_0_2.window (ix3 r j h') 0).toNat = b
                rw [s0, w0]; omega
    | ⟨1, _⟩ => show (scatter_S32x16_S128x256x1_S128x256x16_2_0_0_2.start (ix3 r j h') idx 1 + scatter_S32x16_S128x256x1_S128x256x16_2_0_0_2.window (ix3 r j h') 1).toNat = h'
                rw [s1, w1]; omega

/-- A scatter of the band's places into the rows their words name: each row's sum. -/
theorem scatter_at (x : S32x16.Idx → EReal) (idx : IVec S128x256x1 32) (u : S128x256x16.Idx → EReal) (b : Fin 32) (h : Fin 16) :
    Ideal.hostScatterAdd scatter_S32x16_S128x256x1_S128x256x16_2_0_0_2 x idx u (ix2 b h)
      = x (ix2 b h) + ∑ r : Fin 128, ∑ j : Fin 256, if (idx (ix3 r j 0)).toInt = (b : ℤ) then u (ix3 r j h) else 0 := by
  refine congrArg (x (ix2 b h) + ·) ?_
  rw [Finset.sum_filter, sum_idx3]
  refine Finset.sum_congr rfl fun r _ => Finset.sum_congr rfl fun j _ => ?_
  simp only [lands]
  by_cases q : (idx (ix3 r j 0)).toInt = (b : ℤ)
  · simp only [q, true_and, if_true]
    exact Finset.sum_ite_eq' Finset.univ h (fun c => u (ix3 r j c)) |>.trans (if_pos (Finset.mem_univ h))
  · simp only [q, false_and, if_false, Finset.sum_const_zero]

include H

theorem dplace_at (r : Fin 128) (j : Fin 256) (h : Fin 16) :
    (val_main_v285 (F := Ideal) x0 x1 x2 x3 x4 x5 (ix3 r j h) : EReal) = ((∑ n : Fin 64, AttnMath.dS I n h r j : ℝ) : EReal) := by
  have e : (val_main_v285 (F := Ideal) x0 x1 x2 x3 x4 x5 (ix3 r j h) : EReal) = val_main_v216 (F := Ideal) x0 x1 x2 x3 x4 x5 (ix4 ⟨h / 8, by omega⟩ ⟨h % 8, by omega⟩ r j) := by
    unfold val_main_v285 val_main_v284
    generalize val_main_v216 (F := Ideal) x0 x1 x2 x3 x4 x5 = A
    pointwise
  rw [e, dband_at H]
  have e : 8 * ((h : ℕ) / 8) + h % 8 = h := Nat.div_add_mod _ 8
  simp only [e]

/-- The gradient of the bias by bucket and head. -/
theorem drb_at (b : Fin 32) (h : Fin 16) : (val_main_v287 (F := Ideal) x0 x1 x2 x3 x4 x5 (ix2 b h) : EReal) = ((AttnMath.drb I b h : ℝ) : EReal) := by
  have e0 : (val_main_v286 (F := Ideal) (ix2 b h) : EReal) = 0 := by
    pointwise [val_main_v286, val_main_cst_73]
  have e : (val_main_v287 (F := Ideal) x0 x1 x2 x3 x4 x5 (ix2 b h) : EReal)
      = val_main_v286 (F := Ideal) (ix2 b h) + ∑ r : Fin 128, ∑ j : Fin 256, if (val_main_v51 (F := Ideal) (ix3 r j 0) : BitVec 32).toInt = (b : ℤ) then (val_main_v285 (F := Ideal) x0 x1 x2 x3 x4 x5 (ix3 r j h) : EReal) else 0 :=
    scatter_at _ _ _ b h
  rw [e, e0, zero_add]
  simp only [index_word, dplace_at H]
  have e : ∀ (r : Fin 128) (j : Fin 256), (if (bucket (128 + r - j) : ℤ) = (b : ℤ) then ((∑ n : Fin 64, AttnMath.dS I n h r j : ℝ) : EReal) else 0)
      = (((if ((j : ℕ) ≤ 128 + r ∧ (r : ℕ) < j) ∧ I.bk (128 + r - j) = b then ∑ n : Fin 64, AttnMath.dS I n h r j else 0) : ℝ) : EReal) := fun r j => by
    rw [H.bk]
    by_cases hn : (j : ℕ) ≤ 128 + r ∧ (r : ℕ) < j
    · by_cases hq : bucket (128 + r - j) = b
      · rw [if_pos (congrArg Nat.cast hq), if_pos ⟨hn, hq⟩]
      · rw [if_neg (fun x => hq (Nat.cast_injective x)), if_neg (fun x => hq x.2)]; rfl
    · have z : ∑ n : Fin 64, AttnMath.dS I n h r j = 0 := Finset.sum_eq_zero fun n _ => dS_off I _ (fun x => hn x.1)
      rw [z]; split <;> split <;> rfl
  simp only [e, coe_sum]
  rfl

end Cert.AttnRef

end
-- ==== Proof.AttnEnd.lean ====
/- Both sides of the attention's gradients together: finite arguments are real ones, and each result of the kernel is the reference's. -/
module

public import proofs.«01_k».proof.Proof.AttnHost
public import proofs.«01_k».proof.Proof.AttnRun
public import proofs.«01_k».proof.Proof.AttnRefN
public import proofs.«01_k».proof.Proof.AttnRefS
public import proofs.«01_k».proof.Proof.Gen.Pre_attn_finite

@[expose] public section

set_option maxRecDepth 16384

noncomputable section

open Idealize.ShloMosaic Idealize.ShloMosaic.TcCoe

namespace Cert.AttnEnd
open Cert.Reals Cert.AttnIdeal Cert.AttnIdeal.Gen Cert.AttnKer Cert.AttnRef

variable (m : (ℓ : Loc nD τ sig) → Buf (Elt Ideal) ℓ) (ρ : Dev nD → PrngReg)

/-- Arguments that the precondition calls finite are real numbers. -/
theorem real (hpre : ∀ c : Dev nD, Cert.Pre_attn_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      = (fun _ => 1#1)) (c : Dev nD) : ∃ I, Args (a0 m c) (a1 m c) (a2 m c) (a3 m c) (a4 m c) (a5 m c) I := by
  have h := congrFun (hpre c) (fun i => i.elim0)
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact args_of_real (of_all_lt _ _ h0) (of_all_lt _ _ h1) (of_all_lt _ _ h2) (of_all_lt _ _ h3) (of_all_lt _ _ h4) (of_all_lt _ _ h5)

/-- Two rows of one line that agree at every column are equal. -/
theorem row0 {n : ℕ} {X Y : (⟨2, ![1, n]⟩ : Shape).Idx → EReal} (h : ∀ l : Fin n, X (ix2 0 l) = Y (ix2 0 l)) : X = Y := by
  funext y
  obtain ⟨a, l, rfl⟩ : ∃ (a : Fin 1) (l : Fin n), y = ix2 a l := ⟨y 0, y 1, eq_ix2 y⟩
  rw [Subsingleton.elim a 0]
  exact h l

variable {m} {c : Dev nD} {I : AttnMath.In} (H : Args (a0 m c) (a1 m c) (a2 m c) (a3 m c) (a4 m c) (a5 m c) I)
include H

/-- The gradient of the queries. -/
theorem dq : W20 m ρ c (Proc.devRef .tc main_v60_0) = Cert.AttnRefIdeal.Read.val_main_v294 (F := Ideal) (a0 m c) (a1 m c) (a2 m c) (a3 m c) (a4 m c) (a5 m c) := by
  refine (end_dq m ρ c H).trans (funext fun y => ?_)
  rw [eq_ix2 y]
  exact (ref_dq H (y 0) (y 1)).symm

/-- The gradient of the keys. -/
theorem dk : W20 m ρ c (Proc.devRef .tc main_v61_0) = Cert.AttnRefIdeal.Read.val_main_v295 (F := Ideal) (a0 m c) (a1 m c) (a2 m c) (a3 m c) (a4 m c) (a5 m c) := by
  refine (end_dk m ρ c H).trans (funext fun y => ?_)
  rw [eq_ix2 y]
  exact (ref_dk H (y 0) (y 1)).symm

/-- The gradient of the values. -/
theorem dv : W20 m ρ c (Proc.devRef .tc main_v61_1) = Cert.AttnRefIdeal.Read.val_main_v296 (F := Ideal) (a0 m c) (a1 m c) (a2 m c) (a3 m c) (a4 m c) (a5 m c) := by
  refine (end_dv m ρ c H).trans (funext fun y => ?_)
  rw [eq_ix2 y]
  exact (ref_dv H (y 0) (y 1)).symm

/-- The gradient of the bias table. -/
theorem drb : W20 m ρ c (Proc.devRef .tc main_v115) = Cert.AttnRefIdeal.Read.val_main_v287 (F := Ideal) (a0 m c) (a1 m c) (a2 m c) (a3 m c) (a4 m c) (a5 m c) := by
  refine (end_drb m ρ c H).trans (funext fun y => ?_)
  rw [eq_ix2 y]
  exact (drb_at H (y 0) (y 1)).symm

/-- The gradient of the queries' gain. -/
theorem dqg : W20 m ρ c (Proc.devRef .tc main_v119) = Cert.AttnRefIdeal.Read.val_main_v290 (F := Ideal) (a0 m c) (a1 m c) (a2 m c) (a3 m c) (a4 m c) (a5 m c) :=
  row0 fun l => (end_dqg m ρ c H l).trans (ref_dqg H l).symm

/-- The gradient of the keys' gain. -/
theorem dkg : W20 m ρ c (Proc.devRef .tc main_v123) = Cert.AttnRefIdeal.Read.val_main_v289 (F := Ideal) (a0 m c) (a1 m c) (a2 m c) (a3 m c) (a4 m c) (a5 m c) :=
  row0 fun l => (end_dkg m ρ c H l).trans (ref_dkg H l).symm

/-- The gradient of the sinks. -/
theorem dsk : W20 m ρ c (Proc.devRef .tc main_v126) = Cert.AttnRefIdeal.Read.val_main_v288 (F := Ideal) (a0 m c) (a1 m c) (a2 m c) (a3 m c) (a4 m c) (a5 m c) :=
  row0 fun l => (end_dsk m ρ c H l).trans (ref_dsk H l).symm

end Cert.AttnEnd

end
-- ==== Proof.PoolMath.lean ====
/- The mathematics of the pool's gradient: window sums of quotients, and the words that count and place them. -/
module

public import proofs.«01_k».proof.Proof.Real
public import Idealize.ShloMosaic.Lib.Pointwise
public import Idealize.ShloMosaic.Lib.SortNet.Extract
public import Idealize.ShloMosaic.Lib.PlanTiles.Rows

@[expose] public section

set_option maxRecDepth 16384

noncomputable section

open Idealize.ShloMosaic

namespace Cert.PoolMath

/-- A row of the pooled gradient over the number of rows its mean took, zero past the last row. -/
def q (D : ℕ → ℕ → ℝ) (w t l : ℕ) : ℝ := if t < 8192 then D t l / ((min (t + 1) w : ℕ) : ℝ) else 0

/-- The gradient at a row and a column: the quotients of the rows whose windows of width `w` hold it, less its own. -/
def du (D : ℕ → ℕ → ℝ) (w s l : ℕ) : ℝ := ∑ k ∈ Finset.range w, q D w (s + k) l - D s l

theorem q_past (D : ℕ → ℕ → ℝ) (w t l : ℕ) (h : 8192 ≤ t) : q D w t l = 0 := if_neg (by omega)

/-- Differences at distance `w`, summed over the rows from `s` on, leave the first `w` rows. -/
theorem suffix (Q : ℕ → ℝ) (hQ : ∀ t, 8192 ≤ t → Q t = 0) (s w : ℕ) :
    ∑ n ∈ Finset.range 8192, (Q (s + n) - Q (s + n + w)) = ∑ k ∈ Finset.range w, Q (s + k) := by
  have a := Finset.sum_range_add (fun n => Q (s + n)) 8192 w
  have b := Finset.sum_range_add (fun n => Q (s + n)) w 8192
  have z : ∑ x ∈ Finset.range w, Q (s + (8192 + x)) = 0 := Finset.sum_eq_zero fun x _ => hQ _ (by omega)
  have m : ∑ x ∈ Finset.range 8192, Q (s + (w + x)) = ∑ n ∈ Finset.range 8192, Q (s + n + w) :=
    Finset.sum_congr rfl fun n _ => congrArg Q (by omega)
  rw [Nat.add_comm w 8192] at b
  rw [Finset.sum_sub_distrib]
  simp only [z, m] at a b
  linarith

/-- A left fold of additions of a function's values is their sum. -/
theorem fold_sum {ι : Type*} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- A quotient by a count that is a word. -/
theorem quot {d : EReal} {D : ℝ} (hd : d = (D : EReal)) {x : BitVec 32} {n w : ℕ} (hx : x = BitVec.ofNat 32 (n + 1)) (hn : n < 10000) (h0 : 0 < w)
    (hw : w ≤ 16) : Ideal.div d (FloatOps.sitofp (F := Ideal) FTy.f32 (IntOp.minsi x (BitVec.ofNat 32 w))) = ((D / ((min (n + 1) w : ℕ) : ℝ) : ℝ) : EReal) := by
  subst hx hd
  rw [PlanTiles.minsi_word (by omega) (by omega), min_comm]
  have e : (FloatOps.sitofp (F := Ideal) FTy.f32 (BitVec.ofNat 32 (min (n + 1) w)) : EReal) = (((min (n + 1) w : ℕ) : ℝ) : EReal) := by
    show (((BitVec.ofNat 32 (min (n + 1) w)).toInt : ℝ) : EReal) = _
    rw [BitVec.toInt_eq_toNat_of_lt (by rw [BitVec.toNat_ofNat]; omega), BitVec.toNat_ofNat, Nat.mod_eq_of_lt (by omega)]
    norm_cast
  rw [e, Ideal.div_coe (by norm_cast; omega), ← EReal.coe_mul, mul_one_div]

theorem one_add (t : ℕ) : IntOp.addi 1#32 (BitVec.ofNat 32 t) = BitVec.ofNat 32 (t + 1) := by
  show 1#32 + BitVec.ofNat 32 t = _
  rw [Nat.add_comm, BitVec.ofNat_add]

/-- The first row of a window, as the word that names it. -/
theorem low (t w : ℕ) (ht : t < 8192) (hw : w ≤ 16) {M : BitVec 32}
    (hM : M = IntOp.maxsi (IntOp.subi (IntOp.addi 1#32 (BitVec.ofNat 32 t)) (BitVec.ofNat 32 w)) 0#32) :
    (Scalar.select (IntOp.cmpi CmpIPredicate.slt M 0#32) (IntOp.addi M 8193#32) M).toInt = ((t + 1 - w : ℕ) : ℤ) := by
  have e : M.toInt = ((t + 1 - w : ℕ) : ℤ) := by
    rw [hM, SortNet.toInt_maxsi, one_add]
    show max (BitVec.ofNat 32 (t + 1) - BitVec.ofNat 32 w).toInt 0 = _
    rw [BitVec.toInt_sub, BitVec.toInt_eq_toNat_of_lt (by rw [BitVec.toNat_ofNat]; omega), BitVec.toInt_eq_toNat_of_lt (by rw [BitVec.toNat_ofNat]; omega),
      BitVec.toNat_ofNat, BitVec.toNat_ofNat, Int.bmod_eq_of_le (by omega) (by omega)]
    omega
  have n : M.slt 0#32 = false := by
    rw [BitVec.slt, e]; exact decide_eq_false (by show ¬ ((t + 1 - w : ℕ) : ℤ) < 0; omega)
  have c : IntOp.cmpi CmpIPredicate.slt M 0#32 = 0#1 := by
    show BitVec.ofBool (M.slt 0#32) = 0#1
    rw [n]; rfl
  rw [c]; exact e

end Cert.PoolMath
end
-- ==== Proof.PoolRefOps.lean ====
/- The pool's reference: a scatter into rows and groups at an index, and the sum over the rows from an index on. -/
module

public import proofs.«01_k».proof.Proof.Gen.PoolRefIdeal.Read
public import proofs.«01_k».proof.Proof.PoolMath
public import Idealize.ShloMosaic.Lib.Pointwise

@[expose] public section

set_option maxRecDepth 16384

noncomputable section

open Idealize.ShloMosaic

namespace Cert.PoolRef
open Cert.Reals Cert.PoolRefIdeal Cert.PoolRefIdeal.Read Cert.PoolMath

/-- The scatter's dimensions, under a short name. -/
abbrev sd : ScatterDims S1x8193x4x256 S8192x2 S1x8192x256 := scatter_S1x8193x4x256_S8192x2_S1x8192x256_02_12_12_1

/-- Where an update lands: the row and the group its words name, its own column. -/
theorem lands (idx : IVec S8192x2 32) (t : Fin 8192) (c' : Fin 256) (s : Fin 8193) (g : Fin 4) (c : Fin 256) :
    sd.resultIdx? (ix3 0 t c') idx = some (ix4 0 s g c) ↔ ((idx (ix2 t 0)).toInt = (s : ℤ) ∧ (idx (ix2 t 1)).toInt = (g : ℤ)) ∧ c' = c := by
  have e0 : (ScatterDims.siIdx sd (ix3 0 t c') ⟨0, by decide⟩ : S8192x2.Idx) = ix2 t 0 := by
    funext b; match b with
    | ⟨0, _⟩ => rfl
    | ⟨1, _⟩ => rfl
  have e1 : (ScatterDims.siIdx sd (ix3 0 t c') ⟨1, by decide⟩ : S8192x2.Idx) = ix2 t 1 := by
    funext b; match b with
    | ⟨0, _⟩ => rfl
    | ⟨1, _⟩ => rfl
  have s0 : sd.start (ix3 0 t c') idx 0 = 0 := rfl
  have s1 : sd.start (ix3 0 t c') idx 1 = (idx (ix2 t 0)).toInt := Eq.trans rfl (congrArg (fun x => (idx x).toInt) e0)
  have s2 : sd.start (ix3 0 t c') idx 2 = (idx (ix2 t 1)).toInt := Eq.trans rfl (congrArg (fun x => (idx x).toInt) e1)
  have s3 : sd.start (ix3 0 t c') idx 3 = 0 := rfl
  have w0 : sd.window (ix3 0 t c') 0 = 0 := rfl
  have w1 : sd.window (ix3 0 t c') 1 = 0 := rfl
  have w2 : sd.window (ix3 0 t c') 2 = 0 := rfl
  have w3 : sd.window (ix3 0 t c') 3 = c' := rfl
  have hs := s.isLt
  have hg := g.isLt
  have hc' := c'.isLt
  have z0 : S1x8193x4x256.size 0 = 1 := rfl
  have z1 : S1x8193x4x256.size 1 = 8193 := rfl
  have z2 : S1x8193x4x256.size 2 = 4 := rfl
  have z3 : S1x8193x4x256.size 3 = 256 := rfl
  unfold ScatterDims.resultIdx?
  constructor
  · intro q
    split at q
    · rename_i hc
      have q := Option.some.inj q
      have q1 : (sd.start (ix3 0 t c') idx 1 + sd.window (ix3 0 t c') 1).toNat = s := congrArg Fin.val (congrFun q 1)
      have q2 : (sd.start (ix3 0 t c') idx 2 + sd.window (ix3 0 t c') 2).toNat = g := congrArg Fin.val (congrFun q 2)
      have q3 : (sd.start (ix3 0 t c') idx 3 + sd.window (ix3 0 t c') 3).toNat = c := congrArg Fin.val (congrFun q 3)
      have c1 := (hc 1).1
      have c2 := (hc 2).1
      rw [s1, w1] at q1 c1
      rw [s2, w2] at q2 c2
      rw [s3, w3] at q3
      refine ⟨⟨by omega, by omega⟩, Fin.ext (by omega)⟩
    · exact absurd q (by simp)
  · rintro ⟨⟨p1, p2⟩, rfl⟩
    have hc : ∀ a : Fin 4, 0 ≤ sd.start (ix3 0 t c') idx a + sd.window (ix3 0 t c') a
        ∧ sd.start (ix3 0 t c') idx a + sd.window (ix3 0 t c') a < S1x8193x4x256.size a := by
      refine Fin.forall_fin_succ.2 ⟨?_, Fin.forall_fin_succ.2 ⟨?_, Fin.forall_fin_succ.2 ⟨?_, Fin.forall_fin_succ.2 ⟨?_, fun a => a.elim0⟩⟩⟩⟩
      · rw [s0, w0, z0]; omega
      · show 0 ≤ sd.start (ix3 0 t c') idx 1 + sd.window (ix3 0 t c') 1 ∧ sd.start (ix3 0 t c') idx 1 + sd.window (ix3 0 t c') 1 < S1x8193x4x256.size 1
        rw [s1, w1, z1]; omega
      · show 0 ≤ sd.start (ix3 0 t c') idx 2 + sd.window (ix3 0 t c') 2 ∧ sd.start (ix3 0 t c') idx 2 + sd.window (ix3 0 t c') 2 < S1x8193x4x256.size 2
        rw [s2, w2, z2]; omega
      · show 0 ≤ sd.start (ix3 0 t c') idx 3 + sd.window (ix3 0 t c') 3 ∧ sd.start (ix3 0 t c') idx 3 + sd.window (ix3 0 t c') 3 < S1x8193x4x256.size 3
        rw [s3, w3, z3]; omega
    rw [dif_pos hc]
    refine congrArg some (funext fun a => Fin.ext ?_)
    match a with
    | ⟨0, _⟩ => show (sd.start (ix3 0 t c') idx 0 + sd.window (ix3 0 t c') 0).toNat = 0
                rw [s0, w0]; rfl
    | ⟨1, _⟩ => show (sd.start (ix3 0 t c') idx 1 + sd.window (ix3 0 t c') 1).toNat = s
                rw [s1, w1]; omega
    | ⟨2, _⟩ => show (sd.start (ix3 0 t c') idx 2 + sd.window (ix3 0 t c') 2).toNat = g
                rw [s2, w2]; omega
    | ⟨3, _⟩ => show (sd.start (ix3 0 t c') idx 3 + sd.window (ix3 0 t c') 3).toNat = c'
                rw [s3, w3]; omega

/-- A scatter of rows into the rows and the group their words name: each row's sum. -/
theorem scatter_at (x : S1x8193x4x256.Idx → EReal) (idx : IVec S8192x2 32) (u : S1x8192x256.Idx → EReal) (s : Fin 8193) (g : Fin 4) (c : Fin 256) :
    Ideal.hostScatterAdd sd x idx u (ix4 0 s g c)
      = x (ix4 0 s g c) + ∑ t : Fin 8192, if (idx (ix2 t 0)).toInt = (s : ℤ) ∧ (idx (ix2 t 1)).toInt = (g : ℤ) then u (ix3 0 t c) else 0 := by
  refine congrArg (x (ix4 0 s g c) + ·) ?_
  rw [Finset.sum_filter, sum_idx3]
  refine (Fin.sum_univ_one _).trans ?_
  refine Finset.sum_congr rfl fun t _ => ?_
  simp only [lands]
  by_cases q : (idx (ix2 t 0)).toInt = (s : ℤ) ∧ (idx (ix2 t 1)).toInt = (g : ℤ)
  · simp only [q, true_and, if_true, and_self]
    exact Finset.sum_ite_eq' Finset.univ c (fun k => u (ix3 0 t k)) |>.trans (if_pos (Finset.mem_univ c))
  · simp only [q, false_and, if_false, Finset.sum_const_zero]

/-- A scatter of the negated quotients into the first rows of their windows, at a row past the first. -/
theorem scatter_rows {x : S1x8193x4x256.Idx → EReal} {idx : IVec S8192x2 32} {u : S1x8192x256.Idx → EReal} {D : ℕ → ℕ → ℝ} {w : ℕ} {k : Fin 4} {o : ℕ → ℕ}
    (hw : 0 < w) (ho : ∀ c, o c = (k : ℕ) * 256 + c) (hx : ∀ i, x i = 0) (h0 : ∀ t : Fin 8192, (idx (ix2 t 0)).toInt = (((t : ℕ) + 1 - w : ℕ) : ℤ))
    (h1 : ∀ t : Fin 8192, (idx (ix2 t 1)).toInt = (k : ℤ))
    (hu : ∀ (t : Fin 8192) (c : Fin 256), u (ix3 0 t c) = ((- q D w t (o c) : ℝ) : EReal)) (s : Fin 8192) (g : Fin 4) (c : Fin 256) :
    Ideal.hostScatterAdd sd x idx u (ix4 0 ⟨(s : ℕ) + 1, by omega⟩ g c)
      = ((if g = k then - q D w ((s : ℕ) + w) ((g : ℕ) * 256 + c) else 0 : ℝ) : EReal) := by
  rw [scatter_at, hx, zero_add]
  simp only [h0, h1, hu, ho]
  by_cases hg : g = k
  · subst hg
    rw [if_pos rfl]
    by_cases hs : (s : ℕ) + w < 8192
    · refine (Finset.sum_eq_single (⟨(s : ℕ) + w, hs⟩ : Fin 8192) (fun t _ n => if_neg ?_) (fun h => absurd (Finset.mem_univ _) h)).trans ?_
      · rintro ⟨a, _⟩
        refine n (Fin.ext ?_)
        dsimp only at a ⊢
        omega
      · refine if_pos ⟨?_, rfl⟩
        dsimp only
        omega
    · rw [q_past _ _ _ _ (by omega), neg_zero]
      refine (Finset.sum_eq_zero fun t _ => if_neg ?_).trans rfl
      rintro ⟨a, _⟩
      omega
  · rw [if_neg hg]
    refine (Finset.sum_eq_zero fun t _ => if_neg ?_).trans rfl
    rintro ⟨_, a⟩
    exact hg (Fin.ext (by omega))

/-- The shape of the window that reaches from a row past the last one. -/
abbrev W : Shape := ⟨4, ![1, 8192, 1, 1]⟩

/-- The window's places are its rows. -/
def rows : W.Idx ≃ Fin 8192 where
  toFun k := k 1
  invFun n := ix4 0 n 0 0
  left_inv k := by
    have k0 : (k 0 : ℕ) = 0 := by have := (k 0).isLt; change _ < 1 at this; omega
    have k2 : (k 2 : ℕ) = 0 := by have := (k 2).isLt; change _ < 1 at this; omega
    have k3 : (k 3 : ℕ) = 0 := by have := (k 3).isLt; change _ < 1 at this; omega
    funext a
    match a with
    | ⟨0, _⟩ => exact Fin.ext k0.symm
    | ⟨1, _⟩ => rfl
    | ⟨2, _⟩ => exact Fin.ext k2.symm
    | ⟨3, _⟩ => exact Fin.ext k3.symm
  right_inv n := rfl

/-- The window sum over the rows from an index on. -/
theorem later_rows (x : S1x8192x4x256.Idx → EReal) (z : EReal) (hz : z = 0) (h : S1x8192x4x256.ReduceWindows ![1, 8192, 1, 1] ![1, 1, 1, 1] ![0, 0, 0, 0] ![0, 8191, 0, 0] S1x8192x4x256)
    (s : Fin 8192) (g : Fin 4) (c : Fin 256) {f : ℕ → ℝ} (hf : ∀ t : Fin 8192, x (ix4 0 t g c) = (f t : EReal)) (hp : ∀ t, 8192 ≤ t → f t = 0) :
    Ideal.hostReduceWindowAdd ![1, 8192, 1, 1] ![1, 1, 1, 1] ![0, 0, 0, 0] ![0, 8191, 0, 0] h x z (ix4 0 s g c)
      = ((∑ n ∈ Finset.range 8192, f (s + n) : ℝ) : EReal) := by
  subst hz
  unfold Ideal.hostReduceWindowAdd Host.reduceWindow
  refine (fold_sum _ _ _).trans ?_
  rw [zero_add, ← Fin.sum_univ_def, ← Equiv.sum_comp W.rowMajor]
  rw [Finset.sum_range, ← coe_sum, ← Equiv.sum_comp rows]
  refine Finset.sum_congr rfl fun k _ => ?_
  simp only [Equiv.symm_apply_apply]
  have k0 : (k 0 : ℕ) = 0 := by have := (k 0).isLt; change _ < 1 at this; omega
  have k2 : (k 2 : ℕ) = 0 := by have := (k 2).isLt; change _ < 1 at this; omega
  have k3 : (k 3 : ℕ) = 0 := by have := (k 3).isLt; change _ < 1 at this; omega
  show _ = ((f ((s : ℕ) + (k 1 : ℕ)) : ℝ) : EReal)
  have hk := (k 1).isLt
  have hs := s.isLt
  change _ < 8192 at hk
  by_cases hin : (s : ℕ) + (k 1 : ℕ) < 8192
  · have p : ∀ a : Fin 4, (![0, 0, 0, 0] : Fin 4 → ℕ) a ≤ (ix4 (0 : Fin 1) s g c a : ℕ) * (![1, 1, 1, 1] : Fin 4 → ℕ) a + (k a : ℕ)
        ∧ (ix4 (0 : Fin 1) s g c a : ℕ) * (![1, 1, 1, 1] : Fin 4 → ℕ) a + (k a : ℕ) - (![0, 0, 0, 0] : Fin 4 → ℕ) a < S1x8192x4x256.size a := by
      refine Fin.forall_fin_succ.2 ⟨⟨Nat.zero_le _, ?_⟩, Fin.forall_fin_succ.2 ⟨⟨Nat.zero_le _, ?_⟩, Fin.forall_fin_succ.2 ⟨⟨Nat.zero_le _, ?_⟩, Fin.forall_fin_succ.2 ⟨⟨Nat.zero_le _, ?_⟩, fun a => a.elim0⟩⟩⟩⟩
      · show 0 * 1 + (k 0 : ℕ) - 0 < 1; omega
      · show (s : ℕ) * 1 + (k 1 : ℕ) - 0 < 8192; omega
      · show (g : ℕ) * 1 + (k 2 : ℕ) - 0 < 4; omega
      · show (c : ℕ) * 1 + (k 3 : ℕ) - 0 < 256; omega
    refine (dif_pos p).trans ((congrArg x (funext fun a => Fin.ext ?_)).trans (hf ⟨(s : ℕ) + (k 1 : ℕ), hin⟩))
    match a with
    | ⟨0, _⟩ => show 0 * 1 + (k 0 : ℕ) - 0 = 0; omega
    | ⟨1, _⟩ => show (s : ℕ) * 1 + (k 1 : ℕ) - 0 = (s : ℕ) + (k 1 : ℕ); omega
    | ⟨2, _⟩ => show (g : ℕ) * 1 + (k 2 : ℕ) - 0 = g; omega
    | ⟨3, _⟩ => show (c : ℕ) * 1 + (k 3 : ℕ) - 0 = c; omega
  · rw [hp _ (by omega)]
    refine (dif_neg fun p => hin ?_).trans rfl
    have p1 : (s : ℕ) * 1 + (k 1 : ℕ) - 0 < 8192 := (p 1).2
    omega

end Cert.PoolRef
end
-- ==== Proof.PoolRefG.lean ====
/- The pool's reference, group by group: its quotients, where their windows begin, and its stages at a row. -/
module

public import proofs.«01_k».proof.Proof.PoolRefOps

@[expose] public section

set_option maxRecDepth 16384

noncomputable section

open Idealize.ShloMosaic

namespace Cert.PoolRef
open Cert.Reals Cert.PoolRefIdeal Cert.PoolRefIdeal.Read Cert.PoolMath

variable {x1 : FVec Ideal S8192x1024 .f32} {D : ℕ → ℕ → ℝ} (H : ∀ (t : Fin 8192) (l : Fin 1024), x1 (ix2 t l) = ((D t l : ℝ) : EReal))

/-! The groups of columns whose windows hold 2 rows. -/

include H in
theorem quot0 (t : Fin 8192) (c : Fin 256) : (val_main_v173 (F := Ideal) x1 (ix3 0 t c) : EReal) = ((PoolMath.q D 2 t ((c : ℕ)) : ℝ) : EReal) := by
  unfold val_main_v173 val_main_v172 val_main_v15 val_main_v14 val_main_v13 val_main_v12 val_main_v7 val_main_v6 val_main_v5 val_main_v124 val_main_v123 val_main_v122
  pointwise [val_main_c, val_main_c_3]
  refine (quot (D := D t ((c : ℕ))) (H _ _) (one_add t) (by omega) (by omega) (by omega)).trans ?_
  rw [PoolMath.q, if_pos t.isLt]

theorem low0 (t : Fin 8192) : (val_main_v27 (F := Ideal) (ix2 t 0) : BitVec 32).toInt = (((t : ℕ) + 1 - 2 : ℕ) : ℤ) := by
  unfold val_main_v27 val_main_v26 val_main_v25 val_main_v24 val_main_v23 val_main_v22 val_main_v21 val_main_v20 val_main_v19 val_main_v18 val_main_v11 val_main_v10 val_main_v9 val_main_v8 val_main_v7 val_main_v6 val_main_v5
  pointwise [val_main_c, val_main_c_1, val_main_c_2, val_main_c_4, val_main_c_5, val_main_c_6]
  exact low t 2 t.isLt (by omega) rfl

theorem group0 (t : Fin 8192) : (val_main_v27 (F := Ideal) (ix2 t 1) : BitVec 32).toInt = 0 := by
  unfold val_main_v27 val_main_v26 val_main_v25 val_main_v24 val_main_v23
  generalize val_main_v23 (F := Ideal) = A
  pointwise [val_main_c_6]
  rfl

include H in
theorem scatter0 (s : Fin 8192) (g : Fin 4) (c : Fin 256) : (val_main_v176 (F := Ideal) x1 (ix4 0 ⟨(s : ℕ) + 1, by omega⟩ g c) : EReal)
    = ((if g = 0 then - PoolMath.q D 2 ((s : ℕ) + 2) ((g : ℕ) * 256 + c) else 0 : ℝ) : EReal) := by
  refine scatter_rows (k := 0) (o := fun c => c) (by omega) (fun c => by show _ = 0 * 256 + c; omega) (fun i => ?_) (fun t => low0 t) (fun t => group0 t) (fun t c => ?_) s g c
  · pointwise [val_main_v175, val_main_cst_35]
  · have e := quot0 H t c
    unfold val_main_v174
    generalize val_main_v173 (F := Ideal) x1 = A at e ⊢
    pointwise
    rw [e, EReal.coe_neg]

include H in
theorem shifted0 (s : Fin 8192) (g : Fin 4) (c : Fin 256) : (val_main_v179 (F := Ideal) x1 (ix4 0 ⟨(s : ℕ) + 1, by omega⟩ g c) : EReal)
    = ((if g = 0 then PoolMath.q D 2 s ((g : ℕ) * 256 + c) else 0 : ℝ) : EReal) := by
  have e := fun t c => quot0 H t c
  unfold val_main_v179 val_main_v178
  generalize val_main_v173 (F := Ideal) x1 = A at e ⊢
  pointwise [val_main_cst_36]
  by_cases hg : g = 0
  · subst hg
    rw [if_pos rfl]
    refine (dif_pos ⟨by omega, by decide⟩).trans ((e _ _).trans (congrArg (fun l => ((PoolMath.q D 2 s l : ℝ) : EReal)) ?_))
    show (c : ℕ) = 0 * 256 + (c : ℕ)
    omega
  · rw [if_neg hg]
    exact dif_neg fun h => hg (Fin.ext (by show (g : ℕ) = 0; omega))

include H in
theorem own0 (s : Fin 8192) (g : Fin 4) (c : Fin 256) : (val_main_v170 (F := Ideal) x1 (ix4 0 s g c) : EReal)
    = ((if g = 0 then - D s ((g : ℕ) * 256 + c) else 0 : ℝ) : EReal) := by
  unfold val_main_v170 val_main_v169 val_main_v168 val_main_v124 val_main_v123 val_main_v122
  pointwise [val_main_cst_34]
  by_cases hg : g = 0
  · subst hg
    rw [if_pos rfl]
    refine (dif_pos (by decide)).trans (Eq.trans ?_ (EReal.coe_neg _).symm)
    refine congrArg (- ·) ((H _ _).trans (congrArg (fun l => ((D s l : ℝ) : EReal)) ?_))
    show (c : ℕ) = 0 * 256 + (c : ℕ)
    omega
  · rw [if_neg hg]
    exact dif_neg fun h => hg (Fin.ext (by show (g : ℕ) = 0; omega))

/-! The groups of columns whose windows hold 4 rows. -/

include H in
theorem quot1 (t : Fin 8192) (c : Fin 256) : (val_main_v160 (F := Ideal) x1 (ix3 0 t c) : EReal) = ((PoolMath.q D 4 t (256 + (c : ℕ)) : ℝ) : EReal) := by
  unfold val_main_v160 val_main_v159 val_main_v42 val_main_v41 val_main_v40 val_main_v39 val_main_v7 val_main_v6 val_main_v5 val_main_v126 val_main_v125 val_main_v122
  pointwise [val_main_c, val_main_c_9]
  refine (quot (D := D t (256 + (c : ℕ))) (H _ _) (one_add t) (by omega) (by omega) (by omega)).trans ?_
  rw [PoolMath.q, if_pos t.isLt]

theorem low1 (t : Fin 8192) : (val_main_v54 (F := Ideal) (ix2 t 0) : BitVec 32).toInt = (((t : ℕ) + 1 - 4 : ℕ) : ℤ) := by
  unfold val_main_v54 val_main_v53 val_main_v52 val_main_v51 val_main_v50 val_main_v49 val_main_v48 val_main_v47 val_main_v46 val_main_v45 val_main_v38 val_main_v37 val_main_v36 val_main_v35 val_main_v7 val_main_v6 val_main_v5
  pointwise [val_main_c, val_main_c_7, val_main_c_8, val_main_c_10, val_main_c_11, val_main_c_12]
  exact low t 4 t.isLt (by omega) rfl

theorem group1 (t : Fin 8192) : (val_main_v54 (F := Ideal) (ix2 t 1) : BitVec 32).toInt = 1 := by
  unfold val_main_v54 val_main_v53 val_main_v52 val_main_v51 val_main_v50
  generalize val_main_v50 (F := Ideal) = A
  pointwise [val_main_c_12]
  rfl

include H in
theorem scatter1 (s : Fin 8192) (g : Fin 4) (c : Fin 256) : (val_main_v163 (F := Ideal) x1 (ix4 0 ⟨(s : ℕ) + 1, by omega⟩ g c) : EReal)
    = ((if g = 1 then - PoolMath.q D 4 ((s : ℕ) + 4) ((g : ℕ) * 256 + c) else 0 : ℝ) : EReal) := by
  refine scatter_rows (k := 1) (o := fun c => 256 + c) (by omega) (fun c => by show _ = 1 * 256 + c; omega) (fun i => ?_) (fun t => low1 t) (fun t => group1 t) (fun t c => ?_) s g c
  · pointwise [val_main_v162, val_main_cst_32]
  · have e := quot1 H t c
    unfold val_main_v161
    generalize val_main_v160 (F := Ideal) x1 = A at e ⊢
    pointwise
    rw [e, EReal.coe_neg]

include H in
theorem shifted1 (s : Fin 8192) (g : Fin 4) (c : Fin 256) : (val_main_v166 (F := Ideal) x1 (ix4 0 ⟨(s : ℕ) + 1, by omega⟩ g c) : EReal)
    = ((if g = 1 then PoolMath.q D 4 s ((g : ℕ) * 256 + c) else 0 : ℝ) : EReal) := by
  have e := fun t c => quot1 H t c
  unfold val_main_v166 val_main_v165
  generalize val_main_v160 (F := Ideal) x1 = A at e ⊢
  pointwise [val_main_cst_33]
  by_cases hg : g = 1
  · subst hg
    rw [if_pos rfl]
    refine (dif_pos ⟨by omega, by decide⟩).trans ((e _ _).trans (congrArg (fun l => ((PoolMath.q D 4 s l : ℝ) : EReal)) ?_))
    show 256 + (c : ℕ) = 1 * 256 + (c : ℕ)
    omega
  · rw [if_neg hg]
    exact dif_neg fun h => hg (Fin.ext (by show (g : ℕ) = 1; omega))

include H in
theorem own1 (s : Fin 8192) (g : Fin 4) (c : Fin 256) : (val_main_v157 (F := Ideal) x1 (ix4 0 s g c) : EReal)
    = ((if g = 1 then - D s ((g : ℕ) * 256 + c) else 0 : ℝ) : EReal) := by
  unfold val_main_v157 val_main_v156 val_main_v155 val_main_v126 val_main_v125 val_main_v122
  pointwise [val_main_cst_31]
  by_cases hg : g = 1
  · subst hg
    rw [if_pos rfl]
    refine (dif_pos (by decide)).trans (Eq.trans ?_ (EReal.coe_neg _).symm)
    refine congrArg (- ·) ((H _ _).trans (congrArg (fun l => ((D s l : ℝ) : EReal)) ?_))
    show 256 + (c : ℕ) = 1 * 256 + (c : ℕ)
    omega
  · rw [if_neg hg]
    exact dif_neg fun h => hg (Fin.ext (by show (g : ℕ) = 1; omega))

/-! The groups of columns whose windows hold 8 rows. -/

include H in
theorem quot2 (t : Fin 8192) (c : Fin 256) : (val_main_v147 (F := Ideal) x1 (ix3 0 t c) : EReal) = ((PoolMath.q D 8 t (512 + (c : ℕ)) : ℝ) : EReal) := by
  unfold val_main_v147 val_main_v146 val_main_v69 val_main_v68 val_main_v67 val_main_v66 val_main_v7 val_main_v6 val_main_v5 val_main_v128 val_main_v127 val_main_v122
  pointwise [val_main_c, val_main_c_15]
  refine (quot (D := D t (512 + (c : ℕ))) (H _ _) (one_add t) (by omega) (by omega) (by omega)).trans ?_
  rw [PoolMath.q, if_pos t.isLt]

theorem low2 (t : Fin 8192) : (val_main_v81 (F := Ideal) (ix2 t 0) : BitVec 32).toInt = (((t : ℕ) + 1 - 8 : ℕ) : ℤ) := by
  unfold val_main_v81 val_main_v80 val_main_v79 val_main_v78 val_main_v77 val_main_v76 val_main_v75 val_main_v74 val_main_v73 val_main_v72 val_main_v65 val_main_v64 val_main_v63 val_main_v62 val_main_v7 val_main_v6 val_main_v5
  pointwise [val_main_c, val_main_c_13, val_main_c_14, val_main_c_16, val_main_c_17, val_main_c_18]
  exact low t 8 t.isLt (by omega) rfl

theorem group2 (t : Fin 8192) : (val_main_v81 (F := Ideal) (ix2 t 1) : BitVec 32).toInt = 2 := by
  unfold val_main_v81 val_main_v80 val_main_v79 val_main_v78 val_main_v77
  generalize val_main_v77 (F := Ideal) = A
  pointwise [val_main_c_18]
  rfl

include H in
theorem scatter2 (s : Fin 8192) (g : Fin 4) (c : Fin 256) : (val_main_v150 (F := Ideal) x1 (ix4 0 ⟨(s : ℕ) + 1, by omega⟩ g c) : EReal)
    = ((if g = 2 then - PoolMath.q D 8 ((s : ℕ) + 8) ((g : ℕ) * 256 + c) else 0 : ℝ) : EReal) := by
  refine scatter_rows (k := 2) (o := fun c => 512 + c) (by omega) (fun c => by show _ = 2 * 256 + c; omega) (fun i => ?_) (fun t => low2 t) (fun t => group2 t) (fun t c => ?_) s g c
  · pointwise [val_main_v149, val_main_cst_29]
  · have e := quot2 H t c
    unfold val_main_v148
    generalize val_main_v147 (F := Ideal) x1 = A at e ⊢
    pointwise
    rw [e, EReal.coe_neg]

include H in
theorem shifted2 (s : Fin 8192) (g : Fin 4) (c : Fin 256) : (val_main_v153 (F := Ideal) x1 (ix4 0 ⟨(s : ℕ) + 1, by omega⟩ g c) : EReal)
    = ((if g = 2 then PoolMath.q D 8 s ((g : ℕ) * 256 + c) else 0 : ℝ) : EReal) := by
  have e := fun t c => quot2 H t c
  unfold val_main_v153 val_main_v152
  generalize val_main_v147 (F := Ideal) x1 = A at e ⊢
  pointwise [val_main_cst_30]
  by_cases hg : g = 2
  · subst hg
    rw [if_pos rfl]
    refine (dif_pos ⟨by omega, by decide⟩).trans ((e _ _).trans (congrArg (fun l => ((PoolMath.q D 8 s l : ℝ) : EReal)) ?_))
    show 512 + (c : ℕ) = 2 * 256 + (c : ℕ)
    omega
  · rw [if_neg hg]
    exact dif_neg fun h => hg (Fin.ext (by show (g : ℕ) = 2; omega))

include H in
theorem own2 (s : Fin 8192) (g : Fin 4) (c : Fin 256) : (val_main_v144 (F := Ideal) x1 (ix4 0 s g c) : EReal)
    = ((if g = 2 then - D s ((g : ℕ) * 256 + c) else 0 : ℝ) : EReal) := by
  unfold val_main_v144 val_main_v143 val_main_v142 val_main_v128 val_main_v127 val_main_v122
  pointwise [val_main_cst_28]
  by_cases hg : g = 2
  · subst hg
    rw [if_pos rfl]
    refine (dif_pos (by decide)).trans (Eq.trans ?_ (EReal.coe_neg _).symm)
    refine congrArg (- ·) ((H _ _).trans (congrArg (fun l => ((D s l : ℝ) : EReal)) ?_))
    show 512 + (c : ℕ) = 2 * 256 + (c : ℕ)
    omega
  · rw [if_neg hg]
    exact dif_neg fun h => hg (Fin.ext (by show (g : ℕ) = 2; omega))

/-! The groups of columns whose windows hold 16 rows. -/

include H in
theorem quot3 (t : Fin 8192) (c : Fin 256) : (val_main_v135 (F := Ideal) x1 (ix3 0 t c) : EReal) = ((PoolMath.q D 16 t (768 + (c : ℕ)) : ℝ) : EReal) := by
  unfold val_main_v135 val_main_v134 val_main_v96 val_main_v95 val_main_v94 val_main_v93 val_main_v7 val_main_v6 val_main_v5 val_main_v130 val_main_v129 val_main_v122
  pointwise [val_main_c, val_main_c_21]
  refine (quot (D := D t (768 + (c : ℕ))) (H _ _) (one_add t) (by omega) (by omega) (by omega)).trans ?_
  rw [PoolMath.q, if_pos t.isLt]

theorem low3 (t : Fin 8192) : (val_main_v108 (F := Ideal) (ix2 t 0) : BitVec 32).toInt = (((t : ℕ) + 1 - 16 : ℕ) : ℤ) := by
  unfold val_main_v108 val_main_v107 val_main_v106 val_main_v105 val_main_v104 val_main_v103 val_main_v102 val_main_v101 val_main_v100 val_main_v99 val_main_v92 val_main_v91 val_main_v90 val_main_v89 val_main_v7 val_main_v6 val_main_v5
  pointwise [val_main_c, val_main_c_19, val_main_c_20, val_main_c_22, val_main_c_23, val_main_c_24]
  exact low t 16 t.isLt (by omega) rfl

theorem group3 (t : Fin 8192) : (val_main_v108 (F := Ideal) (ix2 t 1) : BitVec 32).toInt = 3 := by
  unfold val_main_v108 val_main_v107 val_main_v106 val_main_v105 val_main_v104
  generalize val_main_v104 (F := Ideal) = A
  pointwise [val_main_c_24]
  rfl

include H in
theorem scatter3 (s : Fin 8192) (g : Fin 4) (c : Fin 256) : (val_main_v138 (F := Ideal) x1 (ix4 0 ⟨(s : ℕ) + 1, by omega⟩ g c) : EReal)
    = ((if g = 3 then - PoolMath.q D 16 ((s : ℕ) + 16) ((g : ℕ) * 256 + c) else 0 : ℝ) : EReal) := by
  refine scatter_rows (k := 3) (o := fun c => 768 + c) (by omega) (fun c => by show _ = 3 * 256 + c; omega) (fun i => ?_) (fun t => low3 t) (fun t => group3 t) (fun t c => ?_) s g c
  · pointwise [val_main_v137, val_main_cst_26]
  · have e := quot3 H t c
    unfold val_main_v136
    generalize val_main_v135 (F := Ideal) x1 = A at e ⊢
    pointwise
    rw [e, EReal.coe_neg]

include H in
theorem shifted3 (s : Fin 8192) (g : Fin 4) (c : Fin 256) : (val_main_v140 (F := Ideal) x1 (ix4 0 ⟨(s : ℕ) + 1, by omega⟩ g c) : EReal)
    = ((if g = 3 then PoolMath.q D 16 s ((g : ℕ) * 256 + c) else 0 : ℝ) : EReal) := by
  have e := fun t c => quot3 H t c
  unfold val_main_v140 val_main_v139
  generalize val_main_v135 (F := Ideal) x1 = A at e ⊢
  pointwise [val_main_cst_27]
  by_cases hg : g = 3
  · subst hg
    rw [if_pos rfl]
    refine (dif_pos ⟨by omega, by decide⟩).trans ((e _ _).trans (congrArg (fun l => ((PoolMath.q D 16 s l : ℝ) : EReal)) ?_))
    show 768 + (c : ℕ) = 3 * 256 + (c : ℕ)
    omega
  · rw [if_neg hg]
    exact dif_neg fun h => hg (Fin.ext (by show (g : ℕ) = 3; omega))

include H in
theorem own3 (s : Fin 8192) (g : Fin 4) (c : Fin 256) : (val_main_v133 (F := Ideal) x1 (ix4 0 s g c) : EReal)
    = ((if g = 3 then - D s ((g : ℕ) * 256 + c) else 0 : ℝ) : EReal) := by
  unfold val_main_v133 val_main_v132 val_main_v131 val_main_v130 val_main_v129 val_main_v122
  pointwise [val_main_cst_25]
  by_cases hg : g = 3
  · subst hg
    rw [if_pos rfl]
    refine (dif_pos (by decide)).trans (Eq.trans ?_ (EReal.coe_neg _).symm)
    refine congrArg (- ·) ((H _ _).trans (congrArg (fun l => ((D s l : ℝ) : EReal)) ?_))
    show 768 + (c : ℕ) = 3 * 256 + (c : ℕ)
    omega
  · rw [if_neg hg]
    exact dif_neg fun h => hg (Fin.ext (by show (g : ℕ) = 3; omega))

end Cert.PoolRef
end
-- ==== Proof.PoolRef.lean ====
/- The pool's reference: the gradient it computes, at a row and a column. -/
module

public import proofs.«01_k».proof.Proof.PoolRefG

@[expose] public section

set_option maxRecDepth 16384

noncomputable section

open Idealize.ShloMosaic

namespace Cert.PoolRef
open Cert.Reals Cert.PoolRefIdeal Cert.PoolRefIdeal.Read Cert.PoolMath

variable {x1 : FVec Ideal S8192x1024 .f32} {D : ℕ → ℕ → ℝ} (H : ∀ (t : Fin 8192) (l : Fin 1024), x1 (ix2 t l) = ((D t l : ℝ) : EReal))

/-! All groups together. -/

/-- The width of a group's windows. -/
abbrev wd (g : Fin 4) : ℕ := 2 ^ ((g : ℕ) + 1)

include H in
/-- The gradient of the running sums. -/
theorem steps (s : Fin 8192) (g : Fin 4) (c : Fin 256) : (val_main_v182 (F := Ideal) x1 (ix4 0 s g c) : EReal)
    = ((q D (wd g) s ((g : ℕ) * 256 + c) - q D (wd g) ((s : ℕ) + wd g) ((g : ℕ) * 256 + c) : ℝ) : EReal) := by
  have a0 := scatter0 H s g c
  have a1 := scatter1 H s g c
  have a2 := scatter2 H s g c
  have a3 := scatter3 H s g c
  have b0 := shifted0 H s g c
  have b1 := shifted1 H s g c
  have b2 := shifted2 H s g c
  have b3 := shifted3 H s g c
  unfold val_main_v182 val_main_v180 val_main_v177 val_main_v167 val_main_v164 val_main_v154 val_main_v151 val_main_v141
  generalize val_main_v176 (F := Ideal) x1 = A0 at a0 ⊢
  generalize val_main_v163 (F := Ideal) x1 = A1 at a1 ⊢
  generalize val_main_v150 (F := Ideal) x1 = A2 at a2 ⊢
  generalize val_main_v138 (F := Ideal) x1 = A3 at a3 ⊢
  generalize val_main_v179 (F := Ideal) x1 = B0 at b0 ⊢
  generalize val_main_v166 (F := Ideal) x1 = B1 at b1 ⊢
  generalize val_main_v153 (F := Ideal) x1 = B2 at b2 ⊢
  generalize val_main_v140 (F := Ideal) x1 = B3 at b3 ⊢
  pointwise
  simp only [Nat.add_comm 1 (s : ℕ), a0, a1, a2, a3, b0, b1, b2, b3, ← EReal.coe_add]
  refine congrArg (fun y : ℝ => (y : EReal)) ?_
  have k : g = 0 ∨ g = 1 ∨ g = 2 ∨ g = 3 := by omega
  rcases k with rfl | rfl | rfl | rfl <;> simp [wd] <;> ring

include H in
/-- The gradient of each row's own subtraction. -/
theorem own (s : Fin 8192) (g : Fin 4) (c : Fin 256) : (val_main_v171 (F := Ideal) x1 (ix4 0 s g c) : EReal)
    = ((- D s ((g : ℕ) * 256 + c) : ℝ) : EReal) := by
  have a0 := own0 H s g c
  have a1 := own1 H s g c
  have a2 := own2 H s g c
  have a3 := own3 H s g c
  unfold val_main_v171 val_main_v158 val_main_v145
  generalize val_main_v170 (F := Ideal) x1 = A0 at a0 ⊢
  generalize val_main_v157 (F := Ideal) x1 = A1 at a1 ⊢
  generalize val_main_v144 (F := Ideal) x1 = A2 at a2 ⊢
  generalize val_main_v133 (F := Ideal) x1 = A3 at a3 ⊢
  pointwise
  rw [a0, a1, a2, a3, ← EReal.coe_add, ← EReal.coe_add, ← EReal.coe_add]
  refine congrArg (fun y : ℝ => (y : EReal)) ?_
  have k : g = 0 ∨ g = 1 ∨ g = 2 ∨ g = 3 := by omega
  rcases k with rfl | rfl | rfl | rfl <;> simp

/-- The reference's window sum, with exact additions. -/
theorem window_sum (A : FVec Ideal S1x8192x4x256 .f32) :
    Host.reduceWindowAdd ![1, 8192, 1, 1] ![1, 1, 1, 1] ![0, 0, 0, 0] ![0, 8191, 0, 0] A (val_main_call1_call0_v0 (F := Ideal))
        Gen.reduceWindows_S1x8192x4x256_S1x8192x4x256_w1s1p0_0_w8192s1p0_8191_w1s1p0_0_w1s1p0_0 Gen.h_S_
      = Ideal.hostReduceWindowAdd ![1, 8192, 1, 1] ![1, 1, 1, 1] ![0, 0, 0, 0] ![0, 8191, 0, 0]
        Gen.reduceWindows_S1x8192x4x256_S1x8192x4x256_w1s1p0_0_w8192s1p0_8191_w1s1p0_0_w1s1p0_0 A 0 := by
  have z : (val_main_call1_call0_v0 (F := Ideal) (Shape.Idx.first Gen.h_S_) : EReal) = 0 := by
    pointwise [val_main_call1_call0_v0, val_main_call1_call0_cst]
  rw [← z]
  unfold Host.reduceWindowAdd
  rw [Ideal.hostReduceWindowAdd_def]

include H in
theorem sums (s : Fin 8192) (g : Fin 4) (c : Fin 256) : (val_main_v183 (F := Ideal) x1 (ix4 0 s g c) : EReal)
    = ((∑ k ∈ Finset.range (wd g), q D (wd g) ((s : ℕ) + k) ((g : ℕ) * 256 + c) : ℝ) : EReal) := by
  have e := fun t => steps H t g c
  unfold val_main_v183
  generalize val_main_v182 (F := Ideal) x1 = A at e ⊢
  refine (congrFun (window_sum A) _).trans ?_
  refine (later_rows A 0 rfl _ s g c (f := fun t => q D (wd g) t ((g : ℕ) * 256 + c) - q D (wd g) (t + wd g) ((g : ℕ) * 256 + c)) e fun t h => ?_).trans ?_
  · rw [q_past _ _ _ _ h, q_past _ _ _ _ (by omega), sub_zero]
  · exact congrArg (fun y : ℝ => (y : EReal)) (suffix (fun t => q D (wd g) t ((g : ℕ) * 256 + c)) (fun t h => q_past _ _ _ _ h) s (wd g))

include H in
/-- The reference's result at a row and a column. -/
theorem value (s : Fin 8192) (l : Fin 1024) : (val_main_v186 (F := Ideal) x1 (ix2 s l) : EReal) = ((du D (2 ^ ((l : ℕ) / 256 + 1)) s l : ℝ) : EReal) := by
  have a := own H s ⟨(l : ℕ) / 256, by omega⟩ ⟨(l : ℕ) % 256, by omega⟩
  have b := sums H s ⟨(l : ℕ) / 256, by omega⟩ ⟨(l : ℕ) % 256, by omega⟩
  unfold val_main_v186 val_main_v185 val_main_v184
  generalize val_main_v171 (F := Ideal) x1 = A at a ⊢
  generalize val_main_v183 (F := Ideal) x1 = B at b ⊢
  pointwise
  rw [a, b, ← EReal.coe_add]
  refine congrArg (fun y : ℝ => (y : EReal)) ?_
  have hl : (l : ℕ) / 256 * 256 + (l : ℕ) % 256 = l := by omega
  simp only [hl, du]
  ring

end Cert.PoolRef
end
-- ==== Proof.PoolKer.lean ====
/- The pool's kernel: what a block of its result holds, and the array it leaves. -/
module

public import proofs.«01_k».proof.Proof.Gen.PoolIdeal.Value
public import proofs.«01_k».proof.Proof.Gen.Pre_pool_finite
public import proofs.«01_k».proof.Proof.PoolRef
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PoolIdeal.Grad
open Cert.Reals Cert.PoolIdeal Cert.PoolIdeal.Gen Cert.PoolMath

/-- The window's width, as the kernel computes it from the column of blocks. -/
abbrev ww (b : BitVec 32) : BitVec 32 :=
  Scalar.shli (2#32)
    (Scalar.select
      (Scalar.andi
        (Scalar.cmpi CmpIPredicate.ne (Scalar.subi (Scalar.extui (Scalar.cmpi CmpIPredicate.sgt b 0#32)) (Scalar.extui (Scalar.cmpi CmpIPredicate.slt b 0#32)))
          (Scalar.subi (Scalar.extui (Scalar.cmpi CmpIPredicate.sgt 2#32 0#32)) (Scalar.extui (Scalar.cmpi CmpIPredicate.slt 2#32 0#32))))
        (Scalar.cmpi CmpIPredicate.ne (Scalar.remsi b 2#32) 0#32))
      (Scalar.subi (Scalar.divsi b 2#32) 1#32) (Scalar.divsi b 2#32))

theorem ww_eq (j : Fin 8) : ww (BitVec.ofNat 32 j) = BitVec.ofNat 32 (2 ^ ((j : ℕ) / 2 + 1)) := by
  revert j; decide

theorem last_block (i : Fin 8) : Scalar.cmpi CmpIPredicate.slt (BitVec.ofNat 32 i) 7#32 = if (i : ℕ) < 7 then 1#1 else 0#1 := by
  revert i; decide

theorem more (g : Fin 4) : (Scalar.cmpi CmpIPredicate.sgt (BitVec.ofNat 32 (2 ^ ((g : ℕ) + 1))) 1#32 = 1#1)
    ∧ (Scalar.cmpi CmpIPredicate.sgt (BitVec.ofNat 32 (2 ^ ((g : ℕ) + 1))) 2#32 = if 0 < (g : ℕ) then 1#1 else 0#1)
    ∧ (Scalar.cmpi CmpIPredicate.sgt (BitVec.ofNat 32 (2 ^ ((g : ℕ) + 1))) 4#32 = if 1 < (g : ℕ) then 1#1 else 0#1)
    ∧ (Scalar.cmpi CmpIPredicate.sgt (BitVec.ofNat 32 (2 ^ ((g : ℕ) + 1))) 8#32 = if 2 < (g : ℕ) then 1#1 else 0#1) := by
  revert g; decide

/-- The comparisons of a width that is a power of two. -/
theorem more_nat (e : ℕ) (he : e < 4) : (Scalar.cmpi CmpIPredicate.sgt (BitVec.ofNat 32 (2 ^ (e + 1))) 2#32 = if 0 < e then 1#1 else 0#1)
    ∧ (Scalar.cmpi CmpIPredicate.sgt (BitVec.ofNat 32 (2 ^ (e + 1))) 4#32 = if 1 < e then 1#1 else 0#1)
    ∧ (Scalar.cmpi CmpIPredicate.sgt (BitVec.ofNat 32 (2 ^ (e + 1))) 8#32 = if 2 < e then 1#1 else 0#1) := (more ⟨e, he⟩).2

theorem row_word (i r : ℕ) : IntOp.addi (IntOp.addi (Scalar.muli (BitVec.ofNat 32 i) 1024#32) (BitVec.ofNat 32 r)) 1#32 = BitVec.ofNat 32 (i * 1024 + r + 1) := by
  show BitVec.ofNat 32 i * BitVec.ofNat 32 1024 + BitVec.ofNat 32 r + BitVec.ofNat 32 1 = _
  rw [BitVec.ofNat_add, BitVec.ofNat_add, BitVec.ofNat_mul]

/-- A row of the block and of the rows after it, over its count. -/
theorem row_quot {b j : ℕ} (h0 : b < 8) (h1 : j < 8) {D : ℕ → ℕ → ℝ} {X : Vec Ideal S1024x128 .f32} {Y : Vec Ideal S16x128 .f32}
    (hX : ∀ (r : Fin 1024) (l : Fin 128), X (ix2 r l) = ((D (b * 1024 + r) (j * 128 + l) : ℝ) : EReal))
    (hY : b < 7 → ∀ (r : Fin 16) (l : Fin 128), Y (ix2 r l) = ((D ((b + 1) * 1024 + r) (j * 128 + l) : ℝ) : EReal))
    (r : ℕ) (hr : r < 1040) (l : Fin 128) :
    Ideal.div (if h : r < 1024 then X (ix2 ⟨r, h⟩ l) else Scalar.select (Scalar.cmpi CmpIPredicate.slt (BitVec.ofNat 32 b) 7#32) (Y (ix2 ⟨r - 1024, by omega⟩ l)) 0)
        (FloatOps.sitofp (F := Ideal) FTy.f32 (IntOp.minsi (IntOp.addi (IntOp.addi (Scalar.muli (BitVec.ofNat 32 b) 1024#32) (BitVec.ofNat 32 r)) 1#32) (ww (BitVec.ofNat 32 j))))
      = ((q D (2 ^ (j / 2 + 1)) (b * 1024 + r) (j * 128 + l) : ℝ) : EReal) := by
  rw [ww_eq ⟨j, h1⟩, last_block ⟨b, h0⟩, row_word]
  have hw : 2 ^ (j / 2 + 1) ≤ 2 ^ 4 := Nat.pow_le_pow_right (by omega) (by omega)
  have h2 : 0 < 2 ^ (j / 2 + 1) := Nat.pow_pos (by omega)
  refine (quot (D := if b * 1024 + r < 8192 then D (b * 1024 + r) (j * 128 + l) else 0) ?_ rfl (by omega) h2 hw).trans ?_
  · by_cases c : r < 1024
    · rw [dif_pos c, if_pos (by omega), hX]
    · rw [dif_neg c]
      dsimp only
      by_cases k : b < 7
      · rw [if_pos k, if_pos (by omega)]
        refine (hY k _ _).trans ?_
        refine congrArg (fun t => ((D t (j * 128 + l) : ℝ) : EReal)) ?_
        dsimp only; omega
      · rw [if_neg k, if_neg (by omega)]; rfl
  · rw [q]
    split
    · rfl
    · rw [zero_div]

/-- The first doubling: a row's quotient and the next one's. -/
theorem two_rows {i : grid0.Coords} {b j : ℕ} (hb : (i 0).val = b) (hj : (i 1).val = j) {D : ℕ → ℕ → ℝ} {X : Vec Ideal S1024x128 .f32} {Y : Vec Ideal S16x128 .f32}
    (hX : ∀ (r : Fin 1024) (l : Fin 128), X (ix2 r l) = ((D (b * 1024 + r) (j * 128 + l) : ℝ) : EReal))
    (hY : b < 7 → ∀ (r : Fin 16) (l : Fin 128), Y (ix2 r l) = ((D ((b + 1) * 1024 + r) (j * 128 + l) : ℝ) : EReal))
    (r : ℕ) (hr : r + 1 < 1040) (l : Fin 128) :
    (k0_pay2 i X Y (ix2 ⟨r, by omega⟩ l) : EReal) = ((q D (2 ^ (j / 2 + 1)) (b * 1024 + r) (j * 128 + l)
      + q D (2 ^ (j / 2 + 1)) (b * 1024 + r + 1) (j * 128 + l) : ℝ) : EReal) := by
  have h0 : b < 8 := hb ▸ (i 0).isLt
  have h1 : j < 8 := hj ▸ (i 1).isLt
  have a := row_quot h0 h1 hX hY r (by omega) l
  have a' := row_quot h0 h1 hX hY ((r + 1040 - 1039) % 1040) (by omega) l
  have m : Scalar.cmpi CmpIPredicate.sgt (ww (BitVec.ofNat 32 j)) 1#32 = 1#1 := by
    rw [ww_eq ⟨j, h1⟩]; exact (more ⟨j / 2, by omega⟩).1
  pointwise [k0_pay2]
  rw [hb, hj, m]
  refine (congrArg₂ (· + ·) a a').trans ?_
  rw [← EReal.coe_add]
  refine congrArg (fun y : ℝ => (y : EReal)) (congrArg (_ + ·) (congrArg (fun t => q D _ t _) ?_))
  omega

theorem next_rows (i : grid0.Coords) (X : Vec Ideal S1024x128 .f32) (Y : Vec Ideal S16x128 .f32) (r : ℕ) (hr : r + 2 < 1040) (l : Fin 128) :
    (k0_pay3 i X Y (ix2 ⟨r, by omega⟩ l) : EReal) = k0_pay2 i X Y (ix2 ⟨r + 2, hr⟩ l) := by
  unfold k0_pay3
  generalize k0_pay2 i X Y = A
  pointwise
  refine congrArg (fun t => A (ix2 t l)) (Fin.ext ?_)
  dsimp only
  omega

/-- A block of the result, at a row and a column. -/
theorem block_at {i : grid0.Coords} {b j : ℕ} (hb : (i 0).val = b) (hj : (i 1).val = j) {D : ℕ → ℕ → ℝ} {X : Vec Ideal S1024x128 .f32} {Y : Vec Ideal S16x128 .f32}
    (hX : ∀ (r : Fin 1024) (l : Fin 128), X (ix2 r l) = ((D (b * 1024 + r) (j * 128 + l) : ℝ) : EReal))
    (hY : b < 7 → ∀ (r : Fin 16) (l : Fin 128), Y (ix2 r l) = ((D ((b + 1) * 1024 + r) (j * 128 + l) : ℝ) : EReal))
    (r : Fin 1024) (l : Fin 128) :
    (k0_pay1 (ww (BitVec.ofNat 32 j)) X (k0_pay2 i X Y) (k0_pay3 i X Y) (ix2 r l) : EReal)
      = ((du D (2 ^ (j / 2 + 1)) (b * 1024 + r) (j * 128 + l) : ℝ) : EReal) := by
  have h1 : j < 8 := hj ▸ (i 1).isLt
  have hr := r.isLt
  have a : ∀ (n : ℕ) (hn : n + 1 < 1040), (k0_pay2 i X Y (ix2 ⟨n, by omega⟩ l) : EReal) = _ := fun n hn => two_rows hb hj hX hY n hn l
  have a' : ∀ (n : ℕ) (hn : n + 3 < 1040), (k0_pay3 i X Y (ix2 ⟨n, by omega⟩ l) : EReal) = _ := fun n hn => (next_rows i X Y n (by omega) l).trans (a (n + 2) hn)
  obtain ⟨e, hje⟩ : ∃ e, j / 2 = e := ⟨_, rfl⟩
  have he : e < 4 := by omega
  obtain ⟨m2, m4, m8⟩ := more_nat e he
  rw [show ww (BitVec.ofNat 32 j) = BitVec.ofNat 32 (2 ^ (e + 1)) from hje ▸ ww_eq ⟨j, h1⟩]
  rw [hje]
  simp only [hje] at a a'
  have hx := hX r l
  generalize k0_pay2 i X Y = A at a ⊢
  generalize k0_pay3 i X Y = B at a' ⊢
  pointwise [k0_pay1]
  have e4 : ((r : ℕ) + 1040 - 1036) % 1040 = r + 4 := by omega
  have e8 : ((r : ℕ) + 1040 - 1032) % 1040 = r + 8 := by omega
  have e12 : ((r : ℕ) + 8 + 1040 - 1036) % 1040 = r + 12 := by omega
  simp only [e4, e8, e12]
  rw [a r (by omega), a (r + 4) (by omega), a (r + 8) (by omega), a (r + 12) (by omega), a' r (by omega), a' (r + 4) (by omega), a' (r + 8) (by omega), a' (r + 12) (by omega), hx]
  rw [m2, m4, m8]
  generalize b * 1024 = s
  generalize j * 128 + (l : ℕ) = p
  have k : e = 0 ∨ e = 1 ∨ e = 2 ∨ e = 3 := by omega
  have s1 : ∀ x y : EReal, Scalar.select 1#1 x y = x := fun _ _ => rfl
  have s0 : ∀ x y : EReal, Scalar.select 0#1 x y = y := fun _ _ => rfl
  clear m2 m4 m8 a a'
  rcases k with rfl | rfl | rfl | rfl <;>
    simp only [lt_self_iff_false, Nat.not_lt_zero, Nat.lt_irrefl, Nat.reduceLT, if_true, if_false, s0, s1, ← EReal.coe_add, ← EReal.coe_sub] <;>
    refine congrArg (fun y : ℝ => (y : EReal)) ?_ <;>
    simp only [du, Nat.reduceAdd, Nat.reducePow, Finset.sum_range_succ, Finset.sum_range_zero, Nat.add_assoc, Nat.add_zero, Nat.zero_add, Nat.reducePow] <;>
    ring

variable (m : (ℓ : Loc nD τ sig) → Buf (Elt Ideal) ℓ)

/-- The pooled gradient, as an array of extended reals. -/
abbrev ad (c : Dev nD) : FVec Ideal S8192x1024 .f32 := m ((c : Thread nD τ).loc main_arg1)

theorem idx : ∀ t : Fin cfg0.N, win0_0.index t = ![t.val / 8, t.val % 8] ∧ win0_1.index t = ![min ((t.val / 8 + 1) * 64) 511, t.val % 8]
    ∧ win0_2.index t = ![t.val / 8, t.val % 8] ∧ (grid0.coords t 0).val = t.val / 8 ∧ (grid0.coords t 1).val = t.val % 8 :=
  (by decide +kernel : ∀ t : Fin grid0.N, _)

theorem main_rows (c : Dev nD) (t : Fin cfg0.N) (r : Fin 1024) (l : Fin 128) (h0 : t.val / 8 * 1024 + r < 8192) (h1 : t.val % 8 * 128 + l < 1024) :
    iblk m c 0 t (ix2 r l) = ad m c (ix2 ⟨t.val / 8 * 1024 + r, h0⟩ ⟨t.val % 8 * 128 + l, h1⟩) := by
  blk_point [iblk, V, idx t]

theorem later_rows (c : Dev nD) (t : Fin cfg0.N) (r : Fin 16) (l : Fin 128) (h : t.val / 8 < 7) (h0 : (t.val / 8 + 1) * 1024 + r < 8192) (h1 : t.val % 8 * 128 + l < 1024) :
    iblk m c 1 t (ix2 r l) = ad m c (ix2 ⟨(t.val / 8 + 1) * 1024 + r, h0⟩ ⟨t.val % 8 * 128 + l, h1⟩) := by
  blk_point [iblk, V, idx t]

theorem finite (hpre : ∀ c : Dev nD, Cert.Pre_pool_finite.fn (F := Ideal) (m ((c.tc : Thread nD τ).loc main_arg0)) (m ((c.tc : Thread nD τ).loc main_arg1)) = (fun _ => 1#1))
    (c : Dev nD) : ∃ R : S8192x1024.Idx → ℝ, ad m c = fun i => (R i : EReal) := by
  have h := congrFun (hpre c) (fun i => i.elim0)
  unfold Cert.Pre_pool_finite.fn at h
  dsimp only at h
  exact of_all_lt _ _ h

theorem final2 (c : Dev nD) (hf : ∃ R : S8192x1024.Idx → ℝ, ad m c = fun i => (R i : EReal)) :
    (dats m 0 c).arrAt 2 cfg0.N = Cert.PoolRefIdeal.Read.val_main_v186 (F := Ideal) (ad m c) := by
  obtain ⟨R, hR⟩ := hf
  obtain ⟨D, hD⟩ : ∃ D : ℕ → ℕ → ℝ, ∀ (t : Fin 8192) (l : Fin 1024), ad m c (ix2 t l) = ((D t l : ℝ) : EReal) :=
    ⟨fun t l => if h : t < 8192 ∧ l < 1024 then R (ix2 ⟨t, h.1⟩ ⟨l, h.2⟩) else 0, fun t l => by
      rw [hR]; simp only [t.isLt, l.isLt, and_self, dite_true]⟩
  refine (dats m 0 c).arrAt_eq_of_covers 2 _ (by decide +kernel) fun t _ y => ?_
  blk_simp
  rw [after0_2]
  frame_out
  have ht : t.val < 64 := lt_of_lt_of_eq t.isLt N_0
  obtain ⟨r, l, rfl⟩ : ∃ (r : Fin 1024) (l : Fin 128), y = (ix2 r l : S1024x128.Idx) := ⟨y 0, y 1, eq_ix2 y⟩
  have hX : ∀ (r : Fin 1024) (l : Fin 128), iblk m c 0 t (ix2 r l) = ((D (t.val / 8 * 1024 + r) (t.val % 8 * 128 + l) : ℝ) : EReal) := fun r l =>
    (main_rows m c t r l (by omega) (by omega)).trans (hD _ _)
  have hY : t.val / 8 < 7 → ∀ (r : Fin 16) (l : Fin 128), iblk m c 1 t (ix2 r l) = ((D ((t.val / 8 + 1) * 1024 + r) (t.val % 8 * 128 + l) : ℝ) : EReal) := fun h r l =>
    (later_rows m c t r l h (by omega) (by omega)).trans (hD _ _)
  have hi := idx t
  refine Eq.trans ?_ ((block_at hi.2.2.2.1 hi.2.2.2.2 hX hY r l).trans ?_)
  · rw [← hi.2.2.2.2]
  · have e : ((cfg0.win 2).blk t).view.emb (ix2 r l) = ix2 (⟨t.val / 8 * 1024 + r, by omega⟩ : Fin 8192) (⟨t.val % 8 * 128 + l, by omega⟩ : Fin 1024) := by blk_ext [idx t]
    rw [e]
    refine Eq.trans ?_ (Cert.PoolRef.value hD _ _).symm
    refine congrArg (fun w => ((du D (2 ^ (w + 1)) _ _ : ℝ) : EReal)) ?_
    show t.val % 8 / 2 = (t.val % 8 * 128 + l) / 256
    omega

end Cert.PoolIdeal.Grad
end
-- ==== Proof.FwdRun.lean ====
/- The run of the forward attention's host program and its two Pallas calls: it ends with every array of the device
   at the contents the program's steps, taken one after the other from the launch memory, leave in it. -/
module

public import proofs.«01_k».proof.Proof.Gen.FwdIdeal.Frame

@[expose] public section

set_option maxRecDepth 16384

noncomputable section

namespace Cert.FwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FwdIdeal Cert.FwdIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each array at its contents after the last step, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W10 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

/-- The result and the five arguments at the end of a run. -/
theorem run_main : θ_run defs (onTc (τ := τ) (main (F := F))) ⟨m, fun _ => 0, ρ⟩ (fun r => ∀ c : Dev nD,
      r.2.mem ((c.tc : Thread nD τ).loc main_v60) = W10 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h.1 c _ (mem_uc main_v60 (by decide)),
     (h.1 c _ (mem_uc main_arg0 (by decide))).trans (W10_main_arg0 m ρ c),
     (h.1 c _ (mem_uc main_arg1 (by decide))).trans (W10_main_arg1 m ρ c),
     (h.1 c _ (mem_uc main_arg2 (by decide))).trans (W10_main_arg2 m ρ c),
     (h.1 c _ (mem_uc main_arg3 (by decide))).trans (W10_main_arg3 m ρ c),
     (h.1 c _ (mem_uc main_arg4 (by decide))).trans (W10_main_arg4 m ρ c)⟩) (run_all m ρ)

end Cert.FwdRun

end
-- ==== Proof.FwdKer.lean ====
/- One grid point of the forward attention kernel as a chain of arrays: what the point loads (`Ld`), and each quantity of a tile of two heads by its key head `b`, its half `p` and its place `e` in the half. -/
module

public import proofs.«01_k».proof.Proof.Gen.FwdIdeal.Frame
public import proofs.«01_k».proof.Proof.AttnOut

@[expose] public section

set_option maxRecDepth 16384

noncomputable section

namespace Cert.FwdKer

open Idealize.ShloMosaic Cert.FwdIdeal Cert.FwdIdeal.Gen
open Cert.AttnKer (pick rot rows scaled at' inq rg)

variable {F : FTy → Type} [FloatOps F] [Named F]

/-- What one grid point loads. -/
structure Ld (F : FTy → Type) where
  n : BitVec 32
  q : Bool → Bool → Bool → Vec F S128x128 .f32
  k0 : Vec F S128x128 .f32
  k1 : Vec F S128x128 .f32
  v0 : Vec F S128x128 .f32
  v1 : Vec F S128x128 .f32
  qg : Vec F S1x128 .f32
  kg : Vec F S1x128 .f32
  bias : Bool → Bool → Bool → Vec F S1x256x256 .f32
  sink : Bool → Bool → Bool → Vec F S1x1x256 .f32

section
variable (W : Ld F) (b p e : Bool)

def K : FVec F S256x128 .bf16 := truncf .bf16 (pick b (Cert.AttnIdeal.Gen.k1_pay9 W.kg W.k0 W.k1)) bitsLt_bf16_f32
def V : FVec F S256x128 .bf16 := truncf .bf16 (Cert.AttnIdeal.Gen.k1_pay11 (Cert.AttnIdeal.Gen.k1_pay10 W.v0) W.v1) bitsLt_bf16_f32
def Q : FVec F S256x128 .bf16 := truncf .bf16 (rows b (scaled W.qg (W.q b p e))) bitsLt_bf16_f32

/-- The logits before the first block's mask, then under it. -/
def raw : FVec F S256x256 .f32 :=
  addf (matmul dot_S256x128_S256x128_S256x256_1_1_0_0_n_n none (K W b) (Q W b p e) (constant S256x256 .f32 0x00000000#32))
    (shapeCast S256x256 (W.bias b p e) shapeCasts_S1x256x256_S256x256)
def lg : FVec F S256x256 .f32 :=
  concatenate S256x256 0 [⟨S128x256, Scalar.select (Scalar.cmpi .eq W.n 0#32) (broadcast S128x256 (Named.named κ "mask" 0xF149F2CA#32))
    (extractStridedSlice S128x256 ![0, 0] (raw W b p e) slices_S256x256_o0_0_S128x256)⟩,
    ⟨S128x256, extractStridedSlice S128x256 ![128, 0] (raw W b p e) slices_S256x256_o128_0_S128x256⟩] concatenates_S128x256_S128x256_S256x256_d0

def snk : FVec F S1x256 .f32 := shapeCast S1x256 (W.sink b p e) shapeCasts_S1x1x256_S1x256
def top : FVec F S1x256 .f32 :=
  maximumf (shapeCast S1x256 (multiReduction .maximumf [0] S256 (lg W b p e) 0xFF800000#32 reduces_S256x256_S256 (.inl rfl) rfl) shapeCasts_S256_S1x256) (snk W b p e)
def ex : FVec F S256x256 .f32 := exp (subf (lg W b p e) (broadcastTo S256x256 (top W b p e) broadcasts_S1x256_S256x256))
def iv : FVec F S1x256 .f32 :=
  divf (broadcast S1x256 (Scalar.ofBits .f32 0x3F800000#32))
    (addf (shapeCast S1x256 (multiReduction .add [0] S256 (ex W b p e) 0x00000000#32 reduces_S256x256_S256 (.inl rfl) rfl) shapeCasts_S256_S1x256)
      (exp (subf (snk W b p e) (top W b p e))))
def pr : FVec F S256x256 .f32 := mulf (ex W b p e) (broadcastTo S256x256 (iv W b p e) broadcasts_S1x256_S256x256)

/-- The weights times the values: the first head's rows, then the second's. -/
def av : FVec F S256x128 .f32 :=
  matmul dot_S256x256_S256x128_S256x128_0_0_1_1_n_n none (truncf .bf16 (pr W b p e) bitsLt_bf16_f32) (V W) (constant S256x128 .f32 0x00000000#32)
def ev : FVec F S128x128 .f32 := extractStridedSlice S128x128 ![0, 0] (av W b p e) slices_S256x128_o0_0_S128x128
def od : FVec F S128x128 .f32 := extractStridedSlice S128x128 ![128, 0] (av W b p e) slices_S256x128_o128_0_S128x128

/-- A tile of the output: the two heads' rows side by side. -/
def out : FVec F S128x128 .bf16 :=
  truncf .bf16 (if b then select k1_pay3 (rot (ev W b p e)) (od W b p e) else select k1_pay3 (ev W b p e) (rot (od W b p e))) bitsLt_bf16_f32
end

theorem inb (b p e : Bool) : ∀ d, (![b.toNat, 0, 2 * at' p e] : Fin 3 → ℕ) d + S1x256x256.size d ≤ S2x256x1024.size d := by cases b <;> cases p <;> cases e <;> decide
theorem ins (b p e : Bool) : ∀ d, (![b.toNat, 0, 2 * at' p e] : Fin 3 → ℕ) d + S1x1x256.size d ≤ S2x1x1024.size d := by cases b <;> cases p <;> cases e <;> decide

section
variable (i : grid1.Coords) (x0 x1 : Vec F S128x512 .f32) (x2 x3 x4 x5 : Vec F S128x128 .f32) (x6 x7 : Vec F S1x128 .f32) (x8 : Vec F S2x1x1024 .f32) (x9 : Vec F S2x256x1024 .f32)

/-- What a point loads from its blocks. -/
def ld : Ld F where
  n := BitVec.ofNat 32 (i 0).val
  q b p e := View.ld (if b then x1 else x0) (Rect.unit (s := S128x512) ![0, at' p e] S128x128.size (inq p e))
  k0 := View.ld x2 r1_0
  k1 := View.ld x3 r1_0
  v0 := View.ld x4 r1_0
  v1 := View.ld x5 r1_0
  qg := View.ld x6 r1_1
  kg := View.ld x7 r1_1
  bias b p e := View.ld x9 (Rect.unit (s := S2x256x1024) ![b.toNat, 0, 2 * at' p e] S1x256x256.size (inb b p e))
  sink b p e := View.ld x8 (Rect.unit (s := S2x1x1024) ![b.toNat, 0, 2 * at' p e] S1x1x256.size (ins b p e))

/-- The eight stores of a point. -/
def pieces (W : Ld F) : List (View.Piece (Elt F) S128x1024 .bf16) :=
  [⟨rg true true true, out W true true true⟩, ⟨rg true true false, out W true true false⟩,
   ⟨rg true false true, out W true false true⟩, ⟨rg true false false, out W true false false⟩,
   ⟨rg false true true, out W false true true⟩, ⟨rg false true false, out W false true false⟩,
   ⟨rg false false true, out W false false true⟩, ⟨rg false false false, out W false false false⟩]

theorem out_eq : out1_10 i x0 x1 x2 x3 x4 x5 x6 x7 x8 x9 = View.canon (pieces (ld i x0 x1 x2 x3 x4 x5 x6 x7 x8 x9)) := by
  unfold out1_10
  refine congrArg View.canon ?_
  rfl
end

end Cert.FwdKer

end
-- ==== Proof.FwdVal.lean ====
/- One grid point of the forward attention kernel over the reals: each of its arrays, against the part's formulas. -/
module

public import proofs.«01_k».proof.Proof.FwdKer
public import proofs.«01_k».proof.Proof.AttnVal

@[expose] public section

set_option maxRecDepth 16384

noncomputable section

open Idealize.ShloMosaic

namespace Cert.FwdKer
open Cert.Reals Cert.AttnMath Cert.FwdIdeal Cert.FwdIdeal.Gen
open Cert.AttnKer (A2 rot rows scaled half_dot pick)

/-- The head of a tile's column. -/
def hd (b p e : Bool) (c : ℕ) : ℕ := 8 * b.toNat + 4 * p.toNat + 2 * e.toNat + c / 128

/-- The heads' output: row `s`, head `h`, lane `d`. -/
def oo (I : In) (s h d : ℕ) : ℝ := ∑ j : Fin 256, AttnMath.p I (s / 128) h (s % 128) j * zv I (pos (s / 128) j) (h / 8) d

/-- What a point loads, as the part's inputs. -/
structure Holds (I : In) (n : ℕ) (W : Ld Ideal) : Prop where
  first : Scalar.cmpi .eq W.n 0#32 = if n = 0 then 1#1 else 0#1
  q : ∀ b p e, A2 (W.q b p e) fun r l => I.z (128 * n + r) (1024 + (512 * b.toNat + 256 * p.toNat + (128 * e.toNat + l)))
  k0 : A2 W.k0 fun r l => I.z (128 * (n - 1) + r) (2048 + l)
  k1 : A2 W.k1 fun r l => I.z (128 * n + r) (2048 + l)
  v0 : A2 W.v0 fun r l => I.z (128 * (n - 1) + r) (2176 + l)
  v1 : A2 W.v1 fun r l => I.z (128 * n + r) (2176 + l)
  qg : A2 W.qg fun _ l => I.qg (l % 64)
  kg : A2 W.kg fun _ l => I.kg (l % 64)
  bias : ∀ b p e (j : Fin 256) (c : Fin 256), W.bias b p e (ix3 0 j c) = if (j : ℕ) ≤ 128 + c % 128 ∧ (c : ℕ) % 128 < j then ((I.rb (I.bk (128 + c % 128 - j)) (hd b p e c) : ℝ) : EReal) else ⊥
  sink : ∀ b p e (c : Fin 256), W.sink b p e (ix3 0 0 c) = ((I.sk (hd b p e c) : ℝ) : EReal)

variable (I : In) (n : ℕ) (W : Ld Ideal)

/-- The same loads as the backward kernel would make of the same inputs. -/
def att : AttnKer.Ld Ideal where
  n := W.n
  q := W.q
  g b p e := fun x => ((I.ct (128 * n + (x 0 : ℕ)) (512 * b.toNat + 256 * p.toNat + (128 * e.toNat + (x 1 : ℕ))) : ℝ) : EReal)
  k0 := W.k0
  k1 := W.k1
  v0 := W.v0
  v1 := W.v1
  qg := W.qg
  kg := W.kg
  bias b p := fun x => if (x 1 : ℕ) ≤ 128 + (x 2 : ℕ) % 128 ∧ (x 2 : ℕ) % 128 < (x 1 : ℕ) then ((I.rb (I.bk (128 + (x 2 : ℕ) % 128 - (x 1 : ℕ))) (AttnKer.hd b p (x 2 : ℕ)) : ℝ) : EReal) else ⊥
  sink b p := fun x => ((I.sk (AttnKer.hd b p (x 2 : ℕ)) : ℝ) : EReal)

variable {I n W} (H : Holds I n W) (b p e : Bool)
include H

theorem att_holds : AttnKer.Holds I n (att I n W) where
  first := H.first
  q := H.q
  g _ _ _ := fun _ _ => rfl
  k0 := H.k0
  k1 := H.k1
  v0 := H.v0
  v1 := H.v1
  qg := H.qg
  kg := H.kg
  bias _ _ _ _ := rfl
  sink _ _ _ := rfl

theorem K_real : A2 (K W b) (fun j l => if l / 64 = b.toNat then kn I (pos n j) (l / 64) (l % 64) else 0) := AttnKer.K_real (att_holds H) b

theorem V_real : A2 (V W) (fun j l => zv I (pos n j) (l / 64) (l % 64)) := fun j l => by
  refine Eq.trans ?_ (AttnKer.vC_real (att_holds H) j l)
  pointwise [V]
  rfl

theorem Q_real (c : Fin 256) (l : Fin 128) (hl : (l : ℕ) / 64 = b.toNat) :
    Q W b p e (ix2 c l) = ((qn I (128 * n + c % 128) (hd b p e c) (l % 64) * (1 / 8) : ℝ) : EReal) := by
  have hs : A2 (scaled (F := Ideal) W.qg (W.q b p e)) (fun r l => qn I (128 * n + r) (8 * b.toNat + 4 * p.toNat + 2 * e.toNat + l / 64) (l % 64) * (1 / 8)) := by
    refine (AttnKer.scaled_real (H.q b p e) H.qg).congr fun r l _ _ => ?_
    unfold qn
    have h : AttnKer.ln (fun r l => I.z (128 * n + r) (1024 + (512 * b.toNat + 256 * p.toNat + (128 * e.toNat + l)))) r l = zq I (128 * n + r) (8 * b.toNat + 4 * p.toNat + 2 * e.toNat + l / 64) := by
      funext d; unfold AttnKer.ln zq; dsimp only; congr 1; omega
    rw [h]
  pointwise [Q]
  refine (AttnKer.rows_real b hs c l hl).trans ?_
  have e1 : 8 * b.toNat + 4 * p.toNat + 2 * e.toNat + (64 * ((c : ℕ) / 128) + l % 64) / 64 = hd b p e c := by unfold hd; omega
  have e2 : (64 * ((c : ℕ) / 128) + l % 64) % 64 = l % 64 := by omega
  rw [e1, e2]

omit H in
theorem hd_div (c : Fin 256) : hd b p e c / 8 = b.toNat := by unfold hd; cases p <;> cases e <;> simp <;> omega

theorem raw_real (j : Fin 256) (c : Fin 256) :
    raw W b p e (ix2 j c) = if (j : ℕ) ≤ 128 + c % 128 ∧ (c : ℕ) % 128 < j then ((logit I n (hd b p e c) (c % 128) j : ℝ) : EReal) else ⊥ := by
  pointwise [raw]
  rw [H.bias, half_dot (fun d => kn I (pos n j) b.toNat d) (fun d => qn I (128 * n + c % 128) (hd b p e c) d * (1 / 8)) b
    (fun l => by rw [K_real H]; congr 1; split <;> simp_all) (fun l hl => Q_real H b p e c l hl)]
  split
  · rw [← EReal.coe_add]; congr 1; unfold logit; rw [hd_div, Finset.sum_mul]; congr 1
    exact Finset.sum_congr rfl fun d _ => by ring
  · exact EReal.add_bot _

theorem lg_real (j : Fin 256) (c : Fin 256) : lg W b p e (ix2 j c) = AttnMath.L I n (hd b p e c) (c % 128) j := by
  have hr := raw_real H b p e j c
  pointwise [lg]
  unfold AttnMath.L AttnMath.on
  by_cases h : (j : ℕ) < 128
  · rw [dif_pos h, H.first]
    by_cases hn : n = 0
    · rw [if_pos hn, if_neg (by omega)]; rfl
    · rw [if_neg hn]; refine Eq.trans (b := raw W b p e (ix2 ⟨j, by omega⟩ c)) rfl (hr.trans ?_)
      have : (128 ≤ (j : ℕ) ∨ 0 < n) := by omega
      simp only [this, and_true]
  · rw [dif_neg h]
    have e2 : (⟨128 + ((j : ℕ) - 128), by omega⟩ : Fin 256) = j := Fin.ext (by dsimp only; omega)
    rw [e2]; refine hr.trans ?_
    have : (128 ≤ (j : ℕ) ∨ 0 < n) := by omega
    simp only [this, and_true]

theorem snk_real (c : Fin 256) : snk W b p e (ix2 0 c) = ((I.sk (hd b p e c) : ℝ) : EReal) := by
  pointwise [snk]; exact H.sink b p e c

theorem top_real (c : Fin 256) : ∃ M : ℝ, top W b p e (ix2 0 c) = (M : EReal) := by
  pointwise [top]
  rw [snk_real H]
  have hlt : Finset.fold max (Ideal.ofBits .f32 4286578688#32) (fun x => lg W b p e (ix2 x c)) Finset.univ < ⊤ := by
    refine (Finset.fold_max_lt _).2 ⟨by simp [Ideal.ofBits, Ideal.ieee], fun x _ => ?_⟩
    rw [lg_real H]; unfold AttnMath.L; split
    · exact EReal.coe_lt_top _
    · exact bot_lt_top
  have hs := EReal.bot_lt_coe (I.sk (hd b p e c))
  exact ⟨_, (EReal.coe_toReal (max_lt hlt (EReal.coe_lt_top _)).ne (hs.trans_le (le_max_right _ _)).ne').symm⟩

/-- The weights of a tile's two heads. -/
theorem pr_real : A2 (pr W b p e) (fun j c => AttnMath.p I n (hd b p e c) (c % 128) j) := fun j c => by
  obtain ⟨M, hM⟩ := top_real H b p e c
  have hex : ∀ j : Fin 256, ex W b p e (ix2 j c) = ((AttnMath.w I n (hd b p e c) (c % 128) j * Real.exp (-M) : ℝ) : EReal) := fun j => by
    pointwise [ex]; rw [lg_real H, hM]; exact exp_L I _ _ _ _ M
  have hiv : iv W b p e (ix2 0 c) = ((1 / (den I n (hd b p e c) (c % 128) * Real.exp (-M)) : ℝ) : EReal) := by
    pointwise [iv]
    simp only [hex, snk_real H, hM, ← EReal.coe_sub, Ideal.exp_coe, coe_sum, ← EReal.coe_add, den_shift]
    rw [Ideal.div_coe (mul_pos (den_pos I _ _ _) (Real.exp_pos _)).ne', one_mul]
  pointwise [pr]; rw [hex, hiv, ← EReal.coe_mul, p_shift]

theorem av_real : A2 (av W b p e) (fun c l => ∑ j : Fin 256, AttnMath.p I n (hd b p e c) (c % 128) j * zv I (pos n j) (l / 64) (l % 64)) := fun c l => by
  pointwise [av]
  simp only [pr_real H b p e _ c, V_real H _ l, ← EReal.coe_mul, coe_sum]

/-- The rows of a tile's first and second head. -/
theorem ev_real : A2 (ev W b p e) (fun r l => ∑ j : Fin 256, AttnMath.p I n (8 * b.toNat + 4 * p.toNat + 2 * e.toNat) r j * zv I (pos n j) (l / 64) (l % 64)) := fun r l => by
  have h := av_real H b p e ⟨r, by omega⟩ l
  have e1 : hd b p e (r : ℕ) = 8 * b.toNat + 4 * p.toNat + 2 * e.toNat := by unfold hd; omega
  have e2 : (r : ℕ) % 128 = r := Nat.mod_eq_of_lt r.isLt
  dsimp only at h
  rw [e1, e2] at h
  pointwise [ev]
  exact h

theorem od_real : A2 (od W b p e) (fun r l => ∑ j : Fin 256, AttnMath.p I n (8 * b.toNat + 4 * p.toNat + 2 * e.toNat + 1) r j * zv I (pos n j) (l / 64) (l % 64)) := fun r l => by
  have h := av_real H b p e ⟨128 + r, by omega⟩ l
  have e1 : hd b p e (128 + r : ℕ) = 8 * b.toNat + 4 * p.toNat + 2 * e.toNat + 1 := by unfold hd; omega
  have e2 : (128 + r : ℕ) % 128 = r := by omega
  dsimp only at h
  rw [e1, e2] at h
  pointwise [od]
  exact h

omit H in
theorem oo_at (h r d : ℕ) (hr : r < 128) : oo I (128 * n + r) h d = ∑ j : Fin 256, AttnMath.p I n h r j * zv I (pos n j) (h / 8) d := by
  unfold oo
  have e1 : (128 * n + r) / 128 = n := by omega
  have e2 : (128 * n + r) % 128 = r := by omega
  rw [e1, e2]

theorem out_real : A2 (out W b p e) (fun r l => oo I (128 * n + r) (8 * b.toNat + 4 * p.toNat + 2 * e.toNat + l / 64) (l % 64)) := fun r l => by
  have he := ev_real H b p e r
  have ho := od_real H b p e r
  have hre := AttnKer.rot_real (ev_real H b p e) r l
  have hro := AttnKer.rot_real (od_real H b p e) r l
  have hl := l.isLt
  have hq : (8 * b.toNat + 4 * p.toNat + 2 * e.toNat + (l : ℕ) / 64) / 8 = b.toNat := by cases p <;> cases e <;> simp <;> omega
  have hm : ((l : ℕ) + 64) % 128 % 64 = l % 64 := by omega
  dsimp only
  rw [oo_at _ _ _ r.isLt, hq]
  cases b <;> simp only [out, Bool.false_eq_true, if_false, if_true, Bool.toNat_false, Bool.toNat_true, Nat.mul_zero, Nat.mul_one, Nat.zero_add] at he ho hre hro hq ⊢ <;> pointwise [k1_pay3] <;> rw [AttnKer.sel_lane] <;> by_cases h : (l : ℕ) < 64
  · rw [if_pos h, he]
    rw [Nat.div_eq_of_lt h, Nat.add_zero]
  · rw [if_neg h, hro]
    rw [hm, show ((l : ℕ) + 64) % 128 / 64 = 0 by omega, show (l : ℕ) / 64 = 1 by omega]
  · rw [if_pos h, hre]
    rw [hm, show ((l : ℕ) + 64) % 128 / 64 = 1 by omega, Nat.div_eq_of_lt h, Nat.add_zero]
  · rw [if_neg h, ho]
    rw [show (l : ℕ) / 64 = 1 by omega]

end Cert.FwdKer
-- ==== Proof.FwdReg.lean ====
/- The forward attention kernel over its whole grid: what its output holds, by the part's formulas, when its inputs hold the part's inputs; and the bias table before it. -/
module

public import proofs.«01_k».proof.Proof.FwdVal
public import proofs.«01_k».proof.Proof.AttnFin
public import proofs.«01_k».proof.Proof.AttnTab

@[expose] public section

set_option maxRecDepth 16384

noncomputable section

open Idealize.ShloMosaic Idealize.ShloMosaic.TcCoe

namespace Cert.FwdKer
open Cert.Reals Cert.AttnMath Cert.AttnBand Cert.FwdIdeal Cert.FwdIdeal.Gen
open Cert.AttnKer (A2 at' inq rg at_lt b_lt cover11 pay0 hot_count hot_pick)

variable (V : (c : Dev nD) → (b : Ref sig .tc) → Buf (Elt Ideal) ((c : Thread nD τ).loc b)) (c : Dev nD)

theorem idx0 : ∀ t : Fin cfg0.N, win0_0.index t = ![0, 0] ∧ win0_1.index t = ![0, t.val] ∧ win0_2.index t = ![0, t.val] :=
  (by decide +kernel : ∀ t : Fin grid0.N, _)
theorem t_lt0 (t : Fin cfg0.N) : t.val < 8 := lt_of_lt_of_eq t.isLt N_0

/-- The bias table. -/
theorem table {rb : ℕ → ℕ → ℝ} (hr : A2 (V c main_arg4 : FVec Ideal S32x16 .f32) rb) (hh : A2 (V c main_v54 : FVec Ideal S32x32768 .bf16) hot) :
    (dat0 V c).arrAt 2 cfg0.N = fun y : S16x32768.Idx => if near ((y 1 : ℕ) / 256) ((y 1 : ℕ) % 256) then ((rb (bucket (128 + (y 1 : ℕ) / 256 - (y 1 : ℕ) % 256)) (y 0) : ℝ) : EReal) else ⊥ := by
  refine (dat0 V c).arrAt_eq_of_covers 2 _ (by decide +kernel) fun t hf y => ?_
  have ht := t_lt0 t
  blk_simp
  rw [after0_2]
  have e0 : win0_2.index t 0 = 0 := congrFun (idx0 t).2.2 0
  have e1 : win0_2.index t 1 = t.val := congrFun (idx0 t).2.2 1
  rw [e0, e1, Nat.zero_mul, Nat.zero_add, Nat.mul_comm t.val]
  frame_out
  have h1 : A2 (iblk0 V c 1 t : FVec Ideal S32x4096 .bf16) fun b i => hot b (4096 * t.val + i) := fun b i => by
    refine Eq.trans ?_ (hh b ⟨4096 * t.val + i, by omega⟩)
    exact congrArg (V c main_v54) (by blk_ext [idx0 t])
  have h0 : A2 (iblk0 V c 0 t : FVec Ideal S32x16 .f32) rb := fun b h => by
    refine Eq.trans ?_ (hr b h)
    exact congrArg (V c main_arg4) (by blk_ext [idx0 t])
  refine (congrArg _ (eq_ix2 y)).trans ((pay0 h1 h0 (y 0) (y 1)).trans ?_)
  rw [hot_count, hot_pick fun b => rb b (y 0)]
  split <;> norm_num

/-- The arrays the kernel is called with hold the part's inputs. -/
structure Ent (I : In) : Prop where
  z : A2 (V c main_v59 : FVec Ideal S8192x2560 .f32) I.z
  qg : A2 (V c main_v0 : FVec Ideal S1x128 .f32) fun _ l => I.qg (l % 64)
  kg : A2 (V c main_v1 : FVec Ideal S1x128 .f32) fun _ l => I.kg (l % 64)
  sink : ∀ (a : Fin 2) (k : Fin 1024), (V c main_v4 : FVec Ideal S2x1x1024 .f32) (ix3 a 0 k) = ((I.sk (8 * a + k / 128) : ℝ) : EReal)
  bias : ∀ (a : Fin 2) (j : Fin 256) (k : Fin 1024), (V c main_v58 : FVec Ideal S2x256x1024 .f32) (ix3 a j k) =
    if (j : ℕ) ≤ 128 + k % 128 ∧ (k : ℕ) % 128 < j then ((I.rb (I.bk (128 + k % 128 - j)) (8 * a + k / 128) : ℝ) : EReal) else ⊥

theorem idx1 : ∀ t : Fin cfg1.N, (win1_0.index t = ![t.val, 2] ∧ win1_1.index t = ![t.val, 3] ∧ win1_2.index t = ![t.val - 1, 16] ∧ win1_3.index t = ![t.val, 16]
    ∧ win1_4.index t = ![t.val - 1, 17] ∧ win1_5.index t = ![t.val, 17] ∧ win1_6.index t = ![0, 0] ∧ win1_7.index t = ![0, 0] ∧ win1_8.index t = ![0, 0, 0] ∧ win1_9.index t = ![0, 0, 0]
    ∧ win1_10.index t = ![t.val, 0]) ∧ Scalar.cmpi .eq (BitVec.ofNat 32 ((grid1.coords t) 0).val) 0#32 = if t.val = 0 then 1#1 else 0#1 :=
  (by decide +kernel : ∀ t : Fin grid1.N, _)

theorem t_lt (t : Fin cfg1.N) : t.val < 64 := lt_of_lt_of_eq t.isLt N_1

section
variable {I : In} (H : Ent V c I) (t : Fin cfg1.N)
include H

theorem z_block (b : Bool) (r : Fin 128) (k : Fin 512) :
    ((if b then iblk1 V c 1 t else iblk1 V c 0 t : FVec Ideal S128x512 .f32) (ix2 r k) : EReal) = ((I.z (128 * t.val + r) (1024 + (512 * b.toNat + k)) : ℝ) : EReal) := by
  have ht := t_lt t
  refine Eq.trans ?_ (H.z ⟨128 * t.val + r, by omega⟩ ⟨1024 + (512 * b.toNat + k), by cases b <;> simp <;> omega⟩)
  cases b
  · exact congrArg (V c main_v59) (by blk_ext [idx1 t]; simp only [Bool.toNat_false]; omega)
  · exact congrArg (V c main_v59) (by blk_ext [idx1 t]; simp only [Bool.toNat_true]; omega)

theorem k0_block (r l : Fin 128) : (iblk1 V c 2 t (ix2 r l) : EReal) = ((I.z (128 * (t.val - 1) + r) (2048 + l) : ℝ) : EReal) := by
  have ht := t_lt t
  have e : ((cfg1.win 2).blk t).view.emb (ix2 r l) = ix2 (⟨128 * (t.val - 1) + r, by omega⟩ : Fin 8192) (⟨2048 + l, by omega⟩ : Fin 2560) := by blk_ext [idx1 t]
  exact (congrArg (V c main_v59) e).trans (H.z _ _)

theorem k1_block (r l : Fin 128) : (iblk1 V c 3 t (ix2 r l) : EReal) = ((I.z (128 * t.val + r) (2048 + l) : ℝ) : EReal) := by
  have ht := t_lt t
  have e : ((cfg1.win 3).blk t).view.emb (ix2 r l) = ix2 (⟨128 * t.val + r, by omega⟩ : Fin 8192) (⟨2048 + l, by omega⟩ : Fin 2560) := by blk_ext [idx1 t]
  exact (congrArg (V c main_v59) e).trans (H.z _ _)

theorem v0_block (r l : Fin 128) : (iblk1 V c 4 t (ix2 r l) : EReal) = ((I.z (128 * (t.val - 1) + r) (2176 + l) : ℝ) : EReal) := by
  have ht := t_lt t
  have e : ((cfg1.win 4).blk t).view.emb (ix2 r l) = ix2 (⟨128 * (t.val - 1) + r, by omega⟩ : Fin 8192) (⟨2176 + l, by omega⟩ : Fin 2560) := by blk_ext [idx1 t]
  exact (congrArg (V c main_v59) e).trans (H.z _ _)

theorem v1_block (r l : Fin 128) : (iblk1 V c 5 t (ix2 r l) : EReal) = ((I.z (128 * t.val + r) (2176 + l) : ℝ) : EReal) := by
  have ht := t_lt t
  have e : ((cfg1.win 5).blk t).view.emb (ix2 r l) = ix2 (⟨128 * t.val + r, by omega⟩ : Fin 8192) (⟨2176 + l, by omega⟩ : Fin 2560) := by blk_ext [idx1 t]
  exact (congrArg (V c main_v59) e).trans (H.z _ _)

theorem small_block :
    (∀ a l, (iblk1 V c 6 t (ix2 a l) : EReal) = ((I.qg ((l : Fin 128) % 64) : ℝ) : EReal)) ∧ (∀ a l, (iblk1 V c 7 t (ix2 a l) : EReal) = ((I.kg ((l : Fin 128) % 64) : ℝ) : EReal)) ∧
    (∀ (a : Fin 2) (k : Fin 1024), (iblk1 V c 8 t (ix3 a 0 k) : EReal) = ((I.sk (8 * a + k / 128) : ℝ) : EReal)) ∧
    (∀ (a : Fin 2) (j : Fin 256) (k : Fin 1024), (iblk1 V c 9 t (ix3 a j k) : EReal) =
      if (j : ℕ) ≤ 128 + k % 128 ∧ (k : ℕ) % 128 < j then ((I.rb (I.bk (128 + k % 128 - j)) (8 * a + k / 128) : ℝ) : EReal) else ⊥) := by
  refine ⟨fun a l => Eq.trans ?_ (H.qg a l), fun a l => Eq.trans ?_ (H.kg a l), fun a k => Eq.trans ?_ (H.sink a k), fun a j k => Eq.trans ?_ (H.bias a j k)⟩
  · exact congrArg (V c main_v0) (by blk_ext [idx1 t])
  · exact congrArg (V c main_v1) (by blk_ext [idx1 t])
  · exact congrArg (V c main_v4) (by blk_ext [idx1 t])
  · exact congrArg (V c main_v58) (by blk_ext [idx1 t])
end

/-- What a point of the grid loads. -/
abbrev ldAt (t : Fin cfg1.N) : Ld Ideal :=
  ld (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)

theorem two_lt (p e : Bool) (k : Fin 256) : 2 * at' p e + (k : ℕ) < 1024 := by cases p <;> cases e <;> simp [at'] <;> omega

/-- A load of the whole of a block. -/
theorem whole {m n : ℕ} {φ : EltTy} (X : Vec Ideal ⟨2, ![m, n]⟩ φ) (inb : ∀ a, (![0, 0] : Fin 2 → ℕ) a + (⟨2, ![m, n]⟩ : Shape).size a ≤ (⟨2, ![m, n]⟩ : Shape).size a) (r : Fin m) (l : Fin n) :
    View.ld X (Rect.unit (s := ⟨2, ![m, n]⟩) ![0, 0] (⟨2, ![m, n]⟩ : Shape).size inb) (ix2 r l) = X (ix2 r l) :=
  View.ld_unit_apply_of X _ _ inb (ix2 r l) (ix2 r l) (fun a => by fin_cases a <;> simp)

theorem holds {I : In} (H : Ent V c I) (t : Fin cfg1.N) : Holds I t.val (ldAt V c t) where
  first := (idx1 t).2
  q b p e r l := by
    have h := z_block V c H t b r ⟨at' p e + l, at_lt p e l⟩
    have e3 : 512 * b.toNat + (at' p e + (l : ℕ)) = 512 * b.toNat + 256 * p.toNat + (128 * e.toNat + l) := by unfold at'; omega
    dsimp only at h ⊢
    rw [e3] at h
    refine Eq.trans ?_ h
    exact View.ld_unit_apply_of (if b then iblk1 V c 1 t else iblk1 V c 0 t : Vec Ideal S128x512 .f32) ![0, at' p e] S128x128.size (inq p e) (ix2 r l) (ix2 r ⟨at' p e + l, at_lt p e l⟩) (fun a => by fin_cases a <;> simp)
  k0 r l := (whole _ _ r l).trans (k0_block V c H t r l)
  k1 r l := (whole _ _ r l).trans (k1_block V c H t r l)
  v0 r l := (whole _ _ r l).trans (v0_block V c H t r l)
  v1 r l := (whole _ _ r l).trans (v1_block V c H t r l)
  qg a l := (whole _ _ a l).trans ((small_block V c H t).1 a l)
  kg a l := (whole _ _ a l).trans ((small_block V c H t).2.1 a l)
  bias b p e j k := by
    refine (View.ld_unit_apply_of (iblk1 V c 9 t : Vec Ideal S2x256x1024 .f32) ![b.toNat, 0, 2 * at' p e] S1x256x256.size (inb b p e) (ix3 0 j k) (ix3 ⟨b.toNat, b_lt b⟩ j ⟨2 * at' p e + k, two_lt p e k⟩) (fun a => by fin_cases a <;> simp)).trans ?_
    refine ((small_block V c H t).2.2.2 _ _ _).trans ?_
    have e1 : (2 * at' p e + (k : ℕ)) % 128 = k % 128 := by unfold at'; omega
    have e2 : 8 * b.toNat + (2 * at' p e + (k : ℕ)) / 128 = hd b p e k := by unfold hd at'; omega
    dsimp only; rw [e1, e2]
  sink b p e k := by
    refine (View.ld_unit_apply_of (iblk1 V c 8 t : Vec Ideal S2x1x1024 .f32) ![b.toNat, 0, 2 * at' p e] S1x1x256.size (ins b p e) (ix3 0 0 k) (ix3 ⟨b.toNat, b_lt b⟩ 0 ⟨2 * at' p e + k, two_lt p e k⟩) (fun a => by fin_cases a <;> simp)).trans ?_
    refine ((small_block V c H t).2.2.1 _ _).trans ?_
    have e2 : 8 * b.toNat + (2 * at' p e + (k : ℕ)) / 128 = hd b p e k := by unfold hd at'; omega
    dsimp only; rw [e2]

/-- The eight stores of a point together. -/
theorem point {I : In} {n : ℕ} {W : Ld Ideal} (hW : Holds I n W) (r : Fin 128) (k : Fin 1024) :
    View.canon (pieces W) (ix2 r k) = ((oo I (128 * n + r) (k / 64) (k % 64) : ℝ) : EReal) := by
  let G : S128x1024.Idx → EReal := fun y => ((oo I (128 * n + (y 0 : ℕ)) ((y 1 : ℕ) / 64) ((y 1 : ℕ) % 64) : ℝ) : EReal)
  have hp : ∀ b p e, ∀ x : (rg b p e).shape.Idx, out W b p e x = G ((rg b p e).emb x) := fun b p e x => by
    have h := out_real hW b p e (x 0) (x 1)
    have e0 : (((rg b p e).emb x 0 : Fin _) : ℕ) = 0 + x 0 := Rect.idx_unit_val _ _ _ x 0
    have e1 : (((rg b p e).emb x 1 : Fin _) : ℕ) = 512 * b.toNat + at' p e + x 1 := Rect.idx_unit_val _ _ _ x 1
    have a1 : (512 * b.toNat + at' p e + (x 1 : ℕ)) / 64 = 8 * b.toNat + 4 * p.toNat + 2 * e.toNat + x 1 / 64 := by unfold at'; omega
    have a2 : (512 * b.toNat + at' p e + (x 1 : ℕ)) % 64 = x 1 % 64 := by unfold at'; omega
    refine (congrArg (out W b p e) (eq_ix2 x)).trans (h.trans ?_)
    dsimp only [G]
    rw [e0, e1, a1, a2, Nat.zero_add]
  have hm : ∀ b p e, (⟨rg b p e, out W b p e⟩ : View.Piece (Elt Ideal) S128x1024 .bf16) ∈ pieces W := fun b p e => by
    cases b <;> cases p <;> cases e <;> simp [pieces]
  obtain ⟨b, p, e, hy⟩ := cover11 r k
  have hc := View.canon_append_of_piecesOf G [] (pieces W) ⟨hp _ _ _, hp _ _ _, hp _ _ _, hp _ _ _, hp _ _ _, hp _ _ _, hp _ _ _, hp _ _ _, trivial⟩ (ix2 r k)
    ⟨_, hm b p e, hy⟩
  rw [List.append_nil] at hc
  exact hc

/-- The kernel's output. -/
theorem arr10 {I : In} (H : Ent V c I) : (dat1 V c).arrAt 10 cfg1.N = fun y : S8192x1024.Idx => ((oo I (y 0) ((y 1 : ℕ) / 64) ((y 1 : ℕ) % 64) : ℝ) : EReal) := by
  refine (dat1 V c).arrAt_eq_of_covers 10 _ (by decide +kernel) fun t hf y => ?_
  have ht := t_lt t
  blk_simp
  rw [after1_10, out_eq]
  have e0 : win1_10.index t 0 = t.val := congrFun (idx1 t).1.2.2.2.2.2.2.2.2.2.2 0
  have e1 : win1_10.index t 1 = 0 := congrFun (idx1 t).1.2.2.2.2.2.2.2.2.2.2 1
  rw [e0, e1, Nat.zero_mul, Nat.zero_add, Nat.mul_comm t.val]
  refine (congrArg _ (eq_ix2 y)).trans ((point (holds V c H t) (y 0) (y 1)).trans ?_)
  rfl

end Cert.FwdKer

end
-- ==== Proof.FwdHot.lean ====
/- The forward attention's bucket table and one-hot matrix, as its host lines make them: the same lines as the gradient's, over this program's arrays. -/
module

public import proofs.«01_k».proof.Proof.AttnHot
public import proofs.«01_k».proof.Proof.Gen.FwdIdeal.Frame
import Idealize.ShloMosaic.Lib.Pipeline.ValueKit
public import Idealize.ShloMosaic.Lib.StableHlo.RunRead

@[expose] public section

set_option maxRecDepth 16384

noncomputable section

namespace Cert.FwdHot

open Idealize.ShloMosaic Idealize.ShloMosaic.TcCoe Idealize.ShloMosaic.ValueKit Idealize.ShloMosaic.Tactic
open Cert.FwdIdeal Cert.FwdIdeal.Gen Cert.AttnBand
open Cert.AttnHot (low_congr high_congr mark_at)

variable (V : Valuation τ sig (Elt Ideal))

theorem joined (l₁ l₂ : List (HloOp τ sig (Elt Ideal))) : StableHlo.after (l₁ ++ l₂) V = StableHlo.after l₂ (StableHlo.after l₁ V) := by
  induction l₁ generalizing V with
  | nil => rfl
  | cons op l ih => exact ih _

/-- What a line's first `n` operations leave in an array which the others do not write. -/
theorem keep {ops : List (HloOp τ sig (Elt Ideal))} (n : ℕ) {r : Ref sig .tc} (W : List (Ref sig .tc))
    (h : (ops.drop n).map HloOp.writes = W.map fun w => {Proc.devRef (τ := τ) .tc w}) (hr : r ∉ W) :
    StableHlo.upto ops V n (Proc.devRef .tc r) = StableHlo.after ops V (Proc.devRef .tc r) := by
  have e := StableHlo.after_of_writes_sub (ops.drop n) (StableHlo.upto ops V n) (StableHlo.forall_writes_sub_of_map h) hr
  rw [← e, StableHlo.upto, ← joined, List.take_append_drop]

theorem s0_0 : StableHlo.after hostOps0 V (Proc.devRef .tc main_v5) = fun _ => 16#32 := by
  funext i; entry_read; rfl
theorem s0_1 : StableHlo.after hostOps0 V (Proc.devRef .tc main_v6) = fun _ => 17#32 := by
  funext i; entry_read; rfl
theorem s0_2 : StableHlo.after hostOps0 V (Proc.devRef .tc main_v7) = fun _ => 18#32 := by
  funext i; entry_read; rfl
theorem s0_3 : StableHlo.after hostOps0 V (Proc.devRef .tc main_v8) = fun _ => 19#32 := by
  funext i; entry_read; rfl
theorem s0_4 : StableHlo.after hostOps0 V (Proc.devRef .tc main_v9) = fun _ => 20#32 := by
  funext i; entry_read; rfl
theorem s0_5 : StableHlo.after hostOps0 V (Proc.devRef .tc main_v10) = fun _ => 21#32 := by
  funext i; entry_read; rfl
theorem s0_6 : StableHlo.after hostOps0 V (Proc.devRef .tc main_v11) = fun _ => 22#32 := by
  funext i; entry_read; rfl
theorem s0_7 : StableHlo.after hostOps0 V (Proc.devRef .tc main_v12) = fun _ => 23#32 := by
  funext i; entry_read; rfl
theorem s0_8 : StableHlo.after hostOps0 V (Proc.devRef .tc main_v13) = fun _ => 24#32 := by
  funext i; entry_read; rfl
theorem s0_9 : StableHlo.after hostOps0 V (Proc.devRef .tc main_v14) = fun _ => 25#32 := by
  funext i; entry_read; rfl
theorem s0_10 : StableHlo.after hostOps0 V (Proc.devRef .tc main_v15) = fun _ => 26#32 := by
  funext i; entry_read; rfl
theorem s0_11 : StableHlo.after hostOps0 V (Proc.devRef .tc main_v16) = fun _ => 27#32 := by
  funext i; entry_read; rfl
theorem s0_12 : StableHlo.after hostOps0 V (Proc.devRef .tc main_v17) = fun _ => 28#32 := by
  funext i; entry_read; rfl
theorem s0_13 : StableHlo.after hostOps0 V (Proc.devRef .tc main_v18) = fun _ => 29#32 := by
  funext i; entry_read; rfl
theorem s0_14 : StableHlo.after hostOps0 V (Proc.devRef .tc main_v19) = fun _ => 30#32 := by
  funext i; entry_read; rfl
theorem s0_15 : StableHlo.after hostOps0 V (Proc.devRef .tc main_v20) = fun _ => 31#32 := by
  funext i; entry_read; rfl
theorem s0_16 : StableHlo.after hostOps0 V (Proc.devRef .tc main_v21) = iotaInDim S16 32 0 := by
  funext i; entry_read; rfl
theorem low0 : StableHlo.after hostOps0 V (Proc.devRef .tc main_v22) = low := by
  rw [StableHlo.after_last_write (i := 38) (hostOps0_W.drop 39) rfl rfl (by decide), StableHlo.nary_result']
  exact low_congr ((keep V 38 (hostOps0_W.drop 38) rfl (by decide)).trans (s0_16 V)) ((keep V 38 (hostOps0_W.drop 38) rfl (by decide)).trans (s0_0 V)) ((keep V 38 (hostOps0_W.drop 38) rfl (by decide)).trans (s0_1 V)) ((keep V 38 (hostOps0_W.drop 38) rfl (by decide)).trans (s0_2 V)) ((keep V 38 (hostOps0_W.drop 38) rfl (by decide)).trans (s0_3 V)) ((keep V 38 (hostOps0_W.drop 38) rfl (by decide)).trans (s0_4 V)) ((keep V 38 (hostOps0_W.drop 38) rfl (by decide)).trans (s0_5 V)) ((keep V 38 (hostOps0_W.drop 38) rfl (by decide)).trans (s0_6 V)) ((keep V 38 (hostOps0_W.drop 38) rfl (by decide)).trans (s0_7 V))
theorem tab0 : StableHlo.after hostOps0 V (Proc.devRef .tc main_v23) = tab := by
  rw [StableHlo.after_last_write (i := 39) (hostOps0_W.drop 40) rfl rfl (by decide), StableHlo.nary_result']
  exact high_congr ((keep V 39 (hostOps0_W.drop 39) rfl (by decide)).trans (low0 V)) ((keep V 39 (hostOps0_W.drop 39) rfl (by decide)).trans (s0_8 V)) ((keep V 39 (hostOps0_W.drop 39) rfl (by decide)).trans (s0_9 V)) ((keep V 39 (hostOps0_W.drop 39) rfl (by decide)).trans (s0_10 V)) ((keep V 39 (hostOps0_W.drop 39) rfl (by decide)).trans (s0_11 V)) ((keep V 39 (hostOps0_W.drop 39) rfl (by decide)).trans (s0_12 V)) ((keep V 39 (hostOps0_W.drop 39) rfl (by decide)).trans (s0_13 V)) ((keep V 39 (hostOps0_W.drop 39) rfl (by decide)).trans (s0_14 V)) ((keep V 39 (hostOps0_W.drop 39) rfl (by decide)).trans (s0_15 V))
theorem word0 (r : Fin 128) (j : Fin 256) : StableHlo.after hostOps0 V (Proc.devRef .tc main_v32) (ix2 r j) = word r j := by
  entry_read; pointwise [word]
theorem near0 (r : Fin 128) (j : Fin 256) : StableHlo.after hostOps0 V (Proc.devRef .tc main_v37) (ix2 r j) = if near r j then 1#1 else 0#1 := by
  rw [← near_word]; entry_read; pointwise [word]
theorem zero0 : StableHlo.after hostOps0 V (Proc.devRef .tc main_c_18) ix0 = 0#32 := by
  entry_read; rfl
theorem top0 : StableHlo.after hostOps0 V (Proc.devRef .tc main_c_19) ix0 = 127#32 := by
  entry_read; rfl
theorem clip0 (r : Fin 128) (j : Fin 256) : StableHlo.after hostOps0_1 V (Proc.devRef .tc main_v38) (ix2 r j)
    = IntOp.minsi (V (Proc.devRef .tc main_c_19) ix0) (IntOp.maxsi (V (Proc.devRef .tc main_c_18) ix0) (V (Proc.devRef .tc main_v32) (ix2 r j))) := by
  entry_read
  simp only [StableHlo.TRef.toBuf, StableHlo.TRef.ofBuf, cast_eq]
  pointwise
theorem read0 (r : Fin 128) (j : Fin 256) (w : BitVec 32) (hw : V (Proc.devRef .tc main_v38) (ix2 r j) = IntOp.minsi 127#32 (IntOp.maxsi 0#32 w)) :
    StableHlo.after hostOps0_2 V (Proc.devRef .tc main_v45) (ix2 r j) = (V (Proc.devRef .tc main_v23) : S128.Idx → BitVec 32) (ix1 ⟨min (held w).toInt.toNat 127, by omega⟩) := by
  entry_read
  refine (take_at _ _ r j).trans ?_
  refine congrArg (V (Proc.devRef .tc main_v23) : S128.Idx → BitVec 32) (congrArg ix1 (Fin.ext ?_))
  refine congrArg (fun x : BitVec 32 => min x.toInt.toNat 127) ?_
  pointwise [held]
  rw [hw]
theorem off0 : StableHlo.after hostOps0_2 V (Proc.devRef .tc main_c_22) ix0 = 4294967295#32 := by
  entry_read; rfl
theorem sel0 (r : Fin 128) (j : Fin 256) : StableHlo.after hostOps0_3 V (Proc.devRef .tc main_v46) (ix2 r j)
    = Scalar.select (V (Proc.devRef .tc main_v37) (ix2 r j)) (V (Proc.devRef .tc main_v45) (ix2 r j) : BitVec 32) (V (Proc.devRef .tc main_c_22) ix0) := by
  entry_read
  simp only [StableHlo.TRef.toBuf, StableHlo.TRef.ofBuf, cast_eq]
  pointwise
theorem eq0 (b : Fin 32) (i : Fin 32768) : StableHlo.after hostOps0_4 V (Proc.devRef .tc main_v52) (ix2 b i)
    = IntOp.cmpi .eq (V (Proc.devRef .tc main_v46) (ix2 ⟨i / 256, by omega⟩ ⟨i % 256, by omega⟩) : BitVec 32) (BitVec.ofNat 32 b) := by
  entry_read; pointwise
theorem one0 : StableHlo.after hostOps0_4 V (Proc.devRef .tc main_cst) ix0 = (1 : EReal) := by
  entry_read
  show Ideal.ofBits .f32 0x3F800000#32 = _
  simp [Ideal.ofBits, Ideal.ieee]; rw [← EReal.coe_mul]; norm_num
theorem nil0 : StableHlo.after hostOps0_4 V (Proc.devRef .tc main_cst_23) ix0 = (0 : EReal) := by
  entry_read
  show Ideal.ofBits .f32 0x00000000#32 = _
  simp [Ideal.ofBits, Ideal.ieee]
theorem put0 (b : Fin 32) (i : Fin 32768) : StableHlo.after hostOps0_6 (StableHlo.after hostOps0_5 V) (Proc.devRef .tc main_v54) (ix2 b i)
    = Scalar.select (V (Proc.devRef .tc main_v52) (ix2 b i)) (V (Proc.devRef .tc main_cst) ix0 : EReal) (V (Proc.devRef .tc main_cst_23) ix0) := by
  entry_read
  simp only [StableHlo.TRef.toBuf, StableHlo.TRef.ofBuf, cast_eq]
  pointwise
/-- The one-hot matrix after its seven lines. -/
theorem hot0 (b : Fin 32) (i : Fin 32768) :
    StableHlo.after hostOps0_6 (StableHlo.after hostOps0_5 (StableHlo.after hostOps0_4 (StableHlo.after hostOps0_3 (StableHlo.after hostOps0_2 (StableHlo.after hostOps0_1 (StableHlo.after hostOps0 V))))))
      (Proc.devRef .tc main_v54) (ix2 b i) = ((hot b i : ℝ) : EReal) := by
  have k1 (U : Valuation τ sig (Elt Ideal)) (r : Ref sig .tc) (h : r ∉ hostOps0_1_W) := StableHlo.after_of_writes_sub hostOps0_1 U hostOps0_1_writes h
  have k2 (U : Valuation τ sig (Elt Ideal)) (r : Ref sig .tc) (h : r ∉ hostOps0_2_W) := StableHlo.after_of_writes_sub hostOps0_2 U hostOps0_2_writes h
  rw [put0, one0, nil0, eq0, sel0]
  rw [k2 _ main_v37 (by decide), k1 _ main_v37 (by decide), near0, off0]
  rw [read0 _ _ _ (word (⟨i / 256, by omega⟩ : Fin 128) (⟨i % 256, by omega⟩ : Fin 256)) (by rw [clip0, top0, zero0, word0]), k1 _ main_v23 (by decide), tab0]
  rw [mark_at _ _ rfl rfl rfl rfl]
  exact hot_word b i _ _ rfl rfl

end Cert.FwdHot

end
-- ==== Proof.FwdRef.lean ====
/- The forward attention's reference: its weights are those of the gradient's reference, stage by stage the same operations. -/
module

public import proofs.«01_k».proof.Proof.Gen.FwdRefIdeal.Read
public import proofs.«01_k».proof.Proof.AttnRefC

@[expose] public section

set_option maxRecDepth 16384

noncomputable section

open Idealize.ShloMosaic

namespace Cert.FwdRef
open Cert.Reals Cert.AttnMath Cert.AttnKer Cert.AttnRefIdeal

variable (x0 : FVec Ideal S8192x6400 .f32) (x1 x2 : FVec Ideal S1x64 .f32) (x3 : FVec Ideal S1x16 .f32) (x4 : FVec Ideal S32x16 .f32)

theorem same_v : Cert.FwdRefIdeal.Read.val_main_v94 (F := Ideal) x0 = Cert.AttnRefIdeal.Read.val_main_v102 (F := Ideal) x0 := rfl

theorem same_logit : Cert.FwdRefIdeal.Read.val_main_v142 (F := Ideal) x0 x1 x2 x3 x4 = Cert.AttnRefIdeal.Read.val_main_v151 (F := Ideal) x0 x1 x2 x3 x4 := rfl

theorem same_p : Cert.FwdRefIdeal.Read.val_main_v154 (F := Ideal) x0 x1 x2 x3 x4 = Cert.AttnRefIdeal.Read.val_main_v180 (F := Ideal) x0 x1 x2 x3 x4 := rfl

variable {x0 x1 x2 x3 x4} {x5 : FVec Ideal S8192x1024 .f32} {I : In} (H : Args x0 x1 x2 x3 x4 x5 I)
include H

/-- The weights times the values, by block, key head, lane, head of the group and row. -/
theorem av_at (n : Fin 64) (a : Fin 2) (d : Fin 64) (g : Fin 8) (r : Fin 128) :
    (Cert.FwdRefIdeal.Read.val_main_v155 (F := Ideal) x0 x1 x2 x3 x4 (ix6 0 n a d g r) : EReal)
      = ((∑ j : Fin 256, AttnMath.p I n (8 * a + g) r j * zv I (pos n j) a d : ℝ) : EReal) := by
  have hp := Cert.AttnRef.p_at H n a g r
  have hv := fun j => Cert.AttnRef.v_band H n j a d
  rw [← same_p] at hp
  rw [← same_v] at hv
  unfold Cert.FwdRefIdeal.Read.val_main_v155
  generalize Cert.FwdRefIdeal.Read.val_main_v154 (F := Ideal) x0 x1 x2 x3 x4 = P at hp ⊢
  generalize Cert.FwdRefIdeal.Read.val_main_v94 (F := Ideal) x0 = B at hv ⊢
  pointwise
  simp only [hp, hv, ← EReal.coe_mul, coe_sum]
  refine congrArg _ (Finset.sum_congr rfl fun j _ => ?_)
  split
  · exact mul_comm _ _
  · rename_i h
    rw [zero_mul, AttnMath.p, w, if_neg fun x => h x.2, zero_div, zero_mul]

/-- The reference's result. -/
theorem ref_at (s : Fin 8192) (c : Fin 1024) :
    (Cert.FwdRefIdeal.Read.val_main_v159 (F := Ideal) x0 x1 x2 x3 x4 (ix2 s c) : EReal)
      = ((∑ j : Fin 256, AttnMath.p I ((s : ℕ) / 128) ((c : ℕ) / 64) ((s : ℕ) % 128) j * zv I (pos ((s : ℕ) / 128) j) ((c : ℕ) / 64 / 8) ((c : ℕ) % 64) : ℝ) : EReal) := by
  have hs := s.isLt
  have hc := c.isLt
  have h := av_at H ⟨s / 128, by omega⟩ ⟨c / 64 / 8, by omega⟩ ⟨c % 64, by omega⟩ ⟨c / 64 % 8, by omega⟩ ⟨s % 128, by omega⟩
  have e : 8 * ((c : ℕ) / 64 / 8) + (c : ℕ) / 64 % 8 = (c : ℕ) / 64 := by omega
  dsimp only at h
  rw [e] at h
  unfold Cert.FwdRefIdeal.Read.val_main_v159 Cert.FwdRefIdeal.Read.val_main_v158 Cert.FwdRefIdeal.Read.val_main_v157 Cert.FwdRefIdeal.Read.val_main_v156
  generalize Cert.FwdRefIdeal.Read.val_main_v155 (F := Ideal) x0 x1 x2 x3 x4 = A at h ⊢
  pointwise
  refine Eq.trans (congrArg A ?_) h
  have e2 : (⟨(c : ℕ) / 512, by omega⟩ : Fin 2) = ⟨(c : ℕ) / 64 / 8, by omega⟩ := Fin.ext (by dsimp only; omega)
  rw [e2]

end Cert.FwdRef

end
-- ==== Proof.FwdEnd.lean ====
/- The forward attention's host lines, and both sides together: the kernel's result at the end of a run is the reference's. -/
module

public import proofs.«01_k».proof.Proof.FwdReg
public import proofs.«01_k».proof.Proof.FwdHot
public import proofs.«01_k».proof.Proof.FwdRun
public import proofs.«01_k».proof.Proof.FwdRef
public import proofs.«01_k».proof.Proof.Gen.Pre_fwd_finite
import Idealize.ShloMosaic.Lib.Pipeline.ValueKit

@[expose] public section

set_option maxRecDepth 16384

noncomputable section

open Idealize.ShloMosaic Idealize.ShloMosaic.TcCoe Idealize.ShloMosaic.ValueKit Idealize.ShloMosaic.Tactic

namespace Cert.FwdKer
open Cert.Reals Cert.AttnBand Cert.AttnMath Cert.FwdIdeal Cert.FwdIdeal.Gen
open Cert.AttnKer (A2 Args args_of_real)

section
variable (U : Valuation τ sig (Elt Ideal))

theorem qg_line (a : Fin 1) (l : Fin 128) : (StableHlo.after hostOps0 U (Proc.devRef .tc main_v0) (ix2 a l) : EReal) = U (Proc.devRef .tc main_arg1) (ix2 0 ⟨l % 64, by omega⟩) := by
  entry_read
  pointwise
  have hl := l.isLt
  by_cases h : (l : ℕ) < 64
  · rw [dif_pos h]; exact congrArg (U (Proc.devRef .tc main_arg1)) (congrArg (ix2 0) (Fin.ext (Nat.mod_eq_of_lt h).symm))
  · rw [dif_neg h]; exact congrArg (U (Proc.devRef .tc main_arg1)) (congrArg (ix2 0) (Fin.ext (by show (l : ℕ) - 64 = l % 64; omega)))

theorem kg_line (a : Fin 1) (l : Fin 128) : (StableHlo.after hostOps0 U (Proc.devRef .tc main_v1) (ix2 a l) : EReal) = U (Proc.devRef .tc main_arg2) (ix2 0 ⟨l % 64, by omega⟩) := by
  entry_read
  pointwise
  have hl := l.isLt
  by_cases h : (l : ℕ) < 64
  · rw [dif_pos h]; exact congrArg (U (Proc.devRef .tc main_arg2)) (congrArg (ix2 0) (Fin.ext (Nat.mod_eq_of_lt h).symm))
  · rw [dif_neg h]; exact congrArg (U (Proc.devRef .tc main_arg2)) (congrArg (ix2 0) (Fin.ext (by show (l : ℕ) - 64 = l % 64; omega)))

theorem sink_line (a : Fin 2) (k : Fin 1024) : (StableHlo.after hostOps0 U (Proc.devRef .tc main_v4) (ix3 a 0 k) : EReal) = U (Proc.devRef .tc main_arg3) (ix2 0 ⟨8 * a + k / 128, by omega⟩) := by
  entry_read
  pointwise
  simp only [Nat.mul_comm (a : ℕ) 8]

theorem bias_line (a : Fin 2) (j : Fin 256) (k : Fin 1024) :
    (StableHlo.after hostOps1 U (Proc.devRef .tc main_v58) (ix3 a j k) : EReal) = U (Proc.devRef .tc main_v55) (ix2 ⟨8 * a + k / 128, by omega⟩ ⟨256 * (k % 128) + j, by omega⟩) := by
  entry_read
  pointwise
  simp only [Nat.mul_comm (a : ℕ) 8, Nat.mul_comm ((k : ℕ) % 128) 256]

theorem z_line (s : Fin 8192) (l : Fin 2560) :
    (StableHlo.after hostOps1 U (Proc.devRef .tc main_v59) (ix2 s l) : EReal) = U (Proc.devRef .tc main_arg0) (ix2 s ⟨l, by omega⟩) := by
  entry_read
  pointwise
end

variable (m : (ℓ : Loc nD τ sig) → Buf (Elt Ideal) ℓ) (ρ : Dev nD → PrngReg) (c : Dev nD)

/-- The arrays of the arguments. -/
abbrev a0 : FVec Ideal S8192x6400 .f32 := m ((c : Thread nD τ).loc main_arg0)
abbrev a1 : FVec Ideal S1x64 .f32 := m ((c : Thread nD τ).loc main_arg1)
abbrev a2 : FVec Ideal S1x64 .f32 := m ((c : Thread nD τ).loc main_arg2)
abbrev a3 : FVec Ideal S1x16 .f32 := m ((c : Thread nD τ).loc main_arg3)
abbrev a4 : FVec Ideal S32x16 .f32 := m ((c : Thread nD τ).loc main_arg4)

/-- What the first line leaves stays until the attention kernel. -/
theorem first_line (r : Ref sig .tc) (h : r ∉ hostOps0_1_W ∧ r ∉ hostOps0_2_W ∧ r ∉ hostOps0_3_W ∧ r ∉ hostOps0_4_W ∧ r ∉ hostOps0_5_W ∧ r ∉ hostOps0_6_W ∧ r ∉ hostOps1_W)
    (h0 : ∀ w, Pipeline.arrRef spec0 w ≠ r) : W9 m ρ c (Proc.devRef .tc r) = StableHlo.after hostOps0 (W0 m ρ c) (Proc.devRef .tc r) := by
  rw [W9_of m ρ c r h.2.2.2.2.2.2, W8_of_ne m ρ c r h0, W7_of m ρ c r h.2.2.2.2.2.1, W6_of m ρ c r h.2.2.2.2.1, W5_of m ρ c r h.2.2.2.1, W4_of m ρ c r h.2.2.1, W3_of m ρ c r h.2.1, W2_of m ρ c r h.1]

theorem ent {I : In} {x5 : FVec Ideal S8192x1024 .f32} (H : Args (a0 m c) (a1 m c) (a2 m c) (a3 m c) (a4 m c) x5 I) : Ent (V9 m ρ) c I where
  z s l := (z_line (W8 m ρ c) s l).trans ((congrFun (W8_args m ρ c main_arg0 (by decide)) _).trans (H.z s ⟨l, by omega⟩))
  qg a l := (congrFun (first_line m ρ c main_v0 (by decide) (by decide)) _).trans ((qg_line _ a l).trans (H.qg 0 _))
  kg a l := (congrFun (first_line m ρ c main_v1 (by decide) (by decide)) _).trans ((kg_line _ a l).trans (H.kg 0 _))
  sink a k := (congrFun (first_line m ρ c main_v4 (by decide) (by decide)) _).trans ((sink_line _ a k).trans (H.sk 0 _))
  bias a j k := by
    refine (bias_line (W8 m ρ c) a j k).trans ((congrFun (W8_arr m ρ c 2) _).trans ((congrFun (table (V7 m ρ) c (rb := I.rb) ?_ ?_) _).trans ?_))
    · intro b h; exact (congrFun (W7_args m ρ c main_arg4 (by decide)) _).trans (H.rb b h)
    · intro b i; exact FwdHot.hot0 _ b i
    · have e1 : (256 * ((k : ℕ) % 128) + (j : ℕ)) / 256 = (k : ℕ) % 128 := by omega
      have e2 : (256 * ((k : ℕ) % 128) + (j : ℕ)) % 256 = j := by omega
      show (if near ((256 * ((k : ℕ) % 128) + (j : ℕ)) / 256) ((256 * ((k : ℕ) % 128) + (j : ℕ)) % 256) then
        ((I.rb (bucket (128 + (256 * ((k : ℕ) % 128) + (j : ℕ)) / 256 - (256 * ((k : ℕ) % 128) + (j : ℕ)) % 256)) (8 * (a : ℕ) + (k : ℕ) / 128) : ℝ) : EReal) else ⊥) = _
      rw [e1, e2, H.bk]

/-- Arguments that the precondition calls finite are real numbers; a cotangent, which this part has none of, is taken as nought. -/
theorem real (hpre : ∀ c : Dev nD, Cert.Pre_fwd_finite.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = (fun _ => 1#1)) : ∃ I, Args (a0 m c) (a1 m c) (a2 m c) (a3 m c) (a4 m c) (fun _ => ((0 : ℝ) : EReal)) I := by
  have h := congrFun (hpre c) (fun i => i.elim0)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact args_of_real (of_all_lt _ _ h0) (of_all_lt _ _ h1) (of_all_lt _ _ h2) (of_all_lt _ _ h3) (of_all_lt _ _ h4) ⟨fun _ => 0, rfl⟩

/-- The attention's output. -/
theorem result {I : In} {x5 : FVec Ideal S8192x1024 .f32} (H : Args (a0 m c) (a1 m c) (a2 m c) (a3 m c) (a4 m c) x5 I) :
    W10 m ρ c (Proc.devRef .tc main_v60) = Cert.FwdRefIdeal.Read.val_main_v159 (F := Ideal) (a0 m c) (a1 m c) (a2 m c) (a3 m c) (a4 m c) := by
  refine ((W10_arr m ρ c 10).trans (arr10 (V9 m ρ) c (ent m ρ c H))).trans (funext fun y => ?_)
  rw [eq_ix2 y]
  exact (FwdRef.ref_at H (y 0) (y 1)).symm

end Cert.FwdKer

end
-- ==== Proof.Rmsf.lean ====
/- The norm and modulation of the forward pass: each block of rows the kernel stores is the reference's. -/
module

public import proofs.«01_k».proof.Proof.Gen.RmsfIdeal.Frame
public import proofs.«01_k».proof.Proof.Gen.RmsfRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RmsfIdeal.Grad
open Cert.RmsfIdeal Cert.RmsfIdeal.Gen

variable (m : (ℓ : Loc nD τ sig) → Buf (Elt Ideal) ℓ)

theorem idx : ∀ t : Fin cfg0.N, win0_0.index t = ![t.val, 0]
    ∧ win0_1.index t = ![0, 0]
    ∧ win0_2.index t = ![0, 0]
    ∧ win0_3.index t = ![0, 0]
    ∧ win0_4.index t = ![t.val, 0] :=
  (by decide +kernel : ∀ t : Fin grid0.N, _)

open Cert.RmsfRefIdeal.Read in
/-- The normalised and modulated rows. -/
theorem final4 (c : Dev nD) : (dats m 0 c).arrAt 4 cfg0.N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_cst_2, val_main_v12, val_main_v13, val_main_v14, val_main_v15, val_main_v16, val_main_v17, val_main_v18]
  blk_point [iblk, V, idx t]

end Cert.RmsfIdeal.Grad
end
-- ==== Proof.Up.lean ====
/- The gate of the forward FFN, with the product that feeds it. -/
module

public import proofs.«01_k».proof.Proof.Gen.UpIdeal.Frame
public import proofs.«01_k».proof.Proof.Gen.UpRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpIdeal.Grad
open Cert.UpIdeal Cert.UpIdeal.Gen

variable (m : (ℓ : Loc nD τ sig) → Buf (Elt Ideal) ℓ)

theorem idx : ∀ t : Fin cfg0.N, win0_0.index t = ![t.val / 4, 0]
    ∧ win0_1.index t = ![t.val % 4 / 2, 0, t.val % 4 % 2]
    ∧ win0_2.index t = ![2 + t.val % 4 / 2, 0, t.val % 4 % 2]
    ∧ win0_3.index t = ![0, t.val / 4, t.val % 4]
    ∧ win0_4.index t = ![t.val / 4, t.val % 4] :=
  (by decide +kernel : ∀ t : Fin grid0.N, _)

/-- The weight as the kernel reads it: four slots of columns. -/
theorem slots (c : Dev nD) (i : S4x2048x2816.Idx) : V m c main_v3 i
    = m ((c : Thread nD τ).loc main_arg1) (ix2 (i 1) ⟨(i 0 : ℕ) * 2816 + (i 2 : ℕ), by have a := (i 0).isLt; have b := (i 2).isLt; simp at a b; omega⟩) := by
  entry_read
  pointwise
  blk_ext

open Cert.UpRefIdeal.Read in
/-- The two halves of the product, stacked. -/
theorem final3 (c : Dev nD) : (dats m 0 c).arrAt 3 cfg0.N
    = val_main_v6 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  unfold out0_3
  canon_tiles x h
  · pointwise [k0_pay1, k0_pay3, k0_pay5, val_main_v0, val_main_v1, val_main_v2, val_main_v3, val_main_v4, val_main_v5, val_main_v6]
    blk_simp [idx t]
    pointwise [h0, h1, h2]
    simp only [iblk, slots]
    blk_point [iblk, V, idx t, h1, h2]
  · pointwise [k0_pay1, k0_pay2, k0_pay4, val_main_v0, val_main_v1, val_main_v2, val_main_v3, val_main_v4, val_main_v5, val_main_v6]
    blk_simp [idx t]
    pointwise [h0, h1, h2]
    simp only [iblk, slots]
    blk_point [iblk, V, idx t, h1, h2]

open Cert.UpRefIdeal.Read in
/-- The gated activation. -/
theorem final4 (c : Dev nD) : (dats m 0 c).arrAt 4 cfg0.N
    = val_main_v9 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  frame_out
  pointwise [k0_pay1, k0_pay2, k0_pay3, k0_pay6, val_main_v0, val_main_v1, val_main_v2, val_main_call0_v0, val_main_call0_v1, val_main_call0_cst, val_main_call0_v2, val_main_call0_v3, val_main_call0_cst_0, val_main_call0_v4, val_main_call0_v5, val_main_v7, val_main_v8, val_main_v9]
  simp only [Ideal.logistic, iblk, slots]
  blk_point [iblk, V, idx t]

end Cert.UpIdeal.Grad
end
-- ==== Proof.Gate.lean ====
/- The gated merge of the two mixers in the forward pass, with the products that feed it. -/
module

public import proofs.«01_k».proof.Proof.Gen.GateIdeal.Frame
public import proofs.«01_k».proof.Proof.Gen.GateRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Grad
open Cert.GateIdeal Cert.GateIdeal.Gen

variable (m : (ℓ : Loc nD τ sig) → Buf (Elt Ideal) ℓ)

theorem idx : ∀ t : Fin cfg0.N, win0_0.index t = ![t.val / 8, 0]
    ∧ win0_1.index t = ![t.val / 8, 0]
    ∧ win0_2.index t = ![t.val % 8 / 2, 0, t.val % 8 % 2]
    ∧ win0_3.index t = ![t.val % 8 / 2, 0, t.val % 8 % 2]
    ∧ win0_4.index t = ![t.val / 8, 9 + t.val % 8]
    ∧ win0_5.index t = ![t.val / 8, 17 + t.val % 8]
    ∧ win0_6.index t = ![t.val / 8, t.val % 8]
    ∧ win0_7.index t = ![0, t.val / 8, t.val % 8] :=
  (by decide +kernel : ∀ t : Fin grid0.N, _)

/-- The two weights as the kernel reads them: four slots of columns each. -/
theorem slots_pool (c : Dev nD) (i : S4x1024x512.Idx) : V m c main_v4 i
    = m ((c : Thread nD τ).loc main_arg2) (ix2 (i 1) ⟨(i 0 : ℕ) * 512 + (i 2 : ℕ), by have a := (i 0).isLt; have b := (i 2).isLt; simp at a b; omega⟩) := by
  entry_read
  pointwise
  blk_ext

theorem slots_attn (c : Dev nD) (i : S4x1024x512.Idx) : V m c main_v7 i
    = m ((c : Thread nD τ).loc main_arg3) (ix2 (i 1) ⟨(i 0 : ℕ) * 512 + (i 2 : ℕ), by have a := (i 0).isLt; have b := (i 2).isLt; simp at a b; omega⟩) := by
  entry_read
  pointwise
  blk_ext

open Cert.GateRefIdeal.Read in
/-- The merged rows. -/
theorem final6 (c : Dev nD) : (dats m 0 c).arrAt 6 cfg0.N
    = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  pointwise [k0_pay1, k0_pay2, k0_pay3, val_main_v0, val_main_v1, val_main_v2, val_main_v3, val_main_v4, val_main_v5, val_main_cst, val_main_v6, val_main_v7, val_main_cst_0, val_main_v8, val_main_v9, val_main_v10, val_main_v11, val_main_v12, val_main_cst_1, val_main_v13, val_main_v14, val_main_cst_2, val_main_v15, val_main_v16, val_main_v17, val_main_v18, val_main_v19]
  simp only [Ideal.logistic, iblk, slots_pool, slots_attn]
  blk_point [iblk, V, idx t]

open Cert.GateRefIdeal.Read in
/-- The two products, stacked. -/
theorem final7 (c : Dev nD) : (dats m 0 c).arrAt 7 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  unfold out0_7
  canon_tiles x h
  · pointwise [k0_pay2, k0_pay5, val_main_v2, val_main_v3, val_main_v20, val_main_v21, val_main_v22, val_main_v23]
    blk_simp [idx t]
    pointwise [h0, h1, h2]
    simp only [iblk, slots_attn]
    blk_point [iblk, V, idx t, h1, h2]
  · pointwise [k0_pay1, k0_pay4, val_main_v2, val_main_v3, val_main_v20, val_main_v21, val_main_v22, val_main_v23]
    blk_simp [idx t]
    pointwise [h0, h1, h2]
    simp only [iblk, slots_pool]
    blk_point [iblk, V, idx t, h1, h2]

end Cert.GateIdeal.Grad
end
-- ==== Proof.Pmix.lean ====
/- The pool's group map and scale in the forward pass. -/
module

public import proofs.«01_k».proof.Proof.Gen.PmixIdeal.Frame
public import proofs.«01_k».proof.Proof.Gen.PmixRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PmixIdeal.Grad
open Cert.PmixIdeal Cert.PmixIdeal.Gen

variable (m : (ℓ : Loc nD τ sig) → Buf (Elt Ideal) ℓ)

theorem idx : ∀ t : Fin cfg0.N, win0_0.index t = ![t.val / 4, t.val % 4]
    ∧ win0_1.index t = ![t.val % 4, 0, 0]
    ∧ win0_2.index t = ![0, t.val % 4]
    ∧ win0_3.index t = ![t.val / 4, t.val % 4] :=
  (by decide +kernel : ∀ t : Fin grid0.N, _)

open Cert.PmixRefIdeal.Read in
/-- The mixed and scaled groups. -/
theorem final3 (c : Dev nD) : (dats m 0 c).arrAt 3 cfg0.N
    = val_main_v8 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, val_main_v0, val_main_v1, val_main_v2, val_main_v3, val_main_v4, val_main_v5, val_main_v6, val_main_v7, val_main_v8]
  refine congrArg₂ (· * ·) (Finset.sum_congr rfl fun k _ => ?_) ?_
  · rw [mul_comm]
    blk_point [iblk, V, idx t]
  · blk_point [iblk, V, idx t]

end Cert.PmixIdeal.Grad
end
-- ==== Proof.Res.lean ====
/- The gated residual of the forward FFN, with the product that feeds it. -/
module

public import proofs.«01_k».proof.Proof.Gen.ResIdeal.Frame
public import proofs.«01_k».proof.Proof.Gen.ResRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ResIdeal.Grad
open Cert.ResIdeal Cert.ResIdeal.Gen

variable (m : (ℓ : Loc nD τ sig) → Buf (Elt Ideal) ℓ)

theorem idx : ∀ t : Fin cfg0.N, win0_0.index t = ![t.val / 4, 0]
    ∧ win0_1.index t = ![0, t.val % 4]
    ∧ win0_2.index t = ![t.val / 4, t.val % 4]
    ∧ win0_3.index t = ![0, t.val % 4]
    ∧ win0_4.index t = ![t.val / 4, t.val % 4]
    ∧ win0_5.index t = ![t.val / 4, t.val % 4] :=
  (by decide +kernel : ∀ t : Fin grid0.N, _)

/-- The row of coefficients, halved on the host. -/
theorem coef (c : Dev nD) (i : S1x2048.Idx) : V m c main_v3 i = Ideal.ofBits .f32 1056964608#32 * m ((c : Thread nD τ).loc main_arg3) i := by
  entry_read
  pointwise

open Cert.ResRefIdeal.Read in
/-- The residual's sum. -/
theorem final4 (c : Dev nD) : (dats m 0 c).arrAt 4 cfg0.N
    = val_main_v5 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, k0_pay2, val_main_v0, val_main_cst, val_main_v1, val_main_v2, val_main_v3, val_main_v4, val_main_v5]
  blk_simp [iblk]
  rw [show (V m c main_v3 : S1x2048.Idx → EReal) = fun i => Ideal.ofBits .f32 1056964608#32 * m ((c : Thread nD τ).loc main_arg3) i from funext (coef m c)]
  blk_point [iblk, V, idx t]
  have e : (win0_3.blk t).view.emb (ix2 0 (y 1)) = (ix2 0 ((win0_4.blk t).view.emb y 1) : S1x2048.Idx) := by blk_ext [idx t]
  rw [e]

open Cert.ResRefIdeal.Read in
/-- The product. -/
theorem final5 (c : Dev nD) : (dats m 0 c).arrAt 5 cfg0.N
    = val_main_v6 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  frame_out
  pointwise [k0_pay1, k0_pay3, val_main_v0, val_main_v6]
  blk_point [iblk, V, idx t]

end Cert.ResIdeal.Grad
end
-- ==== Proof.WinMath.lean ====
/- The mathematics of the pool's windows: a sum over the last rows as a difference of running sums. -/
module

public import proofs.«01_k».proof.Proof.PoolMath

@[expose] public section

set_option maxRecDepth 16384

noncomputable section

open Idealize.ShloMosaic

namespace Cert.WinMath

/-- The rows behind sixteen rows of zeros. -/
def ahead (D : ℕ → ℕ → ℝ) (n l : ℕ) : ℝ := if n < 16 then 0 else D (n - 16) l

/-- The sum over the `w` rows that end at row `t`, none before the first. -/
def ws (D : ℕ → ℕ → ℝ) (w t l : ℕ) : ℝ := ∑ k ∈ Finset.range w, ahead D (t + (16 - k)) l

/-- The window's mean less the row itself. -/
def wm (D : ℕ → ℕ → ℝ) (w t l : ℕ) : ℝ := ws D w t l / ((min (t + 1) w : ℕ) : ℝ) - D t l

/-- The running sum up to a row, without it. -/
def run (D : ℕ → ℕ → ℝ) (i l : ℕ) : ℝ := ∑ n ∈ Finset.range i, D n l

/-- A window's sum is the difference of two running sums. -/
theorem between (D : ℕ → ℕ → ℝ) (t l w : ℕ) (hw : w ≤ 16) : run D (t + 1) l - run D (t + 1 - w) l = ws D w t l := by
  induction w with
  | zero => rw [Nat.sub_zero, sub_self]; rfl
  | succ w ih =>
    rw [ws, Finset.sum_range_succ]
    have i := ih (by omega)
    rw [ws] at i
    rw [← i]
    by_cases h : w ≤ t
    · have e : t + 1 - w = (t + 1 - (w + 1)) + 1 := by omega
      have d : run D (t + 1 - w) l = run D (t + 1 - (w + 1)) l + D (t + 1 - (w + 1)) l := by
        rw [e]; exact Finset.sum_range_succ _ _
      have a : ahead D (t + (16 - w)) l = D (t + 1 - (w + 1)) l := by
        rw [ahead, if_neg (by omega)]; exact congrArg (fun n => D n l) (by omega)
      rw [d, a]; ring
    · have e : t + 1 - (w + 1) = t + 1 - w := by omega
      rw [e, ahead, if_pos (by omega), add_zero]

/-- A window that reaches over all rows before holds the running sum. -/
theorem prefix_sum (f : ℕ → ℝ) (s : ℕ) (hs : s < 8192) :
    ∑ n ∈ Finset.range 8192, (if s + n < 8191 then 0 else f (s + n - 8191)) = ∑ n ∈ Finset.range (s + 1), f n := by
  have a := Finset.sum_range_add (fun n => if s + n < 8191 then 0 else f (s + n - 8191)) (8191 - s) (s + 1)
  rw [show 8191 - s + (s + 1) = 8192 by omega] at a
  rw [a, Finset.sum_eq_zero fun n h => ?_, zero_add]
  · refine Finset.sum_congr rfl fun n _ => ?_
    rw [if_neg (by omega)]
    exact congrArg f (by omega)
  · have := Finset.mem_range.1 h
    exact if_pos (by omega)

end Cert.WinMath
end
-- ==== Proof.WinRef.lean ====
/- The pool's forward reference: its running sums, the rows it reads of them, and its result at a row and a column. -/
module

public import proofs.«01_k».proof.Proof.Gen.WinRefIdeal.Read
public import proofs.«01_k».proof.Proof.WinMath
public import Idealize.ShloMosaic.Lib.Pointwise

@[expose] public section

set_option maxRecDepth 16384

noncomputable section

open Idealize.ShloMosaic

namespace Cert.WinRef
open Cert.Reals Cert.WinRefIdeal Cert.WinRefIdeal.Read Cert.WinMath Cert.PoolMath

/-- The shape of the window that reaches from a row to before the first one. -/
abbrev Wb : Shape := ⟨4, ![1, 8192, 1, 1]⟩

/-- A place of the window is its row. -/
def rows : Wb.Idx ≃ Fin 8192 where
  toFun k := k 1
  invFun n := ix4 0 n 0 0
  left_inv k := by
    refine funext (Fin.forall_fin_succ.2 ⟨?_, Fin.forall_fin_succ.2 ⟨rfl, Fin.forall_fin_succ.2 ⟨?_, Fin.forall_fin_succ.2 ⟨?_, fun a => a.elim0⟩⟩⟩⟩)
    · exact (Subsingleton.elim (α := Fin 1) _ _)
    · exact (Subsingleton.elim (α := Fin 1) _ _)
    · exact (Subsingleton.elim (α := Fin 1) _ _)
  right_inv _ := rfl

/-- The window sum over the rows up to an index. -/
theorem earlier_rows (x : S1x8192x4x256.Idx → EReal) (z : EReal) (hz : z = 0) (h : S1x8192x4x256.ReduceWindows ![1, 8192, 1, 1] ![1, 1, 1, 1] ![0, 8191, 0, 0] ![0, 0, 0, 0] S1x8192x4x256)
    (s : Fin 8192) (g : Fin 4) (c : Fin 256) {f : ℕ → ℝ} (hf : ∀ t : Fin 8192, x (ix4 0 t g c) = (f t : EReal)) :
    Ideal.hostReduceWindowAdd ![1, 8192, 1, 1] ![1, 1, 1, 1] ![0, 8191, 0, 0] ![0, 0, 0, 0] h x z (ix4 0 s g c)
      = ((∑ n ∈ Finset.range ((s : ℕ) + 1), f n : ℝ) : EReal) := by
  subst hz
  unfold Ideal.hostReduceWindowAdd Host.reduceWindow
  refine (fold_sum _ _ _).trans ?_
  rw [zero_add, ← Fin.sum_univ_def, ← Equiv.sum_comp Wb.rowMajor, ← prefix_sum f s s.isLt, Finset.sum_range, ← coe_sum, ← Equiv.sum_comp rows]
  refine Finset.sum_congr rfl fun k _ => ?_
  simp only [Equiv.symm_apply_apply]
  have k0 : (k 0 : ℕ) < 1 := (k 0).isLt
  have k1 : (k 1 : ℕ) < 8192 := (k 1).isLt
  have k2 : (k 2 : ℕ) < 1 := (k 2).isLt
  have k3 : (k 3 : ℕ) < 1 := (k 3).isLt
  have hs := s.isLt
  show _ = ((if (s : ℕ) + (k 1 : ℕ) < 8191 then 0 else f ((s : ℕ) + (k 1 : ℕ) - 8191) : ℝ) : EReal)
  by_cases hin : (s : ℕ) + (k 1 : ℕ) < 8191
  · rw [if_pos hin]
    refine (dif_neg fun p => ?_).trans rfl
    have p1 : 8191 ≤ (s : ℕ) * 1 + (k 1 : ℕ) := (p 1).1
    omega
  · rw [if_neg hin]
    have p : ∀ a : Fin 4, (![0, 8191, 0, 0] : Fin 4 → ℕ) a ≤ (ix4 (0 : Fin 1) s g c a : ℕ) * (![1, 1, 1, 1] : Fin 4 → ℕ) a + (k a : ℕ)
        ∧ (ix4 (0 : Fin 1) s g c a : ℕ) * (![1, 1, 1, 1] : Fin 4 → ℕ) a + (k a : ℕ) - (![0, 8191, 0, 0] : Fin 4 → ℕ) a < S1x8192x4x256.size a := by
      refine Fin.forall_fin_succ.2 ⟨⟨Nat.zero_le _, ?_⟩, Fin.forall_fin_succ.2 ⟨⟨?_, ?_⟩, Fin.forall_fin_succ.2 ⟨⟨Nat.zero_le _, ?_⟩, Fin.forall_fin_succ.2 ⟨⟨Nat.zero_le _, ?_⟩, fun a => a.elim0⟩⟩⟩⟩
      · show 0 * 1 + (k 0 : ℕ) - 0 < 1; omega
      · show 8191 ≤ (s : ℕ) * 1 + (k 1 : ℕ); omega
      · show (s : ℕ) * 1 + (k 1 : ℕ) - 8191 < 8192; omega
      · show (g : ℕ) * 1 + (k 2 : ℕ) - 0 < 4; omega
      · show (c : ℕ) * 1 + (k 3 : ℕ) - 0 < 256; omega
    refine (dif_pos p).trans ((congrArg x (funext fun a => Fin.ext ?_)).trans (hf ⟨(s : ℕ) + (k 1 : ℕ) - 8191, by omega⟩))
    match a with
    | ⟨0, _⟩ => show 0 * 1 + (k 0 : ℕ) - 0 = 0; omega
    | ⟨1, _⟩ => show (s : ℕ) * 1 + (k 1 : ℕ) - 8191 = (s : ℕ) + (k 1 : ℕ) - 8191; omega
    | ⟨2, _⟩ => show (g : ℕ) * 1 + (k 2 : ℕ) - 0 = g; omega
    | ⟨3, _⟩ => show (c : ℕ) * 1 + (k 3 : ℕ) - 0 = c; omega

/-- The gather's dimensions, under a short name. -/
abbrev gd : GatherDims S1x8193x4x256 S8192x2 S1x8192x256 := gather_S1x8193x4x256_S8192x2_S1x8192x256_02_12_n_n_12_1_111256

/-- Reading a row of a group at the words that name them. -/
theorem pick (x : S1x8193x4x256.Idx → EReal) (idx : IVec S8192x2 32) (t : Fin 8192) (c : Fin 256) {i : ℕ} {g : Fin 4} (hi : i < 8193)
    (h0 : (idx (ix2 t 0)).toInt = (i : ℤ)) (h1 : (idx (ix2 t 1)).toInt = (g : ℤ)) :
    Host.gather gd x idx (ix3 0 t c) = x (ix4 0 ⟨i, hi⟩ g c) := by
  have e0 : (GatherDims.siIdx gd (ix3 0 t c) ⟨0, by decide⟩ : S8192x2.Idx) = ix2 t 0 := by
    funext b; match b with
    | ⟨0, _⟩ => rfl
    | ⟨1, _⟩ => rfl
  have e1 : (GatherDims.siIdx gd (ix3 0 t c) ⟨1, by decide⟩ : S8192x2.Idx) = ix2 t 1 := by
    funext b; match b with
    | ⟨0, _⟩ => rfl
    | ⟨1, _⟩ => rfl
  refine congrArg x (funext fun a => Fin.ext ?_)
  have hg := g.isLt
  match a with
  | ⟨0, _⟩ => rfl
  | ⟨1, _⟩ =>
    refine (Eq.trans rfl (congrArg (fun y => min (idx y).toInt.toNat 8192) e0)).trans ?_
    dsimp only
    rw [h0]
    show min i 8192 = i
    omega
  | ⟨2, _⟩ =>
    refine (Eq.trans rfl (congrArg (fun y => min (idx y).toInt.toNat 3) e1)).trans ?_
    dsimp only
    rw [h1]
    show min (g : ℕ) 3 = g
    omega
  | ⟨3, _⟩ => exact Nat.zero_add _

/-- The reference's window sum, with exact additions. -/
theorem window_sum (A : FVec Ideal S1x8192x4x256 .f32) :
    Host.reduceWindowAdd ![1, 8192, 1, 1] ![1, 1, 1, 1] ![0, 8191, 0, 0] ![0, 0, 0, 0] A (val_main_call0_call0_v0 (F := Ideal))
        Gen.reduceWindows_S1x8192x4x256_S1x8192x4x256_w1s1p0_0_w8192s1p8191_0_w1s1p0_0_w1s1p0_0 Gen.h_S_
      = Ideal.hostReduceWindowAdd ![1, 8192, 1, 1] ![1, 1, 1, 1] ![0, 8191, 0, 0] ![0, 0, 0, 0]
        Gen.reduceWindows_S1x8192x4x256_S1x8192x4x256_w1s1p0_0_w8192s1p8191_0_w1s1p0_0_w1s1p0_0 A 0 := by
  have z : (val_main_call0_call0_v0 (F := Ideal) (Shape.Idx.first Gen.h_S_) : EReal) = 0 := by
    pointwise [val_main_call0_call0_v0, val_main_call0_call0_cst]
  rw [← z]
  unfold Host.reduceWindowAdd
  rw [Ideal.hostReduceWindowAdd_def]

variable {x0 : FVec Ideal S8192x6400 .f32} {D : ℕ → ℕ → ℝ} (H : ∀ (t : Fin 8192) (l : Fin 6400), x0 (ix2 t l) = ((D t l : ℝ) : EReal))

include H in
theorem grouped (t : Fin 8192) (g : Fin 4) (c : Fin 256) : (val_main_v1 (F := Ideal) x0 (ix4 0 t g c) : EReal) = ((D t ((g : ℕ) * 256 + c) : ℝ) : EReal) := by
  pointwise [val_main_v0, val_main_v1]
  refine Eq.trans ?_ (H t ⟨(g : ℕ) * 256 + c, by omega⟩)
  blk_ext

include H in
/-- The running sums, nought before the first row. -/
theorem sums (i : Fin 8193) (g : Fin 4) (c : Fin 256) : (val_main_v4 (F := Ideal) x0 (ix4 0 i g c) : EReal)
    = ((run D i ((g : ℕ) * 256 + c) : ℝ) : EReal) := by
  have e := fun t => grouped H t g c
  unfold val_main_v4 val_main_v3 val_main_v2
  generalize val_main_v1 (F := Ideal) x0 = A at e ⊢
  rw [window_sum A]
  have q := fun s => earlier_rows A 0 rfl Gen.reduceWindows_S1x8192x4x256_S1x8192x4x256_w1s1p0_0_w8192s1p8191_0_w1s1p0_0_w1s1p0_0 s g c (f := fun n => D n ((g : ℕ) * 256 + c)) e
  generalize Ideal.hostReduceWindowAdd ![1, 8192, 1, 1] ![1, 1, 1, 1] ![0, 8191, 0, 0] ![0, 0, 0, 0] Gen.reduceWindows_S1x8192x4x256_S1x8192x4x256_w1s1p0_0_w8192s1p8191_0_w1s1p0_0_w1s1p0_0 A 0 = B at q
  pointwise [val_main_cst]
  by_cases h : (i : ℕ) < 1
  · have z : (i : ℕ) = 0 := by omega
    rw [dif_pos h, run, z]
    rfl
  · rw [dif_neg h]
    refine (q _).trans ?_
    rw [run]
    refine congrArg (fun n : ℕ => ((∑ k ∈ Finset.range n, D k ((g : ℕ) * 256 + c) : ℝ) : EReal)) ?_
    dsimp only
    omega

/-- A window's mean less the row, from the running sums at its ends, the row's count and the row. -/
theorem mean {w : ℕ} (t l : ℕ) (ht : t < 8192) (h0 : 0 < w) (hw : w ≤ 16) {a b d : EReal} (ha : a = ((run D (t + 1) l : ℝ) : EReal))
    (hb : b = ((run D (t + 1 - w) l : ℝ) : EReal)) (hd : d = ((D t l : ℝ) : EReal)) :
    Ideal.div (a - b) (FloatOps.sitofp (F := Ideal) FTy.f32 (IntOp.minsi (IntOp.addi 1#32 (BitVec.ofNat 32 t)) (BitVec.ofNat 32 w))) - d = ((wm D w t l : ℝ) : EReal) := by
  have e : a - b = ((ws D w t l : ℝ) : EReal) := by rw [ha, hb, ← EReal.coe_sub, between D t l w hw]
  rw [quot e (one_add t) (by omega) h0 hw, hd, ← EReal.coe_sub]
  rfl

/-! The four groups of columns, whose windows hold 2, 4, 8 and 16 rows. -/

theorem low0 (t : Fin 8192) : (val_main_v27 (F := Ideal) (ix2 t 0) : BitVec 32).toInt = (((t : ℕ) + 1 - 2 : ℕ) : ℤ) := by
  unfold val_main_v27 val_main_v26 val_main_v25 val_main_v24 val_main_v23 val_main_v22 val_main_v21 val_main_v20 val_main_v19 val_main_v18 val_main_v11 val_main_v10 val_main_v9 val_main_v8 val_main_v7 val_main_v6 val_main_v5
  pointwise [val_main_c, val_main_c_0, val_main_c_1, val_main_c_3, val_main_c_4, val_main_c_5]
  exact low t 2 t.isLt (by omega) rfl

theorem group0 (t : Fin 8192) : (val_main_v27 (F := Ideal) (ix2 t 1) : BitVec 32).toInt = ((0 : Fin 4) : ℤ) := by
  unfold val_main_v27 val_main_v26 val_main_v25 val_main_v24 val_main_v23
  generalize val_main_v22 (F := Ideal) = A
  pointwise [val_main_c_5]
  rfl

include H in
theorem mean0 (t : Fin 8192) (c : Fin 256) : (val_main_v34 (F := Ideal) x0 (ix3 0 t c) : EReal) = ((wm D 2 t (0 * 256 + c) : ℝ) : EReal) := by
  have a : val_main_v4 (F := Ideal) x0 (ix4 0 ⟨(t : ℕ) + 1, by omega⟩ 0 c) = ((run D ((t : ℕ) + 1) (0 * 256 + c) : ℝ) : EReal) := sums H _ 0 c
  have b := (pick (val_main_v4 (F := Ideal) x0) val_main_v27 t c (by omega) (low0 t) (group0 t)).trans (sums H _ 0 c)
  have d : val_main_v1 (F := Ideal) x0 (ix4 0 t 0 c) = ((D t (0 * 256 + c) : ℝ) : EReal) := grouped H t 0 c
  unfold val_main_v34 val_main_v33 val_main_v32 val_main_v31 val_main_v30 val_main_v29 val_main_v28 val_main_v17 val_main_v16 val_main_v15 val_main_v14 val_main_v13 val_main_v12 val_main_v7 val_main_v6 val_main_v5
  generalize Host.gather gd (val_main_v4 (F := Ideal) x0) val_main_v27 = B at b ⊢
  generalize val_main_v4 (F := Ideal) x0 = A at a ⊢
  generalize val_main_v1 (F := Ideal) x0 = E at d ⊢
  pointwise [val_main_c, val_main_c_2]
  simp only [Nat.add_comm 1 (t : ℕ)]
  refine (mean t (0 * 256 + c) t.isLt (by omega) (by omega) a b d).trans ?_
  rw [Nat.zero_mul, Nat.zero_add]

theorem low1 (t : Fin 8192) : (val_main_v54 (F := Ideal) (ix2 t 0) : BitVec 32).toInt = (((t : ℕ) + 1 - 4 : ℕ) : ℤ) := by
  unfold val_main_v54 val_main_v53 val_main_v52 val_main_v51 val_main_v50 val_main_v49 val_main_v48 val_main_v47 val_main_v46 val_main_v45 val_main_v38 val_main_v37 val_main_v36 val_main_v35 val_main_v7 val_main_v6 val_main_v5
  pointwise [val_main_c, val_main_c_6, val_main_c_7, val_main_c_9, val_main_c_10, val_main_c_11]
  exact low t 4 t.isLt (by omega) rfl

theorem group1 (t : Fin 8192) : (val_main_v54 (F := Ideal) (ix2 t 1) : BitVec 32).toInt = ((1 : Fin 4) : ℤ) := by
  unfold val_main_v54 val_main_v53 val_main_v52 val_main_v51 val_main_v50
  generalize val_main_v49 (F := Ideal) = A
  pointwise [val_main_c_11]
  rfl

include H in
theorem mean1 (t : Fin 8192) (c : Fin 256) : (val_main_v61 (F := Ideal) x0 (ix3 0 t c) : EReal) = ((wm D 4 t (1 * 256 + c) : ℝ) : EReal) := by
  have a : val_main_v4 (F := Ideal) x0 (ix4 0 ⟨(t : ℕ) + 1, by omega⟩ 1 c) = ((run D ((t : ℕ) + 1) (1 * 256 + c) : ℝ) : EReal) := sums H _ 1 c
  have b := (pick (val_main_v4 (F := Ideal) x0) val_main_v54 t c (by omega) (low1 t) (group1 t)).trans (sums H _ 1 c)
  have d : val_main_v1 (F := Ideal) x0 (ix4 0 t 1 c) = ((D t (1 * 256 + c) : ℝ) : EReal) := grouped H t 1 c
  unfold val_main_v61 val_main_v60 val_main_v59 val_main_v58 val_main_v57 val_main_v56 val_main_v55 val_main_v44 val_main_v43 val_main_v42 val_main_v41 val_main_v40 val_main_v39 val_main_v7 val_main_v6 val_main_v5
  generalize Host.gather gd (val_main_v4 (F := Ideal) x0) val_main_v54 = B at b ⊢
  generalize val_main_v4 (F := Ideal) x0 = A at a ⊢
  generalize val_main_v1 (F := Ideal) x0 = E at d ⊢
  pointwise [val_main_c, val_main_c_8]
  simp only [Nat.add_comm 1 (t : ℕ)]
  exact mean t (1 * 256 + c) t.isLt (by omega) (by omega) a b d

theorem low2 (t : Fin 8192) : (val_main_v81 (F := Ideal) (ix2 t 0) : BitVec 32).toInt = (((t : ℕ) + 1 - 8 : ℕ) : ℤ) := by
  unfold val_main_v81 val_main_v80 val_main_v79 val_main_v78 val_main_v77 val_main_v76 val_main_v75 val_main_v74 val_main_v73 val_main_v72 val_main_v65 val_main_v64 val_main_v63 val_main_v62 val_main_v7 val_main_v6 val_main_v5
  pointwise [val_main_c, val_main_c_12, val_main_c_13, val_main_c_15, val_main_c_16, val_main_c_17]
  exact low t 8 t.isLt (by omega) rfl

theorem group2 (t : Fin 8192) : (val_main_v81 (F := Ideal) (ix2 t 1) : BitVec 32).toInt = ((2 : Fin 4) : ℤ) := by
  unfold val_main_v81 val_main_v80 val_main_v79 val_main_v78 val_main_v77
  generalize val_main_v76 (F := Ideal) = A
  pointwise [val_main_c_17]
  rfl

include H in
theorem mean2 (t : Fin 8192) (c : Fin 256) : (val_main_v88 (F := Ideal) x0 (ix3 0 t c) : EReal) = ((wm D 8 t (2 * 256 + c) : ℝ) : EReal) := by
  have a : val_main_v4 (F := Ideal) x0 (ix4 0 ⟨(t : ℕ) + 1, by omega⟩ 2 c) = ((run D ((t : ℕ) + 1) (2 * 256 + c) : ℝ) : EReal) := sums H _ 2 c
  have b := (pick (val_main_v4 (F := Ideal) x0) val_main_v81 t c (by omega) (low2 t) (group2 t)).trans (sums H _ 2 c)
  have d : val_main_v1 (F := Ideal) x0 (ix4 0 t 2 c) = ((D t (2 * 256 + c) : ℝ) : EReal) := grouped H t 2 c
  unfold val_main_v88 val_main_v87 val_main_v86 val_main_v85 val_main_v84 val_main_v83 val_main_v82 val_main_v71 val_main_v70 val_main_v69 val_main_v68 val_main_v67 val_main_v66 val_main_v7 val_main_v6 val_main_v5
  generalize Host.gather gd (val_main_v4 (F := Ideal) x0) val_main_v81 = B at b ⊢
  generalize val_main_v4 (F := Ideal) x0 = A at a ⊢
  generalize val_main_v1 (F := Ideal) x0 = E at d ⊢
  pointwise [val_main_c, val_main_c_14]
  simp only [Nat.add_comm 1 (t : ℕ)]
  exact mean t (2 * 256 + c) t.isLt (by omega) (by omega) a b d

theorem low3 (t : Fin 8192) : (val_main_v108 (F := Ideal) (ix2 t 0) : BitVec 32).toInt = (((t : ℕ) + 1 - 16 : ℕ) : ℤ) := by
  unfold val_main_v108 val_main_v107 val_main_v106 val_main_v105 val_main_v104 val_main_v103 val_main_v102 val_main_v101 val_main_v100 val_main_v99 val_main_v92 val_main_v91 val_main_v90 val_main_v89 val_main_v7 val_main_v6 val_main_v5
  pointwise [val_main_c, val_main_c_18, val_main_c_19, val_main_c_21, val_main_c_22, val_main_c_23]
  exact low t 16 t.isLt (by omega) rfl

theorem group3 (t : Fin 8192) : (val_main_v108 (F := Ideal) (ix2 t 1) : BitVec 32).toInt = ((3 : Fin 4) : ℤ) := by
  unfold val_main_v108 val_main_v107 val_main_v106 val_main_v105 val_main_v104
  generalize val_main_v103 (F := Ideal) = A
  pointwise [val_main_c_23]
  rfl

include H in
theorem mean3 (t : Fin 8192) (c : Fin 256) : (val_main_v115 (F := Ideal) x0 (ix3 0 t c) : EReal) = ((wm D 16 t (3 * 256 + c) : ℝ) : EReal) := by
  have a : val_main_v4 (F := Ideal) x0 (ix4 0 ⟨(t : ℕ) + 1, by omega⟩ 3 c) = ((run D ((t : ℕ) + 1) (3 * 256 + c) : ℝ) : EReal) := sums H _ 3 c
  have b := (pick (val_main_v4 (F := Ideal) x0) val_main_v108 t c (by omega) (low3 t) (group3 t)).trans (sums H _ 3 c)
  have d : val_main_v1 (F := Ideal) x0 (ix4 0 t 3 c) = ((D t (3 * 256 + c) : ℝ) : EReal) := grouped H t 3 c
  unfold val_main_v115 val_main_v114 val_main_v113 val_main_v112 val_main_v111 val_main_v110 val_main_v109 val_main_v98 val_main_v97 val_main_v96 val_main_v95 val_main_v94 val_main_v93 val_main_v7 val_main_v6 val_main_v5
  generalize Host.gather gd (val_main_v4 (F := Ideal) x0) val_main_v108 = B at b ⊢
  generalize val_main_v4 (F := Ideal) x0 = A at a ⊢
  generalize val_main_v1 (F := Ideal) x0 = E at d ⊢
  pointwise [val_main_c, val_main_c_20]
  simp only [Nat.add_comm 1 (t : ℕ)]
  exact mean t (3 * 256 + c) t.isLt (by omega) (by omega) a b d

include H in
/-- The reference's result at a row and a column. -/
theorem value (s : Fin 8192) (l : Fin 1024) : (val_main_v122 (F := Ideal) x0 (ix2 s l) : EReal) = ((wm D (2 ^ ((l : ℕ) / 256 + 1)) s l : ℝ) : EReal) := by
  have a0 := mean0 H s
  have a1 := mean1 H s
  have a2 := mean2 H s
  have a3 := mean3 H s
  unfold val_main_v122 val_main_v121 val_main_v120 val_main_v119 val_main_v118 val_main_v117 val_main_v116
  generalize val_main_v34 (F := Ideal) x0 = A0 at a0 ⊢
  generalize val_main_v61 (F := Ideal) x0 = A1 at a1 ⊢
  generalize val_main_v88 (F := Ideal) x0 = A2 at a2 ⊢
  generalize val_main_v115 (F := Ideal) x0 = A3 at a3 ⊢
  pointwise
  simp only [a0, a1, a2, a3]
  have k : (l : ℕ) / 256 = 0 ∨ (l : ℕ) / 256 = 1 ∨ (l : ℕ) / 256 = 2 ∨ (l : ℕ) / 256 = 3 := by omega
  rcases k with k | k | k | k <;> simp [k] <;> exact congrArg (wm D _ _) (by omega)

end Cert.WinRef
end
-- ==== Proof.WinKer.lean ====
/- The pool's forward kernel: what a block of its result holds, and the array it leaves. -/
module

public import proofs.«01_k».proof.Proof.Gen.WinIdeal.Value
public import proofs.«01_k».proof.Proof.Gen.Pre_win_finite
public import proofs.«01_k».proof.Proof.WinRef
public import proofs.«01_k».proof.Proof.PoolKer

@[expose] public section

set_option maxRecDepth 16384

noncomputable section

open Idealize.ShloMosaic Idealize.ShloMosaic.TcCoe Idealize.SL.Sem
open Idealize.ShloMosaic.Pipeline (Dat)

namespace Cert.WinIdeal.Grad
open Cert.Reals Cert.WinIdeal Cert.WinIdeal.Gen Cert.WinMath Cert.PoolMath
open Cert.PoolIdeal.Grad (ww ww_eq more more_nat row_word)

theorem first_block (i : Fin 8) : Scalar.cmpi CmpIPredicate.sgt (BitVec.ofNat 32 i) 0#32 = if 0 < (i : ℕ) then 1#1 else 0#1 := by
  revert i; decide

/-- The block behind the sixteen rows before it, zeros before the first block. -/
abbrev cat (b : ℕ) (X : Vec Ideal S1024x128 .f32) (Y : Vec Ideal S16x128 .f32) : FVec Ideal S1040x128 .f32 :=
  concatenate S1040x128 0 [⟨S16x128, (Scalar.select (Scalar.cmpi .sgt (BitVec.ofNat 32 b) 0#32) Y (broadcast S16x128 (Scalar.ofBits .f32 0x00000000#32)) : FVec Ideal S16x128 .f32)⟩,
    ⟨S1024x128, X⟩] concatenates_S16x128_S1024x128_S1040x128_d0

/-- Each row with the row `d` before it, where the windows are wider than `d`. -/
abbrev twice (w d : BitVec 32) (A : FVec Ideal S1040x128 .f32) : FVec Ideal S1040x128 .f32 :=
  Scalar.select (Scalar.cmpi .sgt w d) (addf A (dynamicRotate 0 d none A rotates_S1040x128_d0)) A

/-- One doubling of sums that end `m` rows on. -/
theorem twice_at {w : BitVec 32} {d : ℕ} (hd : d < 16) {p : Prop} [Decidable p] (hp : Scalar.cmpi .sgt w (BitVec.ofNat 32 d) = if p then 1#1 else 0#1)
    {A : FVec Ideal S1040x128 .f32} {l : Fin 128} {m : ℕ} {S : ℕ → ℝ} (a : ∀ (n : ℕ) (hn : n + m < 1040), A (ix2 ⟨n + m, hn⟩ l) = ((S n : ℝ) : EReal))
    (n : ℕ) (hn : n + (m + d) < 1040) :
    (twice w (BitVec.ofNat 32 d) A (ix2 ⟨n + (m + d), hn⟩ l) : EReal) = (((if p then S (n + d) + S n else S (n + d)) : ℝ) : EReal) := by
  have hd' : (BitVec.ofNat 32 d).toNat = d := by rw [BitVec.toNat_ofNat]; omega
  have e : (n + (m + d) + 1040 - d % 1040) % 1040 = n + m := by omega
  have e' : n + (m + d) = n + d + m := by omega
  unfold twice
  pointwise
  rw [hp]
  simp only [hd', e]
  simp only [e', a]
  by_cases h : p
  · rw [if_pos h, if_pos h, EReal.coe_add]; rfl
  · rw [if_neg h, if_neg h]; rfl

section
variable {b j : ℕ} (h0 : b < 8) {D : ℕ → ℕ → ℝ} {X : Vec Ideal S1024x128 .f32} {Y : Vec Ideal S16x128 .f32}
  (hX : ∀ (r : Fin 1024) (l : Fin 128), X (ix2 r l) = ((D (b * 1024 + r) (j * 128 + l) : ℝ) : EReal))
  (hY : 0 < b → ∀ (r : Fin 16) (l : Fin 128), Y (ix2 r l) = ((D (b * 1024 + r - 16) (j * 128 + l) : ℝ) : EReal))

include h0 hX hY in
theorem cat_at (r : ℕ) (hr : r < 1040) (l : Fin 128) : (cat b X Y (ix2 ⟨r, hr⟩ l) : EReal) = ((ahead D (b * 1024 + r) (j * 128 + l) : ℝ) : EReal) := by
  unfold cat
  rw [first_block ⟨b, h0⟩]
  pointwise
  by_cases h : r < 16
  · rw [dif_pos h]
    by_cases k : 0 < b
    · rw [if_pos k, ahead, if_neg (by omega)]
      exact hY k _ _
    · rw [if_neg k, ahead, if_pos (by omega)]
      exact EReal.coe_zero.symm
  · rw [dif_neg h]
    refine (hX ⟨r - 16, by omega⟩ l).trans (Eq.trans ?_ (congrArg (fun y : ℝ => (y : EReal)) (if_neg (by omega)).symm))
    refine congrArg (fun n => ((D n (j * 128 + l) : ℝ) : EReal)) ?_
    dsimp only
    omega

/-- The sum over up to eight rows, by three doublings. -/
theorem eight_rows {i : grid0.Coords} (hb : (i 0).val = b) (hj : (i 1).val = j) :
    k0_pay2 i X Y = twice (ww (BitVec.ofNat 32 j)) 4#32 (twice (ww (BitVec.ofNat 32 j)) 2#32 (twice (ww (BitVec.ofNat 32 j)) 1#32 (cat b X Y))) := by
  subst hb hj
  rfl

include h0 hX hY in
/-- The sum over the rows of a window, by four doublings. -/
theorem window {i : grid0.Coords} (hb : (i 0).val = b) (hj : (i 1).val = j) (r : Fin 1024) (l : Fin 128) :
    (twice (ww (BitVec.ofNat 32 j)) 8#32 (k0_pay2 i X Y) (ix2 ⟨(r : ℕ) + 16, by omega⟩ l) : EReal)
      = ((ws D (2 ^ (j / 2 + 1)) (b * 1024 + r) (j * 128 + l) : ℝ) : EReal) := by
  have h1 : j < 8 := hj ▸ (i 1).isLt
  obtain ⟨e, hje⟩ : ∃ e, j / 2 = e := ⟨_, rfl⟩
  have he : e < 4 := by omega
  obtain ⟨m1, m2, m4, m8⟩ := more ⟨e, he⟩
  have z : ∀ (n : ℕ) (hn : n + 0 < 1040), cat b X Y (ix2 ⟨n + 0, hn⟩ l) = ((ahead D (b * 1024 + n) (j * 128 + l) : ℝ) : EReal) := fun n hn => cat_at h0 hX hY n hn l
  rw [eight_rows hb hj, show ww (BitVec.ofNat 32 j) = BitVec.ofNat 32 (2 ^ (e + 1)) from hje ▸ ww_eq ⟨j, h1⟩, hje]
  have s := twice_at (d := 8) (by omega) m8 (twice_at (d := 4) (by omega) m4 (twice_at (d := 2) (by omega) m2 (twice_at (d := 1) (p := True) (by omega) m1 z)))
    ((r : ℕ) + 1) (by omega)
  refine Eq.trans ?_ (s.trans ?_)
  · refine congrArg (fun n => twice _ _ _ (ix2 n l)) (Fin.ext ?_)
    dsimp only
  · clear s m1 m2 m4 m8 z
    refine congrArg (fun y : ℝ => (y : EReal)) ?_
    have k : e = 0 ∨ e = 1 ∨ e = 2 ∨ e = 3 := by omega
    rcases k with rfl | rfl | rfl | rfl <;>
      simp only [ws, lt_self_iff_false, Nat.not_lt_zero, Nat.lt_irrefl, Nat.reduceLT, if_true, if_false, Nat.reduceAdd, Nat.reducePow, Nat.reduceSub, Finset.sum_range_succ, Finset.sum_range_zero,
        Nat.add_assoc, Nat.zero_add] <;>
      ring

include h0 hX hY in
/-- A block of the result, at a row and a column. -/
theorem block_at {i : grid0.Coords} (hb : (i 0).val = b) (hj : (i 1).val = j) (r : Fin 1024) (l : Fin 128) :
    (k0_pay1 (BitVec.ofNat 32 b) (ww (BitVec.ofNat 32 j)) X (k0_pay2 i X Y) (k0_pay3 i X Y) (ix2 r l) : EReal)
      = ((wm D (2 ^ (j / 2 + 1)) (b * 1024 + r) (j * 128 + l) : ℝ) : EReal) := by
  have h1 : j < 8 := hj ▸ (i 1).isLt
  have hr := r.isLt
  have s := window h0 hX hY hb hj r l
  have hw : 2 ^ (j / 2 + 1) ≤ 2 ^ 4 := Nat.pow_le_pow_right (by omega) (by omega)
  have h2 : 0 < 2 ^ (j / 2 + 1) := Nat.pow_pos (by omega)
  have u : k0_pay1 (BitVec.ofNat 32 b) (ww (BitVec.ofNat 32 j)) X (k0_pay2 i X Y) (k0_pay3 i X Y)
    = truncf .bf16 (subf (divf (extractStridedSlice S1024x128 ![16, 0] (twice (ww (BitVec.ofNat 32 j)) 8#32 (k0_pay2 i X Y)) slices_S1040x128_o16_0_S1024x128)
      (sitofp .f32 (minsi (addi (addi (broadcast S1024x128 (Scalar.muli (BitVec.ofNat 32 b) 1024#32)) (iota .tc S1024x128 32 [0] iota_S1024x128_d0_w32)) (broadcast S1024x128 1#32))
        (broadcast S1024x128 (ww (BitVec.ofNat 32 j)))))) X) bitsLt_bf16_f32 := rfl
  rw [u]
  generalize twice (ww (BitVec.ofNat 32 j)) 8#32 (k0_pay2 i X Y) = T at s ⊢
  pointwise
  rw [row_word, ww_eq ⟨j, h1⟩, hX r l]
  simp only [Nat.add_comm 16 (r : ℕ)]
  rw [quot s rfl (by omega) h2 hw, ← EReal.coe_sub]
  rfl
end

variable (m : (ℓ : Loc nD τ sig) → Buf (Elt Ideal) ℓ)

/-- The projected rows, as an array of extended reals. -/
abbrev az (c : Dev nD) : FVec Ideal S8192x6400 .f32 := m ((c : Thread nD τ).loc main_arg0)

theorem idx : ∀ t : Fin cfg0.N, win0_0.index t = ![t.val / 8 * 64 - 1, t.val % 8] ∧ win0_1.index t = ![t.val / 8, t.val % 8]
    ∧ win0_2.index t = ![t.val / 8, t.val % 8] ∧ (grid0.coords t 0).val = t.val / 8 ∧ (grid0.coords t 1).val = t.val % 8 :=
  (by decide +kernel : ∀ t : Fin grid0.N, _)

theorem main_rows (c : Dev nD) (t : Fin cfg0.N) (r : Fin 1024) (l : Fin 128) (h0 : t.val / 8 * 1024 + r < 8192) (h1 : t.val % 8 * 128 + l < 6400) :
    iblk m c 1 t (ix2 r l) = az m c (ix2 ⟨t.val / 8 * 1024 + r, h0⟩ ⟨t.val % 8 * 128 + l, h1⟩) := by
  blk_point [iblk, V, idx t]

theorem earlier_rows (c : Dev nD) (t : Fin cfg0.N) (r : Fin 16) (l : Fin 128) (h : 0 < t.val / 8) (h0 : t.val / 8 * 1024 + r - 16 < 8192) (h1 : t.val % 8 * 128 + l < 6400) :
    iblk m c 0 t (ix2 r l) = az m c (ix2 ⟨t.val / 8 * 1024 + r - 16, h0⟩ ⟨t.val % 8 * 128 + l, h1⟩) := by
  blk_point [iblk, V, idx t]

theorem finite (hpre : ∀ c : Dev nD, Cert.Pre_win_finite.fn (F := Ideal) (m ((c.tc : Thread nD τ).loc main_arg0)) = (fun _ => 1#1))
    (c : Dev nD) : ∃ R : S8192x6400.Idx → ℝ, az m c = fun i => (R i : EReal) := by
  have h := congrFun (hpre c) (fun i => i.elim0)
  unfold Cert.Pre_win_finite.fn at h
  dsimp only at h
  exact of_all_lt _ _ h

theorem final2 (c : Dev nD) (hf : ∃ R : S8192x6400.Idx → ℝ, az m c = fun i => (R i : EReal)) :
    (dats m 0 c).arrAt 2 cfg0.N = Cert.WinRefIdeal.Read.val_main_v122 (F := Ideal) (az m c) := by
  obtain ⟨R, hR⟩ := hf
  obtain ⟨D, hD⟩ : ∃ D : ℕ → ℕ → ℝ, ∀ (t : Fin 8192) (l : Fin 6400), az m c (ix2 t l) = ((D t l : ℝ) : EReal) :=
    ⟨fun t l => if h : t < 8192 ∧ l < 6400 then R (ix2 ⟨t, h.1⟩ ⟨l, h.2⟩) else 0, fun t l => by
      rw [hR]; simp only [t.isLt, l.isLt, and_self, dite_true]⟩
  refine (dats m 0 c).arrAt_eq_of_covers 2 _ (by decide +kernel) fun t _ y => ?_
  blk_simp
  rw [after0_2]
  frame_out
  have ht : t.val < 64 := lt_of_lt_of_eq t.isLt N_0
  obtain ⟨r, l, rfl⟩ : ∃ (r : Fin 1024) (l : Fin 128), y = (ix2 r l : S1024x128.Idx) := ⟨y 0, y 1, eq_ix2 y⟩
  have hX : ∀ (r : Fin 1024) (l : Fin 128), iblk m c 1 t (ix2 r l) = ((D (t.val / 8 * 1024 + r) (t.val % 8 * 128 + l) : ℝ) : EReal) := fun r l =>
    (main_rows m c t r l (by omega) (by omega)).trans (hD _ _)
  have hY : 0 < t.val / 8 → ∀ (r : Fin 16) (l : Fin 128), iblk m c 0 t (ix2 r l) = ((D (t.val / 8 * 1024 + r - 16) (t.val % 8 * 128 + l) : ℝ) : EReal) := fun h r l =>
    (earlier_rows m c t r l h (by omega) (by omega)).trans (hD _ _)
  have hi := idx t
  refine Eq.trans ?_ ((block_at (by omega) hX hY hi.2.2.2.1 hi.2.2.2.2 r l).trans ?_)
  · rw [← hi.2.2.2.2, ← hi.2.2.2.1]
  · have e : ((cfg0.win 2).blk t).view.emb (ix2 r l) = ix2 (⟨t.val / 8 * 1024 + r, by omega⟩ : Fin 8192) (⟨t.val % 8 * 128 + l, by omega⟩ : Fin 1024) := by blk_ext [idx t]
    rw [e]
    refine Eq.trans ?_ (Cert.WinRef.value hD _ _).symm
    refine congrArg (fun w => ((wm D (2 ^ (w + 1)) _ _ : ℝ) : EReal)) ?_
    show t.val % 8 / 2 = (t.val % 8 * 128 + l) / 256
    omega

end Cert.WinIdeal.Grad
end
-- ==== Proof.Mod.lean ====
/- The forward modulation: the product of the activated conditioning vectors with the weight, and its bias. -/
module

public import proofs.«01_k».proof.Proof.Gen.ModIdeal.Frame
public import proofs.«01_k».proof.Proof.Gen.ModRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ModIdeal.Grad
open Cert.ModIdeal Cert.ModIdeal.Gen

variable (m : (ℓ : Loc nD τ sig) → Buf (Elt Ideal) ℓ)

theorem idx : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

open Cert.ModRefIdeal.Read in
/-- The modulation. -/
theorem final3 (c : Dev nD) : (dats m 0 c).arrAt 3 cfg0.N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, val_main_call0_v0, val_main_call0_v1, val_main_call0_cst, val_main_call0_v2, val_main_call0_v3, val_main_call0_cst_0, val_main_call0_v4, val_main_call0_v5, val_main_v0, val_main_v1, val_main_v2, val_main_v3]
  simp only [Ideal.logistic]
  blk_point [iblk, V, idx t]
-- ==== Proof.Zin.lean ====
/- The product of the normed rows with the weight into the mixers. -/
module

public import proofs.«01_k».proof.Proof.Gen.ZinIdeal.Frame
public import proofs.«01_k».proof.Proof.Gen.ZinRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ZinIdeal.Grad
open Cert.ZinIdeal Cert.ZinIdeal.Gen

variable (m : (ℓ : Loc nD τ sig) → Buf (Elt Ideal) ℓ)

theorem idx : ∀ t : Fin cfg0.N, win0_0.index t = ![t.val / 5, 0]
    ∧ win0_1.index t = ![t.val % 5, 0]
    ∧ win0_2.index t = ![t.val / 5, t.val % 5] :=
  (by decide +kernel : ∀ t : Fin grid0.N, _)

open Cert.ZinRefIdeal.Read in
/-- The product. -/
theorem final2 (c : Dev nD) : (dats m 0 c).arrAt 2 cfg0.N
    = val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v0]
  blk_point [iblk, V, idx t]
-- ==== Proof.Dh.lean ====
/- The gradient of the FFN's rows: the product with the transposed weight, accumulated over the gate and the up half. -/
module

public import proofs.«01_k».proof.Proof.Gen.DhIdeal.Frame
public import proofs.«01_k».proof.Proof.Gen.DhRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DhIdeal.Grad
open Cert.DhIdeal Cert.DhIdeal.Gen

variable (m : (ℓ : Loc nD τ sig) → Buf (Elt Ideal) ℓ)

theorem idx : ∀ t : Fin cfg0.N, win0_0.index t = ![t.val % 2, t.val / 8, 0]
    ∧ win0_1.index t = ![t.val % 2, t.val % 8 / 2, 0]
    ∧ win0_2.index t = ![t.val / 8, t.val % 8 / 2] :=
  (by decide +kernel : ∀ t : Fin grid0.N, _)

/-- A sum over the columns of the pair is the sum of its four quarters. -/
theorem sum_quarters (f : Fin 11264 → EReal) : ∑ k, f k
    = (∑ k : Fin 2816, f ⟨k, by omega⟩ + ∑ k : Fin 2816, f ⟨2816 + k, by omega⟩)
      + (∑ k : Fin 2816, f ⟨5632 + k, by omega⟩ + ∑ k : Fin 2816, f ⟨8448 + k, by omega⟩) := by
  rw [show (∑ k, f k) = ∑ k : Fin (2816 + 2816 + 2816 + 2816), f k from rfl, Fin.sum_univ_add, Fin.sum_univ_add, Fin.sum_univ_add, ← add_assoc]
  rfl

/-- The cotangent as the kernel reads it: its two halves of columns. -/
theorem pair (c : Dev nD) (i : S2x8192x5632.Idx) : V m c main_v2 i
    = m ((c : Thread nD τ).loc main_arg0) (ix2 (i 1) ⟨(i 0 : ℕ) * 5632 + (i 2 : ℕ), by have a := (i 0).isLt; have b := (i 2).isLt; simp at a b; omega⟩) := by
  entry_read
  pointwise
  blk_ext

/-- The weight as the kernel reads it: four slots of columns. -/
theorem quarters (c : Dev nD) (i : S4x2048x2816.Idx) : V m c main_v5 i
    = m ((c : Thread nD τ).loc main_arg1) (ix2 (i 1) ⟨(i 0 : ℕ) * 2816 + (i 2 : ℕ), by have a := (i 0).isLt; have b := (i 2).isLt; simp at a b; omega⟩) := by
  entry_read
  pointwise
  blk_ext

/-- One point's product. -/
abbrev part (x : Vec Ideal S1x1024x5632 .bf16) (w : Vec Ideal S2x512x2816 .bf16) (a : Fin 1024) (b : Fin 512) : EReal :=
  (∑ k : Fin 2816, x (ix3 0 a ⟨k, by omega⟩) * w (ix3 0 b k)
      + ∑ k : Fin 2816, x (ix3 0 a ⟨2816 + k, by omega⟩) * w (ix3 1 b k))

/-- The accumulator after the gate half. -/
theorem first (c : Dev nD) (t : Fin cfg0.N) (h : t.val % 2 = 0) (j : S1024x512.Idx) : (outsAt0 m c t.val t.isLt).2 j
    = part (iblk m c 0 t) (iblk m c 1 t) (j 0) (j 1) := by
  rw [outsAt0_A m c t h (by omega)]
  frame_out
  pointwise [k0_pay2, k0_pay1]

/-- What is stored after the up half: the accumulator, and that part's product. -/
theorem second (c : Dev nD) (t u : Fin cfg0.N) (h : t.val % 2 = 1) (hu : t.val - 1 = u.val) (j : S1024x512.Idx) : (outsAt0 m c t.val t.isLt).1 j
    = (outsAt0 m c u.val u.isLt).2 j + part (iblk m c 0 t) (iblk m c 1 t) (j 0) (j 1) := by
  rw [outsAt0_B m c t (by omega) h]
  frame_out
  pointwise [k0_pay3, k0_pay1]
  refine congrArg (· + _) ((congrFun (Memref.IsWhole.read_unread _ _) _).trans ?_)
  have e : ∀ n (hn : n < cfg0.N), n = u.val → outsAt0 m c n hn = outsAt0 m c u.val u.isLt := by rintro n hn rfl; rfl
  rw [e _ _ hu]

open Cert.DhRefIdeal.Read in
/-- The gradient of the rows. -/
theorem final2 (c : Dev nD) : (dats m 0 c).arrAt 2 cfg0.N
    = val_main_v1 (F := Ideal) (m ((c : Thread nD τ).loc main_arg0)) (m ((c : Thread nD τ).loc main_arg1)) := by
  refine (dats m 0 c).arrAt_eq_of_covers 2 _ (by decide +kernel) fun t hf y => ?_
  have h1 := (flush0_2 t).mp hf
  obtain ⟨u, hu⟩ : ∃ u : Fin cfg0.N, t.val - 1 = u.val := ⟨⟨t.val - 1, by have := t.isLt; omega⟩, rfl⟩
  blk_simp
  rw [after0_2]
  refine ((second m c t u h1 hu y).trans (congrArg (· + _) (first m c u (by omega) _))).trans ?_
  pointwise [val_main_v0, val_main_v1]
  simp only [part, iblk, pair, quarters]
  rw [sum_quarters]
  refine congrArg₂ (· + ·) (congrArg₂ (· + ·) (Finset.sum_congr rfl fun k _ => ?_) (Finset.sum_congr rfl fun k _ => ?_))
    (congrArg₂ (· + ·) (Finset.sum_congr rfl fun k _ => ?_) (Finset.sum_congr rfl fun k _ => ?_))
  · blk_point [iblk, V, idx u, idx t]
  · blk_point [iblk, V, idx u, idx t]
  · blk_point [iblk, V, idx t]
  · blk_point [iblk, V, idx t]
-- ==== Proof.Upt.lean ====
/- The gradient of a mixer's rows: the product with the transposed output weight, summed over the weight's four slots of columns. -/
module

public import proofs.«01_k».proof.Proof.Gen.UptIdeal.Frame
public import proofs.«01_k».proof.Proof.Gen.UptRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UptIdeal.Grad
open Cert.UptIdeal Cert.UptIdeal.Gen

variable (m : (ℓ : Loc nD τ sig) → Buf (Elt Ideal) ℓ)

theorem idx : ∀ t : Fin cfg0.N, win0_0.index t = ![1, t.val, 0]
    ∧ win0_1.index t = ![0, 0, 0]
    ∧ win0_2.index t = ![t.val, 0] :=
  (by decide +kernel : ∀ t : Fin grid0.N, _)

/-- The weight as the kernel reads it: four slots of columns. -/
theorem slots (c : Dev nD) (i : S4x1024x512.Idx) : V m c main_v3 i
    = m ((c : Thread nD τ).loc main_arg1) (ix2 (i 1) ⟨(i 0 : ℕ) * 512 + (i 2 : ℕ), by have a := (i 0).isLt; have b := (i 2).isLt; simp at a b; omega⟩) := by
  entry_read
  pointwise
  blk_ext

/-- A sum over the columns is the sum of its four slots. -/
theorem sum_slots (f : Fin 2048 → EReal) : ∑ k, f k
    = ∑ k : Fin 512, f ⟨k, by omega⟩ + ∑ k : Fin 512, f ⟨512 + k, by omega⟩ + ∑ k : Fin 512, f ⟨1024 + k, by omega⟩
      + ∑ k : Fin 512, f ⟨1536 + k, by omega⟩ := by
  rw [show (∑ k, f k) = ∑ k : Fin (512 + 512 + 512 + 512), f k from rfl, Fin.sum_univ_add, Fin.sum_univ_add, Fin.sum_univ_add]
  rfl

open Cert.UptRefIdeal.Read in
/-- The gradient of the rows. -/
theorem final2 (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, val_main_v0, val_main_v1, val_main_v2, val_main_v3]
  simp only [iblk, slots]
  rw [sum_slots]
  blk_point [iblk, V, idx t]
-- ==== Proof.Dwgu.lean ====
/- The gradient of the gate and up weight: the product over the rows, accumulated over two halves of the rows, in four slots of columns. -/
module

public import proofs.«01_k».proof.Proof.Gen.DwguIdeal.Frame
public import proofs.«01_k».proof.Proof.Gen.DwguRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwguIdeal.Grad
open Cert.DwguIdeal Cert.DwguIdeal.Gen

variable (m : (ℓ : Loc nD τ sig) → Buf (Elt Ideal) ℓ)

theorem idx : ∀ t : Fin cfg0.N, win0_0.index t = ![t.val % 2, t.val / 16]
    ∧ win0_1.index t = ![t.val % 16 / 8, t.val % 2, t.val % 8 / 2]
    ∧ win0_2.index t = ![t.val % 16 / 4, t.val / 16, t.val % 4 / 2] :=
  (by decide +kernel : ∀ t : Fin grid0.N, _)

/-- A sum over the rows is the sum of its two halves. -/
theorem sum_halves (f : Fin 8192 → EReal) : ∑ k, f k = ∑ k : Fin 4096, f ⟨k, by omega⟩ + ∑ k : Fin 4096, f ⟨4096 + k, by omega⟩ := by
  rw [show (∑ k, f k) = ∑ k : Fin (4096 + 4096), f k from rfl, Fin.sum_univ_add]
  rfl

/-- The cotangent as the kernel reads it: its two halves of columns. -/
theorem pair (c : Dev nD) (i : S2x8192x5632.Idx) : V m c main_v3 i
    = m ((c : Thread nD τ).loc main_arg1) (ix2 (i 1) ⟨(i 0 : ℕ) * 5632 + (i 2 : ℕ), by have a := (i 0).isLt; have b := (i 2).isLt; simp at a b; omega⟩) := by
  entry_read
  pointwise
  blk_ext

/-- One point's product. -/
abbrev part (x : Vec Ideal S4096x512 .bf16) (w : Vec Ideal S1x4096x1408 .bf16) (a : Fin 512) (b : Fin 1408) : EReal :=
  ∑ k : Fin 4096, x (ix2 k a) * w (ix3 0 k b)

/-- The accumulator after the first half of the rows. -/
theorem first (c : Dev nD) (t : Fin cfg0.N) (h : t.val % 2 = 0) (j : S512x1408.Idx) : (outsAt0 m c t.val t.isLt).2 j
    = part (iblk m c 0 t) (iblk m c 1 t) (j 0) (j 1) := by
  rw [outsAt0_A m c t h (by omega) (by omega)]
  frame_out
  pointwise [k0_pay2, k0_pay1]

/-- What is stored after the second half: the accumulator, and that part's product. -/
theorem second (c : Dev nD) (t u : Fin cfg0.N) (h : t.val % 2 = 1) (hu : t.val - 1 = u.val) (j : S1x512x1408.Idx) : (outsAt0 m c t.val t.isLt).1 j
    = (outsAt0 m c u.val u.isLt).2 (ix2 (j 1) (j 2)) + part (iblk m c 0 t) (iblk m c 1 t) (j 1) (j 2) := by
  rw [outsAt0_B m c t (by omega) h h]
  frame_out
  pointwise [k0_pay4, k0_pay3, k0_pay1]
  refine congrArg (· + _) ((congrFun (Memref.IsWhole.read_unread _ _) _).trans ?_)
  have e : ∀ n (hn : n < cfg0.N), n = u.val → outsAt0 m c n hn = outsAt0 m c u.val u.isLt := by rintro n hn rfl; rfl
  rw [e _ _ hu]

open Cert.DwguRefIdeal.Read in
/-- The gradient. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have h1 := (flush0_2 t).mp hf
  obtain ⟨u, hu⟩ : ∃ u : Fin cfg0.N, t.val - 1 = u.val := ⟨⟨t.val - 1, by have := t.isLt; omega⟩, rfl⟩
  blk_simp
  rw [after0_2]
  refine ((second m c t u h1 hu y).trans (congrArg (· + _) (first m c u (by omega) _))).trans ?_
  pointwise [val_main_v0, val_main_v1, val_main_v2, val_main_v3, val_main_v4]
  simp only [iblk, pair]
  rw [sum_halves]
  refine congrArg₂ (· + ·) (Finset.sum_congr rfl fun k _ => ?_) (Finset.sum_congr rfl fun k _ => ?_)
  · blk_point [iblk, V, idx u, idx t]
  · blk_point [iblk, V, idx t]
-- ==== Proof.Tn.lean ====
/- The gradient of the weight into the mixers: the product over the rows, accumulated over two halves of the rows. -/
module

public import proofs.«01_k».proof.Proof.Gen.TnIdeal.Frame
public import proofs.«01_k».proof.Proof.Gen.TnRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TnIdeal.Grad
open Cert.TnIdeal Cert.TnIdeal.Gen

variable (m : (ℓ : Loc nD τ sig) → Buf (Elt Ideal) ℓ)

theorem idx : ∀ t : Fin cfg0.N, win0_0.index t = ![t.val % 2, t.val / 8]
    ∧ win0_1.index t = ![t.val % 2, t.val % 8 / 2]
    ∧ win0_2.index t = ![t.val / 8, t.val % 8 / 2] :=
  (by decide +kernel : ∀ t : Fin grid0.N, _)

/-- A sum over the rows is the sum of its two halves. -/
theorem sum_halves (f : Fin 8192 → EReal) : ∑ k, f k = ∑ k : Fin 4096, f ⟨k, by omega⟩ + ∑ k : Fin 4096, f ⟨4096 + k, by omega⟩ := by
  rw [show (∑ k, f k) = ∑ k : Fin (4096 + 4096), f k from rfl, Fin.sum_univ_add]
  rfl

/-- One point's product. -/
abbrev part (x : Vec Ideal S4096x1280 .bf16) (w : Vec Ideal S4096x512 .bf16) (a : Fin 1280) (b : Fin 512) : EReal :=
  ∑ k : Fin 4096, x (ix2 k a) * w (ix2 k b)

/-- The accumulator after the first half of the rows. -/
theorem first (c : Dev nD) (t : Fin cfg0.N) (h : t.val % 2 = 0) (j : S1280x512.Idx) : (outsAt0 m c t.val t.isLt).2 j
    = part (iblk m c 0 t) (iblk m c 1 t) (j 0) (j 1) := by
  rw [outsAt0_A m c t h (by omega) (by omega)]
  frame_out
  pointwise [k0_pay2, k0_pay1]

/-- What is stored after the second half: the accumulator, and that part's product. -/
theorem second (c : Dev nD) (t u : Fin cfg0.N) (h : t.val % 2 = 1) (hu : t.val - 1 = u.val) (j : S1280x512.Idx) : (outsAt0 m c t.val t.isLt).1 j
    = (outsAt0 m c u.val u.isLt).2 j + part (iblk m c 0 t) (iblk m c 1 t) (j 0) (j 1) := by
  rw [outsAt0_B m c t (by omega) h h]
  frame_out
  pointwise [k0_pay4, k0_pay3, k0_pay1]
  refine congrArg (· + _) ((congrFun (Memref.IsWhole.read_unread _ _) _).trans ?_)
  have e : ∀ n (hn : n < cfg0.N), n = u.val → outsAt0 m c n hn = outsAt0 m c u.val u.isLt := by rintro n hn rfl; rfl
  rw [e _ _ hu]

open Cert.TnRefIdeal.Read in
/-- The gradient. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  have h1 := (flush0_2 t).mp hf
  obtain ⟨u, hu⟩ : ∃ u : Fin cfg0.N, t.val - 1 = u.val := ⟨⟨t.val - 1, by have := t.isLt; omega⟩, rfl⟩
  blk_simp
  rw [after0_2]
  refine ((second m c t u h1 hu y).trans (congrArg (· + _) (first m c u (by omega) _))).trans ?_
  pointwise [val_main_v0, val_main_v1, val_main_v2]
  rw [sum_halves]
  refine congrArg₂ (· + ·) (Finset.sum_congr rfl fun k _ => ?_) (Finset.sum_congr rfl fun k _ => ?_)
  · blk_point [iblk, V, idx u, idx t]
  · blk_point [iblk, V, idx t]
-- ==== Proof.Updw.lean ====
/- The gradient of a mixer's output weight: the product over the rows, accumulated over two halves of the rows, in four slots of columns. -/
module

public import proofs.«01_k».proof.Proof.Gen.UpdwIdeal.Frame
public import proofs.«01_k».proof.Proof.Gen.UpdwRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpdwIdeal.Grad
open Cert.UpdwIdeal Cert.UpdwIdeal.Gen

variable (m : (ℓ : Loc nD τ sig) → Buf (Elt Ideal) ℓ)

theorem idx : ∀ t : Fin cfg0.N, win0_0.index t = ![t.val % 2, 0]
    ∧ win0_1.index t = ![1, t.val % 2, t.val / 2]
    ∧ win0_2.index t = ![t.val / 2, 0, 0] :=
  (by decide +kernel : ∀ t : Fin grid0.N, _)

/-- A sum over the rows is the sum of its two halves. -/
theorem sum_halves (f : Fin 8192 → EReal) : ∑ k, f k = ∑ k : Fin 4096, f ⟨k, by omega⟩ + ∑ k : Fin 4096, f ⟨4096 + k, by omega⟩ := by
  rw [show (∑ k, f k) = ∑ k : Fin (4096 + 4096), f k from rfl, Fin.sum_univ_add]
  rfl

/-- One point's product. -/
abbrev part (x : Vec Ideal S4096x1024 .bf16) (w : Vec Ideal S1x4096x512 .bf16) (a : Fin 1024) (b : Fin 512) : EReal :=
  ∑ k : Fin 4096, x (ix2 k a) * w (ix3 0 k b)

/-- The accumulator after the first half of the rows. -/
theorem first (c : Dev nD) (t : Fin cfg0.N) (h : t.val % 2 = 0) (j : S1024x512.Idx) : (outsAt0 m c t.val t.isLt).2 j
    = part (iblk m c 0 t) (iblk m c 1 t) (j 0) (j 1) := by
  rw [outsAt0_A m c t h (by omega) (by omega)]
  frame_out
  pointwise [k0_pay2, k0_pay1]

/-- What is stored after the second half: the accumulator, and that part's product. -/
theorem second (c : Dev nD) (t u : Fin cfg0.N) (h : t.val % 2 = 1) (hu : t.val - 1 = u.val) (j : S1x1024x512.Idx) : (outsAt0 m c t.val t.isLt).1 j
    = (outsAt0 m c u.val u.isLt).2 (ix2 (j 1) (j 2)) + part (iblk m c 0 t) (iblk m c 1 t) (j 1) (j 2) := by
  rw [outsAt0_B m c t (by omega) h h]
  frame_out
  pointwise [k0_pay4, k0_pay3, k0_pay1]
  refine congrArg (· + _) ((congrFun (Memref.IsWhole.read_unread _ _) _).trans ?_)
  have e : ∀ n (hn : n < cfg0.N), n = u.val → outsAt0 m c n hn = outsAt0 m c u.val u.isLt := by rintro n hn rfl; rfl
  rw [e _ _ hu]

open Cert.UpdwRefIdeal.Read in
/-- The gradient. -/
theorem final2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have h1 := (flush0_2 t).mp hf
  obtain ⟨u, hu⟩ : ∃ u : Fin cfg0.N, t.val - 1 = u.val := ⟨⟨t.val - 1, by have := t.isLt; omega⟩, rfl⟩
  blk_simp
  rw [after0_2]
  refine ((second m c t u h1 hu y).trans (congrArg (· + _) (first m c u (by omega) _))).trans ?_
  pointwise [val_main_v0, val_main_v1, val_main_v2, val_main_v3, val_main_v4, val_main_v5, val_main_v6]
  rw [sum_halves]
  refine congrArg₂ (· + ·) (Finset.sum_congr rfl fun k _ => ?_) (Finset.sum_congr rfl fun k _ => ?_)
  · blk_point [iblk, V, idx u, idx t]
  · blk_point [iblk, V, idx t]
-- ==== Proof.Adam.lean ====
/- One step of the optimiser: the weight's change and the two moments, each block of rows the reference's. -/
module

public import proofs.«01_k».proof.Proof.Gen.AdamIdeal.Frame
public import proofs.«01_k».proof.Proof.Gen.AdamRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamIdeal.Grad
open Cert.AdamIdeal Cert.AdamIdeal.Gen

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

open Cert.AdamRefIdeal.Read in
/-- The weight's change. -/
theorem final4 (c : Dev nD) : (dats m 0 c).arrAt 4 cfg0.N
    = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, k0_pay2, k0_pay3, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  blk_point [iblk, V, idx t]

open Cert.AdamRefIdeal.Read in
/-- The first moment. -/
theorem final5 (c : Dev nD) : (dats m 0 c).arrAt 5 cfg0.N
    = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  pointwise [k0_pay1, val_main_cst, val_main_v0, val_main_v1, val_main_cst_0, val_main_v2, val_main_v3, val_main_v4]
  blk_point [iblk, V, idx t]

open Cert.AdamRefIdeal.Read in
/-- The second moment. -/
theorem final6 (c : Dev nD) : (dats m 0 c).arrAt 6 cfg0.N
    = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  pointwise [k0_pay2, val_main_cst_1, val_main_v5, val_main_v6, val_main_v7, val_main_cst_2, val_main_v8, val_main_v9, val_main_v10]
  blk_point [iblk, V, idx t]
-- ==== Proof.Wada.lean ====
/- The gradient of the modulation's weight, and the optimiser's step with it. -/
module

public import proofs.«01_k».proof.Proof.Gen.WadaIdeal.Frame
public import proofs.«01_k».proof.Proof.Gen.WadaRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WadaIdeal.Grad
open Cert.WadaIdeal Cert.WadaIdeal.Gen

variable (m : (ℓ : Loc nD τ sig) → Buf (Elt Ideal) ℓ)

theorem idx : ∀ t : Fin cfg0.N, win0_0.index t = ![0, 0]
    ∧ win0_1.index t = ![0, t.val]
    ∧ win0_2.index t = ![0, t.val]
    ∧ win0_3.index t = ![0, t.val]
    ∧ win0_4.index t = ![0, t.val]
    ∧ win0_5.index t = ![0, t.val]
    ∧ win0_6.index t = ![0, t.val]
    ∧ win0_7.index t = ![0, t.val]
    ∧ win0_8.index t = ![0, t.val] :=
  (by decide +kernel : ∀ t : Fin grid0.N, _)

open Cert.WadaRefIdeal.Read in
/-- The gradient. -/
theorem final5 (c : Dev nD) : (dats m 0 c).arrAt 5 cfg0.N
    = val_main_v2 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  frame_out
  pointwise [k0_pay1, val_main_call0_v0, val_main_call0_v1, val_main_call0_cst, val_main_call0_v2, val_main_call0_v3, val_main_call0_cst_0, val_main_call0_v4, val_main_call0_v5, val_main_v0, val_main_v1, val_main_v2]
  simp only [Ideal.logistic]
  blk_point [iblk, V, idx t]

open Cert.WadaRefIdeal.Read in
/-- The weight's change. -/
theorem final6 (c : Dev nD) : (dats m 0 c).arrAt 6 cfg0.N
    = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  pointwise [k0_pay1, k0_pay2, k0_pay3, k0_pay4, val_main_call0_v0, val_main_call0_v1, val_main_call0_cst, val_main_call0_v2, val_main_call0_v3, val_main_call0_cst_0, val_main_call0_v4, val_main_call0_v5, val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  simp only [Ideal.logistic]
  blk_point [iblk, V, idx t]

open Cert.WadaRefIdeal.Read in
/-- The first moment. -/
theorem final7 (c : Dev nD) : (dats m 0 c).arrAt 7 cfg0.N
    = val_main_v7 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7]
  frame_out
  pointwise [k0_pay1, k0_pay2, val_main_call0_v0, val_main_call0_v1, val_main_call0_cst, val_main_call0_v2, val_main_call0_v3, val_main_call0_cst_0, val_main_call0_v4, val_main_call0_v5, val_main_v0, val_main_v1, val_main_v2, val_main_cst, val_main_v3, val_main_v4, val_main_cst_0, val_main_v5, val_main_v6, val_main_v7]
  simp only [Ideal.logistic]
  blk_point [iblk, V, idx t]

open Cert.WadaRefIdeal.Read in
/-- The second moment. -/
theorem final8 (c : Dev nD) : (dats m 0 c).arrAt 8 cfg0.N
    = val_main_v13 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8]
  frame_out
  pointwise [k0_pay1, k0_pay3, val_main_call0_v0, val_main_call0_v1, val_main_call0_cst, val_main_call0_v2, val_main_call0_v3, val_main_call0_cst_0, val_main_call0_v4, val_main_call0_v5, val_main_v0, val_main_v1, val_main_v2, val_main_cst_1, val_main_v8, val_main_v9, val_main_v10, val_main_cst_2, val_main_v11, val_main_v12, val_main_v13]
  simp only [Ideal.logistic]
  blk_point [iblk, V, idx t]
-- ==== Proof.lean ====
/- The claims, assembled: the frames are the generated runs, each reference is its generated run, and each algebraic claim is the
   kernel's run with its results named (the modules under proof/Proof/) beside the reference's. -/
module

public import proofs.«01_k».proof.Defs
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Merge
public import proofs.«01_k».proof.Proof.Gen.Act.Frame
public import proofs.«01_k».proof.Proof.Gen.ActIdeal.Frame
public import proofs.«01_k».proof.Proof.Gen.ActIdeal.Value
public import proofs.«01_k».proof.Proof.Gen.ActRefIdeal.Run
public import proofs.«01_k».proof.Proof.Gen.ActRefIdeal.Read
public import proofs.«01_k».proof.Proof.Act
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.Mix
public import proofs.«01_k».proof.Proof.Gen.Norm1.Frame
public import proofs.«01_k».proof.Proof.Gen.Norm1Ideal.Frame
public import proofs.«01_k».proof.Proof.Gen.Norm1Ideal.Value
public import proofs.«01_k».proof.Proof.Gen.Norm1RefIdeal.Run
public import proofs.«01_k».proof.Proof.Gen.Norm1RefIdeal.Read
public import proofs.«01_k».proof.Proof.Norm1
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import proofs.«01_k».proof.Proof.Norm
public import proofs.«01_k».proof.Proof.Gen.Loss.Frame
public import proofs.«01_k».proof.Proof.Gen.LossIdeal.Frame
public import proofs.«01_k».proof.Proof.Gen.LossRefIdeal.Run
public import proofs.«01_k».proof.Proof.Gen.LossRefIdeal.Read
public import proofs.«01_k».proof.Proof.Loss
public import proofs.«01_k».proof.Proof.Gen.Attn.Frame
public import proofs.«01_k».proof.Proof.Gen.AttnIdeal.Frame
public import proofs.«01_k».proof.Proof.Gen.AttnRefIdeal.Run
public import proofs.«01_k».proof.Proof.Gen.AttnRefIdeal.Read
public import proofs.«01_k».proof.Proof.AttnEnd
public import proofs.«01_k».proof.Proof.Gen.Pool.Frame
public import proofs.«01_k».proof.Proof.Gen.PoolIdeal.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.PoolKer
public import proofs.«01_k».proof.Proof.Gen.Fwd.Frame
public import proofs.«01_k».proof.Proof.Gen.FwdIdeal.Frame
public import proofs.«01_k».proof.Proof.Gen.FwdRefIdeal.Run
public import proofs.«01_k».proof.Proof.Gen.FwdRefIdeal.Read
public import proofs.«01_k».proof.Proof.FwdRun
public import proofs.«01_k».proof.Proof.FwdEnd
public import proofs.«01_k».proof.Proof.Gen.Rmsf.Frame
public import proofs.«01_k».proof.Proof.Gen.RmsfIdeal.Frame
public import proofs.«01_k».proof.Proof.Gen.RmsfIdeal.Value
public import proofs.«01_k».proof.Proof.Gen.RmsfRefIdeal.Run
public import proofs.«01_k».proof.Proof.Gen.RmsfRefIdeal.Read
public import proofs.«01_k».proof.Proof.Rmsf
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.Up
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gate
public import proofs.«01_k».proof.Proof.Gen.Pmix.Frame
public import proofs.«01_k».proof.Proof.Gen.PmixIdeal.Frame
public import proofs.«01_k».proof.Proof.Gen.PmixIdeal.Value
public import proofs.«01_k».proof.Proof.Gen.PmixRefIdeal.Run
public import proofs.«01_k».proof.Proof.Gen.PmixRefIdeal.Read
public import proofs.«01_k».proof.Proof.Pmix
public import proofs.«01_k».proof.Proof.Gen.Res.Frame
public import proofs.«01_k».proof.Proof.Gen.ResIdeal.Frame
public import proofs.«01_k».proof.Proof.Gen.ResIdeal.Value
public import proofs.«01_k».proof.Proof.Gen.ResRefIdeal.Run
public import proofs.«01_k».proof.Proof.Gen.ResRefIdeal.Read
public import proofs.«01_k».proof.Proof.Res
public import proofs.«01_k».proof.Proof.Gen.Win.Frame
public import proofs.«01_k».proof.Proof.Gen.WinIdeal.Frame
public import proofs.«01_k».proof.Proof.Gen.WinIdeal.Value
public import proofs.«01_k».proof.Proof.Gen.WinRefIdeal.Run
public import proofs.«01_k».proof.Proof.Gen.WinRefIdeal.Read
public import proofs.«01_k».proof.Proof.WinKer
public import proofs.«01_k».proof.Proof.Gen.Mod.Frame
public import proofs.«01_k».proof.Proof.Gen.ModIdeal.Frame
public import proofs.«01_k».proof.Proof.Gen.ModIdeal.Value
public import proofs.«01_k».proof.Proof.Gen.ModRefIdeal.Run
public import proofs.«01_k».proof.Proof.Gen.ModRefIdeal.Read
public import proofs.«01_k».proof.Proof.Mod
public import proofs.«01_k».proof.Proof.Gen.Zin.Frame
public import proofs.«01_k».proof.Proof.Gen.ZinIdeal.Frame
public import proofs.«01_k».proof.Proof.Gen.ZinIdeal.Value
public import proofs.«01_k».proof.Proof.Gen.ZinRefIdeal.Run
public import proofs.«01_k».proof.Proof.Gen.ZinRefIdeal.Read
public import proofs.«01_k».proof.Proof.Zin
public import proofs.«01_k».proof.Proof.Gen.Dh.Frame
public import proofs.«01_k».proof.Proof.Gen.DhIdeal.Frame
public import proofs.«01_k».proof.Proof.Gen.DhIdeal.Value
public import proofs.«01_k».proof.Proof.Gen.DhRefIdeal.Run
public import proofs.«01_k».proof.Proof.Gen.DhRefIdeal.Read
public import proofs.«01_k».proof.Proof.Dh
public import proofs.«01_k».proof.Proof.Gen.Upt.Frame
public import proofs.«01_k».proof.Proof.Gen.UptIdeal.Frame
public import proofs.«01_k».proof.Proof.Gen.UptIdeal.Value
public import proofs.«01_k».proof.Proof.Gen.UptRefIdeal.Run
public import proofs.«01_k».proof.Proof.Gen.UptRefIdeal.Read
public import proofs.«01_k».proof.Proof.Upt
public import proofs.«01_k».proof.Proof.Gen.Dwgu.Frame
public import proofs.«01_k».proof.Proof.Gen.DwguIdeal.Frame
public import proofs.«01_k».proof.Proof.Gen.DwguIdeal.Value
public import proofs.«01_k».proof.Proof.Gen.DwguRefIdeal.Run
public import proofs.«01_k».proof.Proof.Gen.DwguRefIdeal.Read
public import proofs.«01_k».proof.Proof.Dwgu
public import proofs.«01_k».proof.Proof.Gen.Tn.Frame
public import proofs.«01_k».proof.Proof.Gen.TnIdeal.Frame
public import proofs.«01_k».proof.Proof.Gen.TnIdeal.Value
public import proofs.«01_k».proof.Proof.Gen.TnRefIdeal.Run
public import proofs.«01_k».proof.Proof.Gen.TnRefIdeal.Read
public import proofs.«01_k».proof.Proof.Tn
public import proofs.«01_k».proof.Proof.Gen.Updw.Frame
public import proofs.«01_k».proof.Proof.Gen.UpdwIdeal.Frame
public import proofs.«01_k».proof.Proof.Gen.UpdwIdeal.Value
public import proofs.«01_k».proof.Proof.Gen.UpdwRefIdeal.Run
public import proofs.«01_k».proof.Proof.Gen.UpdwRefIdeal.Read
public import proofs.«01_k».proof.Proof.Updw
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.Adam
public import proofs.«01_k».proof.Proof.Gen.Wada.Frame
public import proofs.«01_k».proof.Proof.Gen.WadaIdeal.Frame
public import proofs.«01_k».proof.Proof.Gen.WadaIdeal.Value
public import proofs.«01_k».proof.Proof.Gen.WadaRefIdeal.Run
public import proofs.«01_k».proof.Proof.Gen.WadaRefIdeal.Read
public import proofs.«01_k».proof.Proof.Wada
public import proofs.«01_k».proof.Proof.Gen.Pre_act_finite
public import proofs.«01_k».proof.Proof.Gen.Pre_norm1_finite
public import proofs.«01_k».proof.Proof.Gen.Pre_norm_finite
public import proofs.«01_k».proof.Proof.Gen.Pre_attn_finite
public import proofs.«01_k».proof.Proof.Gen.Pre_pool_finite
public import proofs.«01_k».proof.Proof.Gen.Pre_fwd_finite
public import proofs.«01_k».proof.Proof.Gen.Pre_win_finite
public import proofs.«01_k».proof.Proof.Real
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem merge_ref : Cert.quiescent_MergeRefIdeal (hMergeRefIdeal := Cert.MergeRefIdeal.Gen.facts) := fun m ρ _ =>
  (θ_run Cert.MergeRefIdeal.defs _ _).mono (fun r h => ⟨fun c => (h c).2.2, sem_eq_zero_of_no_sems (by decide) r.2⟩)
    (Cert.MergeRefIdeal.Value.run (F := Ideal) m ρ)

theorem act_ref : Cert.quiescent_ActRefIdeal (hActRefIdeal := Cert.ActRefIdeal.Gen.facts) := fun m ρ _ =>
  (θ_run Cert.ActRefIdeal.defs _ _).mono (fun r h => ⟨fun c => (h c).2, sem_eq_zero_of_no_sems (by decide) r.2⟩)
    (Cert.ActRefIdeal.Value.run (F := Ideal) m ρ)

theorem mix_ref : Cert.quiescent_MixRefIdeal (hMixRefIdeal := Cert.MixRefIdeal.Gen.facts) := fun m ρ _ =>
  (θ_run Cert.MixRefIdeal.defs _ _).mono (fun r h => ⟨fun c => (h c).2.2.2, sem_eq_zero_of_no_sems (by decide) r.2⟩)
    (Cert.MixRefIdeal.Value.run (F := Ideal) m ρ)

theorem norm1_ref : Cert.quiescent_Norm1RefIdeal (hNorm1RefIdeal := Cert.Norm1RefIdeal.Gen.facts) := fun m ρ _ =>
  (θ_run Cert.Norm1RefIdeal.defs _ _).mono (fun r h => ⟨fun c => (h c).2.2, sem_eq_zero_of_no_sems (by decide) r.2⟩)
    (Cert.Norm1RefIdeal.Value.run (F := Ideal) m ρ)

theorem norm_ref : Cert.quiescent_NormRefIdeal (hNormRefIdeal := Cert.NormRefIdeal.Gen.facts) := fun m ρ _ =>
  (θ_run Cert.NormRefIdeal.defs _ _).mono (fun r h => ⟨fun c => (h c).2.2.2, sem_eq_zero_of_no_sems (by decide) r.2⟩)
    (Cert.NormRefIdeal.Value.run (F := Ideal) m ρ)

theorem loss_ref : Cert.quiescent_LossRefIdeal (hLossRefIdeal := Cert.LossRefIdeal.Gen.facts) := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

theorem attn_ref : Cert.quiescent_AttnRefIdeal (hAttnRefIdeal := Cert.AttnRefIdeal.Gen.facts) := fun m ρ _ =>
  (θ_run Cert.AttnRefIdeal.defs _ _).mono (fun r h => ⟨fun c => (h c).2.2.2.2.2.2.2, sem_eq_zero_of_no_sems (by decide) r.2⟩)
    (Cert.AttnRefIdeal.Value.run (F := Ideal) m ρ)

theorem pool_ref : Cert.quiescent_PoolRefIdeal (hPoolRefIdeal := Cert.PoolRefIdeal.Gen.facts) := fun m ρ _ =>
  (θ_run Cert.PoolRefIdeal.defs _ _).mono (fun r h => ⟨fun c => (h c).2, sem_eq_zero_of_no_sems (by decide) r.2⟩)
    (Cert.PoolRefIdeal.Value.run (F := Ideal) m ρ)

theorem fwd_ref : Cert.quiescent_FwdRefIdeal (hFwdRefIdeal := Cert.FwdRefIdeal.Gen.facts) := fun m ρ _ =>
  (θ_run Cert.FwdRefIdeal.defs _ _).mono (fun r h => ⟨fun c => (h c).2, sem_eq_zero_of_no_sems (by decide) r.2⟩)
    (Cert.FwdRefIdeal.Value.run (F := Ideal) m ρ)

theorem rmsf_ref : Cert.quiescent_RmsfRefIdeal (hRmsfRefIdeal := Cert.RmsfRefIdeal.Gen.facts) := fun m ρ _ =>
  (θ_run Cert.RmsfRefIdeal.defs _ _).mono (fun r h => ⟨fun c => (h c).2, sem_eq_zero_of_no_sems (by decide) r.2⟩)
    (Cert.RmsfRefIdeal.Value.run (F := Ideal) m ρ)

theorem up_ref : Cert.quiescent_UpRefIdeal (hUpRefIdeal := Cert.UpRefIdeal.Gen.facts) := fun m ρ _ =>
  (θ_run Cert.UpRefIdeal.defs _ _).mono (fun r h => ⟨fun c => (h c).2.2, sem_eq_zero_of_no_sems (by decide) r.2⟩)
    (Cert.UpRefIdeal.Value.run (F := Ideal) m ρ)

theorem gate_ref : Cert.quiescent_GateRefIdeal (hGateRefIdeal := Cert.GateRefIdeal.Gen.facts) := fun m ρ _ =>
  (θ_run Cert.GateRefIdeal.defs _ _).mono (fun r h => ⟨fun c => (h c).2.2, sem_eq_zero_of_no_sems (by decide) r.2⟩)
    (Cert.GateRefIdeal.Value.run (F := Ideal) m ρ)

theorem pmix_ref : Cert.quiescent_PmixRefIdeal (hPmixRefIdeal := Cert.PmixRefIdeal.Gen.facts) := fun m ρ _ =>
  (θ_run Cert.PmixRefIdeal.defs _ _).mono (fun r h => ⟨fun c => (h c).2, sem_eq_zero_of_no_sems (by decide) r.2⟩)
    (Cert.PmixRefIdeal.Value.run (F := Ideal) m ρ)

theorem res_ref : Cert.quiescent_ResRefIdeal (hResRefIdeal := Cert.ResRefIdeal.Gen.facts) := fun m ρ _ =>
  (θ_run Cert.ResRefIdeal.defs _ _).mono (fun r h => ⟨fun c => (h c).2.2, sem_eq_zero_of_no_sems (by decide) r.2⟩)
    (Cert.ResRefIdeal.Value.run (F := Ideal) m ρ)

theorem win_ref : Cert.quiescent_WinRefIdeal (hWinRefIdeal := Cert.WinRefIdeal.Gen.facts) := fun m ρ _ =>
  (θ_run Cert.WinRefIdeal.defs _ _).mono (fun r h => ⟨fun c => (h c).2, sem_eq_zero_of_no_sems (by decide) r.2⟩)
    (Cert.WinRefIdeal.Value.run (F := Ideal) m ρ)

theorem mod_ref : Cert.quiescent_ModRefIdeal (hModRefIdeal := Cert.ModRefIdeal.Gen.facts) := fun m ρ _ =>
  (θ_run Cert.ModRefIdeal.defs _ _).mono (fun r h => ⟨fun c => (h c).2, sem_eq_zero_of_no_sems (by decide) r.2⟩)
    (Cert.ModRefIdeal.Value.run (F := Ideal) m ρ)

theorem zin_ref : Cert.quiescent_ZinRefIdeal (hZinRefIdeal := Cert.ZinRefIdeal.Gen.facts) := fun m ρ _ =>
  (θ_run Cert.ZinRefIdeal.defs _ _).mono (fun r h => ⟨fun c => (h c).2, sem_eq_zero_of_no_sems (by decide) r.2⟩)
    (Cert.ZinRefIdeal.Value.run (F := Ideal) m ρ)

theorem dh_ref : Cert.quiescent_DhRefIdeal (hDhRefIdeal := Cert.DhRefIdeal.Gen.facts) := fun m ρ _ =>
  (θ_run Cert.DhRefIdeal.defs _ _).mono (fun r h => ⟨fun c => (h c).2, sem_eq_zero_of_no_sems (by decide) r.2⟩)
    (Cert.DhRefIdeal.Value.run (F := Ideal) m ρ)

theorem upt_ref : Cert.quiescent_UptRefIdeal (hUptRefIdeal := Cert.UptRefIdeal.Gen.facts) := fun m ρ _ =>
  (θ_run Cert.UptRefIdeal.defs _ _).mono (fun r h => ⟨fun c => (h c).2, sem_eq_zero_of_no_sems (by decide) r.2⟩)
    (Cert.UptRefIdeal.Value.run (F := Ideal) m ρ)

theorem dwgu_ref : Cert.quiescent_DwguRefIdeal (hDwguRefIdeal := Cert.DwguRefIdeal.Gen.facts) := fun m ρ _ =>
  (θ_run Cert.DwguRefIdeal.defs _ _).mono (fun r h => ⟨fun c => (h c).2, sem_eq_zero_of_no_sems (by decide) r.2⟩)
    (Cert.DwguRefIdeal.Value.run (F := Ideal) m ρ)

theorem tn_ref : Cert.quiescent_TnRefIdeal (hTnRefIdeal := Cert.TnRefIdeal.Gen.facts) := fun m ρ _ =>
  (θ_run Cert.TnRefIdeal.defs _ _).mono (fun r h => ⟨fun c => (h c).2, sem_eq_zero_of_no_sems (by decide) r.2⟩)
    (Cert.TnRefIdeal.Value.run (F := Ideal) m ρ)

theorem updw_ref : Cert.quiescent_UpdwRefIdeal (hUpdwRefIdeal := Cert.UpdwRefIdeal.Gen.facts) := fun m ρ _ =>
  (θ_run Cert.UpdwRefIdeal.defs _ _).mono (fun r h => ⟨fun c => (h c).2, sem_eq_zero_of_no_sems (by decide) r.2⟩)
    (Cert.UpdwRefIdeal.Value.run (F := Ideal) m ρ)

theorem adam_ref : Cert.quiescent_AdamRefIdeal (hAdamRefIdeal := Cert.AdamRefIdeal.Gen.facts) := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

theorem wada_ref : Cert.quiescent_WadaRefIdeal (hWadaRefIdeal := Cert.WadaRefIdeal.Gen.facts) := fun m ρ _ =>
  (θ_run Cert.WadaRefIdeal.defs _ _).mono (fun r h => ⟨fun c => (h c).2.2.2.2, sem_eq_zero_of_no_sems (by decide) r.2⟩)
    (Cert.WadaRefIdeal.Value.run (F := Ideal) m ρ)

/-- The gated merge's gradients, with the product that feeds them. -/
theorem merge_algebraic : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
  · run_from Cert.MergeRefIdeal.Value.run m' g'
    · refine Eq.trans ?_ (Cert.MergeIdeal.Grad.final5 m c).symm
      rw [← (hagree c).2.2.2.1, ← (hagree c).2.2.2.2]
      rfl
    · refine Eq.trans ?_ (Cert.MergeIdeal.Grad.final6 m c).symm
      rw [← (hagree c).2.2.2.1, ← (hagree c).2.2.2.2]
      rfl

/-- The gated FFN's activation gradient, with the product that feeds it. -/
theorem act_algebraic : Cert.algebraic_ActIdeal_ActRefIdeal_pre_act_finite (hActIdeal := Cert.ActIdeal.Gen.facts) (hActRefIdeal := Cert.ActRefIdeal.Gen.facts) (hPre_act_finite := Cert.Pre_act_finite.Gen.facts) := by
  pair_intro
  · run_from Cert.ActIdeal.Gen.run_main m g
  · have hf := fun c => Cert.ActIdeal.Grad.finite m hpre c
    run_from Cert.ActRefIdeal.Value.run m' g'
    · refine Eq.trans ?_ (Cert.ActIdeal.Grad.final m c (hf c).1 (hf c).2.1 (hf c).2.2).symm
      rw [← (hagree c).1, ← (hagree c).2.1, ← (hagree c).2.2]
      rfl

/-- The gradients of the pool's group map and scale. -/
theorem mix_algebraic : Cert.algebraic_MixIdeal_MixRefIdeal (hMixIdeal := Cert.MixIdeal.Gen.facts) (hMixRefIdeal := Cert.MixRefIdeal.Gen.facts) := by
  pair_intro
  · run_from Cert.MixIdeal.Gen.run_main m g
  · run_from Cert.MixRefIdeal.Value.run m' g'
    · refine Eq.trans ?_ (Cert.MixIdeal.Grad.final4 m c).symm
      rw [← (hagree c).2.1, ← (hagree c).2.2.1, ← (hagree c).2.2.2]
      rfl
    · refine Eq.trans ?_ (Cert.MixIdeal.Grad.final5 m c).symm
      rw [← (hagree c).1, ← (hagree c).2.2.1, ← (hagree c).2.2.2]
      rfl
    · refine Eq.trans ?_ (Cert.MixIdeal.Grad.final6 m c).symm
      rw [← (hagree c).1, ← (hagree c).2.1, ← (hagree c).2.2.2]
      rfl

/-- The gradients of the first norm and modulation. -/
theorem norm1_algebraic : Cert.algebraic_Norm1Ideal_Norm1RefIdeal_pre_norm1_finite (hNorm1Ideal := Cert.Norm1Ideal.Gen.facts) (hNorm1RefIdeal := Cert.Norm1RefIdeal.Gen.facts) (hPre_norm1_finite := Cert.Pre_norm1_finite.Gen.facts) := by
  pair_intro
  · run_from Cert.Norm1Ideal.Gen.run_main m g
  · have hf := fun c => Cert.Norm1Ideal.Grad.finite m hpre c
    run_from Cert.Norm1RefIdeal.Value.run m' g'
    · refine Eq.trans ?_ (Cert.Norm1Ideal.Grad.final5 m c (hf c).1 (hf c).2.1 (hf c).2.2.1 (hf c).2.2.2).symm
      dsimp only [Cert.Norm1Ideal.Grad.ax, Cert.Norm1Ideal.Grad.ag, Cert.Norm1Ideal.Grad.asc, Cert.Norm1Ideal.Grad.adr, Cert.Norm1Ideal.Grad.adh]
      rw [← (hagree c).1, ← (hagree c).2.1, ← (hagree c).2.2.2.1, ← (hagree c).2.2.2.2.1, ← (hagree c).2.2.2.2.2]
      rfl
    · refine Eq.trans ?_ (Cert.Norm1Ideal.Grad.final6 m c).symm
      dsimp only [Cert.Norm1Ideal.Grad.ax, Cert.Norm1Ideal.Grad.ag, Cert.Norm1Ideal.Grad.asc, Cert.Norm1Ideal.Grad.adr, Cert.Norm1Ideal.Grad.adh]
      rw [← (hagree c).1, ← (hagree c).2.1, ← (hagree c).2.2.2.1, ← (hagree c).2.2.2.2.2]
      rfl

/-- The gradients of the gated residual, norm and modulation. -/
theorem norm_algebraic : Cert.algebraic_NormIdeal_NormRefIdeal_pre_norm_finite (hNormIdeal := Cert.NormIdeal.Gen.facts) (hNormRefIdeal := Cert.NormRefIdeal.Gen.facts) (hPre_norm_finite := Cert.Pre_norm_finite.Gen.facts) := by
  pair_intro
  · run_from Cert.NormIdeal.Gen.run_main m g
  · have hf := fun c => Cert.NormIdeal.Grad.finite m hpre c
    run_from Cert.NormRefIdeal.Value.run m' g'
    · refine Eq.trans ?_ (Cert.NormIdeal.Grad.final7 m c (hf c)).symm
      dsimp only [Cert.NormIdeal.Grad.ax, Cert.NormIdeal.Grad.afo, Cert.NormIdeal.Grad.aco, Cert.NormIdeal.Grad.ag, Cert.NormIdeal.Grad.asc, Cert.NormIdeal.Grad.adr, Cert.NormIdeal.Grad.adh]
      rw [← (hagree c).1, ← (hagree c).2.1, ← (hagree c).2.2.1, ← (hagree c).2.2.2.1, ← (hagree c).2.2.2.2.2.1, ← (hagree c).2.2.2.2.2.2.1, ← (hagree c).2.2.2.2.2.2.2]
      rfl
    · refine Eq.trans ?_ (Cert.NormIdeal.Grad.final8 m c (hf c)).symm
      dsimp only [Cert.NormIdeal.Grad.ax, Cert.NormIdeal.Grad.afo, Cert.NormIdeal.Grad.aco, Cert.NormIdeal.Grad.ag, Cert.NormIdeal.Grad.asc, Cert.NormIdeal.Grad.adr, Cert.NormIdeal.Grad.adh]
      rw [← (hagree c).1, ← (hagree c).2.1, ← (hagree c).2.2.1, ← (hagree c).2.2.2.1, ← (hagree c).2.2.2.2.2.1, ← (hagree c).2.2.2.2.2.2.1, ← (hagree c).2.2.2.2.2.2.2]
      rfl
    · refine Eq.trans ?_ (Cert.NormIdeal.Grad.final9 m c (hf c)).symm
      dsimp only [Cert.NormIdeal.Grad.ax, Cert.NormIdeal.Grad.afo, Cert.NormIdeal.Grad.aco, Cert.NormIdeal.Grad.ag, Cert.NormIdeal.Grad.asc, Cert.NormIdeal.Grad.adr, Cert.NormIdeal.Grad.adh]
      rw [← (hagree c).1, ← (hagree c).2.1, ← (hagree c).2.2.1, ← (hagree c).2.2.2.1, ← (hagree c).2.2.2.2.2.1, ← (hagree c).2.2.2.2.2.2.1, ← (hagree c).2.2.2.2.2.2.2]
      rfl

/-- The loss and the gradients of the last gated residual. -/
theorem loss_algebraic : Cert.algebraic_LossIdeal_LossRefIdeal (hLossIdeal := Cert.LossIdeal.Gen.facts) (hLossRefIdeal := Cert.LossRefIdeal.Gen.facts) := by
  pair_intro
  · run_from Cert.LossIdeal.Grad.run m g
  · refine Idealize.ShloMosaic.θ_run_mono (Cert.LossRefIdeal.Value.run m' g') fun r h c => ?_
    obtain ⟨h0, h1, h2, h3, ha⟩ := h c
    have e := hagree c
    dsimp only [Cert.LossIdeal.Grad.ax, Cert.LossIdeal.Grad.af, Cert.LossIdeal.Grad.ag, Cert.LossIdeal.Grad.atg]
    rw [← e.1, ← e.2.1, ← e.2.2.1, ← e.2.2.2]
    exact ⟨h0.trans (Cert.LossRefIdeal.Read.val_main_v19_eq _ _ _ _), h1.trans (Cert.LossRefIdeal.Read.val_main_v27_eq _ _ _ _),
      h2.trans (Cert.LossRefIdeal.Read.val_main_v26_eq _ _ _ _), h3.trans (Cert.LossRefIdeal.Read.val_main_v13_eq _ _ _ _), ha⟩

/-- The gradients of the attention's queries, keys, values, gains, sinks and bias table. -/
theorem attn_algebraic : Cert.algebraic_AttnIdeal_AttnRefIdeal_pre_attn_finite (hAttnIdeal := Cert.AttnIdeal.Gen.facts) (hAttnRefIdeal := Cert.AttnRefIdeal.Gen.facts) (hPre_attn_finite := Cert.Pre_attn_finite.Gen.facts) := by
  pair_intro
  · run_from Cert.AttnRun.run_main m g
  · refine Idealize.ShloMosaic.θ_run_mono (Cert.AttnRefIdeal.Value.run m' g') fun r h c => ?_
    obtain ⟨h0, h1, h2, h3, h4, h5, h6, ha⟩ := h c
    obtain ⟨I, H⟩ := Cert.AttnEnd.real m hpre c
    have e := hagree c
    rw [Cert.AttnEnd.dq _ H, Cert.AttnEnd.dk _ H, Cert.AttnEnd.dv _ H, Cert.AttnEnd.dqg _ H, Cert.AttnEnd.dkg _ H, Cert.AttnEnd.dsk _ H, Cert.AttnEnd.drb _ H]
    dsimp only [Cert.AttnKer.a0, Cert.AttnKer.a1, Cert.AttnKer.a2, Cert.AttnKer.a3, Cert.AttnKer.a4, Cert.AttnKer.a5]
    rw [← e.1, ← e.2.1, ← e.2.2.1, ← e.2.2.2.1, ← e.2.2.2.2.1, ← e.2.2.2.2.2]
    exact ⟨h0.trans (Cert.AttnRefIdeal.Read.val_main_v294_eq _),
      h1.trans (Cert.AttnRefIdeal.Read.val_main_v295_eq _),
      h2.trans (Cert.AttnRefIdeal.Read.val_main_v296_eq _),
      h3.trans (Cert.AttnRefIdeal.Read.val_main_v290_eq _),
      h4.trans (Cert.AttnRefIdeal.Read.val_main_v289_eq _),
      h5.trans (Cert.AttnRefIdeal.Read.val_main_v288_eq _),
      h6.trans (Cert.AttnRefIdeal.Read.val_main_v287_eq _), ha⟩

/-- The causal pool's gradient. -/
theorem pool_algebraic : Cert.algebraic_PoolIdeal_PoolRefIdeal_pre_pool_finite (hPoolIdeal := Cert.PoolIdeal.Gen.facts) (hPoolRefIdeal := Cert.PoolRefIdeal.Gen.facts) (hPre_pool_finite := Cert.Pre_pool_finite.Gen.facts) := by
  pair_intro
  · run_from Cert.PoolIdeal.Gen.run_main m g
  · have hf := fun c => Cert.PoolIdeal.Grad.finite m hpre c
    run_from Cert.PoolRefIdeal.Value.run m' g'
    · refine Eq.trans ?_ (Cert.PoolIdeal.Grad.final2 m c (hf c)).symm
      dsimp only [Cert.PoolIdeal.Grad.ad]
      rw [← (hagree c).2]
      rfl

/-- The forward attention's output. -/
theorem fwd_algebraic : Cert.algebraic_FwdIdeal_FwdRefIdeal_pre_fwd_finite (hFwdIdeal := Cert.FwdIdeal.Gen.facts) (hFwdRefIdeal := Cert.FwdRefIdeal.Gen.facts) (hPre_fwd_finite := Cert.Pre_fwd_finite.Gen.facts) := by
  pair_intro
  · run_from Cert.FwdRun.run_main m g
  · refine Idealize.ShloMosaic.θ_run_mono (Cert.FwdRefIdeal.Value.run m' g') fun r h c => ?_
    obtain ⟨h0, ha⟩ := h c
    obtain ⟨I, H⟩ := Cert.FwdKer.real m c hpre
    have e := hagree c
    rw [Cert.FwdKer.result m g c H]
    dsimp only [Cert.FwdKer.a0, Cert.FwdKer.a1, Cert.FwdKer.a2, Cert.FwdKer.a3, Cert.FwdKer.a4]
    rw [← e.1, ← e.2.1, ← e.2.2.1, ← e.2.2.2.1, ← e.2.2.2.2]
    exact ⟨h0.trans (Cert.FwdRefIdeal.Read.val_main_v159_eq _), ha⟩

/-- The forward norm and modulation. -/
theorem rmsf_algebraic : Cert.algebraic_RmsfIdeal_RmsfRefIdeal (hRmsfIdeal := Cert.RmsfIdeal.Gen.facts) (hRmsfRefIdeal := Cert.RmsfRefIdeal.Gen.facts) := by
  pair_intro
  · run_from Cert.RmsfIdeal.Gen.run_main m g
  · run_from Cert.RmsfRefIdeal.Value.run m' g'
    · refine Eq.trans ?_ (Cert.RmsfIdeal.Grad.final4 m c).symm
      rw [← (hagree c).1, ← (hagree c).2.1, ← (hagree c).2.2.1, ← (hagree c).2.2.2]
      rfl

/-- The forward gate of the FFN, with the product that feeds it. -/
theorem up_algebraic : Cert.algebraic_UpIdeal_UpRefIdeal (hUpIdeal := Cert.UpIdeal.Gen.facts) (hUpRefIdeal := Cert.UpRefIdeal.Gen.facts) := by
  pair_intro
  · run_from Cert.UpIdeal.Gen.run_main m g
  · run_from Cert.UpRefIdeal.Value.run m' g'
    · refine Eq.trans ?_ (Cert.UpIdeal.Grad.final3 m c).symm
      rw [← (hagree c).1, ← (hagree c).2]
      rfl
    · refine Eq.trans ?_ (Cert.UpIdeal.Grad.final4 m c).symm
      rw [← (hagree c).1, ← (hagree c).2]
      rfl

/-- The forward merge of the two mixers, with the products that feed it. -/
theorem gate_algebraic : Cert.algebraic_GateIdeal_GateRefIdeal (hGateIdeal := Cert.GateIdeal.Gen.facts) (hGateRefIdeal := Cert.GateRefIdeal.Gen.facts) := by
  pair_intro
  · run_from Cert.GateIdeal.Gen.run_main m g
  · run_from Cert.GateRefIdeal.Value.run m' g'
    · refine Eq.trans ?_ (Cert.GateIdeal.Grad.final6 m c).symm
      rw [← (hagree c).1, ← (hagree c).2.1, ← (hagree c).2.2.1, ← (hagree c).2.2.2.1, ← (hagree c).2.2.2.2]
      rfl
    · refine Eq.trans ?_ (Cert.GateIdeal.Grad.final7 m c).symm
      rw [← (hagree c).1, ← (hagree c).2.1, ← (hagree c).2.2.1, ← (hagree c).2.2.2.1]
      rfl

/-- The forward of the pool's group map and scale. -/
theorem pmix_algebraic : Cert.algebraic_PmixIdeal_PmixRefIdeal (hPmixIdeal := Cert.PmixIdeal.Gen.facts) (hPmixRefIdeal := Cert.PmixRefIdeal.Gen.facts) := by
  pair_intro
  · run_from Cert.PmixIdeal.Gen.run_main m g
  · run_from Cert.PmixRefIdeal.Value.run m' g'
    · refine Eq.trans ?_ (Cert.PmixIdeal.Grad.final3 m c).symm
      rw [← (hagree c).1, ← (hagree c).2.1, ← (hagree c).2.2]
      rfl

/-- The forward gated residual, with the product that feeds it. -/
theorem res_algebraic : Cert.algebraic_ResIdeal_ResRefIdeal (hResIdeal := Cert.ResIdeal.Gen.facts) (hResRefIdeal := Cert.ResRefIdeal.Gen.facts) := by
  pair_intro
  · run_from Cert.ResIdeal.Gen.run_main m g
  · run_from Cert.ResRefIdeal.Value.run m' g'
    · refine Eq.trans ?_ (Cert.ResIdeal.Grad.final4 m c).symm
      rw [← (hagree c).1, ← (hagree c).2.1, ← (hagree c).2.2.1, ← (hagree c).2.2.2]
      rfl
    · refine Eq.trans ?_ (Cert.ResIdeal.Grad.final5 m c).symm
      rw [← (hagree c).1, ← (hagree c).2.1]
      rfl

/-- The forward of the pool's causal window means. -/
theorem win_algebraic : Cert.algebraic_WinIdeal_WinRefIdeal_pre_win_finite (hWinIdeal := Cert.WinIdeal.Gen.facts) (hWinRefIdeal := Cert.WinRefIdeal.Gen.facts) (hPre_win_finite := Cert.Pre_win_finite.Gen.facts) := by
  pair_intro
  · run_from Cert.WinIdeal.Gen.run_main m g
  · have hf := fun c => Cert.WinIdeal.Grad.finite m hpre c
    run_from Cert.WinRefIdeal.Value.run m' g'
    · refine Eq.trans ?_ (Cert.WinIdeal.Grad.final2 m c (hf c)).symm
      dsimp only [Cert.WinIdeal.Grad.az]
      rw [← (hagree c)]
      rfl

/-- The forward modulation. -/
theorem mod_algebraic : Cert.algebraic_ModIdeal_ModRefIdeal (hModIdeal := Cert.ModIdeal.Gen.facts) (hModRefIdeal := Cert.ModRefIdeal.Gen.facts) := by
  pair_intro
  · run_from Cert.ModIdeal.Gen.run_main m g
  · run_from Cert.ModRefIdeal.Value.run m' g'
    · refine Eq.trans ?_ (Cert.ModIdeal.Grad.final3 m c).symm
      rw [← (hagree c).1, ← (hagree c).2.1, ← (hagree c).2.2]
      rfl

/-- The product into the mixers. -/
theorem zin_algebraic : Cert.algebraic_ZinIdeal_ZinRefIdeal (hZinIdeal := Cert.ZinIdeal.Gen.facts) (hZinRefIdeal := Cert.ZinRefIdeal.Gen.facts) := by
  pair_intro
  · run_from Cert.ZinIdeal.Gen.run_main m g
  · run_from Cert.ZinRefIdeal.Value.run m' g'
    · refine Eq.trans ?_ (Cert.ZinIdeal.Grad.final2 m c).symm
      rw [← (hagree c).1, ← (hagree c).2]
      rfl

/-- The gradient of the FFN's rows. -/
theorem dh_algebraic : Cert.algebraic_DhIdeal_DhRefIdeal (hDhIdeal := Cert.DhIdeal.Gen.facts) (hDhRefIdeal := Cert.DhRefIdeal.Gen.facts) := by
  pair_intro
  · run_from Cert.DhIdeal.Gen.run_main m g
  · run_from Cert.DhRefIdeal.Value.run m' g'
    · refine Eq.trans ?_ (Cert.DhIdeal.Grad.final2 m c).symm
      rw [← (hagree c).1, ← (hagree c).2]
      rfl

/-- The gradient of a mixer's rows. -/
theorem upt_algebraic : Cert.algebraic_UptIdeal_UptRefIdeal (hUptIdeal := Cert.UptIdeal.Gen.facts) (hUptRefIdeal := Cert.UptRefIdeal.Gen.facts) := by
  pair_intro
  · run_from Cert.UptIdeal.Gen.run_main m g
  · run_from Cert.UptRefIdeal.Value.run m' g'
    · refine Eq.trans ?_ (Cert.UptIdeal.Grad.final2 m c).symm
      rw [← (hagree c).1, ← (hagree c).2]
      rfl

/-- The gradient of the gate and up weight. -/
theorem dwgu_algebraic : Cert.algebraic_DwguIdeal_DwguRefIdeal (hDwguIdeal := Cert.DwguIdeal.Gen.facts) (hDwguRefIdeal := Cert.DwguRefIdeal.Gen.facts) := by
  pair_intro
  · run_from Cert.DwguIdeal.Gen.run_main m g
  · run_from Cert.DwguRefIdeal.Value.run m' g'
    · refine Eq.trans ?_ (Cert.DwguIdeal.Grad.final2 m c).symm
      rw [← (hagree c).1, ← (hagree c).2]
      rfl

/-- The gradient of the weight into the mixers. -/
theorem tn_algebraic : Cert.algebraic_TnIdeal_TnRefIdeal (hTnIdeal := Cert.TnIdeal.Gen.facts) (hTnRefIdeal := Cert.TnRefIdeal.Gen.facts) := by
  pair_intro
  · run_from Cert.TnIdeal.Gen.run_main m g
  · run_from Cert.TnRefIdeal.Value.run m' g'
    · refine Eq.trans ?_ (Cert.TnIdeal.Grad.final2 m c).symm
      rw [← (hagree c).1, ← (hagree c).2]
      rfl

/-- The gradient of a mixer's output weight. -/
theorem updw_algebraic : Cert.algebraic_UpdwIdeal_UpdwRefIdeal (hUpdwIdeal := Cert.UpdwIdeal.Gen.facts) (hUpdwRefIdeal := Cert.UpdwRefIdeal.Gen.facts) := by
  pair_intro
  · run_from Cert.UpdwIdeal.Gen.run_main m g
  · run_from Cert.UpdwRefIdeal.Value.run m' g'
    · refine Eq.trans ?_ (Cert.UpdwIdeal.Grad.final2 m c).symm
      rw [← (hagree c).1, ← (hagree c).2]
      rfl

/-- The optimiser's step. -/
theorem adam_algebraic : Cert.algebraic_AdamIdeal_AdamRefIdeal (hAdamIdeal := Cert.AdamIdeal.Gen.facts) (hAdamRefIdeal := Cert.AdamRefIdeal.Gen.facts) := by
  pair_intro
  · run_from Cert.AdamIdeal.Gen.run_main m g
  · run_from Cert.AdamRefIdeal.Value.run m' g'
    · refine Eq.trans ?_ (Cert.AdamIdeal.Grad.final4 m c).symm
      rw [← (hagree c).1, ← (hagree c).2.1, ← (hagree c).2.2.1, ← (hagree c).2.2.2]
      rfl
    · refine Eq.trans ?_ (Cert.AdamIdeal.Grad.final5 m c).symm
      rw [← (hagree c).2.1, ← (hagree c).2.2.1]
      rfl
    · refine Eq.trans ?_ (Cert.AdamIdeal.Grad.final6 m c).symm
      rw [← (hagree c).2.1, ← (hagree c).2.2.2]
      rfl

/-- The gradient and step of the modulation's weight. -/
theorem wada_algebraic : Cert.algebraic_WadaIdeal_WadaRefIdeal (hWadaIdeal := Cert.WadaIdeal.Gen.facts) (hWadaRefIdeal := Cert.WadaRefIdeal.Gen.facts) := by
  pair_intro
  · run_from Cert.WadaIdeal.Gen.run_main m g
  · run_from Cert.WadaRefIdeal.Value.run m' g'
    · refine Eq.trans ?_ (Cert.WadaIdeal.Grad.final5 m c).symm
      rw [← (hagree c).1, ← (hagree c).2.1]
      rfl
    · refine Eq.trans ?_ (Cert.WadaIdeal.Grad.final6 m c).symm
      rw [← (hagree c).1, ← (hagree c).2.1, ← (hagree c).2.2.1, ← (hagree c).2.2.2.1, ← (hagree c).2.2.2.2]
      rfl
    · refine Eq.trans ?_ (Cert.WadaIdeal.Grad.final7 m c).symm
      rw [← (hagree c).1, ← (hagree c).2.1, ← (hagree c).2.2.2.1]
      rfl
    · refine Eq.trans ?_ (Cert.WadaIdeal.Grad.final8 m c).symm
      rw [← (hagree c).1, ← (hagree c).2.1, ← (hagree c).2.2.2.2]
      rfl

theorem claim : Cert.Claim := ⟨Cert.Merge.Gen.facts, Cert.MergeIdeal.Gen.facts, Cert.MergeRefIdeal.Gen.facts, Cert.Act.Gen.facts, Cert.ActIdeal.Gen.facts, Cert.ActRefIdeal.Gen.facts, Cert.Mix.Gen.facts, Cert.MixIdeal.Gen.facts, Cert.MixRefIdeal.Gen.facts, Cert.Norm1.Gen.facts, Cert.Norm1Ideal.Gen.facts, Cert.Norm1RefIdeal.Gen.facts, Cert.Norm.Gen.facts, Cert.NormIdeal.Gen.facts, Cert.NormRefIdeal.Gen.facts, Cert.Loss.Gen.facts, Cert.LossIdeal.Gen.facts, Cert.LossRefIdeal.Gen.facts, Cert.Attn.Gen.facts, Cert.AttnIdeal.Gen.facts, Cert.AttnRefIdeal.Gen.facts, Cert.Pool.Gen.facts, Cert.PoolIdeal.Gen.facts, Cert.PoolRefIdeal.Gen.facts, Cert.Fwd.Gen.facts, Cert.FwdIdeal.Gen.facts, Cert.FwdRefIdeal.Gen.facts, Cert.Rmsf.Gen.facts, Cert.RmsfIdeal.Gen.facts, Cert.RmsfRefIdeal.Gen.facts, Cert.Up.Gen.facts, Cert.UpIdeal.Gen.facts, Cert.UpRefIdeal.Gen.facts, Cert.Gate.Gen.facts, Cert.GateIdeal.Gen.facts, Cert.GateRefIdeal.Gen.facts, Cert.Pmix.Gen.facts, Cert.PmixIdeal.Gen.facts, Cert.PmixRefIdeal.Gen.facts, Cert.Res.Gen.facts, Cert.ResIdeal.Gen.facts, Cert.ResRefIdeal.Gen.facts, Cert.Win.Gen.facts, Cert.WinIdeal.Gen.facts, Cert.WinRefIdeal.Gen.facts, Cert.Mod.Gen.facts, Cert.ModIdeal.Gen.facts, Cert.ModRefIdeal.Gen.facts, Cert.Zin.Gen.facts, Cert.ZinIdeal.Gen.facts, Cert.ZinRefIdeal.Gen.facts, Cert.Dh.Gen.facts, Cert.DhIdeal.Gen.facts, Cert.DhRefIdeal.Gen.facts, Cert.Upt.Gen.facts, Cert.UptIdeal.Gen.facts, Cert.UptRefIdeal.Gen.facts, Cert.Dwgu.Gen.facts, Cert.DwguIdeal.Gen.facts, Cert.DwguRefIdeal.Gen.facts, Cert.Tn.Gen.facts, Cert.TnIdeal.Gen.facts, Cert.TnRefIdeal.Gen.facts, Cert.Updw.Gen.facts, Cert.UpdwIdeal.Gen.facts, Cert.UpdwRefIdeal.Gen.facts, Cert.Adam.Gen.facts, Cert.AdamIdeal.Gen.facts, Cert.AdamRefIdeal.Gen.facts, Cert.Wada.Gen.facts, Cert.WadaIdeal.Gen.facts, Cert.WadaRefIdeal.Gen.facts, Cert.Pre_act_finite.Gen.facts, Cert.Pre_norm1_finite.Gen.facts, Cert.Pre_norm_finite.Gen.facts, Cert.Pre_attn_finite.Gen.facts, Cert.Pre_pool_finite.Gen.facts, Cert.Pre_fwd_finite.Gen.facts, Cert.Pre_win_finite.Gen.facts,
  fun m ρ _ => Cert.Merge.Gen.frame m ρ,
  fun m ρ _ => Cert.MergeIdeal.Gen.frame m ρ,
  merge_ref,
  fun m ρ _ => Cert.Act.Gen.frame m ρ,
  fun m ρ _ => Cert.ActIdeal.Gen.frame m ρ,
  fun m ρ _ => Cert.ActIdeal.Gen.frame m ρ,
  act_ref,
  fun m ρ _ => act_ref m ρ trivial,
  fun m ρ _ => Cert.Mix.Gen.frame m ρ,
  fun m ρ _ => Cert.MixIdeal.Gen.frame m ρ,
  mix_ref,
  fun m ρ _ => Cert.Norm1.Gen.frame m ρ,
  fun m ρ _ => Cert.Norm1Ideal.Gen.frame m ρ,
  fun m ρ _ => Cert.Norm1Ideal.Gen.frame m ρ,
  norm1_ref,
  fun m ρ _ => norm1_ref m ρ trivial,
  fun m ρ _ => Cert.Norm.Gen.frame m ρ,
  fun m ρ _ => Cert.NormIdeal.Gen.frame m ρ,
  fun m ρ _ => Cert.NormIdeal.Gen.frame m ρ,
  norm_ref,
  fun m ρ _ => norm_ref m ρ trivial,
  fun m ρ _ => Cert.Loss.Gen.frame m ρ,
  fun m ρ _ => Cert.LossIdeal.Gen.frame m ρ,
  loss_ref,
  fun m ρ _ => Cert.Attn.Gen.frame m ρ,
  fun m ρ _ => Cert.AttnIdeal.Gen.frame m ρ,
  fun m ρ _ => Cert.AttnIdeal.Gen.frame m ρ,
  attn_ref,
  fun m ρ _ => attn_ref m ρ trivial,
  fun m ρ _ => Cert.Pool.Gen.frame m ρ,
  fun m ρ _ => Cert.PoolIdeal.Gen.frame m ρ,
  fun m ρ _ => Cert.PoolIdeal.Gen.frame m ρ,
  pool_ref,
  fun m ρ _ => pool_ref m ρ trivial,
  fun m ρ _ => Cert.Fwd.Gen.frame m ρ,
  fun m ρ _ => Cert.FwdIdeal.Gen.frame m ρ,
  fun m ρ _ => Cert.FwdIdeal.Gen.frame m ρ,
  fwd_ref,
  fun m ρ _ => fwd_ref m ρ trivial,
  fun m ρ _ => Cert.Rmsf.Gen.frame m ρ,
  fun m ρ _ => Cert.RmsfIdeal.Gen.frame m ρ,
  rmsf_ref,
  fun m ρ _ => Cert.Up.Gen.frame m ρ,
  fun m ρ _ => Cert.UpIdeal.Gen.frame m ρ,
  up_ref,
  fun m ρ _ => Cert.Gate.Gen.frame m ρ,
  fun m ρ _ => Cert.GateIdeal.Gen.frame m ρ,
  gate_ref,
  fun m ρ _ => Cert.Pmix.Gen.frame m ρ,
  fun m ρ _ => Cert.PmixIdeal.Gen.frame m ρ,
  pmix_ref,
  fun m ρ _ => Cert.Res.Gen.frame m ρ,
  fun m ρ _ => Cert.ResIdeal.Gen.frame m ρ,
  res_ref,
  fun m ρ _ => Cert.Win.Gen.frame m ρ,
  fun m ρ _ => Cert.WinIdeal.Gen.frame m ρ,
  fun m ρ _ => Cert.WinIdeal.Gen.frame m ρ,
  win_ref,
  fun m ρ _ => win_ref m ρ trivial,
  fun m ρ _ => Cert.Mod.Gen.frame m ρ,
  fun m ρ _ => Cert.ModIdeal.Gen.frame m ρ,
  mod_ref,
  fun m ρ _ => Cert.Zin.Gen.frame m ρ,
  fun m ρ _ => Cert.ZinIdeal.Gen.frame m ρ,
  zin_ref,
  fun m ρ _ => Cert.Dh.Gen.frame m ρ,
  fun m ρ _ => Cert.DhIdeal.Gen.frame m ρ,
  dh_ref,
  fun m ρ _ => Cert.Upt.Gen.frame m ρ,
  fun m ρ _ => Cert.UptIdeal.Gen.frame m ρ,
  upt_ref,
  fun m ρ _ => Cert.Dwgu.Gen.frame m ρ,
  fun m ρ _ => Cert.DwguIdeal.Gen.frame m ρ,
  dwgu_ref,
  fun m ρ _ => Cert.Tn.Gen.frame m ρ,
  fun m ρ _ => Cert.TnIdeal.Gen.frame m ρ,
  tn_ref,
  fun m ρ _ => Cert.Updw.Gen.frame m ρ,
  fun m ρ _ => Cert.UpdwIdeal.Gen.frame m ρ,
  updw_ref,
  fun m ρ _ => Cert.Adam.Gen.frame m ρ,
  fun m ρ _ => Cert.AdamIdeal.Gen.frame m ρ,
  adam_ref,
  fun m ρ _ => Cert.Wada.Gen.frame m ρ,
  fun m ρ _ => Cert.WadaIdeal.Gen.frame m ρ,
  wada_ref,
  trivial,
  merge_algebraic,
  trivial,
  act_algebraic,
  trivial,
  mix_algebraic,
  trivial,
  norm1_algebraic,
  trivial,
  norm_algebraic,
  trivial,
  loss_algebraic,
  Idealize.ShloMosaic.IdealRules.named_const.statement Cert.AttnIdeal.κ "mask" .f32 0xF149F2CA#32 ⊥ rfl,
  attn_algebraic,
  trivial,
  pool_algebraic,
  Idealize.ShloMosaic.IdealRules.named_const.statement Cert.FwdIdeal.κ "mask" .f32 0xF149F2CA#32 ⊥ rfl,
  fwd_algebraic,
  trivial,
  rmsf_algebraic,
  trivial,
  up_algebraic,
  trivial,
  gate_algebraic,
  trivial,
  pmix_algebraic,
  trivial,
  res_algebraic,
  trivial,
  win_algebraic,
  trivial,
  mod_algebraic,
  trivial,
  zin_algebraic,
  trivial,
  dh_algebraic,
  trivial,
  upt_algebraic,
  trivial,
  dwgu_algebraic,
  trivial,
  tn_algebraic,
  trivial,
  updw_algebraic,
  trivial,
  adam_algebraic,
  trivial,
  wada_algebraic⟩

end Cert.Proof

end
